-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GateGrad (m : (ℓ : Loc Cert.GateGrad.nD Cert.GateGrad.τ Cert.GateGrad.sig) → Buf (Elt Bits) ℓ) : Prop :=
  True

def Pre_GateGradIdeal (m : (ℓ : Loc Cert.GateGradIdeal.nD Cert.GateGradIdeal.τ Cert.GateGradIdeal.sig) → Buf (Elt Ideal) ℓ) : Prop :=
  True

def Pre_GateGradRefIdeal (m : (ℓ : Loc Cert.GateGradRefIdeal.nD Cert.GateGradRefIdeal.τ Cert.GateGradRefIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradRefIdeal (m : (ℓ : Loc Cert.DownGradRefIdeal.nD Cert.DownGradRefIdeal.τ Cert.DownGradRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_ProjW (m : (ℓ : Loc Cert.ProjW.nD Cert.ProjW.τ Cert.ProjW.sig) → Buf (Elt Bits) ℓ) : Prop :=
  True

def Pre_ProjWIdeal (m : (ℓ : Loc Cert.ProjWIdeal.nD Cert.ProjWIdeal.τ Cert.ProjWIdeal.sig) → Buf (Elt Ideal) ℓ) : Prop :=
  True

def Pre_ProjWRefIdeal (m : (ℓ : Loc Cert.ProjWRefIdeal.nD Cert.ProjWRefIdeal.τ Cert.ProjWRefIdeal.sig) → Buf (Elt Ideal) ℓ) : Prop :=
  True

def Pre_ProjX (m : (ℓ : Loc Cert.ProjX.nD Cert.ProjX.τ Cert.ProjX.sig) → Buf (Elt Bits) ℓ) : Prop :=
  True

def Pre_ProjXIdeal (m : (ℓ : Loc Cert.ProjXIdeal.nD Cert.ProjXIdeal.τ Cert.ProjXIdeal.sig) → Buf (Elt Ideal) ℓ) : Prop :=
  True

def Pre_ProjXRefIdeal (m : (ℓ : Loc Cert.ProjXRefIdeal.nD Cert.ProjXRefIdeal.τ Cert.ProjXRefIdeal.sig) → Buf (Elt Ideal) ℓ) : Prop :=
  True

def Pre_LnGrad (m : (ℓ : Loc Cert.LnGrad.nD Cert.LnGrad.τ Cert.LnGrad.sig) → Buf (Elt Bits) ℓ) : Prop :=
  True

def Pre_LnGradIdeal (m : (ℓ : Loc Cert.LnGradIdeal.nD Cert.LnGradIdeal.τ Cert.LnGradIdeal.sig) → Buf (Elt Ideal) ℓ) : Prop :=
  True

def Pre_LnGradIdeal_finite_ln [hPre_finite_ln : Cert.Pre_finite_ln.Facts] (m : (ℓ : Loc Cert.LnGradIdeal.nD Cert.LnGradIdeal.τ Cert.LnGradIdeal.sig) → Buf (Elt Ideal) ℓ) : Prop :=
  ∀ c : Dev Cert.LnGradIdeal.nD,
    (Cert.Pre_finite_ln.fn (F := Ideal) (m ((c.tc : Thread Cert.LnGradIdeal.nD Cert.LnGradIdeal.τ).loc Cert.LnGradIdeal.main_arg0)) (m ((c.tc : Thread Cert.LnGradIdeal.nD Cert.LnGradIdeal.τ).loc Cert.LnGradIdeal.main_arg1)) (m ((c.tc : Thread Cert.LnGradIdeal.nD Cert.LnGradIdeal.τ).loc Cert.LnGradIdeal.main_arg2)) (m ((c.tc : Thread Cert.LnGradIdeal.nD Cert.LnGradIdeal.τ).loc Cert.LnGradIdeal.main_arg3)) (m ((c.tc : Thread Cert.LnGradIdeal.nD Cert.LnGradIdeal.τ).loc Cert.LnGradIdeal.main_arg4))).1 = (fun _ => 1#1)
    ∧ (Cert.Pre_finite_ln.fn (F := Ideal) (m ((c.tc : Thread Cert.LnGradIdeal.nD Cert.LnGradIdeal.τ).loc Cert.LnGradIdeal.main_arg0)) (m ((c.tc : Thread Cert.LnGradIdeal.nD Cert.LnGradIdeal.τ).loc Cert.LnGradIdeal.main_arg1)) (m ((c.tc : Thread Cert.LnGradIdeal.nD Cert.LnGradIdeal.τ).loc Cert.LnGradIdeal.main_arg2)) (m ((c.tc : Thread Cert.LnGradIdeal.nD Cert.LnGradIdeal.τ).loc Cert.LnGradIdeal.main_arg3)) (m ((c.tc : Thread Cert.LnGradIdeal.nD Cert.LnGradIdeal.τ).loc Cert.LnGradIdeal.main_arg4))).2.1 = (fun _ => 1#1)
    ∧ (Cert.Pre_finite_ln.fn (F := Ideal) (m ((c.tc : Thread Cert.LnGradIdeal.nD Cert.LnGradIdeal.τ).loc Cert.LnGradIdeal.main_arg0)) (m ((c.tc : Thread Cert.LnGradIdeal.nD Cert.LnGradIdeal.τ).loc Cert.LnGradIdeal.main_arg1)) (m ((c.tc : Thread Cert.LnGradIdeal.nD Cert.LnGradIdeal.τ).loc Cert.LnGradIdeal.main_arg2)) (m ((c.tc : Thread Cert.LnGradIdeal.nD Cert.LnGradIdeal.τ).loc Cert.LnGradIdeal.main_arg3)) (m ((c.tc : Thread Cert.LnGradIdeal.nD Cert.LnGradIdeal.τ).loc Cert.LnGradIdeal.main_arg4))).2.2 = (fun _ => 1#1)

def Pre_LnGradRefIdeal (m : (ℓ : Loc Cert.LnGradRefIdeal.nD Cert.LnGradRefIdeal.τ Cert.LnGradRefIdeal.sig) → Buf (Elt Ideal) ℓ) : Prop :=
  True

def Pre_LnGradRefIdeal_finite_ln [hPre_finite_ln : Cert.Pre_finite_ln.Facts] (m : (ℓ : Loc Cert.LnGradRefIdeal.nD Cert.LnGradRefIdeal.τ Cert.LnGradRefIdeal.sig) → Buf (Elt Ideal) ℓ) : Prop :=
  ∀ c : Dev Cert.LnGradRefIdeal.nD,
    (Cert.Pre_finite_ln.fn (F := Ideal) (m ((c.tc : Thread Cert.LnGradRefIdeal.nD Cert.LnGradRefIdeal.τ).loc Cert.LnGradRefIdeal.main_arg0)) (m ((c.tc : Thread Cert.LnGradRefIdeal.nD Cert.LnGradRefIdeal.τ).loc Cert.LnGradRefIdeal.main_arg1)) (m ((c.tc : Thread Cert.LnGradRefIdeal.nD Cert.LnGradRefIdeal.τ).loc Cert.LnGradRefIdeal.main_arg2)) (m ((c.tc : Thread Cert.LnGradRefIdeal.nD Cert.LnGradRefIdeal.τ).loc Cert.LnGradRefIdeal.main_arg3)) (m ((c.tc : Thread Cert.LnGradRefIdeal.nD Cert.LnGradRefIdeal.τ).loc Cert.LnGradRefIdeal.main_arg4))).1 = (fun _ => 1#1)
    ∧ (Cert.Pre_finite_ln.fn (F := Ideal) (m ((c.tc : Thread Cert.LnGradRefIdeal.nD Cert.LnGradRefIdeal.τ).loc Cert.LnGradRefIdeal.main_arg0)) (m ((c.tc : Thread Cert.LnGradRefIdeal.nD Cert.LnGradRefIdeal.τ).loc Cert.LnGradRefIdeal.main_arg1)) (m ((c.tc : Thread Cert.LnGradRefIdeal.nD Cert.LnGradRefIdeal.τ).loc Cert.LnGradRefIdeal.main_arg2)) (m ((c.tc : Thread Cert.LnGradRefIdeal.nD Cert.LnGradRefIdeal.τ).loc Cert.LnGradRefIdeal.main_arg3)) (m ((c.tc : Thread Cert.LnGradRefIdeal.nD Cert.LnGradRefIdeal.τ).loc Cert.LnGradRefIdeal.main_arg4))).2.1 = (fun _ => 1#1)
    ∧ (Cert.Pre_finite_ln.fn (F := Ideal) (m ((c.tc : Thread Cert.LnGradRefIdeal.nD Cert.LnGradRefIdeal.τ).loc Cert.LnGradRefIdeal.main_arg0)) (m ((c.tc : Thread Cert.LnGradRefIdeal.nD Cert.LnGradRefIdeal.τ).loc Cert.LnGradRefIdeal.main_arg1)) (m ((c.tc : Thread Cert.LnGradRefIdeal.nD Cert.LnGradRefIdeal.τ).loc Cert.LnGradRefIdeal.main_arg2)) (m ((c.tc : Thread Cert.LnGradRefIdeal.nD Cert.LnGradRefIdeal.τ).loc Cert.LnGradRefIdeal.main_arg3)) (m ((c.tc : Thread Cert.LnGradRefIdeal.nD Cert.LnGradRefIdeal.τ).loc Cert.LnGradRefIdeal.main_arg4))).2.2 = (fun _ => 1#1)

def Pre_FfnX (m : (ℓ : Loc Cert.FfnX.nD Cert.FfnX.τ Cert.FfnX.sig) → Buf (Elt Bits) ℓ) : Prop :=
  True

def Pre_FfnXIdeal (m : (ℓ : Loc Cert.FfnXIdeal.nD Cert.FfnXIdeal.τ Cert.FfnXIdeal.sig) → Buf (Elt Ideal) ℓ) : Prop :=
  True

def Pre_FfnXIdeal_finite_ffn [hPre_finite_ffn : Cert.Pre_finite_ffn.Facts] (m : (ℓ : Loc Cert.FfnXIdeal.nD Cert.FfnXIdeal.τ Cert.FfnXIdeal.sig) → Buf (Elt Ideal) ℓ) : Prop :=
  ∀ c : Dev Cert.FfnXIdeal.nD,
    (Cert.Pre_finite_ffn.fn (F := Ideal) (m ((c.tc : Thread Cert.FfnXIdeal.nD Cert.FfnXIdeal.τ).loc Cert.FfnXIdeal.main_arg0)) (m ((c.tc : Thread Cert.FfnXIdeal.nD Cert.FfnXIdeal.τ).loc Cert.FfnXIdeal.main_arg1)) (m ((c.tc : Thread Cert.FfnXIdeal.nD Cert.FfnXIdeal.τ).loc Cert.FfnXIdeal.main_arg2)) (m ((c.tc : Thread Cert.FfnXIdeal.nD Cert.FfnXIdeal.τ).loc Cert.FfnXIdeal.main_arg3)) (m ((c.tc : Thread Cert.FfnXIdeal.nD Cert.FfnXIdeal.τ).loc Cert.FfnXIdeal.main_arg4)) (m ((c.tc : Thread Cert.FfnXIdeal.nD Cert.FfnXIdeal.τ).loc Cert.FfnXIdeal.main_arg5)) (m ((c.tc : Thread Cert.FfnXIdeal.nD Cert.FfnXIdeal.τ).loc Cert.FfnXIdeal.main_arg6))).1 = (fun _ => 1#1)
    ∧ (Cert.Pre_finite_ffn.fn (F := Ideal) (m ((c.tc : Thread Cert.FfnXIdeal.nD Cert.FfnXIdeal.τ).loc Cert.FfnXIdeal.main_arg0)) (m ((c.tc : Thread Cert.FfnXIdeal.nD Cert.FfnXIdeal.τ).loc Cert.FfnXIdeal.main_arg1)) (m ((c.tc : Thread Cert.FfnXIdeal.nD Cert.FfnXIdeal.τ).loc Cert.FfnXIdeal.main_arg2)) (m ((c.tc : Thread Cert.FfnXIdeal.nD Cert.FfnXIdeal.τ).loc Cert.FfnXIdeal.main_arg3)) (m ((c.tc : Thread Cert.FfnXIdeal.nD Cert.FfnXIdeal.τ).loc Cert.FfnXIdeal.main_arg4)) (m ((c.tc : Thread Cert.FfnXIdeal.nD Cert.FfnXIdeal.τ).loc Cert.FfnXIdeal.main_arg5)) (m ((c.tc : Thread Cert.FfnXIdeal.nD Cert.FfnXIdeal.τ).loc Cert.FfnXIdeal.main_arg6))).2.1 = (fun _ => 1#1)
    ∧ (Cert.Pre_finite_ffn.fn (F := Ideal) (m ((c.tc : Thread Cert.FfnXIdeal.nD Cert.FfnXIdeal.τ).loc Cert.FfnXIdeal.main_arg0)) (m ((c.tc : Thread Cert.FfnXIdeal.nD Cert.FfnXIdeal.τ).loc Cert.FfnXIdeal.main_arg1)) (m ((c.tc : Thread Cert.FfnXIdeal.nD Cert.FfnXIdeal.τ).loc Cert.FfnXIdeal.main_arg2)) (m ((c.tc : Thread Cert.FfnXIdeal.nD Cert.FfnXIdeal.τ).loc Cert.FfnXIdeal.main_arg3)) (m ((c.tc : Thread Cert.FfnXIdeal.nD Cert.FfnXIdeal.τ).loc Cert.FfnXIdeal.main_arg4)) (m ((c.tc : Thread Cert.FfnXIdeal.nD Cert.FfnXIdeal.τ).loc Cert.FfnXIdeal.main_arg5)) (m ((c.tc : Thread Cert.FfnXIdeal.nD Cert.FfnXIdeal.τ).loc Cert.FfnXIdeal.main_arg6))).2.2.1 = (fun _ => 1#1)
    ∧ (Cert.Pre_finite_ffn.fn (F := Ideal) (m ((c.tc : Thread Cert.FfnXIdeal.nD Cert.FfnXIdeal.τ).loc Cert.FfnXIdeal.main_arg0)) (m ((c.tc : Thread Cert.FfnXIdeal.nD Cert.FfnXIdeal.τ).loc Cert.FfnXIdeal.main_arg1)) (m ((c.tc : Thread Cert.FfnXIdeal.nD Cert.FfnXIdeal.τ).loc Cert.FfnXIdeal.main_arg2)) (m ((c.tc : Thread Cert.FfnXIdeal.nD Cert.FfnXIdeal.τ).loc Cert.FfnXIdeal.main_arg3)) (m ((c.tc : Thread Cert.FfnXIdeal.nD Cert.FfnXIdeal.τ).loc Cert.FfnXIdeal.main_arg4)) (m ((c.tc : Thread Cert.FfnXIdeal.nD Cert.FfnXIdeal.τ).loc Cert.FfnXIdeal.main_arg5)) (m ((c.tc : Thread Cert.FfnXIdeal.nD Cert.FfnXIdeal.τ).loc Cert.FfnXIdeal.main_arg6))).2.2.2.1 = (fun _ => 1#1)
    ∧ (Cert.Pre_finite_ffn.fn (F := Ideal) (m ((c.tc : Thread Cert.FfnXIdeal.nD Cert.FfnXIdeal.τ).loc Cert.FfnXIdeal.main_arg0)) (m ((c.tc : Thread Cert.FfnXIdeal.nD Cert.FfnXIdeal.τ).loc Cert.FfnXIdeal.main_arg1)) (m ((c.tc : Thread Cert.FfnXIdeal.nD Cert.FfnXIdeal.τ).loc Cert.FfnXIdeal.main_arg2)) (m ((c.tc : Thread Cert.FfnXIdeal.nD Cert.FfnXIdeal.τ).loc Cert.FfnXIdeal.main_arg3)) (m ((c.tc : Thread Cert.FfnXIdeal.nD Cert.FfnXIdeal.τ).loc Cert.FfnXIdeal.main_arg4)) (m ((c.tc : Thread Cert.FfnXIdeal.nD Cert.FfnXIdeal.τ).loc Cert.FfnXIdeal.main_arg5)) (m ((c.tc : Thread Cert.FfnXIdeal.nD Cert.FfnXIdeal.τ).loc Cert.FfnXIdeal.main_arg6))).2.2.2.2.1 = (fun _ => 1#1)
    ∧ (Cert.Pre_finite_ffn.fn (F := Ideal) (m ((c.tc : Thread Cert.FfnXIdeal.nD Cert.FfnXIdeal.τ).loc Cert.FfnXIdeal.main_arg0)) (m ((c.tc : Thread Cert.FfnXIdeal.nD Cert.FfnXIdeal.τ).loc Cert.FfnXIdeal.main_arg1)) (m ((c.tc : Thread Cert.FfnXIdeal.nD Cert.FfnXIdeal.τ).loc Cert.FfnXIdeal.main_arg2)) (m ((c.tc : Thread Cert.FfnXIdeal.nD Cert.FfnXIdeal.τ).loc Cert.FfnXIdeal.main_arg3)) (m ((c.tc : Thread Cert.FfnXIdeal.nD Cert.FfnXIdeal.τ).loc Cert.FfnXIdeal.main_arg4)) (m ((c.tc : Thread Cert.FfnXIdeal.nD Cert.FfnXIdeal.τ).loc Cert.FfnXIdeal.main_arg5)) (m ((c.tc : Thread Cert.FfnXIdeal.nD Cert.FfnXIdeal.τ).loc Cert.FfnXIdeal.main_arg6))).2.2.2.2.2 = (fun _ => 1#1)

def Pre_FfnXRefIdeal (m : (ℓ : Loc Cert.FfnXRefIdeal.nD Cert.FfnXRefIdeal.τ Cert.FfnXRefIdeal.sig) → Buf (Elt Ideal) ℓ) : Prop :=
  True

def Pre_FfnXRefIdeal_finite_ffn [hPre_finite_ffn : Cert.Pre_finite_ffn.Facts] (m : (ℓ : Loc Cert.FfnXRefIdeal.nD Cert.FfnXRefIdeal.τ Cert.FfnXRefIdeal.sig) → Buf (Elt Ideal) ℓ) : Prop :=
  ∀ c : Dev Cert.FfnXRefIdeal.nD,
    (Cert.Pre_finite_ffn.fn (F := Ideal) (m ((c.tc : Thread Cert.FfnXRefIdeal.nD Cert.FfnXRefIdeal.τ).loc Cert.FfnXRefIdeal.main_arg0)) (m ((c.tc : Thread Cert.FfnXRefIdeal.nD Cert.FfnXRefIdeal.τ).loc Cert.FfnXRefIdeal.main_arg1)) (m ((c.tc : Thread Cert.FfnXRefIdeal.nD Cert.FfnXRefIdeal.τ).loc Cert.FfnXRefIdeal.main_arg2)) (m ((c.tc : Thread Cert.FfnXRefIdeal.nD Cert.FfnXRefIdeal.τ).loc Cert.FfnXRefIdeal.main_arg3)) (m ((c.tc : Thread Cert.FfnXRefIdeal.nD Cert.FfnXRefIdeal.τ).loc Cert.FfnXRefIdeal.main_arg4)) (m ((c.tc : Thread Cert.FfnXRefIdeal.nD Cert.FfnXRefIdeal.τ).loc Cert.FfnXRefIdeal.main_arg5)) (m ((c.tc : Thread Cert.FfnXRefIdeal.nD Cert.FfnXRefIdeal.τ).loc Cert.FfnXRefIdeal.main_arg6))).1 = (fun _ => 1#1)
    ∧ (Cert.Pre_finite_ffn.fn (F := Ideal) (m ((c.tc : Thread Cert.FfnXRefIdeal.nD Cert.FfnXRefIdeal.τ).loc Cert.FfnXRefIdeal.main_arg0)) (m ((c.tc : Thread Cert.FfnXRefIdeal.nD Cert.FfnXRefIdeal.τ).loc Cert.FfnXRefIdeal.main_arg1)) (m ((c.tc : Thread Cert.FfnXRefIdeal.nD Cert.FfnXRefIdeal.τ).loc Cert.FfnXRefIdeal.main_arg2)) (m ((c.tc : Thread Cert.FfnXRefIdeal.nD Cert.FfnXRefIdeal.τ).loc Cert.FfnXRefIdeal.main_arg3)) (m ((c.tc : Thread Cert.FfnXRefIdeal.nD Cert.FfnXRefIdeal.τ).loc Cert.FfnXRefIdeal.main_arg4)) (m ((c.tc : Thread Cert.FfnXRefIdeal.nD Cert.FfnXRefIdeal.τ).loc Cert.FfnXRefIdeal.main_arg5)) (m ((c.tc : Thread Cert.FfnXRefIdeal.nD Cert.FfnXRefIdeal.τ).loc Cert.FfnXRefIdeal.main_arg6))).2.1 = (fun _ => 1#1)
    ∧ (Cert.Pre_finite_ffn.fn (F := Ideal) (m ((c.tc : Thread Cert.FfnXRefIdeal.nD Cert.FfnXRefIdeal.τ).loc Cert.FfnXRefIdeal.main_arg0)) (m ((c.tc : Thread Cert.FfnXRefIdeal.nD Cert.FfnXRefIdeal.τ).loc Cert.FfnXRefIdeal.main_arg1)) (m ((c.tc : Thread Cert.FfnXRefIdeal.nD Cert.FfnXRefIdeal.τ).loc Cert.FfnXRefIdeal.main_arg2)) (m ((c.tc : Thread Cert.FfnXRefIdeal.nD Cert.FfnXRefIdeal.τ).loc Cert.FfnXRefIdeal.main_arg3)) (m ((c.tc : Thread Cert.FfnXRefIdeal.nD Cert.FfnXRefIdeal.τ).loc Cert.FfnXRefIdeal.main_arg4)) (m ((c.tc : Thread Cert.FfnXRefIdeal.nD Cert.FfnXRefIdeal.τ).loc Cert.FfnXRefIdeal.main_arg5)) (m ((c.tc : Thread Cert.FfnXRefIdeal.nD Cert.FfnXRefIdeal.τ).loc Cert.FfnXRefIdeal.main_arg6))).2.2.1 = (fun _ => 1#1)
    ∧ (Cert.Pre_finite_ffn.fn (F := Ideal) (m ((c.tc : Thread Cert.FfnXRefIdeal.nD Cert.FfnXRefIdeal.τ).loc Cert.FfnXRefIdeal.main_arg0)) (m ((c.tc : Thread Cert.FfnXRefIdeal.nD Cert.FfnXRefIdeal.τ).loc Cert.FfnXRefIdeal.main_arg1)) (m ((c.tc : Thread Cert.FfnXRefIdeal.nD Cert.FfnXRefIdeal.τ).loc Cert.FfnXRefIdeal.main_arg2)) (m ((c.tc : Thread Cert.FfnXRefIdeal.nD Cert.FfnXRefIdeal.τ).loc Cert.FfnXRefIdeal.main_arg3)) (m ((c.tc : Thread Cert.FfnXRefIdeal.nD Cert.FfnXRefIdeal.τ).loc Cert.FfnXRefIdeal.main_arg4)) (m ((c.tc : Thread Cert.FfnXRefIdeal.nD Cert.FfnXRefIdeal.τ).loc Cert.FfnXRefIdeal.main_arg5)) (m ((c.tc : Thread Cert.FfnXRefIdeal.nD Cert.FfnXRefIdeal.τ).loc Cert.FfnXRefIdeal.main_arg6))).2.2.2.1 = (fun _ => 1#1)
    ∧ (Cert.Pre_finite_ffn.fn (F := Ideal) (m ((c.tc : Thread Cert.FfnXRefIdeal.nD Cert.FfnXRefIdeal.τ).loc Cert.FfnXRefIdeal.main_arg0)) (m ((c.tc : Thread Cert.FfnXRefIdeal.nD Cert.FfnXRefIdeal.τ).loc Cert.FfnXRefIdeal.main_arg1)) (m ((c.tc : Thread Cert.FfnXRefIdeal.nD Cert.FfnXRefIdeal.τ).loc Cert.FfnXRefIdeal.main_arg2)) (m ((c.tc : Thread Cert.FfnXRefIdeal.nD Cert.FfnXRefIdeal.τ).loc Cert.FfnXRefIdeal.main_arg3)) (m ((c.tc : Thread Cert.FfnXRefIdeal.nD Cert.FfnXRefIdeal.τ).loc Cert.FfnXRefIdeal.main_arg4)) (m ((c.tc : Thread Cert.FfnXRefIdeal.nD Cert.FfnXRefIdeal.τ).loc Cert.FfnXRefIdeal.main_arg5)) (m ((c.tc : Thread Cert.FfnXRefIdeal.nD Cert.FfnXRefIdeal.τ).loc Cert.FfnXRefIdeal.main_arg6))).2.2.2.2.1 = (fun _ => 1#1)
    ∧ (Cert.Pre_finite_ffn.fn (F := Ideal) (m ((c.tc : Thread Cert.FfnXRefIdeal.nD Cert.FfnXRefIdeal.τ).loc Cert.FfnXRefIdeal.main_arg0)) (m ((c.tc : Thread Cert.FfnXRefIdeal.nD Cert.FfnXRefIdeal.τ).loc Cert.FfnXRefIdeal.main_arg1)) (m ((c.tc : Thread Cert.FfnXRefIdeal.nD Cert.FfnXRefIdeal.τ).loc Cert.FfnXRefIdeal.main_arg2)) (m ((c.tc : Thread Cert.FfnXRefIdeal.nD Cert.FfnXRefIdeal.τ).loc Cert.FfnXRefIdeal.main_arg3)) (m ((c.tc : Thread Cert.FfnXRefIdeal.nD Cert.FfnXRefIdeal.τ).loc Cert.FfnXRefIdeal.main_arg4)) (m ((c.tc : Thread Cert.FfnXRefIdeal.nD Cert.FfnXRefIdeal.τ).loc Cert.FfnXRefIdeal.main_arg5)) (m ((c.tc : Thread Cert.FfnXRefIdeal.nD Cert.FfnXRefIdeal.τ).loc Cert.FfnXRefIdeal.main_arg6))).2.2.2.2.2 = (fun _ => 1#1)

def Pre_QueryW (m : (ℓ : Loc Cert.QueryW.nD Cert.QueryW.τ Cert.QueryW.sig) → Buf (Elt Bits) ℓ) : Prop :=
  True

def Pre_QueryWIdeal (m : (ℓ : Loc Cert.QueryWIdeal.nD Cert.QueryWIdeal.τ Cert.QueryWIdeal.sig) → Buf (Elt Ideal) ℓ) : Prop :=
  True

def Pre_QueryWRefIdeal (m : (ℓ : Loc Cert.QueryWRefIdeal.nD Cert.QueryWRefIdeal.τ Cert.QueryWRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_GatesW (m : (ℓ : Loc Cert.GatesW.nD Cert.GatesW.τ Cert.GatesW.sig) → Buf (Elt Bits) ℓ) : Prop :=
  True

def Pre_GatesWIdeal (m : (ℓ : Loc Cert.GatesWIdeal.nD Cert.GatesWIdeal.τ Cert.GatesWIdeal.sig) → Buf (Elt Ideal) ℓ) : Prop :=
  True

def Pre_GatesWRefIdeal (m : (ℓ : Loc Cert.GatesWRefIdeal.nD Cert.GatesWRefIdeal.τ Cert.GatesWRefIdeal.sig) → Buf (Elt Ideal) ℓ) : Prop :=
  True

def Pre_MemW (m : (ℓ : Loc Cert.MemW.nD Cert.MemW.τ Cert.MemW.sig) → Buf (Elt Bits) ℓ) : Prop :=
  True

def Pre_MemWIdeal (m : (ℓ : Loc Cert.MemWIdeal.nD Cert.MemWIdeal.τ Cert.MemWIdeal.sig) → Buf (Elt Ideal) ℓ) : Prop :=
  True

def Pre_MemWRefIdeal (m : (ℓ : Loc Cert.MemWRefIdeal.nD Cert.MemWRefIdeal.τ Cert.MemWRefIdeal.sig) → Buf (Elt Ideal) ℓ) : Prop :=
  True

def Pre_QueryX (m : (ℓ : Loc Cert.QueryX.nD Cert.QueryX.τ Cert.QueryX.sig) → Buf (Elt Bits) ℓ) : Prop :=
  True

def Pre_QueryXIdeal (m : (ℓ : Loc Cert.QueryXIdeal.nD Cert.QueryXIdeal.τ Cert.QueryXIdeal.sig) → Buf (Elt Ideal) ℓ) : Prop :=
  True

def Pre_QueryXRefIdeal (m : (ℓ : Loc Cert.QueryXRefIdeal.nD Cert.QueryXRefIdeal.τ Cert.QueryXRefIdeal.sig) → Buf (Elt Ideal) ℓ) : Prop :=
  True

def Pre_GatesX (m : (ℓ : Loc Cert.GatesX.nD Cert.GatesX.τ Cert.GatesX.sig) → Buf (Elt Bits) ℓ) : Prop :=
  True

def Pre_GatesXIdeal (m : (ℓ : Loc Cert.GatesXIdeal.nD Cert.GatesXIdeal.τ Cert.GatesXIdeal.sig) → Buf (Elt Ideal) ℓ) : Prop :=
  True

def Pre_GatesXRefIdeal (m : (ℓ : Loc Cert.GatesXRefIdeal.nD Cert.GatesXRefIdeal.τ Cert.GatesXRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_MixerOut (m : (ℓ : Loc Cert.MixerOut.nD Cert.MixerOut.τ Cert.MixerOut.sig) → Buf (Elt Bits) ℓ) : Prop :=
  True

def Pre_MixerOutIdeal (m : (ℓ : Loc Cert.MixerOutIdeal.nD Cert.MixerOutIdeal.τ Cert.MixerOutIdeal.sig) → Buf (Elt Ideal) ℓ) : Prop :=
  True

def Pre_MixerOutRefIdeal (m : (ℓ : Loc Cert.MixerOutRefIdeal.nD Cert.MixerOutRefIdeal.τ Cert.MixerOutRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_GateGrad [hGateGrad : Cert.GateGrad.Facts] : Prop :=
  ∀ (m : (ℓ : Loc Cert.GateGrad.nD Cert.GateGrad.τ Cert.GateGrad.sig) → Buf (Elt Bits) ℓ) (g : Dev Cert.GateGrad.nD → PrngReg), Pre_GateGrad m →
    θ_run (Cert.GateGrad.defs (F := Bits)) (onTc (τ := Cert.GateGrad.τ) (Cert.GateGrad.main (F := Bits))) ⟨m, fun _ => 0, g⟩ (fun r => (∀ c : Dev Cert.GateGrad.nD,
      r.2.mem ((c.tc : Thread Cert.GateGrad.nD Cert.GateGrad.τ).loc Cert.GateGrad.main_arg0) = m ((c.tc : Thread Cert.GateGrad.nD Cert.GateGrad.τ).loc Cert.GateGrad.main_arg0)
      ∧ r.2.mem ((c.tc : Thread Cert.GateGrad.nD Cert.GateGrad.τ).loc Cert.GateGrad.main_arg1) = m ((c.tc : Thread Cert.GateGrad.nD Cert.GateGrad.τ).loc Cert.GateGrad.main_arg1))
      ∧ r.2.sem = fun _ => 0)

def quiescent_GateGradIdeal [hGateGradIdeal : Cert.GateGradIdeal.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1))
      ∧ r.2.sem = fun _ => 0)

def quiescent_GateGradRefIdeal [hGateGradRefIdeal : Cert.GateGradRefIdeal.Facts] : Prop :=
  ∀ (m : (ℓ : Loc Cert.GateGradRefIdeal.nD Cert.GateGradRefIdeal.τ Cert.GateGradRefIdeal.sig) → Buf (Elt Ideal) ℓ) (g : Dev Cert.GateGradRefIdeal.nD → PrngReg), Pre_GateGradRefIdeal m →
    θ_run (Cert.GateGradRefIdeal.defs (F := Ideal)) (onTc (τ := Cert.GateGradRefIdeal.τ) (Cert.GateGradRefIdeal.main (F := Ideal))) ⟨m, fun _ => 0, g⟩ (fun r => (∀ c : Dev Cert.GateGradRefIdeal.nD,
      r.2.mem ((c.tc : Thread Cert.GateGradRefIdeal.nD Cert.GateGradRefIdeal.τ).loc Cert.GateGradRefIdeal.main_arg0) = m ((c.tc : Thread Cert.GateGradRefIdeal.nD Cert.GateGradRefIdeal.τ).loc Cert.GateGradRefIdeal.main_arg0)
      ∧ r.2.mem ((c.tc : Thread Cert.GateGradRefIdeal.nD Cert.GateGradRefIdeal.τ).loc Cert.GateGradRefIdeal.main_arg1) = m ((c.tc : Thread Cert.GateGradRefIdeal.nD Cert.GateGradRefIdeal.τ).loc Cert.GateGradRefIdeal.main_arg1))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradRefIdeal [hDownGradRefIdeal : Cert.DownGradRefIdeal.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_ProjW [hProjW : Cert.ProjW.Facts] : Prop :=
  ∀ (m : (ℓ : Loc Cert.ProjW.nD Cert.ProjW.τ Cert.ProjW.sig) → Buf (Elt Bits) ℓ) (g : Dev Cert.ProjW.nD → PrngReg), Pre_ProjW m →
    θ_run (Cert.ProjW.defs (F := Bits)) (onTc (τ := Cert.ProjW.τ) (Cert.ProjW.main (F := Bits))) ⟨m, fun _ => 0, g⟩ (fun r => (∀ c : Dev Cert.ProjW.nD,
      r.2.mem ((c.tc : Thread Cert.ProjW.nD Cert.ProjW.τ).loc Cert.ProjW.main_arg0) = m ((c.tc : Thread Cert.ProjW.nD Cert.ProjW.τ).loc Cert.ProjW.main_arg0)
      ∧ r.2.mem ((c.tc : Thread Cert.ProjW.nD Cert.ProjW.τ).loc Cert.ProjW.main_arg1) = m ((c.tc : Thread Cert.ProjW.nD Cert.ProjW.τ).loc Cert.ProjW.main_arg1))
      ∧ r.2.sem = fun _ => 0)

def quiescent_ProjWIdeal [hProjWIdeal : Cert.ProjWIdeal.Facts] : Prop :=
  ∀ (m : (ℓ : Loc Cert.ProjWIdeal.nD Cert.ProjWIdeal.τ Cert.ProjWIdeal.sig) → Buf (Elt Ideal) ℓ) (g : Dev Cert.ProjWIdeal.nD → PrngReg), Pre_ProjWIdeal m →
    θ_run (Cert.ProjWIdeal.defs (F := Ideal)) (onTc (τ := Cert.ProjWIdeal.τ) (Cert.ProjWIdeal.main (F := Ideal))) ⟨m, fun _ => 0, g⟩ (fun r => (∀ c : Dev Cert.ProjWIdeal.nD,
      r.2.mem ((c.tc : Thread Cert.ProjWIdeal.nD Cert.ProjWIdeal.τ).loc Cert.ProjWIdeal.main_arg0) = m ((c.tc : Thread Cert.ProjWIdeal.nD Cert.ProjWIdeal.τ).loc Cert.ProjWIdeal.main_arg0)
      ∧ r.2.mem ((c.tc : Thread Cert.ProjWIdeal.nD Cert.ProjWIdeal.τ).loc Cert.ProjWIdeal.main_arg1) = m ((c.tc : Thread Cert.ProjWIdeal.nD Cert.ProjWIdeal.τ).loc Cert.ProjWIdeal.main_arg1))
      ∧ r.2.sem = fun _ => 0)

def quiescent_ProjWRefIdeal [hProjWRefIdeal : Cert.ProjWRefIdeal.Facts] : Prop :=
  ∀ (m : (ℓ : Loc Cert.ProjWRefIdeal.nD Cert.ProjWRefIdeal.τ Cert.ProjWRefIdeal.sig) → Buf (Elt Ideal) ℓ) (g : Dev Cert.ProjWRefIdeal.nD → PrngReg), Pre_ProjWRefIdeal m →
    θ_run (Cert.ProjWRefIdeal.defs (F := Ideal)) (onTc (τ := Cert.ProjWRefIdeal.τ) (Cert.ProjWRefIdeal.main (F := Ideal))) ⟨m, fun _ => 0, g⟩ (fun r => (∀ c : Dev Cert.ProjWRefIdeal.nD,
      r.2.mem ((c.tc : Thread Cert.ProjWRefIdeal.nD Cert.ProjWRefIdeal.τ).loc Cert.ProjWRefIdeal.main_arg0) = m ((c.tc : Thread Cert.ProjWRefIdeal.nD Cert.ProjWRefIdeal.τ).loc Cert.ProjWRefIdeal.main_arg0)
      ∧ r.2.mem ((c.tc : Thread Cert.ProjWRefIdeal.nD Cert.ProjWRefIdeal.τ).loc Cert.ProjWRefIdeal.main_arg1) = m ((c.tc : Thread Cert.ProjWRefIdeal.nD Cert.ProjWRefIdeal.τ).loc Cert.ProjWRefIdeal.main_arg1))
      ∧ r.2.sem = fun _ => 0)

def quiescent_ProjX [hProjX : Cert.ProjX.Facts] : Prop :=
  ∀ (m : (ℓ : Loc Cert.ProjX.nD Cert.ProjX.τ Cert.ProjX.sig) → Buf (Elt Bits) ℓ) (g : Dev Cert.ProjX.nD → PrngReg), Pre_ProjX m →
    θ_run (Cert.ProjX.defs (F := Bits)) (onTc (τ := Cert.ProjX.τ) (Cert.ProjX.main (F := Bits))) ⟨m, fun _ => 0, g⟩ (fun r => (∀ c : Dev Cert.ProjX.nD,
      r.2.mem ((c.tc : Thread Cert.ProjX.nD Cert.ProjX.τ).loc Cert.ProjX.main_arg0) = m ((c.tc : Thread Cert.ProjX.nD Cert.ProjX.τ).loc Cert.ProjX.main_arg0)
      ∧ r.2.mem ((c.tc : Thread Cert.ProjX.nD Cert.ProjX.τ).loc Cert.ProjX.main_arg1) = m ((c.tc : Thread Cert.ProjX.nD Cert.ProjX.τ).loc Cert.ProjX.main_arg1)
      ∧ r.2.mem ((c.tc : Thread Cert.ProjX.nD Cert.ProjX.τ).loc Cert.ProjX.main_arg2) = m ((c.tc : Thread Cert.ProjX.nD Cert.ProjX.τ).loc Cert.ProjX.main_arg2))
      ∧ r.2.sem = fun _ => 0)

def quiescent_ProjXIdeal [hProjXIdeal : Cert.ProjXIdeal.Facts] : Prop :=
  ∀ (m : (ℓ : Loc Cert.ProjXIdeal.nD Cert.ProjXIdeal.τ Cert.ProjXIdeal.sig) → Buf (Elt Ideal) ℓ) (g : Dev Cert.ProjXIdeal.nD → PrngReg), Pre_ProjXIdeal m →
    θ_run (Cert.ProjXIdeal.defs (F := Ideal)) (onTc (τ := Cert.ProjXIdeal.τ) (Cert.ProjXIdeal.main (F := Ideal))) ⟨m, fun _ => 0, g⟩ (fun r => (∀ c : Dev Cert.ProjXIdeal.nD,
      r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
      ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1)
      ∧ r.2.mem ((c.tc : Thread Cert.ProjXIdeal.nD Cert.ProjXIdeal.τ).loc Cert.ProjXIdeal.main_arg2) = m ((c.tc : Thread Cert.ProjXIdeal.nD Cert.ProjXIdeal.τ).loc Cert.ProjXIdeal.main_arg2))
      ∧ r.2.sem = fun _ => 0)

def quiescent_ProjXRefIdeal [hProjXRefIdeal : Cert.ProjXRefIdeal.Facts] : Prop :=
  ∀ (m : (ℓ : Loc Cert.ProjXRefIdeal.nD Cert.ProjXRefIdeal.τ Cert.ProjXRefIdeal.sig) → Buf (Elt Ideal) ℓ) (g : Dev Cert.ProjXRefIdeal.nD → PrngReg), Pre_ProjXRefIdeal m →
    θ_run (Cert.ProjXRefIdeal.defs (F := Ideal)) (onTc (τ := Cert.ProjXRefIdeal.τ) (Cert.ProjXRefIdeal.main (F := Ideal))) ⟨m, fun _ => 0, g⟩ (fun r => (∀ c : Dev Cert.ProjXRefIdeal.nD,
      r.2.mem ((c.tc : Thread Cert.ProjXRefIdeal.nD Cert.ProjXRefIdeal.τ).loc Cert.ProjXRefIdeal.main_arg0) = m ((c.tc : Thread Cert.ProjXRefIdeal.nD Cert.ProjXRefIdeal.τ).loc Cert.ProjXRefIdeal.main_arg0)
      ∧ r.2.mem ((c.tc : Thread Cert.ProjXRefIdeal.nD Cert.ProjXRefIdeal.τ).loc Cert.ProjXRefIdeal.main_arg1) = m ((c.tc : Thread Cert.ProjXRefIdeal.nD Cert.ProjXRefIdeal.τ).loc Cert.ProjXRefIdeal.main_arg1)
      ∧ r.2.mem ((c.tc : Thread Cert.ProjXRefIdeal.nD Cert.ProjXRefIdeal.τ).loc Cert.ProjXRefIdeal.main_arg2) = m ((c.tc : Thread Cert.ProjXRefIdeal.nD Cert.ProjXRefIdeal.τ).loc Cert.ProjXRefIdeal.main_arg2))
      ∧ r.2.sem = fun _ => 0)

def quiescent_LnGrad [hLnGrad : Cert.LnGrad.Facts] : Prop :=
  ∀ (m : (ℓ : Loc Cert.LnGrad.nD Cert.LnGrad.τ Cert.LnGrad.sig) → Buf (Elt Bits) ℓ) (g : Dev Cert.LnGrad.nD → PrngReg), Pre_LnGrad m →
    θ_run (Cert.LnGrad.defs (F := Bits)) (onTc (τ := Cert.LnGrad.τ) (Cert.LnGrad.main (F := Bits))) ⟨m, fun _ => 0, g⟩ (fun r => (∀ c : Dev Cert.LnGrad.nD,
      r.2.mem ((c.tc : Thread Cert.LnGrad.nD Cert.LnGrad.τ).loc Cert.LnGrad.main_arg0) = m ((c.tc : Thread Cert.LnGrad.nD Cert.LnGrad.τ).loc Cert.LnGrad.main_arg0)
      ∧ r.2.mem ((c.tc : Thread Cert.LnGrad.nD Cert.LnGrad.τ).loc Cert.LnGrad.main_arg1) = m ((c.tc : Thread Cert.LnGrad.nD Cert.LnGrad.τ).loc Cert.LnGrad.main_arg1)
      ∧ r.2.mem ((c.tc : Thread Cert.LnGrad.nD Cert.LnGrad.τ).loc Cert.LnGrad.main_arg2) = m ((c.tc : Thread Cert.LnGrad.nD Cert.LnGrad.τ).loc Cert.LnGrad.main_arg2)
      ∧ r.2.mem ((c.tc : Thread Cert.LnGrad.nD Cert.LnGrad.τ).loc Cert.LnGrad.main_arg3) = m ((c.tc : Thread Cert.LnGrad.nD Cert.LnGrad.τ).loc Cert.LnGrad.main_arg3)
      ∧ r.2.mem ((c.tc : Thread Cert.LnGrad.nD Cert.LnGrad.τ).loc Cert.LnGrad.main_arg4) = m ((c.tc : Thread Cert.LnGrad.nD Cert.LnGrad.τ).loc Cert.LnGrad.main_arg4))
      ∧ r.2.sem = fun _ => 0)

def quiescent_LnGradIdeal [hLnGradIdeal : Cert.LnGradIdeal.Facts] : Prop :=
  ∀ (m : (ℓ : Loc Cert.LnGradIdeal.nD Cert.LnGradIdeal.τ Cert.LnGradIdeal.sig) → Buf (Elt Ideal) ℓ) (g : Dev Cert.LnGradIdeal.nD → PrngReg), Pre_LnGradIdeal m →
    θ_run (Cert.LnGradIdeal.defs (F := Ideal)) (onTc (τ := Cert.LnGradIdeal.τ) (Cert.LnGradIdeal.main (F := Ideal))) ⟨m, fun _ => 0, g⟩ (fun r => (∀ c : Dev Cert.LnGradIdeal.nD,
      r.2.mem ((c.tc : Thread Cert.LnGradIdeal.nD Cert.LnGradIdeal.τ).loc Cert.LnGradIdeal.main_arg0) = m ((c.tc : Thread Cert.LnGradIdeal.nD Cert.LnGradIdeal.τ).loc Cert.LnGradIdeal.main_arg0)
      ∧ r.2.mem ((c.tc : Thread Cert.LnGradIdeal.nD Cert.LnGradIdeal.τ).loc Cert.LnGradIdeal.main_arg1) = m ((c.tc : Thread Cert.LnGradIdeal.nD Cert.LnGradIdeal.τ).loc Cert.LnGradIdeal.main_arg1)
      ∧ r.2.mem ((c.tc : Thread Cert.LnGradIdeal.nD Cert.LnGradIdeal.τ).loc Cert.LnGradIdeal.main_arg2) = m ((c.tc : Thread Cert.LnGradIdeal.nD Cert.LnGradIdeal.τ).loc Cert.LnGradIdeal.main_arg2)
      ∧ r.2.mem ((c.tc : Thread Cert.LnGradIdeal.nD Cert.LnGradIdeal.τ).loc Cert.LnGradIdeal.main_arg3) = m ((c.tc : Thread Cert.LnGradIdeal.nD Cert.LnGradIdeal.τ).loc Cert.LnGradIdeal.main_arg3)
      ∧ r.2.mem ((c.tc : Thread Cert.LnGradIdeal.nD Cert.LnGradIdeal.τ).loc Cert.LnGradIdeal.main_arg4) = m ((c.tc : Thread Cert.LnGradIdeal.nD Cert.LnGradIdeal.τ).loc Cert.LnGradIdeal.main_arg4))
      ∧ r.2.sem = fun _ => 0)

def quiescent_LnGradIdeal_pre_finite_ln [hLnGradIdeal : Cert.LnGradIdeal.Facts] [hPre_finite_ln : Cert.Pre_finite_ln.Facts] : Prop :=
  ∀ (m : (ℓ : Loc Cert.LnGradIdeal.nD Cert.LnGradIdeal.τ Cert.LnGradIdeal.sig) → Buf (Elt Ideal) ℓ) (g : Dev Cert.LnGradIdeal.nD → PrngReg), Pre_LnGradIdeal_finite_ln m →
    θ_run (Cert.LnGradIdeal.defs (F := Ideal)) (onTc (τ := Cert.LnGradIdeal.τ) (Cert.LnGradIdeal.main (F := Ideal))) ⟨m, fun _ => 0, g⟩ (fun r => (∀ c : Dev Cert.LnGradIdeal.nD,
      r.2.mem ((c.tc : Thread Cert.LnGradIdeal.nD Cert.LnGradIdeal.τ).loc Cert.LnGradIdeal.main_arg0) = m ((c.tc : Thread Cert.LnGradIdeal.nD Cert.LnGradIdeal.τ).loc Cert.LnGradIdeal.main_arg0)
      ∧ r.2.mem ((c.tc : Thread Cert.LnGradIdeal.nD Cert.LnGradIdeal.τ).loc Cert.LnGradIdeal.main_arg1) = m ((c.tc : Thread Cert.LnGradIdeal.nD Cert.LnGradIdeal.τ).loc Cert.LnGradIdeal.main_arg1)
      ∧ r.2.mem ((c.tc : Thread Cert.LnGradIdeal.nD Cert.LnGradIdeal.τ).loc Cert.LnGradIdeal.main_arg2) = m ((c.tc : Thread Cert.LnGradIdeal.nD Cert.LnGradIdeal.τ).loc Cert.LnGradIdeal.main_arg2)
      ∧ r.2.mem ((c.tc : Thread Cert.LnGradIdeal.nD Cert.LnGradIdeal.τ).loc Cert.LnGradIdeal.main_arg3) = m ((c.tc : Thread Cert.LnGradIdeal.nD Cert.LnGradIdeal.τ).loc Cert.LnGradIdeal.main_arg3)
      ∧ r.2.mem ((c.tc : Thread Cert.LnGradIdeal.nD Cert.LnGradIdeal.τ).loc Cert.LnGradIdeal.main_arg4) = m ((c.tc : Thread Cert.LnGradIdeal.nD Cert.LnGradIdeal.τ).loc Cert.LnGradIdeal.main_arg4))
      ∧ r.2.sem = fun _ => 0)

def quiescent_LnGradRefIdeal [hLnGradRefIdeal : Cert.LnGradRefIdeal.Facts] : Prop :=
  ∀ (m : (ℓ : Loc Cert.LnGradRefIdeal.nD Cert.LnGradRefIdeal.τ Cert.LnGradRefIdeal.sig) → Buf (Elt Ideal) ℓ) (g : Dev Cert.LnGradRefIdeal.nD → PrngReg), Pre_LnGradRefIdeal m →
    θ_run (Cert.LnGradRefIdeal.defs (F := Ideal)) (onTc (τ := Cert.LnGradRefIdeal.τ) (Cert.LnGradRefIdeal.main (F := Ideal))) ⟨m, fun _ => 0, g⟩ (fun r => (∀ c : Dev Cert.LnGradRefIdeal.nD,
      r.2.mem ((c.tc : Thread Cert.LnGradRefIdeal.nD Cert.LnGradRefIdeal.τ).loc Cert.LnGradRefIdeal.main_arg0) = m ((c.tc : Thread Cert.LnGradRefIdeal.nD Cert.LnGradRefIdeal.τ).loc Cert.LnGradRefIdeal.main_arg0)
      ∧ r.2.mem ((c.tc : Thread Cert.LnGradRefIdeal.nD Cert.LnGradRefIdeal.τ).loc Cert.LnGradRefIdeal.main_arg1) = m ((c.tc : Thread Cert.LnGradRefIdeal.nD Cert.LnGradRefIdeal.τ).loc Cert.LnGradRefIdeal.main_arg1)
      ∧ r.2.mem ((c.tc : Thread Cert.LnGradRefIdeal.nD Cert.LnGradRefIdeal.τ).loc Cert.LnGradRefIdeal.main_arg2) = m ((c.tc : Thread Cert.LnGradRefIdeal.nD Cert.LnGradRefIdeal.τ).loc Cert.LnGradRefIdeal.main_arg2)
      ∧ r.2.mem ((c.tc : Thread Cert.LnGradRefIdeal.nD Cert.LnGradRefIdeal.τ).loc Cert.LnGradRefIdeal.main_arg3) = m ((c.tc : Thread Cert.LnGradRefIdeal.nD Cert.LnGradRefIdeal.τ).loc Cert.LnGradRefIdeal.main_arg3)
      ∧ r.2.mem ((c.tc : Thread Cert.LnGradRefIdeal.nD Cert.LnGradRefIdeal.τ).loc Cert.LnGradRefIdeal.main_arg4) = m ((c.tc : Thread Cert.LnGradRefIdeal.nD Cert.LnGradRefIdeal.τ).loc Cert.LnGradRefIdeal.main_arg4))
      ∧ r.2.sem = fun _ => 0)

def quiescent_LnGradRefIdeal_pre_finite_ln [hLnGradRefIdeal : Cert.LnGradRefIdeal.Facts] [hPre_finite_ln : Cert.Pre_finite_ln.Facts] : Prop :=
  ∀ (m : (ℓ : Loc Cert.LnGradRefIdeal.nD Cert.LnGradRefIdeal.τ Cert.LnGradRefIdeal.sig) → Buf (Elt Ideal) ℓ) (g : Dev Cert.LnGradRefIdeal.nD → PrngReg), Pre_LnGradRefIdeal_finite_ln m →
    θ_run (Cert.LnGradRefIdeal.defs (F := Ideal)) (onTc (τ := Cert.LnGradRefIdeal.τ) (Cert.LnGradRefIdeal.main (F := Ideal))) ⟨m, fun _ => 0, g⟩ (fun r => (∀ c : Dev Cert.LnGradRefIdeal.nD,
      r.2.mem ((c.tc : Thread Cert.LnGradRefIdeal.nD Cert.LnGradRefIdeal.τ).loc Cert.LnGradRefIdeal.main_arg0) = m ((c.tc : Thread Cert.LnGradRefIdeal.nD Cert.LnGradRefIdeal.τ).loc Cert.LnGradRefIdeal.main_arg0)
      ∧ r.2.mem ((c.tc : Thread Cert.LnGradRefIdeal.nD Cert.LnGradRefIdeal.τ).loc Cert.LnGradRefIdeal.main_arg1) = m ((c.tc : Thread Cert.LnGradRefIdeal.nD Cert.LnGradRefIdeal.τ).loc Cert.LnGradRefIdeal.main_arg1)
      ∧ r.2.mem ((c.tc : Thread Cert.LnGradRefIdeal.nD Cert.LnGradRefIdeal.τ).loc Cert.LnGradRefIdeal.main_arg2) = m ((c.tc : Thread Cert.LnGradRefIdeal.nD Cert.LnGradRefIdeal.τ).loc Cert.LnGradRefIdeal.main_arg2)
      ∧ r.2.mem ((c.tc : Thread Cert.LnGradRefIdeal.nD Cert.LnGradRefIdeal.τ).loc Cert.LnGradRefIdeal.main_arg3) = m ((c.tc : Thread Cert.LnGradRefIdeal.nD Cert.LnGradRefIdeal.τ).loc Cert.LnGradRefIdeal.main_arg3)
      ∧ r.2.mem ((c.tc : Thread Cert.LnGradRefIdeal.nD Cert.LnGradRefIdeal.τ).loc Cert.LnGradRefIdeal.main_arg4) = m ((c.tc : Thread Cert.LnGradRefIdeal.nD Cert.LnGradRefIdeal.τ).loc Cert.LnGradRefIdeal.main_arg4))
      ∧ r.2.sem = fun _ => 0)

def quiescent_FfnX [hFfnX : Cert.FfnX.Facts] : Prop :=
  ∀ (m : (ℓ : Loc Cert.FfnX.nD Cert.FfnX.τ Cert.FfnX.sig) → Buf (Elt Bits) ℓ) (g : Dev Cert.FfnX.nD → PrngReg), Pre_FfnX m →
    θ_run (Cert.FfnX.defs (F := Bits)) (onTc (τ := Cert.FfnX.τ) (Cert.FfnX.main (F := Bits))) ⟨m, fun _ => 0, g⟩ (fun r => (∀ c : Dev Cert.FfnX.nD,
      r.2.mem ((c.tc : Thread Cert.FfnX.nD Cert.FfnX.τ).loc Cert.FfnX.main_arg0) = m ((c.tc : Thread Cert.FfnX.nD Cert.FfnX.τ).loc Cert.FfnX.main_arg0)
      ∧ r.2.mem ((c.tc : Thread Cert.FfnX.nD Cert.FfnX.τ).loc Cert.FfnX.main_arg1) = m ((c.tc : Thread Cert.FfnX.nD Cert.FfnX.τ).loc Cert.FfnX.main_arg1)
      ∧ r.2.mem ((c.tc : Thread Cert.FfnX.nD Cert.FfnX.τ).loc Cert.FfnX.main_arg2) = m ((c.tc : Thread Cert.FfnX.nD Cert.FfnX.τ).loc Cert.FfnX.main_arg2)
      ∧ r.2.mem ((c.tc : Thread Cert.FfnX.nD Cert.FfnX.τ).loc Cert.FfnX.main_arg3) = m ((c.tc : Thread Cert.FfnX.nD Cert.FfnX.τ).loc Cert.FfnX.main_arg3)
      ∧ r.2.mem ((c.tc : Thread Cert.FfnX.nD Cert.FfnX.τ).loc Cert.FfnX.main_arg4) = m ((c.tc : Thread Cert.FfnX.nD Cert.FfnX.τ).loc Cert.FfnX.main_arg4)
      ∧ r.2.mem ((c.tc : Thread Cert.FfnX.nD Cert.FfnX.τ).loc Cert.FfnX.main_arg5) = m ((c.tc : Thread Cert.FfnX.nD Cert.FfnX.τ).loc Cert.FfnX.main_arg5)
      ∧ r.2.mem ((c.tc : Thread Cert.FfnX.nD Cert.FfnX.τ).loc Cert.FfnX.main_arg6) = m ((c.tc : Thread Cert.FfnX.nD Cert.FfnX.τ).loc Cert.FfnX.main_arg6))
      ∧ r.2.sem = fun _ => 0)

def quiescent_FfnXIdeal [hFfnXIdeal : Cert.FfnXIdeal.Facts] : Prop :=
  ∀ (m : (ℓ : Loc Cert.FfnXIdeal.nD Cert.FfnXIdeal.τ Cert.FfnXIdeal.sig) → Buf (Elt Ideal) ℓ) (g : Dev Cert.FfnXIdeal.nD → PrngReg), Pre_FfnXIdeal m →
    θ_run (Cert.FfnXIdeal.defs (F := Ideal)) (onTc (τ := Cert.FfnXIdeal.τ) (Cert.FfnXIdeal.main (F := Ideal))) ⟨m, fun _ => 0, g⟩ (fun r => (∀ c : Dev Cert.FfnXIdeal.nD,
      r.2.mem ((c.tc : Thread Cert.FfnXIdeal.nD Cert.FfnXIdeal.τ).loc Cert.FfnXIdeal.main_arg0) = m ((c.tc : Thread Cert.FfnXIdeal.nD Cert.FfnXIdeal.τ).loc Cert.FfnXIdeal.main_arg0)
      ∧ r.2.mem ((c.tc : Thread Cert.FfnXIdeal.nD Cert.FfnXIdeal.τ).loc Cert.FfnXIdeal.main_arg1) = m ((c.tc : Thread Cert.FfnXIdeal.nD Cert.FfnXIdeal.τ).loc Cert.FfnXIdeal.main_arg1)
      ∧ r.2.mem ((c.tc : Thread Cert.FfnXIdeal.nD Cert.FfnXIdeal.τ).loc Cert.FfnXIdeal.main_arg2) = m ((c.tc : Thread Cert.FfnXIdeal.nD Cert.FfnXIdeal.τ).loc Cert.FfnXIdeal.main_arg2)
      ∧ r.2.mem ((c.tc : Thread Cert.FfnXIdeal.nD Cert.FfnXIdeal.τ).loc Cert.FfnXIdeal.main_arg3) = m ((c.tc : Thread Cert.FfnXIdeal.nD Cert.FfnXIdeal.τ).loc Cert.FfnXIdeal.main_arg3)
      ∧ r.2.mem ((c.tc : Thread Cert.FfnXIdeal.nD Cert.FfnXIdeal.τ).loc Cert.FfnXIdeal.main_arg4) = m ((c.tc : Thread Cert.FfnXIdeal.nD Cert.FfnXIdeal.τ).loc Cert.FfnXIdeal.main_arg4)
      ∧ r.2.mem ((c.tc : Thread Cert.FfnXIdeal.nD Cert.FfnXIdeal.τ).loc Cert.FfnXIdeal.main_arg5) = m ((c.tc : Thread Cert.FfnXIdeal.nD Cert.FfnXIdeal.τ).loc Cert.FfnXIdeal.main_arg5)
      ∧ r.2.mem ((c.tc : Thread Cert.FfnXIdeal.nD Cert.FfnXIdeal.τ).loc Cert.FfnXIdeal.main_arg6) = m ((c.tc : Thread Cert.FfnXIdeal.nD Cert.FfnXIdeal.τ).loc Cert.FfnXIdeal.main_arg6))
      ∧ r.2.sem = fun _ => 0)

def quiescent_FfnXIdeal_pre_finite_ffn [hFfnXIdeal : Cert.FfnXIdeal.Facts] [hPre_finite_ffn : Cert.Pre_finite_ffn.Facts] : Prop :=
  ∀ (m : (ℓ : Loc Cert.FfnXIdeal.nD Cert.FfnXIdeal.τ Cert.FfnXIdeal.sig) → Buf (Elt Ideal) ℓ) (g : Dev Cert.FfnXIdeal.nD → PrngReg), Pre_FfnXIdeal_finite_ffn m →
    θ_run (Cert.FfnXIdeal.defs (F := Ideal)) (onTc (τ := Cert.FfnXIdeal.τ) (Cert.FfnXIdeal.main (F := Ideal))) ⟨m, fun _ => 0, g⟩ (fun r => (∀ c : Dev Cert.FfnXIdeal.nD,
      r.2.mem ((c.tc : Thread Cert.FfnXIdeal.nD Cert.FfnXIdeal.τ).loc Cert.FfnXIdeal.main_arg0) = m ((c.tc : Thread Cert.FfnXIdeal.nD Cert.FfnXIdeal.τ).loc Cert.FfnXIdeal.main_arg0)
      ∧ r.2.mem ((c.tc : Thread Cert.FfnXIdeal.nD Cert.FfnXIdeal.τ).loc Cert.FfnXIdeal.main_arg1) = m ((c.tc : Thread Cert.FfnXIdeal.nD Cert.FfnXIdeal.τ).loc Cert.FfnXIdeal.main_arg1)
      ∧ r.2.mem ((c.tc : Thread Cert.FfnXIdeal.nD Cert.FfnXIdeal.τ).loc Cert.FfnXIdeal.main_arg2) = m ((c.tc : Thread Cert.FfnXIdeal.nD Cert.FfnXIdeal.τ).loc Cert.FfnXIdeal.main_arg2)
      ∧ r.2.mem ((c.tc : Thread Cert.FfnXIdeal.nD Cert.FfnXIdeal.τ).loc Cert.FfnXIdeal.main_arg3) = m ((c.tc : Thread Cert.FfnXIdeal.nD Cert.FfnXIdeal.τ).loc Cert.FfnXIdeal.main_arg3)
      ∧ r.2.mem ((c.tc : Thread Cert.FfnXIdeal.nD Cert.FfnXIdeal.τ).loc Cert.FfnXIdeal.main_arg4) = m ((c.tc : Thread Cert.FfnXIdeal.nD Cert.FfnXIdeal.τ).loc Cert.FfnXIdeal.main_arg4)
      ∧ r.2.mem ((c.tc : Thread Cert.FfnXIdeal.nD Cert.FfnXIdeal.τ).loc Cert.FfnXIdeal.main_arg5) = m ((c.tc : Thread Cert.FfnXIdeal.nD Cert.FfnXIdeal.τ).loc Cert.FfnXIdeal.main_arg5)
      ∧ r.2.mem ((c.tc : Thread Cert.FfnXIdeal.nD Cert.FfnXIdeal.τ).loc Cert.FfnXIdeal.main_arg6) = m ((c.tc : Thread Cert.FfnXIdeal.nD Cert.FfnXIdeal.τ).loc Cert.FfnXIdeal.main_arg6))
      ∧ r.2.sem = fun _ => 0)

def quiescent_FfnXRefIdeal [hFfnXRefIdeal : Cert.FfnXRefIdeal.Facts] : Prop :=
  ∀ (m : (ℓ : Loc Cert.FfnXRefIdeal.nD Cert.FfnXRefIdeal.τ Cert.FfnXRefIdeal.sig) → Buf (Elt Ideal) ℓ) (g : Dev Cert.FfnXRefIdeal.nD → PrngReg), Pre_FfnXRefIdeal m →
    θ_run (Cert.FfnXRefIdeal.defs (F := Ideal)) (onTc (τ := Cert.FfnXRefIdeal.τ) (Cert.FfnXRefIdeal.main (F := Ideal))) ⟨m, fun _ => 0, g⟩ (fun r => (∀ c : Dev Cert.FfnXRefIdeal.nD,
      r.2.mem ((c.tc : Thread Cert.FfnXRefIdeal.nD Cert.FfnXRefIdeal.τ).loc Cert.FfnXRefIdeal.main_arg0) = m ((c.tc : Thread Cert.FfnXRefIdeal.nD Cert.FfnXRefIdeal.τ).loc Cert.FfnXRefIdeal.main_arg0)
      ∧ r.2.mem ((c.tc : Thread Cert.FfnXRefIdeal.nD Cert.FfnXRefIdeal.τ).loc Cert.FfnXRefIdeal.main_arg1) = m ((c.tc : Thread Cert.FfnXRefIdeal.nD Cert.FfnXRefIdeal.τ).loc Cert.FfnXRefIdeal.main_arg1)
      ∧ r.2.mem ((c.tc : Thread Cert.FfnXRefIdeal.nD Cert.FfnXRefIdeal.τ).loc Cert.FfnXRefIdeal.main_arg2) = m ((c.tc : Thread Cert.FfnXRefIdeal.nD Cert.FfnXRefIdeal.τ).loc Cert.FfnXRefIdeal.main_arg2)
      ∧ r.2.mem ((c.tc : Thread Cert.FfnXRefIdeal.nD Cert.FfnXRefIdeal.τ).loc Cert.FfnXRefIdeal.main_arg3) = m ((c.tc : Thread Cert.FfnXRefIdeal.nD Cert.FfnXRefIdeal.τ).loc Cert.FfnXRefIdeal.main_arg3)
      ∧ r.2.mem ((c.tc : Thread Cert.FfnXRefIdeal.nD Cert.FfnXRefIdeal.τ).loc Cert.FfnXRefIdeal.main_arg4) = m ((c.tc : Thread Cert.FfnXRefIdeal.nD Cert.FfnXRefIdeal.τ).loc Cert.FfnXRefIdeal.main_arg4)
      ∧ r.2.mem ((c.tc : Thread Cert.FfnXRefIdeal.nD Cert.FfnXRefIdeal.τ).loc Cert.FfnXRefIdeal.main_arg5) = m ((c.tc : Thread Cert.FfnXRefIdeal.nD Cert.FfnXRefIdeal.τ).loc Cert.FfnXRefIdeal.main_arg5)
      ∧ r.2.mem ((c.tc : Thread Cert.FfnXRefIdeal.nD Cert.FfnXRefIdeal.τ).loc Cert.FfnXRefIdeal.main_arg6) = m ((c.tc : Thread Cert.FfnXRefIdeal.nD Cert.FfnXRefIdeal.τ).loc Cert.FfnXRefIdeal.main_arg6))
      ∧ r.2.sem = fun _ => 0)

def quiescent_FfnXRefIdeal_pre_finite_ffn [hFfnXRefIdeal : Cert.FfnXRefIdeal.Facts] [hPre_finite_ffn : Cert.Pre_finite_ffn.Facts] : Prop :=
  ∀ (m : (ℓ : Loc Cert.FfnXRefIdeal.nD Cert.FfnXRefIdeal.τ Cert.FfnXRefIdeal.sig) → Buf (Elt Ideal) ℓ) (g : Dev Cert.FfnXRefIdeal.nD → PrngReg), Pre_FfnXRefIdeal_finite_ffn m →
    θ_run (Cert.FfnXRefIdeal.defs (F := Ideal)) (onTc (τ := Cert.FfnXRefIdeal.τ) (Cert.FfnXRefIdeal.main (F := Ideal))) ⟨m, fun _ => 0, g⟩ (fun r => (∀ c : Dev Cert.FfnXRefIdeal.nD,
      r.2.mem ((c.tc : Thread Cert.FfnXRefIdeal.nD Cert.FfnXRefIdeal.τ).loc Cert.FfnXRefIdeal.main_arg0) = m ((c.tc : Thread Cert.FfnXRefIdeal.nD Cert.FfnXRefIdeal.τ).loc Cert.FfnXRefIdeal.main_arg0)
      ∧ r.2.mem ((c.tc : Thread Cert.FfnXRefIdeal.nD Cert.FfnXRefIdeal.τ).loc Cert.FfnXRefIdeal.main_arg1) = m ((c.tc : Thread Cert.FfnXRefIdeal.nD Cert.FfnXRefIdeal.τ).loc Cert.FfnXRefIdeal.main_arg1)
      ∧ r.2.mem ((c.tc : Thread Cert.FfnXRefIdeal.nD Cert.FfnXRefIdeal.τ).loc Cert.FfnXRefIdeal.main_arg2) = m ((c.tc : Thread Cert.FfnXRefIdeal.nD Cert.FfnXRefIdeal.τ).loc Cert.FfnXRefIdeal.main_arg2)
      ∧ r.2.mem ((c.tc : Thread Cert.FfnXRefIdeal.nD Cert.FfnXRefIdeal.τ).loc Cert.FfnXRefIdeal.main_arg3) = m ((c.tc : Thread Cert.FfnXRefIdeal.nD Cert.FfnXRefIdeal.τ).loc Cert.FfnXRefIdeal.main_arg3)
      ∧ r.2.mem ((c.tc : Thread Cert.FfnXRefIdeal.nD Cert.FfnXRefIdeal.τ).loc Cert.FfnXRefIdeal.main_arg4) = m ((c.tc : Thread Cert.FfnXRefIdeal.nD Cert.FfnXRefIdeal.τ).loc Cert.FfnXRefIdeal.main_arg4)
      ∧ r.2.mem ((c.tc : Thread Cert.FfnXRefIdeal.nD Cert.FfnXRefIdeal.τ).loc Cert.FfnXRefIdeal.main_arg5) = m ((c.tc : Thread Cert.FfnXRefIdeal.nD Cert.FfnXRefIdeal.τ).loc Cert.FfnXRefIdeal.main_arg5)
      ∧ r.2.mem ((c.tc : Thread Cert.FfnXRefIdeal.nD Cert.FfnXRefIdeal.τ).loc Cert.FfnXRefIdeal.main_arg6) = m ((c.tc : Thread Cert.FfnXRefIdeal.nD Cert.FfnXRefIdeal.τ).loc Cert.FfnXRefIdeal.main_arg6))
      ∧ r.2.sem = fun _ => 0)

def quiescent_QueryW [hQueryW : Cert.QueryW.Facts] : Prop :=
  ∀ (m : (ℓ : Loc Cert.QueryW.nD Cert.QueryW.τ Cert.QueryW.sig) → Buf (Elt Bits) ℓ) (g : Dev Cert.QueryW.nD → PrngReg), Pre_QueryW m →
    θ_run (Cert.QueryW.defs (F := Bits)) (onTc (τ := Cert.QueryW.τ) (Cert.QueryW.main (F := Bits))) ⟨m, fun _ => 0, g⟩ (fun r => (∀ c : Dev Cert.QueryW.nD,
      r.2.mem ((c.tc : Thread Cert.QueryW.nD Cert.QueryW.τ).loc Cert.QueryW.main_arg0) = m ((c.tc : Thread Cert.QueryW.nD Cert.QueryW.τ).loc Cert.QueryW.main_arg0)
      ∧ r.2.mem ((c.tc : Thread Cert.QueryW.nD Cert.QueryW.τ).loc Cert.QueryW.main_arg1) = m ((c.tc : Thread Cert.QueryW.nD Cert.QueryW.τ).loc Cert.QueryW.main_arg1))
      ∧ r.2.sem = fun _ => 0)

def quiescent_QueryWIdeal [hQueryWIdeal : Cert.QueryWIdeal.Facts] : Prop :=
  ∀ (m : (ℓ : Loc Cert.QueryWIdeal.nD Cert.QueryWIdeal.τ Cert.QueryWIdeal.sig) → Buf (Elt Ideal) ℓ) (g : Dev Cert.QueryWIdeal.nD → PrngReg), Pre_QueryWIdeal m →
    θ_run (Cert.QueryWIdeal.defs (F := Ideal)) (onTc (τ := Cert.QueryWIdeal.τ) (Cert.QueryWIdeal.main (F := Ideal))) ⟨m, fun _ => 0, g⟩ (fun r => (∀ c : Dev Cert.QueryWIdeal.nD,
      r.2.mem ((c.tc : Thread Cert.QueryWIdeal.nD Cert.QueryWIdeal.τ).loc Cert.QueryWIdeal.main_arg0) = m ((c.tc : Thread Cert.QueryWIdeal.nD Cert.QueryWIdeal.τ).loc Cert.QueryWIdeal.main_arg0)
      ∧ r.2.mem ((c.tc : Thread Cert.QueryWIdeal.nD Cert.QueryWIdeal.τ).loc Cert.QueryWIdeal.main_arg1) = m ((c.tc : Thread Cert.QueryWIdeal.nD Cert.QueryWIdeal.τ).loc Cert.QueryWIdeal.main_arg1))
      ∧ r.2.sem = fun _ => 0)

def quiescent_QueryWRefIdeal [hQueryWRefIdeal : Cert.QueryWRefIdeal.Facts] : Prop :=
  ∀ (m : (ℓ : Loc Cert.QueryWRefIdeal.nD Cert.QueryWRefIdeal.τ Cert.QueryWRefIdeal.sig) → Buf (Elt Ideal) ℓ) (g : Dev Cert.QueryWRefIdeal.nD → PrngReg), Pre_QueryWRefIdeal m →
    θ_run (Cert.QueryWRefIdeal.defs (F := Ideal)) (onTc (τ := Cert.QueryWRefIdeal.τ) (Cert.QueryWRefIdeal.main (F := Ideal))) ⟨m, fun _ => 0, g⟩ (fun r => (∀ c : Dev Cert.QueryWRefIdeal.nD,
      r.2.mem ((c.tc : Thread Cert.QueryWRefIdeal.nD Cert.QueryWRefIdeal.τ).loc Cert.QueryWRefIdeal.main_arg0) = m ((c.tc : Thread Cert.QueryWRefIdeal.nD Cert.QueryWRefIdeal.τ).loc Cert.QueryWRefIdeal.main_arg0)
      ∧ r.2.mem ((c.tc : Thread Cert.QueryWRefIdeal.nD Cert.QueryWRefIdeal.τ).loc Cert.QueryWRefIdeal.main_arg1) = m ((c.tc : Thread Cert.QueryWRefIdeal.nD Cert.QueryWRefIdeal.τ).loc Cert.QueryWRefIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_GatesW [hGatesW : Cert.GatesW.Facts] : Prop :=
  ∀ (m : (ℓ : Loc Cert.GatesW.nD Cert.GatesW.τ Cert.GatesW.sig) → Buf (Elt Bits) ℓ) (g : Dev Cert.GatesW.nD → PrngReg), Pre_GatesW m →
    θ_run (Cert.GatesW.defs (F := Bits)) (onTc (τ := Cert.GatesW.τ) (Cert.GatesW.main (F := Bits))) ⟨m, fun _ => 0, g⟩ (fun r => (∀ c : Dev Cert.GatesW.nD,
      r.2.mem ((c.tc : Thread Cert.GatesW.nD Cert.GatesW.τ).loc Cert.GatesW.main_arg0) = m ((c.tc : Thread Cert.GatesW.nD Cert.GatesW.τ).loc Cert.GatesW.main_arg0)
      ∧ r.2.mem ((c.tc : Thread Cert.GatesW.nD Cert.GatesW.τ).loc Cert.GatesW.main_arg1) = m ((c.tc : Thread Cert.GatesW.nD Cert.GatesW.τ).loc Cert.GatesW.main_arg1))
      ∧ r.2.sem = fun _ => 0)

def quiescent_GatesWIdeal [hGatesWIdeal : Cert.GatesWIdeal.Facts] : Prop :=
  ∀ (m : (ℓ : Loc Cert.GatesWIdeal.nD Cert.GatesWIdeal.τ Cert.GatesWIdeal.sig) → Buf (Elt Ideal) ℓ) (g : Dev Cert.GatesWIdeal.nD → PrngReg), Pre_GatesWIdeal m →
    θ_run (Cert.GatesWIdeal.defs (F := Ideal)) (onTc (τ := Cert.GatesWIdeal.τ) (Cert.GatesWIdeal.main (F := Ideal))) ⟨m, fun _ => 0, g⟩ (fun r => (∀ c : Dev Cert.GatesWIdeal.nD,
      r.2.mem ((c.tc : Thread Cert.GatesWIdeal.nD Cert.GatesWIdeal.τ).loc Cert.GatesWIdeal.main_arg0) = m ((c.tc : Thread Cert.GatesWIdeal.nD Cert.GatesWIdeal.τ).loc Cert.GatesWIdeal.main_arg0)
      ∧ r.2.mem ((c.tc : Thread Cert.GatesWIdeal.nD Cert.GatesWIdeal.τ).loc Cert.GatesWIdeal.main_arg1) = m ((c.tc : Thread Cert.GatesWIdeal.nD Cert.GatesWIdeal.τ).loc Cert.GatesWIdeal.main_arg1))
      ∧ r.2.sem = fun _ => 0)

def quiescent_GatesWRefIdeal [hGatesWRefIdeal : Cert.GatesWRefIdeal.Facts] : Prop :=
  ∀ (m : (ℓ : Loc Cert.GatesWRefIdeal.nD Cert.GatesWRefIdeal.τ Cert.GatesWRefIdeal.sig) → Buf (Elt Ideal) ℓ) (g : Dev Cert.GatesWRefIdeal.nD → PrngReg), Pre_GatesWRefIdeal m →
    θ_run (Cert.GatesWRefIdeal.defs (F := Ideal)) (onTc (τ := Cert.GatesWRefIdeal.τ) (Cert.GatesWRefIdeal.main (F := Ideal))) ⟨m, fun _ => 0, g⟩ (fun r => (∀ c : Dev Cert.GatesWRefIdeal.nD,
      r.2.mem ((c.tc : Thread Cert.GatesWRefIdeal.nD Cert.GatesWRefIdeal.τ).loc Cert.GatesWRefIdeal.main_arg0) = m ((c.tc : Thread Cert.GatesWRefIdeal.nD Cert.GatesWRefIdeal.τ).loc Cert.GatesWRefIdeal.main_arg0)
      ∧ r.2.mem ((c.tc : Thread Cert.GatesWRefIdeal.nD Cert.GatesWRefIdeal.τ).loc Cert.GatesWRefIdeal.main_arg1) = m ((c.tc : Thread Cert.GatesWRefIdeal.nD Cert.GatesWRefIdeal.τ).loc Cert.GatesWRefIdeal.main_arg1))
      ∧ r.2.sem = fun _ => 0)

def quiescent_MemW [hMemW : Cert.MemW.Facts] : Prop :=
  ∀ (m : (ℓ : Loc Cert.MemW.nD Cert.MemW.τ Cert.MemW.sig) → Buf (Elt Bits) ℓ) (g : Dev Cert.MemW.nD → PrngReg), Pre_MemW m →
    θ_run (Cert.MemW.defs (F := Bits)) (onTc (τ := Cert.MemW.τ) (Cert.MemW.main (F := Bits))) ⟨m, fun _ => 0, g⟩ (fun r => (∀ c : Dev Cert.MemW.nD,
      r.2.mem ((c.tc : Thread Cert.MemW.nD Cert.MemW.τ).loc Cert.MemW.main_arg0) = m ((c.tc : Thread Cert.MemW.nD Cert.MemW.τ).loc Cert.MemW.main_arg0)
      ∧ r.2.mem ((c.tc : Thread Cert.MemW.nD Cert.MemW.τ).loc Cert.MemW.main_arg1) = m ((c.tc : Thread Cert.MemW.nD Cert.MemW.τ).loc Cert.MemW.main_arg1))
      ∧ r.2.sem = fun _ => 0)

def quiescent_MemWIdeal [hMemWIdeal : Cert.MemWIdeal.Facts] : Prop :=
  ∀ (m : (ℓ : Loc Cert.MemWIdeal.nD Cert.MemWIdeal.τ Cert.MemWIdeal.sig) → Buf (Elt Ideal) ℓ) (g : Dev Cert.MemWIdeal.nD → PrngReg), Pre_MemWIdeal m →
    θ_run (Cert.MemWIdeal.defs (F := Ideal)) (onTc (τ := Cert.MemWIdeal.τ) (Cert.MemWIdeal.main (F := Ideal))) ⟨m, fun _ => 0, g⟩ (fun r => (∀ c : Dev Cert.MemWIdeal.nD,
      r.2.mem ((c.tc : Thread Cert.MemWIdeal.nD Cert.MemWIdeal.τ).loc Cert.MemWIdeal.main_arg0) = m ((c.tc : Thread Cert.MemWIdeal.nD Cert.MemWIdeal.τ).loc Cert.MemWIdeal.main_arg0)
      ∧ r.2.mem ((c.tc : Thread Cert.MemWIdeal.nD Cert.MemWIdeal.τ).loc Cert.MemWIdeal.main_arg1) = m ((c.tc : Thread Cert.MemWIdeal.nD Cert.MemWIdeal.τ).loc Cert.MemWIdeal.main_arg1))
      ∧ r.2.sem = fun _ => 0)

def quiescent_MemWRefIdeal [hMemWRefIdeal : Cert.MemWRefIdeal.Facts] : Prop :=
  ∀ (m : (ℓ : Loc Cert.MemWRefIdeal.nD Cert.MemWRefIdeal.τ Cert.MemWRefIdeal.sig) → Buf (Elt Ideal) ℓ) (g : Dev Cert.MemWRefIdeal.nD → PrngReg), Pre_MemWRefIdeal m →
    θ_run (Cert.MemWRefIdeal.defs (F := Ideal)) (onTc (τ := Cert.MemWRefIdeal.τ) (Cert.MemWRefIdeal.main (F := Ideal))) ⟨m, fun _ => 0, g⟩ (fun r => (∀ c : Dev Cert.MemWRefIdeal.nD,
      r.2.mem ((c.tc : Thread Cert.MemWRefIdeal.nD Cert.MemWRefIdeal.τ).loc Cert.MemWRefIdeal.main_arg0) = m ((c.tc : Thread Cert.MemWRefIdeal.nD Cert.MemWRefIdeal.τ).loc Cert.MemWRefIdeal.main_arg0)
      ∧ r.2.mem ((c.tc : Thread Cert.MemWRefIdeal.nD Cert.MemWRefIdeal.τ).loc Cert.MemWRefIdeal.main_arg1) = m ((c.tc : Thread Cert.MemWRefIdeal.nD Cert.MemWRefIdeal.τ).loc Cert.MemWRefIdeal.main_arg1))
      ∧ r.2.sem = fun _ => 0)

def quiescent_QueryX [hQueryX : Cert.QueryX.Facts] : Prop :=
  ∀ (m : (ℓ : Loc Cert.QueryX.nD Cert.QueryX.τ Cert.QueryX.sig) → Buf (Elt Bits) ℓ) (g : Dev Cert.QueryX.nD → PrngReg), Pre_QueryX m →
    θ_run (Cert.QueryX.defs (F := Bits)) (onTc (τ := Cert.QueryX.τ) (Cert.QueryX.main (F := Bits))) ⟨m, fun _ => 0, g⟩ (fun r => (∀ c : Dev Cert.QueryX.nD,
      r.2.mem ((c.tc : Thread Cert.QueryX.nD Cert.QueryX.τ).loc Cert.QueryX.main_arg0) = m ((c.tc : Thread Cert.QueryX.nD Cert.QueryX.τ).loc Cert.QueryX.main_arg0)
      ∧ r.2.mem ((c.tc : Thread Cert.QueryX.nD Cert.QueryX.τ).loc Cert.QueryX.main_arg1) = m ((c.tc : Thread Cert.QueryX.nD Cert.QueryX.τ).loc Cert.QueryX.main_arg1)
      ∧ r.2.mem ((c.tc : Thread Cert.QueryX.nD Cert.QueryX.τ).loc Cert.QueryX.main_arg2) = m ((c.tc : Thread Cert.QueryX.nD Cert.QueryX.τ).loc Cert.QueryX.main_arg2))
      ∧ r.2.sem = fun _ => 0)

def quiescent_QueryXIdeal [hQueryXIdeal : Cert.QueryXIdeal.Facts] : Prop :=
  ∀ (m : (ℓ : Loc Cert.QueryXIdeal.nD Cert.QueryXIdeal.τ Cert.QueryXIdeal.sig) → Buf (Elt Ideal) ℓ) (g : Dev Cert.QueryXIdeal.nD → PrngReg), Pre_QueryXIdeal m →
    θ_run (Cert.QueryXIdeal.defs (F := Ideal)) (onTc (τ := Cert.QueryXIdeal.τ) (Cert.QueryXIdeal.main (F := Ideal))) ⟨m, fun _ => 0, g⟩ (fun r => (∀ c : Dev Cert.QueryXIdeal.nD,
      r.2.mem ((c.tc : Thread Cert.QueryXIdeal.nD Cert.QueryXIdeal.τ).loc Cert.QueryXIdeal.main_arg0) = m ((c.tc : Thread Cert.QueryXIdeal.nD Cert.QueryXIdeal.τ).loc Cert.QueryXIdeal.main_arg0)
      ∧ r.2.mem ((c.tc : Thread Cert.QueryXIdeal.nD Cert.QueryXIdeal.τ).loc Cert.QueryXIdeal.main_arg1) = m ((c.tc : Thread Cert.QueryXIdeal.nD Cert.QueryXIdeal.τ).loc Cert.QueryXIdeal.main_arg1)
      ∧ r.2.mem ((c.tc : Thread Cert.QueryXIdeal.nD Cert.QueryXIdeal.τ).loc Cert.QueryXIdeal.main_arg2) = m ((c.tc : Thread Cert.QueryXIdeal.nD Cert.QueryXIdeal.τ).loc Cert.QueryXIdeal.main_arg2))
      ∧ r.2.sem = fun _ => 0)

def quiescent_QueryXRefIdeal [hQueryXRefIdeal : Cert.QueryXRefIdeal.Facts] : Prop :=
  ∀ (m : (ℓ : Loc Cert.QueryXRefIdeal.nD Cert.QueryXRefIdeal.τ Cert.QueryXRefIdeal.sig) → Buf (Elt Ideal) ℓ) (g : Dev Cert.QueryXRefIdeal.nD → PrngReg), Pre_QueryXRefIdeal m →
    θ_run (Cert.QueryXRefIdeal.defs (F := Ideal)) (onTc (τ := Cert.QueryXRefIdeal.τ) (Cert.QueryXRefIdeal.main (F := Ideal))) ⟨m, fun _ => 0, g⟩ (fun r => (∀ c : Dev Cert.QueryXRefIdeal.nD,
      r.2.mem ((c.tc : Thread Cert.QueryXRefIdeal.nD Cert.QueryXRefIdeal.τ).loc Cert.QueryXRefIdeal.main_arg0) = m ((c.tc : Thread Cert.QueryXRefIdeal.nD Cert.QueryXRefIdeal.τ).loc Cert.QueryXRefIdeal.main_arg0)
      ∧ r.2.mem ((c.tc : Thread Cert.QueryXRefIdeal.nD Cert.QueryXRefIdeal.τ).loc Cert.QueryXRefIdeal.main_arg1) = m ((c.tc : Thread Cert.QueryXRefIdeal.nD Cert.QueryXRefIdeal.τ).loc Cert.QueryXRefIdeal.main_arg1)
      ∧ r.2.mem ((c.tc : Thread Cert.QueryXRefIdeal.nD Cert.QueryXRefIdeal.τ).loc Cert.QueryXRefIdeal.main_arg2) = m ((c.tc : Thread Cert.QueryXRefIdeal.nD Cert.QueryXRefIdeal.τ).loc Cert.QueryXRefIdeal.main_arg2))
      ∧ r.2.sem = fun _ => 0)

def quiescent_GatesX [hGatesX : Cert.GatesX.Facts] : Prop :=
  ∀ (m : (ℓ : Loc Cert.GatesX.nD Cert.GatesX.τ Cert.GatesX.sig) → Buf (Elt Bits) ℓ) (g : Dev Cert.GatesX.nD → PrngReg), Pre_GatesX m →
    θ_run (Cert.GatesX.defs (F := Bits)) (onTc (τ := Cert.GatesX.τ) (Cert.GatesX.main (F := Bits))) ⟨m, fun _ => 0, g⟩ (fun r => (∀ c : Dev Cert.GatesX.nD,
      r.2.mem ((c.tc : Thread Cert.GatesX.nD Cert.GatesX.τ).loc Cert.GatesX.main_arg0) = m ((c.tc : Thread Cert.GatesX.nD Cert.GatesX.τ).loc Cert.GatesX.main_arg0)
      ∧ r.2.mem ((c.tc : Thread Cert.GatesX.nD Cert.GatesX.τ).loc Cert.GatesX.main_arg1) = m ((c.tc : Thread Cert.GatesX.nD Cert.GatesX.τ).loc Cert.GatesX.main_arg1)
      ∧ r.2.mem ((c.tc : Thread Cert.GatesX.nD Cert.GatesX.τ).loc Cert.GatesX.main_arg2) = m ((c.tc : Thread Cert.GatesX.nD Cert.GatesX.τ).loc Cert.GatesX.main_arg2))
      ∧ r.2.sem = fun _ => 0)

def quiescent_GatesXIdeal [hGatesXIdeal : Cert.GatesXIdeal.Facts] : Prop :=
  ∀ (m : (ℓ : Loc Cert.GatesXIdeal.nD Cert.GatesXIdeal.τ Cert.GatesXIdeal.sig) → Buf (Elt Ideal) ℓ) (g : Dev Cert.GatesXIdeal.nD → PrngReg), Pre_GatesXIdeal m →
    θ_run (Cert.GatesXIdeal.defs (F := Ideal)) (onTc (τ := Cert.GatesXIdeal.τ) (Cert.GatesXIdeal.main (F := Ideal))) ⟨m, fun _ => 0, g⟩ (fun r => (∀ c : Dev Cert.GatesXIdeal.nD,
      r.2.mem ((c.tc : Thread Cert.GatesXIdeal.nD Cert.GatesXIdeal.τ).loc Cert.GatesXIdeal.main_arg0) = m ((c.tc : Thread Cert.GatesXIdeal.nD Cert.GatesXIdeal.τ).loc Cert.GatesXIdeal.main_arg0)
      ∧ r.2.mem ((c.tc : Thread Cert.GatesXIdeal.nD Cert.GatesXIdeal.τ).loc Cert.GatesXIdeal.main_arg1) = m ((c.tc : Thread Cert.GatesXIdeal.nD Cert.GatesXIdeal.τ).loc Cert.GatesXIdeal.main_arg1)
      ∧ r.2.mem ((c.tc : Thread Cert.GatesXIdeal.nD Cert.GatesXIdeal.τ).loc Cert.GatesXIdeal.main_arg2) = m ((c.tc : Thread Cert.GatesXIdeal.nD Cert.GatesXIdeal.τ).loc Cert.GatesXIdeal.main_arg2))
      ∧ r.2.sem = fun _ => 0)

def quiescent_GatesXRefIdeal [hGatesXRefIdeal : Cert.GatesXRefIdeal.Facts] : Prop :=
  ∀ (m : (ℓ : Loc Cert.GatesXRefIdeal.nD Cert.GatesXRefIdeal.τ Cert.GatesXRefIdeal.sig) → Buf (Elt Ideal) ℓ) (g : Dev Cert.GatesXRefIdeal.nD → PrngReg), Pre_GatesXRefIdeal m →
    θ_run (Cert.GatesXRefIdeal.defs (F := Ideal)) (onTc (τ := Cert.GatesXRefIdeal.τ) (Cert.GatesXRefIdeal.main (F := Ideal))) ⟨m, fun _ => 0, g⟩ (fun r => (∀ c : Dev Cert.GatesXRefIdeal.nD,
      r.2.mem ((c.tc : Thread Cert.GatesXRefIdeal.nD Cert.GatesXRefIdeal.τ).loc Cert.GatesXRefIdeal.main_arg0) = m ((c.tc : Thread Cert.GatesXRefIdeal.nD Cert.GatesXRefIdeal.τ).loc Cert.GatesXRefIdeal.main_arg0)
      ∧ r.2.mem ((c.tc : Thread Cert.GatesXRefIdeal.nD Cert.GatesXRefIdeal.τ).loc Cert.GatesXRefIdeal.main_arg1) = m ((c.tc : Thread Cert.GatesXRefIdeal.nD Cert.GatesXRefIdeal.τ).loc Cert.GatesXRefIdeal.main_arg1)
      ∧ r.2.mem ((c.tc : Thread Cert.GatesXRefIdeal.nD Cert.GatesXRefIdeal.τ).loc Cert.GatesXRefIdeal.main_arg2) = m ((c.tc : Thread Cert.GatesXRefIdeal.nD Cert.GatesXRefIdeal.τ).loc Cert.GatesXRefIdeal.main_arg2))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3)
      ∧ r.2.mem ((c.tc : Thread Cert.AttnOutRefIdeal.nD Cert.AttnOutRefIdeal.τ).loc Cert.AttnOutRefIdeal.main_arg4) = m ((c.tc : Thread Cert.AttnOutRefIdeal.nD Cert.AttnOutRefIdeal.τ).loc Cert.AttnOutRefIdeal.main_arg4))
      ∧ r.2.sem = fun _ => 0)

def quiescent_MixerOut [hMixerOut : Cert.MixerOut.Facts] : Prop :=
  ∀ (m : (ℓ : Loc Cert.MixerOut.nD Cert.MixerOut.τ Cert.MixerOut.sig) → Buf (Elt Bits) ℓ) (g : Dev Cert.MixerOut.nD → PrngReg), Pre_MixerOut m →
    θ_run (Cert.MixerOut.defs (F := Bits)) (onTc (τ := Cert.MixerOut.τ) (Cert.MixerOut.main (F := Bits))) ⟨m, fun _ => 0, g⟩ (fun r => (∀ c : Dev Cert.MixerOut.nD,
      r.2.mem ((c.tc : Thread Cert.MixerOut.nD Cert.MixerOut.τ).loc Cert.MixerOut.main_arg0) = m ((c.tc : Thread Cert.MixerOut.nD Cert.MixerOut.τ).loc Cert.MixerOut.main_arg0)
      ∧ r.2.mem ((c.tc : Thread Cert.MixerOut.nD Cert.MixerOut.τ).loc Cert.MixerOut.main_arg1) = m ((c.tc : Thread Cert.MixerOut.nD Cert.MixerOut.τ).loc Cert.MixerOut.main_arg1)
      ∧ r.2.mem ((c.tc : Thread Cert.MixerOut.nD Cert.MixerOut.τ).loc Cert.MixerOut.main_arg2) = m ((c.tc : Thread Cert.MixerOut.nD Cert.MixerOut.τ).loc Cert.MixerOut.main_arg2)
      ∧ r.2.mem ((c.tc : Thread Cert.MixerOut.nD Cert.MixerOut.τ).loc Cert.MixerOut.main_arg3) = m ((c.tc : Thread Cert.MixerOut.nD Cert.MixerOut.τ).loc Cert.MixerOut.main_arg3)
      ∧ r.2.mem ((c.tc : Thread Cert.MixerOut.nD Cert.MixerOut.τ).loc Cert.MixerOut.main_arg4) = m ((c.tc : Thread Cert.MixerOut.nD Cert.MixerOut.τ).loc Cert.MixerOut.main_arg4)
      ∧ r.2.mem ((c.tc : Thread Cert.MixerOut.nD Cert.MixerOut.τ).loc Cert.MixerOut.main_arg5) = m ((c.tc : Thread Cert.MixerOut.nD Cert.MixerOut.τ).loc Cert.MixerOut.main_arg5))
      ∧ r.2.sem = fun _ => 0)

def quiescent_MixerOutIdeal [hMixerOutIdeal : Cert.MixerOutIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg), Pre_MixerOutIdeal m →
    θ_run (Cert.MixerOutIdeal.defs (F := Ideal)) (onTc (τ := Cert.MixerOutIdeal.τ) (Cert.MixerOutIdeal.main (F := Ideal))) ⟨m, fun _ => 0, g⟩ (fun r => (∀ c : Dev Cert.MixerOutIdeal.nD,
      r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
      ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
      ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
      ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3)
      ∧ r.2.mem ((c.tc : Thread Cert.MixerOutIdeal.nD Cert.MixerOutIdeal.τ).loc Cert.MixerOutIdeal.main_arg4) = m ((c.tc : Thread Cert.MixerOutIdeal.nD Cert.MixerOutIdeal.τ).loc Cert.MixerOutIdeal.main_arg4)
      ∧ r.2.mem ((c.tc : Thread Cert.MixerOutIdeal.nD Cert.MixerOutIdeal.τ).loc Cert.MixerOutIdeal.main_arg5) = m ((c.tc : Thread Cert.MixerOutIdeal.nD Cert.MixerOutIdeal.τ).loc Cert.MixerOutIdeal.main_arg5))
      ∧ r.2.sem = fun _ => 0)

def quiescent_MixerOutRefIdeal [hMixerOutRefIdeal : Cert.MixerOutRefIdeal.Facts] : Prop :=
  ∀ (m : (ℓ : Loc Cert.MixerOutRefIdeal.nD Cert.MixerOutRefIdeal.τ Cert.MixerOutRefIdeal.sig) → Buf (Elt Ideal) ℓ) (g : Dev Cert.MixerOutRefIdeal.nD → PrngReg), Pre_MixerOutRefIdeal m →
    θ_run (Cert.MixerOutRefIdeal.defs (F := Ideal)) (onTc (τ := Cert.MixerOutRefIdeal.τ) (Cert.MixerOutRefIdeal.main (F := Ideal))) ⟨m, fun _ => 0, g⟩ (fun r => (∀ c : Dev Cert.MixerOutRefIdeal.nD,
      r.2.mem ((c.tc : Thread Cert.MixerOutRefIdeal.nD Cert.MixerOutRefIdeal.τ).loc Cert.MixerOutRefIdeal.main_arg0) = m ((c.tc : Thread Cert.MixerOutRefIdeal.nD Cert.MixerOutRefIdeal.τ).loc Cert.MixerOutRefIdeal.main_arg0)
      ∧ r.2.mem ((c.tc : Thread Cert.MixerOutRefIdeal.nD Cert.MixerOutRefIdeal.τ).loc Cert.MixerOutRefIdeal.main_arg1) = m ((c.tc : Thread Cert.MixerOutRefIdeal.nD Cert.MixerOutRefIdeal.τ).loc Cert.MixerOutRefIdeal.main_arg1)
      ∧ r.2.mem ((c.tc : Thread Cert.MixerOutRefIdeal.nD Cert.MixerOutRefIdeal.τ).loc Cert.MixerOutRefIdeal.main_arg2) = m ((c.tc : Thread Cert.MixerOutRefIdeal.nD Cert.MixerOutRefIdeal.τ).loc Cert.MixerOutRefIdeal.main_arg2)
      ∧ r.2.mem ((c.tc : Thread Cert.MixerOutRefIdeal.nD Cert.MixerOutRefIdeal.τ).loc Cert.MixerOutRefIdeal.main_arg3) = m ((c.tc : Thread Cert.MixerOutRefIdeal.nD Cert.MixerOutRefIdeal.τ).loc Cert.MixerOutRefIdeal.main_arg3)
      ∧ r.2.mem ((c.tc : Thread Cert.MixerOutRefIdeal.nD Cert.MixerOutRefIdeal.τ).loc Cert.MixerOutRefIdeal.main_arg4) = m ((c.tc : Thread Cert.MixerOutRefIdeal.nD Cert.MixerOutRefIdeal.τ).loc Cert.MixerOutRefIdeal.main_arg4)
      ∧ r.2.mem ((c.tc : Thread Cert.MixerOutRefIdeal.nD Cert.MixerOutRefIdeal.τ).loc Cert.MixerOutRefIdeal.main_arg5) = m ((c.tc : Thread Cert.MixerOutRefIdeal.nD Cert.MixerOutRefIdeal.τ).loc Cert.MixerOutRefIdeal.main_arg5))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_GateGrad_GateGradIdeal : Prop :=
  True

def algebraic_GateGradIdeal_GateGradRefIdeal [hGateGradIdeal : Cert.GateGradIdeal.Facts] [hGateGradRefIdeal : Cert.GateGradRefIdeal.Facts] : Prop :=
  ∀ (m : (ℓ : Loc Cert.GateGradIdeal.nD Cert.GateGradIdeal.τ Cert.GateGradIdeal.sig) → Buf (Elt Ideal) ℓ) (g : Dev Cert.GateGradIdeal.nD → PrngReg)
    (m' : (ℓ : Loc Cert.GateGradRefIdeal.nD Cert.GateGradRefIdeal.τ Cert.GateGradRefIdeal.sig) → Buf (Elt Ideal) ℓ) (g' : Dev Cert.GateGradRefIdeal.nD → PrngReg), Pre_GateGradIdeal m →
    (∀ c : Dev Cert.GateGradIdeal.nD,
      m' ((c.tc : Thread Cert.GateGradRefIdeal.nD Cert.GateGradRefIdeal.τ).loc Cert.GateGradRefIdeal.main_arg0) = m ((c.tc : Thread Cert.GateGradIdeal.nD Cert.GateGradIdeal.τ).loc Cert.GateGradIdeal.main_arg0)
      ∧ m' ((c.tc : Thread Cert.GateGradRefIdeal.nD Cert.GateGradRefIdeal.τ).loc Cert.GateGradRefIdeal.main_arg1) = m ((c.tc : Thread Cert.GateGradIdeal.nD Cert.GateGradIdeal.τ).loc Cert.GateGradIdeal.main_arg1)) →
    ∃ (v0 : (c : Dev Cert.GateGradIdeal.nD) → Buf (Elt Ideal) ((c.tc : Thread Cert.GateGradIdeal.nD Cert.GateGradIdeal.τ).loc Cert.GateGradIdeal.main_v5)),
      θ_run (Cert.GateGradIdeal.defs (F := Ideal)) (onTc (τ := Cert.GateGradIdeal.τ) (Cert.GateGradIdeal.main (F := Ideal))) ⟨m, fun _ => 0, g⟩ (fun r => ∀ c : Dev Cert.GateGradIdeal.nD,
          r.2.mem ((c.tc : Thread Cert.GateGradIdeal.nD Cert.GateGradIdeal.τ).loc Cert.GateGradIdeal.main_v5) = v0 c
          ∧ r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
          ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1))
      ∧ θ_run (Cert.GateGradRefIdeal.defs (F := Ideal)) (onTc (τ := Cert.GateGradRefIdeal.τ) (Cert.GateGradRefIdeal.main (F := Ideal))) ⟨m', fun _ => 0, g'⟩ (fun r => ∀ c : Dev Cert.GateGradRefIdeal.nD,
          r.2.mem ((c.tc : Thread Cert.GateGradRefIdeal.nD Cert.GateGradRefIdeal.τ).loc Cert.GateGradRefIdeal.main_v6) = v0 c
          ∧ r.2.mem ((c.tc : Thread Cert.GateGradRefIdeal.nD Cert.GateGradRefIdeal.τ).loc Cert.GateGradRefIdeal.main_arg0) = m' ((c.tc : Thread Cert.GateGradRefIdeal.nD Cert.GateGradRefIdeal.τ).loc Cert.GateGradRefIdeal.main_arg0)
          ∧ r.2.mem ((c.tc : Thread Cert.GateGradRefIdeal.nD Cert.GateGradRefIdeal.τ).loc Cert.GateGradRefIdeal.main_arg1) = m' ((c.tc : Thread Cert.GateGradRefIdeal.nD Cert.GateGradRefIdeal.τ).loc Cert.GateGradRefIdeal.main_arg1))

def preserves_DownGrad_DownGradIdeal : Prop :=
  True

def algebraic_DownGradIdeal_DownGradRefIdeal [hDownGradIdeal : Cert.DownGradIdeal.Facts] [hDownGradRefIdeal : Cert.DownGradRefIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradRefIdeal.nD Cert.DownGradRefIdeal.τ Cert.DownGradRefIdeal.sig) → Buf (Elt Ideal) ℓ) (g' : Dev Cert.DownGradRefIdeal.nD → PrngReg), Pre_DownGradIdeal m →
    (∀ c : Dev Cert.DownGradIdeal.nD,
      m' ((c.tc : Thread Cert.DownGradRefIdeal.nD Cert.DownGradRefIdeal.τ).loc Cert.DownGradRefIdeal.main_arg0) = m ((c.tc : Thread Cert.DownGradIdeal.nD Cert.DownGradIdeal.τ).loc Cert.DownGradIdeal.main_arg0)
      ∧ m' ((c.tc : Thread Cert.DownGradRefIdeal.nD Cert.DownGradRefIdeal.τ).loc Cert.DownGradRefIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v5)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v5) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradRefIdeal.defs (F := Ideal)) (onTc (τ := Cert.DownGradRefIdeal.τ) (Cert.DownGradRefIdeal.main (F := Ideal))) ⟨m', fun _ => 0, g'⟩ (fun r => ∀ c : Dev Cert.DownGradRefIdeal.nD,
          r.2.mem ((c.tc : Thread Cert.DownGradRefIdeal.nD Cert.DownGradRefIdeal.τ).loc Cert.DownGradRefIdeal.main_v5) = v0 c
          ∧ r.2.mem ((c.tc : Thread Cert.DownGradRefIdeal.nD Cert.DownGradRefIdeal.τ).loc Cert.DownGradRefIdeal.main_arg0) = m' ((c.tc : Thread Cert.DownGradRefIdeal.nD Cert.DownGradRefIdeal.τ).loc Cert.DownGradRefIdeal.main_arg0)
          ∧ r.2.mem ((c.tc : Thread Cert.DownGradRefIdeal.nD Cert.DownGradRefIdeal.τ).loc Cert.DownGradRefIdeal.main_arg1) = m' ((c.tc : Thread Cert.DownGradRefIdeal.nD Cert.DownGradRefIdeal.τ).loc Cert.DownGradRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v16_0)) (v1 : (c : Dev Cert.FfnIdeal.nD) → Buf (Elt Ideal) ((c.tc : Thread Cert.FfnIdeal.nD Cert.FfnIdeal.τ).loc Cert.FfnIdeal.main_v16_1)) (v2 : (c : Dev Cert.FfnIdeal.nD) → Buf (Elt Ideal) ((c.tc : Thread Cert.FfnIdeal.nD Cert.FfnIdeal.τ).loc Cert.FfnIdeal.main_v16_2)) (v3 : (c : Dev Cert.FfnIdeal.nD) → Buf (Elt Ideal) ((c.tc : Thread Cert.FfnIdeal.nD Cert.FfnIdeal.τ).loc Cert.FfnIdeal.main_v16_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v16_0) = v0 c
          ∧ r.2.mem ((c.tc : Thread Cert.FfnIdeal.nD Cert.FfnIdeal.τ).loc Cert.FfnIdeal.main_v16_1) = v1 c
          ∧ r.2.mem ((c.tc : Thread Cert.FfnIdeal.nD Cert.FfnIdeal.τ).loc Cert.FfnIdeal.main_v16_2) = v2 c
          ∧ r.2.mem ((c.tc : Thread Cert.FfnIdeal.nD Cert.FfnIdeal.τ).loc Cert.FfnIdeal.main_v16_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v9) = v0 c
          ∧ r.2.mem ((c.tc : Thread Cert.FfnRefIdeal.nD Cert.FfnRefIdeal.τ).loc Cert.FfnRefIdeal.main_v33) = v1 c
          ∧ r.2.mem ((c.tc : Thread Cert.FfnRefIdeal.nD Cert.FfnRefIdeal.τ).loc Cert.FfnRefIdeal.main_v38) = v2 c
          ∧ r.2.mem ((c.tc : Thread Cert.FfnRefIdeal.nD Cert.FfnRefIdeal.τ).loc Cert.FfnRefIdeal.main_v43) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_ProjW_ProjWIdeal : Prop :=
  True

def algebraic_ProjWIdeal_ProjWRefIdeal [hProjWIdeal : Cert.ProjWIdeal.Facts] [hProjWRefIdeal : Cert.ProjWRefIdeal.Facts] : Prop :=
  ∀ (m : (ℓ : Loc Cert.ProjWIdeal.nD Cert.ProjWIdeal.τ Cert.ProjWIdeal.sig) → Buf (Elt Ideal) ℓ) (g : Dev Cert.ProjWIdeal.nD → PrngReg)
    (m' : (ℓ : Loc Cert.ProjWRefIdeal.nD Cert.ProjWRefIdeal.τ Cert.ProjWRefIdeal.sig) → Buf (Elt Ideal) ℓ) (g' : Dev Cert.ProjWRefIdeal.nD → PrngReg), Pre_ProjWIdeal m →
    (∀ c : Dev Cert.ProjWIdeal.nD,
      m' ((c.tc : Thread Cert.ProjWRefIdeal.nD Cert.ProjWRefIdeal.τ).loc Cert.ProjWRefIdeal.main_arg0) = m ((c.tc : Thread Cert.ProjWIdeal.nD Cert.ProjWIdeal.τ).loc Cert.ProjWIdeal.main_arg0)
      ∧ m' ((c.tc : Thread Cert.ProjWRefIdeal.nD Cert.ProjWRefIdeal.τ).loc Cert.ProjWRefIdeal.main_arg1) = m ((c.tc : Thread Cert.ProjWIdeal.nD Cert.ProjWIdeal.τ).loc Cert.ProjWIdeal.main_arg1)) →
    ∃ (v0 : (c : Dev Cert.ProjWIdeal.nD) → Buf (Elt Ideal) ((c.tc : Thread Cert.ProjWIdeal.nD Cert.ProjWIdeal.τ).loc Cert.ProjWIdeal.main_v1)),
      θ_run (Cert.ProjWIdeal.defs (F := Ideal)) (onTc (τ := Cert.ProjWIdeal.τ) (Cert.ProjWIdeal.main (F := Ideal))) ⟨m, fun _ => 0, g⟩ (fun r => ∀ c : Dev Cert.ProjWIdeal.nD,
          r.2.mem ((c.tc : Thread Cert.ProjWIdeal.nD Cert.ProjWIdeal.τ).loc Cert.ProjWIdeal.main_v1) = v0 c
          ∧ r.2.mem ((c.tc : Thread Cert.ProjWIdeal.nD Cert.ProjWIdeal.τ).loc Cert.ProjWIdeal.main_arg0) = m ((c.tc : Thread Cert.ProjWIdeal.nD Cert.ProjWIdeal.τ).loc Cert.ProjWIdeal.main_arg0)
          ∧ r.2.mem ((c.tc : Thread Cert.ProjWIdeal.nD Cert.ProjWIdeal.τ).loc Cert.ProjWIdeal.main_arg1) = m ((c.tc : Thread Cert.ProjWIdeal.nD Cert.ProjWIdeal.τ).loc Cert.ProjWIdeal.main_arg1))
      ∧ θ_run (Cert.ProjWRefIdeal.defs (F := Ideal)) (onTc (τ := Cert.ProjWRefIdeal.τ) (Cert.ProjWRefIdeal.main (F := Ideal))) ⟨m', fun _ => 0, g'⟩ (fun r => ∀ c : Dev Cert.ProjWRefIdeal.nD,
          r.2.mem ((c.tc : Thread Cert.ProjWRefIdeal.nD Cert.ProjWRefIdeal.τ).loc Cert.ProjWRefIdeal.main_v4) = v0 c
          ∧ r.2.mem ((c.tc : Thread Cert.ProjWRefIdeal.nD Cert.ProjWRefIdeal.τ).loc Cert.ProjWRefIdeal.main_arg0) = m' ((c.tc : Thread Cert.ProjWRefIdeal.nD Cert.ProjWRefIdeal.τ).loc Cert.ProjWRefIdeal.main_arg0)
          ∧ r.2.mem ((c.tc : Thread Cert.ProjWRefIdeal.nD Cert.ProjWRefIdeal.τ).loc Cert.ProjWRefIdeal.main_arg1) = m' ((c.tc : Thread Cert.ProjWRefIdeal.nD Cert.ProjWRefIdeal.τ).loc Cert.ProjWRefIdeal.main_arg1))

def preserves_ProjX_ProjXIdeal : Prop :=
  True

def algebraic_ProjXIdeal_ProjXRefIdeal [hProjXIdeal : Cert.ProjXIdeal.Facts] [hProjXRefIdeal : Cert.ProjXRefIdeal.Facts] : Prop :=
  ∀ (m : (ℓ : Loc Cert.ProjXIdeal.nD Cert.ProjXIdeal.τ Cert.ProjXIdeal.sig) → Buf (Elt Ideal) ℓ) (g : Dev Cert.ProjXIdeal.nD → PrngReg)
    (m' : (ℓ : Loc Cert.ProjXRefIdeal.nD Cert.ProjXRefIdeal.τ Cert.ProjXRefIdeal.sig) → Buf (Elt Ideal) ℓ) (g' : Dev Cert.ProjXRefIdeal.nD → PrngReg), Pre_ProjXIdeal m →
    (∀ c : Dev Cert.ProjXIdeal.nD,
      m' ((c.tc : Thread Cert.ProjXRefIdeal.nD Cert.ProjXRefIdeal.τ).loc Cert.ProjXRefIdeal.main_arg0) = m ((c.tc : Thread Cert.ProjXIdeal.nD Cert.ProjXIdeal.τ).loc Cert.ProjXIdeal.main_arg0)
      ∧ m' ((c.tc : Thread Cert.ProjXRefIdeal.nD Cert.ProjXRefIdeal.τ).loc Cert.ProjXRefIdeal.main_arg1) = m ((c.tc : Thread Cert.ProjXIdeal.nD Cert.ProjXIdeal.τ).loc Cert.ProjXIdeal.main_arg1)
      ∧ m' ((c.tc : Thread Cert.ProjXRefIdeal.nD Cert.ProjXRefIdeal.τ).loc Cert.ProjXRefIdeal.main_arg2) = m ((c.tc : Thread Cert.ProjXIdeal.nD Cert.ProjXIdeal.τ).loc Cert.ProjXIdeal.main_arg2)) →
    ∃ (v0 : (c : Dev Cert.ProjXIdeal.nD) → Buf (Elt Ideal) ((c.tc : Thread Cert.ProjXIdeal.nD Cert.ProjXIdeal.τ).loc Cert.ProjXIdeal.main_v2)),
      θ_run (Cert.ProjXIdeal.defs (F := Ideal)) (onTc (τ := Cert.ProjXIdeal.τ) (Cert.ProjXIdeal.main (F := Ideal))) ⟨m, fun _ => 0, g⟩ (fun r => ∀ c : Dev Cert.ProjXIdeal.nD,
          r.2.mem ((c.tc : Thread Cert.ProjXIdeal.nD Cert.ProjXIdeal.τ).loc Cert.ProjXIdeal.main_v2) = v0 c
          ∧ r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
          ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1)
          ∧ r.2.mem ((c.tc : Thread Cert.ProjXIdeal.nD Cert.ProjXIdeal.τ).loc Cert.ProjXIdeal.main_arg2) = m ((c.tc : Thread Cert.ProjXIdeal.nD Cert.ProjXIdeal.τ).loc Cert.ProjXIdeal.main_arg2))
      ∧ θ_run (Cert.ProjXRefIdeal.defs (F := Ideal)) (onTc (τ := Cert.ProjXRefIdeal.τ) (Cert.ProjXRefIdeal.main (F := Ideal))) ⟨m', fun _ => 0, g'⟩ (fun r => ∀ c : Dev Cert.ProjXRefIdeal.nD,
          r.2.mem ((c.tc : Thread Cert.ProjXRefIdeal.nD Cert.ProjXRefIdeal.τ).loc Cert.ProjXRefIdeal.main_v7) = v0 c
          ∧ r.2.mem ((c.tc : Thread Cert.ProjXRefIdeal.nD Cert.ProjXRefIdeal.τ).loc Cert.ProjXRefIdeal.main_arg0) = m' ((c.tc : Thread Cert.ProjXRefIdeal.nD Cert.ProjXRefIdeal.τ).loc Cert.ProjXRefIdeal.main_arg0)
          ∧ r.2.mem ((c.tc : Thread Cert.ProjXRefIdeal.nD Cert.ProjXRefIdeal.τ).loc Cert.ProjXRefIdeal.main_arg1) = m' ((c.tc : Thread Cert.ProjXRefIdeal.nD Cert.ProjXRefIdeal.τ).loc Cert.ProjXRefIdeal.main_arg1)
          ∧ r.2.mem ((c.tc : Thread Cert.ProjXRefIdeal.nD Cert.ProjXRefIdeal.τ).loc Cert.ProjXRefIdeal.main_arg2) = m' ((c.tc : Thread Cert.ProjXRefIdeal.nD Cert.ProjXRefIdeal.τ).loc Cert.ProjXRefIdeal.main_arg2))

def preserves_LnGrad_LnGradIdeal : Prop :=
  True

def algebraic_LnGradIdeal_LnGradRefIdeal_pre_finite_ln [hLnGradIdeal : Cert.LnGradIdeal.Facts] [hLnGradRefIdeal : Cert.LnGradRefIdeal.Facts] [hPre_finite_ln : Cert.Pre_finite_ln.Facts] : Prop :=
  ∀ (m : (ℓ : Loc Cert.LnGradIdeal.nD Cert.LnGradIdeal.τ Cert.LnGradIdeal.sig) → Buf (Elt Ideal) ℓ) (g : Dev Cert.LnGradIdeal.nD → PrngReg)
    (m' : (ℓ : Loc Cert.LnGradRefIdeal.nD Cert.LnGradRefIdeal.τ Cert.LnGradRefIdeal.sig) → Buf (Elt Ideal) ℓ) (g' : Dev Cert.LnGradRefIdeal.nD → PrngReg), Pre_LnGradIdeal_finite_ln m →
    (∀ c : Dev Cert.LnGradIdeal.nD,
      m' ((c.tc : Thread Cert.LnGradRefIdeal.nD Cert.LnGradRefIdeal.τ).loc Cert.LnGradRefIdeal.main_arg0) = m ((c.tc : Thread Cert.LnGradIdeal.nD Cert.LnGradIdeal.τ).loc Cert.LnGradIdeal.main_arg0)
      ∧ m' ((c.tc : Thread Cert.LnGradRefIdeal.nD Cert.LnGradRefIdeal.τ).loc Cert.LnGradRefIdeal.main_arg1) = m ((c.tc : Thread Cert.LnGradIdeal.nD Cert.LnGradIdeal.τ).loc Cert.LnGradIdeal.main_arg1)
      ∧ m' ((c.tc : Thread Cert.LnGradRefIdeal.nD Cert.LnGradRefIdeal.τ).loc Cert.LnGradRefIdeal.main_arg2) = m ((c.tc : Thread Cert.LnGradIdeal.nD Cert.LnGradIdeal.τ).loc Cert.LnGradIdeal.main_arg2)
      ∧ m' ((c.tc : Thread Cert.LnGradRefIdeal.nD Cert.LnGradRefIdeal.τ).loc Cert.LnGradRefIdeal.main_arg3) = m ((c.tc : Thread Cert.LnGradIdeal.nD Cert.LnGradIdeal.τ).loc Cert.LnGradIdeal.main_arg3)
      ∧ m' ((c.tc : Thread Cert.LnGradRefIdeal.nD Cert.LnGradRefIdeal.τ).loc Cert.LnGradRefIdeal.main_arg4) = m ((c.tc : Thread Cert.LnGradIdeal.nD Cert.LnGradIdeal.τ).loc Cert.LnGradIdeal.main_arg4)) →
    ∃ (v0 : (c : Dev Cert.LnGradIdeal.nD) → Buf (Elt Ideal) ((c.tc : Thread Cert.LnGradIdeal.nD Cert.LnGradIdeal.τ).loc Cert.LnGradIdeal.main_v2_0)) (v1 : (c : Dev Cert.LnGradIdeal.nD) → Buf (Elt Ideal) ((c.tc : Thread Cert.LnGradIdeal.nD Cert.LnGradIdeal.τ).loc Cert.LnGradIdeal.main_v2_1)) (v2 : (c : Dev Cert.LnGradIdeal.nD) → Buf (Elt Ideal) ((c.tc : Thread Cert.LnGradIdeal.nD Cert.LnGradIdeal.τ).loc Cert.LnGradIdeal.main_v2_2)) (v3 : (c : Dev Cert.LnGradIdeal.nD) → Buf (Elt Ideal) ((c.tc : Thread Cert.LnGradIdeal.nD Cert.LnGradIdeal.τ).loc Cert.LnGradIdeal.main_v2_3)),
      θ_run (Cert.LnGradIdeal.defs (F := Ideal)) (onTc (τ := Cert.LnGradIdeal.τ) (Cert.LnGradIdeal.main (F := Ideal))) ⟨m, fun _ => 0, g⟩ (fun r => ∀ c : Dev Cert.LnGradIdeal.nD,
          r.2.mem ((c.tc : Thread Cert.LnGradIdeal.nD Cert.LnGradIdeal.τ).loc Cert.LnGradIdeal.main_v2_0) = v0 c
          ∧ r.2.mem ((c.tc : Thread Cert.LnGradIdeal.nD Cert.LnGradIdeal.τ).loc Cert.LnGradIdeal.main_v2_1) = v1 c
          ∧ r.2.mem ((c.tc : Thread Cert.LnGradIdeal.nD Cert.LnGradIdeal.τ).loc Cert.LnGradIdeal.main_v2_2) = v2 c
          ∧ r.2.mem ((c.tc : Thread Cert.LnGradIdeal.nD Cert.LnGradIdeal.τ).loc Cert.LnGradIdeal.main_v2_3) = v3 c
          ∧ r.2.mem ((c.tc : Thread Cert.LnGradIdeal.nD Cert.LnGradIdeal.τ).loc Cert.LnGradIdeal.main_arg0) = m ((c.tc : Thread Cert.LnGradIdeal.nD Cert.LnGradIdeal.τ).loc Cert.LnGradIdeal.main_arg0)
          ∧ r.2.mem ((c.tc : Thread Cert.LnGradIdeal.nD Cert.LnGradIdeal.τ).loc Cert.LnGradIdeal.main_arg1) = m ((c.tc : Thread Cert.LnGradIdeal.nD Cert.LnGradIdeal.τ).loc Cert.LnGradIdeal.main_arg1)
          ∧ r.2.mem ((c.tc : Thread Cert.LnGradIdeal.nD Cert.LnGradIdeal.τ).loc Cert.LnGradIdeal.main_arg2) = m ((c.tc : Thread Cert.LnGradIdeal.nD Cert.LnGradIdeal.τ).loc Cert.LnGradIdeal.main_arg2)
          ∧ r.2.mem ((c.tc : Thread Cert.LnGradIdeal.nD Cert.LnGradIdeal.τ).loc Cert.LnGradIdeal.main_arg3) = m ((c.tc : Thread Cert.LnGradIdeal.nD Cert.LnGradIdeal.τ).loc Cert.LnGradIdeal.main_arg3)
          ∧ r.2.mem ((c.tc : Thread Cert.LnGradIdeal.nD Cert.LnGradIdeal.τ).loc Cert.LnGradIdeal.main_arg4) = m ((c.tc : Thread Cert.LnGradIdeal.nD Cert.LnGradIdeal.τ).loc Cert.LnGradIdeal.main_arg4))
      ∧ θ_run (Cert.LnGradRefIdeal.defs (F := Ideal)) (onTc (τ := Cert.LnGradRefIdeal.τ) (Cert.LnGradRefIdeal.main (F := Ideal))) ⟨m', fun _ => 0, g'⟩ (fun r => ∀ c : Dev Cert.LnGradRefIdeal.nD,
          r.2.mem ((c.tc : Thread Cert.LnGradRefIdeal.nD Cert.LnGradRefIdeal.τ).loc Cert.LnGradRefIdeal.main_v62) = v0 c
          ∧ r.2.mem ((c.tc : Thread Cert.LnGradRefIdeal.nD Cert.LnGradRefIdeal.τ).loc Cert.LnGradRefIdeal.main_v65) = v1 c
          ∧ r.2.mem ((c.tc : Thread Cert.LnGradRefIdeal.nD Cert.LnGradRefIdeal.τ).loc Cert.LnGradRefIdeal.main_v66) = v2 c
          ∧ r.2.mem ((c.tc : Thread Cert.LnGradRefIdeal.nD Cert.LnGradRefIdeal.τ).loc Cert.LnGradRefIdeal.main_v67) = v3 c
          ∧ r.2.mem ((c.tc : Thread Cert.LnGradRefIdeal.nD Cert.LnGradRefIdeal.τ).loc Cert.LnGradRefIdeal.main_arg0) = m' ((c.tc : Thread Cert.LnGradRefIdeal.nD Cert.LnGradRefIdeal.τ).loc Cert.LnGradRefIdeal.main_arg0)
          ∧ r.2.mem ((c.tc : Thread Cert.LnGradRefIdeal.nD Cert.LnGradRefIdeal.τ).loc Cert.LnGradRefIdeal.main_arg1) = m' ((c.tc : Thread Cert.LnGradRefIdeal.nD Cert.LnGradRefIdeal.τ).loc Cert.LnGradRefIdeal.main_arg1)
          ∧ r.2.mem ((c.tc : Thread Cert.LnGradRefIdeal.nD Cert.LnGradRefIdeal.τ).loc Cert.LnGradRefIdeal.main_arg2) = m' ((c.tc : Thread Cert.LnGradRefIdeal.nD Cert.LnGradRefIdeal.τ).loc Cert.LnGradRefIdeal.main_arg2)
          ∧ r.2.mem ((c.tc : Thread Cert.LnGradRefIdeal.nD Cert.LnGradRefIdeal.τ).loc Cert.LnGradRefIdeal.main_arg3) = m' ((c.tc : Thread Cert.LnGradRefIdeal.nD Cert.LnGradRefIdeal.τ).loc Cert.LnGradRefIdeal.main_arg3)
          ∧ r.2.mem ((c.tc : Thread Cert.LnGradRefIdeal.nD Cert.LnGradRefIdeal.τ).loc Cert.LnGradRefIdeal.main_arg4) = m' ((c.tc : Thread Cert.LnGradRefIdeal.nD Cert.LnGradRefIdeal.τ).loc Cert.LnGradRefIdeal.main_arg4))

def preserves_FfnX_FfnXIdeal : Prop :=
  True

def algebraic_FfnXIdeal_FfnXRefIdeal_pre_finite_ffn [hFfnXIdeal : Cert.FfnXIdeal.Facts] [hFfnXRefIdeal : Cert.FfnXRefIdeal.Facts] [hPre_finite_ffn : Cert.Pre_finite_ffn.Facts] : Prop :=
  ∀ (m : (ℓ : Loc Cert.FfnXIdeal.nD Cert.FfnXIdeal.τ Cert.FfnXIdeal.sig) → Buf (Elt Ideal) ℓ) (g : Dev Cert.FfnXIdeal.nD → PrngReg)
    (m' : (ℓ : Loc Cert.FfnXRefIdeal.nD Cert.FfnXRefIdeal.τ Cert.FfnXRefIdeal.sig) → Buf (Elt Ideal) ℓ) (g' : Dev Cert.FfnXRefIdeal.nD → PrngReg), Pre_FfnXIdeal_finite_ffn m →
    (∀ c : Dev Cert.FfnXIdeal.nD,
      m' ((c.tc : Thread Cert.FfnXRefIdeal.nD Cert.FfnXRefIdeal.τ).loc Cert.FfnXRefIdeal.main_arg0) = m ((c.tc : Thread Cert.FfnXIdeal.nD Cert.FfnXIdeal.τ).loc Cert.FfnXIdeal.main_arg0)
      ∧ m' ((c.tc : Thread Cert.FfnXRefIdeal.nD Cert.FfnXRefIdeal.τ).loc Cert.FfnXRefIdeal.main_arg1) = m ((c.tc : Thread Cert.FfnXIdeal.nD Cert.FfnXIdeal.τ).loc Cert.FfnXIdeal.main_arg1)
      ∧ m' ((c.tc : Thread Cert.FfnXRefIdeal.nD Cert.FfnXRefIdeal.τ).loc Cert.FfnXRefIdeal.main_arg2) = m ((c.tc : Thread Cert.FfnXIdeal.nD Cert.FfnXIdeal.τ).loc Cert.FfnXIdeal.main_arg2)
      ∧ m' ((c.tc : Thread Cert.FfnXRefIdeal.nD Cert.FfnXRefIdeal.τ).loc Cert.FfnXRefIdeal.main_arg3) = m ((c.tc : Thread Cert.FfnXIdeal.nD Cert.FfnXIdeal.τ).loc Cert.FfnXIdeal.main_arg3)
      ∧ m' ((c.tc : Thread Cert.FfnXRefIdeal.nD Cert.FfnXRefIdeal.τ).loc Cert.FfnXRefIdeal.main_arg4) = m ((c.tc : Thread Cert.FfnXIdeal.nD Cert.FfnXIdeal.τ).loc Cert.FfnXIdeal.main_arg4)
      ∧ m' ((c.tc : Thread Cert.FfnXRefIdeal.nD Cert.FfnXRefIdeal.τ).loc Cert.FfnXRefIdeal.main_arg5) = m ((c.tc : Thread Cert.FfnXIdeal.nD Cert.FfnXIdeal.τ).loc Cert.FfnXIdeal.main_arg5)
      ∧ m' ((c.tc : Thread Cert.FfnXRefIdeal.nD Cert.FfnXRefIdeal.τ).loc Cert.FfnXRefIdeal.main_arg6) = m ((c.tc : Thread Cert.FfnXIdeal.nD Cert.FfnXIdeal.τ).loc Cert.FfnXIdeal.main_arg6)) →
    ∃ (v0 : (c : Dev Cert.FfnXIdeal.nD) → Buf (Elt Ideal) ((c.tc : Thread Cert.FfnXIdeal.nD Cert.FfnXIdeal.τ).loc Cert.FfnXIdeal.main_v33_0)) (v1 : (c : Dev Cert.FfnXIdeal.nD) → Buf (Elt Ideal) ((c.tc : Thread Cert.FfnXIdeal.nD Cert.FfnXIdeal.τ).loc Cert.FfnXIdeal.main_v33_1)) (v2 : (c : Dev Cert.FfnXIdeal.nD) → Buf (Elt Ideal) ((c.tc : Thread Cert.FfnXIdeal.nD Cert.FfnXIdeal.τ).loc Cert.FfnXIdeal.main_v33_2)) (v3 : (c : Dev Cert.FfnXIdeal.nD) → Buf (Elt Ideal) ((c.tc : Thread Cert.FfnXIdeal.nD Cert.FfnXIdeal.τ).loc Cert.FfnXIdeal.main_v33_3)) (v4 : (c : Dev Cert.FfnXIdeal.nD) → Buf (Elt Ideal) ((c.tc : Thread Cert.FfnXIdeal.nD Cert.FfnXIdeal.τ).loc Cert.FfnXIdeal.main_v33_4)) (v5 : (c : Dev Cert.FfnXIdeal.nD) → Buf (Elt Ideal) ((c.tc : Thread Cert.FfnXIdeal.nD Cert.FfnXIdeal.τ).loc Cert.FfnXIdeal.main_v33_5)) (v6 : (c : Dev Cert.FfnXIdeal.nD) → Buf (Elt Ideal) ((c.tc : Thread Cert.FfnXIdeal.nD Cert.FfnXIdeal.τ).loc Cert.FfnXIdeal.main_v33_6)) (v7 : (c : Dev Cert.FfnXIdeal.nD) → Buf (Elt Ideal) ((c.tc : Thread Cert.FfnXIdeal.nD Cert.FfnXIdeal.τ).loc Cert.FfnXIdeal.main_v33_7)),
      θ_run (Cert.FfnXIdeal.defs (F := Ideal)) (onTc (τ := Cert.FfnXIdeal.τ) (Cert.FfnXIdeal.main (F := Ideal))) ⟨m, fun _ => 0, g⟩ (fun r => ∀ c : Dev Cert.FfnXIdeal.nD,
          r.2.mem ((c.tc : Thread Cert.FfnXIdeal.nD Cert.FfnXIdeal.τ).loc Cert.FfnXIdeal.main_v33_0) = v0 c
          ∧ r.2.mem ((c.tc : Thread Cert.FfnXIdeal.nD Cert.FfnXIdeal.τ).loc Cert.FfnXIdeal.main_v33_1) = v1 c
          ∧ r.2.mem ((c.tc : Thread Cert.FfnXIdeal.nD Cert.FfnXIdeal.τ).loc Cert.FfnXIdeal.main_v33_2) = v2 c
          ∧ r.2.mem ((c.tc : Thread Cert.FfnXIdeal.nD Cert.FfnXIdeal.τ).loc Cert.FfnXIdeal.main_v33_3) = v3 c
          ∧ r.2.mem ((c.tc : Thread Cert.FfnXIdeal.nD Cert.FfnXIdeal.τ).loc Cert.FfnXIdeal.main_v33_4) = v4 c
          ∧ r.2.mem ((c.tc : Thread Cert.FfnXIdeal.nD Cert.FfnXIdeal.τ).loc Cert.FfnXIdeal.main_v33_5) = v5 c
          ∧ r.2.mem ((c.tc : Thread Cert.FfnXIdeal.nD Cert.FfnXIdeal.τ).loc Cert.FfnXIdeal.main_v33_6) = v6 c
          ∧ r.2.mem ((c.tc : Thread Cert.FfnXIdeal.nD Cert.FfnXIdeal.τ).loc Cert.FfnXIdeal.main_v33_7) = v7 c
          ∧ r.2.mem ((c.tc : Thread Cert.FfnXIdeal.nD Cert.FfnXIdeal.τ).loc Cert.FfnXIdeal.main_arg0) = m ((c.tc : Thread Cert.FfnXIdeal.nD Cert.FfnXIdeal.τ).loc Cert.FfnXIdeal.main_arg0)
          ∧ r.2.mem ((c.tc : Thread Cert.FfnXIdeal.nD Cert.FfnXIdeal.τ).loc Cert.FfnXIdeal.main_arg1) = m ((c.tc : Thread Cert.FfnXIdeal.nD Cert.FfnXIdeal.τ).loc Cert.FfnXIdeal.main_arg1)
          ∧ r.2.mem ((c.tc : Thread Cert.FfnXIdeal.nD Cert.FfnXIdeal.τ).loc Cert.FfnXIdeal.main_arg2) = m ((c.tc : Thread Cert.FfnXIdeal.nD Cert.FfnXIdeal.τ).loc Cert.FfnXIdeal.main_arg2)
          ∧ r.2.mem ((c.tc : Thread Cert.FfnXIdeal.nD Cert.FfnXIdeal.τ).loc Cert.FfnXIdeal.main_arg3) = m ((c.tc : Thread Cert.FfnXIdeal.nD Cert.FfnXIdeal.τ).loc Cert.FfnXIdeal.main_arg3)
          ∧ r.2.mem ((c.tc : Thread Cert.FfnXIdeal.nD Cert.FfnXIdeal.τ).loc Cert.FfnXIdeal.main_arg4) = m ((c.tc : Thread Cert.FfnXIdeal.nD Cert.FfnXIdeal.τ).loc Cert.FfnXIdeal.main_arg4)
          ∧ r.2.mem ((c.tc : Thread Cert.FfnXIdeal.nD Cert.FfnXIdeal.τ).loc Cert.FfnXIdeal.main_arg5) = m ((c.tc : Thread Cert.FfnXIdeal.nD Cert.FfnXIdeal.τ).loc Cert.FfnXIdeal.main_arg5)
          ∧ r.2.mem ((c.tc : Thread Cert.FfnXIdeal.nD Cert.FfnXIdeal.τ).loc Cert.FfnXIdeal.main_arg6) = m ((c.tc : Thread Cert.FfnXIdeal.nD Cert.FfnXIdeal.τ).loc Cert.FfnXIdeal.main_arg6))
      ∧ θ_run (Cert.FfnXRefIdeal.defs (F := Ideal)) (onTc (τ := Cert.FfnXRefIdeal.τ) (Cert.FfnXRefIdeal.main (F := Ideal))) ⟨m', fun _ => 0, g'⟩ (fun r => ∀ c : Dev Cert.FfnXRefIdeal.nD,
          r.2.mem ((c.tc : Thread Cert.FfnXRefIdeal.nD Cert.FfnXRefIdeal.τ).loc Cert.FfnXRefIdeal.main_v89) = v0 c
          ∧ r.2.mem ((c.tc : Thread Cert.FfnXRefIdeal.nD Cert.FfnXRefIdeal.τ).loc Cert.FfnXRefIdeal.main_v94) = v1 c
          ∧ r.2.mem ((c.tc : Thread Cert.FfnXRefIdeal.nD Cert.FfnXRefIdeal.τ).loc Cert.FfnXRefIdeal.main_v95) = v2 c
          ∧ r.2.mem ((c.tc : Thread Cert.FfnXRefIdeal.nD Cert.FfnXRefIdeal.τ).loc Cert.FfnXRefIdeal.main_v99) = v3 c
          ∧ r.2.mem ((c.tc : Thread Cert.FfnXRefIdeal.nD Cert.FfnXRefIdeal.τ).loc Cert.FfnXRefIdeal.main_v103) = v4 c
          ∧ r.2.mem ((c.tc : Thread Cert.FfnXRefIdeal.nD Cert.FfnXRefIdeal.τ).loc Cert.FfnXRefIdeal.main_v107) = v5 c
          ∧ r.2.mem ((c.tc : Thread Cert.FfnXRefIdeal.nD Cert.FfnXRefIdeal.τ).loc Cert.FfnXRefIdeal.main_v108) = v6 c
          ∧ r.2.mem ((c.tc : Thread Cert.FfnXRefIdeal.nD Cert.FfnXRefIdeal.τ).loc Cert.FfnXRefIdeal.main_v109) = v7 c
          ∧ r.2.mem ((c.tc : Thread Cert.FfnXRefIdeal.nD Cert.FfnXRefIdeal.τ).loc Cert.FfnXRefIdeal.main_arg0) = m' ((c.tc : Thread Cert.FfnXRefIdeal.nD Cert.FfnXRefIdeal.τ).loc Cert.FfnXRefIdeal.main_arg0)
          ∧ r.2.mem ((c.tc : Thread Cert.FfnXRefIdeal.nD Cert.FfnXRefIdeal.τ).loc Cert.FfnXRefIdeal.main_arg1) = m' ((c.tc : Thread Cert.FfnXRefIdeal.nD Cert.FfnXRefIdeal.τ).loc Cert.FfnXRefIdeal.main_arg1)
          ∧ r.2.mem ((c.tc : Thread Cert.FfnXRefIdeal.nD Cert.FfnXRefIdeal.τ).loc Cert.FfnXRefIdeal.main_arg2) = m' ((c.tc : Thread Cert.FfnXRefIdeal.nD Cert.FfnXRefIdeal.τ).loc Cert.FfnXRefIdeal.main_arg2)
          ∧ r.2.mem ((c.tc : Thread Cert.FfnXRefIdeal.nD Cert.FfnXRefIdeal.τ).loc Cert.FfnXRefIdeal.main_arg3) = m' ((c.tc : Thread Cert.FfnXRefIdeal.nD Cert.FfnXRefIdeal.τ).loc Cert.FfnXRefIdeal.main_arg3)
          ∧ r.2.mem ((c.tc : Thread Cert.FfnXRefIdeal.nD Cert.FfnXRefIdeal.τ).loc Cert.FfnXRefIdeal.main_arg4) = m' ((c.tc : Thread Cert.FfnXRefIdeal.nD Cert.FfnXRefIdeal.τ).loc Cert.FfnXRefIdeal.main_arg4)
          ∧ r.2.mem ((c.tc : Thread Cert.FfnXRefIdeal.nD Cert.FfnXRefIdeal.τ).loc Cert.FfnXRefIdeal.main_arg5) = m' ((c.tc : Thread Cert.FfnXRefIdeal.nD Cert.FfnXRefIdeal.τ).loc Cert.FfnXRefIdeal.main_arg5)
          ∧ r.2.mem ((c.tc : Thread Cert.FfnXRefIdeal.nD Cert.FfnXRefIdeal.τ).loc Cert.FfnXRefIdeal.main_arg6) = m' ((c.tc : Thread Cert.FfnXRefIdeal.nD Cert.FfnXRefIdeal.τ).loc Cert.FfnXRefIdeal.main_arg6))

def preserves_QueryW_QueryWIdeal : Prop :=
  True

def algebraic_QueryWIdeal_QueryWRefIdeal [hQueryWIdeal : Cert.QueryWIdeal.Facts] [hQueryWRefIdeal : Cert.QueryWRefIdeal.Facts] : Prop :=
  ∀ (m : (ℓ : Loc Cert.QueryWIdeal.nD Cert.QueryWIdeal.τ Cert.QueryWIdeal.sig) → Buf (Elt Ideal) ℓ) (g : Dev Cert.QueryWIdeal.nD → PrngReg)
    (m' : (ℓ : Loc Cert.QueryWRefIdeal.nD Cert.QueryWRefIdeal.τ Cert.QueryWRefIdeal.sig) → Buf (Elt Ideal) ℓ) (g' : Dev Cert.QueryWRefIdeal.nD → PrngReg), Pre_QueryWIdeal m →
    (∀ c : Dev Cert.QueryWIdeal.nD,
      m' ((c.tc : Thread Cert.QueryWRefIdeal.nD Cert.QueryWRefIdeal.τ).loc Cert.QueryWRefIdeal.main_arg0) = m ((c.tc : Thread Cert.QueryWIdeal.nD Cert.QueryWIdeal.τ).loc Cert.QueryWIdeal.main_arg0)
      ∧ m' ((c.tc : Thread Cert.QueryWRefIdeal.nD Cert.QueryWRefIdeal.τ).loc Cert.QueryWRefIdeal.main_arg1) = m ((c.tc : Thread Cert.QueryWIdeal.nD Cert.QueryWIdeal.τ).loc Cert.QueryWIdeal.main_arg1)) →
    ∃ (v0 : (c : Dev Cert.QueryWIdeal.nD) → Buf (Elt Ideal) ((c.tc : Thread Cert.QueryWIdeal.nD Cert.QueryWIdeal.τ).loc Cert.QueryWIdeal.main_v0)),
      θ_run (Cert.QueryWIdeal.defs (F := Ideal)) (onTc (τ := Cert.QueryWIdeal.τ) (Cert.QueryWIdeal.main (F := Ideal))) ⟨m, fun _ => 0, g⟩ (fun r => ∀ c : Dev Cert.QueryWIdeal.nD,
          r.2.mem ((c.tc : Thread Cert.QueryWIdeal.nD Cert.QueryWIdeal.τ).loc Cert.QueryWIdeal.main_v0) = v0 c
          ∧ r.2.mem ((c.tc : Thread Cert.QueryWIdeal.nD Cert.QueryWIdeal.τ).loc Cert.QueryWIdeal.main_arg0) = m ((c.tc : Thread Cert.QueryWIdeal.nD Cert.QueryWIdeal.τ).loc Cert.QueryWIdeal.main_arg0)
          ∧ r.2.mem ((c.tc : Thread Cert.QueryWIdeal.nD Cert.QueryWIdeal.τ).loc Cert.QueryWIdeal.main_arg1) = m ((c.tc : Thread Cert.QueryWIdeal.nD Cert.QueryWIdeal.τ).loc Cert.QueryWIdeal.main_arg1))
      ∧ θ_run (Cert.QueryWRefIdeal.defs (F := Ideal)) (onTc (τ := Cert.QueryWRefIdeal.τ) (Cert.QueryWRefIdeal.main (F := Ideal))) ⟨m', fun _ => 0, g'⟩ (fun r => ∀ c : Dev Cert.QueryWRefIdeal.nD,
          r.2.mem ((c.tc : Thread Cert.QueryWRefIdeal.nD Cert.QueryWRefIdeal.τ).loc Cert.QueryWRefIdeal.main_v4) = v0 c
          ∧ r.2.mem ((c.tc : Thread Cert.QueryWRefIdeal.nD Cert.QueryWRefIdeal.τ).loc Cert.QueryWRefIdeal.main_arg0) = m' ((c.tc : Thread Cert.QueryWRefIdeal.nD Cert.QueryWRefIdeal.τ).loc Cert.QueryWRefIdeal.main_arg0)
          ∧ r.2.mem ((c.tc : Thread Cert.QueryWRefIdeal.nD Cert.QueryWRefIdeal.τ).loc Cert.QueryWRefIdeal.main_arg1) = m' ((c.tc : Thread Cert.QueryWRefIdeal.nD Cert.QueryWRefIdeal.τ).loc Cert.QueryWRefIdeal.main_arg1))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v4) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_GatesW_GatesWIdeal : Prop :=
  True

def algebraic_GatesWIdeal_GatesWRefIdeal [hGatesWIdeal : Cert.GatesWIdeal.Facts] [hGatesWRefIdeal : Cert.GatesWRefIdeal.Facts] : Prop :=
  ∀ (m : (ℓ : Loc Cert.GatesWIdeal.nD Cert.GatesWIdeal.τ Cert.GatesWIdeal.sig) → Buf (Elt Ideal) ℓ) (g : Dev Cert.GatesWIdeal.nD → PrngReg)
    (m' : (ℓ : Loc Cert.GatesWRefIdeal.nD Cert.GatesWRefIdeal.τ Cert.GatesWRefIdeal.sig) → Buf (Elt Ideal) ℓ) (g' : Dev Cert.GatesWRefIdeal.nD → PrngReg), Pre_GatesWIdeal m →
    (∀ c : Dev Cert.GatesWIdeal.nD,
      m' ((c.tc : Thread Cert.GatesWRefIdeal.nD Cert.GatesWRefIdeal.τ).loc Cert.GatesWRefIdeal.main_arg0) = m ((c.tc : Thread Cert.GatesWIdeal.nD Cert.GatesWIdeal.τ).loc Cert.GatesWIdeal.main_arg0)
      ∧ m' ((c.tc : Thread Cert.GatesWRefIdeal.nD Cert.GatesWRefIdeal.τ).loc Cert.GatesWRefIdeal.main_arg1) = m ((c.tc : Thread Cert.GatesWIdeal.nD Cert.GatesWIdeal.τ).loc Cert.GatesWIdeal.main_arg1)) →
    ∃ (v0 : (c : Dev Cert.GatesWIdeal.nD) → Buf (Elt Ideal) ((c.tc : Thread Cert.GatesWIdeal.nD Cert.GatesWIdeal.τ).loc Cert.GatesWIdeal.main_v0)),
      θ_run (Cert.GatesWIdeal.defs (F := Ideal)) (onTc (τ := Cert.GatesWIdeal.τ) (Cert.GatesWIdeal.main (F := Ideal))) ⟨m, fun _ => 0, g⟩ (fun r => ∀ c : Dev Cert.GatesWIdeal.nD,
          r.2.mem ((c.tc : Thread Cert.GatesWIdeal.nD Cert.GatesWIdeal.τ).loc Cert.GatesWIdeal.main_v0) = v0 c
          ∧ r.2.mem ((c.tc : Thread Cert.GatesWIdeal.nD Cert.GatesWIdeal.τ).loc Cert.GatesWIdeal.main_arg0) = m ((c.tc : Thread Cert.GatesWIdeal.nD Cert.GatesWIdeal.τ).loc Cert.GatesWIdeal.main_arg0)
          ∧ r.2.mem ((c.tc : Thread Cert.GatesWIdeal.nD Cert.GatesWIdeal.τ).loc Cert.GatesWIdeal.main_arg1) = m ((c.tc : Thread Cert.GatesWIdeal.nD Cert.GatesWIdeal.τ).loc Cert.GatesWIdeal.main_arg1))
      ∧ θ_run (Cert.GatesWRefIdeal.defs (F := Ideal)) (onTc (τ := Cert.GatesWRefIdeal.τ) (Cert.GatesWRefIdeal.main (F := Ideal))) ⟨m', fun _ => 0, g'⟩ (fun r => ∀ c : Dev Cert.GatesWRefIdeal.nD,
          r.2.mem ((c.tc : Thread Cert.GatesWRefIdeal.nD Cert.GatesWRefIdeal.τ).loc Cert.GatesWRefIdeal.main_v4) = v0 c
          ∧ r.2.mem ((c.tc : Thread Cert.GatesWRefIdeal.nD Cert.GatesWRefIdeal.τ).loc Cert.GatesWRefIdeal.main_arg0) = m' ((c.tc : Thread Cert.GatesWRefIdeal.nD Cert.GatesWRefIdeal.τ).loc Cert.GatesWRefIdeal.main_arg0)
          ∧ r.2.mem ((c.tc : Thread Cert.GatesWRefIdeal.nD Cert.GatesWRefIdeal.τ).loc Cert.GatesWRefIdeal.main_arg1) = m' ((c.tc : Thread Cert.GatesWRefIdeal.nD Cert.GatesWRefIdeal.τ).loc Cert.GatesWRefIdeal.main_arg1))

def preserves_MemW_MemWIdeal : Prop :=
  True

def algebraic_MemWIdeal_MemWRefIdeal [hMemWIdeal : Cert.MemWIdeal.Facts] [hMemWRefIdeal : Cert.MemWRefIdeal.Facts] : Prop :=
  ∀ (m : (ℓ : Loc Cert.MemWIdeal.nD Cert.MemWIdeal.τ Cert.MemWIdeal.sig) → Buf (Elt Ideal) ℓ) (g : Dev Cert.MemWIdeal.nD → PrngReg)
    (m' : (ℓ : Loc Cert.MemWRefIdeal.nD Cert.MemWRefIdeal.τ Cert.MemWRefIdeal.sig) → Buf (Elt Ideal) ℓ) (g' : Dev Cert.MemWRefIdeal.nD → PrngReg), Pre_MemWIdeal m →
    (∀ c : Dev Cert.MemWIdeal.nD,
      m' ((c.tc : Thread Cert.MemWRefIdeal.nD Cert.MemWRefIdeal.τ).loc Cert.MemWRefIdeal.main_arg0) = m ((c.tc : Thread Cert.MemWIdeal.nD Cert.MemWIdeal.τ).loc Cert.MemWIdeal.main_arg0)
      ∧ m' ((c.tc : Thread Cert.MemWRefIdeal.nD Cert.MemWRefIdeal.τ).loc Cert.MemWRefIdeal.main_arg1) = m ((c.tc : Thread Cert.MemWIdeal.nD Cert.MemWIdeal.τ).loc Cert.MemWIdeal.main_arg1)) →
    ∃ (v0 : (c : Dev Cert.MemWIdeal.nD) → Buf (Elt Ideal) ((c.tc : Thread Cert.MemWIdeal.nD Cert.MemWIdeal.τ).loc Cert.MemWIdeal.main_v0)),
      θ_run (Cert.MemWIdeal.defs (F := Ideal)) (onTc (τ := Cert.MemWIdeal.τ) (Cert.MemWIdeal.main (F := Ideal))) ⟨m, fun _ => 0, g⟩ (fun r => ∀ c : Dev Cert.MemWIdeal.nD,
          r.2.mem ((c.tc : Thread Cert.MemWIdeal.nD Cert.MemWIdeal.τ).loc Cert.MemWIdeal.main_v0) = v0 c
          ∧ r.2.mem ((c.tc : Thread Cert.MemWIdeal.nD Cert.MemWIdeal.τ).loc Cert.MemWIdeal.main_arg0) = m ((c.tc : Thread Cert.MemWIdeal.nD Cert.MemWIdeal.τ).loc Cert.MemWIdeal.main_arg0)
          ∧ r.2.mem ((c.tc : Thread Cert.MemWIdeal.nD Cert.MemWIdeal.τ).loc Cert.MemWIdeal.main_arg1) = m ((c.tc : Thread Cert.MemWIdeal.nD Cert.MemWIdeal.τ).loc Cert.MemWIdeal.main_arg1))
      ∧ θ_run (Cert.MemWRefIdeal.defs (F := Ideal)) (onTc (τ := Cert.MemWRefIdeal.τ) (Cert.MemWRefIdeal.main (F := Ideal))) ⟨m', fun _ => 0, g'⟩ (fun r => ∀ c : Dev Cert.MemWRefIdeal.nD,
          r.2.mem ((c.tc : Thread Cert.MemWRefIdeal.nD Cert.MemWRefIdeal.τ).loc Cert.MemWRefIdeal.main_v6) = v0 c
          ∧ r.2.mem ((c.tc : Thread Cert.MemWRefIdeal.nD Cert.MemWRefIdeal.τ).loc Cert.MemWRefIdeal.main_arg0) = m' ((c.tc : Thread Cert.MemWRefIdeal.nD Cert.MemWRefIdeal.τ).loc Cert.MemWRefIdeal.main_arg0)
          ∧ r.2.mem ((c.tc : Thread Cert.MemWRefIdeal.nD Cert.MemWRefIdeal.τ).loc Cert.MemWRefIdeal.main_arg1) = m' ((c.tc : Thread Cert.MemWRefIdeal.nD Cert.MemWRefIdeal.τ).loc Cert.MemWRefIdeal.main_arg1))

def preserves_QueryX_QueryXIdeal : Prop :=
  True

def algebraic_QueryXIdeal_QueryXRefIdeal [hQueryXIdeal : Cert.QueryXIdeal.Facts] [hQueryXRefIdeal : Cert.QueryXRefIdeal.Facts] : Prop :=
  ∀ (m : (ℓ : Loc Cert.QueryXIdeal.nD Cert.QueryXIdeal.τ Cert.QueryXIdeal.sig) → Buf (Elt Ideal) ℓ) (g : Dev Cert.QueryXIdeal.nD → PrngReg)
    (m' : (ℓ : Loc Cert.QueryXRefIdeal.nD Cert.QueryXRefIdeal.τ Cert.QueryXRefIdeal.sig) → Buf (Elt Ideal) ℓ) (g' : Dev Cert.QueryXRefIdeal.nD → PrngReg), Pre_QueryXIdeal m →
    (∀ c : Dev Cert.QueryXIdeal.nD,
      m' ((c.tc : Thread Cert.QueryXRefIdeal.nD Cert.QueryXRefIdeal.τ).loc Cert.QueryXRefIdeal.main_arg0) = m ((c.tc : Thread Cert.QueryXIdeal.nD Cert.QueryXIdeal.τ).loc Cert.QueryXIdeal.main_arg0)
      ∧ m' ((c.tc : Thread Cert.QueryXRefIdeal.nD Cert.QueryXRefIdeal.τ).loc Cert.QueryXRefIdeal.main_arg1) = m ((c.tc : Thread Cert.QueryXIdeal.nD Cert.QueryXIdeal.τ).loc Cert.QueryXIdeal.main_arg1)
      ∧ m' ((c.tc : Thread Cert.QueryXRefIdeal.nD Cert.QueryXRefIdeal.τ).loc Cert.QueryXRefIdeal.main_arg2) = m ((c.tc : Thread Cert.QueryXIdeal.nD Cert.QueryXIdeal.τ).loc Cert.QueryXIdeal.main_arg2)) →
    ∃ (v0 : (c : Dev Cert.QueryXIdeal.nD) → Buf (Elt Ideal) ((c.tc : Thread Cert.QueryXIdeal.nD Cert.QueryXIdeal.τ).loc Cert.QueryXIdeal.main_v1)),
      θ_run (Cert.QueryXIdeal.defs (F := Ideal)) (onTc (τ := Cert.QueryXIdeal.τ) (Cert.QueryXIdeal.main (F := Ideal))) ⟨m, fun _ => 0, g⟩ (fun r => ∀ c : Dev Cert.QueryXIdeal.nD,
          r.2.mem ((c.tc : Thread Cert.QueryXIdeal.nD Cert.QueryXIdeal.τ).loc Cert.QueryXIdeal.main_v1) = v0 c
          ∧ r.2.mem ((c.tc : Thread Cert.QueryXIdeal.nD Cert.QueryXIdeal.τ).loc Cert.QueryXIdeal.main_arg0) = m ((c.tc : Thread Cert.QueryXIdeal.nD Cert.QueryXIdeal.τ).loc Cert.QueryXIdeal.main_arg0)
          ∧ r.2.mem ((c.tc : Thread Cert.QueryXIdeal.nD Cert.QueryXIdeal.τ).loc Cert.QueryXIdeal.main_arg1) = m ((c.tc : Thread Cert.QueryXIdeal.nD Cert.QueryXIdeal.τ).loc Cert.QueryXIdeal.main_arg1)
          ∧ r.2.mem ((c.tc : Thread Cert.QueryXIdeal.nD Cert.QueryXIdeal.τ).loc Cert.QueryXIdeal.main_arg2) = m ((c.tc : Thread Cert.QueryXIdeal.nD Cert.QueryXIdeal.τ).loc Cert.QueryXIdeal.main_arg2))
      ∧ θ_run (Cert.QueryXRefIdeal.defs (F := Ideal)) (onTc (τ := Cert.QueryXRefIdeal.τ) (Cert.QueryXRefIdeal.main (F := Ideal))) ⟨m', fun _ => 0, g'⟩ (fun r => ∀ c : Dev Cert.QueryXRefIdeal.nD,
          r.2.mem ((c.tc : Thread Cert.QueryXRefIdeal.nD Cert.QueryXRefIdeal.τ).loc Cert.QueryXRefIdeal.main_v7) = v0 c
          ∧ r.2.mem ((c.tc : Thread Cert.QueryXRefIdeal.nD Cert.QueryXRefIdeal.τ).loc Cert.QueryXRefIdeal.main_arg0) = m' ((c.tc : Thread Cert.QueryXRefIdeal.nD Cert.QueryXRefIdeal.τ).loc Cert.QueryXRefIdeal.main_arg0)
          ∧ r.2.mem ((c.tc : Thread Cert.QueryXRefIdeal.nD Cert.QueryXRefIdeal.τ).loc Cert.QueryXRefIdeal.main_arg1) = m' ((c.tc : Thread Cert.QueryXRefIdeal.nD Cert.QueryXRefIdeal.τ).loc Cert.QueryXRefIdeal.main_arg1)
          ∧ r.2.mem ((c.tc : Thread Cert.QueryXRefIdeal.nD Cert.QueryXRefIdeal.τ).loc Cert.QueryXRefIdeal.main_arg2) = m' ((c.tc : Thread Cert.QueryXRefIdeal.nD Cert.QueryXRefIdeal.τ).loc Cert.QueryXRefIdeal.main_arg2))

def preserves_GatesX_GatesXIdeal : Prop :=
  True

def algebraic_GatesXIdeal_GatesXRefIdeal [hGatesXIdeal : Cert.GatesXIdeal.Facts] [hGatesXRefIdeal : Cert.GatesXRefIdeal.Facts] : Prop :=
  ∀ (m : (ℓ : Loc Cert.GatesXIdeal.nD Cert.GatesXIdeal.τ Cert.GatesXIdeal.sig) → Buf (Elt Ideal) ℓ) (g : Dev Cert.GatesXIdeal.nD → PrngReg)
    (m' : (ℓ : Loc Cert.GatesXRefIdeal.nD Cert.GatesXRefIdeal.τ Cert.GatesXRefIdeal.sig) → Buf (Elt Ideal) ℓ) (g' : Dev Cert.GatesXRefIdeal.nD → PrngReg), Pre_GatesXIdeal m →
    (∀ c : Dev Cert.GatesXIdeal.nD,
      m' ((c.tc : Thread Cert.GatesXRefIdeal.nD Cert.GatesXRefIdeal.τ).loc Cert.GatesXRefIdeal.main_arg0) = m ((c.tc : Thread Cert.GatesXIdeal.nD Cert.GatesXIdeal.τ).loc Cert.GatesXIdeal.main_arg0)
      ∧ m' ((c.tc : Thread Cert.GatesXRefIdeal.nD Cert.GatesXRefIdeal.τ).loc Cert.GatesXRefIdeal.main_arg1) = m ((c.tc : Thread Cert.GatesXIdeal.nD Cert.GatesXIdeal.τ).loc Cert.GatesXIdeal.main_arg1)
      ∧ m' ((c.tc : Thread Cert.GatesXRefIdeal.nD Cert.GatesXRefIdeal.τ).loc Cert.GatesXRefIdeal.main_arg2) = m ((c.tc : Thread Cert.GatesXIdeal.nD Cert.GatesXIdeal.τ).loc Cert.GatesXIdeal.main_arg2)) →
    ∃ (v0 : (c : Dev Cert.GatesXIdeal.nD) → Buf (Elt Ideal) ((c.tc : Thread Cert.GatesXIdeal.nD Cert.GatesXIdeal.τ).loc Cert.GatesXIdeal.main_v1)),
      θ_run (Cert.GatesXIdeal.defs (F := Ideal)) (onTc (τ := Cert.GatesXIdeal.τ) (Cert.GatesXIdeal.main (F := Ideal))) ⟨m, fun _ => 0, g⟩ (fun r => ∀ c : Dev Cert.GatesXIdeal.nD,
          r.2.mem ((c.tc : Thread Cert.GatesXIdeal.nD Cert.GatesXIdeal.τ).loc Cert.GatesXIdeal.main_v1) = v0 c
          ∧ r.2.mem ((c.tc : Thread Cert.GatesXIdeal.nD Cert.GatesXIdeal.τ).loc Cert.GatesXIdeal.main_arg0) = m ((c.tc : Thread Cert.GatesXIdeal.nD Cert.GatesXIdeal.τ).loc Cert.GatesXIdeal.main_arg0)
          ∧ r.2.mem ((c.tc : Thread Cert.GatesXIdeal.nD Cert.GatesXIdeal.τ).loc Cert.GatesXIdeal.main_arg1) = m ((c.tc : Thread Cert.GatesXIdeal.nD Cert.GatesXIdeal.τ).loc Cert.GatesXIdeal.main_arg1)
          ∧ r.2.mem ((c.tc : Thread Cert.GatesXIdeal.nD Cert.GatesXIdeal.τ).loc Cert.GatesXIdeal.main_arg2) = m ((c.tc : Thread Cert.GatesXIdeal.nD Cert.GatesXIdeal.τ).loc Cert.GatesXIdeal.main_arg2))
      ∧ θ_run (Cert.GatesXRefIdeal.defs (F := Ideal)) (onTc (τ := Cert.GatesXRefIdeal.τ) (Cert.GatesXRefIdeal.main (F := Ideal))) ⟨m', fun _ => 0, g'⟩ (fun r => ∀ c : Dev Cert.GatesXRefIdeal.nD,
          r.2.mem ((c.tc : Thread Cert.GatesXRefIdeal.nD Cert.GatesXRefIdeal.τ).loc Cert.GatesXRefIdeal.main_v3) = v0 c
          ∧ r.2.mem ((c.tc : Thread Cert.GatesXRefIdeal.nD Cert.GatesXRefIdeal.τ).loc Cert.GatesXRefIdeal.main_arg0) = m' ((c.tc : Thread Cert.GatesXRefIdeal.nD Cert.GatesXRefIdeal.τ).loc Cert.GatesXRefIdeal.main_arg0)
          ∧ r.2.mem ((c.tc : Thread Cert.GatesXRefIdeal.nD Cert.GatesXRefIdeal.τ).loc Cert.GatesXRefIdeal.main_arg1) = m' ((c.tc : Thread Cert.GatesXRefIdeal.nD Cert.GatesXRefIdeal.τ).loc Cert.GatesXRefIdeal.main_arg1)
          ∧ r.2.mem ((c.tc : Thread Cert.GatesXRefIdeal.nD Cert.GatesXRefIdeal.τ).loc Cert.GatesXRefIdeal.main_arg2) = m' ((c.tc : Thread Cert.GatesXRefIdeal.nD Cert.GatesXRefIdeal.τ).loc Cert.GatesXRefIdeal.main_arg2))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v1)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v1) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v0) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v1) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v0) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)
      ∧ m' ((c.tc : Thread Cert.AttnOutRefIdeal.nD Cert.AttnOutRefIdeal.τ).loc Cert.AttnOutRefIdeal.main_arg4) = m ((c.tc : Thread Cert.AttnOutIdeal.nD Cert.AttnOutIdeal.τ).loc Cert.AttnOutIdeal.main_arg4)) →
    ∃ (v0 : (c : Dev Cert.AttnOutIdeal.nD) → Buf (Elt Ideal) ((c.tc : Thread Cert.AttnOutIdeal.nD Cert.AttnOutIdeal.τ).loc Cert.AttnOutIdeal.main_v3_0)) (v1 : (c : Dev Cert.AttnOutIdeal.nD) → Buf (Elt Ideal) ((c.tc : Thread Cert.AttnOutIdeal.nD Cert.AttnOutIdeal.τ).loc Cert.AttnOutIdeal.main_v3_1)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v3_0) = v0 c
          ∧ r.2.mem ((c.tc : Thread Cert.AttnOutIdeal.nD Cert.AttnOutIdeal.τ).loc Cert.AttnOutIdeal.main_v3_1) = v1 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v3) = v0 c
          ∧ r.2.mem ((c.tc : Thread Cert.AttnOutRefIdeal.nD Cert.AttnOutRefIdeal.τ).loc Cert.AttnOutRefIdeal.main_v27) = v1 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3)
          ∧ r.2.mem ((c.tc : Thread Cert.AttnOutRefIdeal.nD Cert.AttnOutRefIdeal.τ).loc Cert.AttnOutRefIdeal.main_arg4) = m' ((c.tc : Thread Cert.AttnOutRefIdeal.nD Cert.AttnOutRefIdeal.τ).loc Cert.AttnOutRefIdeal.main_arg4))

def preserves_MixerOut_MixerOutIdeal : Prop :=
  True

def algebraic_MixerOutIdeal_MixerOutRefIdeal [hMixerOutIdeal : Cert.MixerOutIdeal.Facts] [hMixerOutRefIdeal : Cert.MixerOutRefIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg)
    (m' : (ℓ : Loc Cert.MixerOutRefIdeal.nD Cert.MixerOutRefIdeal.τ Cert.MixerOutRefIdeal.sig) → Buf (Elt Ideal) ℓ) (g' : Dev Cert.MixerOutRefIdeal.nD → PrngReg), Pre_MixerOutIdeal m →
    (∀ c : Dev Cert.MixerOutIdeal.nD,
      m' ((c.tc : Thread Cert.MixerOutRefIdeal.nD Cert.MixerOutRefIdeal.τ).loc Cert.MixerOutRefIdeal.main_arg0) = m ((c.tc : Thread Cert.MixerOutIdeal.nD Cert.MixerOutIdeal.τ).loc Cert.MixerOutIdeal.main_arg0)
      ∧ m' ((c.tc : Thread Cert.MixerOutRefIdeal.nD Cert.MixerOutRefIdeal.τ).loc Cert.MixerOutRefIdeal.main_arg1) = m ((c.tc : Thread Cert.MixerOutIdeal.nD Cert.MixerOutIdeal.τ).loc Cert.MixerOutIdeal.main_arg1)
      ∧ m' ((c.tc : Thread Cert.MixerOutRefIdeal.nD Cert.MixerOutRefIdeal.τ).loc Cert.MixerOutRefIdeal.main_arg2) = m ((c.tc : Thread Cert.MixerOutIdeal.nD Cert.MixerOutIdeal.τ).loc Cert.MixerOutIdeal.main_arg2)
      ∧ m' ((c.tc : Thread Cert.MixerOutRefIdeal.nD Cert.MixerOutRefIdeal.τ).loc Cert.MixerOutRefIdeal.main_arg3) = m ((c.tc : Thread Cert.MixerOutIdeal.nD Cert.MixerOutIdeal.τ).loc Cert.MixerOutIdeal.main_arg3)
      ∧ m' ((c.tc : Thread Cert.MixerOutRefIdeal.nD Cert.MixerOutRefIdeal.τ).loc Cert.MixerOutRefIdeal.main_arg4) = m ((c.tc : Thread Cert.MixerOutIdeal.nD Cert.MixerOutIdeal.τ).loc Cert.MixerOutIdeal.main_arg4)
      ∧ m' ((c.tc : Thread Cert.MixerOutRefIdeal.nD Cert.MixerOutRefIdeal.τ).loc Cert.MixerOutRefIdeal.main_arg5) = m ((c.tc : Thread Cert.MixerOutIdeal.nD Cert.MixerOutIdeal.τ).loc Cert.MixerOutIdeal.main_arg5)) →
    ∃ (v0 : (c : Dev Cert.MixerOutIdeal.nD) → Buf (Elt Ideal) ((c.tc : Thread Cert.MixerOutIdeal.nD Cert.MixerOutIdeal.τ).loc Cert.MixerOutIdeal.main_v3_0)) (v1 : (c : Dev Cert.MixerOutIdeal.nD) → Buf (Elt Ideal) ((c.tc : Thread Cert.MixerOutIdeal.nD Cert.MixerOutIdeal.τ).loc Cert.MixerOutIdeal.main_v3_1)),
      θ_run (Cert.MixerOutIdeal.defs (F := Ideal)) (onTc (τ := Cert.MixerOutIdeal.τ) (Cert.MixerOutIdeal.main (F := Ideal))) ⟨m, fun _ => 0, g⟩ (fun r => ∀ c : Dev Cert.MixerOutIdeal.nD,
          r.2.mem ((c.tc : Thread Cert.MixerOutIdeal.nD Cert.MixerOutIdeal.τ).loc Cert.MixerOutIdeal.main_v3_0) = v0 c
          ∧ r.2.mem ((c.tc : Thread Cert.MixerOutIdeal.nD Cert.MixerOutIdeal.τ).loc Cert.MixerOutIdeal.main_v3_1) = v1 c
          ∧ r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
          ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
          ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
          ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3)
          ∧ r.2.mem ((c.tc : Thread Cert.MixerOutIdeal.nD Cert.MixerOutIdeal.τ).loc Cert.MixerOutIdeal.main_arg4) = m ((c.tc : Thread Cert.MixerOutIdeal.nD Cert.MixerOutIdeal.τ).loc Cert.MixerOutIdeal.main_arg4)
          ∧ r.2.mem ((c.tc : Thread Cert.MixerOutIdeal.nD Cert.MixerOutIdeal.τ).loc Cert.MixerOutIdeal.main_arg5) = m ((c.tc : Thread Cert.MixerOutIdeal.nD Cert.MixerOutIdeal.τ).loc Cert.MixerOutIdeal.main_arg5))
      ∧ θ_run (Cert.MixerOutRefIdeal.defs (F := Ideal)) (onTc (τ := Cert.MixerOutRefIdeal.τ) (Cert.MixerOutRefIdeal.main (F := Ideal))) ⟨m', fun _ => 0, g'⟩ (fun r => ∀ c : Dev Cert.MixerOutRefIdeal.nD,
          r.2.mem ((c.tc : Thread Cert.MixerOutRefIdeal.nD Cert.MixerOutRefIdeal.τ).loc Cert.MixerOutRefIdeal.main_v4) = v0 c
          ∧ r.2.mem ((c.tc : Thread Cert.MixerOutRefIdeal.nD Cert.MixerOutRefIdeal.τ).loc Cert.MixerOutRefIdeal.main_v28) = v1 c
          ∧ r.2.mem ((c.tc : Thread Cert.MixerOutRefIdeal.nD Cert.MixerOutRefIdeal.τ).loc Cert.MixerOutRefIdeal.main_arg0) = m' ((c.tc : Thread Cert.MixerOutRefIdeal.nD Cert.MixerOutRefIdeal.τ).loc Cert.MixerOutRefIdeal.main_arg0)
          ∧ r.2.mem ((c.tc : Thread Cert.MixerOutRefIdeal.nD Cert.MixerOutRefIdeal.τ).loc Cert.MixerOutRefIdeal.main_arg1) = m' ((c.tc : Thread Cert.MixerOutRefIdeal.nD Cert.MixerOutRefIdeal.τ).loc Cert.MixerOutRefIdeal.main_arg1)
          ∧ r.2.mem ((c.tc : Thread Cert.MixerOutRefIdeal.nD Cert.MixerOutRefIdeal.τ).loc Cert.MixerOutRefIdeal.main_arg2) = m' ((c.tc : Thread Cert.MixerOutRefIdeal.nD Cert.MixerOutRefIdeal.τ).loc Cert.MixerOutRefIdeal.main_arg2)
          ∧ r.2.mem ((c.tc : Thread Cert.MixerOutRefIdeal.nD Cert.MixerOutRefIdeal.τ).loc Cert.MixerOutRefIdeal.main_arg3) = m' ((c.tc : Thread Cert.MixerOutRefIdeal.nD Cert.MixerOutRefIdeal.τ).loc Cert.MixerOutRefIdeal.main_arg3)
          ∧ r.2.mem ((c.tc : Thread Cert.MixerOutRefIdeal.nD Cert.MixerOutRefIdeal.τ).loc Cert.MixerOutRefIdeal.main_arg4) = m' ((c.tc : Thread Cert.MixerOutRefIdeal.nD Cert.MixerOutRefIdeal.τ).loc Cert.MixerOutRefIdeal.main_arg4)
          ∧ r.2.mem ((c.tc : Thread Cert.MixerOutRefIdeal.nD Cert.MixerOutRefIdeal.τ).loc Cert.MixerOutRefIdeal.main_arg5) = m' ((c.tc : Thread Cert.MixerOutRefIdeal.nD Cert.MixerOutRefIdeal.τ).loc Cert.MixerOutRefIdeal.main_arg5))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v0) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v20) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def Claim : Prop :=
  ∃ (hKernel : Cert.Kernel.Facts) (hKernelIdeal : Cert.KernelIdeal.Facts) (hReferenceIdeal : Cert.ReferenceIdeal.Facts) (hGateGrad : Cert.GateGrad.Facts) (hGateGradIdeal : Cert.GateGradIdeal.Facts) (hGateGradRefIdeal : Cert.GateGradRefIdeal.Facts) (hDownGrad : Cert.DownGrad.Facts) (hDownGradIdeal : Cert.DownGradIdeal.Facts) (hDownGradRefIdeal : Cert.DownGradRefIdeal.Facts) (hFfn : Cert.Ffn.Facts) (hFfnIdeal : Cert.FfnIdeal.Facts) (hFfnRefIdeal : Cert.FfnRefIdeal.Facts) (hProjW : Cert.ProjW.Facts) (hProjWIdeal : Cert.ProjWIdeal.Facts) (hProjWRefIdeal : Cert.ProjWRefIdeal.Facts) (hProjX : Cert.ProjX.Facts) (hProjXIdeal : Cert.ProjXIdeal.Facts) (hProjXRefIdeal : Cert.ProjXRefIdeal.Facts) (hLnGrad : Cert.LnGrad.Facts) (hLnGradIdeal : Cert.LnGradIdeal.Facts) (hLnGradRefIdeal : Cert.LnGradRefIdeal.Facts) (hFfnX : Cert.FfnX.Facts) (hFfnXIdeal : Cert.FfnXIdeal.Facts) (hFfnXRefIdeal : Cert.FfnXRefIdeal.Facts) (hQueryW : Cert.QueryW.Facts) (hQueryWIdeal : Cert.QueryWIdeal.Facts) (hQueryWRefIdeal : Cert.QueryWRefIdeal.Facts) (hOutW : Cert.OutW.Facts) (hOutWIdeal : Cert.OutWIdeal.Facts) (hOutWRefIdeal : Cert.OutWRefIdeal.Facts) (hGatesW : Cert.GatesW.Facts) (hGatesWIdeal : Cert.GatesWIdeal.Facts) (hGatesWRefIdeal : Cert.GatesWRefIdeal.Facts) (hMemW : Cert.MemW.Facts) (hMemWIdeal : Cert.MemWIdeal.Facts) (hMemWRefIdeal : Cert.MemWRefIdeal.Facts) (hQueryX : Cert.QueryX.Facts) (hQueryXIdeal : Cert.QueryXIdeal.Facts) (hQueryXRefIdeal : Cert.QueryXRefIdeal.Facts) (hGatesX : Cert.GatesX.Facts) (hGatesXIdeal : Cert.GatesXIdeal.Facts) (hGatesXRefIdeal : Cert.GatesXRefIdeal.Facts) (hQuery : Cert.Query.Facts) (hQueryIdeal : Cert.QueryIdeal.Facts) (hQueryRefIdeal : Cert.QueryRefIdeal.Facts) (hGates : Cert.Gates.Facts) (hGatesIdeal : Cert.GatesIdeal.Facts) (hGatesRefIdeal : Cert.GatesRefIdeal.Facts) (hAttnOut : Cert.AttnOut.Facts) (hAttnOutIdeal : Cert.AttnOutIdeal.Facts) (hAttnOutRefIdeal : Cert.AttnOutRefIdeal.Facts) (hMixerOut : Cert.MixerOut.Facts) (hMixerOutIdeal : Cert.MixerOutIdeal.Facts) (hMixerOutRefIdeal : Cert.MixerOutRefIdeal.Facts) (hMemKv : Cert.MemKv.Facts) (hMemKvIdeal : Cert.MemKvIdeal.Facts) (hMemKvRefIdeal : Cert.MemKvRefIdeal.Facts) (hAttn : Cert.Attn.Facts) (hAttnIdeal : Cert.AttnIdeal.Facts) (hAttnRefIdeal : Cert.AttnRefIdeal.Facts) (hPre_finite_ln : Cert.Pre_finite_ln.Facts) (hPre_finite_ffn : Cert.Pre_finite_ffn.Facts),
    quiescent_Kernel (hKernel := hKernel)
    ∧ quiescent_KernelIdeal (hKernelIdeal := hKernelIdeal)
    ∧ quiescent_ReferenceIdeal (hReferenceIdeal := hReferenceIdeal)
    ∧ quiescent_GateGrad (hGateGrad := hGateGrad)
    ∧ quiescent_GateGradIdeal (hGateGradIdeal := hGateGradIdeal)
    ∧ quiescent_GateGradRefIdeal (hGateGradRefIdeal := hGateGradRefIdeal)
    ∧ quiescent_DownGrad (hDownGrad := hDownGrad)
    ∧ quiescent_DownGradIdeal (hDownGradIdeal := hDownGradIdeal)
    ∧ quiescent_DownGradRefIdeal (hDownGradRefIdeal := hDownGradRefIdeal)
    ∧ quiescent_Ffn (hFfn := hFfn)
    ∧ quiescent_FfnIdeal (hFfnIdeal := hFfnIdeal)
    ∧ quiescent_FfnRefIdeal (hFfnRefIdeal := hFfnRefIdeal)
    ∧ quiescent_ProjW (hProjW := hProjW)
    ∧ quiescent_ProjWIdeal (hProjWIdeal := hProjWIdeal)
    ∧ quiescent_ProjWRefIdeal (hProjWRefIdeal := hProjWRefIdeal)
    ∧ quiescent_ProjX (hProjX := hProjX)
    ∧ quiescent_ProjXIdeal (hProjXIdeal := hProjXIdeal)
    ∧ quiescent_ProjXRefIdeal (hProjXRefIdeal := hProjXRefIdeal)
    ∧ quiescent_LnGrad (hLnGrad := hLnGrad)
    ∧ quiescent_LnGradIdeal (hLnGradIdeal := hLnGradIdeal)
    ∧ quiescent_LnGradIdeal_pre_finite_ln (hLnGradIdeal := hLnGradIdeal) (hPre_finite_ln := hPre_finite_ln)
    ∧ quiescent_LnGradRefIdeal (hLnGradRefIdeal := hLnGradRefIdeal)
    ∧ quiescent_LnGradRefIdeal_pre_finite_ln (hLnGradRefIdeal := hLnGradRefIdeal) (hPre_finite_ln := hPre_finite_ln)
    ∧ quiescent_FfnX (hFfnX := hFfnX)
    ∧ quiescent_FfnXIdeal (hFfnXIdeal := hFfnXIdeal)
    ∧ quiescent_FfnXIdeal_pre_finite_ffn (hFfnXIdeal := hFfnXIdeal) (hPre_finite_ffn := hPre_finite_ffn)
    ∧ quiescent_FfnXRefIdeal (hFfnXRefIdeal := hFfnXRefIdeal)
    ∧ quiescent_FfnXRefIdeal_pre_finite_ffn (hFfnXRefIdeal := hFfnXRefIdeal) (hPre_finite_ffn := hPre_finite_ffn)
    ∧ quiescent_QueryW (hQueryW := hQueryW)
    ∧ quiescent_QueryWIdeal (hQueryWIdeal := hQueryWIdeal)
    ∧ quiescent_QueryWRefIdeal (hQueryWRefIdeal := hQueryWRefIdeal)
    ∧ quiescent_OutW (hOutW := hOutW)
    ∧ quiescent_OutWIdeal (hOutWIdeal := hOutWIdeal)
    ∧ quiescent_OutWRefIdeal (hOutWRefIdeal := hOutWRefIdeal)
    ∧ quiescent_GatesW (hGatesW := hGatesW)
    ∧ quiescent_GatesWIdeal (hGatesWIdeal := hGatesWIdeal)
    ∧ quiescent_GatesWRefIdeal (hGatesWRefIdeal := hGatesWRefIdeal)
    ∧ quiescent_MemW (hMemW := hMemW)
    ∧ quiescent_MemWIdeal (hMemWIdeal := hMemWIdeal)
    ∧ quiescent_MemWRefIdeal (hMemWRefIdeal := hMemWRefIdeal)
    ∧ quiescent_QueryX (hQueryX := hQueryX)
    ∧ quiescent_QueryXIdeal (hQueryXIdeal := hQueryXIdeal)
    ∧ quiescent_QueryXRefIdeal (hQueryXRefIdeal := hQueryXRefIdeal)
    ∧ quiescent_GatesX (hGatesX := hGatesX)
    ∧ quiescent_GatesXIdeal (hGatesXIdeal := hGatesXIdeal)
    ∧ quiescent_GatesXRefIdeal (hGatesXRefIdeal := hGatesXRefIdeal)
    ∧ quiescent_Query (hQuery := hQuery)
    ∧ quiescent_QueryIdeal (hQueryIdeal := hQueryIdeal)
    ∧ quiescent_QueryRefIdeal (hQueryRefIdeal := hQueryRefIdeal)
    ∧ quiescent_Gates (hGates := hGates)
    ∧ quiescent_GatesIdeal (hGatesIdeal := hGatesIdeal)
    ∧ quiescent_GatesRefIdeal (hGatesRefIdeal := hGatesRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_MixerOut (hMixerOut := hMixerOut)
    ∧ quiescent_MixerOutIdeal (hMixerOutIdeal := hMixerOutIdeal)
    ∧ quiescent_MixerOutRefIdeal (hMixerOutRefIdeal := hMixerOutRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Attn (hAttn := hAttn)
    ∧ quiescent_AttnIdeal (hAttnIdeal := hAttnIdeal)
    ∧ quiescent_AttnRefIdeal (hAttnRefIdeal := hAttnRefIdeal)
    ∧ preserves_Kernel_KernelIdeal
    ∧ algebraic_KernelIdeal_ReferenceIdeal (hKernelIdeal := hKernelIdeal) (hReferenceIdeal := hReferenceIdeal)
    ∧ preserves_GateGrad_GateGradIdeal
    ∧ algebraic_GateGradIdeal_GateGradRefIdeal (hGateGradIdeal := hGateGradIdeal) (hGateGradRefIdeal := hGateGradRefIdeal)
    ∧ preserves_DownGrad_DownGradIdeal
    ∧ algebraic_DownGradIdeal_DownGradRefIdeal (hDownGradIdeal := hDownGradIdeal) (hDownGradRefIdeal := hDownGradRefIdeal)
    ∧ preserves_Ffn_FfnIdeal
    ∧ algebraic_FfnIdeal_FfnRefIdeal (hFfnIdeal := hFfnIdeal) (hFfnRefIdeal := hFfnRefIdeal)
    ∧ preserves_ProjW_ProjWIdeal
    ∧ algebraic_ProjWIdeal_ProjWRefIdeal (hProjWIdeal := hProjWIdeal) (hProjWRefIdeal := hProjWRefIdeal)
    ∧ preserves_ProjX_ProjXIdeal
    ∧ algebraic_ProjXIdeal_ProjXRefIdeal (hProjXIdeal := hProjXIdeal) (hProjXRefIdeal := hProjXRefIdeal)
    ∧ preserves_LnGrad_LnGradIdeal
    ∧ algebraic_LnGradIdeal_LnGradRefIdeal_pre_finite_ln (hLnGradIdeal := hLnGradIdeal) (hLnGradRefIdeal := hLnGradRefIdeal) (hPre_finite_ln := hPre_finite_ln)
    ∧ preserves_FfnX_FfnXIdeal
    ∧ algebraic_FfnXIdeal_FfnXRefIdeal_pre_finite_ffn (hFfnXIdeal := hFfnXIdeal) (hFfnXRefIdeal := hFfnXRefIdeal) (hPre_finite_ffn := hPre_finite_ffn)
    ∧ preserves_QueryW_QueryWIdeal
    ∧ algebraic_QueryWIdeal_QueryWRefIdeal (hQueryWIdeal := hQueryWIdeal) (hQueryWRefIdeal := hQueryWRefIdeal)
    ∧ preserves_OutW_OutWIdeal
    ∧ algebraic_OutWIdeal_OutWRefIdeal (hOutWIdeal := hOutWIdeal) (hOutWRefIdeal := hOutWRefIdeal)
    ∧ preserves_GatesW_GatesWIdeal
    ∧ algebraic_GatesWIdeal_GatesWRefIdeal (hGatesWIdeal := hGatesWIdeal) (hGatesWRefIdeal := hGatesWRefIdeal)
    ∧ preserves_MemW_MemWIdeal
    ∧ algebraic_MemWIdeal_MemWRefIdeal (hMemWIdeal := hMemWIdeal) (hMemWRefIdeal := hMemWRefIdeal)
    ∧ preserves_QueryX_QueryXIdeal
    ∧ algebraic_QueryXIdeal_QueryXRefIdeal (hQueryXIdeal := hQueryXIdeal) (hQueryXRefIdeal := hQueryXRefIdeal)
    ∧ preserves_GatesX_GatesXIdeal
    ∧ algebraic_GatesXIdeal_GatesXRefIdeal (hGatesXIdeal := hGatesXIdeal) (hGatesXRefIdeal := hGatesXRefIdeal)
    ∧ preserves_Query_QueryIdeal
    ∧ algebraic_QueryIdeal_QueryRefIdeal (hQueryIdeal := hQueryIdeal) (hQueryRefIdeal := hQueryRefIdeal)
    ∧ preserves_Gates_GatesIdeal
    ∧ algebraic_GatesIdeal_GatesRefIdeal (hGatesIdeal := hGatesIdeal) (hGatesRefIdeal := hGatesRefIdeal)
    ∧ preserves_AttnOut_AttnOutIdeal
    ∧ algebraic_AttnOutIdeal_AttnOutRefIdeal (hAttnOutIdeal := hAttnOutIdeal) (hAttnOutRefIdeal := hAttnOutRefIdeal)
    ∧ preserves_MixerOut_MixerOutIdeal
    ∧ algebraic_MixerOutIdeal_MixerOutRefIdeal (hMixerOutIdeal := hMixerOutIdeal) (hMixerOutRefIdeal := hMixerOutRefIdeal)
    ∧ preserves_MemKv_MemKvIdeal
    ∧ algebraic_MemKvIdeal_MemKvRefIdeal (hMemKvIdeal := hMemKvIdeal) (hMemKvRefIdeal := hMemKvRefIdeal)
    ∧ preserves_Attn_AttnIdeal
    ∧ algebraic_AttnIdeal_AttnRefIdeal (hAttnIdeal := hAttnIdeal) (hAttnRefIdeal := hAttnRefIdeal)
-- ==== Pre_finite_ffn.lean ====
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S1024 : S_.BroadcastsInDim S1024 (![] : Fin 0 → Fin S1024.rank)

variable [Facts]

def fn {F : FTy → Type} [FloatOps F] (main_arg0 : FVec F S8192x1024 .f32) (main_arg1 : FVec F S8192x1024 .f32) (main_arg2 : FVec F S1024x2816 .f32) (main_arg3 : FVec F S1024x2816 .f32) (main_arg4 : FVec F S2816x1024 .f32) (main_arg5 : FVec F S1024 .f32) (main_arg6 : FVec F S1024 .f32) : IVec S8192x1024 1 × IVec S8192x1024 1 × IVec S1024x2816 1 × IVec S1024x2816 1 × IVec S2816x1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Pre_finite_ln.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S8192x1024 .f32) (main_arg2 : FVec F S1024 .f32) (main_arg3 : FVec F S1024 .f32) (main_arg4 : FVec F S1024x1024 .f32) : IVec S8192x1024 1 × IVec S8192x1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Kernel.lean ====
abbrev S8192x1024 : Shape := ⟨2, ![8192, 1024]⟩
abbrev S256x2048 : Shape := ⟨2, ![256, 2048]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S8192x1024, .f32⟩
  | .hbm, ⟨3, _⟩ => ⟨S8192x1024, .f32⟩
  | .hbm, ⟨4, _⟩ => ⟨S256x2048, .f32⟩
  | .local _ .vmem, ⟨0, _⟩ => ⟨S512x1024, .f32⟩
  | .local _ .vmem, ⟨1, _⟩ => ⟨S512x1024, .f32⟩
  | .local _ .vmem, ⟨2, _⟩ => ⟨S256x1024, .f32⟩
  | .local _ .vmem, ⟨3, _⟩ => ⟨S256x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8192x1024 : Shape := ⟨2, ![8192, 1024]⟩
abbrev S256x2048 : Shape := ⟨2, ![256, 2048]⟩
abbrev S8192x4x256 : Shape := ⟨3, ![8192, 4, 256]⟩
abbrev S256x2x4x256 : Shape := ⟨4, ![256, 2, 4, 256]⟩
abbrev S256x1x4x256 : Shape := ⟨4, ![256, 1, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S8192x1024, .f32⟩
  | .hbm, ⟨3, _⟩ => ⟨S8192x4x256, .f32⟩
  | .hbm, ⟨4, _⟩ => ⟨S256x2x4x256, .f32⟩
  | .hbm, ⟨5, _⟩ => ⟨S256x1x4x256, .f32⟩
  | .hbm, ⟨6, _⟩ => ⟨S256x4x256, .f32⟩
  | .hbm, ⟨7, _⟩ => ⟨S256x1x4x256, .f32⟩
  | .hbm, ⟨8, _⟩ => ⟨S256x4x256, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x256, .f32⟩
  | .hbm, ⟨17, _⟩ => ⟨S4x8192x256, .i1⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S4x8192x256, .f32⟩
  | .hbm, ⟨23, _⟩ => ⟨S4x8192x256, .f32⟩
  | .hbm, ⟨24, _⟩ => ⟨S4x8192x256, .f32⟩
  | .hbm, ⟨25, _⟩ => ⟨S_, .f32⟩
  | .hbm, ⟨26, _⟩ => ⟨S4x8192, .f32⟩
  | .hbm, ⟨27, _⟩ => ⟨S4x8192x1, .f32⟩
  | .hbm, ⟨28, _⟩ => ⟨S4x8192x256, .f32⟩
  | .hbm, ⟨29, _⟩ => ⟨S4x8192x256, .f32⟩
  | .hbm, ⟨30, _⟩ => ⟨S4x8192x1, .f32⟩
  | .hbm, ⟨31, _⟩ => ⟨S_, .f32⟩
  | .hbm, ⟨32, _⟩ => ⟨S4x8192x1, .f32⟩
  | .hbm, ⟨33, _⟩ => ⟨S4x8192x1, .f32⟩
  | .hbm, ⟨34, _⟩ => ⟨S4x256x8192, .f32⟩
  | .hbm, ⟨35, _⟩ => ⟨S8192x4x256, .f32⟩
  | .hbm, ⟨36, _⟩ => ⟨S8192x1024, .f32⟩
  | .hbm, ⟨37, _⟩ => ⟨S8192x4x256, .f32⟩
  | .hbm, ⟨38, _⟩ => ⟨S4x256x8192, .f32⟩
  | .hbm, ⟨39, _⟩ => ⟨S4x8192x256, .f32⟩
  | .hbm, ⟨40, _⟩ => ⟨S4x256x256, .f32⟩
  | .hbm, ⟨41, _⟩ => ⟨S256x4x256, .f32⟩
  | .hbm, ⟨42, _⟩ => ⟨S4x8192x256, .f32⟩
  | .hbm, ⟨43, _⟩ => ⟨S4x8192x256, .f32⟩
  | .hbm, ⟨44, _⟩ => ⟨S4x8192x256, .f32⟩
  | .hbm, ⟨45, _⟩ => ⟨S_, .f32⟩
  | .hbm, ⟨46, _⟩ => ⟨S4x8192, .f32⟩
  | .hbm, ⟨47, _⟩ => ⟨S4x8192x1, .f32⟩
  | .hbm, ⟨48, _⟩ => ⟨S4x8192x1, .f32⟩
  | .hbm, ⟨49, _⟩ => ⟨S4x8192x256, .f32⟩
  | .hbm, ⟨50, _⟩ => ⟨S4x8192x256, .f32⟩
  | .hbm, ⟨51, _⟩ => ⟨S_, .f32⟩
  | .hbm, ⟨52, _⟩ => ⟨S4x8192, .f32⟩
  | .hbm, ⟨53, _⟩ => ⟨S4x8192x256, .f32⟩
  | .hbm, ⟨54, _⟩ => ⟨S4x8192x256, .f32⟩
  | .hbm, ⟨55, _⟩ => ⟨S4x8192x256, .f32⟩
  | .hbm, ⟨56, _⟩ => ⟨S_, .f32⟩
  | .hbm, ⟨57, _⟩ => ⟨S4x8192x256, .f32⟩
  | .hbm, ⟨58, _⟩ => ⟨S4x8192x256, .f32⟩
  | .hbm, ⟨59, _⟩ => ⟨S4x256x256, .f32⟩
  | .hbm, ⟨60, _⟩ => ⟨S256x4x256, .f32⟩
  | .hbm, ⟨61, _⟩ => ⟨S4x8192x256, .f32⟩
  | .hbm, ⟨62, _⟩ => ⟨S8192x4x256, .f32⟩
  | .hbm, ⟨63, _⟩ => ⟨S256x1x4x256, .f32⟩
  | .hbm, ⟨64, _⟩ => ⟨S_, .f32⟩
  | .hbm, ⟨65, _⟩ => ⟨S256x2x4x256, .f32⟩
  | .hbm, ⟨66, _⟩ => ⟨S256x1x4x256, .f32⟩
  | .hbm, ⟨67, _⟩ => ⟨S_, .f32⟩
  | .hbm, ⟨68, _⟩ => ⟨S256x2x4x256, .f32⟩
  | .hbm, ⟨69, _⟩ => ⟨S256x2x4x256, .f32⟩
  | .hbm, ⟨70, _⟩ => ⟨S256x2048, .f32⟩
  | .hbm, ⟨71, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_7 : Ref sig .tc := ⟨.hbm, 64, rfl⟩
abbrev main_v53 : Ref sig .tc := ⟨.hbm, 65, rfl⟩
abbrev main_v54 : Ref sig .tc := ⟨.hbm, 66, rfl⟩
abbrev main_cst_8 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]
-- ==== GateGrad.lean ====
abbrev S8192x1024 : Shape := ⟨2, ![8192, 1024]⟩
abbrev S8192x2816 : Shape := ⟨2, ![8192, 2816]⟩
abbrev S8192x8x352 : Shape := ⟨3, ![8192, 8, 352]⟩
abbrev S_ : Shape := ⟨0, ![]⟩
abbrev S8192x8x384 : Shape := ⟨3, ![8192, 8, 384]⟩
abbrev S8192x3072 : Shape := ⟨2, ![8192, 3072]⟩
abbrev S8x1024x352 : Shape := ⟨3, ![8, 1024, 352]⟩
abbrev S4096x1024 : Shape := ⟨2, ![4096, 1024]⟩
abbrev S4096x768 : Shape := ⟨2, ![4096, 768]⟩
abbrev S2x1024x352 : Shape := ⟨3, ![2, 1024, 352]⟩
abbrev S1024x768 : Shape := ⟨2, ![1024, 768]⟩
abbrev S1024x352 : Shape := ⟨2, ![1024, 352]⟩
abbrev S1x1024x352 : Shape := ⟨3, ![1, 1024, 352]⟩

abbrev nBuf : Space → Nat
  | .hbm => 10
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x1024, .bf16⟩
  | .hbm, ⟨3, _⟩ => ⟨S8192x2816, .bf16⟩
  | .hbm, ⟨4, _⟩ => ⟨S8192x8x352, .bf16⟩
  | .hbm, ⟨5, _⟩ => ⟨S_, .i32⟩
  | .hbm, ⟨6, _⟩ => ⟨S_, .bf16⟩
  | .hbm, ⟨7, _⟩ => ⟨S8192x8x384, .bf16⟩
  | .hbm, ⟨8, _⟩ => ⟨S8192x3072, .bf16⟩
  | .hbm, ⟨9, _⟩ => ⟨S8x1024x352, .bf16⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S2x1024x352, .bf16⟩
  | .local _ .vmem, ⟨5, _⟩ => ⟨S2x1024x352, .bf16⟩
  | .local _ .vmem, ⟨6, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GateGradRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S1024x8x352 : Shape := ⟨3, ![1024, 8, 352]⟩
abbrev S8x1024x352 : Shape := ⟨3, ![8, 1024, 352]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S1024x8x352, .f32⟩
  | .hbm, ⟨8, _⟩ => ⟨S8x1024x352, .f32⟩
  | .hbm, ⟨9, _⟩ => ⟨S8x1024x352, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownGrad.lean ====
abbrev S8192x2816 : Shape := ⟨2, ![8192, 2816]⟩
abbrev S8192x1024 : Shape := ⟨2, ![8192, 1024]⟩
abbrev S8192x8x352 : Shape := ⟨3, ![8192, 8, 352]⟩
abbrev S_ : Shape := ⟨0, ![]⟩
abbrev S8192x8x384 : Shape := ⟨3, ![8192, 8, 384]⟩
abbrev S8192x3072 : Shape := ⟨2, ![8192, 3072]⟩
abbrev S8x352x1024 : Shape := ⟨3, ![8, 352, 1024]⟩
abbrev S4096x1024 : Shape := ⟨2, ![4096, 1024]⟩
abbrev S4096x768 : Shape := ⟨2, ![4096, 768]⟩
abbrev S2x352x1024 : Shape := ⟨3, ![2, 352, 1024]⟩
abbrev S768x1024 : Shape := ⟨2, ![768, 1024]⟩
abbrev S352x1024 : Shape := ⟨2, ![352, 1024]⟩
abbrev S1x352x1024 : Shape := ⟨3, ![1, 352, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x1024, .bf16⟩
  | .hbm, ⟨3, _⟩ => ⟨S8192x2816, .bf16⟩
  | .hbm, ⟨4, _⟩ => ⟨S8192x8x352, .bf16⟩
  | .hbm, ⟨5, _⟩ => ⟨S_, .i32⟩
  | .hbm, ⟨6, _⟩ => ⟨S_, .bf16⟩
  | .hbm, ⟨7, _⟩ => ⟨S8192x8x384, .bf16⟩
  | .hbm, ⟨8, _⟩ => ⟨S8192x3072, .bf16⟩
  | .hbm, ⟨9, _⟩ => ⟨S8x352x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S2x352x1024, .bf16⟩
  | .local _ .vmem, ⟨5, _⟩ => ⟨S2x352x1024, .bf16⟩
  | .local _ .vmem, ⟨6, _⟩ => ⟨S768x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownGradRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S8x352x1024 : Shape := ⟨3, ![8, 352, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S8x352x1024, .f32⟩
  | .hbm, ⟨8, _⟩ => ⟨S8x352x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Ffn.lean ====
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S8x352x1024 : Shape := ⟨3, ![8, 352, 1024]⟩
abbrev S_ : Shape := ⟨0, ![]⟩
abbrev S8x384x1024 : Shape := ⟨3, ![8, 384, 1024]⟩
abbrev S4x768x1024 : Shape := ⟨3, ![4, 768, 1024]⟩
abbrev S1x1024 : Shape := ⟨2, ![1, 1024]⟩
abbrev S8192x3072 : Shape := ⟨2, ![8192, 3072]⟩
abbrev S1024x1024 : Shape := ⟨2, ![1024, 1024]⟩
abbrev S1x768x1024 : Shape := ⟨3, ![1, 768, 1024]⟩
abbrev S1024x768 : Shape := ⟨2, ![1024, 768]⟩
abbrev S768x1024 : Shape := ⟨2, ![768, 1024]⟩
abbrev S1024x1 : Shape := ⟨2, ![1024, 1]⟩

abbrev nBuf : Space → Nat
  | .hbm => 32
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S2816x1024, .f32⟩
  | .hbm, ⟨7, _⟩ => ⟨S2816x1024, .bf16⟩
  | .hbm, ⟨8, _⟩ => ⟨S8x352x1024, .bf16⟩
  | .hbm, ⟨9, _⟩ => ⟨S_, .i32⟩
  | .hbm, ⟨10, _⟩ => ⟨S_, .bf16⟩
  | .hbm, ⟨11, _⟩ => ⟨S8x384x1024, .bf16⟩
  | .hbm, ⟨12, _⟩ => ⟨S4x768x1024, .bf16⟩
  | .hbm, ⟨13, _⟩ => ⟨S2816x1024, .f32⟩
  | .hbm, ⟨14, _⟩ => ⟨S2816x1024, .bf16⟩
  | .hbm, ⟨15, _⟩ => ⟨S8x352x1024, .bf16⟩
  | .hbm, ⟨16, _⟩ => ⟨S_, .i32⟩
  | .hbm, ⟨17, _⟩ => ⟨S_, .bf16⟩
  | .hbm, ⟨18, _⟩ => ⟨S8x384x1024, .bf16⟩
  | .hbm, ⟨19, _⟩ => ⟨S4x768x1024, .bf16⟩
  | .hbm, ⟨20, _⟩ => ⟨S2816x1024, .bf16⟩
  | .hbm, ⟨21, _⟩ => ⟨S8x352x1024, .bf16⟩
  | .hbm, ⟨22, _⟩ => ⟨S_, .i32⟩
  | .hbm, ⟨23, _⟩ => ⟨S_, .bf16⟩
  | .hbm, ⟨24, _⟩ => ⟨S8x384x1024, .bf16⟩
  | .hbm, ⟨25, _⟩ => ⟨S4x768x1024, .bf16⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x3072, .bf16⟩
  | .hbm, ⟨31, _⟩ => ⟨S8192x3072, .bf16⟩
  | .local _ .vmem, ⟨0, _⟩ => ⟨S1024x1024, .f32⟩
  | .local _ .vmem, ⟨1, _⟩ => ⟨S1024x1024, .f32⟩
  | .local _ .vmem, ⟨2, _⟩ => ⟨S1x768x1024, .bf16⟩
  | .local _ .vmem, ⟨3, _⟩ => ⟨S1x768x1024, .bf16⟩
  | .local _ .vmem, ⟨4, _⟩ => ⟨S1x768x1024, .bf16⟩
  | .local _ .vmem, ⟨5, _⟩ => ⟨S1x768x1024, .bf16⟩
  | .local _ .vmem, ⟨6, _⟩ => ⟨S1x768x1024, .bf16⟩
  | .local _ .vmem, ⟨7, _⟩ => ⟨S1x768x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x768, .bf16⟩
  | .local _ .vmem, ⟨15, _⟩ => ⟨S1024x768, .bf16⟩
  | .local _ .vmem, ⟨16, _⟩ => ⟨S1024x768, .bf16⟩
  | .local _ .vmem, ⟨17, _⟩ => ⟨S1024x768, .bf16⟩
  | .local _ .vmem, ⟨18, _⟩ => ⟨S1024x1024, .bf16⟩
  | .local _ .vmem, ⟨19, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_call2_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev main_v16_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v34 : BitVec 1 := Scalar.cmpi .eq arg1 c3_i32
  let v35 : BitVec 32 := Scalar.extui v34
  let c0_i32_26 : BitVec 32 := 0#32
  let v36 : BitVec 1 := Scalar.cmpi .ne v35 c0_i32_26
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnRefIdeal.lean ====
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8192x2816 : Shape := ⟨2, ![8192, 2816]⟩
abbrev S8192 : Shape := ⟨1, ![8192]⟩
abbrev S8192x1 : Shape := ⟨2, ![8192, 1]⟩
abbrev S1x1024 : Shape := ⟨2, ![1, 1024]⟩
abbrev S8192x8x352 : Shape := ⟨3, ![8192, 8, 352]⟩
abbrev S8192x8x384 : Shape := ⟨3, ![8192, 8, 384]⟩
abbrev S8192x3072 : Shape := ⟨2, ![8192, 3072]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x2816, .f32⟩
  | .hbm, ⟨56, _⟩ => ⟨S8192x8x352, .f32⟩
  | .hbm, ⟨57, _⟩ => ⟨S_, .i32⟩
  | .hbm, ⟨58, _⟩ => ⟨S_, .f32⟩
  | .hbm, ⟨59, _⟩ => ⟨S8192x8x384, .f32⟩
  | .hbm, ⟨60, _⟩ => ⟨S8192x3072, .f32⟩
  | .hbm, ⟨61, _⟩ => ⟨S8192x3072, .bf16⟩
  | .hbm, ⟨62, _⟩ => ⟨S8192x2816, .f32⟩
  | .hbm, ⟨63, _⟩ => ⟨S8192x8x352, .f32⟩
  | .hbm, ⟨64, _⟩ => ⟨S_, .i32⟩
  | .hbm, ⟨65, _⟩ => ⟨S_, .f32⟩
  | .hbm, ⟨66, _⟩ => ⟨S8192x8x384, .f32⟩
  | .hbm, ⟨67, _⟩ => ⟨S8192x3072, .f32⟩
  | .hbm, ⟨68, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c : Ref sig .tc := ⟨.hbm, 57, rfl⟩
abbrev main_call1_v0 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_6 : Ref sig .tc := ⟨.hbm, 64, rfl⟩
abbrev main_call2_v0 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]
-- ==== ProjW.lean ====
abbrev S8192x1024 : Shape := ⟨2, ![8192, 1024]⟩
abbrev S8192x3584 : Shape := ⟨2, ![8192, 3584]⟩
abbrev S1024x3584 : Shape := ⟨2, ![1024, 3584]⟩
abbrev S1024x1024 : Shape := ⟨2, ![1024, 1024]⟩
abbrev S1024x1792 : Shape := ⟨2, ![1024, 1792]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x3584, .f32⟩
  | .hbm, ⟨2, _⟩ => ⟨S8192x3584, .bf16⟩
  | .hbm, ⟨3, _⟩ => ⟨S1024x3584, .bf16⟩
  | .local _ .vmem, ⟨0, _⟩ => ⟨S1024x1024, .f32⟩
  | .local _ .vmem, ⟨1, _⟩ => ⟨S1024x1024, .f32⟩
  | .local _ .vmem, ⟨2, _⟩ => ⟨S1024x1792, .bf16⟩
  | .local _ .vmem, ⟨3, _⟩ => ⟨S1024x1792, .bf16⟩
  | .local _ .vmem, ⟨4, _⟩ => ⟨S1024x1792, .bf16⟩
  | .local _ .vmem, ⟨5, _⟩ => ⟨S1024x1792, .bf16⟩
  | .local _ .vmem, ⟨6, _⟩ => ⟨S1024x1792, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjWRefIdeal.lean ====
abbrev S8192x1024 : Shape := ⟨2, ![8192, 1024]⟩
abbrev S8192x3584 : Shape := ⟨2, ![8192, 3584]⟩
abbrev S_ : Shape := ⟨0, ![]⟩
abbrev S1024x3584 : Shape := ⟨2, ![1024, 3584]⟩
abbrev S3584x1024 : Shape := ⟨2, ![3584, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3584, .f32⟩
  | .hbm, ⟨2, _⟩ => ⟨S_, .f32⟩
  | .hbm, ⟨3, _⟩ => ⟨S1024x3584, .f32⟩
  | .hbm, ⟨4, _⟩ => ⟨S8192x3584, .f32⟩
  | .hbm, ⟨5, _⟩ => ⟨S3584x1024, .f32⟩
  | .hbm, ⟨6, _⟩ => ⟨S1024x3584, .f32⟩
  | .hbm, ⟨7, _⟩ => ⟨S1024x3584, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjX.lean ====
abbrev S8192x3584 : Shape := ⟨2, ![8192, 3584]⟩
abbrev S1024x3584 : Shape := ⟨2, ![1024, 3584]⟩
abbrev S8192x1024 : Shape := ⟨2, ![8192, 1024]⟩
abbrev S1024x1792 : Shape := ⟨2, ![1024, 1792]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x3584, .f32⟩
  | .hbm, ⟨1, _⟩ => ⟨S1024x3584, .f32⟩
  | .hbm, ⟨2, _⟩ => ⟨S8192x1024, .f32⟩
  | .hbm, ⟨3, _⟩ => ⟨S8192x3584, .bf16⟩
  | .hbm, ⟨4, _⟩ => ⟨S1024x3584, .bf16⟩
  | .hbm, ⟨5, _⟩ => ⟨S8192x1024, .f32⟩
  | .local _ .vmem, ⟨0, _⟩ => ⟨S1024x1792, .bf16⟩
  | .local _ .vmem, ⟨1, _⟩ => ⟨S1024x1792, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjXRefIdeal.lean ====
abbrev S8192x3584 : Shape := ⟨2, ![8192, 3584]⟩
abbrev S1024x3584 : Shape := ⟨2, ![1024, 3584]⟩
abbrev S8192x1024 : Shape := ⟨2, ![8192, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S1024x3584, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x3584, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== LnGrad.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S8x1024 : Shape := ⟨2, ![8, 1024]⟩
abbrev S1024x1 : Shape := ⟨2, ![1024, 1]⟩
abbrev S128x8x1024 : Shape := ⟨3, ![128, 8, 1024]⟩

abbrev nBuf : Space → Nat
  | .hbm => 11
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1x1024, .f32⟩
  | .hbm, ⟨6, _⟩ => ⟨S1024x1024, .bf16⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1x1024, .f32⟩
  | .local _ .vmem, ⟨12, _⟩ => ⟨S8x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v62 : BitVec 1 := Scalar.cmpi .eq arg0 c7_i32
  let v63 : BitVec 32 := Scalar.extui v62
  let c0_i32_31 : BitVec 32 := 0#32
  let v64 : BitVec 1 := Scalar.cmpi .ne v63 c0_i32_31
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LnGradRefIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 92
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x1024, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S1x1024, .f32⟩
  | .hbm, ⟨91, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_14 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== FfnX.lean ====
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S8192x2816 : Shape := ⟨2, ![8192, 2816]⟩
abbrev S_ : Shape := ⟨0, ![]⟩
abbrev S8x352x1024 : Shape := ⟨3, ![8, 352, 1024]⟩
abbrev S8x384x1024 : Shape := ⟨3, ![8, 384, 1024]⟩
abbrev S4x768x1024 : Shape := ⟨3, ![4, 768, 1024]⟩
abbrev S1x1024 : Shape := ⟨2, ![1, 1024]⟩
abbrev S8192x8x352 : Shape := ⟨3, ![8192, 8, 352]⟩
abbrev S8192x8x384 : Shape := ⟨3, ![8192, 8, 384]⟩
abbrev S8192x3072 : Shape := ⟨2, ![8192, 3072]⟩
abbrev S512x1024 : Shape := ⟨2, ![512, 1024]⟩
abbrev S1x768x1024 : Shape := ⟨3, ![1, 768, 1024]⟩
abbrev S512x768 : Shape := ⟨2, ![512, 768]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S768x1024 : Shape := ⟨2, ![768, 1024]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 68
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S2816x1024, .f32⟩
  | .hbm, ⟨28, _⟩ => ⟨S2816x1024, .bf16⟩
  | .hbm, ⟨29, _⟩ => ⟨S8x352x1024, .bf16⟩
  | .hbm, ⟨30, _⟩ => ⟨S_, .i32⟩
  | .hbm, ⟨31, _⟩ => ⟨S_, .bf16⟩
  | .hbm, ⟨32, _⟩ => ⟨S8x384x1024, .bf16⟩
  | .hbm, ⟨33, _⟩ => ⟨S4x768x1024, .bf16⟩
  | .hbm, ⟨34, _⟩ => ⟨S2816x1024, .f32⟩
  | .hbm, ⟨35, _⟩ => ⟨S2816x1024, .bf16⟩
  | .hbm, ⟨36, _⟩ => ⟨S8x352x1024, .bf16⟩
  | .hbm, ⟨37, _⟩ => ⟨S_, .i32⟩
  | .hbm, ⟨38, _⟩ => ⟨S_, .bf16⟩
  | .hbm, ⟨39, _⟩ => ⟨S8x384x1024, .bf16⟩
  | .hbm, ⟨40, _⟩ => ⟨S4x768x1024, .bf16⟩
  | .hbm, ⟨41, _⟩ => ⟨S2816x1024, .bf16⟩
  | .hbm, ⟨42, _⟩ => ⟨S8x352x1024, .bf16⟩
  | .hbm, ⟨43, _⟩ => ⟨S_, .i32⟩
  | .hbm, ⟨44, _⟩ => ⟨S_, .bf16⟩
  | .hbm, ⟨45, _⟩ => ⟨S8x384x1024, .bf16⟩
  | .hbm, ⟨46, _⟩ => ⟨S4x768x1024, .bf16⟩
  | .hbm, ⟨47, _⟩ => ⟨S1x1024, .f32⟩
  | .hbm, ⟨48, _⟩ => ⟨S8192x2816, .bf16⟩
  | .hbm, ⟨49, _⟩ => ⟨S8192x8x352, .bf16⟩
  | .hbm, ⟨50, _⟩ => ⟨S_, .i32⟩
  | .hbm, ⟨51, _⟩ => ⟨S_, .bf16⟩
  | .hbm, ⟨52, _⟩ => ⟨S8192x8x384, .bf16⟩
  | .hbm, ⟨53, _⟩ => ⟨S8192x3072, .bf16⟩
  | .hbm, ⟨54, _⟩ => ⟨S8192x2816, .bf16⟩
  | .hbm, ⟨55, _⟩ => ⟨S8192x8x352, .bf16⟩
  | .hbm, ⟨56, _⟩ => ⟨S_, .i32⟩
  | .hbm, ⟨57, _⟩ => ⟨S_, .bf16⟩
  | .hbm, ⟨58, _⟩ => ⟨S8192x8x384, .bf16⟩
  | .hbm, ⟨59, _⟩ => ⟨S8192x3072, .bf16⟩
  | .hbm, ⟨60, _⟩ => ⟨S8192x1024, .f32⟩
  | .hbm, ⟨61, _⟩ => ⟨S8192x1024, .bf16⟩
  | .hbm, ⟨62, _⟩ => ⟨S8192x1024, .bf16⟩
  | .hbm, ⟨63, _⟩ => ⟨S8192x3072, .bf16⟩
  | .hbm, ⟨64, _⟩ => ⟨S8192x3072, .bf16⟩
  | .hbm, ⟨65, _⟩ => ⟨S8192x3072, .bf16⟩
  | .hbm, ⟨66, _⟩ => ⟨S1x1024, .f32⟩
  | .hbm, ⟨67, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x768x1024, .bf16⟩
  | .local _ .vmem, ⟨7, _⟩ => ⟨S1x768x1024, .bf16⟩
  | .local _ .vmem, ⟨8, _⟩ => ⟨S1x768x1024, .bf16⟩
  | .local _ .vmem, ⟨9, _⟩ => ⟨S1x768x1024, .bf16⟩
  | .local _ .vmem, ⟨10, _⟩ => ⟨S1x768x1024, .bf16⟩
  | .local _ .vmem, ⟨11, _⟩ => ⟨S1x768x1024, .bf16⟩
  | .local _ .vmem, ⟨12, _⟩ => ⟨S1x1024, .f32⟩
  | .local _ .vmem, ⟨13, _⟩ => ⟨S512x768, .bf16⟩
  | .local _ .vmem, ⟨14, _⟩ => ⟨S512x768, .bf16⟩
  | .local _ .vmem, ⟨15, _⟩ => ⟨S512x768, .bf16⟩
  | .local _ .vmem, ⟨16, _⟩ => ⟨S512x768, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x768, .bf16⟩
  | .local _ .vmem, ⟨24, _⟩ => ⟨S512x768, .bf16⟩
  | .local _ .vmem, ⟨25, _⟩ => ⟨S512x768, .bf16⟩
  | .local _ .vmem, ⟨26, _⟩ => ⟨S512x768, .bf16⟩
  | .local _ .vmem, ⟨27, _⟩ => ⟨S512x768, .bf16⟩
  | .local _ .vmem, ⟨28, _⟩ => ⟨S512x768, .bf16⟩
  | .local _ .vmem, ⟨29, _⟩ => ⟨S1x1024, .f32⟩
  | .local _ .vmem, ⟨30, _⟩ => ⟨S1x1024, .f32⟩
  | .local _ .vmem, ⟨31, _⟩ => ⟨S512x1024, .bf16⟩
  | .local _ .vmem, ⟨32, _⟩ => ⟨S512x1024, .f32⟩
  | .local _ .vmem, ⟨33, _⟩ => ⟨S512x1024, .f32⟩
  | .local _ .vmem, ⟨34, _⟩ => ⟨S8x1024, .f32⟩
  | .local _ .vmem, ⟨35, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_call1_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_1 : Ref sig .tc := ⟨.hbm, 37, rfl⟩
abbrev main_call2_v0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_2 : Ref sig .tc := ⟨.hbm, 43, rfl⟩
abbrev main_call3_v0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_3 : Ref sig .tc := ⟨.hbm, 50, rfl⟩
abbrev main_call4_v0 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_4 : Ref sig .tc := ⟨.hbm, 56, rfl⟩
abbrev main_call5_v0 : Ref sig .tc := ⟨.hbm, 57, rfl⟩
abbrev main_v31 : Ref sig .tc := ⟨.hbm, 58, rfl⟩
abbrev main_v32 : Ref sig .tc := ⟨.hbm, 59, rfl⟩
abbrev main_v33_0 : Ref sig .tc := ⟨.hbm, 60, rfl⟩
abbrev main_v33_1 : Ref sig .tc := ⟨.hbm, 61, rfl⟩
abbrev main_v33_2 : Ref sig .tc := ⟨.hbm, 62, rfl⟩
abbrev main_v33_3 : Ref sig .tc := ⟨.hbm, 63, rfl⟩
abbrev main_v33_4 : Ref sig .tc := ⟨.hbm, 64, rfl⟩
abbrev main_v33_5 : Ref sig .tc := ⟨.hbm, 65, rfl⟩
abbrev main_v33_6 : Ref sig .tc := ⟨.hbm, 66, rfl⟩
abbrev main_v33_7 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg16_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem16_0 : DmaSem sig := 30

abbrev nD : Nat := 1
abbrev τ : Topo := Topo.v7x

variable {F : FTy → Type} [FloatOps F]

abbrev grid0 : Pipeline.Grid := ⟨2, ![16, 4], ![false, false]⟩

def k0_cond5 (i : grid0.Coords) : BitVec 1 :=
  let arg1 : BitVec 32 := BitVec.ofNat 32 (i 1).val
  let c3_i32 : BitVec 32 := 3#32
  let v129 : BitVec 1 := Scalar.cmpi .eq arg1 c3_i32
  let v130 : BitVec 32 := Scalar.extui v129
  let c0_i32_76 : BitVec 32 := 0#32
  let v131 : BitVec 1 := Scalar.cmpi .ne v130 c0_i32_76
  v131

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond6 (i : grid0.Coords) : BitVec 1 :=
  let arg1 : BitVec 32 := BitVec.ofNat 32 (i 1).val
  let c3_i32_77 : BitVec 32 := 3#32
  let v132 : BitVec 1 := Scalar.cmpi .eq arg1 c3_i32_77
  let arg0 : BitVec 32 := BitVec.ofNat 32 (i 0).val
  let c15_i32 : BitVec 32 := 15#32
  let v133 : BitVec 1 := Scalar.cmpi .eq arg0 c15_i32
  let v134 : BitVec 1 := Scalar.andi v132 v133
  let v135 : BitVec 32 := Scalar.extui v134
  let c0_i32_78 : BitVec 32 := 0#32
  let v136 : BitVec 1 := Scalar.cmpi .ne v135 c0_i32_78
  v136

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== FfnXRefIdeal.lean ====
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8192x2816 : Shape := ⟨2, ![8192, 2816]⟩
abbrev S8192 : Shape := ⟨1, ![8192]⟩
abbrev S8192x1 : Shape := ⟨2, ![8192, 1]⟩
abbrev S1x1024 : Shape := ⟨2, ![1, 1024]⟩
abbrev S8192x8x352 : Shape := ⟨3, ![8192, 8, 352]⟩
abbrev S8192x8x384 : Shape := ⟨3, ![8192, 8, 384]⟩
abbrev S8192x3072 : Shape := ⟨2, ![8192, 3072]⟩

abbrev nBuf : Space → Nat
  | .hbm => 170
  | .vmem => 0
  | .smem => 0
  | _ => 0

abbrev hbmTy0_0 (i : Nat) : BufTy := match i % 128 with
  | 0 => ⟨S8192x1024, .f32⟩
  | 1 => ⟨S8192x1024, .f32⟩
  | 2 => ⟨S1024x2816, .f32⟩
  | 3 => ⟨S1024x2816, .f32⟩
  | 4 => ⟨S2816x1024, .f32⟩
  | 5 => ⟨S1024, .f32⟩
  | 6 => ⟨S1024, .f32⟩
  | 7 => ⟨S_, .f32⟩
  | 8 => ⟨S8192x2816, .f32⟩
  | 9 => ⟨S_, .f32⟩
  | 10 => ⟨S8192x1024, .f32⟩
  | 11 => ⟨S8192x2816, .f32⟩
  | 12 => ⟨S8192x2816, .f32⟩
  | 13 => ⟨S8192x2816, .f32⟩
  | 14 => ⟨S8192x2816, .f32⟩
  | 15 => ⟨S_, .f32⟩
  | 16 => ⟨S8192x2816, .f32⟩
  | 17 => ⟨S8192x2816, .f32⟩
  | 18 => ⟨S_, .f32⟩
  | 19 => ⟨S8192x2816, .f32⟩
  | 20 => ⟨S8192x2816, .f32⟩
  | 21 => ⟨S_, .f32⟩
  | 22 => ⟨S8192x2816, .f32⟩
  | 23 => ⟨S8192x2816, .f32⟩
  | 24 => ⟨S8192x2816, .f32⟩
  | 25 => ⟨S8192x2816, .f32⟩
  | 26 => ⟨S8192x2816, .f32⟩
  | 27 => ⟨S8192x2816, .f32⟩
  | 28 => ⟨S8192x2816, .f32⟩
  | 29 => ⟨S_, .f32⟩
  | 30 => ⟨S8192x1024, .f32⟩
  | 31 => ⟨S8192x1024, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S8192x1024, .f32⟩
  | 38 => ⟨S_, .f32⟩
  | 39 => ⟨S8192, .f32⟩
  | 40 => ⟨S8192x1, .f32⟩
  | 41 => ⟨S_, .f32⟩
  | 42 => ⟨S8192x1, .f32⟩
  | 43 => ⟨S8192x1, .f32⟩
  | 44 => ⟨S8192x1024, .f32⟩
  | 45 => ⟨S8192x1024, .f32⟩
  | 46 => ⟨S8192x1024, .f32⟩
  | 47 => ⟨S_, .f32⟩
  | 48 => ⟨S8192x1024, .f32⟩
  | 49 => ⟨S8192x1024, .f32⟩
  | 50 => ⟨S_, .f32⟩
  | 51 => ⟨S8192, .f32⟩
  | 52 => ⟨S8192x1, .f32⟩
  | 53 => ⟨S_, .f32⟩
  | 54 => ⟨S8192x1, .f32⟩
  | 55 => ⟨S8192x1, .f32⟩
  | 56 => ⟨S8192x1024, .f32⟩
  | 57 => ⟨S8192x1024, .f32⟩
  | 58 => ⟨S_, .f32⟩
  | 59 => ⟨S8192x1, .f32⟩
  | 60 => ⟨S8192x1, .f32⟩
  | 61 => ⟨S8192x1, .f32⟩
  | 62 => ⟨S8192x1, .f32⟩
  | 63 => ⟨S_, .f32⟩
  | 64 => ⟨S8192x1, .f32⟩
  | 65 => ⟨S8192x1, .f32⟩
  | 66 => ⟨S8192x1024, .f32⟩
  | 67 => ⟨S8192x1024, .f32⟩
  | 68 => ⟨S1x1024, .f32⟩
  | 69 => ⟨S8192x1024, .f32⟩
  | 70 => ⟨S8192x1024, .f32⟩
  | 71 => ⟨S1x1024, .f32⟩
  | 72 => ⟨S8192x1024, .f32⟩
  | 73 => ⟨S8192x1024, .f32⟩
  | 74 => ⟨S8192x1024, .f32⟩
  | 75 => ⟨S_, .f32⟩
  | 76 => ⟨S1024, .f32⟩
  | 77 => ⟨S1x1024, .f32⟩
  | 78 => ⟨S_, .f32⟩
  | 79 => ⟨S1024, .f32⟩
  | 80 => ⟨S8192x1024, .f32⟩
  | 81 => ⟨S_, .f32⟩
  | 82 => ⟨S1024, .f32⟩
  | 83 => ⟨S1x1024, .f32⟩
  | 84 => ⟨S8192x1024, .f32⟩
  | 85 => ⟨S8192x1024, .f32⟩
  | 86 => ⟨S_, .f32⟩
  | 87 => ⟨S1024, .f32⟩
  | 88 => ⟨S8192x1024, .f32⟩
  | 89 => ⟨S_, .f32⟩
  | 90 => ⟨S8192, .f32⟩
  | 91 => ⟨S8192x1, .f32⟩
  | 92 => ⟨S8192x1024, .f32⟩
  | 93 => ⟨S8192x1024, .f32⟩
  | 94 => ⟨S8192x1, .f32⟩
  | 95 => ⟨S8192x1024, .f32⟩
  | 96 => ⟨S_, .f32⟩
  | 97 => ⟨S8192, .f32⟩
  | 98 => ⟨S8192x1, .f32⟩
  | 99 => ⟨S_, .f32⟩
  | 100 => ⟨S8192x1, .f32⟩
  | 101 => ⟨S8192x1, .f32⟩
  | 102 => ⟨S_, .f32⟩
  | 103 => ⟨S8192, .f32⟩
  | 104 => ⟨S8192x1024, .f32⟩
  | 105 => ⟨S8192x1024, .f32⟩
  | 106 => ⟨S8192x1024, .f32⟩
  | 107 => ⟨S_, .f32⟩
  | 108 => ⟨S8192, .f32⟩
  | 109 => ⟨S8192x1, .f32⟩
  | 110 => ⟨S8192x1024, .f32⟩
  | 111 => ⟨S8192x1, .f32⟩
  | 112 => ⟨S_, .f32⟩
  | 113 => ⟨S8192x1, .f32⟩
  | 114 => ⟨S8192x1, .f32⟩
  | 115 => ⟨S_, .f32⟩
  | 116 => ⟨S8192, .f32⟩
  | 117 => ⟨S8192x1024, .f32⟩
  | 118 => ⟨S8192x1024, .f32⟩
  | 119 => ⟨S_, .f32⟩
  | 120 => ⟨S8192x1024, .f32⟩
  | 121 => ⟨S8192x1024, .f32⟩
  | 122 => ⟨S8192x2816, .f32⟩
  | 123 => ⟨S_, .f32⟩
  | 124 => ⟨S8192x1024, .f32⟩
  | 125 => ⟨S8192x1024, .f32⟩
  | 126 => ⟨S8192x2816, .f32⟩
  | 127 => ⟨S8192x2816, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x2816, .f32⟩
  | 3 => ⟨S8192x2816, .f32⟩
  | 4 => ⟨S8192x2816, .f32⟩
  | 5 => ⟨S8192x2816, .f32⟩
  | 6 => ⟨S8192x1024, .f32⟩
  | 7 => ⟨S8192x1024, .f32⟩
  | 8 => ⟨S8192x2816, .f32⟩
  | 9 => ⟨S8192x2816, .f32⟩
  | 10 => ⟨S8192x2816, .f32⟩
  | 11 => ⟨S_, .f32⟩
  | 12 => ⟨S8192x2816, .f32⟩
  | 13 => ⟨S8192x2816, .f32⟩
  | 14 => ⟨S_, .f32⟩
  | 15 => ⟨S8192x2816, .f32⟩
  | 16 => ⟨S8192x2816, .f32⟩
  | 17 => ⟨S8192x2816, .f32⟩
  | 18 => ⟨S8192x2816, .f32⟩
  | 19 => ⟨S8192x2816, .f32⟩
  | 20 => ⟨S8192x1024, .bf16⟩
  | 21 => ⟨S8192x1024, .bf16⟩
  | 22 => ⟨S8192x8x352, .f32⟩
  | 23 => ⟨S_, .i32⟩
  | 24 => ⟨S_, .f32⟩
  | 25 => ⟨S8192x8x384, .f32⟩
  | 26 => ⟨S8192x3072, .f32⟩
  | 27 => ⟨S8192x3072, .bf16⟩
  | 28 => ⟨S8192x8x352, .f32⟩
  | 29 => ⟨S_, .i32⟩
  | 30 => ⟨S_, .f32⟩
  | 31 => ⟨S8192x8x384, .f32⟩
  | 32 => ⟨S8192x3072, .f32⟩
  | 33 => ⟨S8192x3072, .bf16⟩
  | 34 => ⟨S8192x8x352, .f32⟩
  | 35 => ⟨S_, .i32⟩
  | 36 => ⟨S_, .f32⟩
  | 37 => ⟨S8192x8x384, .f32⟩
  | 38 => ⟨S8192x3072, .f32⟩
  | 39 => ⟨S8192x3072, .bf16⟩
  | 40 => ⟨S1x1024, .f32⟩
  | 41 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v4_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v4_1 : Ref sig .tc := ⟨.hbm, 24, rfl⟩
abbrev main_v4_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_3 : Ref sig .tc := ⟨.hbm, 38, rfl⟩
abbrev main_v15 : Ref sig .tc := ⟨.hbm, 39, rfl⟩
abbrev main_v16 : Ref sig .tc := ⟨.hbm, 40, rfl⟩
abbrev main_cst_4 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_5 : Ref sig .tc := ⟨.hbm, 47, rfl⟩
abbrev main_v22 : Ref sig .tc := ⟨.hbm, 48, rfl⟩
abbrev main_v23 : Ref sig .tc := ⟨.hbm, 49, rfl⟩
abbrev main_cst_6 : Ref sig .tc := ⟨.hbm, 50, rfl⟩
abbrev main_v24 : Ref sig .tc := ⟨.hbm, 51, rfl⟩
abbrev main_v25 : Ref sig .tc := ⟨.hbm, 52, rfl⟩
abbrev main_cst_7 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_8 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_9 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_cst_12 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_13 : Ref sig .tc := ⟨.hbm, 86, rfl⟩
abbrev main_v53 : Ref sig .tc := ⟨.hbm, 87, rfl⟩
abbrev main_v54 : Ref sig .tc := ⟨.hbm, 88, rfl⟩
abbrev main_cst_14 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_15 : Ref sig .tc := ⟨.hbm, 96, rfl⟩
abbrev main_v61 : Ref sig .tc := ⟨.hbm, 97, rfl⟩
abbrev main_v62 : Ref sig .tc := ⟨.hbm, 98, rfl⟩
abbrev main_cst_16 : Ref sig .tc := ⟨.hbm, 99, rfl⟩
abbrev main_v63 : Ref sig .tc := ⟨.hbm, 100, rfl⟩
abbrev main_v64 : Ref sig .tc := ⟨.hbm, 101, rfl⟩
abbrev main_cst_17 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_18 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_19 : Ref sig .tc := ⟨.hbm, 112, rfl⟩
abbrev main_v73 : Ref sig .tc := ⟨.hbm, 113, rfl⟩
abbrev main_v74 : Ref sig .tc := ⟨.hbm, 114, rfl⟩
abbrev main_cst_20 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_21 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_22 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_call1_v0 : Ref sig .tc := ⟨.hbm, 130, rfl⟩
abbrev main_call1_v1 : Ref sig .tc := ⟨.hbm, 131, rfl⟩
abbrev main_call1_v2 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_call2_v0 : Ref sig .tc := ⟨.hbm, 137, rfl⟩
abbrev main_call2_v1 : Ref sig .tc := ⟨.hbm, 138, rfl⟩
abbrev main_call2_cst : Ref sig .tc := ⟨.hbm, 139, rfl⟩
abbrev main_call2_v2 : Ref sig .tc := ⟨.hbm, 140, rfl⟩
abbrev main_call2_v3 : Ref sig .tc := ⟨.hbm, 141, rfl⟩
abbrev main_call2_cst_0 : Ref sig .tc := ⟨.hbm, 142, rfl⟩
abbrev main_call2_v4 : Ref sig .tc := ⟨.hbm, 143, rfl⟩
abbrev main_call2_v5 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_c : Ref sig .tc := ⟨.hbm, 151, rfl⟩
abbrev main_call3_v0 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_c_23 : Ref sig .tc := ⟨.hbm, 157, rfl⟩
abbrev main_call4_v0 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_c_24 : Ref sig .tc := ⟨.hbm, 163, rfl⟩
abbrev main_call5_v0 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩

abbrev nD : Nat := 1
abbrev τ : Topo := Topo.v7x

variable {F : FTy → Type} [FloatOps F]
-- ==== QueryW.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QueryWRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutW.lean ====
abbrev S8192x512 : Shape := ⟨2, ![8192, 512]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S512x1024, .bf16⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GatesW.lean ====
abbrev S8192x1024 : Shape := ⟨2, ![8192, 1024]⟩
abbrev S8192x128 : Shape := ⟨2, ![8192, 128]⟩
abbrev S1024x128 : Shape := ⟨2, ![1024, 128]⟩
abbrev S512x1024 : Shape := ⟨2, ![512, 1024]⟩
abbrev S512x128 : Shape := ⟨2, ![512, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S1024x128, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S1024x128, .bf16⟩
  | .local _ .vmem, ⟨5, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GatesWRefIdeal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S_, .f32⟩
  | .hbm, ⟨3, _⟩ => ⟨S1024x128, .f32⟩
  | .hbm, ⟨4, _⟩ => ⟨S8192x128, .f32⟩
  | .hbm, ⟨5, _⟩ => ⟨S128x1024, .f32⟩
  | .hbm, ⟨6, _⟩ => ⟨S1024x128, .f32⟩
  | .hbm, ⟨7, _⟩ => ⟨S1024x128, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MemW.lean ====
abbrev S256x1024 : Shape := ⟨2, ![256, 1024]⟩
abbrev S256x2048 : Shape := ⟨2, ![256, 2048]⟩
abbrev S8x1024x256 : Shape := ⟨3, ![8, 1024, 256]⟩
abbrev S256x256 : Shape := ⟨2, ![256, 256]⟩
abbrev S1x1024x256 : Shape := ⟨3, ![1, 1024, 256]⟩
abbrev S8x128 : Shape := ⟨2, ![8, 128]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S256x2048, .f32⟩
  | .hbm, ⟨2, _⟩ => ⟨S8x1024x256, .bf16⟩
  | .local _ .vmem, ⟨0, _⟩ => ⟨S256x1024, .f32⟩
  | .local _ .vmem, ⟨1, _⟩ => ⟨S256x256, .f32⟩
  | .local _ .vmem, ⟨2, _⟩ => ⟨S256x256, .f32⟩
  | .local _ .vmem, ⟨3, _⟩ => ⟨S1x1024x256, .bf16⟩
  | .local _ .vmem, ⟨4, _⟩ => ⟨S1x1024x256, .bf16⟩
  | .local _ .vmem, ⟨5, _⟩ => ⟨S8x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemWRefIdeal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x2048, .f32⟩
  | .hbm, ⟨2, _⟩ => ⟨S_, .f32⟩
  | .hbm, ⟨3, _⟩ => ⟨S1024x2048, .f32⟩
  | .hbm, ⟨4, _⟩ => ⟨S256x2048, .f32⟩
  | .hbm, ⟨5, _⟩ => ⟨S2048x1024, .f32⟩
  | .hbm, ⟨6, _⟩ => ⟨S1024x2048, .f32⟩
  | .hbm, ⟨7, _⟩ => ⟨S1024x8x256, .f32⟩
  | .hbm, ⟨8, _⟩ => ⟨S8x1024x256, .f32⟩
  | .hbm, ⟨9, _⟩ => ⟨S8x1024x256, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QueryX.lean ====
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== QueryXRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== GatesX.lean ====
abbrev S8192x128 : Shape := ⟨2, ![8192, 128]⟩
abbrev S1024x128 : Shape := ⟨2, ![1024, 128]⟩
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 5
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S1024x128, .f32⟩
  | .hbm, ⟨2, _⟩ => ⟨S8192x1024, .f32⟩
  | .hbm, ⟨3, _⟩ => ⟨S1024x128, .bf16⟩
  | .hbm, ⟨4, _⟩ => ⟨S8192x1024, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GatesXRefIdeal.lean ====
abbrev S8192x128 : Shape := ⟨2, ![8192, 128]⟩
abbrev S1024x128 : Shape := ⟨2, ![1024, 128]⟩
abbrev S8192x1024 : Shape := ⟨2, ![8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S1024x128, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x128, .f32⟩
  | .hbm, ⟨6, _⟩ => ⟨S8192x1024, .f32⟩
  | .hbm, ⟨7, _⟩ => ⟨S8192x1024, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Query.lean ====
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryRefIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Gates.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S1024x128, .bf16⟩
  | .hbm, ⟨3, _⟩ => ⟨S8192x128, .f32⟩
  | .local _ .vmem, ⟨0, _⟩ => ⟨S1024x1024, .f32⟩
  | .local _ .vmem, ⟨1, _⟩ => ⟨S1024x1024, .f32⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | .local _ .vmem, ⟨5, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GatesRefIdeal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AttnOut.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnOutRefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== MixerOut.lean ====
abbrev S8192x512 : Shape := ⟨2, ![8192, 512]⟩
abbrev S1024x1024 : Shape := ⟨2, ![1024, 1024]⟩
abbrev S8192x1024 : Shape := ⟨2, ![8192, 1024]⟩
abbrev S1024 : Shape := ⟨1, ![1024]⟩
abbrev S1x1024 : Shape := ⟨2, ![1, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixerOutRefIdeal.lean ====
abbrev S8192x512 : Shape := ⟨2, ![8192, 512]⟩
abbrev S1024x1024 : Shape := ⟨2, ![1024, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== MemKv.lean ====
abbrev S256x1024 : Shape := ⟨2, ![256, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S256x2048 : Shape := ⟨2, ![256, 2048]⟩
abbrev S1x1024x256 : Shape := ⟨3, ![1, 1024, 256]⟩
abbrev S256x256 : Shape := ⟨2, ![256, 256]⟩
abbrev S1024x256 : Shape := ⟨2, ![1024, 256]⟩

abbrev nBuf : Space → Nat
  | .hbm => 6
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024x2048, .f32⟩
  | .hbm, ⟨2, _⟩ => ⟨S1024x2048, .bf16⟩
  | .hbm, ⟨3, _⟩ => ⟨S1024x8x256, .bf16⟩
  | .hbm, ⟨4, _⟩ => ⟨S8x1024x256, .bf16⟩
  | .hbm, ⟨5, _⟩ => ⟨S256x2048, .f32⟩
  | .local _ .vmem, ⟨0, _⟩ => ⟨S256x1024, .f32⟩
  | .local _ .vmem, ⟨1, _⟩ => ⟨S1x1024x256, .bf16⟩
  | .local _ .vmem, ⟨2, _⟩ => ⟨S1x1024x256, .bf16⟩
  | .local _ .vmem, ⟨3, _⟩ => ⟨S256x256, .f32⟩
  | .local _ .vmem, ⟨4, _⟩ => ⟨S256x256, .f32⟩
  | .local _ .vmem, ⟨5, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemKvRefIdeal.lean ====
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 3
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x2048, .f32⟩
  | .hbm, ⟨2, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Attn.lean ====
abbrev S8192x1024 : Shape := ⟨2, ![8192, 1024]⟩
abbrev S256x2048 : Shape := ⟨2, ![256, 2048]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S256x1024, .f32⟩
  | .local _ .vmem, ⟨3, _⟩ => ⟨S256x1024, .f32⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnRefIdeal.lean ====
abbrev S8192x1024 : Shape := ⟨2, ![8192, 1024]⟩
abbrev S256x2048 : Shape := ⟨2, ![256, 2048]⟩
abbrev S8192x4x256 : Shape := ⟨3, ![8192, 4, 256]⟩
abbrev S256x2x4x256 : Shape := ⟨4, ![256, 2, 4, 256]⟩
abbrev S256x1x4x256 : Shape := ⟨4, ![256, 1, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S8192x4x256, .f32⟩
  | .hbm, ⟨3, _⟩ => ⟨S256x2x4x256, .f32⟩
  | .hbm, ⟨4, _⟩ => ⟨S256x1x4x256, .f32⟩
  | .hbm, ⟨5, _⟩ => ⟨S256x4x256, .f32⟩
  | .hbm, ⟨6, _⟩ => ⟨S256x1x4x256, .f32⟩
  | .hbm, ⟨7, _⟩ => ⟨S256x4x256, .f32⟩
  | .hbm, ⟨8, _⟩ => ⟨S4x8192x256, .f32⟩
  | .hbm, ⟨9, _⟩ => ⟨S_, .f32⟩
  | .hbm, ⟨10, _⟩ => ⟨S4x8192x256, .f32⟩
  | .hbm, ⟨11, _⟩ => ⟨S4x8192x256, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S4x8192x256, .f32⟩
  | .hbm, ⟨16, _⟩ => ⟨S4x8192x256, .f32⟩
  | .hbm, ⟨17, _⟩ => ⟨S4x8192x256, .f32⟩
  | .hbm, ⟨18, _⟩ => ⟨S_, .f32⟩
  | .hbm, ⟨19, _⟩ => ⟨S4x8192, .f32⟩
  | .hbm, ⟨20, _⟩ => ⟨S4x8192x1, .f32⟩
  | .hbm, ⟨21, _⟩ => ⟨S4x8192x256, .f32⟩
  | .hbm, ⟨22, _⟩ => ⟨S4x8192x256, .f32⟩
  | .hbm, ⟨23, _⟩ => ⟨S4x256x8192, .f32⟩
  | .hbm, ⟨24, _⟩ => ⟨S8192x4x256, .f32⟩
  | .hbm, ⟨25, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Proof.Rows.lean ====
/- The gradient of softmax attention, one query row and one head at a time, over the extended reals. Nothing here names
   a program: a row of queries is a function of its 256 lanes, a head's keys and values are functions of a memory
   position and a lane. -/
module

public import Idealize.ShloMosaic.Lib.Pointwise

@[expose] public section

noncomputable section

namespace Cert.Attn

open Idealize.ShloMosaic

/-- The scale of the logits, 256 to the power -1/2, as both programs write it. -/
def scale : EReal := Ideal.ofBits .f32 0x3D800000#32

/-- Minus infinity, the value a maximum starts from. -/
def low : EReal := Ideal.ofBits .f32 0xFF800000#32

/-- One row's logits: the scaled products with every key. -/
def logit (q : Fin 256 → EReal) (k : Fin 256 → Fin 256 → EReal) (m : Fin 256) : EReal :=
  (∑ e : Fin 256, q e * k m e) * scale

/-- The exponential of a logit less the row's maximum. -/
def wexp (x : Fin 256 → EReal) (m : Fin 256) : EReal :=
  Ideal.exp (x m - Finset.fold max low (fun m' => x m') Finset.univ)

/-- The row's denominator. -/
def tot (x : Fin 256 → EReal) : EReal := ∑ m : Fin 256, wexp x m

/-- The attention weight. -/
def prob (x : Fin 256 → EReal) (m : Fin 256) : EReal := Ideal.div (wexp x m) (tot x)

/-- The cotangent of a weight: the output's cotangent against the value row. -/
def dprob (g : Fin 256 → EReal) (v : Fin 256 → Fin 256 → EReal) (m : Fin 256) : EReal := ∑ e : Fin 256, g e * v m e

/-- The cotangent of a logit before the scale, through the quotient's two arguments. -/
def dlogit (x d : Fin 256 → EReal) (m : Fin 256) : EReal :=
  (Ideal.div (d m) (tot x) + -(∑ m' : Fin 256, d m' * Ideal.div 1 (tot x * tot x) * wexp x m')) * wexp x m

/-- The cotangent of the product of the row with a key. -/
def dscore (q : Fin 256 → EReal) (k v : Fin 256 → Fin 256 → EReal) (g : Fin 256 → EReal) (m : Fin 256) : EReal :=
  dlogit (logit q k) (dprob g v) m * scale

/-- The row's query gradient. -/
def dq (q : Fin 256 → EReal) (k v : Fin 256 → Fin 256 → EReal) (g : Fin 256 → EReal) (e : Fin 256) : EReal :=
  ∑ m : Fin 256, dscore q k v g m * k m e

/-- The key gradient of a set of rows. -/
def dk {R : Type} [Fintype R] (q : R → Fin 256 → EReal) (k v : Fin 256 → Fin 256 → EReal) (g : R → Fin 256 → EReal)
    (m e : Fin 256) : EReal :=
  ∑ r : R, dscore (q r) k v (g r) m * q r e

/-- The value gradient of a set of rows. -/
def dv {R : Type} [Fintype R] (q : R → Fin 256 → EReal) (k : Fin 256 → Fin 256 → EReal) (g : R → Fin 256 → EReal)
    (m e : Fin 256) : EReal :=
  ∑ r : R, prob (logit (q r) k) m * g r e

/-! ## The heads of a wide row -/

/-- Lane `e` of head `h` in a row of four heads. -/
def col (h : Fin 4) (e : Fin 256) : Fin 1024 := ⟨256 * h.val + e.val, by omega⟩

/-- The head a lane lies in. -/
def hd (j : Fin 1024) : Fin 4 := ⟨j.val / 256, by omega⟩

/-- The lane within its head. -/
def ln (j : Fin 1024) : Fin 256 := ⟨j.val % 256, by omega⟩

theorem hd_col (h : Fin 4) (e : Fin 256) : hd (col h e) = h := Fin.ext (by simp only [hd, col]; omega)
theorem ln_col (h : Fin 4) (e : Fin 256) : ln (col h e) = e := Fin.ext (by simp only [ln, col]; omega)
theorem col_hd_ln (j : Fin 1024) : col (hd j) (ln j) = j := Fin.ext (by simp only [hd, ln, col]; omega)

variable {R : Type}

/-- The query gradient of one row of four heads. -/
def dqW (q g : Fin 1024 → EReal) (k v : Fin 256 → Fin 1024 → EReal) (j : Fin 1024) : EReal :=
  dq (fun e => q (col (hd j) e)) (fun m e => k m (col (hd j) e)) (fun m e => v m (col (hd j) e)) (fun e => g (col (hd j) e)) (ln j)

/-- The key gradient of a set of rows of four heads. -/
def dkW [Fintype R] (q g : R → Fin 1024 → EReal) (k v : Fin 256 → Fin 1024 → EReal) (m : Fin 256) (j : Fin 1024) : EReal :=
  dk (fun r e => q r (col (hd j) e)) (fun m e => k m (col (hd j) e)) (fun m e => v m (col (hd j) e)) (fun r e => g r (col (hd j) e)) m (ln j)

/-- The value gradient of a set of rows of four heads. -/
def dvW [Fintype R] (q g : R → Fin 1024 → EReal) (k : Fin 256 → Fin 1024 → EReal) (m : Fin 256) (j : Fin 1024) : EReal :=
  dv (fun r e => q r (col (hd j) e)) (fun m e => k m (col (hd j) e)) (fun r e => g r (col (hd j) e)) m (ln j)

/-- The gradient of the rows of keys and values: the keys' 1024 columns, then the values'. -/
def dkvW [Fintype R] (q g : R → Fin 1024 → EReal) (k v : Fin 256 → Fin 1024 → EReal) (m : Fin 256) (j : Fin 2048) : EReal :=
  if h : j.val < 1024 then dkW q g k v m ⟨j.val, h⟩ else dvW q g k m ⟨j.val - 1024, by omega⟩

/-- The rows dealt into sixteen tiles of 512: the gradient of all of them is the sum of the tiles'. -/
theorem dkvW_tiles (q g : Fin 8192 → Fin 1024 → EReal) (k v : Fin 256 → Fin 1024 → EReal) (m : Fin 256) (j : Fin 2048) :
    dkvW q g k v m j = ∑ t : Fin 16, dkvW (fun r : Fin 512 => q ⟨t.val * 512 + r.val, by omega⟩)
      (fun r : Fin 512 => g ⟨t.val * 512 + r.val, by omega⟩) k v m j := by
  unfold dkvW
  split
  · simp only [dkW, dk]
    rw [Fin.sum_univ_tiles 16 512 (by norm_num)]
  · simp only [dvW, dv]
    rw [Fin.sum_univ_tiles 16 512 (by norm_num)]

/-- Column `j` of the keys' half of a row of keys and values, and of the values' half. -/
def kcol (j : Fin 1024) : Fin 2048 := ⟨j.val, by omega⟩
def vcol (j : Fin 1024) : Fin 2048 := ⟨1024 + j.val, by omega⟩

/-- A rank-2 array as a function of its row and column. -/
abbrev rc {a b : ℕ} (X : (⟨2, ![a, b]⟩ : Shape).Idx → EReal) (r : Fin a) (c : Fin b) : EReal := X (ix2 r c)

/-- The query gradient of the whole array. -/
def gradQ (Q D : (⟨2, ![8192, 1024]⟩ : Shape).Idx → EReal) (KV : (⟨2, ![256, 2048]⟩ : Shape).Idx → EReal) : (⟨2, ![8192, 1024]⟩ : Shape).Idx → EReal := fun i =>
  dqW (rc Q (i 0)) (rc D (i 0)) (fun k j => rc KV k (kcol j)) (fun k j => rc KV k (vcol j)) (i 1)

/-- The gradient of the keys and values over every row. -/
def gradKv (Q D : (⟨2, ![8192, 1024]⟩ : Shape).Idx → EReal) (KV : (⟨2, ![256, 2048]⟩ : Shape).Idx → EReal) : (⟨2, ![256, 2048]⟩ : Shape).Idx → EReal := fun i =>
  dkvW (rc Q) (rc D) (fun k j => rc KV k (kcol j)) (fun k j => rc KV k (vcol j)) (i 0) (i 1)

end Cert.Attn

end
-- ==== Proof.Tile.lean ====
/- What one grid point of the kernel computes for one head, read at an index: the payloads of the body over 512 query
   rows are the row functions of Rows.lean. -/
module

public import proofs.«01_k».proof.Proof.Gen.KernelIdeal.Value
public import proofs.«01_k».proof.Proof.Rows

@[expose] public section

set_option maxRecDepth 16384

noncomputable section

namespace Cert.KernelIdeal.Attn

open Cert.KernelIdeal Cert.KernelIdeal.Gen Cert.Attn Idealize.ShloMosaic Idealize.ShloMosaic.TcCoe Idealize.SL.Sem

variable (q g : Vec Ideal S512x256 .f32) (k v : Vec Ideal S256x256 .f32)

/-- The cotangent of the logits of a tile, before the scale. -/
def tD : FVec Ideal S512x256 .f32 :=
  k0_pay35 (k0_pay8 (k0_pay3 q k)) (k0_pay12 (k0_pay3 q k)) (k0_pay14 (k0_pay3 q k)) (k0_pay29 v g)

/-- A tile's query gradient, key gradient and value gradient. -/
def tDq : FVec Ideal S512x256 .f32 := k0_pay46 k (tD q g k v)
def tDk : FVec Ideal S256x256 .f32 := k0_pay44 q (tD q g k v)
def tDv : FVec Ideal S256x256 .f32 := k0_pay30 (k0_pay13 (k0_pay3 q k)) g

theorem logits_apply (r : Fin 512) (l : Fin 256) :
    k0_pay3 q k (ix2 r l) = logit (fun e => q (ix2 r e)) (fun m e => k (ix2 m e)) l := by
  pointwise [k0_pay3, logit, scale]

theorem wexp_apply (x : FVec Ideal S512x256 .f32) (r : Fin 512) (l : Fin 256) :
    k0_pay8 x (ix2 r l) = wexp (fun m => x (ix2 r m)) l := by
  pointwise [k0_pay8, wexp, low]

theorem tot_apply (x : FVec Ideal S512x256 .f32) (r : Fin 512) :
    k0_pay12 x (ix2 r 0) = tot (fun m => x (ix2 r m)) := by
  have h : k0_pay12 x (ix2 r 0) = ∑ l : Fin 256, k0_pay8 x (ix2 r l) := by pointwise [k0_pay12]
  rw [h, tot]
  exact Finset.sum_congr rfl fun l _ => wexp_apply x r l

theorem prob_apply (x : FVec Ideal S512x256 .f32) (r : Fin 512) (l : Fin 256) :
    k0_pay13 x (ix2 r l) = prob (fun m => x (ix2 r m)) l := by
  have h : k0_pay13 x (ix2 r l) = Ideal.div (k0_pay8 x (ix2 r l)) (k0_pay12 x (ix2 r 0)) := by pointwise [k0_pay13]
  rw [h, wexp_apply, tot_apply, prob]

theorem inv_apply (x : FVec Ideal S512x256 .f32) (r : Fin 512) :
    k0_pay14 x (ix2 r 0) = Ideal.div 1 (tot (fun m => x (ix2 r m)) * tot (fun m => x (ix2 r m))) := by
  have h : k0_pay14 x (ix2 r 0) = Ideal.div 1 (k0_pay12 x (ix2 r 0) * k0_pay12 x (ix2 r 0)) := by pointwise [k0_pay14]
  rw [h, tot_apply]

theorem dprob_apply (r : Fin 512) (l : Fin 256) :
    k0_pay29 v g (ix2 r l) = dprob (fun e => g (ix2 r e)) (fun m e => v (ix2 m e)) l := by
  pointwise [k0_pay29, dprob]

theorem tD_apply (r : Fin 512) (l : Fin 256) :
    tD q g k v (ix2 r l) = dlogit (logit (fun e => q (ix2 r e)) (fun m e => k (ix2 m e)))
      (dprob (fun e => g (ix2 r e)) (fun m e => v (ix2 m e))) l := by
  have h (L d : FVec Ideal S512x256 .f32) (s p : FVec Ideal S512x1 .f32) :
      k0_pay35 L s p d (ix2 r l)
        = (Ideal.div (d (ix2 r l)) (s (ix2 r 0)) + -(∑ x : Fin 256, d (ix2 r x) * p (ix2 r 0) * L (ix2 r x))) * L (ix2 r l) := by
    pointwise [k0_pay35]
    simp only [Finset.univ_unique, Finset.sum_singleton, zero_sub]
  have hl : (fun m => k0_pay3 q k (ix2 r m)) = logit (fun e => q (ix2 r e)) (fun m e => k (ix2 m e)) :=
    funext fun m => logits_apply q k r m
  rw [tD, h, dlogit, tot_apply, inv_apply]
  simp only [wexp_apply, dprob_apply, hl]

theorem tDq_apply (r : Fin 512) (e : Fin 256) :
    tDq q g k v (ix2 r e) = dq (fun e => q (ix2 r e)) (fun m e => k (ix2 m e)) (fun m e => v (ix2 m e)) (fun e => g (ix2 r e)) e := by
  have h (d : FVec Ideal S512x256 .f32) : k0_pay46 k d (ix2 r e) = ∑ l : Fin 256, d (ix2 r l) * scale * k (ix2 l e) := by
    pointwise [k0_pay46, k0_pay45, scale]
  rw [tDq, h, dq]
  exact Finset.sum_congr rfl fun l _ => by rw [tD_apply, dscore]

theorem tDk_apply (l e : Fin 256) :
    tDk q g k v (ix2 l e) = dk (fun (r : Fin 512) e => q (ix2 r e)) (fun m e => k (ix2 m e)) (fun m e => v (ix2 m e)) (fun r e => g (ix2 r e)) l e := by
  have h (d : FVec Ideal S512x256 .f32) : k0_pay44 q d (ix2 l e) = ∑ r : Fin 512, d (ix2 r l) * scale * q (ix2 r e) := by
    pointwise [k0_pay44, k0_pay42, scale]
  rw [tDk, h, dk]
  exact Finset.sum_congr rfl fun r _ => by rw [tD_apply, dscore]

theorem tDv_apply (l e : Fin 256) :
    tDv q g k (ix2 l e) = dv (fun (r : Fin 512) e => q (ix2 r e)) (fun m e => k (ix2 m e)) (fun r e => g (ix2 r e)) l e := by
  have h (p : FVec Ideal S512x256 .f32) : k0_pay30 p g (ix2 l e) = ∑ r : Fin 512, p (ix2 r l) * g (ix2 r e) := by
    pointwise [k0_pay30]
  rw [tDv, h, dv]
  refine Finset.sum_congr rfl fun r _ => ?_
  rw [prob_apply]
  exact congrArg (fun f => prob f l * g (ix2 r e)) (funext fun m => logits_apply q k r m)

/-! ## A head's columns of a block -/

theorem ld_rows (X : S512x1024.Idx → EReal) (h : Fin 4) (o : ℕ) (ho : o = 256 * h.val)
    (inb : ∀ a, (![0, o] : Fin 2 → ℕ) a + S512x256.size a ≤ S512x1024.size a) (r : Fin 512) (e : Fin 256) :
    View.ld (Val := Elt Ideal) (e' := .f32) X (Rect.unit (s := S512x1024) ![0, o] S512x256.size inb) (ix2 r e) = X (ix2 r (col h e)) := by
  subst ho
  refine congrArg X (funext fun a => Fin.ext ?_)
  fin_cases a
  · show 0 + 1 * r.val = r.val
    omega
  · show 256 * h.val + 1 * e.val = 256 * h.val + e.val
    omega

theorem ld_mem (X : S256x1024.Idx → EReal) (h : Fin 4) (o : ℕ) (ho : o = 256 * h.val)
    (inb : ∀ a, (![0, o] : Fin 2 → ℕ) a + S256x256.size a ≤ S256x1024.size a) (r : Fin 256) (e : Fin 256) :
    View.ld (Val := Elt Ideal) (e' := .f32) X (Rect.unit (s := S256x1024) ![0, o] S256x256.size inb) (ix2 r e) = X (ix2 r (col h e)) := by
  subst ho
  refine congrArg X (funext fun a => Fin.ext ?_)
  fin_cases a
  · show 0 + 1 * r.val = r.val
    omega
  · show 256 * h.val + 1 * e.val = 256 * h.val + e.val
    omega

end Cert.KernelIdeal.Attn

end
-- ==== Proof.Block.lean ====
/- What the two output blocks hold after a grid point: the query gradient of the point's 512 rows, and the running
   gradient of the keys and values. -/
module

public import proofs.«01_k».proof.Proof.Tile
public import Idealize.ShloMosaic.Lib.Pipeline.ValueKit
public import Idealize.ShloMosaic.Lib.Pipeline.ReadBack

@[expose] public section

set_option maxRecDepth 16384

noncomputable section

namespace Cert.KernelIdeal.Attn

open Cert.KernelIdeal Cert.KernelIdeal.Gen Cert.Attn Idealize.ShloMosaic Idealize.ShloMosaic.TcCoe Idealize.SL.Sem

/-- Stores that are blocks of `G` and cover the buffer leave `G`. -/
theorem canon_pieces {S : Shape} (G : S.Idx → EReal) (L : List (View.Piece (Elt Ideal) S .f32)) (h : View.PiecesOf G L) (y : S.Idx)
    (hc : ∃ p ∈ L, y ∈ p.1.set) : View.canon L y = G y :=
  View.canon_apply_of_pieces (Val := Elt Ideal) (e := .f32) G L h.mem y hc

section Pieces

variable (Q D : Vec Ideal S512x1024 .f32) (K V : Vec Ideal S256x1024 .f32)

/-- The query gradient of a block of 512 rows. -/
def blockDq : S512x1024.Idx → EReal := fun y => dqW (rc Q (y 0)) (rc D (y 0)) (rc K) (rc V) (y 1)

/-- The block's share of the gradient of the keys and values. -/
def blockDkv : S256x2048.Idx → EReal := fun y => dkvW (rc Q) (rc D) (rc K) (rc V) (y 0) (y 1)

variable (h : Fin 4) (o : ℕ) (ho : o = 256 * h.val)
  (iq : ∀ a, (![0, o] : Fin 2 → ℕ) a + S512x256.size a ≤ S512x1024.size a)
  (ik : ∀ a, (![0, o] : Fin 2 → ℕ) a + S256x256.size a ≤ S256x1024.size a)

include ho in
theorem dq_piece (x : S512x256.Idx) :
    tDq (View.ld Q (Rect.unit ![0, o] S512x256.size iq)) (View.ld D (Rect.unit ![0, o] S512x256.size iq))
        (View.ld K (Rect.unit ![0, o] S256x256.size ik)) (View.ld V (Rect.unit ![0, o] S256x256.size ik)) x
      = blockDq Q D K V ((Rect.unit (s := S512x1024) ![0, o] S512x256.size iq).emb x) := by
  obtain ⟨r, e, rfl⟩ : ∃ (r : Fin 512) (e : Fin 256), x = ix2 r e := ⟨x 0, x 1, by funext a; fin_cases a <;> rfl⟩
  have he : (Rect.unit (s := S512x1024) ![0, o] S512x256.size iq).emb (ix2 r e) = ix2 r (col h e) := by
    subst ho
    refine funext fun a => Fin.ext ?_
    fin_cases a
    · show 0 + 1 * r.val = r.val
      omega
    · show 256 * h.val + 1 * e.val = 256 * h.val + e.val
      omega
  rw [tDq_apply, he]
  show _ = dqW (rc Q r) (rc D r) (rc K) (rc V) (col h e)
  simp only [dqW, hd_col, ln_col, rc]
  congr 1 <;> funext a <;>
    first
    | exact ld_rows _ h o ho _ _ _
    | (funext b; first | exact ld_rows _ h o ho _ _ _ | exact ld_mem _ h o ho _ _ _)

variable (ok : ∀ a, (![0, o] : Fin 2 → ℕ) a + S256x256.size a ≤ S256x2048.size a) (old : S256x2048.Idx → EReal)

include ho in
theorem dk_piece (x : S256x256.Idx) :
    k0_pay50 (tDk (View.ld Q (Rect.unit ![0, o] S512x256.size iq)) (View.ld D (Rect.unit ![0, o] S512x256.size iq))
        (View.ld K (Rect.unit ![0, o] S256x256.size ik)) (View.ld V (Rect.unit ![0, o] S256x256.size ik)))
        (View.ld (Val := Elt Ideal) (e' := .f32) old (Rect.unit (s := S256x2048) ![0, o] S256x256.size ok)) x
      = (fun y => old y + blockDkv Q D K V y) ((Rect.unit (s := S256x2048) ![0, o] S256x256.size ok).emb x) := by
  obtain ⟨l, e, rfl⟩ : ∃ l e : Fin 256, x = ix2 l e := ⟨x 0, x 1, by funext a; fin_cases a <;> rfl⟩
  have he : (Rect.unit (s := S256x2048) ![0, o] S256x256.size ok).emb (ix2 l e) = ix2 l (kcol (col h e)) := by
    subst ho
    refine funext fun a => Fin.ext ?_
    fin_cases a
    · show 0 + 1 * l.val = l.val
      omega
    · show 256 * h.val + 1 * e.val = 256 * h.val + e.val
      omega
  have hp (p : FVec Ideal S256x256 .f32) (z : Vec Ideal S256x256 .f32) : k0_pay50 p z (ix2 l e) = z (ix2 l e) + p (ix2 l e) := by
    pointwise [k0_pay50]
  rw [hp, tDk_apply]
  show old ((Rect.unit (s := S256x2048) ![0, o] S256x256.size ok).emb (ix2 l e)) + _ = _
  rw [he]
  refine congrArg (old (ix2 l (kcol (col h e))) + ·) ?_
  show _ = dkvW (rc Q) (rc D) (rc K) (rc V) l (kcol (col h e))
  rw [dkvW, dif_pos (show (kcol (col h e)).val < 1024 from (col h e).isLt)]
  show _ = dkW (rc Q) (rc D) (rc K) (rc V) l (col h e)
  simp only [dkW, hd_col, ln_col, rc]
  congr 1 <;> funext a <;>
    first
    | exact ld_rows _ h o ho _ _ _
    | (funext b; first | exact ld_rows _ h o ho _ _ _ | exact ld_mem _ h o ho _ _ _)

variable (o' : ℕ) (ho' : o' = 1024 + 256 * h.val)
  (ov : ∀ a, (![0, o'] : Fin 2 → ℕ) a + S256x256.size a ≤ S256x2048.size a)

include ho ho' in
theorem dv_piece (x : S256x256.Idx) :
    k0_pay50 (tDv (View.ld Q (Rect.unit ![0, o] S512x256.size iq)) (View.ld D (Rect.unit ![0, o] S512x256.size iq))
        (View.ld K (Rect.unit ![0, o] S256x256.size ik)))
        (View.ld (Val := Elt Ideal) (e' := .f32) old (Rect.unit (s := S256x2048) ![0, o'] S256x256.size ov)) x
      = (fun y => old y + blockDkv Q D K V y) ((Rect.unit (s := S256x2048) ![0, o'] S256x256.size ov).emb x) := by
  obtain ⟨l, e, rfl⟩ : ∃ l e : Fin 256, x = ix2 l e := ⟨x 0, x 1, by funext a; fin_cases a <;> rfl⟩
  have he : (Rect.unit (s := S256x2048) ![0, o'] S256x256.size ov).emb (ix2 l e) = ix2 l (vcol (col h e)) := by
    subst ho'
    refine funext fun a => Fin.ext ?_
    fin_cases a
    · show 0 + 1 * l.val = l.val
      omega
    · show 1024 + 256 * h.val + 1 * e.val = 1024 + (256 * h.val + e.val)
      omega
  have hp (p : FVec Ideal S256x256 .f32) (z : Vec Ideal S256x256 .f32) : k0_pay50 p z (ix2 l e) = z (ix2 l e) + p (ix2 l e) := by
    pointwise [k0_pay50]
  rw [hp, tDv_apply]
  show old ((Rect.unit (s := S256x2048) ![0, o'] S256x256.size ov).emb (ix2 l e)) + _ = _
  rw [he]
  refine congrArg (old (ix2 l (vcol (col h e))) + ·) ?_
  show _ = dkvW (rc Q) (rc D) (rc K) (rc V) l (vcol (col h e))
  rw [dkvW, dif_neg (show ¬ (vcol (col h e)).val < 1024 by simp only [vcol]; omega)]
  rw [show (⟨(vcol (col h e)).val - 1024, by simp only [vcol]; omega⟩ : Fin 1024) = col h e from
    Fin.ext (by simp only [vcol]; omega)]
  simp only [dvW, hd_col, ln_col, rc]
  congr 1 <;> funext a <;>
    first
    | exact ld_rows _ h o ho _ _ _
    | (funext b; first | exact ld_rows _ h o ho _ _ _ | exact ld_mem _ h o ho _ _ _)

end Pieces

variable (m : (ℓ : Loc nD τ sig) → Buf (Elt Ideal) ℓ)

/-- After any point the first output's block is the query gradient of the point's rows. -/
theorem outs4 (c : Dev nD) (t : Fin cfg0.N) (y : S512x1024.Idx) :
    (outsAt0 m c t.val t.isLt).1 y = blockDq (iblk m c 0 t) (iblk m c 3 t) (iblk m c 1 t) (iblk m c 2 t) y := by
  by_cases h0 : t.val % 16 = 0
  · rw [outsAt0_A m c t h0]
    frame_out
    refine canon_pieces (blockDq (iblk m c 0 t) (iblk m c 3 t) (iblk m c 1 t) (iblk m c 2 t)) _ ?_ y ?_
    rotate_left
    · exact View.cover_of_tiledL _ ![512, 256] (by sl_kernel_rfl) y
    exact ⟨dq_piece _ _ _ _ 3 768 rfl _ _, dq_piece _ _ _ _ 2 512 rfl _ _, dq_piece _ _ _ _ 1 256 rfl _ _, dq_piece _ _ _ _ 0 0 rfl _ _, trivial⟩
  · rw [outsAt0_B m c t h0]
    frame_out
    refine canon_pieces (blockDq (iblk m c 0 t) (iblk m c 3 t) (iblk m c 1 t) (iblk m c 2 t)) _ ?_ y ?_
    rotate_left
    · exact View.cover_of_tiledL _ ![512, 256] (by sl_kernel_rfl) y
    exact ⟨dq_piece _ _ _ _ 3 768 rfl _ _, dq_piece _ _ _ _ 2 512 rfl _ _, dq_piece _ _ _ _ 1 256 rfl _ _, dq_piece _ _ _ _ 0 0 rfl _ _, trivial⟩

/-- At the first point the second output's block is the point's share of the gradient of the keys and values, -/
theorem outs5_A (c : Dev nD) (t : Fin cfg0.N) (h0 : t.val % 16 = 0) (y : S256x2048.Idx) :
    (outsAt0 m c t.val t.isLt).2 y = 0 + blockDkv (iblk m c 0 t) (iblk m c 3 t) (iblk m c 1 t) (iblk m c 2 t) y := by
  have hz : (k0_pay47 : FVec Ideal S256x2048 .f32) = fun _ => 0 := by
    funext i
    pointwise [k0_pay47]
  rw [outsAt0_A m c t h0]
  frame_open
  simp (disch := decide) only [↓ View.readCov_skip, ↓ View.readCov_cons_toLoadRect, ↓ View.readCov_fill]
  frame_out
  rw [hz]
  refine View.canon_append_of_piecesOf (Val := Elt Ideal) (e := .f32) (fun y => 0 + blockDkv (iblk m c 0 t) (iblk m c 3 t) (iblk m c 1 t) (iblk m c 2 t) y)
    [_] [_, _, _, _, _, _, _, _] ?_ y ?_
  rotate_left
  · exact View.cover_of_tiledL _ ![256, 256] (by sl_kernel_rfl) y
  exact ⟨dv_piece _ _ _ _ 3 768 rfl _ _ _ 1792 rfl _, dk_piece _ _ _ _ 3 768 rfl _ _ _ _,
    dv_piece _ _ _ _ 2 512 rfl _ _ _ 1536 rfl _, dk_piece _ _ _ _ 2 512 rfl _ _ _ _,
    dv_piece _ _ _ _ 1 256 rfl _ _ _ 1280 rfl _, dk_piece _ _ _ _ 1 256 rfl _ _ _ _,
    dv_piece _ _ _ _ 0 0 rfl _ _ _ 1024 rfl _, dk_piece _ _ _ _ 0 0 rfl _ _ _ _, trivial⟩

/-- and at a later point it is what the point before left plus the point's share. -/
theorem outs5_B (c : Dev nD) (t : Fin cfg0.N) (h0 : ¬t.val % 16 = 0) (y : S256x2048.Idx) :
    (outsAt0 m c t.val t.isLt).2 y = (outsAt0 m c (t.val - 1) (Nat.lt_of_le_of_lt (Nat.sub_le _ _) t.isLt)).2 y
      + blockDkv (iblk m c 0 t) (iblk m c 3 t) (iblk m c 1 t) (iblk m c 2 t) y := by
  rw [outsAt0_B m c t h0]
  frame_out
  refine canon_pieces (fun y => (outsAt0 m c (t.val - 1) (Nat.lt_of_le_of_lt (Nat.sub_le _ _) t.isLt)).2 y
      + blockDkv (iblk m c 0 t) (iblk m c 3 t) (iblk m c 1 t) (iblk m c 2 t) y)
    _ ?_ y ?_
  rotate_left
  · exact View.cover_of_tiledL _ ![256, 256] (by sl_kernel_rfl) y
  exact ⟨dv_piece _ _ _ _ 3 768 rfl _ _ _ 1792 rfl _, dk_piece _ _ _ _ 3 768 rfl _ _ _ _,
    dv_piece _ _ _ _ 2 512 rfl _ _ _ 1536 rfl _, dk_piece _ _ _ _ 2 512 rfl _ _ _ _,
    dv_piece _ _ _ _ 1 256 rfl _ _ _ 1280 rfl _, dk_piece _ _ _ _ 1 256 rfl _ _ _ _,
    dv_piece _ _ _ _ 0 0 rfl _ _ _ 1024 rfl _, dk_piece _ _ _ _ 0 0 rfl _ _ _ _, trivial⟩

end Cert.KernelIdeal.Attn

end
-- ==== Proof.Array.lean ====
/- The kernel's two result arrays as functions of its arguments: the query gradient of every row, and the gradient of the
   keys and values over all 8192 rows. -/
module

public import proofs.«01_k».proof.Proof.Block

@[expose] public section

set_option maxRecDepth 16384

noncomputable section

namespace Cert.KernelIdeal.Attn

open Cert.KernelIdeal Cert.KernelIdeal.Gen Cert.Attn Idealize.ShloMosaic Idealize.ShloMosaic.TcCoe Idealize.SL.Sem

variable (m : (ℓ : Loc nD τ sig) → Buf (Elt Ideal) ℓ)

/-- The query rows, the keys and values, and the output's cotangent. -/
abbrev argQ (c : Dev nD) : S8192x1024.Idx → EReal := m ((c : Thread nD τ).loc main_arg0)
abbrev argKv (c : Dev nD) : S256x2048.Idx → EReal := m ((c : Thread nD τ).loc main_arg1)
abbrev argG (c : Dev nD) : S8192x1024.Idx → EReal := m ((c : Thread nD τ).loc main_arg2)

/-- Every window's block at every point. -/
theorem idx : ∀ t : Fin cfg0.N, win0_0.index t = ![t.val, 0] ∧ win0_1.index t = ![0, 0] ∧ win0_2.index t = ![0, 1] ∧
    win0_3.index t = ![t.val, 0] ∧ win0_4.index t = ![t.val, 0] ∧ win0_5.index t = ![0, 0] :=
  (by decide +kernel : ∀ t : Fin grid0.N, _)

theorem lt_16 (t : Fin cfg0.N) : t.val < 16 := lt_of_lt_of_eq t.isLt (show cfg0.N = 16 from N_0)

/-- Row `r` of tile `t`. -/
abbrev row (t : Fin cfg0.N) (r : Fin 512) : Fin 8192 := ⟨t.val * 512 + r.val, by have := lt_16 t; omega⟩

theorem blk_q (c : Dev nD) (t : Fin cfg0.N) (r : Fin 512) (j : Fin 1024) :
    rc (iblk m c 0 t) r j = rc (argQ m c) (row t r) j := by
  show iblk m c 0 t (ix2 r j) = V m c main_arg0 (ix2 (row t r) j)
  blk_ext [iblk, V, idx t]

theorem blk_k (c : Dev nD) (t : Fin cfg0.N) (r : Fin 256) (j : Fin 1024) :
    rc (iblk m c 1 t) r j = rc (argKv m c) r (kcol j) := by
  show iblk m c 1 t (ix2 r j) = V m c main_arg1 (ix2 r (kcol j))
  blk_ext [iblk, V, idx t]
  rfl

theorem blk_v (c : Dev nD) (t : Fin cfg0.N) (r : Fin 256) (j : Fin 1024) :
    rc (iblk m c 2 t) r j = rc (argKv m c) r (vcol j) := by
  show iblk m c 2 t (ix2 r j) = V m c main_arg1 (ix2 r (vcol j))
  blk_ext [iblk, V, idx t]
  rfl

theorem blk_g (c : Dev nD) (t : Fin cfg0.N) (r : Fin 512) (j : Fin 1024) :
    rc (iblk m c 3 t) r j = rc (argG m c) (row t r) j := by
  show iblk m c 3 t (ix2 r j) = V m c main_arg2 (ix2 (row t r) j)
  blk_ext [iblk, V, idx t]

theorem final4 (c : Dev nD) : (dats m 0 c).arrAt 4 cfg0.N = gradQ (argQ m c) (argG m c) (argKv m c) := by
  refine (dats m 0 c).arrAt_eq_of_covers 4 _ (by decide +kernel) fun t hf y => ?_
  blk_simp
  rw [after0_4]
  obtain ⟨r, e, rfl⟩ : ∃ (r : Fin 512) (e : Fin 1024), y = ix2 r e := ⟨y 0, y 1, by funext a; fin_cases a <;> rfl⟩
  have hi : ((cfg0.win 4).blk t).view.emb (ix2 r e) = ix2 (row t r) e := by
    blk_ext [idx t]
  rw [hi]
  refine (outs4 m c t _).trans ?_
  show dqW (rc (iblk m c 0 t) r) (rc (iblk m c 3 t) r) (rc (iblk m c 1 t)) (rc (iblk m c 2 t)) e
    = dqW (rc (argQ m c) (row t r)) (rc (argG m c) (row t r)) _ _ e
  rw [show rc (iblk m c 0 t) r = _ from funext fun j => blk_q m c t r j, show rc (iblk m c 3 t) r = _ from funext fun j => blk_g m c t r j,
    show rc (iblk m c 1 t) = _ from funext fun k => funext fun j => blk_k m c t k j,
    show rc (iblk m c 2 t) = _ from funext fun k => funext fun j => blk_v m c t k j]

theorem final5 (c : Dev nD) : (dats m 0 c).arrAt 5 cfg0.N = gradKv (argQ m c) (argG m c) (argKv m c) := by
  refine (dats m 0 c).arrAt_eq_of_after_last 5 t0_15 (by decide +kernel) _ fun j => ?_
  blk_simp
  rw [after0_5, Pipeline.eq_sum_fin_of_reset_step_apply_last (fun n h => (outsAt0 m c n h).2) 16 (fun _ => 0)
    (fun t => blockDkv (iblk m c 0 t) (iblk m c 3 t) (iblk m c 1 t) (iblk m c 2 t))
    (fun t h j => outs5_A m c t h j) (fun t h j => outs5_B m c t h j) (le_of_eq N_0) t0_15 rfl _, zero_add]
  obtain ⟨k, e, rfl⟩ : ∃ (k : Fin 256) (e : Fin 2048), j = ix2 k e := ⟨j 0, j 1, by funext a; fin_cases a <;> rfl⟩
  show _ = dkvW (rc (argQ m c)) (rc (argG m c)) (fun k j => rc (argKv m c) k (kcol j)) (fun k j => rc (argKv m c) k (vcol j)) k e
  rw [dkvW_tiles, ← Equiv.sum_comp (finCongr (show cfg0.N = 16 from N_0))]
  refine Finset.sum_congr rfl fun t _ => ?_
  show dkvW (rc (iblk m c 0 t)) (rc (iblk m c 3 t)) (rc (iblk m c 1 t)) (rc (iblk m c 2 t)) k e = _
  rw [show rc (iblk m c 0 t) = _ from funext fun r => funext fun j => blk_q m c t r j,
    show rc (iblk m c 3 t) = _ from funext fun r => funext fun j => blk_g m c t r j,
    show rc (iblk m c 1 t) = _ from funext fun k => funext fun j => blk_k m c t k j,
    show rc (iblk m c 2 t) = _ from funext fun k => funext fun j => blk_v m c t k j]
  rfl

end Cert.KernelIdeal.Attn

end
-- ==== Proof.Reference.lean ====
/- The reference's composed terms, stage by stage, read at an index. -/
module

public import proofs.«01_k».proof.Proof.Rows
public import proofs.«01_k».proof.Proof.Gen.ReferenceIdeal.Run
public import Idealize.ShloMosaic.Lib.Pointwise

@[expose] public section

set_option maxRecDepth 16384

noncomputable section

namespace Cert.ReferenceIdeal.Attn

open Cert.ReferenceIdeal Cert.ReferenceIdeal.Gen Cert.ReferenceIdeal.Value Cert.Attn Idealize.ShloMosaic Idealize.ShloMosaic.TcCoe Idealize.SL.Sem

/-- The arrays the stages pass on, at their head shapes. -/
abbrev Rows3 := FVec Ideal S8192x4x256 .f32
abbrev Mem3 := FVec Ideal S256x4x256 .f32
abbrev Sc3 := FVec Ideal S4x8192x256 .f32

def hq (Q : FVec Ideal S8192x1024 .f32) : Rows3 := shapeCast _ Q shapeCasts_S8192x1024_S8192x4x256
def hk (KV : FVec Ideal S256x2048 .f32) : Mem3 :=
  shapeCast _ (extractStridedSlice S256x1x4x256 ![0, 0, 0, 0] (shapeCast _ KV shapeCasts_S256x2048_S256x2x4x256) slices_S256x2x4x256_S256x1x4x256_0_0_0_0) shapeCasts_S256x1x4x256_S256x4x256
def hv (KV : FVec Ideal S256x2048 .f32) : Mem3 :=
  shapeCast _ (extractStridedSlice S256x1x4x256 ![0, 1, 0, 0] (shapeCast _ KV shapeCasts_S256x2048_S256x2x4x256) slices_S256x2x4x256_S256x1x4x256_0_1_0_0) shapeCasts_S256x1x4x256_S256x4x256
def gT (g : Rows3) : FVec Ideal S4x256x8192 .f32 := transpose S4x256x8192 [1, 2, 0] g transposes_S8192x4x256_S4x256x8192_1_2_0

def sc : Sc3 := broadcastInDim S4x8192x256 ![] bcast_S_S4x8192x256 (constant S_ .f32 0x3D800000#32)
def lg (q : Rows3) (k : Mem3) : Sc3 := mulf (Host.dotGeneral dot_S8192x4x256_S256x4x256_S4x8192x256_2_2_0_0_1_1 none q k) sc
def col1 (x : FVec Ideal S4x8192 .f32) : FVec Ideal S4x8192x1 .f32 := broadcastInDim S4x8192x1 ![0, 1] bcast_S4x8192_S4x8192x1_0_1 x
def wide (x : FVec Ideal S4x8192x1 .f32) : Sc3 := broadcastInDim S4x8192x256 ![0, 1, 2] bcast_S4x8192x1_S4x8192x256_0_1_2 x
def wx (l : Sc3) : Sc3 :=
  Host.exp (subf l (wide (col1 (Host.reduce FloatOps.maximumf l (constant S_ .f32 0xFF800000#32) reducesTo_S4x8192x256_S4x8192_d2 h_S_))))
def rsum (w : Sc3) : FVec Ideal S4x8192 .f32 := Host.reduceAdd w (constant S_ .f32 0x00000000#32) reducesTo_S4x8192x256_S4x8192_d2 h_S_
def pr (w : Sc3) : Sc3 := Host.divf w (wide (col1 (rsum w)))
def du (g : Rows3) (v : Mem3) : Sc3 := Host.dotGeneral dot_S4x256x8192_S256x4x256_S4x8192x256_1_2_2_0_0_1 none (gT g) v
def qt (w u : Sc3) : FVec Ideal S4x8192 .f32 :=
  rsum (mulf (mulf u (wide (Host.divf (broadcastInDim S4x8192x1 ![] bcast_S_S4x8192x1 (constant S_ .f32 0x3F800000#32))
    (mulf (col1 (rsum w)) (col1 (rsum w)))))) w)
def nb (w u : Sc3) : Sc3 :=
  broadcastInDim S4x8192x256 ![0, 1] bcast_S4x8192_S4x8192x256_0_1
    (Host.reduceAdd (Host.negf (shapeCast _ (qt w u) shapeCasts_S4x8192_S4x8192x1)) (constant S_ .f32 0x00000000#32) reducesTo_S4x8192x1_S4x8192_d2 h_S_)
def ds (w u : Sc3) : Sc3 := mulf (mulf (addf (Host.divf u (wide (col1 (rsum w)))) (nb w u)) w) sc

def oq (d : Sc3) (k : Mem3) : FVec Ideal S8192x1024 .f32 :=
  shapeCast _ (transpose S8192x4x256 [1, 0, 2] (Host.dotGeneral dot_S4x8192x256_S256x4x256_S4x8192x256_2_0_1_2_0_1 none d k) transposes_S4x8192x256_S8192x4x256_1_0_2) shapeCasts_S8192x4x256_S8192x1024
def ok (d : Sc3) (q : Rows3) : Mem3 :=
  transpose S256x4x256 [1, 0, 2] (Host.dotGeneral dot_S4x8192x256_S8192x4x256_S4x256x256_1_0_2_2_0_1 none d q) transposes_S4x256x256_S256x4x256_1_0_2
def ov (g : Rows3) (p : Sc3) : Mem3 :=
  transpose S256x4x256 [2, 0, 1] (Host.dotGeneral dot_S4x256x8192_S4x8192x256_S4x256x256_2_1_1_2_0_0 none (gT g) p) transposes_S4x256x256_S256x4x256_2_0_1
def okv (a b : Mem3) : FVec Ideal S256x2048 .f32 :=
  shapeCast _ (addf
    (pad S256x2x4x256 ![0, 1, 0, 0] ![0, 0, 0, 0] ![0, 0, 0, 0] (broadcastInDim S256x1x4x256 ![0, 2, 3] bcast_S256x4x256_S256x1x4x256_0_2_3 b) (constant S_ .f32 0x00000000#32) pads_S256x1x4x256_S256x2x4x256_000_100_000_000 h_S_)
    (pad S256x2x4x256 ![0, 0, 0, 0] ![0, 1, 0, 0] ![0, 0, 0, 0] (broadcastInDim S256x1x4x256 ![0, 2, 3] bcast_S256x4x256_S256x1x4x256_0_2_3 a) (constant S_ .f32 0x00000000#32) pads_S256x1x4x256_S256x2x4x256_000_010_000_000 h_S_)) shapeCasts_S256x2x4x256_S256x2048

section Stages

variable (m : (ℓ : Loc nD τ sig) → Buf (Elt Ideal) ℓ) (c : Dev nD)

theorem v58_eq : res_main_v58 m c =
    oq (ds (wx (lg (hq (m ((c.tc : Thread nD τ).loc main_arg0))) (hk (m ((c.tc : Thread nD τ).loc main_arg1)))))
      (du (hq (m ((c.tc : Thread nD τ).loc main_arg2))) (hv (m ((c.tc : Thread nD τ).loc main_arg1))))) (hk (m ((c.tc : Thread nD τ).loc main_arg1))) := by
  unfold res_main_v58
  rfl

theorem v57_eq : res_main_v57 m c =
    okv (ok (ds (wx (lg (hq (m ((c.tc : Thread nD τ).loc main_arg0))) (hk (m ((c.tc : Thread nD τ).loc main_arg1)))))
      (du (hq (m ((c.tc : Thread nD τ).loc main_arg2))) (hv (m ((c.tc : Thread nD τ).loc main_arg1))))) (hq (m ((c.tc : Thread nD τ).loc main_arg0))))
      (ov (hq (m ((c.tc : Thread nD τ).loc main_arg2))) (pr (wx (lg (hq (m ((c.tc : Thread nD τ).loc main_arg0))) (hk (m ((c.tc : Thread nD τ).loc main_arg1))))))) := by
  unfold res_main_v57
  rfl

end Stages

theorem hq_apply (Q : FVec Ideal S8192x1024 .f32) (r : Fin 8192) (h : Fin 4) (e : Fin 256) : hq Q (ix3 r h e) = Q (ix2 r (col h e)) := by
  pointwise [hq]
  exact congrArg (fun j => Q (ix2 r j)) (Fin.ext (by simp only [col]; omega))

theorem hk_apply (KV : FVec Ideal S256x2048 .f32) (r : Fin 256) (h : Fin 4) (e : Fin 256) : hk KV (ix3 r h e) = KV (ix2 r (kcol (col h e))) := by
  pointwise [hk]
  exact congrArg (fun j => KV (ix2 r j)) (Fin.ext (by simp only [kcol, col]; omega))

theorem hv_apply (KV : FVec Ideal S256x2048 .f32) (r : Fin 256) (h : Fin 4) (e : Fin 256) : hv KV (ix3 r h e) = KV (ix2 r (vcol (col h e))) := by
  pointwise [hv]
  exact congrArg (fun j => KV (ix2 r j)) (Fin.ext (by simp only [vcol, col]; omega))

theorem gT_apply (g : Rows3) (r : Fin 8192) (h : Fin 4) (e : Fin 256) : gT g (ix3 h e r) = g (ix3 r h e) := by
  pointwise [gT]

theorem lg_apply (q : Rows3) (k : Mem3) (h : Fin 4) (r : Fin 8192) (m : Fin 256) :
    lg q k (ix3 h r m) = logit (fun e => q (ix3 r h e)) (fun m e => k (ix3 m h e)) m := by
  pointwise [lg, sc]
  rfl

theorem rsum_apply (w : Sc3) (h : Fin 4) (r : Fin 8192) : rsum w (ix2 h r) = ∑ m : Fin 256, w (ix3 h r m) := by
  pointwise [rsum]

theorem col1_apply (x : FVec Ideal S4x8192 .f32) (h : Fin 4) (r : Fin 8192) (z : Fin 1) : col1 x (ix3 h r z) = x (ix2 h r) := by
  pointwise [col1]

theorem wide_apply (x : FVec Ideal S4x8192x1 .f32) (h : Fin 4) (r : Fin 8192) (m : Fin 256) : wide x (ix3 h r m) = x (ix3 h r 0) := by
  pointwise [wide]

theorem wx_apply (l : Sc3) (h : Fin 4) (r : Fin 8192) (m : Fin 256) : wx l (ix3 h r m) = wexp (fun m => l (ix3 h r m)) m := by
  pointwise [wx, wide, col1]
  rfl

theorem du_apply (g : Rows3) (v : Mem3) (h : Fin 4) (r : Fin 8192) (m : Fin 256) :
    du g v (ix3 h r m) = dprob (fun e => g (ix3 r h e)) (fun m e => v (ix3 m h e)) m := by
  pointwise [du, gT]
  rfl

theorem nb_apply (w u : Sc3) (h : Fin 4) (r : Fin 8192) (m : Fin 256) : nb w u (ix3 h r m) = -(qt w u (ix2 h r)) := by
  pointwise [nb]
  simp

theorem qt_apply (w u : Sc3) (h : Fin 4) (r : Fin 8192) : qt w u (ix2 h r)
    = ∑ m : Fin 256, u (ix3 h r m) * Ideal.div 1 ((∑ m : Fin 256, w (ix3 h r m)) * ∑ m : Fin 256, w (ix3 h r m)) * w (ix3 h r m) := by
  pointwise [qt, rsum, wide, col1]

theorem ds_apply (w u : Sc3) (h : Fin 4) (r : Fin 8192) (m : Fin 256) : ds w u (ix3 h r m)
    = (Ideal.div (u (ix3 h r m)) (∑ m : Fin 256, w (ix3 h r m)) + -(qt w u (ix2 h r))) * w (ix3 h r m) * scale := by
  have hn := nb_apply w u h r m
  pointwise [ds, wide, col1, rsum, sc]
  rw [hn]
  rfl

theorem oq_apply (d : Sc3) (k : Mem3) (r : Fin 8192) (j : Fin 1024) :
    oq d k (ix2 r j) = ∑ m : Fin 256, d (ix3 (hd j) r m) * k (ix3 m (hd j) (ln j)) := by
  pointwise [oq]
  rfl

theorem ok_apply (d : Sc3) (q : Rows3) (l : Fin 256) (h : Fin 4) (e : Fin 256) :
    ok d q (ix3 l h e) = ∑ r : Fin 8192, d (ix3 h r l) * q (ix3 r h e) := by
  pointwise [ok]

theorem ov_apply (g : Rows3) (p : Sc3) (l : Fin 256) (h : Fin 4) (e : Fin 256) :
    ov g p (ix3 l h e) = ∑ r : Fin 8192, g (ix3 r h e) * p (ix3 h r l) := by
  pointwise [ov, gT]

theorem okv_apply (a b : Mem3) (l : Fin 256) (j : Fin 2048) : okv a b (ix2 l j)
    = if h : j.val < 1024 then a (ix3 l (hd ⟨j.val, h⟩) (ln ⟨j.val, h⟩)) else b (ix3 l (hd ⟨j.val - 1024, by omega⟩) (ln ⟨j.val - 1024, by omega⟩)) := by
  pointwise [okv]
  have hj := j.isLt
  by_cases h : j.val < 1024
  · have h1 : ¬((1 ≤ j.val / 1024 ∧ j.val / 1024 - 1 < 1) ∧ j.val / 256 % 4 < 4 ∧ j.val % 256 < 256) := by omega
    have h2 : j.val / 1024 < 1 ∧ j.val / 256 % 4 < 4 ∧ j.val % 256 < 256 := by omega
    have e1 : (⟨j.val / 256 % 4, by omega⟩ : Fin 4) = hd ⟨j.val, h⟩ := Fin.ext (by simp only [hd]; omega)
    split
    · next hh => exact absurd hh h1
    · rw [zero_add]
      simp only [e1]
      rfl
  · have h1 : (1 ≤ j.val / 1024 ∧ j.val / 1024 - 1 < 1) ∧ j.val / 256 % 4 < 4 ∧ j.val % 256 < 256 := by omega
    have h2 : ¬(j.val / 1024 < 1 ∧ j.val / 256 % 4 < 4 ∧ j.val % 256 < 256) := by omega
    have e1 : (⟨j.val / 256 % 4, by omega⟩ : Fin 4) = hd ⟨j.val - 1024, by omega⟩ := Fin.ext (by simp only [hd]; omega)
    have e2 : (⟨j.val % 256, by omega⟩ : Fin 256) = ln ⟨j.val - 1024, by omega⟩ := Fin.ext (by simp only [ln]; omega)
    split
    · rw [add_zero]
      simp only [e1, e2]
    · next hh => exact absurd h1 hh

section Whole

variable (Q G : FVec Ideal S8192x1024 .f32) (KV : FVec Ideal S256x2048 .f32)

theorem scores_apply (h : Fin 4) (r : Fin 8192) (m : Fin 256) :
    ds (wx (lg (hq Q) (hk KV))) (du (hq G) (hv KV)) (ix3 h r m)
      = dscore (fun e => Q (ix2 r (col h e))) (fun m e => KV (ix2 m (kcol (col h e)))) (fun m e => KV (ix2 m (vcol (col h e))))
          (fun e => G (ix2 r (col h e))) m := by
  rw [ds_apply, qt_apply]
  simp only [wx_apply, du_apply, lg_apply, hq_apply, hk_apply, hv_apply]
  rfl

theorem probs_apply (h : Fin 4) (r : Fin 8192) (m : Fin 256) :
    pr (wx (lg (hq Q) (hk KV))) (ix3 h r m)
      = prob (logit (fun e => Q (ix2 r (col h e))) (fun m e => KV (ix2 m (kcol (col h e))))) m := by
  have hp (w : Sc3) : pr w (ix3 h r m) = Ideal.div (w (ix3 h r m)) (∑ m : Fin 256, w (ix3 h r m)) := by
    pointwise [pr, wide, col1, rsum]
  rw [hp]
  simp only [wx_apply, lg_apply, hq_apply, hk_apply]
  rfl

/-- The reference's first result is the query gradient, -/
theorem oq_eq : oq (ds (wx (lg (hq Q) (hk KV))) (du (hq G) (hv KV))) (hk KV) = gradQ Q G KV := by
  funext i
  obtain ⟨r, j, rfl⟩ : ∃ (r : Fin 8192) (j : Fin 1024), i = ix2 r j := ⟨i 0, i 1, by funext a; fin_cases a <;> rfl⟩
  rw [oq_apply]
  simp only [scores_apply, hk_apply]
  rfl

/-- and its second the gradient of the keys and values. -/
theorem okv_eq : okv (ok (ds (wx (lg (hq Q) (hk KV))) (du (hq G) (hv KV))) (hq Q)) (ov (hq G) (pr (wx (lg (hq Q) (hk KV)))))
    = gradKv Q G KV := by
  funext i
  obtain ⟨l, j, rfl⟩ : ∃ (l : Fin 256) (j : Fin 2048), i = ix2 l j := ⟨i 0, i 1, by funext a; fin_cases a <;> rfl⟩
  rw [okv_apply]
  simp only [ok_apply, ov_apply, scores_apply, probs_apply, hq_apply]
  show _ = dkvW _ _ _ _ l j
  unfold dkvW dkW dvW dk dv
  split
  · rfl
  · refine Finset.sum_congr rfl fun r _ => ?_
    rw [mul_comm]

end Whole

end Cert.ReferenceIdeal.Attn

end
-- ==== Proof.GateGradBlock.lean ====
/- The gate-weight gradient: what the scratch and the output block hold after a point, and the whole result. -/
module

public import proofs.«01_k».proof.Defs
public import proofs.«01_k».proof.Proof.Gen.GateGradIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GateGradIdeal.Blocks

open Cert.GateGradIdeal Cert.GateGradIdeal.Gen Idealize.ShloMosaic Idealize.ShloMosaic.TcCoe Idealize.SL.Sem

variable (m : (ℓ : Loc nD τ sig) → Buf (Elt Ideal) ℓ)

/-- The layer's input and the gate product's cotangent. -/
abbrev argX (c : Dev nD) : S8192x1024.Idx → EReal := m ((c : Thread nD τ).loc main_arg0)
abbrev argD (c : Dev nD) : S8192x2816.Idx → EReal := m ((c : Thread nD τ).loc main_arg1)

/-- Every window's block at every point: the pair of column groups is `t / 2`, the half of the summed rows `t % 2`. -/
theorem idx : ∀ t : Fin cfg0.N, win0_0.index t = ![t.val % 2, 0] ∧ win0_1.index t = ![t.val % 2, t.val / 2] ∧
    win0_2.index t = ![t.val / 2, 0, 0] :=
  (by decide +kernel : ∀ t : Fin grid0.N, _)

theorem lt_8 (t : Fin cfg0.N) : t.val < 8 := lt_of_lt_of_eq t.isLt (show cfg0.N = 8 from N_0)

abbrev row (t : Fin cfg0.N) (k : Fin 4096) : Fin 8192 := ⟨t.val % 2 * 4096 + k.val, by omega⟩

/-- Column `e` of group `j` of the pair in hand, in the scratch and in the array. -/
abbrev pcol (j : Fin 2) (e : Fin 352) : Fin 768 := ⟨384 * j.val + e.val, by omega⟩
abbrev col (t : Fin cfg0.N) (j : Fin 2) (e : Fin 352) : Fin 2816 := ⟨(2 * (t.val / 2) + j.val) * 352 + e.val, by have := lt_8 t; omega⟩

/-- Column `e` of group `n` of the array. -/
abbrev gcol (n : Fin 8) (e : Fin 352) : Fin 2816 := ⟨n.val * 352 + e.val, by omega⟩

theorem V_x (c : Dev nD) : V m c main_v0 = argX m c := by
  unfold V
  simp only [hostOps0, hostOps0_1, hostOps0_2, List.flatten_cons, List.flatten_nil, List.append_nil, List.cons_append, List.nil_append]
  after_results
  rfl

/-- The padded cotangent holds column `352 * n + e` at column `384 * n + e`. -/
theorem V_d (c : Dev nD) (k : Fin 8192) (n : Fin 8) (e : Fin 352) :
    V m c main_v4 (ix2 k ⟨384 * n.val + e.val, by omega⟩) = argD m c (ix2 k ⟨n.val * 352 + e.val, by omega⟩) := by
  unfold V
  simp only [hostOps0, hostOps0_1, hostOps0_2, List.flatten_cons, List.flatten_nil, List.append_nil, List.cons_append, List.nil_append]
  after_results
  simp only [StableHlo.TRef.toBuf, StableHlo.TRef.ofBuf, cast_cast, cast_eq]
  pointwise []
  have hm : (384 * n.val + e.val) % 384 = e.val := by omega
  split
  · refine congrArg (argD m c) (congrArg (ix2 k) (Fin.ext ?_))
    show n.val * 352 + (384 * n.val + e.val) % 384 = n.val * 352 + e.val
    omega
  · rename_i hn
    exact absurd (hm.trans_lt e.isLt) hn

theorem blk_x (c : Dev nD) (t : Fin cfg0.N) (k : Fin 4096) (r : Fin 1024) :
    iblk m c 0 t (ix2 k r) = argX m c (ix2 (row t k) r) := by
  rw [← V_x]
  blk_ext [iblk, idx t]

theorem blk_d (c : Dev nD) (t : Fin cfg0.N) (k : Fin 4096) (j : Fin 2) (e : Fin 352) :
    iblk m c 1 t (ix2 k (pcol j e)) = argD m c (ix2 (row t k) (col t j e)) := by
  refine Eq.trans ?_ (V_d m c (row t k) ⟨2 * (t.val / 2) + j.val, by have := lt_8 t; omega⟩ e)
  blk_ext [iblk, idx t]

/-- The share of a product that the rows of one point contribute. -/
def partOf (X : Vec Ideal S4096x1024 .bf16) (D : Vec Ideal S4096x768 .bf16) (y : S1024x768.Idx) : EReal :=
  ∑ k : Fin 4096, X (ix2 k (y 0)) * D (ix2 k (y 1))

theorem pay2_apply (X : Vec Ideal S4096x1024 .bf16) (D : Vec Ideal S4096x768 .bf16) (y : S1024x768.Idx) :
    k0_pay2 X D y = 0 + partOf X D y := by
  pointwise [k0_pay2, k0_pay1]
  simp only [partOf]

theorem pay3_apply (X : Vec Ideal S4096x1024 .bf16) (D : Vec Ideal S4096x768 .bf16) (A : Vec Ideal S1024x768 .f32)
    (y : S1024x768.Idx) : k0_pay3 X D A y = A y + partOf X D y := by
  pointwise [k0_pay3, k0_pay1]
  simp only [partOf]

theorem sc_A (c : Dev nD) (t : Fin cfg0.N) (h : t.val % 2 = 0) (y : S1024x768.Idx) :
    (outsAt0 m c t.val t.isLt).2 y = 0 + partOf (iblk m c 0 t) (iblk m c 1 t) y := by
  rw [outsAt0_A m c t h (by omega) (by omega)]
  frame_out
  exact pay2_apply _ _ y

theorem sc_B (c : Dev nD) (t : Fin cfg0.N) (h : ¬t.val % 2 = 0) (y : S1024x768.Idx) :
    (outsAt0 m c t.val t.isLt).2 y = (outsAt0 m c (t.val - 1) (by omega)).2 y + partOf (iblk m c 0 t) (iblk m c 1 t) y := by
  rw [outsAt0_B m c t h (by omega) (by omega)]
  frame_out
  rw [pay3_apply, read_unread_whole]

/-- Stores that are blocks of `G` and cover the buffer leave `G`. -/
theorem canon_pieces {S : Shape} (G : S.Idx → EReal) (L : List (View.Piece (Elt Ideal) S .bf16)) (h : View.PiecesOf G L) (y : S.Idx)
    (hc : ∃ p ∈ L, y ∈ p.1.set) : View.canon L y = G y :=
  View.canon_apply_of_pieces (Val := Elt Ideal) (e := .bf16) G L h.mem y hc

/-- The two groups of columns out of the scratch, one above the other. -/
def groups (A : S1024x768.Idx → EReal) : S2x1024x352.Idx → EReal := fun y => A (ix2 (y 1) (pcol (y 0) (y 2)))

theorem lo_piece (A : Vec Ideal S1024x768 .f32) (x : S1x1024x352.Idx) :
    k0_pay4 (View.ld (Val := Elt Ideal) (e' := .f32) A (Rect.unit ![0, 0] ![1024, 352] inb_S1024x768_S1024x352_0_0)) x
      = groups A ((Rect.unit (s := S2x1024x352) ![0, 0, 0] ![1, 1024, 352] inb_S2x1024x352_S1x1024x352_0_0_0).emb x) := by
  obtain ⟨z, r, e, rfl⟩ : ∃ (z : Fin 1) (r : Fin 1024) (e : Fin 352), x = ix3 z r e := ⟨x 0, x 1, x 2, by funext a; fin_cases a <;> rfl⟩
  have he : (Rect.unit (s := S2x1024x352) ![0, 0, 0] ![1, 1024, 352] inb_S2x1024x352_S1x1024x352_0_0_0).emb (ix3 z r e) = ix3 (0 : Fin 2) r e := by
    refine funext fun a => Fin.ext ?_
    have := z.isLt
    fin_cases a
    · show 0 + 1 * z.val = 0
      omega
    · show 0 + 1 * r.val = r.val
      omega
    · show 0 + 1 * e.val = e.val
      omega
  rw [he]
  pointwise [k0_pay4, groups]
  exact congrArg A (congrArg (ix2 r) (Fin.ext (by simp only [pcol, Fin.isValue, Fin.val_zero]; omega)))

theorem hi_piece (A : Vec Ideal S1024x768 .f32) (x : S1x1024x352.Idx) :
    k0_pay5 (View.ld (Val := Elt Ideal) (e' := .f32) A (Rect.unit ![0, 384] ![1024, 352] inb_S1024x768_S1024x352_0_384)) x
      = groups A ((Rect.unit (s := S2x1024x352) ![1, 0, 0] ![1, 1024, 352] inb_S2x1024x352_S1x1024x352_1_0_0).emb x) := by
  obtain ⟨z, r, e, rfl⟩ : ∃ (z : Fin 1) (r : Fin 1024) (e : Fin 352), x = ix3 z r e := ⟨x 0, x 1, x 2, by funext a; fin_cases a <;> rfl⟩
  have he : (Rect.unit (s := S2x1024x352) ![1, 0, 0] ![1, 1024, 352] inb_S2x1024x352_S1x1024x352_1_0_0).emb (ix3 z r e) = ix3 (1 : Fin 2) r e := by
    refine funext fun a => Fin.ext ?_
    have := z.isLt
    fin_cases a
    · show 1 + 1 * z.val = 1
      omega
    · show 0 + 1 * r.val = r.val
      omega
    · show 0 + 1 * e.val = e.val
      omega
  rw [he]
  pointwise [k0_pay5, groups]
  exact congrArg A (congrArg (ix2 r) (Fin.ext (by simp only [pcol, Fin.isValue, Fin.val_one])))

theorem out_B (c : Dev nD) (t : Fin cfg0.N) (h : ¬t.val % 2 = 0) (y : S2x1024x352.Idx) :
    (outsAt0 m c t.val t.isLt).1 y = groups (outsAt0 m c t.val t.isLt).2 y := by
  rw [outsAt0_B m c t h (by omega) (by omega)]
  frame_out
  simp (disch := decide) only [View.readCov_fill]
  refine canon_pieces (groups _) _ ?_ y ?_
  rotate_left
  · exact View.cover_of_tiledL _ ![1, 1024, 352] (by sl_kernel_rfl) y
  exact ⟨hi_piece _, lo_piece _, trivial⟩

/-- The gradient of the gate's weight, the columns in 8 groups of 352. -/
def gradG (X : S8192x1024.Idx → EReal) (D : S8192x2816.Idx → EReal) : S8x1024x352.Idx → EReal := fun i =>
  ∑ k : Fin 8192, X (ix2 k (i 1)) * D (ix2 k (gcol (i 0) (i 2)))

theorem flush_odd : ∀ t : Fin cfg0.N, (cfg0.win 2).flush t = true → ¬t.val % 2 = 0 :=
  (by decide +kernel : ∀ t : Fin grid0.N, _)

theorem final2 (c : Dev nD) : (dats m 0 c).arrAt 2 cfg0.N = gradG (argX m c) (argD m c) := by
  refine (dats m 0 c).arrAt_eq_of_covers 2 _ (by decide +kernel) fun t hf y => ?_
  blk_simp
  rw [after0_2]
  obtain ⟨j, r, e, rfl⟩ : ∃ (j : Fin 2) (r : Fin 1024) (e : Fin 352), y = ix3 j r e := ⟨y 0, y 1, y 2, by funext a; fin_cases a <;> rfl⟩
  have hi : ((cfg0.win 2).blk t).view.emb (ix3 j r e) = ix3 (⟨2 * (t.val / 2) + j.val, by have := lt_8 t; omega⟩ : Fin 8) r e := by
    blk_ext [idx t]
  rw [hi, out_B m c t (flush_odd t hf)]
  show (outsAt0 m c t.val t.isLt).2 (ix2 r (pcol j e)) = _
  rw [Pipeline.eq_sum_fin_of_reset_step_apply_of_flush (fun n h => (outsAt0 m c n h).2) 2 (fun _ => 0)
      (fun t => partOf (iblk m c 0 t) (iblk m c 1 t)) (fun t h j => sc_A m c t h j) (fun t h j => sc_B m c t h j) t
      ((flush0_2 t).mp hf) _, zero_add]
  show _ = ∑ k : Fin 8192, argX m c (ix2 k r) * argD m c (ix2 k (col t j e))
  refine Fin.sum_mul_add_congr (S := 2) (n := 4096) (fun s k hl => ?_)
  refine (congrArg₂ (fun a b : EReal => a * b) (blk_x m c _ k r) (blk_d m c _ k j e)).trans ?_
  have hs : (2 * (t.val / 2) + s.val) / 2 = t.val / 2 := by omega
  have hm : (2 * (t.val / 2) + s.val) % 2 = s.val := by omega
  simp only [row, col, hs, hm]

end Cert.GateGradIdeal.Blocks

end
-- ==== Proof.GateGradClaim.lean ====
/- The gate-weight gradient equals the reference's. -/
module

public import proofs.«01_k».proof.Proof.GateGradBlock
public import proofs.«01_k».proof.Proof.Gen.GateGrad.Frame
public import proofs.«01_k».proof.Proof.Gen.GateGradRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.GateGradIdeal.Blocks

theorem quiescent_GateGradRef : Cert.quiescent_GateGradRefIdeal := fun m ρ _ =>
  (θ_run Cert.GateGradRefIdeal.defs _ _).mono (fun r h => ⟨fun c => (h c).2, sem_eq_zero_of_no_sems (by decide) r.2⟩)
    (Cert.GateGradRefIdeal.Value.run (F := Ideal) m ρ)

theorem algebraic_GateGrad : Cert.algebraic_GateGradIdeal_GateGradRefIdeal := by
  intro m ρ m' ρ' _ hagree
  refine ⟨_, (θ_run Cert.GateGradIdeal.defs _ _).mono (fun _ h c => ⟨((h c).1).trans (final2 m c), (h c).2⟩)
    (Cert.GateGradIdeal.Value.run_blocks (F := Ideal) m ρ), ?_⟩
  refine (θ_run Cert.GateGradRefIdeal.defs _ _).mono (fun _ h c => ⟨?_, (h c).2⟩) (Cert.GateGradRefIdeal.Value.run (F := Ideal) m' ρ')
  rw [(h c).1]
  simp only [hagree c]
  funext i
  obtain ⟨n, r, e, rfl⟩ : ∃ (n : Fin 8) (r : Fin 1024) (e : Fin 352), i = ix3 n r e := ⟨i 0, i 1, i 2, by funext a; fin_cases a <;> rfl⟩
  pointwise [gradG]
  exact Finset.sum_congr rfl fun _ _ => mul_comm _ _

end Cert.Proof

end
-- ==== Proof.DownGradBlock.lean ====
/- The down-weight gradient: what the scratch and the output block hold after a point, and the whole result. -/
module

public import proofs.«01_k».proof.Defs
public import proofs.«01_k».proof.Proof.Gen.DownGradIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DownGradIdeal.Blocks

open Cert.DownGradIdeal Cert.DownGradIdeal.Gen Idealize.ShloMosaic Idealize.ShloMosaic.TcCoe Idealize.SL.Sem

variable (m : (ℓ : Loc nD τ sig) → Buf (Elt Ideal) ℓ)

/-- The hidden activations and the down product's cotangent. -/
abbrev argH (c : Dev nD) : S8192x2816.Idx → EReal := m ((c : Thread nD τ).loc main_arg0)
abbrev argX (c : Dev nD) : S8192x1024.Idx → EReal := m ((c : Thread nD τ).loc main_arg1)

/-- Every window's block at every point: the pair of column groups is `t / 2`, the half of the summed rows `t % 2`. -/
theorem idx : ∀ t : Fin cfg0.N, win0_0.index t = ![t.val % 2, 0] ∧ win0_1.index t = ![t.val % 2, t.val / 2] ∧
    win0_2.index t = ![t.val / 2, 0, 0] :=
  (by decide +kernel : ∀ t : Fin grid0.N, _)

theorem lt_8 (t : Fin cfg0.N) : t.val < 8 := lt_of_lt_of_eq t.isLt (show cfg0.N = 8 from N_0)

abbrev row (t : Fin cfg0.N) (k : Fin 4096) : Fin 8192 := ⟨t.val % 2 * 4096 + k.val, by omega⟩

/-- Column `e` of group `j` of the pair in hand, in the scratch and in the array. -/
abbrev pcol (j : Fin 2) (e : Fin 352) : Fin 768 := ⟨384 * j.val + e.val, by omega⟩
abbrev col (t : Fin cfg0.N) (j : Fin 2) (e : Fin 352) : Fin 2816 := ⟨(2 * (t.val / 2) + j.val) * 352 + e.val, by have := lt_8 t; omega⟩

/-- Column `e` of group `n` of the array. -/
abbrev gcol (n : Fin 8) (e : Fin 352) : Fin 2816 := ⟨n.val * 352 + e.val, by omega⟩

theorem V_x (c : Dev nD) : V m c main_v0 = argX m c := by
  unfold V
  simp only [hostOps0, hostOps0_1, hostOps0_2, List.flatten_cons, List.flatten_nil, List.append_nil, List.cons_append, List.nil_append]
  after_results
  rfl

/-- The padded activations holds column `352 * n + e` at column `384 * n + e`. -/
theorem V_h (c : Dev nD) (k : Fin 8192) (n : Fin 8) (e : Fin 352) :
    V m c main_v4 (ix2 k ⟨384 * n.val + e.val, by omega⟩) = argH m c (ix2 k ⟨n.val * 352 + e.val, by omega⟩) := by
  unfold V
  simp only [hostOps0, hostOps0_1, hostOps0_2, List.flatten_cons, List.flatten_nil, List.append_nil, List.cons_append, List.nil_append]
  after_results
  simp only [StableHlo.TRef.toBuf, StableHlo.TRef.ofBuf, cast_cast, cast_eq]
  pointwise []
  have hm : (384 * n.val + e.val) % 384 = e.val := by omega
  split
  · refine congrArg (argH m c) (congrArg (ix2 k) (Fin.ext ?_))
    show n.val * 352 + (384 * n.val + e.val) % 384 = n.val * 352 + e.val
    omega
  · rename_i hn
    exact absurd (hm.trans_lt e.isLt) hn

theorem blk_x (c : Dev nD) (t : Fin cfg0.N) (k : Fin 4096) (r : Fin 1024) :
    iblk m c 0 t (ix2 k r) = argX m c (ix2 (row t k) r) := by
  rw [← V_x]
  blk_ext [iblk, idx t]

theorem blk_h (c : Dev nD) (t : Fin cfg0.N) (k : Fin 4096) (j : Fin 2) (e : Fin 352) :
    iblk m c 1 t (ix2 k (pcol j e)) = argH m c (ix2 (row t k) (col t j e)) := by
  refine Eq.trans ?_ (V_h m c (row t k) ⟨2 * (t.val / 2) + j.val, by have := lt_8 t; omega⟩ e)
  blk_ext [iblk, idx t]

/-- The share of a product that the rows of one point contribute. -/
def partOf (H : Vec Ideal S4096x768 .bf16) (X : Vec Ideal S4096x1024 .bf16) (y : S768x1024.Idx) : EReal :=
  ∑ k : Fin 4096, H (ix2 k (y 0)) * X (ix2 k (y 1))

theorem pay2_apply (H : Vec Ideal S4096x768 .bf16) (X : Vec Ideal S4096x1024 .bf16) (y : S768x1024.Idx) :
    k0_pay2 H X y = 0 + partOf H X y := by
  pointwise [k0_pay2, k0_pay1]
  simp only [partOf]

theorem pay3_apply (H : Vec Ideal S4096x768 .bf16) (X : Vec Ideal S4096x1024 .bf16) (A : Vec Ideal S768x1024 .f32)
    (y : S768x1024.Idx) : k0_pay3 H X A y = A y + partOf H X y := by
  pointwise [k0_pay3, k0_pay1]
  simp only [partOf]

theorem sc_A (c : Dev nD) (t : Fin cfg0.N) (h : t.val % 2 = 0) (y : S768x1024.Idx) :
    (outsAt0 m c t.val t.isLt).2 y = 0 + partOf (iblk m c 1 t) (iblk m c 0 t) y := by
  rw [outsAt0_A m c t h (by omega) (by omega)]
  frame_out
  exact pay2_apply _ _ y

theorem sc_B (c : Dev nD) (t : Fin cfg0.N) (h : ¬t.val % 2 = 0) (y : S768x1024.Idx) :
    (outsAt0 m c t.val t.isLt).2 y = (outsAt0 m c (t.val - 1) (by omega)).2 y + partOf (iblk m c 1 t) (iblk m c 0 t) y := by
  rw [outsAt0_B m c t h (by omega) (by omega)]
  frame_out
  rw [pay3_apply, read_unread_whole]

/-- Stores that are blocks of `G` and cover the buffer leave `G`. -/
theorem canon_pieces {S : Shape} (G : S.Idx → EReal) (L : List (View.Piece (Elt Ideal) S .bf16)) (h : View.PiecesOf G L) (y : S.Idx)
    (hc : ∃ p ∈ L, y ∈ p.1.set) : View.canon L y = G y :=
  View.canon_apply_of_pieces (Val := Elt Ideal) (e := .bf16) G L h.mem y hc

/-- The two groups of rows out of the scratch, one above the other. -/
def groups (A : S768x1024.Idx → EReal) : S2x352x1024.Idx → EReal := fun y => A (ix2 (pcol (y 0) (y 1)) (y 2))

theorem lo_piece (A : Vec Ideal S768x1024 .f32) (x : S1x352x1024.Idx) :
    k0_pay4 (View.ld (Val := Elt Ideal) (e' := .f32) A (Rect.unit ![0, 0] ![352, 1024] inb_S768x1024_S352x1024_0_0)) x
      = groups A ((Rect.unit (s := S2x352x1024) ![0, 0, 0] ![1, 352, 1024] inb_S2x352x1024_S1x352x1024_0_0_0).emb x) := by
  obtain ⟨z, e, r, rfl⟩ : ∃ (z : Fin 1) (e : Fin 352) (r : Fin 1024), x = ix3 z e r := ⟨x 0, x 1, x 2, by funext a; fin_cases a <;> rfl⟩
  have he : (Rect.unit (s := S2x352x1024) ![0, 0, 0] ![1, 352, 1024] inb_S2x352x1024_S1x352x1024_0_0_0).emb (ix3 z e r) = ix3 (0 : Fin 2) e r := by
    refine funext fun a => Fin.ext ?_
    have := z.isLt
    fin_cases a
    · show 0 + 1 * z.val = 0
      omega
    · show 0 + 1 * e.val = e.val
      omega
    · show 0 + 1 * r.val = r.val
      omega
  rw [he]
  pointwise [k0_pay4, groups]
  exact congrArg A (congrArg (fun p => ix2 p r) (Fin.ext (by simp only [pcol, Fin.isValue, Fin.val_zero]; omega)))

theorem hi_piece (A : Vec Ideal S768x1024 .f32) (x : S1x352x1024.Idx) :
    k0_pay5 (View.ld (Val := Elt Ideal) (e' := .f32) A (Rect.unit ![384, 0] ![352, 1024] inb_S768x1024_S352x1024_384_0)) x
      = groups A ((Rect.unit (s := S2x352x1024) ![1, 0, 0] ![1, 352, 1024] inb_S2x352x1024_S1x352x1024_1_0_0).emb x) := by
  obtain ⟨z, e, r, rfl⟩ : ∃ (z : Fin 1) (e : Fin 352) (r : Fin 1024), x = ix3 z e r := ⟨x 0, x 1, x 2, by funext a; fin_cases a <;> rfl⟩
  have he : (Rect.unit (s := S2x352x1024) ![1, 0, 0] ![1, 352, 1024] inb_S2x352x1024_S1x352x1024_1_0_0).emb (ix3 z e r) = ix3 (1 : Fin 2) e r := by
    refine funext fun a => Fin.ext ?_
    have := z.isLt
    fin_cases a
    · show 1 + 1 * z.val = 1
      omega
    · show 0 + 1 * e.val = e.val
      omega
    · show 0 + 1 * r.val = r.val
      omega
  rw [he]
  pointwise [k0_pay5, groups]
  exact congrArg A (congrArg (fun p => ix2 p r) (Fin.ext (by simp only [pcol, Fin.isValue, Fin.val_one])))

theorem out_B (c : Dev nD) (t : Fin cfg0.N) (h : ¬t.val % 2 = 0) (y : S2x352x1024.Idx) :
    (outsAt0 m c t.val t.isLt).1 y = groups (outsAt0 m c t.val t.isLt).2 y := by
  rw [outsAt0_B m c t h (by omega) (by omega)]
  frame_out
  simp (disch := decide) only [View.readCov_fill]
  refine canon_pieces (groups _) _ ?_ y ?_
  rotate_left
  · exact View.cover_of_tiledL _ ![1, 352, 1024] (by sl_kernel_rfl) y
  exact ⟨hi_piece _, lo_piece _, trivial⟩

/-- The gradient of the down weight, the rows in 8 groups of 352. -/
def gradG (H : S8192x2816.Idx → EReal) (X : S8192x1024.Idx → EReal) : S8x352x1024.Idx → EReal := fun i =>
  ∑ k : Fin 8192, H (ix2 k (gcol (i 0) (i 1))) * X (ix2 k (i 2))

theorem flush_odd : ∀ t : Fin cfg0.N, (cfg0.win 2).flush t = true → ¬t.val % 2 = 0 :=
  (by decide +kernel : ∀ t : Fin grid0.N, _)

theorem final2 (c : Dev nD) : (dats m 0 c).arrAt 2 cfg0.N = gradG (argH m c) (argX m c) := by
  refine (dats m 0 c).arrAt_eq_of_covers 2 _ (by decide +kernel) fun t hf y => ?_
  blk_simp
  rw [after0_2]
  obtain ⟨j, e, r, rfl⟩ : ∃ (j : Fin 2) (e : Fin 352) (r : Fin 1024), y = ix3 j e r := ⟨y 0, y 1, y 2, by funext a; fin_cases a <;> rfl⟩
  have hi : ((cfg0.win 2).blk t).view.emb (ix3 j e r) = ix3 (⟨2 * (t.val / 2) + j.val, by have := lt_8 t; omega⟩ : Fin 8) e r := by
    blk_ext [idx t]
  rw [hi, out_B m c t (flush_odd t hf)]
  show (outsAt0 m c t.val t.isLt).2 (ix2 (pcol j e) r) = _
  rw [Pipeline.eq_sum_fin_of_reset_step_apply_of_flush (fun n h => (outsAt0 m c n h).2) 2 (fun _ => 0)
      (fun t => partOf (iblk m c 1 t) (iblk m c 0 t)) (fun t h j => sc_A m c t h j) (fun t h j => sc_B m c t h j) t
      ((flush0_2 t).mp hf) _, zero_add]
  show _ = ∑ k : Fin 8192, argH m c (ix2 k (col t j e)) * argX m c (ix2 k r)
  refine Fin.sum_mul_add_congr (S := 2) (n := 4096) (fun s k hl => ?_)
  refine (congrArg₂ (fun a b : EReal => a * b) (blk_h m c _ k j e) (blk_x m c _ k r)).trans ?_
  have hs : (2 * (t.val / 2) + s.val) / 2 = t.val / 2 := by omega
  have hm : (2 * (t.val / 2) + s.val) % 2 = s.val := by omega
  simp only [row, col, hs, hm]

end Cert.DownGradIdeal.Blocks

end
-- ==== Proof.DownGradClaim.lean ====
/- The down-weight gradient equals the reference's. -/
module

public import proofs.«01_k».proof.Proof.DownGradBlock
public import proofs.«01_k».proof.Proof.Gen.DownGrad.Frame
public import proofs.«01_k».proof.Proof.Gen.DownGradRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.DownGradIdeal.Blocks

theorem quiescent_DownGradRef : Cert.quiescent_DownGradRefIdeal := fun m ρ _ =>
  (θ_run Cert.DownGradRefIdeal.defs _ _).mono (fun r h => ⟨fun c => (h c).2, sem_eq_zero_of_no_sems (by decide) r.2⟩)
    (Cert.DownGradRefIdeal.Value.run (F := Ideal) m ρ)

theorem algebraic_DownGrad : Cert.algebraic_DownGradIdeal_DownGradRefIdeal := by
  intro m ρ m' ρ' _ hagree
  refine ⟨_, (θ_run Cert.DownGradIdeal.defs _ _).mono (fun _ h c => ⟨((h c).1).trans (final2 m c), (h c).2⟩)
    (Cert.DownGradIdeal.Value.run_blocks (F := Ideal) m ρ), ?_⟩
  refine (θ_run Cert.DownGradRefIdeal.defs _ _).mono (fun _ h c => ⟨?_, (h c).2⟩) (Cert.DownGradRefIdeal.Value.run (F := Ideal) m' ρ')
  rw [(h c).1]
  simp only [hagree c]
  funext i
  obtain ⟨n, r, e, rfl⟩ : ∃ (n : Fin 8) (r : Fin 352) (e : Fin 1024), i = ix3 n r e := ⟨i 0, i 1, i 2, by funext a; fin_cases a <;> rfl⟩
  pointwise [gradG]
  exact Finset.sum_congr rfl fun _ _ => mul_comm _ _

end Cert.Proof

end
-- ==== Proof.FfnMath.lean ====
/- One entry of the feed-forward layer and its norm, and sums over zero-padded groups of columns. -/
module

public import Idealize.ShloMosaic.Lib.IdealHost
public import Idealize.ShloMosaic.Lib.Pipeline.ValueKit
public import Mathlib.Analysis.SpecialFunctions.Trigonometric.DerivHyp

@[expose] public section

noncomputable section

namespace Cert.FfnMath

open Idealize.ShloMosaic

/-- One half, as the programs write it. -/
abbrev half : EReal := Ideal.ofBits .f32 0x3F000000#32
/-- The weight of the residual branch, as the programs write it. -/
abbrev alpha : EReal := Ideal.ofBits .f32 0x3F9837F0#32

theorem half_eq : half = (((1 : ℝ) / 2 : ℝ) : EReal) := by
  simp [half, Ideal.ofBits, Ideal.ieee, -EReal.coe_mul]
  norm_num

theorem real_half_tanh (r : ℝ) : 1 / 2 * Real.tanh (1 / 2 * r) + 1 / 2 = (1 + Real.exp (-r))⁻¹ := by
  have h : Real.exp (-r) = Real.exp (-(1 / 2 * r)) * Real.exp (-(1 / 2 * r)) := by
    rw [← Real.exp_add]
    congr 1
    ring
  have hp := Real.exp_pos (1 / 2 * r)
  rw [Real.tanh_eq_sinh_div_cosh, Real.sinh_eq, Real.cosh_eq, h, Real.exp_neg]
  field_simp
  ring

/-- The logistic function, from the hyperbolic tangent. -/
theorem half_tanh (x : EReal) : half * Ideal.tanh (half * x) + half = Ideal.logistic x := by
  rw [half_eq]
  induction x with
  | bot =>
    rw [EReal.coe_mul_bot_of_pos (by norm_num), Ideal.tanh_bot, Ideal.logistic_bot]
    rw [show (-1 : EReal) = ((-1 : ℝ) : EReal) by simp, ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, ← EReal.coe_mul, ← EReal.coe_add, Ideal.logistic_coe, real_half_tanh]

/-- The gated activation of a pair of products. -/
def act (a b : EReal) : EReal := a * Ideal.logistic a * b

/-- The mean and the variance of a row of 1024, and the normalized row. -/
def mean (v : Fin 1024 → EReal) : EReal := Ideal.div (∑ j, v j) (Ideal.ofBits .f32 0x44800000#32)
def var (v : Fin 1024 → EReal) : EReal :=
  Ideal.div (∑ j, (v j - mean v) * (v j - mean v)) (Ideal.ofBits .f32 0x44800000#32)
def norm (v g b : Fin 1024 → EReal) (e : Fin 1024) : EReal :=
  (v e - mean v) * Ideal.rsqrt (var v + Ideal.ofBits .f32 0x3727C5AC#32) * g e + b e

/-- Column `c` of a group of 384 holds one of the group's 352 columns or a zero. -/
def padded (f : Fin 2816 → EReal) (l : Fin 3072) : EReal :=
  if h : l.val % 384 < 352 then f ⟨l.val / 384 * 352 + l.val % 384, by omega⟩ else 0

theorem sum_padded (f : Fin 2816 → EReal) : ∑ l, padded f l = ∑ n, f n := by
  have h1 : ∑ n : Fin 8, ∑ q : Fin 384, padded f ⟨n.val * 384 + q.val, by omega⟩ = ∑ l, padded f l :=
    Fin.sum_mul_add_congr (S := 8) (n := 384) fun _ _ _ => rfl
  have h2 : ∑ n : Fin 8, ∑ e : Fin 352, f ⟨n.val * 352 + e.val, by omega⟩ = ∑ n, f n :=
    Fin.sum_mul_add_congr (S := 8) (n := 352) fun _ _ _ => rfl
  rw [← h1, ← h2]
  refine Finset.sum_congr rfl fun n _ => ?_
  rw [show (∑ q : Fin 384, padded f ⟨n.val * 384 + q.val, by omega⟩)
    = ∑ q : Fin (352 + 32), padded f ⟨n.val * 384 + q.val, by omega⟩ from rfl, Fin.sum_univ_add]
  rw [show (∑ i : Fin 32, padded f ⟨n.val * 384 + (Fin.natAdd 352 i).val, by simp only [Fin.val_natAdd]; omega⟩) = 0 from
    Finset.sum_eq_zero fun i _ => dif_neg (by simp only [Fin.val_natAdd]; omega), add_zero]
  refine Finset.sum_congr rfl fun e _ => ?_
  rw [padded, dif_pos (by simp only [Fin.val_castAdd]; omega)]
  exact congrArg f (Fin.ext (by simp only [Fin.val_castAdd]; omega))

/-- The padded groups, two to a block: block `p`, column `c`. -/
abbrev pos (p : Fin 4) (c : Fin 768) : Fin 3072 := ⟨p.val * 768 + c.val, by omega⟩

theorem sum_mul_padded (x : Fin 1024 → EReal) (g : Fin 1024 → Fin 2816 → EReal) (l : Fin 3072) :
    ∑ k, x k * padded (g k) l = padded (fun n => ∑ k, x k * g k n) l := by
  unfold padded
  split
  · rfl
  · simp only [mul_zero, Finset.sum_const_zero]

theorem act_padded (f g h : Fin 2816 → EReal) (l : Fin 3072) :
    act (padded f l) (padded g l) * padded h l = padded (fun n => act (f n) (g n) * h n) l := by
  unfold padded
  split
  · rfl
  · rw [mul_zero]

theorem padded_of_lt (f : Fin 2816 → EReal) (p : Fin 4) (q : Fin 768) (h : q.val % 384 < 352) :
    padded f (pos p q) = f ⟨(p.val * 2 + q.val / 384) * 352 + q.val % 384, by omega⟩ := by
  have hm : (p.val * 768 + q.val) % 384 = q.val % 384 := by omega
  have hd : (p.val * 768 + q.val) / 384 = p.val * 2 + q.val / 384 := by omega
  unfold padded
  exact (dif_pos (show (p.val * 768 + q.val) % 384 < 352 by omega)).trans (congrArg f (Fin.ext (by simp only [hm, hd])))

theorem padded_of_not (f : Fin 2816 → EReal) (p : Fin 4) (q : Fin 768) (h : ¬q.val % 384 < 352) :
    padded f (pos p q) = 0 := by
  unfold padded
  exact dif_neg (show ¬(p.val * 768 + q.val) % 384 < 352 by omega)

theorem sum_blocks (f : Fin 2816 → EReal) : ∑ p : Fin 4, ∑ c : Fin 768, padded f (pos p c) = ∑ n, f n :=
  (Fin.sum_mul_add_congr (S := 4) (n := 768) fun _ _ _ => rfl).trans (sum_padded f)

end Cert.FfnMath

end
-- ==== Proof.FfnHost.lean ====
/- The feed-forward layer's weights as its call finds them: transposed and padded. -/
module

public import proofs.«01_k».proof.Defs
public import proofs.«01_k».proof.Proof.Gen.FfnIdeal.Value
public import proofs.«01_k».proof.Proof.FfnMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnIdeal.Blocks

open Cert.FfnIdeal Cert.FfnIdeal.Gen Cert.FfnMath Idealize.ShloMosaic Idealize.ShloMosaic.TcCoe Idealize.SL.Sem

variable (m : (ℓ : Loc nD τ sig) → Buf (Elt Ideal) ℓ)

/-- The layer's input, its three weights, and the norm's weight and bias. -/
abbrev argX (c : Dev nD) : S8192x1024.Idx → EReal := m ((c : Thread nD τ).loc main_arg0)
abbrev argG (c : Dev nD) : S1024x2816.Idx → EReal := m ((c : Thread nD τ).loc main_arg1)
abbrev argU (c : Dev nD) : S1024x2816.Idx → EReal := m ((c : Thread nD τ).loc main_arg2)
abbrev argD (c : Dev nD) : S2816x1024.Idx → EReal := m ((c : Thread nD τ).loc main_arg3)
abbrev argS (c : Dev nD) : S1024.Idx → EReal := m ((c : Thread nD τ).loc main_arg4)
abbrev argB (c : Dev nD) : S1024.Idx → EReal := m ((c : Thread nD τ).loc main_arg5)

/-! ## The host's preparation of the weights -/

theorem pad_zero : (FloatOps.sitofp FTy.bf16 0#32 : Ideal .bf16) = 0 := by
  simp [FloatOps.sitofp]

theorem V_g (c : Dev nD) (p : Fin 4) (q : Fin 768) (k : Fin 1024) :
    V m c main_v4 (ix3 p q k) = padded (fun n => argG m c (ix2 k n)) (pos p q) := by
  unfold V
  simp only [hostOps0, hostOps0_1, hostOps0_2, hostOps0_3, hostOps0_4, hostOps0_5, hostOps0_6, List.flatten_cons, List.flatten_nil, List.append_nil, List.cons_append, List.nil_append]
  after_results
  simp only [StableHlo.TRef.toBuf, StableHlo.TRef.ofBuf, cast_cast, cast_eq]
  pointwise []
  split
  · rename_i h
    exact (padded_of_lt (fun n => argG m c (ix2 k n)) p q h.2).symm
  · rename_i h
    exact pad_zero.trans (padded_of_not (fun n => argG m c (ix2 k n)) p q (by omega)).symm

theorem V_u (c : Dev nD) (p : Fin 4) (q : Fin 768) (k : Fin 1024) :
    V m c main_v9 (ix3 p q k) = padded (fun n => argU m c (ix2 k n)) (pos p q) := by
  unfold V
  simp only [hostOps0, hostOps0_1, hostOps0_2, hostOps0_3, hostOps0_4, hostOps0_5, hostOps0_6, List.flatten_cons, List.flatten_nil, List.append_nil, List.cons_append, List.nil_append]
  after_results
  simp only [StableHlo.TRef.toBuf, StableHlo.TRef.ofBuf, cast_cast, cast_eq]
  pointwise []
  split
  · rename_i h
    exact (padded_of_lt (fun n => argU m c (ix2 k n)) p q h.2).symm
  · rename_i h
    exact pad_zero.trans (padded_of_not (fun n => argU m c (ix2 k n)) p q (by omega)).symm

theorem V_d (c : Dev nD) (p : Fin 4) (q : Fin 768) (k : Fin 1024) :
    V m c main_v13 (ix3 p q k) = padded (fun n => argD m c (ix2 n k)) (pos p q) := by
  unfold V
  simp only [hostOps0, hostOps0_1, hostOps0_2, hostOps0_3, hostOps0_4, hostOps0_5, hostOps0_6, List.flatten_cons, List.flatten_nil, List.append_nil, List.cons_append, List.nil_append]
  after_results
  simp only [StableHlo.TRef.toBuf, StableHlo.TRef.ofBuf, cast_cast, cast_eq]
  pointwise []
  split
  · rename_i h
    exact (padded_of_lt (fun n => argD m c (ix2 n k)) p q h.2).symm
  · rename_i h
    exact pad_zero.trans (padded_of_not (fun n => argD m c (ix2 n k)) p q (by omega)).symm

theorem V_s (c : Dev nD) (k : Fin 1024) : V m c main_v14 (ix2 0 k) = argS m c (ix1 k) := by
  unfold V
  simp only [hostOps0, hostOps0_1, hostOps0_2, hostOps0_3, hostOps0_4, hostOps0_5, hostOps0_6, List.flatten_cons, List.flatten_nil, List.append_nil, List.cons_append, List.nil_append]
  after_results
  pointwise []

theorem V_b (c : Dev nD) (k : Fin 1024) : V m c main_v15 (ix2 0 k) = argB m c (ix1 k) := by
  unfold V
  simp only [hostOps0, hostOps0_1, hostOps0_2, hostOps0_3, hostOps0_4, hostOps0_5, hostOps0_6, List.flatten_cons, List.flatten_nil, List.append_nil, List.cons_append, List.nil_append]
  after_results
  pointwise []

end Cert.FfnIdeal.Blocks

end
-- ==== Proof.FfnBlock.lean ====
/- What the feed-forward layer's scratches and output blocks hold after a grid point. -/
module

public import proofs.«01_k».proof.Defs
public import proofs.«01_k».proof.Proof.Gen.FfnIdeal.Value
public import proofs.«01_k».proof.Proof.FfnHost
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnIdeal.Blocks

open Cert.FfnIdeal Cert.FfnIdeal.Gen Cert.FfnMath Idealize.ShloMosaic Idealize.ShloMosaic.TcCoe Idealize.SL.Sem

variable (m : (ℓ : Loc nD τ sig) → Buf (Elt Ideal) ℓ)

/-- Every window's block at every point: the row block is `t / 4`, the pair of column groups `t % 4`. -/
theorem idx : ∀ t : Fin cfg0.N, win0_0.index t = ![t.val / 4, 0] ∧ win0_1.index t = ![t.val % 4, 0, 0] ∧
    win0_2.index t = ![t.val % 4, 0, 0] ∧ win0_3.index t = ![t.val % 4, 0, 0] ∧ win0_4.index t = ![0, 0] ∧
    win0_5.index t = ![0, 0] ∧ win0_6.index t = ![t.val / 4, 0] ∧ win0_7.index t = ![t.val / 4, 0] ∧
    win0_8.index t = ![t.val / 4, t.val % 4] ∧ win0_9.index t = ![t.val / 4, t.val % 4] :=
  (by decide +kernel : ∀ t : Fin grid0.N, _)

theorem lt_32 (t : Fin cfg0.N) : t.val < 32 := lt_of_lt_of_eq t.isLt (show cfg0.N = 32 from N_0)

abbrev row (t : Fin cfg0.N) (r : Fin 1024) : Fin 8192 := ⟨t.val / 4 * 1024 + r.val, by have := lt_32 t; omega⟩
abbrev par (t : Fin cfg0.N) : Fin 4 := ⟨t.val % 4, by omega⟩

/-! ## Blocks -/

theorem blk_x (c : Dev nD) (t : Fin cfg0.N) (r k : Fin 1024) :
    iblk m c 0 t (ix2 r k) = argX m c (ix2 (row t r) k) := by
  show _ = V m c main_arg0 _
  blk_ext [iblk, V, idx t]

theorem rd_1 (W : S4x768x1024.Idx → EReal) (t : Fin cfg0.N) (q : Fin 768) (k : Fin 1024) :
    ((cfg0.win 1).blk t).view.read (Elt Ideal) W (ix3 0 q k) = W (ix3 (par t) q k) := by
  blk_ext [idx t]

theorem blk_g (c : Dev nD) (t : Fin cfg0.N) (q : Fin 768) (k : Fin 1024) :
    iblk m c 1 t (ix3 0 q k) = padded (fun n => argG m c (ix2 k n)) (pos (par t) q) := by
  unfold iblk
  exact (rd_1 (V m c main_v4) t q k).trans (V_g m c (par t) q k)

theorem rd_2 (W : S4x768x1024.Idx → EReal) (t : Fin cfg0.N) (q : Fin 768) (k : Fin 1024) :
    ((cfg0.win 2).blk t).view.read (Elt Ideal) W (ix3 0 q k) = W (ix3 (par t) q k) := by
  blk_ext [idx t]

theorem blk_u (c : Dev nD) (t : Fin cfg0.N) (q : Fin 768) (k : Fin 1024) :
    iblk m c 2 t (ix3 0 q k) = padded (fun n => argU m c (ix2 k n)) (pos (par t) q) := by
  unfold iblk
  exact (rd_2 (V m c main_v9) t q k).trans (V_u m c (par t) q k)

theorem rd_3 (W : S4x768x1024.Idx → EReal) (t : Fin cfg0.N) (q : Fin 768) (k : Fin 1024) :
    ((cfg0.win 3).blk t).view.read (Elt Ideal) W (ix3 0 q k) = W (ix3 (par t) q k) := by
  blk_ext [idx t]

theorem blk_d (c : Dev nD) (t : Fin cfg0.N) (q : Fin 768) (k : Fin 1024) :
    iblk m c 3 t (ix3 0 q k) = padded (fun n => argD m c (ix2 n k)) (pos (par t) q) := by
  unfold iblk
  exact (rd_3 (V m c main_v13) t q k).trans (V_d m c (par t) q k)

theorem blk_s (c : Dev nD) (t : Fin cfg0.N) (k : Fin 1024) : iblk m c 4 t (ix2 0 k) = argS m c (ix1 k) := by
  refine Eq.trans ?_ (V_s m c k)
  blk_ext [iblk, idx t]

theorem blk_b (c : Dev nD) (t : Fin cfg0.N) (k : Fin 1024) : iblk m c 5 t (ix2 0 k) = argB m c (ix1 k) := by
  refine Eq.trans ?_ (V_b m c k)
  blk_ext [iblk, idx t]

/-! ## One point -/

/-- A product with a block of transposed weights. -/
def prod (X : Vec Ideal S1024x1024 .bf16) (W : Vec Ideal S1x768x1024 .bf16) (r : Fin 1024) (q : Fin 768) : EReal :=
  ∑ k : Fin 1024, X (ix2 r k) * W (ix3 0 q k)

/-- One block's share of the layer. -/
def partOf (X : Vec Ideal S1024x1024 .bf16) (G U D : Vec Ideal S1x768x1024 .bf16) (y : S1024x1024.Idx) : EReal :=
  ∑ q : Fin 768, act (prod X G (y 0) q) (prod X U (y 0) q) * D (ix3 0 q (y 1))

theorem pay5_apply (X : Vec Ideal S1024x1024 .f32) (y : S1024x1024.Idx) : k0_pay5 X y = X y := by
  pointwise [k0_pay5]

theorem pay6_apply (X : Vec Ideal S1024x1024 .bf16) (W : Vec Ideal S1x768x1024 .bf16) (y : S1024x768.Idx) :
    k0_pay6 X W y = prod X W (y 0) (y 1) := by
  pointwise [k0_pay6, prod]

theorem pay8_apply (X : Vec Ideal S1024x1024 .bf16) (W : Vec Ideal S1x768x1024 .bf16) (y : S1024x768.Idx) :
    k0_pay8 X W y = prod X W (y 0) (y 1) := by
  pointwise [k0_pay8, k0_pay6, prod]

theorem pay9_apply (X : Vec Ideal S1024x1024 .bf16) (W : Vec Ideal S1x768x1024 .bf16) (y : S1024x768.Idx) :
    k0_pay9 X W y = prod X W (y 0) (y 1) := by
  pointwise [k0_pay9, k0_pay7, prod]

theorem pay10_apply (X X' : Vec Ideal S1024x1024 .bf16) (G U D : Vec Ideal S1x768x1024 .bf16) (h : X' = X) (y : S1024x1024.Idx) :
    k0_pay10 X G X' U D y = partOf X G U D y := by
  subst h
  pointwise [k0_pay10, k0_pay6, k0_pay7, partOf, prod, act]
  refine Finset.sum_congr rfl fun q _ => ?_
  rw [show Ideal.ofBits FTy.f32 1056964608#32 = half from rfl, half_tanh]

theorem pay3_apply (X A : Vec Ideal S1024x1024 .f32) (y : S1024x1024.Idx) :
    k0_pay3 X A y = alpha * X y + half * A y := by
  pointwise [k0_pay3]

theorem pay4_apply (X A : Vec Ideal S1024x1024 .f32) (G B : Vec Ideal S1x1024 .f32) (r e : Fin 1024) :
    k0_pay4 X A G B (ix2 r e)
      = FfnMath.norm (fun j => alpha * X (ix2 r j) + half * A (ix2 r j)) (fun j => G (ix2 0 j)) (fun j => B (ix2 0 j)) e := by
  pointwise [k0_pay4, k0_pay3]
  simp only [FfnMath.norm, FfnMath.var, FfnMath.mean]

/-- The scratch that holds the row block of the input, after point `t`. -/
abbrev xs (c : Dev nD) (t : Fin cfg0.N) : Vec Ideal S1024x1024 .bf16 := (outsAt0 m c t.val t.isLt).2.2.2.2.1

theorem x_A (c : Dev nD) (t : Fin cfg0.N) (h : t.val % 4 = 0) (y : S1024x1024.Idx) : xs m c t y = iblk m c 0 t y := by
  rw [xs, outsAt0_A m c t h h (by omega) (by omega)]
  frame_out
  exact pay5_apply _ y

theorem x_B (c : Dev nD) (t : Fin cfg0.N) (h : ¬t.val % 4 = 0) :
    xs m c t = (outsAt0 m c (t.val - 1) (by omega)).2.2.2.2.1 := by
  rcases Classical.em (t.val % 4 = 3) with h3 | h3
  · rw [xs, outsAt0_C m c t h h (by omega) h3]
    rfl
  · rw [xs, outsAt0_B m c t h h (by omega) h3]
    rfl

theorem x_eq (c : Dev nD) : ∀ (n : ℕ) (hn : n < cfg0.N) (r k : Fin 1024),
    xs m c ⟨n, hn⟩ (ix2 r k) = argX m c (ix2 (row ⟨n, hn⟩ r) k) := by
  intro n
  induction n with
  | zero => exact fun hn r k => (x_A m c ⟨0, hn⟩ rfl _).trans (blk_x m c ⟨0, hn⟩ r k)
  | succ n ih =>
    intro hn r k
    rcases Classical.em ((n + 1) % 4 = 0) with h | h
    · exact (x_A m c ⟨n + 1, hn⟩ h _).trans (blk_x m c ⟨n + 1, hn⟩ r k)
    · rw [x_B m c ⟨n + 1, hn⟩ h]
      refine (ih (by omega) r k).trans ?_
      have hd : n / 4 = (n + 1) / 4 := by omega
      simp only [row, hd]

theorem x_row (c : Dev nD) (t : Fin cfg0.N) (r k : Fin 1024) : xs m c t (ix2 r k) = argX m c (ix2 (row t r) k) :=
  x_eq m c t.val t.isLt r k

/-- The share of point `t` in its row block. -/
abbrev part (c : Dev nD) (t : Fin cfg0.N) : S1024x1024.Idx → EReal :=
  partOf (xs m c t) (iblk m c 1 t) (iblk m c 2 t) (iblk m c 3 t)

theorem pay1_apply (A : FVec Ideal S1024x1024 .f32) (y : S1024x1024.Idx) : k0_pay1 A y = 0 + A y := by
  pointwise [k0_pay1]

theorem pay2_apply (N A : FVec Ideal S1024x1024 .f32) (y : S1024x1024.Idx) : k0_pay2 N A y = A y + N y := by
  pointwise [k0_pay2]

theorem sc_A (c : Dev nD) (t : Fin cfg0.N) (h : t.val % 4 = 0) (y : S1024x1024.Idx) :
    (outsAt0 m c t.val t.isLt).2.2.2.2.2 y = 0 + part m c t y := by
  rw [part, xs, outsAt0_A m c t h h (by omega) (by omega)]
  frame_out
  exact (pay1_apply _ y).trans (congrArg (fun a : EReal => 0 + a) (pay10_apply _ _ _ _ _ rfl y))

theorem sc_B (c : Dev nD) (t : Fin cfg0.N) (h : ¬t.val % 4 = 0) (y : S1024x1024.Idx) :
    (outsAt0 m c t.val t.isLt).2.2.2.2.2 y = (outsAt0 m c (t.val - 1) (by omega)).2.2.2.2.2 y + part m c t y := by
  rw [part, x_B m c t h]
  rcases Classical.em (t.val % 4 = 3) with h3 | h3
  · rw [outsAt0_C m c t h h (by omega) h3]
    frame_out
    rw [read_unread_whole, read_unread_whole]
    exact (pay2_apply _ _ y).trans (congrArg (fun a : EReal => _ + a) (pay10_apply _ _ _ _ _ rfl y))
  · rw [outsAt0_B m c t h h (by omega) h3]
    frame_out
    rw [read_unread_whole, read_unread_whole]
    exact (pay2_apply _ _ y).trans (congrArg (fun a : EReal => _ + a) (pay10_apply _ _ _ _ _ rfl y))

theorem a_out (c : Dev nD) (t : Fin cfg0.N) (y : S1024x768.Idx) :
    (outsAt0 m c t.val t.isLt).2.2.1 y = prod (xs m c t) (iblk m c 1 t) (y 0) (y 1) := by
  rcases Classical.em (t.val % 4 = 0) with h | h
  · rw [xs, outsAt0_A m c t h h (by omega) (by omega)]
    frame_out
    exact pay8_apply _ _ y
  · rw [x_B m c t h]
    rcases Classical.em (t.val % 4 = 3) with h3 | h3
    · rw [outsAt0_C m c t h h (by omega) h3]
      frame_out
      rw [read_unread_whole]
      exact pay8_apply _ _ y
    · rw [outsAt0_B m c t h h (by omega) h3]
      frame_out
      rw [read_unread_whole]
      exact pay8_apply _ _ y

theorem b_out (c : Dev nD) (t : Fin cfg0.N) (y : S1024x768.Idx) :
    (outsAt0 m c t.val t.isLt).2.2.2.1 y = prod (xs m c t) (iblk m c 2 t) (y 0) (y 1) := by
  rcases Classical.em (t.val % 4 = 0) with h | h
  · rw [xs, outsAt0_A m c t h h (by omega) (by omega)]
    frame_out
    exact pay9_apply _ _ y
  · rw [x_B m c t h]
    rcases Classical.em (t.val % 4 = 3) with h3 | h3
    · rw [outsAt0_C m c t h h (by omega) h3]
      frame_out
      rw [read_unread_whole]
      exact pay9_apply _ _ y
    · rw [outsAt0_B m c t h h (by omega) h3]
      frame_out
      rw [read_unread_whole]
      exact pay9_apply _ _ y

theorem u_out (c : Dev nD) (t : Fin cfg0.N) (h3 : t.val % 4 = 3) (y : S1024x1024.Idx) :
    (outsAt0 m c t.val t.isLt).1 y = k0_pay3 (iblk m c 0 t) (outsAt0 m c t.val t.isLt).2.2.2.2.2 y := by
  rw [outsAt0_C m c t (by omega) (by omega) (by omega) h3]
  frame_out

theorem y_out (c : Dev nD) (t : Fin cfg0.N) (h3 : t.val % 4 = 3) (y : S1024x1024.Idx) :
    (outsAt0 m c t.val t.isLt).2.1 y
      = k0_pay4 (iblk m c 0 t) (outsAt0 m c t.val t.isLt).2.2.2.2.2 (iblk m c 4 t) (iblk m c 5 t) y := by
  rw [outsAt0_C m c t (by omega) (by omega) (by omega) h3]
  frame_out

end Cert.FfnIdeal.Blocks

end
-- ==== Proof.FfnArray.lean ====
/- What the feed-forward layer's four result arrays hold after the grid. -/
module

public import proofs.«01_k».proof.Defs
public import proofs.«01_k».proof.Proof.Gen.FfnIdeal.Value
public import proofs.«01_k».proof.Proof.FfnBlock
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnIdeal.Blocks

open Cert.FfnIdeal Cert.FfnIdeal.Gen Cert.FfnMath Idealize.ShloMosaic Idealize.ShloMosaic.TcCoe Idealize.SL.Sem

variable (m : (ℓ : Loc nD τ sig) → Buf (Elt Ideal) ℓ)

/-- A row of the input against a column of a weight. -/
def hid (X : S8192x1024.Idx → EReal) (W : S1024x2816.Idx → EReal) (i : Fin 8192) (n : Fin 2816) : EReal :=
  ∑ k : Fin 1024, X (ix2 i k) * W (ix2 k n)

/-- One of the two hidden products, its columns padded group by group. -/
def hidden (X : S8192x1024.Idx → EReal) (W : S1024x2816.Idx → EReal) : S8192x3072.Idx → EReal := fun i =>
  padded (fun n => hid X W (i 0) n) (i 1)

/-- The layer before its norm. -/
def layer (X : S8192x1024.Idx → EReal) (G U : S1024x2816.Idx → EReal) (D : S2816x1024.Idx → EReal) :
    S8192x1024.Idx → EReal := fun i =>
  alpha * X i + half * ∑ n : Fin 2816, act (hid X G (i 0) n) (hid X U (i 0) n) * D (ix2 n (i 1))

/-- The layer. -/
def normed (X : S8192x1024.Idx → EReal) (G U : S1024x2816.Idx → EReal) (D : S2816x1024.Idx → EReal)
    (S B : S1024.Idx → EReal) : S8192x1024.Idx → EReal := fun i =>
  FfnMath.norm (fun j => layer X G U D (ix2 (i 0) j)) (fun j => S (ix1 j)) (fun j => B (ix1 j)) (i 1)

theorem prod_g (c : Dev nD) (t : Fin cfg0.N) (r : Fin 1024) (q : Fin 768) :
    prod (xs m c t) (iblk m c 1 t) r q = padded (fun n => hid (argX m c) (argG m c) (row t r) n) (pos (par t) q) := by
  refine Eq.trans (Finset.sum_congr rfl fun k _ => congrArg₂ (fun a b : EReal => a * b) (x_row m c t r k) (blk_g m c t q k)) ?_
  exact sum_mul_padded (fun k => argX m c (ix2 (row t r) k)) (fun k n => argG m c (ix2 k n)) (pos (par t) q)

theorem prod_u (c : Dev nD) (t : Fin cfg0.N) (r : Fin 1024) (q : Fin 768) :
    prod (xs m c t) (iblk m c 2 t) r q = padded (fun n => hid (argX m c) (argU m c) (row t r) n) (pos (par t) q) := by
  refine Eq.trans (Finset.sum_congr rfl fun k _ => congrArg₂ (fun a b : EReal => a * b) (x_row m c t r k) (blk_u m c t q k)) ?_
  exact sum_mul_padded (fun k => argX m c (ix2 (row t r) k)) (fun k n => argU m c (ix2 k n)) (pos (par t) q)

theorem part_eq (c : Dev nD) (t : Fin cfg0.N) (r e : Fin 1024) :
    part m c t (ix2 r e) = ∑ q : Fin 768, padded (fun n => act (hid (argX m c) (argG m c) (row t r) n)
      (hid (argX m c) (argU m c) (row t r) n) * argD m c (ix2 n e)) (pos (par t) q) := by
  refine Finset.sum_congr rfl fun q _ => ?_
  refine (congrArg₂ (fun a b : EReal => a * b) (congrArg₂ act (prod_g m c t r q) (prod_u m c t r q)) (blk_d m c t q e)).trans ?_
  exact act_padded _ _ _ _

/-- The accumulator at a row block's last point. -/
theorem acc_last (c : Dev nD) (t : Fin cfg0.N) (h3 : t.val % 4 = 3) (r e : Fin 1024) :
    (outsAt0 m c t.val t.isLt).2.2.2.2.2 (ix2 r e) = ∑ n : Fin 2816, act (hid (argX m c) (argG m c) (row t r) n)
      (hid (argX m c) (argU m c) (row t r) n) * argD m c (ix2 n e) := by
  rw [Pipeline.eq_sum_fin_of_reset_step_apply_of_flush (fun n h => (outsAt0 m c n h).2.2.2.2.2) 4 (fun _ => 0)
      (fun t => part m c t) (fun t h j => sc_A m c t h j) (fun t h j => sc_B m c t h j) t h3 _, zero_add,
    ← sum_blocks (fun n => act (hid (argX m c) (argG m c) (row t r) n) (hid (argX m c) (argU m c) (row t r) n)
      * argD m c (ix2 n e))]
  refine Finset.sum_congr rfl fun s _ => ?_
  refine (part_eq m c _ r e).trans ?_
  have hs : (4 * (t.val / 4) + s.val) / 4 = t.val / 4 := by omega
  have hm : (4 * (t.val / 4) + s.val) % 4 = s.val := by omega
  simp only [row, par, hs, hm]

theorem u_last (c : Dev nD) (t : Fin cfg0.N) (h3 : t.val % 4 = 3) (r e : Fin 1024) :
    alpha * iblk m c 0 t (ix2 r e) + half * (outsAt0 m c t.val t.isLt).2.2.2.2.2 (ix2 r e)
      = layer (argX m c) (argG m c) (argU m c) (argD m c) (ix2 (row t r) e) :=
  congrArg₂ (fun a b : EReal => alpha * a + half * b) (blk_x m c t r e) (acc_last m c t h3 r e)

theorem final6 (c : Dev nD) : (dats m 0 c).arrAt 6 cfg0.N = layer (argX m c) (argG m c) (argU m c) (argD m c) := by
  refine (dats m 0 c).arrAt_eq_of_covers 6 _ (by decide +kernel) fun t hf y => ?_
  blk_simp
  rw [after0_6]
  obtain ⟨r, e, rfl⟩ : ∃ (r : Fin 1024) (e : Fin 1024), y = ix2 r e := ⟨y 0, y 1, by funext a; fin_cases a <;> rfl⟩
  have hi : ((cfg0.win 6).blk t).view.emb (ix2 r e) = ix2 (row t r) e := by
    blk_ext [idx t]
  have h3 := (flush0_6 t).mp hf
  rw [hi, u_out m c t h3]
  exact (pay3_apply _ _ _).trans (u_last m c t h3 r e)

theorem final7 (c : Dev nD) : (dats m 0 c).arrAt 7 cfg0.N = normed (argX m c) (argG m c) (argU m c) (argD m c) (argS m c) (argB m c) := by
  refine (dats m 0 c).arrAt_eq_of_covers 7 _ (by decide +kernel) fun t hf y => ?_
  blk_simp
  rw [after0_7]
  obtain ⟨r, e, rfl⟩ : ∃ (r : Fin 1024) (e : Fin 1024), y = ix2 r e := ⟨y 0, y 1, by funext a; fin_cases a <;> rfl⟩
  have hi : ((cfg0.win 7).blk t).view.emb (ix2 r e) = ix2 (row t r) e := by
    blk_ext [idx t]
  have h3 := (flush0_7 t).mp hf
  rw [hi, y_out m c t h3]
  refine (pay4_apply _ _ _ _ r e).trans ?_
  show _ = FfnMath.norm (fun j => layer (argX m c) (argG m c) (argU m c) (argD m c) (ix2 (row t r) j)) (fun j => argS m c (ix1 j)) (fun j => argB m c (ix1 j)) e
  rw [← funext fun j => u_last m c t h3 r j, ← funext fun j => blk_s m c t j, ← funext fun j => blk_b m c t j]

theorem final8 (c : Dev nD) : (dats m 0 c).arrAt 8 cfg0.N = hidden (argX m c) (argG m c) := by
  refine (dats m 0 c).arrAt_eq_of_covers 8 _ (by decide +kernel) fun t hf y => ?_
  blk_simp
  rw [after0_8]
  obtain ⟨r, e, rfl⟩ : ∃ (r : Fin 1024) (e : Fin 768), y = ix2 r e := ⟨y 0, y 1, by funext a; fin_cases a <;> rfl⟩
  have hi : ((cfg0.win 8).blk t).view.emb (ix2 r e) = ix2 (row t r) (pos (par t) e) := by
    blk_ext [idx t]
  rw [hi, a_out m c t]
  exact prod_g m c t r e

theorem final9 (c : Dev nD) : (dats m 0 c).arrAt 9 cfg0.N = hidden (argX m c) (argU m c) := by
  refine (dats m 0 c).arrAt_eq_of_covers 9 _ (by decide +kernel) fun t hf y => ?_
  blk_simp
  rw [after0_9]
  obtain ⟨r, e, rfl⟩ : ∃ (r : Fin 1024) (e : Fin 768), y = ix2 r e := ⟨y 0, y 1, by funext a; fin_cases a <;> rfl⟩
  have hi : ((cfg0.win 9).blk t).view.emb (ix2 r e) = ix2 (row t r) (pos (par t) e) := by
    blk_ext [idx t]
  rw [hi, b_out m c t]
  exact prod_u m c t r e

end Cert.FfnIdeal.Blocks

end
-- ==== Proof.FfnClaim.lean ====
/- The feed-forward layer, before and after its norm, and its two hidden products equal the reference's. -/
module

public import proofs.«01_k».proof.Proof.FfnArray
public import proofs.«01_k».proof.Proof.Gen.Ffn.Frame
public import proofs.«01_k».proof.Proof.Gen.FfnRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.FfnMath Cert.FfnIdeal.Blocks

theorem quiescent_FfnRef : Cert.quiescent_FfnRefIdeal := fun m ρ _ =>
  (θ_run Cert.FfnRefIdeal.defs _ _).mono
    (fun r h => ⟨fun c => (h c).2.2.2.2, sem_eq_zero_of_no_sems (by decide) r.2⟩)
    (Cert.FfnRefIdeal.Value.run (F := Ideal) m ρ)

theorem pad_zero32 : (FloatOps.sitofp FTy.f32 0#32 : Ideal .f32) = 0 := by
  simp [FloatOps.sitofp]

theorem algebraic_Ffn : Cert.algebraic_FfnIdeal_FfnRefIdeal := by
  intro m ρ m' ρ' _ hagree
  refine ⟨fun c => layer (argX m c) (argG m c) (argU m c) (argD m c),
    fun c => normed (argX m c) (argG m c) (argU m c) (argD m c) (argS m c) (argB m c),
    fun c => hidden (argX m c) (argG m c), fun c => hidden (argX m c) (argU m c), ?_, ?_⟩
  · refine (θ_run _ _ _).mono (fun r h c => ?_) (Cert.FfnIdeal.Value.run_blocks (F := Ideal) m ρ)
    obtain ⟨h6, h7, h8, h9, hk⟩ := h c
    exact ⟨h6.trans (final6 m c), h7.trans (final7 m c), h8.trans (final8 m c), h9.trans (final9 m c), hk⟩
  · refine (θ_run _ _ _).mono (fun r h c => ?_) (Cert.FfnRefIdeal.Value.run (F := Ideal) m' ρ')
    obtain ⟨h6, h7, h8, h9, hk⟩ := h c
    refine ⟨h6.trans ?_, h7.trans ?_, h8.trans ?_, h9.trans ?_, hk⟩ <;> clear h h6 h7 h8 h9 hk
    · simp only [hagree c]
      funext i
      obtain ⟨r, e, rfl⟩ : ∃ (r : Fin 8192) (e : Fin 1024), i = ix2 r e := ⟨i 0, i 1, by funext a; fin_cases a <;> rfl⟩
      pointwise [layer, hid, act, Ideal.logistic]
    · unfold Cert.FfnRefIdeal.Value.res_main_v33
      simp only [hagree c]
      funext i
      obtain ⟨r, e, rfl⟩ : ∃ (r : Fin 8192) (e : Fin 1024), i = ix2 r e := ⟨i 0, i 1, by funext a; fin_cases a <;> rfl⟩
      pointwise [normed, FfnMath.norm, FfnMath.var, FfnMath.mean, layer, hid, act, Ideal.logistic]
    · simp only [hagree c]
      funext i
      obtain ⟨r, e, rfl⟩ : ∃ (r : Fin 8192) (e : Fin 3072), i = ix2 r e := ⟨i 0, i 1, by funext a; fin_cases a <;> rfl⟩
      pointwise []
      split
      · rename_i hl
        exact (dif_pos (c := e.val % 384 < 352) (t := fun _ => hid (argX m c) (argG m c) r ⟨e.val / 384 * 352 + e.val % 384, by omega⟩)
          (e := fun _ => 0) hl.2).symm
      · rename_i hl
        exact pad_zero32.trans (dif_neg (c := e.val % 384 < 352) (t := fun _ => hid (argX m c) (argG m c) r ⟨e.val / 384 * 352 + e.val % 384, by omega⟩)
          (e := fun _ => 0) (by omega)).symm
    · simp only [hagree c]
      funext i
      obtain ⟨r, e, rfl⟩ : ∃ (r : Fin 8192) (e : Fin 3072), i = ix2 r e := ⟨i 0, i 1, by funext a; fin_cases a <;> rfl⟩
      pointwise []
      split
      · rename_i hl
        exact (dif_pos (c := e.val % 384 < 352) (t := fun _ => hid (argX m c) (argU m c) r ⟨e.val / 384 * 352 + e.val % 384, by omega⟩)
          (e := fun _ => 0) hl.2).symm
      · rename_i hl
        exact pad_zero32.trans (dif_neg (c := e.val % 384 < 352) (t := fun _ => hid (argX m c) (argU m c) r ⟨e.val / 384 * 352 + e.val % 384, by omega⟩)
          (e := fun _ => 0) (by omega)).symm

end Cert.Proof

end
-- ==== Proof.ProjWBlock.lean ====
/- The projection's weight gradient: what the scratch and the output block hold after a point, and the whole result. -/
module

public import proofs.«01_k».proof.Defs
public import proofs.«01_k».proof.Proof.Gen.ProjWIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ProjWIdeal.Blocks

open Cert.ProjWIdeal Cert.ProjWIdeal.Gen Idealize.ShloMosaic Idealize.ShloMosaic.TcCoe Idealize.SL.Sem

variable (m : (ℓ : Loc nD τ sig) → Buf (Elt Ideal) ℓ)

/-- The projection's input and its output's cotangent. -/
abbrev argX (c : Dev nD) : S8192x1024.Idx → EReal := m ((c : Thread nD τ).loc main_arg0)
abbrev argD (c : Dev nD) : S8192x3584.Idx → EReal := m ((c : Thread nD τ).loc main_arg1)

/-- Every window's block at every point: the column block is `t / 8`, the block of summed rows `t % 8`. -/
theorem idx : ∀ t : Fin cfg0.N, win0_0.index t = ![t.val % 8, 0] ∧ win0_1.index t = ![t.val % 8, t.val / 8] ∧
    win0_2.index t = ![0, t.val / 8] :=
  (by decide +kernel : ∀ t : Fin grid0.N, _)

theorem lt_16 (t : Fin cfg0.N) : t.val < 16 := lt_of_lt_of_eq t.isLt (show cfg0.N = 16 from N_0)

abbrev row (t : Fin cfg0.N) (k : Fin 1024) : Fin 8192 := ⟨t.val % 8 * 1024 + k.val, by omega⟩
abbrev col (t : Fin cfg0.N) (e : Fin 1792) : Fin 3584 := ⟨t.val / 8 * 1792 + e.val, by have := lt_16 t; omega⟩

theorem V_d (c : Dev nD) : V m c main_v0 = argD m c := by
  unfold V
  after_results
  rfl

theorem blk_x (c : Dev nD) (t : Fin cfg0.N) (k : Fin 1024) (r : Fin 1024) :
    iblk m c 0 t (ix2 k r) = argX m c (ix2 (row t k) r) := by
  show _ = V m c main_arg0 _
  blk_ext [iblk, V, idx t]

theorem blk_d (c : Dev nD) (t : Fin cfg0.N) (k : Fin 1024) (e : Fin 1792) :
    iblk m c 1 t (ix2 k e) = argD m c (ix2 (row t k) (col t e)) := by
  rw [← V_d]
  blk_ext [iblk, idx t]

/-- The share of a product that the rows of one point contribute. -/
def partOf (X : Vec Ideal S1024x1024 .f32) (D : Vec Ideal S1024x1792 .bf16) (y : S1024x1792.Idx) : EReal :=
  ∑ k : Fin 1024, X (ix2 k (y 0)) * D (ix2 k (y 1))

theorem pay2_apply (X : Vec Ideal S1024x1024 .f32) (D : Vec Ideal S1024x1792 .bf16) (y : S1024x1792.Idx) :
    k0_pay2 X D y = 0 + partOf X D y := by
  pointwise [k0_pay2, k0_pay1]
  simp only [partOf]

theorem pay3_apply (X : Vec Ideal S1024x1024 .f32) (D : Vec Ideal S1024x1792 .bf16) (A : Vec Ideal S1024x1792 .f32)
    (y : S1024x1792.Idx) : k0_pay3 X D A y = A y + partOf X D y := by
  pointwise [k0_pay3, k0_pay1]
  simp only [partOf]

theorem sc_A (c : Dev nD) (t : Fin cfg0.N) (h : t.val % 8 = 0) (y : S1024x1792.Idx) :
    (outsAt0 m c t.val t.isLt).2 y = 0 + partOf (iblk m c 0 t) (iblk m c 1 t) y := by
  rw [outsAt0_A m c t h (by omega) (by omega)]
  frame_out
  exact pay2_apply _ _ y

theorem sc_B (c : Dev nD) (t : Fin cfg0.N) (h : ¬t.val % 8 = 0) (y : S1024x1792.Idx) :
    (outsAt0 m c t.val t.isLt).2 y = (outsAt0 m c (t.val - 1) (by omega)).2 y + partOf (iblk m c 0 t) (iblk m c 1 t) y := by
  rcases Classical.em (t.val % 8 = 7) with h7 | h7
  · rw [outsAt0_C m c t h (by omega) h7]
    frame_out
    rw [pay3_apply, read_unread_whole]
  · rw [outsAt0_B m c t h (by omega) h7]
    frame_out
    rw [pay3_apply, read_unread_whole]

theorem out_C (c : Dev nD) (t : Fin cfg0.N) (h : t.val % 8 = 7) (y : S1024x1792.Idx) :
    (outsAt0 m c t.val t.isLt).1 y = (outsAt0 m c t.val t.isLt).2 y := by
  rw [outsAt0_C m c t (by omega) (by omega) h]
  frame_out
  pointwise [k0_pay4]

/-- The gradient of the projection's weight, entry by entry. -/
def gradW (X : S8192x1024.Idx → EReal) (D : S8192x3584.Idx → EReal) : S1024x3584.Idx → EReal := fun i =>
  ∑ k : Fin 8192, X (ix2 k (i 0)) * D (ix2 k (i 1))

theorem flush_last : ∀ t : Fin cfg0.N, (cfg0.win 2).flush t = true → t.val % 8 = 7 :=
  (by decide +kernel : ∀ t : Fin grid0.N, _)

theorem final2 (c : Dev nD) : (dats m 0 c).arrAt 2 cfg0.N = gradW (argX m c) (argD m c) := by
  refine (dats m 0 c).arrAt_eq_of_covers 2 _ (by decide +kernel) fun t hf y => ?_
  blk_simp
  rw [after0_2]
  obtain ⟨r, e, rfl⟩ : ∃ (r : Fin 1024) (e : Fin 1792), y = ix2 r e := ⟨y 0, y 1, by funext a; fin_cases a <;> rfl⟩
  have hi : ((cfg0.win 2).blk t).view.emb (ix2 r e) = ix2 r (col t e) := by
    blk_ext [idx t]
  rw [hi, out_C m c t (flush_last t hf),
    Pipeline.eq_sum_fin_of_reset_step_apply_of_flush (fun n h => (outsAt0 m c n h).2) 8 (fun _ => 0)
      (fun t => partOf (iblk m c 0 t) (iblk m c 1 t)) (fun t h j => sc_A m c t h j) (fun t h j => sc_B m c t h j) t
      ((flush0_2 t).mp hf) _, zero_add]
  show _ = ∑ k : Fin 8192, argX m c (ix2 k r) * argD m c (ix2 k (col t e))
  refine Fin.sum_mul_add_congr (S := 8) (n := 1024) (fun s k hl => ?_)
  refine (congrArg₂ (fun a b : EReal => a * b) (blk_x m c _ k r) (blk_d m c _ k e)).trans ?_
  have hs : (8 * (t.val / 8) + s.val) / 8 = t.val / 8 := by omega
  have hm : (8 * (t.val / 8) + s.val) % 8 = s.val := by omega
  simp only [row, col, hs, hm]

end Cert.ProjWIdeal.Blocks

end
-- ==== Proof.ProjWClaim.lean ====
/- The projection's weight gradient equals the reference's. -/
module

public import proofs.«01_k».proof.Proof.ProjWBlock
public import proofs.«01_k».proof.Proof.Gen.ProjW.Frame
public import proofs.«01_k».proof.Proof.Gen.ProjWRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.ProjWIdeal.Blocks

theorem quiescent_ProjWRef : Cert.quiescent_ProjWRefIdeal := fun m ρ _ =>
  (θ_run Cert.ProjWRefIdeal.defs _ _).mono (fun r h => ⟨fun c => (h c).2, sem_eq_zero_of_no_sems (by decide) r.2⟩)
    (Cert.ProjWRefIdeal.Value.run (F := Ideal) m ρ)

theorem algebraic_ProjW : Cert.algebraic_ProjWIdeal_ProjWRefIdeal := by
  intro m ρ m' ρ' _ hagree
  refine ⟨_, (θ_run Cert.ProjWIdeal.defs _ _).mono (fun _ h c => ⟨((h c).1).trans (final2 m c), (h c).2⟩)
    (Cert.ProjWIdeal.Value.run_blocks (F := Ideal) m ρ), ?_⟩
  refine (θ_run Cert.ProjWRefIdeal.defs _ _).mono (fun _ h c => ⟨?_, (h c).2⟩) (Cert.ProjWRefIdeal.Value.run (F := Ideal) m' ρ')
  rw [(h c).1]
  simp only [hagree c]
  funext i
  obtain ⟨r, e, rfl⟩ : ∃ (r : Fin 1024) (e : Fin 3584), i = ix2 r e := ⟨i 0, i 1, by funext a; fin_cases a <;> rfl⟩
  pointwise [gradW]
  exact Finset.sum_congr rfl fun _ _ => mul_comm _ _

end Cert.Proof

end
-- ==== Proof.ProjXBlock.lean ====
/- The projection's input gradient: what the scratch and the output block hold after a point, and the whole result. -/
module

public import proofs.«01_k».proof.Defs
public import proofs.«01_k».proof.Proof.Gen.ProjXIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ProjXIdeal.Blocks

open Cert.ProjXIdeal Cert.ProjXIdeal.Gen Idealize.ShloMosaic Idealize.ShloMosaic.TcCoe Idealize.SL.Sem

variable (m : (ℓ : Loc nD τ sig) → Buf (Elt Ideal) ℓ)

abbrev argD (c : Dev nD) : S8192x3584.Idx → EReal := m ((c : Thread nD τ).loc main_arg0)
abbrev argW (c : Dev nD) : S1024x3584.Idx → EReal := m ((c : Thread nD τ).loc main_arg1)
abbrev argU (c : Dev nD) : S8192x1024.Idx → EReal := m ((c : Thread nD τ).loc main_arg2)

/-- Every window's block at every point: the row block is `t / 2`, the contraction block `t % 2`. -/
theorem idx : ∀ t : Fin cfg0.N, win0_0.index t = ![t.val / 2, t.val % 2] ∧ win0_1.index t = ![0, t.val % 2] ∧
    win0_2.index t = ![t.val / 2, 0] ∧ win0_3.index t = ![t.val / 2, 0] :=
  (by decide +kernel : ∀ t : Fin grid0.N, _)

theorem lt_16 (t : Fin cfg0.N) : t.val < 16 := lt_of_lt_of_eq t.isLt (show cfg0.N = 16 from N_0)

abbrev row (t : Fin cfg0.N) (r : Fin 1024) : Fin 8192 := ⟨t.val / 2 * 1024 + r.val, by have := lt_16 t; omega⟩
abbrev con (t : Fin cfg0.N) (k : Fin 1792) : Fin 3584 := ⟨t.val % 2 * 1792 + k.val, by omega⟩

theorem V_d (c : Dev nD) : V m c main_v0 = argD m c := by
  unfold V
  after_results
  rfl

theorem V_w (c : Dev nD) : V m c main_v1 = argW m c := by
  unfold V
  after_results
  rfl

theorem blk_d (c : Dev nD) (t : Fin cfg0.N) (r : Fin 1024) (k : Fin 1792) :
    iblk m c 0 t (ix2 r k) = argD m c (ix2 (row t r) (con t k)) := by
  rw [← V_d]
  blk_ext [iblk, idx t]

theorem blk_w (c : Dev nD) (t : Fin cfg0.N) (r : Fin 1024) (k : Fin 1792) :
    iblk m c 1 t (ix2 r k) = argW m c (ix2 r (con t k)) := by
  rw [← V_w]
  blk_ext [iblk, idx t]

theorem blk_u (c : Dev nD) (t : Fin cfg0.N) (r : Fin 1024) (k : Fin 1024) :
    iblk m c 2 t (ix2 r k) = argU m c (ix2 (row t r) k) := by
  show _ = V m c main_arg2 _
  blk_ext [iblk, V, idx t]

/-- One point's share of a product. -/
def partOf (D W : Vec Ideal S1024x1792 .bf16) (y : S1024x1024.Idx) : EReal :=
  ∑ k : Fin 1792, D (ix2 (y 0) k) * W (ix2 (y 1) k)

theorem pay2_apply (D W : Vec Ideal S1024x1792 .bf16) (y : S1024x1024.Idx) : k0_pay2 D W y = 0 + partOf D W y := by
  pointwise [k0_pay2, k0_pay1]
  simp only [partOf]

theorem pay3_apply (D W : Vec Ideal S1024x1792 .bf16) (A : Vec Ideal S1024x1024 .f32) (y : S1024x1024.Idx) :
    k0_pay3 D W A y = A y + partOf D W y := by
  pointwise [k0_pay3, k0_pay1]
  simp only [partOf]

theorem pay4_apply (A U : Vec Ideal S1024x1024 .f32) (y : S1024x1024.Idx) :
    k0_pay4 A U y = A y + Ideal.ofBits .f32 0x3F9837F0#32 * U y := by
  pointwise [k0_pay4]

theorem sc_A (c : Dev nD) (t : Fin cfg0.N) (h : t.val % 2 = 0) (y : S1024x1024.Idx) :
    (outsAt0 m c t.val t.isLt).2 y = 0 + partOf (iblk m c 0 t) (iblk m c 1 t) y := by
  rw [outsAt0_A m c t h (by omega) (by omega)]
  frame_out
  exact pay2_apply _ _ y

theorem sc_B (c : Dev nD) (t : Fin cfg0.N) (h : ¬t.val % 2 = 0) (y : S1024x1024.Idx) :
    (outsAt0 m c t.val t.isLt).2 y = (outsAt0 m c (t.val - 1) (by omega)).2 y + partOf (iblk m c 0 t) (iblk m c 1 t) y := by
  rw [outsAt0_B m c t h (by omega) (by omega)]
  frame_out
  rw [pay3_apply, read_unread_whole]

theorem out_B (c : Dev nD) (t : Fin cfg0.N) (h : ¬t.val % 2 = 0) (y : S1024x1024.Idx) :
    (outsAt0 m c t.val t.isLt).1 y = (outsAt0 m c t.val t.isLt).2 y + Ideal.ofBits .f32 0x3F9837F0#32 * iblk m c 2 t y := by
  rw [outsAt0_B m c t h (by omega) (by omega)]
  frame_out
  exact pay4_apply _ _ y

/-- The gradient of the projection's input, entry by entry. -/
def gradX (D : S8192x3584.Idx → EReal) (W : S1024x3584.Idx → EReal) (U : S8192x1024.Idx → EReal) : S8192x1024.Idx → EReal := fun i =>
  (∑ k : Fin 3584, D (ix2 (i 0) k) * W (ix2 (i 1) k)) + Ideal.ofBits .f32 0x3F9837F0#32 * U i

theorem flush_odd : ∀ t : Fin cfg0.N, (cfg0.win 3).flush t = true → ¬t.val % 2 = 0 :=
  (by decide +kernel : ∀ t : Fin grid0.N, _)

theorem final3 (c : Dev nD) : (dats m 0 c).arrAt 3 cfg0.N = gradX (argD m c) (argW m c) (argU m c) := by
  refine (dats m 0 c).arrAt_eq_of_covers 3 _ (by decide +kernel) fun t hf y => ?_
  blk_simp
  rw [after0_3]
  obtain ⟨r, e, rfl⟩ : ∃ (r : Fin 1024) (e : Fin 1024), y = ix2 r e := ⟨y 0, y 1, by funext a; fin_cases a <;> rfl⟩
  have hi : ((cfg0.win 3).blk t).view.emb (ix2 r e) = ix2 (row t r) e := by
    blk_ext [idx t]
  rw [hi, out_B m c t (flush_odd t hf),
    Pipeline.eq_sum_fin_of_reset_step_apply_of_flush (fun n h => (outsAt0 m c n h).2) 2 (fun _ => 0)
      (fun t => partOf (iblk m c 0 t) (iblk m c 1 t)) (fun t h j => sc_A m c t h j) (fun t h j => sc_B m c t h j) t
      ((flush0_3 t).mp hf) _, zero_add, blk_u]
  show _ = (∑ k : Fin 3584, argD m c (ix2 (row t r) k) * argW m c (ix2 e k)) + _
  refine congrArg (· + _) ?_
  refine Fin.sum_mul_add_congr (S := 2) (n := 1792) (fun s k hl => ?_)
  refine (congrArg₂ (fun a b : EReal => a * b) (blk_d m c _ r k) (blk_w m c _ e k)).trans ?_
  have hs : (2 * (t.val / 2) + s.val) / 2 = t.val / 2 := by omega
  have hm : (2 * (t.val / 2) + s.val) % 2 = s.val := by omega
  simp only [row, con, hs, hm]

end Cert.ProjXIdeal.Blocks

end
-- ==== Proof.ProjXClaim.lean ====
/- The projection's input gradient equals the reference's. -/
module

public import proofs.«01_k».proof.Proof.ProjXBlock
public import proofs.«01_k».proof.Proof.Gen.ProjX.Frame
public import proofs.«01_k».proof.Proof.Gen.ProjXRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.ProjXIdeal.Blocks

theorem quiescent_ProjXRef : Cert.quiescent_ProjXRefIdeal := fun m ρ _ =>
  (θ_run Cert.ProjXRefIdeal.defs _ _).mono (fun r h => ⟨fun c => (h c).2, sem_eq_zero_of_no_sems (by decide) r.2⟩)
    (Cert.ProjXRefIdeal.Value.run (F := Ideal) m ρ)

theorem algebraic_ProjX : Cert.algebraic_ProjXIdeal_ProjXRefIdeal := by
  intro m ρ m' ρ' _ hagree
  refine ⟨_, (θ_run Cert.ProjXIdeal.defs _ _).mono (fun _ h c => ⟨((h c).1).trans (final3 m c), (h c).2⟩)
    (Cert.ProjXIdeal.Value.run_blocks (F := Ideal) m ρ), ?_⟩
  refine (θ_run Cert.ProjXRefIdeal.defs _ _).mono (fun _ h c => ⟨?_, (h c).2⟩) (Cert.ProjXRefIdeal.Value.run (F := Ideal) m' ρ')
  rw [(h c).1]
  simp only [hagree c]
  funext i
  obtain ⟨r, e, rfl⟩ : ∃ (r : Fin 8192) (e : Fin 1024), i = ix2 r e := ⟨i 0, i 1, by funext a; fin_cases a <;> rfl⟩
  pointwise [gradX]

end Cert.Proof

end
-- ==== Proof.LnMath.lean ====
/- The gradient of a layer norm, along one row: the closed form and the chain rule agree on real rows. -/
module

public import proofs.«01_k».proof.Proof.FfnMath

@[expose] public section

noncomputable section

namespace Cert.LnMath

open Idealize.ShloMosaic Cert.FfnMath

/-- The number of columns, the norm's epsilon, two and minus one half, as the programs write them. -/
abbrev cols : EReal := Ideal.ofBits .f32 0x44800000#32
abbrev eps : EReal := Ideal.ofBits .f32 0x3727C5AC#32
abbrev two : EReal := Ideal.ofBits .f32 0x40000000#32
abbrev mhalf : EReal := Ideal.ofBits .f32 0xBF000000#32

theorem cols_eq : cols = ((1024 : ℝ) : EReal) := by
  simp [cols, Ideal.ofBits, Ideal.ieee, -EReal.coe_mul]
  norm_num

theorem two_eq : two = ((2 : ℝ) : EReal) := by
  simp [two, Ideal.ofBits, Ideal.ieee, -EReal.coe_mul]
  norm_num

theorem mhalf_eq : mhalf = (((-1 / 2 : ℝ)) : EReal) := by
  simp [mhalf, Ideal.ofBits, Ideal.ieee, -EReal.coe_mul]
  norm_num

theorem eps_eq : ∃ ε : ℝ, 0 < ε ∧ eps = (ε : EReal) := by
  refine ⟨10995116 * (1 / 1099511627776), by norm_num, ?_⟩
  simp [eps, Ideal.ofBits, Ideal.ieee, -EReal.coe_mul]
  norm_num

/-- The reciprocal deviation of a row, and the row normalized. -/
def rstd (u : Fin 1024 → EReal) : EReal := Ideal.rsqrt (var u + eps)
def xhat (u : Fin 1024 → EReal) (e : Fin 1024) : EReal := (u e - mean u) * rstd u

/-- The gradient of the row, in closed form: `d` is the cotangent times the norm's weight. -/
def closed (d u : Fin 1024 → EReal) (e : Fin 1024) : EReal :=
  rstd u * (d e - mean d - xhat u e * mean (fun j => d j * xhat u j))

/-- The cotangent of the row's variance. -/
def dvar (d u : Fin 1024 → EReal) : EReal :=
  Ideal.div ((∑ j, (u j - mean u) * d j) * (mhalf * Ideal.div (rstd u) (var u + eps))) cols

/-- The gradient of the row, by the chain rule. -/
def chain (d u : Fin 1024 → EReal) (e : Fin 1024) : EReal :=
  d e * rstd u + dvar d u * (two * (u e - mean u))
    + Ideal.div ((∑ j, -(d j * rstd u)) + ∑ j, -(dvar d u * (two * (u j - mean u)))) cols

/-! ## On real rows -/

theorem coe_sum (f : Fin 1024 → ℝ) : ∑ j, ((f j : ℝ) : EReal) = ((∑ j, f j : ℝ) : EReal) := by
  induction (Finset.univ : Finset (Fin 1024)) using Finset.cons_induction with
  | empty => simp
  | cons a s ha ih => rw [Finset.sum_cons, Finset.sum_cons, ih, EReal.coe_add]

theorem div_cols (x : ℝ) : Ideal.div (x : EReal) cols = ((x / 1024 : ℝ) : EReal) := by
  rw [cols_eq, Ideal.div_coe (by norm_num), ← EReal.coe_mul, mul_one_div]

def rmean (a : Fin 1024 → ℝ) : ℝ := (∑ j, a j) / 1024
def rvar (a : Fin 1024 → ℝ) : ℝ := (∑ j, (a j - rmean a) * (a j - rmean a)) / 1024

theorem mean_coe (a : Fin 1024 → ℝ) : mean (fun j => (a j : EReal)) = (rmean a : EReal) := by
  rw [mean, coe_sum, div_cols, rmean]

theorem var_coe (a : Fin 1024 → ℝ) : var (fun j => (a j : EReal)) = (rvar a : EReal) := by
  rw [var, mean_coe]
  simp only [← EReal.coe_sub, ← EReal.coe_mul]
  rw [coe_sum, div_cols, rvar]

theorem rvar_nonneg (a : Fin 1024 → ℝ) : 0 ≤ rvar a :=
  div_nonneg (Finset.sum_nonneg fun _ _ => mul_self_nonneg _) (by norm_num)

/-- On a real row the reciprocal deviation is a real, and its square is the variance's reciprocal. -/
theorem rstd_coe (a : Fin 1024 → ℝ) : ∃ s v : ℝ, 0 < v ∧ s * s = 1 / v ∧ rstd (fun j => (a j : EReal)) = (s : EReal)
    ∧ var (fun j => (a j : EReal)) + eps = (v : EReal) := by
  obtain ⟨ε, he, hε⟩ := eps_eq
  have hv : 0 < rvar a + ε := add_pos_of_nonneg_of_pos (rvar_nonneg a) he
  have hs : var (fun j => (a j : EReal)) + eps = ((rvar a + ε : ℝ) : EReal) := by
    rw [var_coe, hε, EReal.coe_add]
  refine ⟨(Real.sqrt (rvar a + ε))⁻¹, rvar a + ε, hv, ?_, ?_, hs⟩
  · rw [← mul_inv, Real.mul_self_sqrt hv.le, one_div]
  · rw [rstd, hs, Ideal.rsqrt_coe, if_neg (not_lt.mpr hv.le), if_neg hv.ne']

theorem sum_centred (a : Fin 1024 → ℝ) : ∑ j, (a j - rmean a) = 0 := by
  rw [Finset.sum_sub_distrib, Finset.sum_const, rmean, Finset.card_univ, Fintype.card_fin, nsmul_eq_mul]
  push_cast
  ring

/-- The identity behind the closed form. -/
theorem real_identity (d c : Fin 1024 → ℝ) (s v : ℝ) (hv : 0 < v) (hs : s * s = 1 / v) (hc : ∑ j, c j = 0) (e : Fin 1024) :
    s * (d e - (∑ j, d j) / 1024 - c e * s * ((∑ j, d j * (c j * s)) / 1024))
      = d e * s + (∑ j, c j * d j) * (-1 / 2 * (s * (1 / v))) / 1024 * (2 * c e)
        + ((∑ j, -(d j * s)) + ∑ j, -((∑ j, c j * d j) * (-1 / 2 * (s * (1 / v))) / 1024 * (2 * c j))) / 1024 := by
  have h1 : ∑ j, d j * (c j * s) = (∑ j, c j * d j) * s := by
    rw [Finset.sum_mul]
    exact Finset.sum_congr rfl fun j _ => by ring
  have h2 : ∑ j, -(d j * s) = -((∑ j, d j) * s) := by
    rw [Finset.sum_neg_distrib, Finset.sum_mul]
  have h3 : ∀ t : ℝ, ∑ j, -(t * (2 * c j)) = 0 := fun t => by
    rw [Finset.sum_neg_distrib, ← Finset.mul_sum, ← Finset.mul_sum, hc]
    ring
  rw [h1, h2, h3, ← hs]
  ring

theorem closed_eq_chain (d a : Fin 1024 → ℝ) (e : Fin 1024) :
    closed (fun j => (d j : EReal)) (fun j => (a j : EReal)) e = chain (fun j => (d j : EReal)) (fun j => (a j : EReal)) e := by
  obtain ⟨s, v, hv, hs, h1, h2⟩ := rstd_coe a
  simp only [closed, chain, dvar, xhat, h1, h2, mean_coe, two_eq, mhalf_eq, Ideal.div_coe hv.ne', ← EReal.coe_sub,
    ← EReal.coe_mul, ← EReal.coe_neg, coe_sum, div_cols, ← EReal.coe_add]
  exact congrArg _ (real_identity d (fun j => a j - rmean a) s v hv hs (sum_centred a) e)

/-- A value whose absolute value is less than infinity is a real. -/
theorem real_of_finite (x : EReal) (h : Ideal.cmp .olt (max x (-x)) (Ideal.ofBits .f32 0x7F800000#32) = 1#1) :
    ((x.toReal : ℝ) : EReal) = x := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  refine EReal.coe_toReal hlt.1.ne fun hb => ?_
  rw [hb] at hlt
  exact absurd hlt.2 (by simp)

theorem closed_eq_chain_of_real (d u : Fin 1024 → EReal) (hd : ∀ j, (((d j).toReal : ℝ) : EReal) = d j)
    (hu : ∀ j, (((u j).toReal : ℝ) : EReal) = u j) (e : Fin 1024) : closed d u e = chain d u e := by
  rw [← funext hd, ← funext hu]
  exact closed_eq_chain _ _ e

/-- Row `q * 8 + s` of a block. -/
abbrev sub (q : Fin 128) (s : Fin 8) : Fin 1024 := ⟨q.val * 8 + s.val, by omega⟩

theorem sum_rows (F : Fin 8192 → EReal) :
    ∑ s : Fin 8, ∑ t : Fin 8, ∑ q : Fin 128, F ⟨t.val * 1024 + (sub q s).val, by omega⟩ = ∑ i, F i := by
  rw [Finset.sum_comm]
  have h1 : ∑ t : Fin 8, ∑ r : Fin 1024, F ⟨t.val * 1024 + r.val, by omega⟩ = ∑ i, F i :=
    Fin.sum_mul_add_congr (S := 8) (n := 1024) fun _ _ _ => rfl
  rw [← h1]
  refine Finset.sum_congr rfl fun t _ => ?_
  rw [Finset.sum_comm]
  exact Fin.sum_mul_add_congr (S := 128) (n := 8) (f := fun r : Fin 1024 => F ⟨t.val * 1024 + r.val, by omega⟩) fun _ _ _ => rfl

end Cert.LnMath

end
-- ==== Proof.LnGradBlock.lean ====
/- What the norm's backward call leaves after a grid point. -/
module

public import proofs.«01_k».proof.Defs
public import proofs.«01_k».proof.Proof.Gen.LnGradIdeal.Value
public import proofs.«01_k».proof.Proof.LnMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.LnGradIdeal.Blocks

open Cert.LnGradIdeal Cert.LnGradIdeal.Gen Cert.FfnMath Cert.LnMath Idealize.ShloMosaic Idealize.ShloMosaic.TcCoe Idealize.SL.Sem

variable (m : (ℓ : Loc nD τ sig) → Buf (Elt Ideal) ℓ)

/-- The cotangent, the rows before the norm, the norm's weight, and the weight of the product before it. -/
abbrev argY (c : Dev nD) : S8192x1024.Idx → EReal := m ((c : Thread nD τ).loc main_arg0)
abbrev argU (c : Dev nD) : S8192x1024.Idx → EReal := m ((c : Thread nD τ).loc main_arg1)
abbrev argG (c : Dev nD) : S1024.Idx → EReal := m ((c : Thread nD τ).loc main_arg2)
abbrev argW (c : Dev nD) : S1024x1024.Idx → EReal := m ((c : Thread nD τ).loc main_arg4)

/-- Every window's block at every point. -/
theorem idx : ∀ t : Fin cfg0.N, win0_0.index t = ![t.val, 0] ∧ win0_1.index t = ![t.val, 0] ∧
    win0_2.index t = ![0, 0] ∧ win0_3.index t = ![0, 0] ∧ win0_4.index t = ![t.val, 0] ∧
    win0_5.index t = ![t.val, 0] ∧ win0_6.index t = ![0, 0] ∧ win0_7.index t = ![0, 0] :=
  (by decide +kernel : ∀ t : Fin grid0.N, _)

theorem lt_8 (t : Fin cfg0.N) : t.val < 8 := lt_of_lt_of_eq t.isLt (show cfg0.N = 8 from N_0)

abbrev row (t : Fin cfg0.N) (r : Fin 1024) : Fin 8192 := ⟨t.val * 1024 + r.val, by have := lt_8 t; omega⟩

theorem V_g (c : Dev nD) (k : Fin 1024) : V m c main_v0 (ix2 0 k) = argG m c (ix1 k) := by
  unfold V
  after_results
  pointwise []

theorem V_w (c : Dev nD) (n k : Fin 1024) : V m c main_v1 (ix2 n k) = argW m c (ix2 n k) := by
  unfold V
  after_results
  pointwise []

theorem blk_y (c : Dev nD) (t : Fin cfg0.N) (r k : Fin 1024) : iblk m c 0 t (ix2 r k) = argY m c (ix2 (row t r) k) := by
  show _ = V m c main_arg0 _
  blk_ext [iblk, V, idx t]

theorem blk_u (c : Dev nD) (t : Fin cfg0.N) (r k : Fin 1024) : iblk m c 1 t (ix2 r k) = argU m c (ix2 (row t r) k) := by
  show _ = V m c main_arg1 _
  blk_ext [iblk, V, idx t]

theorem blk_g (c : Dev nD) (t : Fin cfg0.N) (k : Fin 1024) : iblk m c 2 t (ix2 0 k) = argG m c (ix1 k) := by
  refine Eq.trans ?_ (V_g m c k)
  blk_ext [iblk, idx t]

theorem blk_w (c : Dev nD) (t : Fin cfg0.N) (n k : Fin 1024) : iblk m c 3 t (ix2 n k) = argW m c (ix2 n k) := by
  refine Eq.trans ?_ (V_w m c n k)
  blk_ext [iblk, idx t]

/-! ## One point -/

/-- The rows of a block and their cotangents. -/
abbrev rowOf (U : Vec Ideal S1024x1024 .f32) (r : Fin 1024) : Fin 1024 → EReal := fun j => U (ix2 r j)
abbrev cotOf (Y : Vec Ideal S1024x1024 .f32) (G : Vec Ideal S1x1024 .f32) (r : Fin 1024) : Fin 1024 → EReal :=
  fun j => Y (ix2 r j) * G (ix2 0 j)

theorem pay11_apply (Y U : Vec Ideal S1024x1024 .f32) (G : Vec Ideal S1x1024 .f32) (r e : Fin 1024) :
    k0_pay11 Y U G (ix2 r e) = closed (cotOf Y G r) (rowOf U r) e := by
  pointwise [k0_pay11, k0_pay10, k0_pay9, k0_pay8, closed, xhat, rstd, var, mean]

theorem pay12_apply (Y U : Vec Ideal S1024x1024 .f32) (G : Vec Ideal S1x1024 .f32) (r e : Fin 1024) :
    k0_pay12 Y U G (ix2 r e) = closed (cotOf Y G r) (rowOf U r) e :=
  pay11_apply Y U G r e

theorem pay1_apply (D W : Vec Ideal S1024x1024 .bf16) (r e : Fin 1024) :
    k0_pay1 D W (ix2 r e) = ∑ k : Fin 1024, D (ix2 r k) * W (ix2 e k) := by
  pointwise [k0_pay1]

/-- What a block adds to the eight rows of partial sums, of the weight's gradient and of the bias's. -/
def partG (Y U : Vec Ideal S1024x1024 .f32) (y : S8x1024.Idx) : EReal :=
  ∑ q : Fin 128, Y (ix2 (sub q (y 0)) (y 1)) * xhat (rowOf U (sub q (y 0))) (y 1)
def partB (Y : Vec Ideal S1024x1024 .f32) (y : S8x1024.Idx) : EReal := ∑ q : Fin 128, Y (ix2 (sub q (y 0)) (y 1))

theorem pay4_apply (Y U : Vec Ideal S1024x1024 .f32) (A : Vec Ideal S8x1024 .f32) (y : S8x1024.Idx) :
    k0_pay4 Y (k0_pay10 U) A y = A y + partG Y U y := by
  obtain ⟨s, e, rfl⟩ : ∃ (s : Fin 8) (e : Fin 1024), y = ix2 s e := ⟨y 0, y 1, by funext a; fin_cases a <;> rfl⟩
  pointwise [k0_pay4, k0_pay10, k0_pay9, k0_pay8, partG, xhat, rstd, var, mean]

theorem pay5_apply (Y : Vec Ideal S1024x1024 .f32) (A : Vec Ideal S8x1024 .f32) (y : S8x1024.Idx) :
    k0_pay5 Y A y = A y + partB Y y := by
  obtain ⟨s, e, rfl⟩ : ∃ (s : Fin 8) (e : Fin 1024), y = ix2 s e := ⟨y 0, y 1, by funext a; fin_cases a <;> rfl⟩
  pointwise [k0_pay5, partB]

theorem pay2_apply (y : S8x1024.Idx) : (k0_pay2 : FVec Ideal S8x1024 .f32) y = 0 := by
  pointwise [k0_pay2]

theorem pay3_apply (y : S8x1024.Idx) : (k0_pay3 : FVec Ideal S8x1024 .f32) y = 0 := by
  pointwise [k0_pay3]

theorem pay6_apply (A : Vec Ideal S8x1024 .f32) (e : Fin 1024) :
    k0_pay6 A (ix2 0 e) = ∑ s : Fin 8, A (ix2 s e) := by
  pointwise [k0_pay6]

theorem pay7_apply (A : Vec Ideal S8x1024 .f32) (e : Fin 1024) :
    k0_pay7 A (ix2 0 e) = ∑ s : Fin 8, A (ix2 s e) := by
  pointwise [k0_pay7]

theorem sg_A (c : Dev nD) (t : Fin cfg0.N) (h : t.val % 8 = 0) (y : S8x1024.Idx) :
    (outsAt0 m c t.val t.isLt).2.2.2.2.1 y = 0 + partG (iblk m c 0 t) (iblk m c 1 t) y := by
  rw [outsAt0_A m c t h (by omega)]
  frame_out
  rw [pay4_apply, pay2_apply]

theorem sg_B (c : Dev nD) (t : Fin cfg0.N) (h : ¬t.val % 8 = 0) (y : S8x1024.Idx) :
    (outsAt0 m c t.val t.isLt).2.2.2.2.1 y = (outsAt0 m c (t.val - 1) (by omega)).2.2.2.2.1 y + partG (iblk m c 0 t) (iblk m c 1 t) y := by
  rcases Classical.em (t.val % 8 = 7) with h7 | h7
  · rw [outsAt0_C m c t h h7]
    frame_out
    rw [pay4_apply, read_unread_whole]
  · rw [outsAt0_B m c t h h7]
    frame_out
    rw [pay4_apply, read_unread_whole]

theorem sb_A (c : Dev nD) (t : Fin cfg0.N) (h : t.val % 8 = 0) (y : S8x1024.Idx) :
    (outsAt0 m c t.val t.isLt).2.2.2.2.2 y = 0 + partB (iblk m c 0 t) y := by
  rw [outsAt0_A m c t h (by omega)]
  frame_out
  rw [pay5_apply, pay3_apply]

theorem sb_B (c : Dev nD) (t : Fin cfg0.N) (h : ¬t.val % 8 = 0) (y : S8x1024.Idx) :
    (outsAt0 m c t.val t.isLt).2.2.2.2.2 y = (outsAt0 m c (t.val - 1) (by omega)).2.2.2.2.2 y + partB (iblk m c 0 t) y := by
  rcases Classical.em (t.val % 8 = 7) with h7 | h7
  · rw [outsAt0_C m c t h h7]
    frame_out
    rw [pay5_apply, read_unread_whole]
  · rw [outsAt0_B m c t h h7]
    frame_out
    rw [pay5_apply, read_unread_whole]

theorem o4 (c : Dev nD) (t : Fin cfg0.N) (y : S1024x1024.Idx) :
    (outsAt0 m c t.val t.isLt).1 y = k0_pay11 (iblk m c 0 t) (iblk m c 1 t) (iblk m c 2 t) y := by
  rcases Classical.em (t.val % 8 = 0) with h | h
  · rw [outsAt0_A m c t h (by omega)]
    frame_out
  · rcases Classical.em (t.val % 8 = 7) with h7 | h7
    · rw [outsAt0_C m c t h h7]
      frame_out
    · rw [outsAt0_B m c t h h7]
      frame_out

theorem o5 (c : Dev nD) (t : Fin cfg0.N) (y : S1024x1024.Idx) :
    (outsAt0 m c t.val t.isLt).2.1 y = k0_pay1 (k0_pay12 (iblk m c 0 t) (iblk m c 1 t) (iblk m c 2 t)) (iblk m c 3 t) y := by
  rcases Classical.em (t.val % 8 = 0) with h | h
  · rw [outsAt0_A m c t h (by omega)]
    frame_out
  · rcases Classical.em (t.val % 8 = 7) with h7 | h7
    · rw [outsAt0_C m c t h h7]
      frame_out
    · rw [outsAt0_B m c t h h7]
      frame_out

theorem o6 (c : Dev nD) (t : Fin cfg0.N) (h : t.val % 8 = 7) (y : S1x1024.Idx) :
    (outsAt0 m c t.val t.isLt).2.2.1 y = k0_pay6 (outsAt0 m c t.val t.isLt).2.2.2.2.1 y := by
  rw [outsAt0_C m c t (by omega) h]
  frame_out

theorem o7 (c : Dev nD) (t : Fin cfg0.N) (h : t.val % 8 = 7) (y : S1x1024.Idx) :
    (outsAt0 m c t.val t.isLt).2.2.2.1 y = k0_pay7 (outsAt0 m c t.val t.isLt).2.2.2.2.2 y := by
  rw [outsAt0_C m c t (by omega) h]
  frame_out

end Cert.LnGradIdeal.Blocks

end
-- ==== Proof.LnGradArray.lean ====
/- What the norm's backward call leaves in its four result arrays. -/
module

public import proofs.«01_k».proof.Defs
public import proofs.«01_k».proof.Proof.Gen.LnGradIdeal.Value
public import proofs.«01_k».proof.Proof.LnGradBlock
public import Idealize.ShloMosaic.Lib.Pointwise
public import Idealize.ShloMosaic.Lib.Pipeline.ValueKit
public import Idealize.ShloMosaic.Lib.Pipeline.ReadBack

@[expose] public section

set_option maxRecDepth 16384

noncomputable section

namespace Cert.LnGradIdeal.Blocks

open Cert.LnGradIdeal Cert.LnGradIdeal.Gen Cert.FfnMath Cert.LnMath Idealize.ShloMosaic Idealize.ShloMosaic.TcCoe Idealize.SL.Sem

variable (m : (ℓ : Loc nD τ sig) → Buf (Elt Ideal) ℓ)

/-- The gradients of the rows before the norm, of the product before them, of the norm's weight and of its bias. -/
def gradU (Y U : S8192x1024.Idx → EReal) (G : S1024.Idx → EReal) : S8192x1024.Idx → EReal := fun i =>
  closed (fun j => Y (ix2 (i 0) j) * G (ix1 j)) (fun j => U (ix2 (i 0) j)) (i 1)

def gradZ (Y U : S8192x1024.Idx → EReal) (G : S1024.Idx → EReal) (W : S1024x1024.Idx → EReal) : S8192x1024.Idx → EReal :=
  fun i => ∑ k : Fin 1024, gradU Y U G (ix2 (i 0) k) * W (ix2 (i 1) k)

def gradG (Y U : S8192x1024.Idx → EReal) : S1x1024.Idx → EReal := fun i =>
  ∑ r : Fin 8192, Y (ix2 r (i 1)) * xhat (fun j => U (ix2 r j)) (i 1)

def gradB (Y : S8192x1024.Idx → EReal) : S1x1024.Idx → EReal := fun i => ∑ r : Fin 8192, Y (ix2 r (i 1))

theorem rowOf_eq (c : Dev nD) (t : Fin cfg0.N) (r : Fin 1024) :
    rowOf (iblk m c 1 t) r = fun j => argU m c (ix2 (row t r) j) := funext fun j => blk_u m c t r j

theorem cotOf_eq (c : Dev nD) (t : Fin cfg0.N) (r : Fin 1024) :
    cotOf (iblk m c 0 t) (iblk m c 2 t) r = fun j => argY m c (ix2 (row t r) j) * argG m c (ix1 j) :=
  funext fun j => congrArg₂ (fun a b : EReal => a * b) (blk_y m c t r j) (blk_g m c t j)

theorem partG_eq (c : Dev nD) (t : Fin cfg0.N) (s : Fin 8) (e : Fin 1024) : partG (iblk m c 0 t) (iblk m c 1 t) (ix2 s e)
    = ∑ q : Fin 128, argY m c (ix2 (row t (sub q s)) e) * xhat (fun j => argU m c (ix2 (row t (sub q s)) j)) e := by
  refine Finset.sum_congr rfl fun q _ => ?_
  refine congrArg₂ (fun a b : EReal => a * b) (blk_y m c t (sub q s) e) ?_
  exact congrArg (fun u => xhat u e) (rowOf_eq m c t (sub q s))

theorem partB_eq (c : Dev nD) (t : Fin cfg0.N) (s : Fin 8) (e : Fin 1024) : partB (iblk m c 0 t) (ix2 s e)
    = ∑ q : Fin 128, argY m c (ix2 (row t (sub q s)) e) :=
  Finset.sum_congr rfl fun q _ => blk_y m c t (sub q s) e

theorem final4 (c : Dev nD) : (dats m 0 c).arrAt 4 cfg0.N = gradU (argY m c) (argU m c) (argG m c) := by
  refine (dats m 0 c).arrAt_eq_of_covers 4 _ (by decide +kernel) fun t hf y => ?_
  blk_simp
  rw [after0_4]
  obtain ⟨r, e, rfl⟩ : ∃ (r e : Fin 1024), y = ix2 r e := ⟨y 0, y 1, by funext a; fin_cases a <;> rfl⟩
  have hi : ((cfg0.win 4).blk t).view.emb (ix2 r e) = ix2 (row t r) e := by
    blk_ext [idx t]
  rw [hi, o4 m c t, pay11_apply, rowOf_eq, cotOf_eq]
  rfl

theorem final5 (c : Dev nD) : (dats m 0 c).arrAt 5 cfg0.N = gradZ (argY m c) (argU m c) (argG m c) (argW m c) := by
  refine (dats m 0 c).arrAt_eq_of_covers 5 _ (by decide +kernel) fun t hf y => ?_
  blk_simp
  rw [after0_5]
  obtain ⟨r, e, rfl⟩ : ∃ (r e : Fin 1024), y = ix2 r e := ⟨y 0, y 1, by funext a; fin_cases a <;> rfl⟩
  have hi : ((cfg0.win 5).blk t).view.emb (ix2 r e) = ix2 (row t r) e := by
    blk_ext [idx t]
  rw [hi, o5 m c t]
  refine (pay1_apply _ _ r e).trans (Finset.sum_congr rfl fun k _ => ?_)
  refine congrArg₂ (fun a b : EReal => a * b) ?_ (blk_w m c t e k)
  rw [pay12_apply, rowOf_eq, cotOf_eq]
  rfl

theorem final6 (c : Dev nD) : (dats m 0 c).arrAt 6 cfg0.N = gradG (argY m c) (argU m c) := by
  refine (dats m 0 c).arrAt_eq_of_covers 6 _ (by decide +kernel) fun t hf y => ?_
  blk_simp
  rw [after0_6]
  obtain ⟨e, rfl⟩ : ∃ e : Fin 1024, y = ix2 0 e := ⟨y 1, by funext a; fin_cases a; exacts [Subsingleton.elim (α := Fin 1) _ _, rfl]⟩
  have hi : ((cfg0.win 6).blk t).view.emb (ix2 0 e) = ix2 0 e := by
    blk_ext [idx t]
  have h7 := (flush0_6 t).mp hf
  rw [hi, o6 m c t h7]
  refine (pay6_apply _ e).trans ?_
  show _ = ∑ i : Fin 8192, argY m c (ix2 i e) * xhat (fun j => argU m c (ix2 i j)) e
  rw [← sum_rows]
  refine Finset.sum_congr rfl fun s _ => ?_
  rw [Pipeline.eq_sum_fin_of_reset_step_apply_of_flush (fun n h => (outsAt0 m c n h).2.2.2.2.1) 8 (fun _ => 0)
      (fun t => partG (iblk m c 0 t) (iblk m c 1 t)) (fun t h j => sg_A m c t h j) (fun t h j => sg_B m c t h j) t h7 _, zero_add]
  refine Finset.sum_congr rfl fun n _ => ?_
  refine (partG_eq m c _ s e).trans ?_
  have hn : 8 * (t.val / 8) + n.val = n.val := by have := lt_8 t; omega
  simp only [row, hn]

theorem final7 (c : Dev nD) : (dats m 0 c).arrAt 7 cfg0.N = gradB (argY m c) := by
  refine (dats m 0 c).arrAt_eq_of_covers 7 _ (by decide +kernel) fun t hf y => ?_
  blk_simp
  rw [after0_7]
  obtain ⟨e, rfl⟩ : ∃ e : Fin 1024, y = ix2 0 e := ⟨y 1, by funext a; fin_cases a; exacts [Subsingleton.elim (α := Fin 1) _ _, rfl]⟩
  have hi : ((cfg0.win 7).blk t).view.emb (ix2 0 e) = ix2 0 e := by
    blk_ext [idx t]
  have h7 := (flush0_7 t).mp hf
  rw [hi, o7 m c t h7]
  refine (pay7_apply _ e).trans ?_
  show _ = ∑ i : Fin 8192, argY m c (ix2 i e)
  rw [← sum_rows]
  refine Finset.sum_congr rfl fun s _ => ?_
  rw [Pipeline.eq_sum_fin_of_reset_step_apply_of_flush (fun n h => (outsAt0 m c n h).2.2.2.2.2) 8 (fun _ => 0)
      (fun t => partB (iblk m c 0 t)) (fun t h j => sb_A m c t h j) (fun t h j => sb_B m c t h j) t h7 _, zero_add]
  refine Finset.sum_congr rfl fun n _ => ?_
  refine (partB_eq m c _ s e).trans ?_
  have hn : 8 * (t.val / 8) + n.val = n.val := by have := lt_8 t; omega
  simp only [row, hn]

end Cert.LnGradIdeal.Blocks

end
-- ==== Proof.LnGradClaim.lean ====
/- The norm's backward call equals the reference's gradient, on finite arguments. -/
module

public import proofs.«01_k».proof.Proof.LnGradArray
public import proofs.«01_k».proof.Proof.Gen.LnGrad.Frame
public import proofs.«01_k».proof.Proof.Gen.LnGradRefIdeal.Run
public import proofs.«01_k».proof.Proof.Gen.Pre_finite_ln
public import Idealize.ShloMosaic.Lib.Pointwise
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.FfnMath Cert.LnMath Cert.LnGradIdeal.Blocks

theorem quiescent_LnGradRef : Cert.quiescent_LnGradRefIdeal := fun m ρ _ =>
  (θ_run Cert.LnGradRefIdeal.defs _ _).mono
    (fun r h => ⟨fun c => (h c).2.2.2.2, sem_eq_zero_of_no_sems (by decide) r.2⟩)
    (Cert.LnGradRefIdeal.Value.run (F := Ideal) m ρ)

theorem quiescent_LnGradRef_pre : Cert.quiescent_LnGradRefIdeal_pre_finite_ln := fun m ρ _ =>
  quiescent_LnGradRef m ρ trivial

/-- The reference's row gradient, before the finiteness of its arguments is used. -/
def refU (Y U : Cert.LnGradRefIdeal.S8192x1024.Idx → EReal) (G : Cert.LnGradRefIdeal.S1024.Idx → EReal)
    (r : Fin 8192) (e : Fin 1024) : EReal :=
  chain (fun j => Y (ix2 r j) * G (ix1 j)) (fun j => U (ix2 r j)) e

theorem ref62 (m : (ℓ : Loc Cert.LnGradRefIdeal.nD Cert.LnGradRefIdeal.τ Cert.LnGradRefIdeal.sig) → Buf (Elt Ideal) ℓ)
    (c : Dev Cert.LnGradRefIdeal.nD) (r : Fin 8192) (e : Fin 1024) :
    Cert.LnGradRefIdeal.Value.res_main_v62 m c (ix2 r e) = refU (m (c.tc.loc Cert.LnGradRefIdeal.main_arg0))
      (m (c.tc.loc Cert.LnGradRefIdeal.main_arg1)) (m (c.tc.loc Cert.LnGradRefIdeal.main_arg2)) r e := by
  unfold Cert.LnGradRefIdeal.Value.res_main_v62
  generalize m (c.tc.loc Cert.LnGradRefIdeal.main_arg0) = dy
  generalize m (c.tc.loc Cert.LnGradRefIdeal.main_arg1) = u
  generalize m (c.tc.loc Cert.LnGradRefIdeal.main_arg2) = g
  pointwise [refU, chain, dvar, rstd, var, mean]
  simp only [Finset.univ_unique, Finset.sum_singleton]

/-- The projection's gradient, from the row gradient. -/
def refZ (D : Cert.LnGradRefIdeal.S8192x1024.Idx → EReal) (W : Cert.LnGradRefIdeal.S1024x1024.Idx → EReal)
    (r : Fin 8192) (e : Fin 1024) : EReal := ∑ k : Fin 1024, D (ix2 r k) * W (ix2 e k)

theorem ref65 (m : (ℓ : Loc Cert.LnGradRefIdeal.nD Cert.LnGradRefIdeal.τ Cert.LnGradRefIdeal.sig) → Buf (Elt Ideal) ℓ)
    (c : Dev Cert.LnGradRefIdeal.nD) (r : Fin 8192) (e : Fin 1024) :
    Cert.LnGradRefIdeal.Value.res_main_v65 m c (ix2 r e) = refZ (Cert.LnGradRefIdeal.Value.res_main_v62 m c)
      (m (c.tc.loc Cert.LnGradRefIdeal.main_arg4)) r e := by
  have h : Cert.LnGradRefIdeal.Value.res_main_v65 m c = Host.dotGeneral (F := Ideal) (φ₁ := .f32) (φ₂ := .f32)
      Cert.LnGradRefIdeal.dot_S8192x1024_S1024x1024_S8192x1024_1_1_0_0_n_n none
      (Cert.LnGradRefIdeal.Value.res_main_v62 m c) (m (c.tc.loc Cert.LnGradRefIdeal.main_arg4)) := by
    unfold Cert.LnGradRefIdeal.Value.res_main_v65 Cert.LnGradRefIdeal.Value.res_main_v62
    rfl
  rw [h]
  generalize Cert.LnGradRefIdeal.Value.res_main_v62 m c = du
  generalize m (c.tc.loc Cert.LnGradRefIdeal.main_arg4) = w
  pointwise [refZ]

theorem algebraic_LnGrad : Cert.algebraic_LnGradIdeal_LnGradRefIdeal_pre_finite_ln := by
  intro m ρ m' ρ' hpre hagree
  have hu : ∀ c r e, gradU (argY m c) (argU m c) (argG m c) (ix2 r e) = refU (argY m c) (argU m c) (argG m c) r e := by
    intro c r e
    obtain ⟨h0, h1, h2⟩ := hpre c
    have hy : ∀ j, (((argY m c (ix2 r j)).toReal : ℝ) : EReal) = argY m c (ix2 r j) := fun j =>
      real_of_finite _ (congrFun h0 (ix2 r j))
    have hx : ∀ j, (((argU m c (ix2 r j)).toReal : ℝ) : EReal) = argU m c (ix2 r j) := fun j =>
      real_of_finite _ (congrFun h1 (ix2 r j))
    have hg : ∀ j, (((argG m c (ix1 j)).toReal : ℝ) : EReal) = argG m c (ix1 j) := fun j =>
      real_of_finite _ (congrFun h2 (ix1 j))
    refine closed_eq_chain_of_real _ _ (fun j => ?_) hx e
    show (((argY m c (ix2 r j) * argG m c (ix1 j)).toReal : ℝ) : EReal) = argY m c (ix2 r j) * argG m c (ix1 j)
    rw [← hy j, ← hg j, ← EReal.coe_mul, EReal.toReal_coe]
  have hd : ∀ c, Cert.LnGradRefIdeal.Value.res_main_v62 m' c = gradU (argY m c) (argU m c) (argG m c) := fun c => by
    funext i
    obtain ⟨r, e, rfl⟩ : ∃ (r : Fin 8192) (e : Fin 1024), i = ix2 r e := ⟨i 0, i 1, by funext a; fin_cases a <;> rfl⟩
    rw [ref62]
    simp only [hagree c]
    exact (hu c r e).symm
  refine ⟨fun c => gradU (argY m c) (argU m c) (argG m c), fun c => gradZ (argY m c) (argU m c) (argG m c) (argW m c),
    fun c => gradG (argY m c) (argU m c), fun c => gradB (argY m c), ?_, ?_⟩
  · refine (θ_run _ _ _).mono (fun r h c => ?_) (Cert.LnGradIdeal.Value.run_blocks (F := Ideal) m ρ)
    obtain ⟨h6, h7, h8, h9, hk⟩ := h c
    exact ⟨h6.trans (final4 m c), h7.trans (final5 m c), h8.trans (final6 m c), h9.trans (final7 m c), hk⟩
  · refine (θ_run _ _ _).mono (fun r h c => ?_) (Cert.LnGradRefIdeal.Value.run (F := Ideal) m' ρ')
    obtain ⟨h6, h7, h8, h9, hk⟩ := h c
    refine ⟨h6.trans ?_, h7.trans ?_, h8.trans ?_, h9.trans ?_, hk⟩ <;> clear h h6 h7 h8 h9 hk hpre
    · exact hd c
    · funext i
      obtain ⟨r, e, rfl⟩ : ∃ (r : Fin 8192) (e : Fin 1024), i = ix2 r e := ⟨i 0, i 1, by funext a; fin_cases a <;> rfl⟩
      rw [ref65]
      refine Eq.trans ?_ (congrFun (congrFun (congrArg₂ refZ (hd c) rfl) r) e)
      rw [(hagree c).2.2.2.2]
    · simp only [hagree c]
      clear hu hd hagree
      funext i
      obtain ⟨e, rfl⟩ : ∃ e : Fin 1024, i = ix2 0 e := ⟨i 1, by funext a; fin_cases a; exacts [Subsingleton.elim (α := Fin 1) _ _, rfl]⟩
      pointwise [gradG, xhat, rstd, var, mean]
      simp only [Finset.univ_unique, Finset.sum_singleton]
      exact Finset.sum_congr rfl fun r _ => mul_comm (G := EReal) _ _
    · simp only [hagree c]
      clear hu hd hagree
      funext i
      obtain ⟨e, rfl⟩ : ∃ e : Fin 1024, i = ix2 0 e := ⟨i 1, by funext a; fin_cases a; exacts [Subsingleton.elim (α := Fin 1) _ _, rfl]⟩
      pointwise [gradB]
      simp only [Finset.univ_unique, Finset.sum_singleton]

end Cert.Proof

end
-- ==== Proof.FfnXCond.lean ====
/- When the branches of the gradient kernel of the feed-forward layer are taken, which windows it stores at which
   points, and the buffers it works on. -/
module

public import proofs.«01_k».proof.Proof.Gen.FfnXIdeal.Frame
public import proofs.«01_k».proof.Proof.Gen.FfnXIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.FfnXIdeal.Run

open Cert.FfnXIdeal Cert.FfnXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The branch conditions -/

abbrev cond_0 (i : grid0.Coords) : Prop := k0_cond1 i = 1#1
abbrev cond_1 (i : grid0.Coords) : Prop :=
  (Scalar.cmpi .ne (Scalar.extui (Scalar.cmpi .eq (BitVec.ofNat 32 (i 0).val) 0#32)) 0#32) = 1#1
abbrev cond_2 (i : grid0.Coords) : Prop :=
  (Scalar.cmpi .ne (Scalar.extui (Scalar.cmpi .eq (BitVec.ofNat 32 (i 1).val) 0#32)) 0#32) = 1#1
abbrev cond_3 (i : grid0.Coords) : Prop :=
  (Scalar.cmpi .ne (Scalar.extui (Scalar.cmpi .sgt (BitVec.ofNat 32 (i 1).val) 0#32)) 0#32) = 1#1
abbrev cond_4 (i : grid0.Coords) : Prop := k0_cond5 i = 1#1
abbrev cond_5 (i : grid0.Coords) : Prop := k0_cond6 i = 1#1

theorem lt_64 (t : Fin cfg0.N) : t.val < 64 := lt_of_lt_of_eq t.isLt (show cfg0.N = 64 from N_0)

/-- The branches taken at the first point. -/
abbrev at_A (i : grid0.Coords) : Prop := cond_0 i ∧ cond_1 i ∧ cond_2 i ∧ ¬cond_3 i ∧ ¬cond_4 i ∧ ¬cond_5 i
instance at_A.dec (i : grid0.Coords) : Decidable (at_A i) :=
  @instDecidableAnd _ _ inferInstance (@instDecidableAnd _ _ inferInstance (@instDecidableAnd _ _ inferInstance (@instDecidableAnd _ _ inferInstance (@instDecidableAnd _ _ inferInstance inferInstance))))
theorem is_A : ∀ t : Fin cfg0.N, t.val = 0 → at_A (grid0.coords t) :=
  (by decide +kernel : ∀ t : Fin grid0.N, t.val = 0 → at_A (grid0.coords t))

/-- The branches taken at the first point of a later row block. -/
abbrev at_D (i : grid0.Coords) : Prop := cond_0 i ∧ ¬cond_1 i ∧ cond_2 i ∧ ¬cond_3 i ∧ ¬cond_4 i ∧ ¬cond_5 i
instance at_D.dec (i : grid0.Coords) : Decidable (at_D i) :=
  @instDecidableAnd _ _ inferInstance (@instDecidableAnd _ _ inferInstance (@instDecidableAnd _ _ inferInstance (@instDecidableAnd _ _ inferInstance (@instDecidableAnd _ _ inferInstance inferInstance))))
theorem is_D : ∀ t : Fin cfg0.N, t.val % 4 = 0 ∧ t.val ≠ 0 → at_D (grid0.coords t) :=
  (by decide +kernel : ∀ t : Fin grid0.N, t.val % 4 = 0 ∧ t.val ≠ 0 → at_D (grid0.coords t))

/-- The branches taken at an inner point of a row block. -/
abbrev at_B (i : grid0.Coords) : Prop := ¬cond_0 i ∧ ¬cond_2 i ∧ cond_3 i ∧ ¬cond_4 i ∧ ¬cond_5 i
instance at_B.dec (i : grid0.Coords) : Decidable (at_B i) :=
  @instDecidableAnd _ _ inferInstance (@instDecidableAnd _ _ inferInstance (@instDecidableAnd _ _ inferInstance (@instDecidableAnd _ _ inferInstance inferInstance)))
theorem is_B : ∀ t : Fin cfg0.N, t.val % 4 ≠ 0 ∧ t.val % 4 ≠ 3 → at_B (grid0.coords t) :=
  (by decide +kernel : ∀ t : Fin grid0.N, t.val % 4 ≠ 0 ∧ t.val % 4 ≠ 3 → at_B (grid0.coords t))

/-- The branches taken at the last point of a row block that is not the last. -/
abbrev at_C (i : grid0.Coords) : Prop := ¬cond_0 i ∧ ¬cond_2 i ∧ cond_3 i ∧ cond_4 i ∧ ¬cond_5 i
instance at_C.dec (i : grid0.Coords) : Decidable (at_C i) :=
  @instDecidableAnd _ _ inferInstance (@instDecidableAnd _ _ inferInstance (@instDecidableAnd _ _ inferInstance (@instDecidableAnd _ _ inferInstance inferInstance)))
theorem is_C : ∀ t : Fin cfg0.N, t.val % 4 = 3 ∧ t.val ≠ 63 → at_C (grid0.coords t) :=
  (by decide +kernel : ∀ t : Fin grid0.N, t.val % 4 = 3 ∧ t.val ≠ 63 → at_C (grid0.coords t))

/-- The branches taken at the last point. -/
abbrev at_E (i : grid0.Coords) : Prop := ¬cond_0 i ∧ ¬cond_2 i ∧ cond_3 i ∧ cond_4 i ∧ cond_5 i
instance at_E.dec (i : grid0.Coords) : Decidable (at_E i) :=
  @instDecidableAnd _ _ inferInstance (@instDecidableAnd _ _ inferInstance (@instDecidableAnd _ _ inferInstance (@instDecidableAnd _ _ inferInstance inferInstance)))
theorem is_E : ∀ t : Fin cfg0.N, t.val = 63 → at_E (grid0.coords t) :=
  (by decide +kernel : ∀ t : Fin grid0.N, t.val = 63 → at_E (grid0.coords t))

/-! ## The windows at the points -/

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem live_8 : ∀ t : Fin cfg0.N, cfg0.idle 8 (grid0.coords t) = false := fun _ => rfl
theorem live_12 : ∀ t : Fin cfg0.N, cfg0.idle 12 (grid0.coords t) = false := fun _ => rfl
theorem live_13 : ∀ t : Fin cfg0.N, cfg0.idle 13 (grid0.coords t) = false := fun _ => rfl
theorem live_14 : ∀ t : Fin cfg0.N, cfg0.idle 14 (grid0.coords t) = false := fun _ => rfl
theorem live_9 : ∀ t : Fin cfg0.N, t.val % 4 = 3 → cfg0.idle 9 (grid0.coords t) = false := by decide +kernel
theorem idle_9 : ∀ t : Fin cfg0.N, t.val % 4 ≠ 3 → cfg0.idle 9 (grid0.coords t) = true := by decide +kernel
theorem keep_9 : ∀ t : Fin cfg0.N, t.val % 4 ≠ 3 → (cfg0.win 9).flush t = false := by decide +kernel
theorem live_10 : ∀ t : Fin cfg0.N, t.val % 4 = 0 → cfg0.idle 10 (grid0.coords t) = false := by decide +kernel
theorem idle_10 : ∀ t : Fin cfg0.N, t.val % 4 ≠ 0 → cfg0.idle 10 (grid0.coords t) = true := by decide +kernel
theorem keep_10 : ∀ t : Fin cfg0.N, t.val % 4 ≠ 3 → (cfg0.win 10).flush t = false := by decide +kernel
theorem flush_10 : ∀ t : Fin cfg0.N, t.val % 4 = 3 → (cfg0.win 10).flush t = true := by decide +kernel
theorem live_11 : ∀ t : Fin cfg0.N, t.val % 4 = 0 → cfg0.idle 11 (grid0.coords t) = false := by decide +kernel
theorem idle_11 : ∀ t : Fin cfg0.N, t.val % 4 ≠ 0 → cfg0.idle 11 (grid0.coords t) = true := by decide +kernel
theorem keep_11 : ∀ t : Fin cfg0.N, t.val % 4 ≠ 3 → (cfg0.win 11).flush t = false := by decide +kernel
theorem flush_11 : ∀ t : Fin cfg0.N, t.val % 4 = 3 → (cfg0.win 11).flush t = true := by decide +kernel
theorem live_15 : ∀ t : Fin cfg0.N, t.val = 63 → cfg0.idle 15 (grid0.coords t) = false := by decide +kernel
theorem idle_15 : ∀ t : Fin cfg0.N, t.val ≠ 63 → cfg0.idle 15 (grid0.coords t) = true := by decide +kernel
theorem keep_15 : ∀ t : Fin cfg0.N, t.val ≠ 63 → (cfg0.win 15).flush t = false := by decide +kernel
theorem live_16 : ∀ t : Fin cfg0.N, t.val = 63 → cfg0.idle 16 (grid0.coords t) = false := by decide +kernel
theorem idle_16 : ∀ t : Fin cfg0.N, t.val ≠ 63 → cfg0.idle 16 (grid0.coords t) = true := by decide +kernel
theorem keep_16 : ∀ t : Fin cfg0.N, t.val ≠ 63 → (cfg0.win 16).flush t = false := by decide +kernel

/-- A block of output 10 or 11 is new before the first point of a row block. -/
def freshAt (n : ℕ) : Bool := n % 4 == 0
theorem freshAt_10 : ∀ t : Fin cfg0.N,
    freshAt (t.val + 1) = ((cfg0.win 10).flush t || (cfg0.idle 10 (cfg0.grid.coords t) && freshAt t.val)) := by
  decide +kernel
theorem stored_10 (t : Fin cfg0.N) (h : t.val % 4 ≠ 0) : cfg0.fresh 10 t.val = false := by
  rw [Pipeline.Cfg.fresh_tab cfg0 10 freshAt rfl freshAt_10 t.val (Nat.le_of_lt t.isLt)]
  exact beq_false_of_ne h
theorem freshAt_11 : ∀ t : Fin cfg0.N,
    freshAt (t.val + 1) = ((cfg0.win 11).flush t || (cfg0.idle 11 (cfg0.grid.coords t) && freshAt t.val)) := by
  decide +kernel
theorem stored_11 (t : Fin cfg0.N) (h : t.val % 4 ≠ 0) : cfg0.fresh 11 t.val = false := by
  rw [Pipeline.Cfg.fresh_tab cfg0 11 freshAt rfl freshAt_11 t.val (Nat.le_of_lt t.isLt)]
  exact beq_false_of_ne h

/-! ## The buffers -/

abbrev VO_9 : View sig .tc .vmem S512x1024 .f32 := (Memref.whole cc0_stg9_0 : Memref sig .tc .vmem S512x1024 .f32).view
abbrev VO_10 : View sig .tc .vmem S512x1024 .bf16 := (Memref.whole cc0_stg10_0 : Memref sig .tc .vmem S512x1024 .bf16).view
abbrev VO_11 : View sig .tc .vmem S512x1024 .bf16 := (Memref.whole cc0_stg11_0 : Memref sig .tc .vmem S512x1024 .bf16).view
abbrev VO_12 : View sig .tc .vmem S512x768 .bf16 := (Memref.whole cc0_stg12_0 : Memref sig .tc .vmem S512x768 .bf16).view
abbrev VO_13 : View sig .tc .vmem S512x768 .bf16 := (Memref.whole cc0_stg13_0 : Memref sig .tc .vmem S512x768 .bf16).view
abbrev VO_14 : View sig .tc .vmem S512x768 .bf16 := (Memref.whole cc0_stg14_0 : Memref sig .tc .vmem S512x768 .bf16).view
abbrev VO_15 : View sig .tc .vmem S1x1024 .f32 := (Memref.whole cc0_stg15_0 : Memref sig .tc .vmem S1x1024 .f32).view
abbrev VO_16 : View sig .tc .vmem S1x1024 .f32 := (Memref.whole cc0_stg16_0 : Memref sig .tc .vmem S1x1024 .f32).view
abbrev ms_0 (t : Fin cfg0.N) : Memref sig .tc .vmem S512x1024 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S512x1024 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x1024 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x768x1024 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x768x1024 .bf16 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x768x1024 .bf16 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x1024 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S512x768 .bf16 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S512x768 .bf16 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S512x1024 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S512x1024 .bf16 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S512x1024 .bf16 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S512x768 .bf16 := win0_12.stage (cfg0.slots t 12)
abbrev hs_12 (t : Fin cfg0.N) : (ms_12 t).IsWhole := hstage0_12 ((cfg0.slots t 12).cast nbuf0_12)
abbrev ms_13 (t : Fin cfg0.N) : Memref sig .tc .vmem S512x768 .bf16 := win0_13.stage (cfg0.slots t 13)
abbrev hs_13 (t : Fin cfg0.N) : (ms_13 t).IsWhole := hstage0_13 ((cfg0.slots t 13).cast nbuf0_13)
abbrev ms_14 (t : Fin cfg0.N) : Memref sig .tc .vmem S512x768 .bf16 := win0_14.stage (cfg0.slots t 14)
abbrev hs_14 (t : Fin cfg0.N) : (ms_14 t).IsWhole := hstage0_14 ((cfg0.slots t 14).cast nbuf0_14)
abbrev ms_15 (t : Fin cfg0.N) : Memref sig .tc .vmem S1x1024 .f32 := win0_15.stage (cfg0.slots t 15)
abbrev hs_15 (t : Fin cfg0.N) : (ms_15 t).IsWhole := hstage0_15 ((cfg0.slots t 15).cast nbuf0_15)
abbrev ms_16 (t : Fin cfg0.N) : Memref sig .tc .vmem S1x1024 .f32 := win0_16.stage (cfg0.slots t 16)
abbrev hs_16 (t : Fin cfg0.N) : (ms_16 t).IsWhole := hstage0_16 ((cfg0.slots t 16).cast nbuf0_16)
abbrev sc_0 : Memref sig .tc .vmem S512x1024 .bf16 := Memref.whole cc0_scratch0
abbrev VS_0 : View sig .tc .vmem S512x1024 .bf16 := sc_0.view
abbrev sc_1 : Memref sig .tc .vmem S512x1024 .f32 := Memref.whole cc0_scratch1
abbrev VS_1 : View sig .tc .vmem S512x1024 .f32 := sc_1.view
abbrev sc_2 : Memref sig .tc .vmem S512x1024 .f32 := Memref.whole cc0_scratch2
abbrev VS_2 : View sig .tc .vmem S512x1024 .f32 := sc_2.view
abbrev sc_3 : Memref sig .tc .vmem S8x1024 .f32 := Memref.whole cc0_scratch3
abbrev VS_3 : View sig .tc .vmem S8x1024 .f32 := sc_3.view
abbrev sc_4 : Memref sig .tc .vmem S8x1024 .f32 := Memref.whole cc0_scratch4
abbrev VS_4 : View sig .tc .vmem S8x1024 .f32 := sc_4.view

/-- What the output buffers and the scratches hold between two points. -/
structure St (F : FTy → Type) where
  o9 : Vec F S512x1024 .f32
  o10 : Vec F S512x1024 .bf16
  o11 : Vec F S512x1024 .bf16
  o12 : Vec F S512x768 .bf16
  o13 : Vec F S512x768 .bf16
  o14 : Vec F S512x768 .bf16
  o15 : Vec F S1x1024 .f32
  o16 : Vec F S1x1024 .f32
  s0 : Vec F S512x1024 .bf16
  s1 : Vec F S512x1024 .f32
  s2 : Vec F S512x1024 .f32
  s3 : Vec F S8x1024 .f32
  s4 : Vec F S8x1024 .f32

/-- The scratches at the region's entry, each at something. -/
theorem entry_eq (c : Dev nD) :
    (Pipeline.ΦA spec0 c : sProp (MT nD τ sig Unit (Elt F) ℕ (UR sig nD τ) ℕ))
      = iprop(iprop((∃ d, owns (c : Thread nD τ) sc_0 fullShare d) ∗ (∃ d, owns (c : Thread nD τ) sc_1 fullShare d) ∗ (∃ d, owns (c : Thread nD τ) sc_2 fullShare d) ∗ (∃ d, owns (c : Thread nD τ) sc_3 fullShare d) ∗ (∃ d, owns (c : Thread nD τ) sc_4 fullShare d)) ∗ (∃ r, prngReg c r)) := by
  unfold Pipeline.ΦA; rw [scopedRest0_eq]; simp only [sc_0, sc_1, sc_2, sc_3, sc_4, owns_whole]; try rfl

end Cert.FfnXIdeal.Run

end
-- ==== Proof.FfnXRunA.lean ====
/- The gradient kernel of the feed-forward layer at the first point. -/
module

public import proofs.«01_k».proof.Proof.FfnXCond

@[expose] public section

set_option maxRecDepth 16384

noncomputable section

namespace Cert.FfnXIdeal.Run

open Cert.FfnXIdeal Cert.FfnXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section

variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S512x1024 .f32) (harg4 : arg4.IsWhole)
  (arg5 : Memref sig .tc .vmem S1x768x1024 .bf16) (harg5 : arg5.IsWhole)
  (arg6 : Memref sig .tc .vmem S1x768x1024 .bf16) (harg6 : arg6.IsWhole)
  (arg7 : Memref sig .tc .vmem S1x768x1024 .bf16) (harg7 : arg7.IsWhole)
  (arg8 : Memref sig .tc .vmem S1x1024 .f32) (harg8 : arg8.IsWhole)
  (arg9 : Memref sig .tc .vmem S512x768 .bf16) (harg9 : arg9.IsWhole)
  (arg10 : Memref sig .tc .vmem S512x768 .bf16) (harg10 : arg10.IsWhole)
  (arg11 : Memref sig .tc .vmem S512x1024 .f32) (harg11 : arg11.IsWhole)
  (arg12 : Memref sig .tc .vmem S512x1024 .bf16) (harg12 : arg12.IsWhole)
  (arg13 : Memref sig .tc .vmem S512x1024 .bf16) (harg13 : arg13.IsWhole)
  (arg14 : Memref sig .tc .vmem S512x768 .bf16) (harg14 : arg14.IsWhole)
  (arg15 : Memref sig .tc .vmem S512x768 .bf16) (harg15 : arg15.IsWhole)
  (arg16 : Memref sig .tc .vmem S512x768 .bf16) (harg16 : arg16.IsWhole)
  (arg17 : Memref sig .tc .vmem S1x1024 .f32) (harg17 : arg17.IsWhole)
  (arg18 : Memref sig .tc .vmem S1x1024 .f32) (harg18 : arg18.IsWhole)
  (arg19 : Memref sig .tc .vmem S512x1024 .bf16) (harg19 : arg19.IsWhole)
  (arg20 : Memref sig .tc .vmem S512x1024 .f32) (harg20 : arg20.IsWhole)
  (arg21 : Memref sig .tc .vmem S512x1024 .f32) (harg21 : arg21.IsWhole)
  (arg22 : Memref sig .tc .vmem S8x1024 .f32) (harg22 : arg22.IsWhole)
  (arg23 : Memref sig .tc .vmem S8x1024 .f32) (harg23 : arg23.IsWhole)

set_option maxHeartbeats 1200000 in
/-- The pieces each buffer ends with, with the proof that the body, run from its inputs, ends with them. -/
noncomputable def run_A (h : at_A i)
    (x0 : Vec F S512x1024 .f32)
    (x1 : Vec F S512x1024 .f32)
    (x2 : Vec F S512x1024 .f32)
    (x3 : Vec F S1x768x1024 .bf16)
    (x4 : Vec F S1x768x1024 .bf16)
    (x5 : Vec F S1x768x1024 .bf16)
    (x6 : Vec F S1x1024 .f32)
    (x7 : Vec F S512x768 .bf16)
    (x8 : Vec F S512x768 .bf16) :
    Σ' (L10 : List (View.Piece (Elt F) S512x1024 .bf16)), Σ' (L11 : List (View.Piece (Elt F) S512x1024 .bf16)), Σ' (L12 : List (View.Piece (Elt F) S512x768 .bf16)), Σ' (L13 : List (View.Piece (Elt F) S512x768 .bf16)), Σ' (L14 : List (View.Piece (Elt F) S512x768 .bf16)), Σ' (L17 : List (View.Piece (Elt F) S512x1024 .bf16)), Σ' (L18 : List (View.Piece (Elt F) S512x1024 .f32)), Σ' (L19 : List (View.Piece (Elt F) S512x1024 .f32)), Σ' (L20 : List (View.Piece (Elt F) S8x1024 .f32)), { L21 : List (View.Piece (Elt F) S8x1024 .f32) //
      ∀ (x9 : Vec F S512x1024 .f32) (x15 : Vec F S1x1024 .f32) (x16 : Vec F S1x1024 .f32) (E : Set ℕ) (K : PUnit → sProp (MT nD τ sig Unit (Elt F) ℕ (UR sig nD τ) ℕ)),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ (∃ d, owns (c : Thread nD τ) arg12 fullShare d)
          ∗ (∃ d, owns (c : Thread nD τ) arg13 fullShare d)
          ∗ (∃ d, owns (c : Thread nD τ) arg14 fullShare d)
          ∗ (∃ d, owns (c : Thread nD τ) arg15 fullShare d)
          ∗ (∃ d, owns (c : Thread nD τ) arg16 fullShare d)
          ∗ owns (c : Thread nD τ) arg17 fullShare x15
          ∗ owns (c : Thread nD τ) arg18 fullShare x16
          ∗ (∃ d, owns (c : Thread nD τ) arg19 fullShare d)
          ∗ (∃ d, owns (c : Thread nD τ) arg20 fullShare d)
          ∗ (∃ d, owns (c : Thread nD τ) arg21 fullShare d)
          ∗ (∃ d, owns (c : Thread nD τ) arg22 fullShare d)
          ∗ (∃ d, owns (c : Thread nD τ) arg23 fullShare d)
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ (∃ f, arg12.view.loc (c : Thread nD τ) ↦[arg12.view.set]{fullShare} arg12.view.writes (Elt F) f L10)
          ∗ (∃ f, arg13.view.loc (c : Thread nD τ) ↦[arg13.view.set]{fullShare} arg13.view.writes (Elt F) f L11)
          ∗ (∃ f, arg14.view.loc (c : Thread nD τ) ↦[arg14.view.set]{fullShare} arg14.view.writes (Elt F) f L12)
          ∗ (∃ f, arg15.view.loc (c : Thread nD τ) ↦[arg15.view.set]{fullShare} arg15.view.writes (Elt F) f L13)
          ∗ (∃ f, arg16.view.loc (c : Thread nD τ) ↦[arg16.view.set]{fullShare} arg16.view.writes (Elt F) f L14)
          ∗ owns (c : Thread nD τ) arg17 fullShare x15
          ∗ owns (c : Thread nD τ) arg18 fullShare x16
          ∗ (∃ f, arg19.view.loc (c : Thread nD τ) ↦[arg19.view.set]{fullShare} arg19.view.writes (Elt F) f L17)
          ∗ (∃ f, arg20.view.loc (c : Thread nD τ) ↦[arg20.view.set]{fullShare} arg20.view.writes (Elt F) f L18)
          ∗ (∃ f, arg21.view.loc (c : Thread nD τ) ↦[arg21.view.set]{fullShare} arg21.view.writes (Elt F) f L19)
          ∗ (∃ f, arg22.view.loc (c : Thread nD τ) ↦[arg22.view.set]{fullShare} arg22.view.writes (Elt F) f L20)
          ∗ (∃ f, arg23.view.loc (c : Thread nD τ) ↦[arg23.view.set]{fullShare} arg23.view.writes (Elt F) f L21)) -∗ K ⟨⟩))
          ⊢ wp frame (wpE (defs₀ (F := F)) Variants.none c none) E (cc0_ffn2_bwd_x i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, fun x9 x15 x16 E K => ?run⟩
  case run =>
    simp only [cc0_ffn2_bwd_x_eq_skeleton]; unfold cc0_ffn2_bwd_x_skel
    simp only [k0_part5_eq_skeleton, k0_part2_eq_skeleton, k0_part1_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg17.eq_unread hf15; obtain rfl := harg18.eq_unread hf16
    sl_exec (disch := first | sl_exact (h.1) | sl_exact (h.2.1) | sl_exact (h.2.2.1) | sl_exact (h.2.2.2.1) | sl_exact (h.2.2.2.2.1) | sl_exact (h.2.2.2.2.2))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]
    · iexists _; isplitr; · ipureintro; exact harg17.read_unread _
      iexact H15
    isplitl [H16]
    · iexists _; isplitr; · ipureintro; exact harg18.read_unread _
      iexact H16
    isplitl [H17]; · iexists _; iexact H17
    isplitl [H18]; · iexists _; iexact H18
    isplitl [H19]; · iexists _; iexact H19
    isplitl [H20]; · iexists _; iexact H20
    iexists _; iexact H21

end

variable (m : (ℓ : Loc nD τ sig) → Buf (Elt F) ℓ)

/-- The run at a point, over its blocks and what the point before left. -/
noncomputable def fin_A (c : Dev nD) (t : Fin cfg0.N) (h : at_A (grid0.coords t)) :=
  run_A c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) sc_0 (Memref.isWhole_whole _) sc_1 (Memref.isWhole_whole _) sc_2 (Memref.isWhole_whole _) sc_3 (Memref.isWhole_whole _) sc_4 (Memref.isWhole_whole _) h
    (iblk m c 0 t) (iblk m c 1 t) (iblk m c 2 t) (iblk m c 3 t) (iblk m c 4 t) (iblk m c 5 t) (iblk m c 6 t) (iblk m c 7 t) (iblk m c 8 t)

theorem cov_A_o10 (c : Dev nD) (t : Fin cfg0.N) (h : at_A (grid0.coords t)) (y : S512x1024.Idx) : ∃ pc ∈ (fin_A m c t h).1, y ∈ pc.1.set :=
  View.cover_of_tiledL (fin_A m c t h).1 S512x1024.size (by sl_kernel_rfl) y
def out_A_o10 (c : Dev nD) (t : Fin cfg0.N) (h : at_A (grid0.coords t)) : Vec F S512x1024 .bf16 :=
  VO_10.read (Elt F) (VO_10.writes (Elt F) VO_10.junk (fin_A m c t h).1)

theorem cov_A_o11 (c : Dev nD) (t : Fin cfg0.N) (h : at_A (grid0.coords t)) (y : S512x1024.Idx) : ∃ pc ∈ (fin_A m c t h).2.1, y ∈ pc.1.set :=
  View.cover_of_tiledL (fin_A m c t h).2.1 S512x1024.size (by sl_kernel_rfl) y
def out_A_o11 (c : Dev nD) (t : Fin cfg0.N) (h : at_A (grid0.coords t)) : Vec F S512x1024 .bf16 :=
  VO_11.read (Elt F) (VO_11.writes (Elt F) VO_11.junk (fin_A m c t h).2.1)

theorem cov_A_o12 (c : Dev nD) (t : Fin cfg0.N) (h : at_A (grid0.coords t)) (y : S512x768.Idx) : ∃ pc ∈ (fin_A m c t h).2.2.1, y ∈ pc.1.set :=
  View.cover_of_tiledL (fin_A m c t h).2.2.1 S512x256.size (by sl_kernel_rfl) y
def out_A_o12 (c : Dev nD) (t : Fin cfg0.N) (h : at_A (grid0.coords t)) : Vec F S512x768 .bf16 :=
  VO_12.read (Elt F) (VO_12.writes (Elt F) VO_12.junk (fin_A m c t h).2.2.1)

theorem cov_A_o13 (c : Dev nD) (t : Fin cfg0.N) (h : at_A (grid0.coords t)) (y : S512x768.Idx) : ∃ pc ∈ (fin_A m c t h).2.2.2.1, y ∈ pc.1.set :=
  View.cover_of_tiledL (fin_A m c t h).2.2.2.1 S512x256.size (by sl_kernel_rfl) y
def out_A_o13 (c : Dev nD) (t : Fin cfg0.N) (h : at_A (grid0.coords t)) : Vec F S512x768 .bf16 :=
  VO_13.read (Elt F) (VO_13.writes (Elt F) VO_13.junk (fin_A m c t h).2.2.2.1)

theorem cov_A_o14 (c : Dev nD) (t : Fin cfg0.N) (h : at_A (grid0.coords t)) (y : S512x768.Idx) : ∃ pc ∈ (fin_A m c t h).2.2.2.2.1, y ∈ pc.1.set :=
  View.cover_of_tiledL (fin_A m c t h).2.2.2.2.1 S512x256.size (by sl_kernel_rfl) y
def out_A_o14 (c : Dev nD) (t : Fin cfg0.N) (h : at_A (grid0.coords t)) : Vec F S512x768 .bf16 :=
  VO_14.read (Elt F) (VO_14.writes (Elt F) VO_14.junk (fin_A m c t h).2.2.2.2.1)

theorem cov_A_s0 (c : Dev nD) (t : Fin cfg0.N) (h : at_A (grid0.coords t)) (y : S512x1024.Idx) : ∃ pc ∈ (fin_A m c t h).2.2.2.2.2.1, y ∈ pc.1.set :=
  View.cover_of_tiledL (fin_A m c t h).2.2.2.2.2.1 S512x1024.size (by sl_kernel_rfl) y
def out_A_s0 (c : Dev nD) (t : Fin cfg0.N) (h : at_A (grid0.coords t)) : Vec F S512x1024 .bf16 :=
  VS_0.read (Elt F) (VS_0.writes (Elt F) VS_0.junk (fin_A m c t h).2.2.2.2.2.1)

theorem cov_A_s1 (c : Dev nD) (t : Fin cfg0.N) (h : at_A (grid0.coords t)) (y : S512x1024.Idx) : ∃ pc ∈ (fin_A m c t h).2.2.2.2.2.2.1, y ∈ pc.1.set :=
  View.cover_of_tiledL (fin_A m c t h).2.2.2.2.2.2.1 S512x1024.size (by sl_kernel_rfl) y
def out_A_s1 (c : Dev nD) (t : Fin cfg0.N) (h : at_A (grid0.coords t)) : Vec F S512x1024 .f32 :=
  VS_1.read (Elt F) (VS_1.writes (Elt F) VS_1.junk (fin_A m c t h).2.2.2.2.2.2.1)

theorem cov_A_s2 (c : Dev nD) (t : Fin cfg0.N) (h : at_A (grid0.coords t)) (y : S512x1024.Idx) : ∃ pc ∈ (fin_A m c t h).2.2.2.2.2.2.2.1, y ∈ pc.1.set :=
  View.cover_of_tiledL (fin_A m c t h).2.2.2.2.2.2.2.1 S512x1024.size (by sl_kernel_rfl) y
def out_A_s2 (c : Dev nD) (t : Fin cfg0.N) (h : at_A (grid0.coords t)) : Vec F S512x1024 .f32 :=
  VS_2.read (Elt F) (VS_2.writes (Elt F) VS_2.junk (fin_A m c t h).2.2.2.2.2.2.2.1)

theorem cov_A_s3 (c : Dev nD) (t : Fin cfg0.N) (h : at_A (grid0.coords t)) (y : S8x1024.Idx) : ∃ pc ∈ (fin_A m c t h).2.2.2.2.2.2.2.2.1, y ∈ pc.1.set :=
  View.cover_of_tiledL (fin_A m c t h).2.2.2.2.2.2.2.2.1 S8x1024.size (by sl_kernel_rfl) y
def out_A_s3 (c : Dev nD) (t : Fin cfg0.N) (h : at_A (grid0.coords t)) : Vec F S8x1024 .f32 :=
  VS_3.read (Elt F) (VS_3.writes (Elt F) VS_3.junk (fin_A m c t h).2.2.2.2.2.2.2.2.1)

theorem cov_A_s4 (c : Dev nD) (t : Fin cfg0.N) (h : at_A (grid0.coords t)) (y : S8x1024.Idx) : ∃ pc ∈ (fin_A m c t h).2.2.2.2.2.2.2.2.2.1, y ∈ pc.1.set :=
  View.cover_of_tiledL (fin_A m c t h).2.2.2.2.2.2.2.2.2.1 S8x1024.size (by sl_kernel_rfl) y
def out_A_s4 (c : Dev nD) (t : Fin cfg0.N) (h : at_A (grid0.coords t)) : Vec F S8x1024 .f32 :=
  VS_4.read (Elt F) (VS_4.writes (Elt F) VS_4.junk (fin_A m c t h).2.2.2.2.2.2.2.2.2.1)

/-- What the first point leaves. -/
def st_A (c : Dev nD) (t : Fin cfg0.N) (h : at_A (grid0.coords t)) : St F where
  o9 := VO_9.read (Elt F) VO_9.junk
  o10 := out_A_o10 m c t h
  o11 := out_A_o11 m c t h
  o12 := out_A_o12 m c t h
  o13 := out_A_o13 m c t h
  o14 := out_A_o14 m c t h
  o15 := VO_15.read (Elt F) VO_15.junk
  o16 := VO_16.read (Elt F) VO_16.junk
  s0 := out_A_s0 m c t h
  s1 := out_A_s1 m c t h
  s2 := out_A_s2 m c t h
  s3 := out_A_s3 m c t h
  s4 := out_A_s4 m c t h

end Cert.FfnXIdeal.Run

end
-- ==== Proof.FfnXRunD.lean ====
/- The gradient kernel of the feed-forward layer at the first point of a later row block. -/
module

public import proofs.«01_k».proof.Proof.FfnXRunA

@[expose] public section

set_option maxRecDepth 16384

noncomputable section

namespace Cert.FfnXIdeal.Run

open Cert.FfnXIdeal Cert.FfnXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section

variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S512x1024 .f32) (harg4 : arg4.IsWhole)
  (arg5 : Memref sig .tc .vmem S1x768x1024 .bf16) (harg5 : arg5.IsWhole)
  (arg6 : Memref sig .tc .vmem S1x768x1024 .bf16) (harg6 : arg6.IsWhole)
  (arg7 : Memref sig .tc .vmem S1x768x1024 .bf16) (harg7 : arg7.IsWhole)
  (arg8 : Memref sig .tc .vmem S1x1024 .f32) (harg8 : arg8.IsWhole)
  (arg9 : Memref sig .tc .vmem S512x768 .bf16) (harg9 : arg9.IsWhole)
  (arg10 : Memref sig .tc .vmem S512x768 .bf16) (harg10 : arg10.IsWhole)
  (arg11 : Memref sig .tc .vmem S512x1024 .f32) (harg11 : arg11.IsWhole)
  (arg12 : Memref sig .tc .vmem S512x1024 .bf16) (harg12 : arg12.IsWhole)
  (arg13 : Memref sig .tc .vmem S512x1024 .bf16) (harg13 : arg13.IsWhole)
  (arg14 : Memref sig .tc .vmem S512x768 .bf16) (harg14 : arg14.IsWhole)
  (arg15 : Memref sig .tc .vmem S512x768 .bf16) (harg15 : arg15.IsWhole)
  (arg16 : Memref sig .tc .vmem S512x768 .bf16) (harg16 : arg16.IsWhole)
  (arg17 : Memref sig .tc .vmem S1x1024 .f32) (harg17 : arg17.IsWhole)
  (arg18 : Memref sig .tc .vmem S1x1024 .f32) (harg18 : arg18.IsWhole)
  (arg19 : Memref sig .tc .vmem S512x1024 .bf16) (harg19 : arg19.IsWhole)
  (arg20 : Memref sig .tc .vmem S512x1024 .f32) (harg20 : arg20.IsWhole)
  (arg21 : Memref sig .tc .vmem S512x1024 .f32) (harg21 : arg21.IsWhole)
  (arg22 : Memref sig .tc .vmem S8x1024 .f32) (harg22 : arg22.IsWhole)
  (arg23 : Memref sig .tc .vmem S8x1024 .f32) (harg23 : arg23.IsWhole)

set_option maxHeartbeats 1200000 in
/-- The pieces each buffer ends with, with the proof that the body, run from its inputs, ends with them. -/
noncomputable def run_D (h : at_D i)
    (x0 : Vec F S512x1024 .f32)
    (x1 : Vec F S512x1024 .f32)
    (x2 : Vec F S512x1024 .f32)
    (x3 : Vec F S1x768x1024 .bf16)
    (x4 : Vec F S1x768x1024 .bf16)
    (x5 : Vec F S1x768x1024 .bf16)
    (x6 : Vec F S1x1024 .f32)
    (x7 : Vec F S512x768 .bf16)
    (x8 : Vec F S512x768 .bf16)
    (x20 : Vec F S8x1024 .f32)
    (x21 : Vec F S8x1024 .f32) :
    Σ' (L10 : List (View.Piece (Elt F) S512x1024 .bf16)), Σ' (L11 : List (View.Piece (Elt F) S512x1024 .bf16)), Σ' (L12 : List (View.Piece (Elt F) S512x768 .bf16)), Σ' (L13 : List (View.Piece (Elt F) S512x768 .bf16)), Σ' (L14 : List (View.Piece (Elt F) S512x768 .bf16)), Σ' (L17 : List (View.Piece (Elt F) S512x1024 .bf16)), Σ' (L18 : List (View.Piece (Elt F) S512x1024 .f32)), Σ' (L19 : List (View.Piece (Elt F) S512x1024 .f32)), Σ' (L20 : List (View.Piece (Elt F) S8x1024 .f32)), { L21 : List (View.Piece (Elt F) S8x1024 .f32) //
      ∀ (x9 : Vec F S512x1024 .f32) (x15 : Vec F S1x1024 .f32) (x16 : Vec F S1x1024 .f32) (E : Set ℕ) (K : PUnit → sProp (MT nD τ sig Unit (Elt F) ℕ (UR sig nD τ) ℕ)),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ (∃ d, owns (c : Thread nD τ) arg12 fullShare d)
          ∗ (∃ d, owns (c : Thread nD τ) arg13 fullShare d)
          ∗ (∃ d, owns (c : Thread nD τ) arg14 fullShare d)
          ∗ (∃ d, owns (c : Thread nD τ) arg15 fullShare d)
          ∗ (∃ d, owns (c : Thread nD τ) arg16 fullShare d)
          ∗ owns (c : Thread nD τ) arg17 fullShare x15
          ∗ owns (c : Thread nD τ) arg18 fullShare x16
          ∗ (∃ d, owns (c : Thread nD τ) arg19 fullShare d)
          ∗ (∃ d, owns (c : Thread nD τ) arg20 fullShare d)
          ∗ (∃ d, owns (c : Thread nD τ) arg21 fullShare d)
          ∗ owns (c : Thread nD τ) arg22 fullShare x20
          ∗ owns (c : Thread nD τ) arg23 fullShare x21
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ (∃ f, arg12.view.loc (c : Thread nD τ) ↦[arg12.view.set]{fullShare} arg12.view.writes (Elt F) f L10)
          ∗ (∃ f, arg13.view.loc (c : Thread nD τ) ↦[arg13.view.set]{fullShare} arg13.view.writes (Elt F) f L11)
          ∗ (∃ f, arg14.view.loc (c : Thread nD τ) ↦[arg14.view.set]{fullShare} arg14.view.writes (Elt F) f L12)
          ∗ (∃ f, arg15.view.loc (c : Thread nD τ) ↦[arg15.view.set]{fullShare} arg15.view.writes (Elt F) f L13)
          ∗ (∃ f, arg16.view.loc (c : Thread nD τ) ↦[arg16.view.set]{fullShare} arg16.view.writes (Elt F) f L14)
          ∗ owns (c : Thread nD τ) arg17 fullShare x15
          ∗ owns (c : Thread nD τ) arg18 fullShare x16
          ∗ (∃ f, arg19.view.loc (c : Thread nD τ) ↦[arg19.view.set]{fullShare} arg19.view.writes (Elt F) f L17)
          ∗ (∃ f, arg20.view.loc (c : Thread nD τ) ↦[arg20.view.set]{fullShare} arg20.view.writes (Elt F) f L18)
          ∗ (∃ f, arg21.view.loc (c : Thread nD τ) ↦[arg21.view.set]{fullShare} arg21.view.writes (Elt F) f L19)
          ∗ (∃ f, arg22.view.loc (c : Thread nD τ) ↦[arg22.view.set]{fullShare} arg22.view.writes (Elt F) f L20)
          ∗ (∃ f, arg23.view.loc (c : Thread nD τ) ↦[arg23.view.set]{fullShare} arg23.view.writes (Elt F) f L21)) -∗ K ⟨⟩))
          ⊢ wp frame (wpE (defs₀ (F := F)) Variants.none c none) E (cc0_ffn2_bwd_x i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, fun x9 x15 x16 E K => ?run⟩
  case run =>
    simp only [cc0_ffn2_bwd_x_eq_skeleton]; unfold cc0_ffn2_bwd_x_skel
    simp only [k0_part5_eq_skeleton, k0_part2_eq_skeleton, k0_part1_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%f15, %hf15, H15⟩, ⟨%f16, %hf16, H16⟩, ⟨%d17, %f17, -, H17⟩, ⟨%d18, %f18, -, H18⟩, ⟨%d19, %f19, -, H19⟩, ⟨%f20, %hf20, H20⟩, ⟨%f21, %hf21, H21⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg17.eq_unread hf15; obtain rfl := harg18.eq_unread hf16; obtain rfl := harg22.eq_unread hf20; obtain rfl := harg23.eq_unread hf21
    sl_exec (disch := first | sl_exact (h.1) | sl_exact (h.2.1) | sl_exact (h.2.2.1) | sl_exact (h.2.2.2.1) | sl_exact (h.2.2.2.2.1) | sl_exact (h.2.2.2.2.2))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]
    · iexists _; isplitr; · ipureintro; exact harg17.read_unread _
      iexact H15
    isplitl [H16]
    · iexists _; isplitr; · ipureintro; exact harg18.read_unread _
      iexact H16
    isplitl [H17]; · iexists _; iexact H17
    isplitl [H18]; · iexists _; iexact H18
    isplitl [H19]; · iexists _; iexact H19
    isplitl [H20]; · iexists _; iexact H20
    iexists _; iexact H21

end

variable (m : (ℓ : Loc nD τ sig) → Buf (Elt F) ℓ)

/-- The run at a point, over its blocks and what the point before left. -/
noncomputable def fin_D (c : Dev nD) (t : Fin cfg0.N) (h : at_D (grid0.coords t)) (p : St F) :=
  run_D c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) sc_0 (Memref.isWhole_whole _) sc_1 (Memref.isWhole_whole _) sc_2 (Memref.isWhole_whole _) sc_3 (Memref.isWhole_whole _) sc_4 (Memref.isWhole_whole _) h
    (iblk m c 0 t) (iblk m c 1 t) (iblk m c 2 t) (iblk m c 3 t) (iblk m c 4 t) (iblk m c 5 t) (iblk m c 6 t) (iblk m c 7 t) (iblk m c 8 t) p.s3 p.s4

theorem cov_D_o10 (c : Dev nD) (t : Fin cfg0.N) (h : at_D (grid0.coords t)) (p : St F) (y : S512x1024.Idx) : ∃ pc ∈ (fin_D m c t h p).1, y ∈ pc.1.set :=
  View.cover_of_tiledL (fin_D m c t h p).1 S512x1024.size (by sl_kernel_rfl) y
def out_D_o10 (c : Dev nD) (t : Fin cfg0.N) (h : at_D (grid0.coords t)) (p : St F) : Vec F S512x1024 .bf16 :=
  VO_10.read (Elt F) (VO_10.writes (Elt F) VO_10.junk (fin_D m c t h p).1)

theorem cov_D_o11 (c : Dev nD) (t : Fin cfg0.N) (h : at_D (grid0.coords t)) (p : St F) (y : S512x1024.Idx) : ∃ pc ∈ (fin_D m c t h p).2.1, y ∈ pc.1.set :=
  View.cover_of_tiledL (fin_D m c t h p).2.1 S512x1024.size (by sl_kernel_rfl) y
def out_D_o11 (c : Dev nD) (t : Fin cfg0.N) (h : at_D (grid0.coords t)) (p : St F) : Vec F S512x1024 .bf16 :=
  VO_11.read (Elt F) (VO_11.writes (Elt F) VO_11.junk (fin_D m c t h p).2.1)

theorem cov_D_o12 (c : Dev nD) (t : Fin cfg0.N) (h : at_D (grid0.coords t)) (p : St F) (y : S512x768.Idx) : ∃ pc ∈ (fin_D m c t h p).2.2.1, y ∈ pc.1.set :=
  View.cover_of_tiledL (fin_D m c t h p).2.2.1 S512x256.size (by sl_kernel_rfl) y
def out_D_o12 (c : Dev nD) (t : Fin cfg0.N) (h : at_D (grid0.coords t)) (p : St F) : Vec F S512x768 .bf16 :=
  VO_12.read (Elt F) (VO_12.writes (Elt F) VO_12.junk (fin_D m c t h p).2.2.1)

theorem cov_D_o13 (c : Dev nD) (t : Fin cfg0.N) (h : at_D (grid0.coords t)) (p : St F) (y : S512x768.Idx) : ∃ pc ∈ (fin_D m c t h p).2.2.2.1, y ∈ pc.1.set :=
  View.cover_of_tiledL (fin_D m c t h p).2.2.2.1 S512x256.size (by sl_kernel_rfl) y
def out_D_o13 (c : Dev nD) (t : Fin cfg0.N) (h : at_D (grid0.coords t)) (p : St F) : Vec F S512x768 .bf16 :=
  VO_13.read (Elt F) (VO_13.writes (Elt F) VO_13.junk (fin_D m c t h p).2.2.2.1)

theorem cov_D_o14 (c : Dev nD) (t : Fin cfg0.N) (h : at_D (grid0.coords t)) (p : St F) (y : S512x768.Idx) : ∃ pc ∈ (fin_D m c t h p).2.2.2.2.1, y ∈ pc.1.set :=
  View.cover_of_tiledL (fin_D m c t h p).2.2.2.2.1 S512x256.size (by sl_kernel_rfl) y
def out_D_o14 (c : Dev nD) (t : Fin cfg0.N) (h : at_D (grid0.coords t)) (p : St F) : Vec F S512x768 .bf16 :=
  VO_14.read (Elt F) (VO_14.writes (Elt F) VO_14.junk (fin_D m c t h p).2.2.2.2.1)

theorem cov_D_s0 (c : Dev nD) (t : Fin cfg0.N) (h : at_D (grid0.coords t)) (p : St F) (y : S512x1024.Idx) : ∃ pc ∈ (fin_D m c t h p).2.2.2.2.2.1, y ∈ pc.1.set :=
  View.cover_of_tiledL (fin_D m c t h p).2.2.2.2.2.1 S512x1024.size (by sl_kernel_rfl) y
def out_D_s0 (c : Dev nD) (t : Fin cfg0.N) (h : at_D (grid0.coords t)) (p : St F) : Vec F S512x1024 .bf16 :=
  VS_0.read (Elt F) (VS_0.writes (Elt F) VS_0.junk (fin_D m c t h p).2.2.2.2.2.1)

theorem cov_D_s1 (c : Dev nD) (t : Fin cfg0.N) (h : at_D (grid0.coords t)) (p : St F) (y : S512x1024.Idx) : ∃ pc ∈ (fin_D m c t h p).2.2.2.2.2.2.1, y ∈ pc.1.set :=
  View.cover_of_tiledL (fin_D m c t h p).2.2.2.2.2.2.1 S512x1024.size (by sl_kernel_rfl) y
def out_D_s1 (c : Dev nD) (t : Fin cfg0.N) (h : at_D (grid0.coords t)) (p : St F) : Vec F S512x1024 .f32 :=
  VS_1.read (Elt F) (VS_1.writes (Elt F) VS_1.junk (fin_D m c t h p).2.2.2.2.2.2.1)

theorem cov_D_s2 (c : Dev nD) (t : Fin cfg0.N) (h : at_D (grid0.coords t)) (p : St F) (y : S512x1024.Idx) : ∃ pc ∈ (fin_D m c t h p).2.2.2.2.2.2.2.1, y ∈ pc.1.set :=
  View.cover_of_tiledL (fin_D m c t h p).2.2.2.2.2.2.2.1 S512x1024.size (by sl_kernel_rfl) y
def out_D_s2 (c : Dev nD) (t : Fin cfg0.N) (h : at_D (grid0.coords t)) (p : St F) : Vec F S512x1024 .f32 :=
  VS_2.read (Elt F) (VS_2.writes (Elt F) VS_2.junk (fin_D m c t h p).2.2.2.2.2.2.2.1)

theorem cov_D_s3 (c : Dev nD) (t : Fin cfg0.N) (h : at_D (grid0.coords t)) (p : St F) (y : S8x1024.Idx) : ∃ pc ∈ (fin_D m c t h p).2.2.2.2.2.2.2.2.1, y ∈ pc.1.set :=
  View.cover_of_tiledL (fin_D m c t h p).2.2.2.2.2.2.2.2.1 S8x1024.size (by sl_kernel_rfl) y
def out_D_s3 (c : Dev nD) (t : Fin cfg0.N) (h : at_D (grid0.coords t)) (p : St F) : Vec F S8x1024 .f32 :=
  VS_3.read (Elt F) (VS_3.writes (Elt F) VS_3.junk (fin_D m c t h p).2.2.2.2.2.2.2.2.1)

theorem cov_D_s4 (c : Dev nD) (t : Fin cfg0.N) (h : at_D (grid0.coords t)) (p : St F) (y : S8x1024.Idx) : ∃ pc ∈ (fin_D m c t h p).2.2.2.2.2.2.2.2.2.1, y ∈ pc.1.set :=
  View.cover_of_tiledL (fin_D m c t h p).2.2.2.2.2.2.2.2.2.1 S8x1024.size (by sl_kernel_rfl) y
def out_D_s4 (c : Dev nD) (t : Fin cfg0.N) (h : at_D (grid0.coords t)) (p : St F) : Vec F S8x1024 .f32 :=
  VS_4.read (Elt F) (VS_4.writes (Elt F) VS_4.junk (fin_D m c t h p).2.2.2.2.2.2.2.2.2.1)

/-- What the first point of a later row block leaves. -/
def st_D (c : Dev nD) (t : Fin cfg0.N) (h : at_D (grid0.coords t)) (p : St F) : St F where
  o9 := p.o9
  o10 := out_D_o10 m c t h p
  o11 := out_D_o11 m c t h p
  o12 := out_D_o12 m c t h p
  o13 := out_D_o13 m c t h p
  o14 := out_D_o14 m c t h p
  o15 := p.o15
  o16 := p.o16
  s0 := out_D_s0 m c t h p
  s1 := out_D_s1 m c t h p
  s2 := out_D_s2 m c t h p
  s3 := out_D_s3 m c t h p
  s4 := out_D_s4 m c t h p

end Cert.FfnXIdeal.Run

end
-- ==== Proof.FfnXRunB.lean ====
/- The gradient kernel of the feed-forward layer at an inner point of a row block. -/
module

public import proofs.«01_k».proof.Proof.FfnXRunD

@[expose] public section

set_option maxRecDepth 16384

noncomputable section

namespace Cert.FfnXIdeal.Run

open Cert.FfnXIdeal Cert.FfnXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section

variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S512x1024 .f32) (harg4 : arg4.IsWhole)
  (arg5 : Memref sig .tc .vmem S1x768x1024 .bf16) (harg5 : arg5.IsWhole)
  (arg6 : Memref sig .tc .vmem S1x768x1024 .bf16) (harg6 : arg6.IsWhole)
  (arg7 : Memref sig .tc .vmem S1x768x1024 .bf16) (harg7 : arg7.IsWhole)
  (arg8 : Memref sig .tc .vmem S1x1024 .f32) (harg8 : arg8.IsWhole)
  (arg9 : Memref sig .tc .vmem S512x768 .bf16) (harg9 : arg9.IsWhole)
  (arg10 : Memref sig .tc .vmem S512x768 .bf16) (harg10 : arg10.IsWhole)
  (arg11 : Memref sig .tc .vmem S512x1024 .f32) (harg11 : arg11.IsWhole)
  (arg12 : Memref sig .tc .vmem S512x1024 .bf16) (harg12 : arg12.IsWhole)
  (arg13 : Memref sig .tc .vmem S512x1024 .bf16) (harg13 : arg13.IsWhole)
  (arg14 : Memref sig .tc .vmem S512x768 .bf16) (harg14 : arg14.IsWhole)
  (arg15 : Memref sig .tc .vmem S512x768 .bf16) (harg15 : arg15.IsWhole)
  (arg16 : Memref sig .tc .vmem S512x768 .bf16) (harg16 : arg16.IsWhole)
  (arg17 : Memref sig .tc .vmem S1x1024 .f32) (harg17 : arg17.IsWhole)
  (arg18 : Memref sig .tc .vmem S1x1024 .f32) (harg18 : arg18.IsWhole)
  (arg19 : Memref sig .tc .vmem S512x1024 .bf16) (harg19 : arg19.IsWhole)
  (arg20 : Memref sig .tc .vmem S512x1024 .f32) (harg20 : arg20.IsWhole)
  (arg21 : Memref sig .tc .vmem S512x1024 .f32) (harg21 : arg21.IsWhole)
  (arg22 : Memref sig .tc .vmem S8x1024 .f32) (harg22 : arg22.IsWhole)
  (arg23 : Memref sig .tc .vmem S8x1024 .f32) (harg23 : arg23.IsWhole)

set_option maxHeartbeats 1200000 in
/-- The pieces each buffer ends with, with the proof that the body, run from its inputs, ends with them. -/
noncomputable def run_B (h : at_B i)
    (x0 : Vec F S512x1024 .f32)
    (x1 : Vec F S512x1024 .f32)
    (x2 : Vec F S512x1024 .f32)
    (x3 : Vec F S1x768x1024 .bf16)
    (x4 : Vec F S1x768x1024 .bf16)
    (x5 : Vec F S1x768x1024 .bf16)
    (x6 : Vec F S1x1024 .f32)
    (x7 : Vec F S512x768 .bf16)
    (x8 : Vec F S512x768 .bf16)
    (x17 : Vec F S512x1024 .bf16)
    (x19 : Vec F S512x1024 .f32) :
    Σ' (L12 : List (View.Piece (Elt F) S512x768 .bf16)), Σ' (L13 : List (View.Piece (Elt F) S512x768 .bf16)), Σ' (L14 : List (View.Piece (Elt F) S512x768 .bf16)), { L19 : List (View.Piece (Elt F) S512x1024 .f32) //
      ∀ (x9 : Vec F S512x1024 .f32) (x10 : Vec F S512x1024 .bf16) (x11 : Vec F S512x1024 .bf16) (x15 : Vec F S1x1024 .f32) (x16 : Vec F S1x1024 .f32) (x18 : Vec F S512x1024 .f32) (x20 : Vec F S8x1024 .f32) (x21 : Vec F S8x1024 .f32) (E : Set ℕ) (K : PUnit → sProp (MT nD τ sig Unit (Elt F) ℕ (UR sig nD τ) ℕ)),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ owns (c : Thread nD τ) arg13 fullShare x11
          ∗ (∃ d, owns (c : Thread nD τ) arg14 fullShare d)
          ∗ (∃ d, owns (c : Thread nD τ) arg15 fullShare d)
          ∗ (∃ d, owns (c : Thread nD τ) arg16 fullShare d)
          ∗ owns (c : Thread nD τ) arg17 fullShare x15
          ∗ owns (c : Thread nD τ) arg18 fullShare x16
          ∗ owns (c : Thread nD τ) arg19 fullShare x17
          ∗ owns (c : Thread nD τ) arg20 fullShare x18
          ∗ owns (c : Thread nD τ) arg21 fullShare x19
          ∗ owns (c : Thread nD τ) arg22 fullShare x20
          ∗ owns (c : Thread nD τ) arg23 fullShare x21
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ owns (c : Thread nD τ) arg13 fullShare x11
          ∗ (∃ f, arg14.view.loc (c : Thread nD τ) ↦[arg14.view.set]{fullShare} arg14.view.writes (Elt F) f L12)
          ∗ (∃ f, arg15.view.loc (c : Thread nD τ) ↦[arg15.view.set]{fullShare} arg15.view.writes (Elt F) f L13)
          ∗ (∃ f, arg16.view.loc (c : Thread nD τ) ↦[arg16.view.set]{fullShare} arg16.view.writes (Elt F) f L14)
          ∗ owns (c : Thread nD τ) arg17 fullShare x15
          ∗ owns (c : Thread nD τ) arg18 fullShare x16
          ∗ owns (c : Thread nD τ) arg19 fullShare x17
          ∗ owns (c : Thread nD τ) arg20 fullShare x18
          ∗ (∃ f, arg21.view.loc (c : Thread nD τ) ↦[arg21.view.set]{fullShare} arg21.view.writes (Elt F) f L19)
          ∗ owns (c : Thread nD τ) arg22 fullShare x20
          ∗ owns (c : Thread nD τ) arg23 fullShare x21) -∗ K ⟨⟩))
          ⊢ wp frame (wpE (defs₀ (F := F)) Variants.none c none) E (cc0_ffn2_bwd_x i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, fun x9 x10 x11 x15 x16 x18 x20 x21 E K => ?run⟩
  case run =>
    simp only [cc0_ffn2_bwd_x_eq_skeleton]; unfold cc0_ffn2_bwd_x_skel
    simp only [k0_part5_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21
    sl_exec (disch := first | sl_exact (h.1) | sl_exact (h.2.1) | sl_exact (h.2.2.1) | sl_exact (h.2.2.2.1) | sl_exact (h.2.2.2.2))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]; · iexists _; iexact H19
    isplitl [H20]
    · iexists _; isplitr; · ipureintro; exact harg22.read_unread _
      iexact H20
    iexists _; isplitr; · ipureintro; exact harg23.read_unread _
    iexact H21

end

variable (m : (ℓ : Loc nD τ sig) → Buf (Elt F) ℓ)

/-- The run at a point, over its blocks and what the point before left. -/
noncomputable def fin_B (c : Dev nD) (t : Fin cfg0.N) (h : at_B (grid0.coords t)) (p : St F) :=
  run_B c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) sc_0 (Memref.isWhole_whole _) sc_1 (Memref.isWhole_whole _) sc_2 (Memref.isWhole_whole _) sc_3 (Memref.isWhole_whole _) sc_4 (Memref.isWhole_whole _) h
    (iblk m c 0 t) (iblk m c 1 t) (iblk m c 2 t) (iblk m c 3 t) (iblk m c 4 t) (iblk m c 5 t) (iblk m c 6 t) (iblk m c 7 t) (iblk m c 8 t) p.s0 p.s2

theorem cov_B_o12 (c : Dev nD) (t : Fin cfg0.N) (h : at_B (grid0.coords t)) (p : St F) (y : S512x768.Idx) : ∃ pc ∈ (fin_B m c t h p).1, y ∈ pc.1.set :=
  View.cover_of_tiledL (fin_B m c t h p).1 S512x256.size (by sl_kernel_rfl) y
def out_B_o12 (c : Dev nD) (t : Fin cfg0.N) (h : at_B (grid0.coords t)) (p : St F) : Vec F S512x768 .bf16 :=
  VO_12.read (Elt F) (VO_12.writes (Elt F) VO_12.junk (fin_B m c t h p).1)

theorem cov_B_o13 (c : Dev nD) (t : Fin cfg0.N) (h : at_B (grid0.coords t)) (p : St F) (y : S512x768.Idx) : ∃ pc ∈ (fin_B m c t h p).2.1, y ∈ pc.1.set :=
  View.cover_of_tiledL (fin_B m c t h p).2.1 S512x256.size (by sl_kernel_rfl) y
def out_B_o13 (c : Dev nD) (t : Fin cfg0.N) (h : at_B (grid0.coords t)) (p : St F) : Vec F S512x768 .bf16 :=
  VO_13.read (Elt F) (VO_13.writes (Elt F) VO_13.junk (fin_B m c t h p).2.1)

theorem cov_B_o14 (c : Dev nD) (t : Fin cfg0.N) (h : at_B (grid0.coords t)) (p : St F) (y : S512x768.Idx) : ∃ pc ∈ (fin_B m c t h p).2.2.1, y ∈ pc.1.set :=
  View.cover_of_tiledL (fin_B m c t h p).2.2.1 S512x256.size (by sl_kernel_rfl) y
def out_B_o14 (c : Dev nD) (t : Fin cfg0.N) (h : at_B (grid0.coords t)) (p : St F) : Vec F S512x768 .bf16 :=
  VO_14.read (Elt F) (VO_14.writes (Elt F) VO_14.junk (fin_B m c t h p).2.2.1)

theorem cov_B_s2 (c : Dev nD) (t : Fin cfg0.N) (h : at_B (grid0.coords t)) (p : St F) (y : S512x1024.Idx) : ∃ pc ∈ (fin_B m c t h p).2.2.2.1, y ∈ pc.1.set :=
  View.cover_of_tiledL (fin_B m c t h p).2.2.2.1 S512x1024.size (by sl_kernel_rfl) y
def out_B_s2 (c : Dev nD) (t : Fin cfg0.N) (h : at_B (grid0.coords t)) (p : St F) : Vec F S512x1024 .f32 :=
  VS_2.read (Elt F) (VS_2.writes (Elt F) VS_2.junk (fin_B m c t h p).2.2.2.1)

/-- What an inner point of a row block leaves. -/
def st_B (c : Dev nD) (t : Fin cfg0.N) (h : at_B (grid0.coords t)) (p : St F) : St F where
  o9 := p.o9
  o10 := p.o10
  o11 := p.o11
  o12 := out_B_o12 m c t h p
  o13 := out_B_o13 m c t h p
  o14 := out_B_o14 m c t h p
  o15 := p.o15
  o16 := p.o16
  s0 := p.s0
  s1 := p.s1
  s2 := out_B_s2 m c t h p
  s3 := p.s3
  s4 := p.s4

end Cert.FfnXIdeal.Run

end
-- ==== Proof.FfnXRunC.lean ====
/- The gradient kernel of the feed-forward layer at the last point of a row block that is not the last. -/
module

public import proofs.«01_k».proof.Proof.FfnXRunB

@[expose] public section

set_option maxRecDepth 16384

noncomputable section

namespace Cert.FfnXIdeal.Run

open Cert.FfnXIdeal Cert.FfnXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section

variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S512x1024 .f32) (harg4 : arg4.IsWhole)
  (arg5 : Memref sig .tc .vmem S1x768x1024 .bf16) (harg5 : arg5.IsWhole)
  (arg6 : Memref sig .tc .vmem S1x768x1024 .bf16) (harg6 : arg6.IsWhole)
  (arg7 : Memref sig .tc .vmem S1x768x1024 .bf16) (harg7 : arg7.IsWhole)
  (arg8 : Memref sig .tc .vmem S1x1024 .f32) (harg8 : arg8.IsWhole)
  (arg9 : Memref sig .tc .vmem S512x768 .bf16) (harg9 : arg9.IsWhole)
  (arg10 : Memref sig .tc .vmem S512x768 .bf16) (harg10 : arg10.IsWhole)
  (arg11 : Memref sig .tc .vmem S512x1024 .f32) (harg11 : arg11.IsWhole)
  (arg12 : Memref sig .tc .vmem S512x1024 .bf16) (harg12 : arg12.IsWhole)
  (arg13 : Memref sig .tc .vmem S512x1024 .bf16) (harg13 : arg13.IsWhole)
  (arg14 : Memref sig .tc .vmem S512x768 .bf16) (harg14 : arg14.IsWhole)
  (arg15 : Memref sig .tc .vmem S512x768 .bf16) (harg15 : arg15.IsWhole)
  (arg16 : Memref sig .tc .vmem S512x768 .bf16) (harg16 : arg16.IsWhole)
  (arg17 : Memref sig .tc .vmem S1x1024 .f32) (harg17 : arg17.IsWhole)
  (arg18 : Memref sig .tc .vmem S1x1024 .f32) (harg18 : arg18.IsWhole)
  (arg19 : Memref sig .tc .vmem S512x1024 .bf16) (harg19 : arg19.IsWhole)
  (arg20 : Memref sig .tc .vmem S512x1024 .f32) (harg20 : arg20.IsWhole)
  (arg21 : Memref sig .tc .vmem S512x1024 .f32) (harg21 : arg21.IsWhole)
  (arg22 : Memref sig .tc .vmem S8x1024 .f32) (harg22 : arg22.IsWhole)
  (arg23 : Memref sig .tc .vmem S8x1024 .f32) (harg23 : arg23.IsWhole)

set_option maxHeartbeats 1200000 in
/-- The pieces each buffer ends with, with the proof that the body, run from its inputs, ends with them. -/
noncomputable def run_C (h : at_C i)
    (x0 : Vec F S512x1024 .f32)
    (x1 : Vec F S512x1024 .f32)
    (x2 : Vec F S512x1024 .f32)
    (x3 : Vec F S1x768x1024 .bf16)
    (x4 : Vec F S1x768x1024 .bf16)
    (x5 : Vec F S1x768x1024 .bf16)
    (x6 : Vec F S1x1024 .f32)
    (x7 : Vec F S512x768 .bf16)
    (x8 : Vec F S512x768 .bf16)
    (x17 : Vec F S512x1024 .bf16)
    (x18 : Vec F S512x1024 .f32)
    (x19 : Vec F S512x1024 .f32) :
    Σ' (L9 : List (View.Piece (Elt F) S512x1024 .f32)), Σ' (L12 : List (View.Piece (Elt F) S512x768 .bf16)), Σ' (L13 : List (View.Piece (Elt F) S512x768 .bf16)), Σ' (L14 : List (View.Piece (Elt F) S512x768 .bf16)), { L19 : List (View.Piece (Elt F) S512x1024 .f32) //
      ∀ (x10 : Vec F S512x1024 .bf16) (x11 : Vec F S512x1024 .bf16) (x15 : Vec F S1x1024 .f32) (x16 : Vec F S1x1024 .f32) (x20 : Vec F S8x1024 .f32) (x21 : Vec F S8x1024 .f32) (E : Set ℕ) (K : PUnit → sProp (MT nD τ sig Unit (Elt F) ℕ (UR sig nD τ) ℕ)),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ (∃ d, owns (c : Thread nD τ) arg11 fullShare d)
          ∗ owns (c : Thread nD τ) arg12 fullShare x10
          ∗ owns (c : Thread nD τ) arg13 fullShare x11
          ∗ (∃ d, owns (c : Thread nD τ) arg14 fullShare d)
          ∗ (∃ d, owns (c : Thread nD τ) arg15 fullShare d)
          ∗ (∃ d, owns (c : Thread nD τ) arg16 fullShare d)
          ∗ owns (c : Thread nD τ) arg17 fullShare x15
          ∗ owns (c : Thread nD τ) arg18 fullShare x16
          ∗ owns (c : Thread nD τ) arg19 fullShare x17
          ∗ owns (c : Thread nD τ) arg20 fullShare x18
          ∗ owns (c : Thread nD τ) arg21 fullShare x19
          ∗ owns (c : Thread nD τ) arg22 fullShare x20
          ∗ owns (c : Thread nD τ) arg23 fullShare x21
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ (∃ f, arg11.view.loc (c : Thread nD τ) ↦[arg11.view.set]{fullShare} arg11.view.writes (Elt F) f L9)
          ∗ owns (c : Thread nD τ) arg12 fullShare x10
          ∗ owns (c : Thread nD τ) arg13 fullShare x11
          ∗ (∃ f, arg14.view.loc (c : Thread nD τ) ↦[arg14.view.set]{fullShare} arg14.view.writes (Elt F) f L12)
          ∗ (∃ f, arg15.view.loc (c : Thread nD τ) ↦[arg15.view.set]{fullShare} arg15.view.writes (Elt F) f L13)
          ∗ (∃ f, arg16.view.loc (c : Thread nD τ) ↦[arg16.view.set]{fullShare} arg16.view.writes (Elt F) f L14)
          ∗ owns (c : Thread nD τ) arg17 fullShare x15
          ∗ owns (c : Thread nD τ) arg18 fullShare x16
          ∗ owns (c : Thread nD τ) arg19 fullShare x17
          ∗ owns (c : Thread nD τ) arg20 fullShare x18
          ∗ (∃ f, arg21.view.loc (c : Thread nD τ) ↦[arg21.view.set]{fullShare} arg21.view.writes (Elt F) f L19)
          ∗ owns (c : Thread nD τ) arg22 fullShare x20
          ∗ owns (c : Thread nD τ) arg23 fullShare x21) -∗ K ⟨⟩))
          ⊢ wp frame (wpE (defs₀ (F := F)) Variants.none c none) E (cc0_ffn2_bwd_x i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, fun x10 x11 x15 x16 x20 x21 E K => ?run⟩
  case run =>
    simp only [cc0_ffn2_bwd_x_eq_skeleton]; unfold cc0_ffn2_bwd_x_skel
    simp only [k0_part5_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%d12, %f12, -, H12⟩, ⟨%d13, %f13, -, H13⟩, ⟨%d14, %f14, -, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg13.eq_unread hf11; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21
    sl_exec (disch := first | sl_exact (h.1) | sl_exact (h.2.1) | sl_exact (h.2.2.1) | sl_exact (h.2.2.2.1) | sl_exact (h.2.2.2.2))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]; · iexists _; iexact H19
    isplitl [H20]
    · iexists _; isplitr; · ipureintro; exact harg22.read_unread _
      iexact H20
    iexists _; isplitr; · ipureintro; exact harg23.read_unread _
    iexact H21

end

variable (m : (ℓ : Loc nD τ sig) → Buf (Elt F) ℓ)

/-- The run at a point, over its blocks and what the point before left. -/
noncomputable def fin_C (c : Dev nD) (t : Fin cfg0.N) (h : at_C (grid0.coords t)) (p : St F) :=
  run_C c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) sc_0 (Memref.isWhole_whole _) sc_1 (Memref.isWhole_whole _) sc_2 (Memref.isWhole_whole _) sc_3 (Memref.isWhole_whole _) sc_4 (Memref.isWhole_whole _) h
    (iblk m c 0 t) (iblk m c 1 t) (iblk m c 2 t) (iblk m c 3 t) (iblk m c 4 t) (iblk m c 5 t) (iblk m c 6 t) (iblk m c 7 t) (iblk m c 8 t) p.s0 p.s1 p.s2

theorem cov_C_o9 (c : Dev nD) (t : Fin cfg0.N) (h : at_C (grid0.coords t)) (p : St F) (y : S512x1024.Idx) : ∃ pc ∈ (fin_C m c t h p).1, y ∈ pc.1.set :=
  View.cover_of_tiledL (fin_C m c t h p).1 S512x1024.size (by sl_kernel_rfl) y
def out_C_o9 (c : Dev nD) (t : Fin cfg0.N) (h : at_C (grid0.coords t)) (p : St F) : Vec F S512x1024 .f32 :=
  VO_9.read (Elt F) (VO_9.writes (Elt F) VO_9.junk (fin_C m c t h p).1)

theorem cov_C_o12 (c : Dev nD) (t : Fin cfg0.N) (h : at_C (grid0.coords t)) (p : St F) (y : S512x768.Idx) : ∃ pc ∈ (fin_C m c t h p).2.1, y ∈ pc.1.set :=
  View.cover_of_tiledL (fin_C m c t h p).2.1 S512x256.size (by sl_kernel_rfl) y
def out_C_o12 (c : Dev nD) (t : Fin cfg0.N) (h : at_C (grid0.coords t)) (p : St F) : Vec F S512x768 .bf16 :=
  VO_12.read (Elt F) (VO_12.writes (Elt F) VO_12.junk (fin_C m c t h p).2.1)

theorem cov_C_o13 (c : Dev nD) (t : Fin cfg0.N) (h : at_C (grid0.coords t)) (p : St F) (y : S512x768.Idx) : ∃ pc ∈ (fin_C m c t h p).2.2.1, y ∈ pc.1.set :=
  View.cover_of_tiledL (fin_C m c t h p).2.2.1 S512x256.size (by sl_kernel_rfl) y
def out_C_o13 (c : Dev nD) (t : Fin cfg0.N) (h : at_C (grid0.coords t)) (p : St F) : Vec F S512x768 .bf16 :=
  VO_13.read (Elt F) (VO_13.writes (Elt F) VO_13.junk (fin_C m c t h p).2.2.1)

theorem cov_C_o14 (c : Dev nD) (t : Fin cfg0.N) (h : at_C (grid0.coords t)) (p : St F) (y : S512x768.Idx) : ∃ pc ∈ (fin_C m c t h p).2.2.2.1, y ∈ pc.1.set :=
  View.cover_of_tiledL (fin_C m c t h p).2.2.2.1 S512x256.size (by sl_kernel_rfl) y
def out_C_o14 (c : Dev nD) (t : Fin cfg0.N) (h : at_C (grid0.coords t)) (p : St F) : Vec F S512x768 .bf16 :=
  VO_14.read (Elt F) (VO_14.writes (Elt F) VO_14.junk (fin_C m c t h p).2.2.2.1)

theorem cov_C_s2 (c : Dev nD) (t : Fin cfg0.N) (h : at_C (grid0.coords t)) (p : St F) (y : S512x1024.Idx) : ∃ pc ∈ (fin_C m c t h p).2.2.2.2.1, y ∈ pc.1.set :=
  View.cover_of_tiledL (fin_C m c t h p).2.2.2.2.1 S512x1024.size (by sl_kernel_rfl) y
def out_C_s2 (c : Dev nD) (t : Fin cfg0.N) (h : at_C (grid0.coords t)) (p : St F) : Vec F S512x1024 .f32 :=
  VS_2.read (Elt F) (VS_2.writes (Elt F) VS_2.junk (fin_C m c t h p).2.2.2.2.1)

/-- What the last point of a row block that is not the last leaves. -/
def st_C (c : Dev nD) (t : Fin cfg0.N) (h : at_C (grid0.coords t)) (p : St F) : St F where
  o9 := out_C_o9 m c t h p
  o10 := p.o10
  o11 := p.o11
  o12 := out_C_o12 m c t h p
  o13 := out_C_o13 m c t h p
  o14 := out_C_o14 m c t h p
  o15 := p.o15
  o16 := p.o16
  s0 := p.s0
  s1 := p.s1
  s2 := out_C_s2 m c t h p
  s3 := p.s3
  s4 := p.s4

end Cert.FfnXIdeal.Run

end
-- ==== Proof.FfnXRunE.lean ====
/- The gradient kernel of the feed-forward layer at the last point. -/
module

public import proofs.«01_k».proof.Proof.FfnXRunC

@[expose] public section

set_option maxRecDepth 16384

noncomputable section

namespace Cert.FfnXIdeal.Run

open Cert.FfnXIdeal Cert.FfnXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section

variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S512x1024 .f32) (harg4 : arg4.IsWhole)
  (arg5 : Memref sig .tc .vmem S1x768x1024 .bf16) (harg5 : arg5.IsWhole)
  (arg6 : Memref sig .tc .vmem S1x768x1024 .bf16) (harg6 : arg6.IsWhole)
  (arg7 : Memref sig .tc .vmem S1x768x1024 .bf16) (harg7 : arg7.IsWhole)
  (arg8 : Memref sig .tc .vmem S1x1024 .f32) (harg8 : arg8.IsWhole)
  (arg9 : Memref sig .tc .vmem S512x768 .bf16) (harg9 : arg9.IsWhole)
  (arg10 : Memref sig .tc .vmem S512x768 .bf16) (harg10 : arg10.IsWhole)
  (arg11 : Memref sig .tc .vmem S512x1024 .f32) (harg11 : arg11.IsWhole)
  (arg12 : Memref sig .tc .vmem S512x1024 .bf16) (harg12 : arg12.IsWhole)
  (arg13 : Memref sig .tc .vmem S512x1024 .bf16) (harg13 : arg13.IsWhole)
  (arg14 : Memref sig .tc .vmem S512x768 .bf16) (harg14 : arg14.IsWhole)
  (arg15 : Memref sig .tc .vmem S512x768 .bf16) (harg15 : arg15.IsWhole)
  (arg16 : Memref sig .tc .vmem S512x768 .bf16) (harg16 : arg16.IsWhole)
  (arg17 : Memref sig .tc .vmem S1x1024 .f32) (harg17 : arg17.IsWhole)
  (arg18 : Memref sig .tc .vmem S1x1024 .f32) (harg18 : arg18.IsWhole)
  (arg19 : Memref sig .tc .vmem S512x1024 .bf16) (harg19 : arg19.IsWhole)
  (arg20 : Memref sig .tc .vmem S512x1024 .f32) (harg20 : arg20.IsWhole)
  (arg21 : Memref sig .tc .vmem S512x1024 .f32) (harg21 : arg21.IsWhole)
  (arg22 : Memref sig .tc .vmem S8x1024 .f32) (harg22 : arg22.IsWhole)
  (arg23 : Memref sig .tc .vmem S8x1024 .f32) (harg23 : arg23.IsWhole)

set_option maxHeartbeats 1200000 in
/-- The pieces each buffer ends with, with the proof that the body, run from its inputs, ends with them. -/
noncomputable def run_E (h : at_E i)
    (x0 : Vec F S512x1024 .f32)
    (x1 : Vec F S512x1024 .f32)
    (x2 : Vec F S512x1024 .f32)
    (x3 : Vec F S1x768x1024 .bf16)
    (x4 : Vec F S1x768x1024 .bf16)
    (x5 : Vec F S1x768x1024 .bf16)
    (x6 : Vec F S1x1024 .f32)
    (x7 : Vec F S512x768 .bf16)
    (x8 : Vec F S512x768 .bf16)
    (x17 : Vec F S512x1024 .bf16)
    (x18 : Vec F S512x1024 .f32)
    (x19 : Vec F S512x1024 .f32)
    (x20 : Vec F S8x1024 .f32)
    (x21 : Vec F S8x1024 .f32) :
    Σ' (L9 : List (View.Piece (Elt F) S512x1024 .f32)), Σ' (L12 : List (View.Piece (Elt F) S512x768 .bf16)), Σ' (L13 : List (View.Piece (Elt F) S512x768 .bf16)), Σ' (L14 : List (View.Piece (Elt F) S512x768 .bf16)), Σ' (L15 : List (View.Piece (Elt F) S1x1024 .f32)), Σ' (L16 : List (View.Piece (Elt F) S1x1024 .f32)), { L19 : List (View.Piece (Elt F) S512x1024 .f32) //
      ∀ (x10 : Vec F S512x1024 .bf16) (x11 : Vec F S512x1024 .bf16) (E : Set ℕ) (K : PUnit → sProp (MT nD τ sig Unit (Elt F) ℕ (UR sig nD τ) ℕ)),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ (∃ d, owns (c : Thread nD τ) arg11 fullShare d)
          ∗ owns (c : Thread nD τ) arg12 fullShare x10
          ∗ owns (c : Thread nD τ) arg13 fullShare x11
          ∗ (∃ d, owns (c : Thread nD τ) arg14 fullShare d)
          ∗ (∃ d, owns (c : Thread nD τ) arg15 fullShare d)
          ∗ (∃ d, owns (c : Thread nD τ) arg16 fullShare d)
          ∗ (∃ d, owns (c : Thread nD τ) arg17 fullShare d)
          ∗ (∃ d, owns (c : Thread nD τ) arg18 fullShare d)
          ∗ owns (c : Thread nD τ) arg19 fullShare x17
          ∗ owns (c : Thread nD τ) arg20 fullShare x18
          ∗ owns (c : Thread nD τ) arg21 fullShare x19
          ∗ owns (c : Thread nD τ) arg22 fullShare x20
          ∗ owns (c : Thread nD τ) arg23 fullShare x21
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ (∃ f, arg11.view.loc (c : Thread nD τ) ↦[arg11.view.set]{fullShare} arg11.view.writes (Elt F) f L9)
          ∗ owns (c : Thread nD τ) arg12 fullShare x10
          ∗ owns (c : Thread nD τ) arg13 fullShare x11
          ∗ (∃ f, arg14.view.loc (c : Thread nD τ) ↦[arg14.view.set]{fullShare} arg14.view.writes (Elt F) f L12)
          ∗ (∃ f, arg15.view.loc (c : Thread nD τ) ↦[arg15.view.set]{fullShare} arg15.view.writes (Elt F) f L13)
          ∗ (∃ f, arg16.view.loc (c : Thread nD τ) ↦[arg16.view.set]{fullShare} arg16.view.writes (Elt F) f L14)
          ∗ (∃ f, arg17.view.loc (c : Thread nD τ) ↦[arg17.view.set]{fullShare} arg17.view.writes (Elt F) f L15)
          ∗ (∃ f, arg18.view.loc (c : Thread nD τ) ↦[arg18.view.set]{fullShare} arg18.view.writes (Elt F) f L16)
          ∗ owns (c : Thread nD τ) arg19 fullShare x17
          ∗ owns (c : Thread nD τ) arg20 fullShare x18
          ∗ (∃ f, arg21.view.loc (c : Thread nD τ) ↦[arg21.view.set]{fullShare} arg21.view.writes (Elt F) f L19)
          ∗ owns (c : Thread nD τ) arg22 fullShare x20
          ∗ owns (c : Thread nD τ) arg23 fullShare x21) -∗ K ⟨⟩))
          ⊢ wp frame (wpE (defs₀ (F := F)) Variants.none c none) E (cc0_ffn2_bwd_x i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, fun x10 x11 E K => ?run⟩
  case run =>
    simp only [cc0_ffn2_bwd_x_eq_skeleton]; unfold cc0_ffn2_bwd_x_skel
    simp only [k0_part5_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%f18, %hf18, H18⟩, ⟨%f19, %hf19, H19⟩, ⟨%f20, %hf20, H20⟩, ⟨%f21, %hf21, H21⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg13.eq_unread hf11; obtain rfl := harg19.eq_unread hf17; obtain rfl := harg20.eq_unread hf18; obtain rfl := harg21.eq_unread hf19; obtain rfl := harg22.eq_unread hf20; obtain rfl := harg23.eq_unread hf21
    sl_exec (disch := first | sl_exact (h.1) | sl_exact (h.2.1) | sl_exact (h.2.2.1) | sl_exact (h.2.2.2.1) | sl_exact (h.2.2.2.2))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]
    · iexists _; isplitr; · ipureintro; exact harg19.read_unread _
      iexact H17
    isplitl [H18]
    · iexists _; isplitr; · ipureintro; exact harg20.read_unread _
      iexact H18
    isplitl [H19]; · iexists _; iexact H19
    isplitl [H20]
    · iexists _; isplitr; · ipureintro; exact harg22.read_unread _
      iexact H20
    iexists _; isplitr; · ipureintro; exact harg23.read_unread _
    iexact H21

end

variable (m : (ℓ : Loc nD τ sig) → Buf (Elt F) ℓ)

/-- The run at a point, over its blocks and what the point before left. -/
noncomputable def fin_E (c : Dev nD) (t : Fin cfg0.N) (h : at_E (grid0.coords t)) (p : St F) :=
  run_E c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) sc_0 (Memref.isWhole_whole _) sc_1 (Memref.isWhole_whole _) sc_2 (Memref.isWhole_whole _) sc_3 (Memref.isWhole_whole _) sc_4 (Memref.isWhole_whole _) h
    (iblk m c 0 t) (iblk m c 1 t) (iblk m c 2 t) (iblk m c 3 t) (iblk m c 4 t) (iblk m c 5 t) (iblk m c 6 t) (iblk m c 7 t) (iblk m c 8 t) p.s0 p.s1 p.s2 p.s3 p.s4

theorem cov_E_o9 (c : Dev nD) (t : Fin cfg0.N) (h : at_E (grid0.coords t)) (p : St F) (y : S512x1024.Idx) : ∃ pc ∈ (fin_E m c t h p).1, y ∈ pc.1.set :=
  View.cover_of_tiledL (fin_E m c t h p).1 S512x1024.size (by sl_kernel_rfl) y
def out_E_o9 (c : Dev nD) (t : Fin cfg0.N) (h : at_E (grid0.coords t)) (p : St F) : Vec F S512x1024 .f32 :=
  VO_9.read (Elt F) (VO_9.writes (Elt F) VO_9.junk (fin_E m c t h p).1)

theorem cov_E_o12 (c : Dev nD) (t : Fin cfg0.N) (h : at_E (grid0.coords t)) (p : St F) (y : S512x768.Idx) : ∃ pc ∈ (fin_E m c t h p).2.1, y ∈ pc.1.set :=
  View.cover_of_tiledL (fin_E m c t h p).2.1 S512x256.size (by sl_kernel_rfl) y
def out_E_o12 (c : Dev nD) (t : Fin cfg0.N) (h : at_E (grid0.coords t)) (p : St F) : Vec F S512x768 .bf16 :=
  VO_12.read (Elt F) (VO_12.writes (Elt F) VO_12.junk (fin_E m c t h p).2.1)

theorem cov_E_o13 (c : Dev nD) (t : Fin cfg0.N) (h : at_E (grid0.coords t)) (p : St F) (y : S512x768.Idx) : ∃ pc ∈ (fin_E m c t h p).2.2.1, y ∈ pc.1.set :=
  View.cover_of_tiledL (fin_E m c t h p).2.2.1 S512x256.size (by sl_kernel_rfl) y
def out_E_o13 (c : Dev nD) (t : Fin cfg0.N) (h : at_E (grid0.coords t)) (p : St F) : Vec F S512x768 .bf16 :=
  VO_13.read (Elt F) (VO_13.writes (Elt F) VO_13.junk (fin_E m c t h p).2.2.1)

theorem cov_E_o14 (c : Dev nD) (t : Fin cfg0.N) (h : at_E (grid0.coords t)) (p : St F) (y : S512x768.Idx) : ∃ pc ∈ (fin_E m c t h p).2.2.2.1, y ∈ pc.1.set :=
  View.cover_of_tiledL (fin_E m c t h p).2.2.2.1 S512x256.size (by sl_kernel_rfl) y
def out_E_o14 (c : Dev nD) (t : Fin cfg0.N) (h : at_E (grid0.coords t)) (p : St F) : Vec F S512x768 .bf16 :=
  VO_14.read (Elt F) (VO_14.writes (Elt F) VO_14.junk (fin_E m c t h p).2.2.2.1)

theorem cov_E_o15 (c : Dev nD) (t : Fin cfg0.N) (h : at_E (grid0.coords t)) (p : St F) (y : S1x1024.Idx) : ∃ pc ∈ (fin_E m c t h p).2.2.2.2.1, y ∈ pc.1.set :=
  View.cover_of_tiledL (fin_E m c t h p).2.2.2.2.1 S1x1024.size (by sl_kernel_rfl) y
def out_E_o15 (c : Dev nD) (t : Fin cfg0.N) (h : at_E (grid0.coords t)) (p : St F) : Vec F S1x1024 .f32 :=
  VO_15.read (Elt F) (VO_15.writes (Elt F) VO_15.junk (fin_E m c t h p).2.2.2.2.1)

theorem cov_E_o16 (c : Dev nD) (t : Fin cfg0.N) (h : at_E (grid0.coords t)) (p : St F) (y : S1x1024.Idx) : ∃ pc ∈ (fin_E m c t h p).2.2.2.2.2.1, y ∈ pc.1.set :=
  View.cover_of_tiledL (fin_E m c t h p).2.2.2.2.2.1 S1x1024.size (by sl_kernel_rfl) y
def out_E_o16 (c : Dev nD) (t : Fin cfg0.N) (h : at_E (grid0.coords t)) (p : St F) : Vec F S1x1024 .f32 :=
  VO_16.read (Elt F) (VO_16.writes (Elt F) VO_16.junk (fin_E m c t h p).2.2.2.2.2.1)

theorem cov_E_s2 (c : Dev nD) (t : Fin cfg0.N) (h : at_E (grid0.coords t)) (p : St F) (y : S512x1024.Idx) : ∃ pc ∈ (fin_E m c t h p).2.2.2.2.2.2.1, y ∈ pc.1.set :=
  View.cover_of_tiledL (fin_E m c t h p).2.2.2.2.2.2.1 S512x1024.size (by sl_kernel_rfl) y
def out_E_s2 (c : Dev nD) (t : Fin cfg0.N) (h : at_E (grid0.coords t)) (p : St F) : Vec F S512x1024 .f32 :=
  VS_2.read (Elt F) (VS_2.writes (Elt F) VS_2.junk (fin_E m c t h p).2.2.2.2.2.2.1)

/-- What the last point leaves. -/
def st_E (c : Dev nD) (t : Fin cfg0.N) (h : at_E (grid0.coords t)) (p : St F) : St F where
  o9 := out_E_o9 m c t h p
  o10 := p.o10
  o11 := p.o11
  o12 := out_E_o12 m c t h p
  o13 := out_E_o13 m c t h p
  o14 := out_E_o14 m c t h p
  o15 := out_E_o15 m c t h p
  o16 := out_E_o16 m c t h p
  s0 := p.s0
  s1 := p.s1
  s2 := out_E_s2 m c t h p
  s3 := p.s3
  s4 := p.s4

end Cert.FfnXIdeal.Run

end
-- ==== Proof.FfnXState.lean ====
/- What the buffers of the feed-forward layer's gradient kernel hold after each grid point, and the data of its pipeline. -/
module

public import proofs.«01_k».proof.Proof.FfnXRunE
public import Idealize.ShloMosaic.Lib.Claim

@[expose] public section

set_option maxRecDepth 16384

noncomputable section

namespace Cert.FfnXIdeal.Run

open Cert.FfnXIdeal Cert.FfnXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What the outputs and the scratches hold after point `n`. -/
def st (c : Dev nD) : (n : ℕ) → n < cfg0.N → St F
  | 0, hn => st_A m c ⟨0, hn⟩ (is_A ⟨0, hn⟩ rfl)
  | n + 1, hn =>
    if h0 : (n + 1) % 4 = 0 then
      st_D m c ⟨n + 1, hn⟩ (is_D ⟨n + 1, hn⟩ ⟨h0, Nat.succ_ne_zero n⟩) (st c n (Nat.lt_of_succ_lt hn))
    else if h3 : (n + 1) % 4 = 3 then
      if hl : n + 1 = 63 then st_E m c ⟨n + 1, hn⟩ (is_E ⟨n + 1, hn⟩ hl) (st c n (Nat.lt_of_succ_lt hn))
      else st_C m c ⟨n + 1, hn⟩ (is_C ⟨n + 1, hn⟩ ⟨h3, hl⟩) (st c n (Nat.lt_of_succ_lt hn))
    else st_B m c ⟨n + 1, hn⟩ (is_B ⟨n + 1, hn⟩ ⟨h0, h3⟩) (st c n (Nat.lt_of_succ_lt hn))

/-- What the point before `t` left. -/
abbrev prev (c : Dev nD) (t : Fin cfg0.N) : St F := st m c (t.val - 1) (Nat.lt_of_le_of_lt (Nat.sub_le _ _) t.isLt)

theorem st_at_A (c : Dev nD) (t : Fin cfg0.N) (h : t.val = 0) : st m c t.val t.isLt = st_A m c t (is_A t h) := by
  obtain ⟨n, hn⟩ := t
  cases n with
  | zero => rfl
  | succ n => exact absurd h (Nat.succ_ne_zero n)
theorem st_at_D (c : Dev nD) (t : Fin cfg0.N) (h : t.val % 4 = 0 ∧ t.val ≠ 0) : st m c t.val t.isLt = st_D m c t (is_D t h) (prev m c t) := by
  obtain ⟨n, hn⟩ := t
  cases n with
  | zero => exfalso; dsimp only at h; omega
  | succ n => exact (dif_pos h.1).trans rfl
theorem st_at_B (c : Dev nD) (t : Fin cfg0.N) (h : t.val % 4 ≠ 0 ∧ t.val % 4 ≠ 3) : st m c t.val t.isLt = st_B m c t (is_B t h) (prev m c t) := by
  obtain ⟨n, hn⟩ := t
  cases n with
  | zero => exfalso; dsimp only at h; omega
  | succ n => exact (dif_neg h.1).trans ((dif_neg h.2).trans rfl)
theorem st_at_C (c : Dev nD) (t : Fin cfg0.N) (h : t.val % 4 = 3 ∧ t.val ≠ 63) : st m c t.val t.isLt = st_C m c t (is_C t h) (prev m c t) := by
  obtain ⟨n, hn⟩ := t
  cases n with
  | zero => exfalso; dsimp only at h; omega
  | succ n => exact (dif_neg (by have := h.1; dsimp only at this; omega)).trans ((dif_pos h.1).trans ((dif_neg h.2).trans rfl))
theorem st_at_E (c : Dev nD) (t : Fin cfg0.N) (h : t.val = 63) : st m c t.val t.isLt = st_E m c t (is_E t h) (prev m c t) := by
  obtain ⟨n, hn⟩ := t
  cases n with
  | zero => exfalso; dsimp only at h; omega
  | succ n => exact (dif_neg (by dsimp only at h; omega)).trans ((dif_pos (by dsimp only at h; omega)).trans ((dif_pos h).trans rfl))

/-- The scratches before position `n`: at anything before the first point, then as the point before left them. -/
def held (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) sc_0 fullShare (st m c n hn).s0 ∗ owns (c : Thread nD τ) sc_1 fullShare (st m c n hn).s1 ∗ owns (c : Thread nD τ) sc_2 fullShare (st m c n hn).s2 ∗ owns (c : Thread nD τ) sc_3 fullShare (st m c n hn).s3 ∗ owns (c : Thread nD τ) sc_4 fullShare (st m c n hn).s4) ∗ (∃ r, prngReg c r))

theorem held_zero (c : Dev nD) (n : ℕ) (h : n ≤ cfg0.N) (hz : n = 0) : held m c n h = Pipeline.ΦA spec0 c := by
  subst hz; rfl
theorem held_succ (c : Dev nD) (n : ℕ) (hn : n < cfg0.N) :
    held m c (n + 1) hn = iprop(iprop(owns (c : Thread nD τ) sc_0 fullShare (st m c n hn).s0 ∗ owns (c : Thread nD τ) sc_1 fullShare (st m c n hn).s1 ∗ owns (c : Thread nD τ) sc_2 fullShare (st m c n hn).s2 ∗ owns (c : Thread nD τ) sc_3 fullShare (st m c n hn).s3 ∗ owns (c : Thread nD τ) sc_4 fullShare (st m c n hn).s4) ∗ (∃ r, prngReg c r)) := rfl
theorem held_pos (c : Dev nD) (n : ℕ) (h : n ≤ cfg0.N) (hz : n ≠ 0) :
    held m c n h = iprop(iprop(owns (c : Thread nD τ) sc_0 fullShare (st m c (n - 1) (by omega)).s0 ∗ owns (c : Thread nD τ) sc_1 fullShare (st m c (n - 1) (by omega)).s1 ∗ owns (c : Thread nD τ) sc_2 fullShare (st m c (n - 1) (by omega)).s2 ∗ owns (c : Thread nD τ) sc_3 fullShare (st m c (n - 1) (by omega)).s3 ∗ owns (c : Thread nD τ) sc_4 fullShare (st m c (n - 1) (by omega)).s4) ∗ (∃ r, prngReg c r)) := by
  cases n with
  | zero => exact absurd rfl hz
  | succ n => rfl

/-- The pipeline's data: the arrays as the region finds them, each input's block, each output's contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (st m c t.val t.isLt).o9
    | ⟨10, _⟩ => (st m c t.val t.isLt).o10
    | ⟨11, _⟩ => (st m c t.val t.isLt).o11
    | ⟨12, _⟩ => (st m c t.val t.isLt).o12
    | ⟨13, _⟩ => (st m c t.val t.isLt).o13
    | ⟨14, _⟩ => (st m c t.val t.isLt).o14
    | ⟨15, _⟩ => (st m c t.val t.isLt).o15
    | ⟨16, _⟩ => (st m c t.val t.isLt).o16
    | ⟨_ + 17, h⟩ => absurd h (Nat.not_lt.2 (Nat.le_add_left _ _))
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]
theorem held_castSucc (c : Dev nD) (t : Fin cfg0.N) :
    (dats m 0 c).Φ t.castSucc = held m c t.val (Nat.le_of_lt t.isLt) := by
  dsimp only [dats]; exact Pipeline.Dat.Φ_castSucc (held m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (st m c t.val t.isLt).o9 := by dsimp only [dats]
theorem after_10 (c : Dev nD) (t : Fin cfg0.N) : (dats m 0 c).after 10 t = (st m c t.val t.isLt).o10 := by dsimp only [dats]
theorem after_11 (c : Dev nD) (t : Fin cfg0.N) : (dats m 0 c).after 11 t = (st m c t.val t.isLt).o11 := by dsimp only [dats]
theorem after_12 (c : Dev nD) (t : Fin cfg0.N) : (dats m 0 c).after 12 t = (st m c t.val t.isLt).o12 := by dsimp only [dats]
theorem after_13 (c : Dev nD) (t : Fin cfg0.N) : (dats m 0 c).after 13 t = (st m c t.val t.isLt).o13 := by dsimp only [dats]
theorem after_14 (c : Dev nD) (t : Fin cfg0.N) : (dats m 0 c).after 14 t = (st m c t.val t.isLt).o14 := by dsimp only [dats]
theorem after_15 (c : Dev nD) (t : Fin cfg0.N) : (dats m 0 c).after 15 t = (st m c t.val t.isLt).o15 := by dsimp only [dats]
theorem after_16 (c : Dev nD) (t : Fin cfg0.N) : (dats m 0 c).after 16 t = (st m c t.val t.isLt).o16 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

theorem keep_B_10 (c : Dev nD) (t : Fin cfg0.N) (h : at_B (grid0.coords t)) (p : St F) : (st_B m c t h p).o10 = p.o10 := by
  dsimp only [st_B]
theorem keep_C_10 (c : Dev nD) (t : Fin cfg0.N) (h : at_C (grid0.coords t)) (p : St F) : (st_C m c t h p).o10 = p.o10 := by
  dsimp only [st_C]
theorem keep_E_10 (c : Dev nD) (t : Fin cfg0.N) (h : at_E (grid0.coords t)) (p : St F) : (st_E m c t h p).o10 = p.o10 := by
  dsimp only [st_E]
theorem carry_10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t _ hi _
  rw [after_10, after_10]
  dsimp only
  by_cases h0 : t.val % 4 = 0
  · rw [live_10 t h0] at hi; exact absurd hi Bool.false_ne_true
  by_cases h3 : t.val % 4 = 3
  · by_cases hl : t.val = 63
    · exact (congrArg St.o10 (st_at_E m c t hl)).trans (keep_E_10 m c t _ _)
    · exact (congrArg St.o10 (st_at_C m c t ⟨h3, hl⟩)).trans (keep_C_10 m c t _ _)
  · exact (congrArg St.o10 (st_at_B m c t ⟨h0, h3⟩)).trans (keep_B_10 m c t _ _)
/-- Away from the first point of a row block output 10's buffer holds what the point before left. -/
theorem before_10 (c : Dev nD) (t : Fin cfg0.N) (h : t.val % 4 ≠ 0) (d) : (dats m 0 c).before 10 t d = (prev m c t).o10 := by
  rw [Dat.before_out_traj _ 10 rfl (fun _ _ => rfl) (carry_10 m c) t.val t rfl d,
    if_neg (by rw [stored_10 t h]; exact Bool.false_ne_true)]
  dsimp only [dats]

theorem keep_B_11 (c : Dev nD) (t : Fin cfg0.N) (h : at_B (grid0.coords t)) (p : St F) : (st_B m c t h p).o11 = p.o11 := by
  dsimp only [st_B]
theorem keep_C_11 (c : Dev nD) (t : Fin cfg0.N) (h : at_C (grid0.coords t)) (p : St F) : (st_C m c t h p).o11 = p.o11 := by
  dsimp only [st_C]
theorem keep_E_11 (c : Dev nD) (t : Fin cfg0.N) (h : at_E (grid0.coords t)) (p : St F) : (st_E m c t h p).o11 = p.o11 := by
  dsimp only [st_E]
theorem carry_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ hi _
  rw [after_11, after_11]
  dsimp only
  by_cases h0 : t.val % 4 = 0
  · rw [live_11 t h0] at hi; exact absurd hi Bool.false_ne_true
  by_cases h3 : t.val % 4 = 3
  · by_cases hl : t.val = 63
    · exact (congrArg St.o11 (st_at_E m c t hl)).trans (keep_E_11 m c t _ _)
    · exact (congrArg St.o11 (st_at_C m c t ⟨h3, hl⟩)).trans (keep_C_11 m c t _ _)
  · exact (congrArg St.o11 (st_at_B m c t ⟨h0, h3⟩)).trans (keep_B_11 m c t _ _)
/-- Away from the first point of a row block output 11's buffer holds what the point before left. -/
theorem before_11 (c : Dev nD) (t : Fin cfg0.N) (h : t.val % 4 ≠ 0) (d) : (dats m 0 c).before 11 t d = (prev m c t).o11 := by
  rw [Dat.before_out_traj _ 11 rfl (fun _ _ => rfl) (carry_11 m c) t.val t rfl d,
    if_neg (by rw [stored_11 t h]; exact Bool.false_ne_true)]
  dsimp only [dats]

/-! ## What the body leaves in each window -/

theorem leave_0 (c : Dev nD) (t : Fin cfg0.N) : (dats m 0 c).leavesExact 0 t = owns (c : Thread nD τ) (ms_0 t) fullShare (iblk m c 0 t) :=
  (show (dats m 0 c).leavesExact 0 t = owns (c : Thread nD τ) (ms_0 t) fullShare ((dats m 0 c).after 0 t) from by
    unfold Dat.leavesExact; rw [live_0 t]).trans (by rw [after_0])
theorem leave_1 (c : Dev nD) (t : Fin cfg0.N) : (dats m 0 c).leavesExact 1 t = owns (c : Thread nD τ) (ms_1 t) fullShare (iblk m c 1 t) :=
  (show (dats m 0 c).leavesExact 1 t = owns (c : Thread nD τ) (ms_1 t) fullShare ((dats m 0 c).after 1 t) from by
    unfold Dat.leavesExact; rw [live_1 t]).trans (by rw [after_1])
theorem leave_2 (c : Dev nD) (t : Fin cfg0.N) : (dats m 0 c).leavesExact 2 t = owns (c : Thread nD τ) (ms_2 t) fullShare (iblk m c 2 t) :=
  (show (dats m 0 c).leavesExact 2 t = owns (c : Thread nD τ) (ms_2 t) fullShare ((dats m 0 c).after 2 t) from by
    unfold Dat.leavesExact; rw [live_2 t]).trans (by rw [after_2])
theorem leave_3 (c : Dev nD) (t : Fin cfg0.N) : (dats m 0 c).leavesExact 3 t = owns (c : Thread nD τ) (ms_3 t) fullShare (iblk m c 3 t) :=
  (show (dats m 0 c).leavesExact 3 t = owns (c : Thread nD τ) (ms_3 t) fullShare ((dats m 0 c).after 3 t) from by
    unfold Dat.leavesExact; rw [live_3 t]).trans (by rw [after_3])
theorem leave_4 (c : Dev nD) (t : Fin cfg0.N) : (dats m 0 c).leavesExact 4 t = owns (c : Thread nD τ) (ms_4 t) fullShare (iblk m c 4 t) :=
  (show (dats m 0 c).leavesExact 4 t = owns (c : Thread nD τ) (ms_4 t) fullShare ((dats m 0 c).after 4 t) from by
    unfold Dat.leavesExact; rw [live_4 t]).trans (by rw [after_4])
theorem leave_5 (c : Dev nD) (t : Fin cfg0.N) : (dats m 0 c).leavesExact 5 t = owns (c : Thread nD τ) (ms_5 t) fullShare (iblk m c 5 t) :=
  (show (dats m 0 c).leavesExact 5 t = owns (c : Thread nD τ) (ms_5 t) fullShare ((dats m 0 c).after 5 t) from by
    unfold Dat.leavesExact; rw [live_5 t]).trans (by rw [after_5])
theorem leave_6 (c : Dev nD) (t : Fin cfg0.N) : (dats m 0 c).leavesExact 6 t = owns (c : Thread nD τ) (ms_6 t) fullShare (iblk m c 6 t) :=
  (show (dats m 0 c).leavesExact 6 t = owns (c : Thread nD τ) (ms_6 t) fullShare ((dats m 0 c).after 6 t) from by
    unfold Dat.leavesExact; rw [live_6 t]).trans (by rw [after_6])
theorem leave_7 (c : Dev nD) (t : Fin cfg0.N) : (dats m 0 c).leavesExact 7 t = owns (c : Thread nD τ) (ms_7 t) fullShare (iblk m c 7 t) :=
  (show (dats m 0 c).leavesExact 7 t = owns (c : Thread nD τ) (ms_7 t) fullShare ((dats m 0 c).after 7 t) from by
    unfold Dat.leavesExact; rw [live_7 t]).trans (by rw [after_7])
theorem leave_8 (c : Dev nD) (t : Fin cfg0.N) : (dats m 0 c).leavesExact 8 t = owns (c : Thread nD τ) (ms_8 t) fullShare (iblk m c 8 t) :=
  (show (dats m 0 c).leavesExact 8 t = owns (c : Thread nD τ) (ms_8 t) fullShare ((dats m 0 c).after 8 t) from by
    unfold Dat.leavesExact; rw [live_8 t]).trans (by rw [after_8])
theorem leave_9 (c : Dev nD) (t : Fin cfg0.N) (h : t.val % 4 = 3) : (dats m 0 c).leavesExact 9 t = owns (c : Thread nD τ) (ms_9 t) fullShare ((st m c t.val t.isLt).o9) :=
  (show (dats m 0 c).leavesExact 9 t = owns (c : Thread nD τ) (ms_9 t) fullShare ((dats m 0 c).after 9 t) from by
    unfold Dat.leavesExact; rw [live_9 t h]).trans (by rw [after_9])
theorem free_9 (c : Dev nD) (t : Fin cfg0.N) (h : t.val % 4 ≠ 3) : (dats m 0 c).leavesExact 9 t
    = iprop(∃ d, owns (c : Thread nD τ) (ms_9 t) fullShare ((dats m 0 c).before 9 t d)) :=
  Dat.leavesExact_idle (dats m 0 c) 9 t (idle_9 t h) (keep_9 t h)
theorem leave_10 (c : Dev nD) (t : Fin cfg0.N) (h : t.val % 4 = 0) : (dats m 0 c).leavesExact 10 t = owns (c : Thread nD τ) (ms_10 t) fullShare ((st m c t.val t.isLt).o10) :=
  (show (dats m 0 c).leavesExact 10 t = owns (c : Thread nD τ) (ms_10 t) fullShare ((dats m 0 c).after 10 t) from by
    unfold Dat.leavesExact; rw [live_10 t h]).trans (by rw [after_10])
theorem flushed_10 (c : Dev nD) (t : Fin cfg0.N) (h : t.val % 4 = 3) : (dats m 0 c).leavesExact 10 t = owns (c : Thread nD τ) (ms_10 t) fullShare ((st m c t.val t.isLt).o10) :=
  (show (dats m 0 c).leavesExact 10 t = owns (c : Thread nD τ) (ms_10 t) fullShare ((dats m 0 c).after 10 t) from by
    unfold Dat.leavesExact; rw [idle_10 t (by omega), flush_10 t h]).trans (by rw [after_10])
theorem free_10 (c : Dev nD) (t : Fin cfg0.N) (h : t.val % 4 ≠ 0 ∧ t.val % 4 ≠ 3) : (dats m 0 c).leavesExact 10 t
    = iprop(∃ d, owns (c : Thread nD τ) (ms_10 t) fullShare ((dats m 0 c).before 10 t d)) :=
  Dat.leavesExact_idle (dats m 0 c) 10 t (idle_10 t h.1) (keep_10 t h.2)
theorem leave_11 (c : Dev nD) (t : Fin cfg0.N) (h : t.val % 4 = 0) : (dats m 0 c).leavesExact 11 t = owns (c : Thread nD τ) (ms_11 t) fullShare ((st m c t.val t.isLt).o11) :=
  (show (dats m 0 c).leavesExact 11 t = owns (c : Thread nD τ) (ms_11 t) fullShare ((dats m 0 c).after 11 t) from by
    unfold Dat.leavesExact; rw [live_11 t h]).trans (by rw [after_11])
theorem flushed_11 (c : Dev nD) (t : Fin cfg0.N) (h : t.val % 4 = 3) : (dats m 0 c).leavesExact 11 t = owns (c : Thread nD τ) (ms_11 t) fullShare ((st m c t.val t.isLt).o11) :=
  (show (dats m 0 c).leavesExact 11 t = owns (c : Thread nD τ) (ms_11 t) fullShare ((dats m 0 c).after 11 t) from by
    unfold Dat.leavesExact; rw [idle_11 t (by omega), flush_11 t h]).trans (by rw [after_11])
theorem free_11 (c : Dev nD) (t : Fin cfg0.N) (h : t.val % 4 ≠ 0 ∧ t.val % 4 ≠ 3) : (dats m 0 c).leavesExact 11 t
    = iprop(∃ d, owns (c : Thread nD τ) (ms_11 t) fullShare ((dats m 0 c).before 11 t d)) :=
  Dat.leavesExact_idle (dats m 0 c) 11 t (idle_11 t h.1) (keep_11 t h.2)
theorem leave_12 (c : Dev nD) (t : Fin cfg0.N) : (dats m 0 c).leavesExact 12 t = owns (c : Thread nD τ) (ms_12 t) fullShare ((st m c t.val t.isLt).o12) :=
  (show (dats m 0 c).leavesExact 12 t = owns (c : Thread nD τ) (ms_12 t) fullShare ((dats m 0 c).after 12 t) from by
    unfold Dat.leavesExact; rw [live_12 t]).trans (by rw [after_12])
theorem leave_13 (c : Dev nD) (t : Fin cfg0.N) : (dats m 0 c).leavesExact 13 t = owns (c : Thread nD τ) (ms_13 t) fullShare ((st m c t.val t.isLt).o13) :=
  (show (dats m 0 c).leavesExact 13 t = owns (c : Thread nD τ) (ms_13 t) fullShare ((dats m 0 c).after 13 t) from by
    unfold Dat.leavesExact; rw [live_13 t]).trans (by rw [after_13])
theorem leave_14 (c : Dev nD) (t : Fin cfg0.N) : (dats m 0 c).leavesExact 14 t = owns (c : Thread nD τ) (ms_14 t) fullShare ((st m c t.val t.isLt).o14) :=
  (show (dats m 0 c).leavesExact 14 t = owns (c : Thread nD τ) (ms_14 t) fullShare ((dats m 0 c).after 14 t) from by
    unfold Dat.leavesExact; rw [live_14 t]).trans (by rw [after_14])
theorem leave_15 (c : Dev nD) (t : Fin cfg0.N) (h : t.val = 63) : (dats m 0 c).leavesExact 15 t = owns (c : Thread nD τ) (ms_15 t) fullShare ((st m c t.val t.isLt).o15) :=
  (show (dats m 0 c).leavesExact 15 t = owns (c : Thread nD τ) (ms_15 t) fullShare ((dats m 0 c).after 15 t) from by
    unfold Dat.leavesExact; rw [live_15 t h]).trans (by rw [after_15])
theorem free_15 (c : Dev nD) (t : Fin cfg0.N) (h : t.val ≠ 63) : (dats m 0 c).leavesExact 15 t
    = iprop(∃ d, owns (c : Thread nD τ) (ms_15 t) fullShare ((dats m 0 c).before 15 t d)) :=
  Dat.leavesExact_idle (dats m 0 c) 15 t (idle_15 t h) (keep_15 t h)
theorem leave_16 (c : Dev nD) (t : Fin cfg0.N) (h : t.val = 63) : (dats m 0 c).leavesExact 16 t = owns (c : Thread nD τ) (ms_16 t) fullShare ((st m c t.val t.isLt).o16) :=
  (show (dats m 0 c).leavesExact 16 t = owns (c : Thread nD τ) (ms_16 t) fullShare ((dats m 0 c).after 16 t) from by
    unfold Dat.leavesExact; rw [live_16 t h]).trans (by rw [after_16])
theorem free_16 (c : Dev nD) (t : Fin cfg0.N) (h : t.val ≠ 63) : (dats m 0 c).leavesExact 16 t
    = iprop(∃ d, owns (c : Thread nD τ) (ms_16 t) fullShare ((dats m 0 c).before 16 t d)) :=
  Dat.leavesExact_idle (dats m 0 c) 16 t (idle_16 t h) (keep_16 t h)

/-- What the body is called with at a point, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare ((dats m 0 c).before 13 t d))
    ∗ (∃ d, owns (c : Thread nD τ) (ms_14 t) fullShare ((dats m 0 c).before 14 t d))
    ∗ (∃ d, owns (c : Thread nD τ) (ms_15 t) fullShare ((dats m 0 c).before 15 t d))
    ∗ (∃ d, owns (c : Thread nD τ) (ms_16 t) fullShare ((dats m 0 c).before 16 t d)))
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

end Cert.FfnXIdeal.Run

end
-- ==== Proof.FfnXSound.lean ====
/- The feed-forward layer's gradient kernel keeps its obligation at every grid point. -/
module

public import proofs.«01_k».proof.Proof.FfnXState

@[expose] public section

set_option maxRecDepth 16384

noncomputable section

namespace Cert.FfnXIdeal.Run

open Cert.FfnXIdeal Cert.FfnXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option maxHeartbeats 8000000 in
theorem sound_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = held m c (t.val + 1) t.isLt from rfl, held_succ]
  rw [leave_0 m c t, leave_1 m c t, leave_2 m c t, leave_3 m c t, leave_4 m c t, leave_5 m c t, leave_6 m c t, leave_7 m c t, leave_8 m c t, free_9 m c t (by omega), leave_10 m c t (by omega), leave_11 m c t (by omega), leave_12 m c t, leave_13 m c t, leave_14 m c t, free_15 m c t (by omega), free_16 m c t (by omega)]
  rw [held_castSucc m c t, held_zero m c _ _ h, entry_eq]
  rw [st_at_A m c t h]
  dsimp only [st_A]
  unfold out_A_o10 out_A_o11 out_A_o12 out_A_o13 out_A_o14 out_A_s0 out_A_s1 out_A_s2 out_A_s3 out_A_s4
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((fin_A m c t (is_A t h)).2.2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexact H15
  isplitl [H16]; · iexact H16
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, ⟨%e10, H10⟩, ⟨%e11, H11⟩, ⟨%e12, H12⟩, ⟨%e13, H13⟩, ⟨%e14, H14⟩, H15, H16, ⟨%e17, HS0⟩, ⟨%e18, HS1⟩, ⟨%e19, HS2⟩, ⟨%e20, HS3⟩, ⟨%e21, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (cov_A_s0 m c t _)
      isplitl [HS1]
      · unfold owns; iexists _; isplitr
        swap; · iexact HS1
        ipureintro; exact View.read_writes_of_cover _ _ _ _ _ (cov_A_s1 m c t _)
      isplitl [HS2]
      · unfold owns; iexists _; isplitr
        swap; · iexact HS2
        ipureintro; exact View.read_writes_of_cover _ _ _ _ _ (cov_A_s2 m c t _)
      isplitl [HS3]
      · unfold owns; iexists _; isplitr
        swap; · iexact HS3
        ipureintro; exact View.read_writes_of_cover _ _ _ _ _ (cov_A_s3 m c t _)
      unfold owns; iexists _; isplitr
      swap; · iexact HS4
      ipureintro; exact View.read_writes_of_cover _ _ _ _ _ (cov_A_s4 m c t _)
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexists _; iexact H9
  isplitl [H10]
  · unfold owns; iexists _; isplitr
    swap; · iexact H10
    ipureintro; exact View.read_writes_of_cover _ _ _ _ _ (cov_A_o10 m c t _)
  isplitl [H11]
  · unfold owns; iexists _; isplitr
    swap; · iexact H11
    ipureintro; exact View.read_writes_of_cover _ _ _ _ _ (cov_A_o11 m c t _)
  isplitl [H12]
  · unfold owns; iexists _; isplitr
    swap; · iexact H12
    ipureintro; exact View.read_writes_of_cover _ _ _ _ _ (cov_A_o12 m c t _)
  isplitl [H13]
  · unfold owns; iexists _; isplitr
    swap; · iexact H13
    ipureintro; exact View.read_writes_of_cover _ _ _ _ _ (cov_A_o13 m c t _)
  isplitl [H14]
  · unfold owns; iexists _; isplitr
    swap; · iexact H14
    ipureintro; exact View.read_writes_of_cover _ _ _ _ _ (cov_A_o14 m c t _)
  isplitl [H15]
  · iexists _; iexact H15
  iexists _; iexact H16

set_option maxHeartbeats 8000000 in
theorem sound_D (c : Dev nD) (t : Fin cfg0.N) (h : t.val % 4 = 0 ∧ t.val ≠ 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = held m c (t.val + 1) t.isLt from rfl, held_succ]
  rw [leave_0 m c t, leave_1 m c t, leave_2 m c t, leave_3 m c t, leave_4 m c t, leave_5 m c t, leave_6 m c t, leave_7 m c t, leave_8 m c t, free_9 m c t (by omega), leave_10 m c t (by omega), leave_11 m c t (by omega), leave_12 m c t, leave_13 m c t, leave_14 m c t, free_15 m c t (by omega), free_16 m c t (by omega)]
  rw [held_castSucc m c t, held_pos m c _ _ (by omega)]
  rw [st_at_D m c t h]
  dsimp only [st_D]
  unfold out_D_o10 out_D_o11 out_D_o12 out_D_o13 out_D_o14 out_D_s0 out_D_s1 out_D_s2 out_D_s3 out_D_s4
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((fin_D m c t (is_D t h) (prev m c t)).2.2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexact H15
  isplitl [H16]; · iexact H16
  isplitl [HS0]; · iexists _; iexact HS0
  isplitl [HS1]; · iexists _; iexact HS1
  isplitl [HS2]; · iexists _; iexact HS2
  isplitl [HS3]; · iexact HS3
  isplitl [HS4]; · iexact HS4
  iintro ⟨H0, H1, H2, H3, H4, H5, H6, H7, H8, H9, ⟨%e10, H10⟩, ⟨%e11, H11⟩, ⟨%e12, H12⟩, ⟨%e13, H13⟩, ⟨%e14, H14⟩, H15, H16, ⟨%e17, HS0⟩, ⟨%e18, HS1⟩, ⟨%e19, HS2⟩, ⟨%e20, HS3⟩, ⟨%e21, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (cov_D_s0 m c t _ _)
      isplitl [HS1]
      · unfold owns; iexists _; isplitr
        swap; · iexact HS1
        ipureintro; exact View.read_writes_of_cover _ _ _ _ _ (cov_D_s1 m c t _ _)
      isplitl [HS2]
      · unfold owns; iexists _; isplitr
        swap; · iexact HS2
        ipureintro; exact View.read_writes_of_cover _ _ _ _ _ (cov_D_s2 m c t _ _)
      isplitl [HS3]
      · unfold owns; iexists _; isplitr
        swap; · iexact HS3
        ipureintro; exact View.read_writes_of_cover _ _ _ _ _ (cov_D_s3 m c t _ _)
      unfold owns; iexists _; isplitr
      swap; · iexact HS4
      ipureintro; exact View.read_writes_of_cover _ _ _ _ _ (cov_D_s4 m c t _ _)
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexists _; iexact H9
  isplitl [H10]
  · unfold owns; iexists _; isplitr
    swap; · iexact H10
    ipureintro; exact View.read_writes_of_cover _ _ _ _ _ (cov_D_o10 m c t _ _)
  isplitl [H11]
  · unfold owns; iexists _; isplitr
    swap; · iexact H11
    ipureintro; exact View.read_writes_of_cover _ _ _ _ _ (cov_D_o11 m c t _ _)
  isplitl [H12]
  · unfold owns; iexists _; isplitr
    swap; · iexact H12
    ipureintro; exact View.read_writes_of_cover _ _ _ _ _ (cov_D_o12 m c t _ _)
  isplitl [H13]
  · unfold owns; iexists _; isplitr
    swap; · iexact H13
    ipureintro; exact View.read_writes_of_cover _ _ _ _ _ (cov_D_o13 m c t _ _)
  isplitl [H14]
  · unfold owns; iexists _; isplitr
    swap; · iexact H14
    ipureintro; exact View.read_writes_of_cover _ _ _ _ _ (cov_D_o14 m c t _ _)
  isplitl [H15]
  · iexists _; iexact H15
  iexists _; iexact H16

set_option maxHeartbeats 8000000 in
theorem sound_B (c : Dev nD) (t : Fin cfg0.N) (h : t.val % 4 ≠ 0 ∧ t.val % 4 ≠ 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = held m c (t.val + 1) t.isLt from rfl, held_succ]
  rw [leave_0 m c t, leave_1 m c t, leave_2 m c t, leave_3 m c t, leave_4 m c t, leave_5 m c t, leave_6 m c t, leave_7 m c t, leave_8 m c t, free_9 m c t (by omega), free_10 m c t (by omega), free_11 m c t (by omega), leave_12 m c t, leave_13 m c t, leave_14 m c t, free_15 m c t (by omega), free_16 m c t (by omega)]
  rw [held_castSucc m c t, held_pos m c _ _ (by omega)]
  rw [st_at_B m c t h]
  dsimp only [st_B]
  unfold out_B_o12 out_B_o13 out_B_o14 out_B_s2
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((fin_B m c t (is_B t h) (prev m c t)).2.2.2.2 _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexact H15
  isplitl [H16]; · iexact H16
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, ⟨%e12, H12⟩, ⟨%e13, H13⟩, ⟨%e14, H14⟩, H15, H16, HS0, HS1, ⟨%e19, HS2⟩, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · unfold owns; iexists _; isplitr
        swap; · iexact HS2
        ipureintro; exact View.read_writes_of_cover _ _ _ _ _ (cov_B_s2 m c t _ _)
      isplitl [HS3]
      · iexact HS3
      iexact HS4
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexists _; iexact H9
  isplitl [H10]
  · iexists _; iexact H10
  isplitl [H11]
  · iexists _; iexact H11
  isplitl [H12]
  · unfold owns; iexists _; isplitr
    swap; · iexact H12
    ipureintro; exact View.read_writes_of_cover _ _ _ _ _ (cov_B_o12 m c t _ _)
  isplitl [H13]
  · unfold owns; iexists _; isplitr
    swap; · iexact H13
    ipureintro; exact View.read_writes_of_cover _ _ _ _ _ (cov_B_o13 m c t _ _)
  isplitl [H14]
  · unfold owns; iexists _; isplitr
    swap; · iexact H14
    ipureintro; exact View.read_writes_of_cover _ _ _ _ _ (cov_B_o14 m c t _ _)
  isplitl [H15]
  · iexists _; iexact H15
  iexists _; iexact H16

set_option maxHeartbeats 8000000 in
theorem sound_C (c : Dev nD) (t : Fin cfg0.N) (h : t.val % 4 = 3 ∧ t.val ≠ 63) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = held m c (t.val + 1) t.isLt from rfl, held_succ]
  rw [leave_0 m c t, leave_1 m c t, leave_2 m c t, leave_3 m c t, leave_4 m c t, leave_5 m c t, leave_6 m c t, leave_7 m c t, leave_8 m c t, leave_9 m c t (by omega), flushed_10 m c t (by omega), flushed_11 m c t (by omega), leave_12 m c t, leave_13 m c t, leave_14 m c t, free_15 m c t (by omega), free_16 m c t (by omega)]
  rw [held_castSucc m c t, held_pos m c _ _ (by omega)]
  rw [st_at_C m c t h]
  simp only [before_10 m c t (by omega), before_11 m c t (by omega)]
  dsimp only [st_C]
  unfold out_C_o9 out_C_o12 out_C_o13 out_C_o14 out_C_s2
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((fin_C m c t (is_C t h) (prev m c t)).2.2.2.2.2 _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexists _; iexact H12
  isplitl [H13]; · iexists _; iexact H13
  isplitl [H14]; · iexists _; iexact H14
  isplitl [H15]; · iexact H15
  isplitl [H16]; · iexact H16
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, ⟨%e9, H9⟩, H10, H11, ⟨%e12, H12⟩, ⟨%e13, H13⟩, ⟨%e14, H14⟩, H15, H16, HS0, HS1, ⟨%e19, HS2⟩, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · unfold owns; iexists _; isplitr
        swap; · iexact HS2
        ipureintro; exact View.read_writes_of_cover _ _ _ _ _ (cov_C_s2 m c t _ _)
      isplitl [HS3]
      · iexact HS3
      iexact HS4
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · unfold owns; iexists _; isplitr
    swap; · iexact H9
    ipureintro; exact View.read_writes_of_cover _ _ _ _ _ (cov_C_o9 m c t _ _)
  isplitl [H10]
  · iexact H10
  isplitl [H11]
  · iexact H11
  isplitl [H12]
  · unfold owns; iexists _; isplitr
    swap; · iexact H12
    ipureintro; exact View.read_writes_of_cover _ _ _ _ _ (cov_C_o12 m c t _ _)
  isplitl [H13]
  · unfold owns; iexists _; isplitr
    swap; · iexact H13
    ipureintro; exact View.read_writes_of_cover _ _ _ _ _ (cov_C_o13 m c t _ _)
  isplitl [H14]
  · unfold owns; iexists _; isplitr
    swap; · iexact H14
    ipureintro; exact View.read_writes_of_cover _ _ _ _ _ (cov_C_o14 m c t _ _)
  isplitl [H15]
  · iexists _; iexact H15
  iexists _; iexact H16

set_option maxHeartbeats 8000000 in
theorem sound_E (c : Dev nD) (t : Fin cfg0.N) (h : t.val = 63) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = held m c (t.val + 1) t.isLt from rfl, held_succ]
  rw [leave_0 m c t, leave_1 m c t, leave_2 m c t, leave_3 m c t, leave_4 m c t, leave_5 m c t, leave_6 m c t, leave_7 m c t, leave_8 m c t, leave_9 m c t (by omega), flushed_10 m c t (by omega), flushed_11 m c t (by omega), leave_12 m c t, leave_13 m c t, leave_14 m c t, leave_15 m c t (by omega), leave_16 m c t (by omega)]
  rw [held_castSucc m c t, held_pos m c _ _ (by omega)]
  rw [st_at_E m c t h]
  simp only [before_10 m c t (by omega), before_11 m c t (by omega)]
  dsimp only [st_E]
  unfold out_E_o9 out_E_o12 out_E_o13 out_E_o14 out_E_o15 out_E_o16 out_E_s2
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((fin_E m c t (is_E t h) (prev m c t)).2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, ⟨%e9, H9⟩, H10, H11, ⟨%e12, H12⟩, ⟨%e13, H13⟩, ⟨%e14, H14⟩, ⟨%e15, H15⟩, ⟨%e16, H16⟩, HS0, HS1, ⟨%e19, HS2⟩, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · unfold owns; iexists _; isplitr
        swap; · iexact HS2
        ipureintro; exact View.read_writes_of_cover _ _ _ _ _ (cov_E_s2 m c t _ _)
      isplitl [HS3]
      · iexact HS3
      iexact HS4
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · unfold owns; iexists _; isplitr
    swap; · iexact H9
    ipureintro; exact View.read_writes_of_cover _ _ _ _ _ (cov_E_o9 m c t _ _)
  isplitl [H10]
  · iexact H10
  isplitl [H11]
  · iexact H11
  isplitl [H12]
  · unfold owns; iexists _; isplitr
    swap; · iexact H12
    ipureintro; exact View.read_writes_of_cover _ _ _ _ _ (cov_E_o12 m c t _ _)
  isplitl [H13]
  · unfold owns; iexists _; isplitr
    swap; · iexact H13
    ipureintro; exact View.read_writes_of_cover _ _ _ _ _ (cov_E_o13 m c t _ _)
  isplitl [H14]
  · unfold owns; iexists _; isplitr
    swap; · iexact H14
    ipureintro; exact View.read_writes_of_cover _ _ _ _ _ (cov_E_o14 m c t _ _)
  isplitl [H15]
  · unfold owns; iexists _; isplitr
    swap; · iexact H15
    ipureintro; exact View.read_writes_of_cover _ _ _ _ _ (cov_E_o15 m c t _ _)
  unfold owns; iexists _; isplitr
  swap; · iexact H16
  ipureintro; exact View.read_writes_of_cover _ _ _ _ _ (cov_E_o16 m c t _ _)

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · by_cases hz : t.val = 0
    · exact sound_A m c t hz
    · exact sound_D m c t ⟨h0, hz⟩
  by_cases h3 : t.val % 4 = 3
  · by_cases hl : t.val = 63
    · exact sound_E m c t hl
    · exact sound_C m c t ⟨h3, hl⟩
  · exact sound_B m c t ⟨h0, h3⟩

end Cert.FfnXIdeal.Run

end
-- ==== Proof.FfnXFrame.lean ====
/- The feed-forward layer's gradient call ends with its arguments unchanged, over any values. -/
module

public import proofs.«01_k».proof.Defs
public import proofs.«01_k».proof.Proof.FfnXSound
public import proofs.«01_k».proof.Proof.Gen.FfnX

@[expose] public section

set_option maxRecDepth 16384

noncomputable section

namespace Cert.FfnXIdeal.Run

open Cert.FfnXIdeal Cert.FfnXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem row_eq (t : Fin cfg0.N) : defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, row_eq]
  exact triple_restated (sound_body m c t) rfl .rfl fun _ => .rfl

theorem enter (c : Dev nD) : Pipeline.ΦA spec0 c ⊢ (dats m 0 c).Φ 0 := by
  rw [show (dats m 0 c).Φ 0 = held m c 0 (Nat.zero_le _) from rfl, held_zero m c 0 _ rfl]
  try exact Idealize.SL.BI.Entails.refl _

theorem leave (c : Dev nD) : (dats m 0 c).Φ (Fin.last cfg0.N) ⊢ Pipeline.ΦA spec0 c := by
  rw [show (dats m 0 c).Φ (Fin.last cfg0.N) = held m c cfg0.N (le_refl _) from rfl,
    held_pos m c _ _ (by have : cfg0.N = 64 := N_0; omega), entry_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

set_option backward.isDefEq.respectTransparency.types false in
theorem run_counters : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := A_eq m) (hin := enter m) (hout := leave m)

/-- Every run ends with every array of the pipeline at what its data give. -/
theorem run : θ_run defs (onTc (τ := τ) (main (F := F))) (s₀ m ρ) (Pipeline.FramePost cfgs (dats m) 0 (V m)) :=
  (θ_run defs _ _).mono (fun _ h => h.1) (run_counters m ρ)

/-- Every run ends, with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) :=
  θ_run_and (frame_of m ρ (dats m) (A_eq m) (run m ρ)) ((θ_run defs _ _).mono (fun _ h => h.2) (run_counters m ρ))

/-! ## The program before its idealization has the same text -/

/-- The statement of `frame` over machine words. -/
def FrameBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0)

theorem frame_words : FrameBits := fun m ρ _ => frame (F := Bits) m ρ

theorem same_claim : FrameBits = Cert.quiescent_FfnX (hFfnX := Cert.FfnX.Gen.facts) := by
  sl_kernel_rfl

theorem frame_bits : Cert.quiescent_FfnX (hFfnX := Cert.FfnX.Gen.facts) := same_claim.mp frame_words

end Cert.FfnXIdeal.Run

end
-- ==== Proof.FfnXMath.lean ====
/- The gradient of the feed-forward layer, row by row: the kernel's form and the chain rule's form on real rows. -/
module

public import proofs.«01_k».proof.Proof.LnMath

@[expose] public section

noncomputable section

namespace Cert.FfnXMath

open Idealize.ShloMosaic Cert.FfnMath Cert.LnMath

/-- One, as the programs write it. -/
abbrev one : EReal := Ideal.ofBits .f32 0x3F800000#32

theorem one_eq : one = ((1 : ℝ) : EReal) := by
  simp [one, Ideal.ofBits, Ideal.ieee, -EReal.coe_mul]
  norm_num

/-- A row of the input times a weight with 2816 columns. -/
def prod (x : Fin 1024 → EReal) (W : Fin 1024 → Fin 2816 → EReal) (n : Fin 2816) : EReal := ∑ k, x k * W k n

/-- The row the norm is taken of. -/
def pre (x : Fin 1024 → EReal) (A U : Fin 1024 → Fin 2816 → EReal) (D : Fin 2816 → Fin 1024 → EReal) (e : Fin 1024) : EReal :=
  alpha * x e + half * ∑ n, act (prod x A n) (prod x U n) * D n e

/-- The gradient of the hidden row, from the gradient `d` of the row before the norm. -/
def hid (d : Fin 1024 → EReal) (D : Fin 2816 → Fin 1024 → EReal) (n : Fin 2816) : EReal := ∑ k, half * d k * D n k

/-- The gradient of the gate's product, in the kernel's form and in the chain rule's; and the gradient of the other product. -/
def gate (a b t : EReal) : EReal := t * b * (Ideal.logistic a * (one + a * (one - Ideal.logistic a)))
def gateChain (a b t : EReal) : EReal :=
  t * b * Ideal.logistic a + a * (t * b) * (Ideal.logistic a * (one - Ideal.logistic a))
def up (a t : EReal) : EReal := t * (a * Ideal.logistic a)

/-- The gradient of the input row. -/
def back (d : Fin 1024 → EReal) (p q : Fin 2816 → EReal) (A U : Fin 1024 → Fin 2816 → EReal) (e : Fin 1024) : EReal :=
  alpha * d e + (∑ n, p n * A e n + ∑ n, q n * U e n)

/-! ## Real values -/

/-- The value is a real. -/
def IsReal (x : EReal) : Prop := ∃ r : ℝ, x = (r : EReal)

theorem IsReal.coe (r : ℝ) : IsReal (r : EReal) := ⟨r, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum {ι : Type} [Fintype ι] (f : ι → EReal) (h : ∀ i, IsReal (f i)) : IsReal (∑ i, f i) := by
  induction (Finset.univ : Finset ι) using Finset.cons_induction with
  | empty => exact ⟨0, by simp⟩
  | cons a s ha ih => rw [Finset.sum_cons]; exact (h a).add ih

theorem IsReal.logistic {x : EReal} (hx : IsReal x) : IsReal (Ideal.logistic x) := by
  obtain ⟨a, rfl⟩ := hx
  exact ⟨_, Ideal.logistic_coe a⟩

theorem IsReal.half : IsReal half := ⟨_, half_eq⟩

theorem IsReal.alpha : IsReal alpha := by
  refine ⟨9975792 * (1 / 8388608), ?_⟩
  simp [FfnMath.alpha, Ideal.ofBits, Ideal.ieee, -EReal.coe_mul]
  norm_num

theorem IsReal.toReal {x : EReal} (hx : IsReal x) : ((x.toReal : ℝ) : EReal) = x := by
  obtain ⟨a, rfl⟩ := hx
  rw [EReal.toReal_coe]

theorem IsReal.of_toReal {x : EReal} (hx : ((x.toReal : ℝ) : EReal) = x) : IsReal x := ⟨_, hx.symm⟩

theorem IsReal.act {a b : EReal} (ha : IsReal a) (hb : IsReal b) : IsReal (act a b) := (ha.mul ha.logistic).mul hb

theorem IsReal.prod {x : Fin 1024 → EReal} {W : Fin 1024 → Fin 2816 → EReal} (hx : ∀ k, IsReal (x k)) (hW : ∀ k n, IsReal (W k n))
    (n : Fin 2816) : IsReal (prod x W n) := IsReal.sum _ fun k => (hx k).mul (hW k n)

theorem IsReal.pre {x : Fin 1024 → EReal} {A U : Fin 1024 → Fin 2816 → EReal} {D : Fin 2816 → Fin 1024 → EReal}
    (hx : ∀ k, IsReal (x k)) (hA : ∀ k n, IsReal (A k n)) (hU : ∀ k n, IsReal (U k n)) (hD : ∀ n k, IsReal (D n k)) (e : Fin 1024) :
    IsReal (pre x A U D e) :=
  (IsReal.alpha.mul (hx e)).add (IsReal.half.mul (IsReal.sum _ fun n => ((IsReal.prod hx hA n).act (IsReal.prod hx hU n)).mul (hD n e)))

theorem IsReal.closed {d u : Fin 1024 → EReal} (hd : ∀ k, IsReal (d k)) (hu : ∀ k, IsReal (u k)) (e : Fin 1024) : IsReal (closed d u e) := by
  choose a ha using hd
  choose b hb using hu
  obtain rfl := funext ha
  obtain rfl := funext hb
  obtain ⟨s, v, hv, hs, h1, h2⟩ := rstd_coe b
  simp only [LnMath.closed, xhat, h1, mean_coe, ← EReal.coe_sub, ← EReal.coe_mul]
  exact IsReal.coe _

theorem IsReal.hid {d : Fin 1024 → EReal} {D : Fin 2816 → Fin 1024 → EReal} (hd : ∀ k, IsReal (d k)) (hD : ∀ n k, IsReal (D n k))
    (n : Fin 2816) : IsReal (hid d D n) := IsReal.sum _ fun k => (IsReal.half.mul (hd k)).mul (hD n k)

/-- On reals the two forms of the gate's gradient agree. -/
theorem gate_eq {a b t : EReal} (ha : IsReal a) (hb : IsReal b) (ht : IsReal t) : gate a b t = gateChain a b t := by
  obtain ⟨s, hs⟩ := ha.logistic
  obtain ⟨a, rfl⟩ := ha
  obtain ⟨b, rfl⟩ := hb
  obtain ⟨t, rfl⟩ := ht
  rw [gate, gateChain, hs, one_eq]
  simp only [← EReal.coe_mul, ← EReal.coe_sub, ← EReal.coe_add]
  exact congrArg _ (by ring)

/-! ## Padded columns -/

theorem gate_padded (f g h : Fin 2816 → EReal) (l : Fin 3072) :
    gate (padded f l) (padded g l) (padded h l) = padded (fun n => gate (f n) (g n) (h n)) l := by
  unfold padded
  split
  · rfl
  · rw [gate, mul_zero, zero_mul]

theorem up_padded (f h : Fin 2816 → EReal) (l : Fin 3072) : up (padded f l) (padded h l) = padded (fun n => up (f n) (h n)) l := by
  unfold padded
  split
  · rfl
  · rw [up, zero_mul]

theorem act_padded' (f g : Fin 2816 → EReal) (l : Fin 3072) : act (padded f l) (padded g l) = padded (fun n => act (f n) (g n)) l := by
  unfold padded
  split
  · rfl
  · rw [act, mul_zero]

theorem mul_padded (f g : Fin 2816 → EReal) (l : Fin 3072) : padded f l * padded g l = padded (fun n => f n * g n) l := by
  unfold padded
  split
  · rfl
  · rw [mul_zero]

/-- A row's sum over its padded blocks, two terms at a time. -/
theorem sum_two (f g : Fin 2816 → EReal) :
    ∑ p : Fin 4, (∑ c : Fin 768, padded f (pos p c) + ∑ c : Fin 768, padded g (pos p c)) = ∑ n, f n + ∑ n, g n := by
  rw [Finset.sum_add_distrib, sum_blocks, sum_blocks]

/-- Column `c` of third `j` of a block. -/
abbrev third (j : Fin 3) (c : Fin 256) : Fin 768 := ⟨j.val * 256 + c.val, by omega⟩

theorem sum_thirds (f g : Fin 768 → EReal) :
    ((∑ c, f (third 0 c) + ∑ c, g (third 0 c)) + (∑ c, f (third 1 c) + ∑ c, g (third 1 c)))
      + (∑ c, f (third 2 c) + ∑ c, g (third 2 c)) = ∑ q, f q + ∑ q, g q := by
  have h : ∀ f : Fin 768 → EReal, ∑ q, f q = ∑ c, f (third 0 c) + ∑ c, f (third 1 c) + ∑ c, f (third 2 c) := fun f => by
    have h1 : ∑ j : Fin 3, ∑ c : Fin 256, f (third j c) = ∑ q, f q :=
      Fin.sum_mul_add_congr (S := 3) (n := 256) fun _ _ _ => rfl
    rw [← h1, Fin.sum_univ_three]
  rw [h f, h g]
  abel

/-- Row `q * 8 + s` of a block of 512. -/
abbrev sub8 (q : Fin 64) (s : Fin 8) : Fin 512 := ⟨q.val * 8 + s.val, by omega⟩

theorem sum_rows (F : Fin 8192 → EReal) :
    ∑ s : Fin 8, ∑ t : Fin 16, ∑ q : Fin 64, F ⟨t.val * 512 + (sub8 q s).val, by omega⟩ = ∑ i, F i := by
  rw [Finset.sum_comm]
  have h1 : ∑ t : Fin 16, ∑ r : Fin 512, F ⟨t.val * 512 + r.val, by omega⟩ = ∑ i, F i :=
    Fin.sum_mul_add_congr (S := 16) (n := 512) fun _ _ _ => rfl
  rw [← h1]
  refine Finset.sum_congr rfl fun t _ => ?_
  rw [Finset.sum_comm]
  exact Fin.sum_mul_add_congr (S := 64) (n := 8) (f := fun r : Fin 512 => F ⟨t.val * 512 + r.val, by omega⟩) fun _ _ _ => rfl

end Cert.FfnXMath

end
-- ==== Proof.FfnXBlock.lean ====
/- What one grid point of the feed-forward layer's gradient call computes from its blocks. -/
module

public import proofs.«01_k».proof.Proof.Gen.FfnXIdeal.Frame
public import proofs.«01_k».proof.Proof.Gen.FfnXIdeal.Skeleton
public import proofs.«01_k».proof.Proof.FfnXMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnXIdeal.Blocks

open Cert.FfnXIdeal Cert.FfnXIdeal.Gen Cert.FfnMath Cert.LnMath Cert.FfnXMath Idealize.ShloMosaic Idealize.ShloMosaic.TcCoe Idealize.SL.Sem

/-- The rows of a block and their cotangents. -/
abbrev rowOf (U : Vec Ideal S512x1024 .f32) (r : Fin 512) : Fin 1024 → EReal := fun j => U (ix2 r j)
abbrev cotOf (Y : Vec Ideal S512x1024 .f32) (G : Vec Ideal S1x1024 .f32) (r : Fin 512) : Fin 1024 → EReal :=
  fun j => Y (ix2 r j) * G (ix2 0 j)

theorem pay6_apply (Y U : Vec Ideal S512x1024 .f32) (G : Vec Ideal S1x1024 .f32) (r : Fin 512) (e : Fin 1024) :
    k0_pay6 Y U G (ix2 r e) = closed (cotOf Y G r) (rowOf U r) e := by
  pointwise [k0_pay6, k0_pay5, k0_pay4, k0_pay3, closed, xhat, rstd, var, mean]

theorem pay7_apply (Y U : Vec Ideal S512x1024 .f32) (G : Vec Ideal S1x1024 .f32) (r : Fin 512) (e : Fin 1024) :
    k0_pay7 Y U G (ix2 r e) = closed (cotOf Y G r) (rowOf U r) e := by
  refine Eq.trans ?_ (pay6_apply Y U G r e)
  pointwise [k0_pay7]

theorem pay8_apply (d : Vec Ideal S512x1024 .f32) (r : Fin 512) (e : Fin 1024) :
    k0_pay8 (F := Ideal) d (ix2 r e) = half * d (ix2 r e) := by
  pointwise [k0_pay8]

theorem pay9_apply (X : Vec Ideal S512x1024 .f32) (r : Fin 512) (e : Fin 1024) : k0_pay9 X (ix2 r e) = X (ix2 r e) := by
  pointwise [k0_pay9]

/-- What a block adds to the eight rows of partial sums, of the norm's weight's gradient and of its bias's. -/
def partG (Y U : Vec Ideal S512x1024 .f32) (s : Fin 8) (e : Fin 1024) : EReal :=
  ∑ q : Fin 64, Y (ix2 (sub8 q s) e) * xhat (rowOf U (sub8 q s)) e
def partB (Y : Vec Ideal S512x1024 .f32) (s : Fin 8) (e : Fin 1024) : EReal := ∑ q : Fin 64, Y (ix2 (sub8 q s) e)

theorem pay10_apply (y : S8x1024.Idx) : (k0_pay10 : FVec Ideal S8x1024 .f32) y = 0 := by
  pointwise [k0_pay10]

theorem pay11_apply (y : S8x1024.Idx) : (k0_pay11 : FVec Ideal S8x1024 .f32) y = 0 := by
  pointwise [k0_pay11]

theorem pay12_apply (Y U : Vec Ideal S512x1024 .f32) (A : Vec Ideal S8x1024 .f32) (s : Fin 8) (e : Fin 1024) :
    k0_pay12 Y (k0_pay5 U) A (ix2 s e) = A (ix2 s e) + partG Y U s e := by
  pointwise [k0_pay12, k0_pay5, k0_pay4, k0_pay3, partG, xhat, rstd, var, mean]

theorem pay13_apply (Y : Vec Ideal S512x1024 .f32) (A : Vec Ideal S8x1024 .f32) (s : Fin 8) (e : Fin 1024) :
    k0_pay13 Y A (ix2 s e) = A (ix2 s e) + partB Y s e := by
  pointwise [k0_pay13, partB]

theorem pay1_apply (A : Vec Ideal S8x1024 .f32) (e : Fin 1024) : k0_pay1 A (ix2 0 e) = ∑ s : Fin 8, A (ix2 s e) := by
  pointwise [k0_pay1]

theorem pay2_apply (A : Vec Ideal S8x1024 .f32) (e : Fin 1024) : k0_pay2 A (ix2 0 e) = ∑ s : Fin 8, A (ix2 s e) := by
  pointwise [k0_pay2]

/-! ## The hidden columns, a third of a block at a time -/

/-- The hidden row's gradient, one column of a block. -/
def hidOf (S : Vec Ideal S512x1024 .bf16) (D : Vec Ideal S1x768x1024 .bf16) (r : Fin 512) (q : Fin 768) : EReal :=
  ∑ k : Fin 1024, S (ix2 r k) * D (ix3 0 q k)

theorem pay14_apply (S : Vec Ideal S512x1024 .bf16) (D : Vec Ideal S1x768x1024 .bf16) (r : Fin 512) (q : Fin 768) :
    k0_pay14 S D (ix2 r q) = hidOf S D r q := by
  pointwise [k0_pay14, hidOf]

theorem third_0 (q : Fin 256) : third 0 q = ⟨q.val, by omega⟩ := Fin.ext (by simp)
theorem third_1 (q : Fin 256) : third 1 q = ⟨256 + q.val, by omega⟩ := Fin.ext (by simp)
theorem third_2 (q : Fin 256) : third 2 q = ⟨512 + q.val, by omega⟩ := Fin.ext (by simp)

theorem pay20_apply (a b : Vec Ideal S512x256 .bf16) (y : S512x256.Idx) : k0_pay20 a b y = act (a y) (b y) := by
  rw [act, ← half_tanh]
  pointwise [k0_pay20, k0_pay19, k0_pay18, k0_pay16, k0_pay15]

theorem pay28_apply (a b : Vec Ideal S512x256 .bf16) (y : S512x256.Idx) : k0_pay28 a b y = act (a y) (b y) := by
  rw [act, ← half_tanh]
  pointwise [k0_pay28, k0_pay27, k0_pay26, k0_pay24, k0_pay23]

theorem pay37_apply (a b : Vec Ideal S512x256 .bf16) (y : S512x256.Idx) : k0_pay37 a b y = act (a y) (b y) := by
  rw [act, ← half_tanh]
  pointwise [k0_pay37, k0_pay36, k0_pay35, k0_pay33, k0_pay32]

theorem pay21_apply (S : Vec Ideal S512x1024 .bf16) (D : Vec Ideal S1x768x1024 .bf16) (a b : Vec Ideal S512x256 .bf16)
    (r : Fin 512) (q : Fin 256) :
    k0_pay21 S D a b (ix2 r q) = gate (a (ix2 r q)) (b (ix2 r q)) (hidOf S D r (third 0 q)) := by
  rw [third_0, gate, ← half_tanh, ← pay14_apply]
  pointwise [k0_pay21, k0_pay18, k0_pay17, k0_pay16, k0_pay15]

theorem pay29_apply (T : Vec Ideal S512x768 .f32) (a b : Vec Ideal S512x256 .bf16) (r : Fin 512) (q : Fin 256) :
    k0_pay29 T a b (ix2 r q) = gate (a (ix2 r q)) (b (ix2 r q)) (T (ix2 r (third 1 q))) := by
  rw [third_1, gate, ← half_tanh]
  pointwise [k0_pay29, k0_pay26, k0_pay25, k0_pay24, k0_pay23]

theorem pay38_apply (T : Vec Ideal S512x768 .f32) (a b : Vec Ideal S512x256 .bf16) (r : Fin 512) (q : Fin 256) :
    k0_pay38 T a b (ix2 r q) = gate (a (ix2 r q)) (b (ix2 r q)) (T (ix2 r (third 2 q))) := by
  rw [third_2, gate, ← half_tanh]
  pointwise [k0_pay38, k0_pay35, k0_pay34, k0_pay33, k0_pay32]

theorem pay22_apply (S : Vec Ideal S512x1024 .bf16) (D : Vec Ideal S1x768x1024 .bf16) (a : Vec Ideal S512x256 .bf16)
    (r : Fin 512) (q : Fin 256) : k0_pay22 S D a (ix2 r q) = up (a (ix2 r q)) (hidOf S D r (third 0 q)) := by
  rw [third_0, up, ← half_tanh, ← pay14_apply]
  pointwise [k0_pay22, k0_pay19, k0_pay18, k0_pay17, k0_pay15]

theorem pay30_apply (T : Vec Ideal S512x768 .f32) (a : Vec Ideal S512x256 .bf16) (r : Fin 512) (q : Fin 256) :
    k0_pay30 T a (ix2 r q) = up (a (ix2 r q)) (T (ix2 r (third 1 q))) := by
  rw [third_1, up, ← half_tanh]
  pointwise [k0_pay30, k0_pay27, k0_pay26, k0_pay25, k0_pay23]

theorem pay39_apply (T : Vec Ideal S512x768 .f32) (a : Vec Ideal S512x256 .bf16) (r : Fin 512) (q : Fin 256) :
    k0_pay39 T a (ix2 r q) = up (a (ix2 r q)) (T (ix2 r (third 2 q))) := by
  rw [third_2, up, ← half_tanh]
  pointwise [k0_pay39, k0_pay36, k0_pay35, k0_pay34, k0_pay32]

/-! ## The input's gradient -/

/-- A third's product with its rows of a weight. -/
def mulOf (P : Vec Ideal S512x256 .bf16) (W : Vec Ideal S1x256x1024 .bf16) (r : Fin 512) (e : Fin 1024) : EReal :=
  ∑ q : Fin 256, P (ix2 r q) * W (ix3 0 q e)

theorem pay31_apply (P Q : Vec Ideal S512x256 .bf16) (G U : Vec Ideal S1x256x1024 .bf16) (r : Fin 512) (e : Fin 1024) :
    k0_pay31 P Q G U (ix2 r e) = mulOf P G r e + mulOf Q U r e := by
  pointwise [k0_pay31, mulOf]

theorem pay40_apply (P Q P' Q' : Vec Ideal S512x256 .bf16) (A : Vec Ideal S512x1024 .f32) (G U G' U' : Vec Ideal S1x256x1024 .bf16)
    (r : Fin 512) (e : Fin 1024) : k0_pay40 P Q A P' Q' G U G' U' (ix2 r e)
      = A (ix2 r e) + (mulOf P G r e + mulOf Q U r e) + (mulOf P' G' r e + mulOf Q' U' r e) := by
  pointwise [k0_pay40, mulOf]

theorem pay41_apply (P Q P' Q' : Vec Ideal S512x256 .bf16) (A : Vec Ideal S512x1024 .f32) (G U G' U' : Vec Ideal S1x256x1024 .bf16)
    (r : Fin 512) (e : Fin 1024) : k0_pay41 P Q A P' Q' G U G' U' (ix2 r e)
      = A (ix2 r e) + (mulOf P G r e + mulOf Q U r e) + (mulOf P' G' r e + mulOf Q' U' r e) := by
  refine Eq.trans ?_ (pay40_apply P Q P' Q' A G U G' U' r e)
  pointwise [k0_pay41]

theorem pay42_apply (P Q P' Q' : Vec Ideal S512x256 .bf16) (A B : Vec Ideal S512x1024 .f32) (G U G' U' : Vec Ideal S1x256x1024 .bf16)
    (r : Fin 512) (e : Fin 1024) : k0_pay42 P Q A P' Q' G U G' U' B (ix2 r e)
      = B (ix2 r e) + (A (ix2 r e) + (mulOf P G r e + mulOf Q U r e) + (mulOf P' G' r e + mulOf Q' U' r e)) := by
  rw [← pay40_apply]
  pointwise [k0_pay42]

theorem pay43_apply (d A : Vec Ideal S512x1024 .f32) (r : Fin 512) (e : Fin 1024) :
    k0_pay43 d A (ix2 r e) = alpha * d (ix2 r e) + A (ix2 r e) := by
  pointwise [k0_pay43]

end Cert.FfnXIdeal.Blocks

end
-- ==== Proof.FfnXTile.lean ====
/- The three thirds of a block of the feed-forward layer's gradient kernel, put together. -/
module

public import proofs.«01_k».proof.Proof.FfnXBlock
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnXIdeal.Blocks

open Cert.FfnXIdeal Cert.FfnXIdeal.Gen Cert.FfnMath Cert.LnMath Cert.FfnXMath Idealize.ShloMosaic Idealize.ShloMosaic.TcCoe Idealize.SL.Sem

/-- The thirds of a block of hidden columns, and of its rows of a weight. -/
abbrev c0 (A : Vec Ideal S512x768 .bf16) : Vec Ideal S512x256 .bf16 := View.ld A (Rect.unit ![0, 0] ![512, 256] inb_S512x768_S512x256_0_0)
abbrev c1 (A : Vec Ideal S512x768 .bf16) : Vec Ideal S512x256 .bf16 := View.ld A (Rect.unit ![0, 256] ![512, 256] inb_S512x768_S512x256_0_256)
abbrev c2 (A : Vec Ideal S512x768 .bf16) : Vec Ideal S512x256 .bf16 := View.ld A (Rect.unit ![0, 512] ![512, 256] inb_S512x768_S512x256_0_512)
abbrev w0 (W : Vec Ideal S1x768x1024 .bf16) : Vec Ideal S1x256x1024 .bf16 := View.ld W (Rect.unit ![0, 0, 0] ![1, 256, 1024] inb_S1x768x1024_S1x256x1024_0_0_0)
abbrev w1 (W : Vec Ideal S1x768x1024 .bf16) : Vec Ideal S1x256x1024 .bf16 := View.ld W (Rect.unit ![0, 256, 0] ![1, 256, 1024] inb_S1x768x1024_S1x256x1024_0_256_0)
abbrev w2 (W : Vec Ideal S1x768x1024 .bf16) : Vec Ideal S1x256x1024 .bf16 := View.ld W (Rect.unit ![0, 512, 0] ![1, 256, 1024] inb_S1x768x1024_S1x256x1024_0_512_0)

theorem c0_apply (A : Vec Ideal S512x768 .bf16) (r : Fin 512) (q : Fin 256) : c0 A (ix2 r q) = A (ix2 r (third 0 q)) :=
  View.ld_unit_apply_of A ![0, 0] ![512, 256] _ (ix2 r q) (ix2 r (third 0 q)) fun a => by fin_cases a <;> simp
theorem c1_apply (A : Vec Ideal S512x768 .bf16) (r : Fin 512) (q : Fin 256) : c1 A (ix2 r q) = A (ix2 r (third 1 q)) :=
  View.ld_unit_apply_of A ![0, 256] ![512, 256] _ (ix2 r q) (ix2 r (third 1 q)) fun a => by fin_cases a <;> simp
theorem c2_apply (A : Vec Ideal S512x768 .bf16) (r : Fin 512) (q : Fin 256) : c2 A (ix2 r q) = A (ix2 r (third 2 q)) :=
  View.ld_unit_apply_of A ![0, 512] ![512, 256] _ (ix2 r q) (ix2 r (third 2 q)) fun a => by fin_cases a <;> simp
theorem w0_apply (W : Vec Ideal S1x768x1024 .bf16) (q : Fin 256) (e : Fin 1024) : w0 W (ix3 0 q e) = W (ix3 0 (third 0 q) e) :=
  View.ld_unit_apply_of W ![0, 0, 0] ![1, 256, 1024] _ (ix3 0 q e) (ix3 0 (third 0 q) e) fun a => by fin_cases a <;> simp
theorem w1_apply (W : Vec Ideal S1x768x1024 .bf16) (q : Fin 256) (e : Fin 1024) : w1 W (ix3 0 q e) = W (ix3 0 (third 1 q) e) :=
  View.ld_unit_apply_of W ![0, 256, 0] ![1, 256, 1024] _ (ix3 0 q e) (ix3 0 (third 1 q) e) fun a => by fin_cases a <;> simp
theorem w2_apply (W : Vec Ideal S1x768x1024 .bf16) (q : Fin 256) (e : Fin 1024) : w2 W (ix3 0 q e) = W (ix3 0 (third 2 q) e) :=
  View.ld_unit_apply_of W ![0, 512, 0] ![1, 256, 1024] _ (ix3 0 q e) (ix3 0 (third 2 q) e) fun a => by fin_cases a <;> simp

section

variable (S : Vec Ideal S512x1024 .bf16) (D : Vec Ideal S1x768x1024 .bf16) (A B : Vec Ideal S512x768 .bf16)
  (G U : Vec Ideal S1x768x1024 .bf16)

/-- The gradients of the two hidden products and the hidden row, one column of a block. -/
def gateOf (r : Fin 512) (q : Fin 768) : EReal := gate (A (ix2 r q)) (B (ix2 r q)) (hidOf S D r q)
def upOf (r : Fin 512) (q : Fin 768) : EReal := up (A (ix2 r q)) (hidOf S D r q)
def actOf (r : Fin 512) (q : Fin 768) : EReal := act (A (ix2 r q)) (B (ix2 r q))

theorem gate_0 (r : Fin 512) (q : Fin 256) : k0_pay21 S D (c0 A) (c0 B) (ix2 r q) = gateOf S D A B r (third 0 q) := by
  rw [pay21_apply, c0_apply, c0_apply]; rfl
theorem gate_1 (r : Fin 512) (q : Fin 256) : k0_pay29 (k0_pay14 S D) (c1 A) (c1 B) (ix2 r q) = gateOf S D A B r (third 1 q) := by
  rw [pay29_apply, c1_apply, c1_apply, pay14_apply]; rfl
theorem gate_2 (r : Fin 512) (q : Fin 256) : k0_pay38 (k0_pay14 S D) (c2 A) (c2 B) (ix2 r q) = gateOf S D A B r (third 2 q) := by
  rw [pay38_apply, c2_apply, c2_apply, pay14_apply]; rfl
theorem up_0 (r : Fin 512) (q : Fin 256) : k0_pay22 S D (c0 A) (ix2 r q) = upOf S D A r (third 0 q) := by
  rw [pay22_apply, c0_apply]; rfl
theorem up_1 (r : Fin 512) (q : Fin 256) : k0_pay30 (k0_pay14 S D) (c1 A) (ix2 r q) = upOf S D A r (third 1 q) := by
  rw [pay30_apply, c1_apply, pay14_apply]; rfl
theorem up_2 (r : Fin 512) (q : Fin 256) : k0_pay39 (k0_pay14 S D) (c2 A) (ix2 r q) = upOf S D A r (third 2 q) := by
  rw [pay39_apply, c2_apply, pay14_apply]; rfl
theorem act_0 (r : Fin 512) (q : Fin 256) : k0_pay20 (c0 A) (c0 B) (ix2 r q) = actOf A B r (third 0 q) := by
  rw [pay20_apply, c0_apply, c0_apply]; rfl
theorem act_1 (r : Fin 512) (q : Fin 256) : k0_pay28 (c1 A) (c1 B) (ix2 r q) = actOf A B r (third 1 q) := by
  rw [pay28_apply, c1_apply, c1_apply]; rfl
theorem act_2 (r : Fin 512) (q : Fin 256) : k0_pay37 (c2 A) (c2 B) (ix2 r q) = actOf A B r (third 2 q) := by
  rw [pay37_apply, c2_apply, c2_apply]; rfl

/-- A block read at an index of one of its thirds. -/
theorem at_third {P : Vec Ideal S512x256 .bf16} {f : Fin 512 → Fin 768 → EReal} (j : Fin 3)
    (hP : ∀ (r : Fin 512) (q : Fin 256), P (ix2 r q) = f r (third j q)) (x : S512x256.Idx) (r : Fin 512) (q : Fin 768)
    (h0 : r.val = (x 0).val) (h1 : q.val = j.val * 256 + (x 1).val) : P x = f r q := by
  obtain ⟨p, hx⟩ : ∃ p : Fin 256, x = ix2 r p := ⟨x 1, by
    funext a
    fin_cases a
    · exact Fin.ext h0.symm
    · rfl⟩
  subst hx
  rw [hP, show third j p = q from Fin.ext h1.symm]

theorem gate_tiles (r : Fin 512) (q : Fin 768) :
    View.canon (Val := Elt Ideal) (s := S512x768) (e := .bf16) [⟨Rect.unit ![0, 512] ![512, 256] inb_S512x768_S512x256_0_512, k0_pay38 (k0_pay14 S D) (c2 A) (c2 B)⟩,
      ⟨Rect.unit ![0, 256] ![512, 256] inb_S512x768_S512x256_0_256, k0_pay29 (k0_pay14 S D) (c1 A) (c1 B)⟩,
      ⟨Rect.unit ![0, 0] ![512, 256] inb_S512x768_S512x256_0_0, k0_pay21 S D (c0 A) (c0 B)⟩] (ix2 r q) = gateOf S D A B r q := by
  canon_tiles x h
  · exact at_third 2 (gate_2 S D A B) x r q (by simpa using h0) (by simpa using h1)
  · exact at_third 1 (gate_1 S D A B) x r q (by simpa using h0) (by simpa using h1)
  · exact at_third 0 (gate_0 S D A B) x r q (by simpa using h0) (by simpa using h1)

theorem up_tiles (r : Fin 512) (q : Fin 768) :
    View.canon (Val := Elt Ideal) (s := S512x768) (e := .bf16) [⟨Rect.unit ![0, 512] ![512, 256] inb_S512x768_S512x256_0_512, k0_pay39 (k0_pay14 S D) (c2 A)⟩,
      ⟨Rect.unit ![0, 256] ![512, 256] inb_S512x768_S512x256_0_256, k0_pay30 (k0_pay14 S D) (c1 A)⟩,
      ⟨Rect.unit ![0, 0] ![512, 256] inb_S512x768_S512x256_0_0, k0_pay22 S D (c0 A)⟩] (ix2 r q) = upOf S D A r q := by
  canon_tiles x h
  · exact at_third 2 (up_2 S D A) x r q (by simpa using h0) (by simpa using h1)
  · exact at_third 1 (up_1 S D A) x r q (by simpa using h0) (by simpa using h1)
  · exact at_third 0 (up_0 S D A) x r q (by simpa using h0) (by simpa using h1)

theorem act_tiles (r : Fin 512) (q : Fin 768) :
    View.canon (Val := Elt Ideal) (s := S512x768) (e := .bf16) [⟨Rect.unit ![0, 512] ![512, 256] inb_S512x768_S512x256_0_512, k0_pay37 (c2 A) (c2 B)⟩,
      ⟨Rect.unit ![0, 256] ![512, 256] inb_S512x768_S512x256_0_256, k0_pay28 (c1 A) (c1 B)⟩,
      ⟨Rect.unit ![0, 0] ![512, 256] inb_S512x768_S512x256_0_0, k0_pay20 (c0 A) (c0 B)⟩] (ix2 r q) = actOf A B r q := by
  canon_tiles x h
  · exact at_third 2 (act_2 A B) x r q (by simpa using h0) (by simpa using h1)
  · exact at_third 1 (act_1 A B) x r q (by simpa using h0) (by simpa using h1)
  · exact at_third 0 (act_0 A B) x r q (by simpa using h0) (by simpa using h1)

/-! ## What a block adds to the input's gradient -/

/-- One column of a block times its row of a weight. -/
def gateW (r : Fin 512) (e : Fin 1024) (q : Fin 768) : EReal := gateOf S D A B r q * G (ix3 0 q e)
def upW (r : Fin 512) (e : Fin 1024) (q : Fin 768) : EReal := upOf S D A r q * U (ix3 0 q e)

/-- What a block adds. -/
def part (r : Fin 512) (e : Fin 1024) : EReal := ∑ q, gateW S D A B G r e q + ∑ q, upW S D A U r e q

theorem mul_0 {P : Vec Ideal S512x256 .bf16} {W : Vec Ideal S1x768x1024 .bf16} {f : Fin 512 → Fin 768 → EReal}
    (hP : ∀ (r : Fin 512) (q : Fin 256), P (ix2 r q) = f r (third 0 q)) (r : Fin 512) (e : Fin 1024) :
    mulOf P (w0 W) r e = ∑ q : Fin 256, f r (third 0 q) * W (ix3 0 (third 0 q) e) :=
  Finset.sum_congr rfl fun q _ => congrArg₂ (fun a b : EReal => a * b) (hP r q) (w0_apply W q e)
theorem mul_1 {P : Vec Ideal S512x256 .bf16} {W : Vec Ideal S1x768x1024 .bf16} {f : Fin 512 → Fin 768 → EReal}
    (hP : ∀ (r : Fin 512) (q : Fin 256), P (ix2 r q) = f r (third 1 q)) (r : Fin 512) (e : Fin 1024) :
    mulOf P (w1 W) r e = ∑ q : Fin 256, f r (third 1 q) * W (ix3 0 (third 1 q) e) :=
  Finset.sum_congr rfl fun q _ => congrArg₂ (fun a b : EReal => a * b) (hP r q) (w1_apply W q e)
theorem mul_2 {P : Vec Ideal S512x256 .bf16} {W : Vec Ideal S1x768x1024 .bf16} {f : Fin 512 → Fin 768 → EReal}
    (hP : ∀ (r : Fin 512) (q : Fin 256), P (ix2 r q) = f r (third 2 q)) (r : Fin 512) (e : Fin 1024) :
    mulOf P (w2 W) r e = ∑ q : Fin 256, f r (third 2 q) * W (ix3 0 (third 2 q) e) :=
  Finset.sum_congr rfl fun q _ => congrArg₂ (fun a b : EReal => a * b) (hP r q) (w2_apply W q e)

theorem part_eq (r : Fin 512) (e : Fin 1024) :
    k0_pay31 (k0_pay21 S D (c0 A) (c0 B)) (k0_pay22 S D (c0 A)) (w0 G) (w0 U) (ix2 r e)
      + (mulOf (k0_pay29 (k0_pay14 S D) (c1 A) (c1 B)) (w1 G) r e + mulOf (k0_pay30 (k0_pay14 S D) (c1 A)) (w1 U) r e)
      + (mulOf (k0_pay38 (k0_pay14 S D) (c2 A) (c2 B)) (w2 G) r e + mulOf (k0_pay39 (k0_pay14 S D) (c2 A)) (w2 U) r e)
      = part S D A B G U r e := by
  rw [pay31_apply, mul_0 (gate_0 S D A B), mul_0 (up_0 S D A), mul_1 (gate_1 S D A B), mul_1 (up_1 S D A),
    mul_2 (gate_2 S D A B), mul_2 (up_2 S D A)]
  exact sum_thirds (gateW S D A B G r e) (upW S D A U r e)

theorem first_part (r : Fin 512) (e : Fin 1024) :
    k0_pay41 (k0_pay29 (k0_pay14 S D) (c1 A) (c1 B)) (k0_pay30 (k0_pay14 S D) (c1 A))
      (k0_pay31 (k0_pay21 S D (c0 A) (c0 B)) (k0_pay22 S D (c0 A)) (w0 G) (w0 U))
      (k0_pay38 (k0_pay14 S D) (c2 A) (c2 B)) (k0_pay39 (k0_pay14 S D) (c2 A)) (w1 G) (w1 U) (w2 G) (w2 U) (ix2 r e)
      = part S D A B G U r e := (pay41_apply _ _ _ _ _ _ _ _ _ r e).trans (part_eq S D A B G U r e)

theorem next_part (Z : Vec Ideal S512x1024 .f32) (r : Fin 512) (e : Fin 1024) :
    k0_pay42 (k0_pay29 (k0_pay14 S D) (c1 A) (c1 B)) (k0_pay30 (k0_pay14 S D) (c1 A))
      (k0_pay31 (k0_pay21 S D (c0 A) (c0 B)) (k0_pay22 S D (c0 A)) (w0 G) (w0 U))
      (k0_pay38 (k0_pay14 S D) (c2 A) (c2 B)) (k0_pay39 (k0_pay14 S D) (c2 A)) (w1 G) (w1 U) (w2 G) (w2 U) Z (ix2 r e)
      = Z (ix2 r e) + part S D A B G U r e :=
  (pay42_apply _ _ _ _ _ _ _ _ _ _ r e).trans (congrArg (fun a : EReal => Z (ix2 r e) + a) (part_eq S D A B G U r e))

end

end Cert.FfnXIdeal.Blocks

end
-- ==== Proof.FfnXPoint.lean ====
/- What each kind of grid point of the feed-forward layer's gradient kernel leaves, entry by entry. -/
module

public import proofs.«01_k».proof.Proof.FfnXRunA
public import proofs.«01_k».proof.Proof.FfnXRunB
public import proofs.«01_k».proof.Proof.FfnXRunC
public import proofs.«01_k».proof.Proof.FfnXRunD
public import proofs.«01_k».proof.Proof.FfnXRunE
public import proofs.«01_k».proof.Proof.FfnXTile
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnXIdeal.Run

open Cert.FfnXIdeal Cert.FfnXIdeal.Gen Cert.FfnXIdeal.Blocks Cert.FfnMath Cert.LnMath Cert.FfnXMath Idealize.ShloMosaic Idealize.ShloMosaic.TcCoe Idealize.SL.Sem

variable (m : (ℓ : Loc nD τ sig) → Buf (Elt Ideal) ℓ)

/-- The gradient of the row before the norm, and its half, of a row block. -/
abbrev du (c : Dev nD) (t : Fin cfg0.N) : Vec Ideal S512x1024 .f32 := k0_pay6 (iblk m c 0 t) (iblk m c 1 t) (iblk m c 6 t)
abbrev df (c : Dev nD) (t : Fin cfg0.N) : Vec Ideal S512x1024 .bf16 := k0_pay8 (F := Ideal) (du m c t)

theorem A_s1 (c : Dev nD) (t : Fin cfg0.N) (h : at_A (grid0.coords t)) (r : Fin 512) (e : Fin 1024) :
    out_A_s1 m c t h (ix2 r e) = closed (cotOf (iblk m c 0 t) (iblk m c 6 t) r) (rowOf (iblk m c 1 t) r) e := by
  unfold out_A_s1 fin_A
  frame_out
  exact pay7_apply _ _ _ r e

theorem A_s0 (c : Dev nD) (t : Fin cfg0.N) (h : at_A (grid0.coords t)) (r : Fin 512) (e : Fin 1024) :
    out_A_s0 m c t h (ix2 r e) = df m c t (ix2 r e) := by
  unfold out_A_s0 fin_A
  frame_out

theorem A_o11 (c : Dev nD) (t : Fin cfg0.N) (h : at_A (grid0.coords t)) (r : Fin 512) (e : Fin 1024) :
    out_A_o11 m c t h (ix2 r e) = df m c t (ix2 r e) := by
  unfold out_A_o11 fin_A
  frame_out

theorem A_o10 (c : Dev nD) (t : Fin cfg0.N) (h : at_A (grid0.coords t)) (r : Fin 512) (e : Fin 1024) :
    out_A_o10 m c t h (ix2 r e) = iblk m c 2 t (ix2 r e) := by
  unfold out_A_o10 fin_A
  frame_out
  exact pay9_apply _ r e

theorem A_s3 (c : Dev nD) (t : Fin cfg0.N) (h : at_A (grid0.coords t)) (s : Fin 8) (e : Fin 1024) :
    out_A_s3 m c t h (ix2 s e) = partG (iblk m c 0 t) (iblk m c 1 t) s e := by
  unfold out_A_s3 fin_A
  frame_out
  rw [pay12_apply, pay10_apply, zero_add]

theorem A_s4 (c : Dev nD) (t : Fin cfg0.N) (h : at_A (grid0.coords t)) (s : Fin 8) (e : Fin 1024) :
    out_A_s4 m c t h (ix2 s e) = partB (iblk m c 0 t) s e := by
  unfold out_A_s4 fin_A
  frame_out
  rw [pay13_apply, pay11_apply, zero_add]

theorem A_o12 (c : Dev nD) (t : Fin cfg0.N) (h : at_A (grid0.coords t)) (r : Fin 512) (q : Fin 768) :
    out_A_o12 m c t h (ix2 r q) = gateOf (df m c t) (iblk m c 5 t) (iblk m c 7 t) (iblk m c 8 t) r q := by
  unfold out_A_o12 fin_A
  frame_out
  exact gate_tiles (df m c t) (iblk m c 5 t) (iblk m c 7 t) (iblk m c 8 t) r q

theorem A_o13 (c : Dev nD) (t : Fin cfg0.N) (h : at_A (grid0.coords t)) (r : Fin 512) (q : Fin 768) :
    out_A_o13 m c t h (ix2 r q) = upOf (df m c t) (iblk m c 5 t) (iblk m c 7 t) r q := by
  unfold out_A_o13 fin_A
  frame_out
  exact up_tiles (df m c t) (iblk m c 5 t) (iblk m c 7 t) r q

theorem A_o14 (c : Dev nD) (t : Fin cfg0.N) (h : at_A (grid0.coords t)) (r : Fin 512) (q : Fin 768) :
    out_A_o14 m c t h (ix2 r q) = actOf (iblk m c 7 t) (iblk m c 8 t) r q := by
  unfold out_A_o14 fin_A
  frame_out
  exact act_tiles (iblk m c 7 t) (iblk m c 8 t) r q

theorem A_s2 (c : Dev nD) (t : Fin cfg0.N) (h : at_A (grid0.coords t)) (r : Fin 512) (e : Fin 1024) :
    out_A_s2 m c t h (ix2 r e) = part (df m c t) (iblk m c 5 t) (iblk m c 7 t) (iblk m c 8 t) (iblk m c 3 t) (iblk m c 4 t) r e := by
  unfold out_A_s2 fin_A
  frame_out
  exact first_part (df m c t) (iblk m c 5 t) (iblk m c 7 t) (iblk m c 8 t) (iblk m c 3 t) (iblk m c 4 t) r e

theorem D_s1 (c : Dev nD) (t : Fin cfg0.N) (h : at_D (grid0.coords t)) (p : St Ideal) (r : Fin 512) (e : Fin 1024) :
    out_D_s1 m c t h p (ix2 r e) = closed (cotOf (iblk m c 0 t) (iblk m c 6 t) r) (rowOf (iblk m c 1 t) r) e := by
  unfold out_D_s1 fin_D
  frame_out
  exact pay7_apply _ _ _ r e

theorem D_s0 (c : Dev nD) (t : Fin cfg0.N) (h : at_D (grid0.coords t)) (p : St Ideal) (r : Fin 512) (e : Fin 1024) :
    out_D_s0 m c t h p (ix2 r e) = df m c t (ix2 r e) := by
  unfold out_D_s0 fin_D
  frame_out

theorem D_o11 (c : Dev nD) (t : Fin cfg0.N) (h : at_D (grid0.coords t)) (p : St Ideal) (r : Fin 512) (e : Fin 1024) :
    out_D_o11 m c t h p (ix2 r e) = df m c t (ix2 r e) := by
  unfold out_D_o11 fin_D
  frame_out

theorem D_o10 (c : Dev nD) (t : Fin cfg0.N) (h : at_D (grid0.coords t)) (p : St Ideal) (r : Fin 512) (e : Fin 1024) :
    out_D_o10 m c t h p (ix2 r e) = iblk m c 2 t (ix2 r e) := by
  unfold out_D_o10 fin_D
  frame_out
  exact pay9_apply _ r e

theorem D_s3 (c : Dev nD) (t : Fin cfg0.N) (h : at_D (grid0.coords t)) (p : St Ideal) (s : Fin 8) (e : Fin 1024) :
    out_D_s3 m c t h p (ix2 s e) = p.s3 (ix2 s e) + partG (iblk m c 0 t) (iblk m c 1 t) s e := by
  unfold out_D_s3 fin_D
  frame_out
  rw [pay12_apply, read_unread_whole]

theorem D_s4 (c : Dev nD) (t : Fin cfg0.N) (h : at_D (grid0.coords t)) (p : St Ideal) (s : Fin 8) (e : Fin 1024) :
    out_D_s4 m c t h p (ix2 s e) = p.s4 (ix2 s e) + partB (iblk m c 0 t) s e := by
  unfold out_D_s4 fin_D
  frame_out
  rw [pay13_apply, read_unread_whole]

theorem D_o12 (c : Dev nD) (t : Fin cfg0.N) (h : at_D (grid0.coords t)) (p : St Ideal) (r : Fin 512) (q : Fin 768) :
    out_D_o12 m c t h p (ix2 r q) = gateOf (df m c t) (iblk m c 5 t) (iblk m c 7 t) (iblk m c 8 t) r q := by
  unfold out_D_o12 fin_D
  frame_out
  exact gate_tiles (df m c t) (iblk m c 5 t) (iblk m c 7 t) (iblk m c 8 t) r q

theorem D_o13 (c : Dev nD) (t : Fin cfg0.N) (h : at_D (grid0.coords t)) (p : St Ideal) (r : Fin 512) (q : Fin 768) :
    out_D_o13 m c t h p (ix2 r q) = upOf (df m c t) (iblk m c 5 t) (iblk m c 7 t) r q := by
  unfold out_D_o13 fin_D
  frame_out
  exact up_tiles (df m c t) (iblk m c 5 t) (iblk m c 7 t) r q

theorem D_o14 (c : Dev nD) (t : Fin cfg0.N) (h : at_D (grid0.coords t)) (p : St Ideal) (r : Fin 512) (q : Fin 768) :
    out_D_o14 m c t h p (ix2 r q) = actOf (iblk m c 7 t) (iblk m c 8 t) r q := by
  unfold out_D_o14 fin_D
  frame_out
  exact act_tiles (iblk m c 7 t) (iblk m c 8 t) r q

theorem D_s2 (c : Dev nD) (t : Fin cfg0.N) (h : at_D (grid0.coords t)) (p : St Ideal) (r : Fin 512) (e : Fin 1024) :
    out_D_s2 m c t h p (ix2 r e) = part (df m c t) (iblk m c 5 t) (iblk m c 7 t) (iblk m c 8 t) (iblk m c 3 t) (iblk m c 4 t) r e := by
  unfold out_D_s2 fin_D
  frame_out
  exact first_part (df m c t) (iblk m c 5 t) (iblk m c 7 t) (iblk m c 8 t) (iblk m c 3 t) (iblk m c 4 t) r e

theorem B_o12 (c : Dev nD) (t : Fin cfg0.N) (h : at_B (grid0.coords t)) (p : St Ideal) (r : Fin 512) (q : Fin 768) :
    out_B_o12 m c t h p (ix2 r q) = gateOf p.s0 (iblk m c 5 t) (iblk m c 7 t) (iblk m c 8 t) r q := by
  unfold out_B_o12 fin_B
  frame_out
  simp only [read_unread_whole]
  exact gate_tiles p.s0 (iblk m c 5 t) (iblk m c 7 t) (iblk m c 8 t) r q

theorem B_o13 (c : Dev nD) (t : Fin cfg0.N) (h : at_B (grid0.coords t)) (p : St Ideal) (r : Fin 512) (q : Fin 768) :
    out_B_o13 m c t h p (ix2 r q) = upOf p.s0 (iblk m c 5 t) (iblk m c 7 t) r q := by
  unfold out_B_o13 fin_B
  frame_out
  simp only [read_unread_whole]
  exact up_tiles p.s0 (iblk m c 5 t) (iblk m c 7 t) r q

theorem B_o14 (c : Dev nD) (t : Fin cfg0.N) (h : at_B (grid0.coords t)) (p : St Ideal) (r : Fin 512) (q : Fin 768) :
    out_B_o14 m c t h p (ix2 r q) = actOf (iblk m c 7 t) (iblk m c 8 t) r q := by
  unfold out_B_o14 fin_B
  frame_out
  exact act_tiles (iblk m c 7 t) (iblk m c 8 t) r q

theorem B_s2 (c : Dev nD) (t : Fin cfg0.N) (h : at_B (grid0.coords t)) (p : St Ideal) (r : Fin 512) (e : Fin 1024) :
    out_B_s2 m c t h p (ix2 r e) = p.s2 (ix2 r e) + part p.s0 (iblk m c 5 t) (iblk m c 7 t) (iblk m c 8 t) (iblk m c 3 t) (iblk m c 4 t) r e := by
  unfold out_B_s2 fin_B
  frame_out
  simp only [read_unread_whole]
  exact next_part p.s0 (iblk m c 5 t) (iblk m c 7 t) (iblk m c 8 t) (iblk m c 3 t) (iblk m c 4 t) p.s2 r e

theorem C_o12 (c : Dev nD) (t : Fin cfg0.N) (h : at_C (grid0.coords t)) (p : St Ideal) (r : Fin 512) (q : Fin 768) :
    out_C_o12 m c t h p (ix2 r q) = gateOf p.s0 (iblk m c 5 t) (iblk m c 7 t) (iblk m c 8 t) r q := by
  unfold out_C_o12 fin_C
  frame_out
  simp only [read_unread_whole]
  exact gate_tiles p.s0 (iblk m c 5 t) (iblk m c 7 t) (iblk m c 8 t) r q

theorem C_o13 (c : Dev nD) (t : Fin cfg0.N) (h : at_C (grid0.coords t)) (p : St Ideal) (r : Fin 512) (q : Fin 768) :
    out_C_o13 m c t h p (ix2 r q) = upOf p.s0 (iblk m c 5 t) (iblk m c 7 t) r q := by
  unfold out_C_o13 fin_C
  frame_out
  simp only [read_unread_whole]
  exact up_tiles p.s0 (iblk m c 5 t) (iblk m c 7 t) r q

theorem C_o14 (c : Dev nD) (t : Fin cfg0.N) (h : at_C (grid0.coords t)) (p : St Ideal) (r : Fin 512) (q : Fin 768) :
    out_C_o14 m c t h p (ix2 r q) = actOf (iblk m c 7 t) (iblk m c 8 t) r q := by
  unfold out_C_o14 fin_C
  frame_out
  exact act_tiles (iblk m c 7 t) (iblk m c 8 t) r q

theorem C_s2 (c : Dev nD) (t : Fin cfg0.N) (h : at_C (grid0.coords t)) (p : St Ideal) (r : Fin 512) (e : Fin 1024) :
    out_C_s2 m c t h p (ix2 r e) = p.s2 (ix2 r e) + part p.s0 (iblk m c 5 t) (iblk m c 7 t) (iblk m c 8 t) (iblk m c 3 t) (iblk m c 4 t) r e := by
  unfold out_C_s2 fin_C
  frame_out
  simp only [read_unread_whole]
  exact next_part p.s0 (iblk m c 5 t) (iblk m c 7 t) (iblk m c 8 t) (iblk m c 3 t) (iblk m c 4 t) p.s2 r e

theorem C_o9 (c : Dev nD) (t : Fin cfg0.N) (h : at_C (grid0.coords t)) (p : St Ideal) (r : Fin 512) (e : Fin 1024) :
    out_C_o9 m c t h p (ix2 r e) = alpha * p.s1 (ix2 r e) + (p.s2 (ix2 r e) + part p.s0 (iblk m c 5 t) (iblk m c 7 t) (iblk m c 8 t) (iblk m c 3 t) (iblk m c 4 t) r e) := by
  unfold out_C_o9 fin_C
  frame_out
  simp only [read_unread_whole]
  rw [pay43_apply]
  exact congrArg (fun a : EReal => alpha * p.s1 (ix2 r e) + a) (next_part p.s0 (iblk m c 5 t) (iblk m c 7 t) (iblk m c 8 t) (iblk m c 3 t) (iblk m c 4 t) p.s2 r e)

theorem E_o12 (c : Dev nD) (t : Fin cfg0.N) (h : at_E (grid0.coords t)) (p : St Ideal) (r : Fin 512) (q : Fin 768) :
    out_E_o12 m c t h p (ix2 r q) = gateOf p.s0 (iblk m c 5 t) (iblk m c 7 t) (iblk m c 8 t) r q := by
  unfold out_E_o12 fin_E
  frame_out
  simp only [read_unread_whole]
  exact gate_tiles p.s0 (iblk m c 5 t) (iblk m c 7 t) (iblk m c 8 t) r q

theorem E_o13 (c : Dev nD) (t : Fin cfg0.N) (h : at_E (grid0.coords t)) (p : St Ideal) (r : Fin 512) (q : Fin 768) :
    out_E_o13 m c t h p (ix2 r q) = upOf p.s0 (iblk m c 5 t) (iblk m c 7 t) r q := by
  unfold out_E_o13 fin_E
  frame_out
  simp only [read_unread_whole]
  exact up_tiles p.s0 (iblk m c 5 t) (iblk m c 7 t) r q

theorem E_o14 (c : Dev nD) (t : Fin cfg0.N) (h : at_E (grid0.coords t)) (p : St Ideal) (r : Fin 512) (q : Fin 768) :
    out_E_o14 m c t h p (ix2 r q) = actOf (iblk m c 7 t) (iblk m c 8 t) r q := by
  unfold out_E_o14 fin_E
  frame_out
  exact act_tiles (iblk m c 7 t) (iblk m c 8 t) r q

theorem E_s2 (c : Dev nD) (t : Fin cfg0.N) (h : at_E (grid0.coords t)) (p : St Ideal) (r : Fin 512) (e : Fin 1024) :
    out_E_s2 m c t h p (ix2 r e) = p.s2 (ix2 r e) + part p.s0 (iblk m c 5 t) (iblk m c 7 t) (iblk m c 8 t) (iblk m c 3 t) (iblk m c 4 t) r e := by
  unfold out_E_s2 fin_E
  frame_out
  simp only [read_unread_whole]
  exact next_part p.s0 (iblk m c 5 t) (iblk m c 7 t) (iblk m c 8 t) (iblk m c 3 t) (iblk m c 4 t) p.s2 r e

theorem E_o9 (c : Dev nD) (t : Fin cfg0.N) (h : at_E (grid0.coords t)) (p : St Ideal) (r : Fin 512) (e : Fin 1024) :
    out_E_o9 m c t h p (ix2 r e) = alpha * p.s1 (ix2 r e) + (p.s2 (ix2 r e) + part p.s0 (iblk m c 5 t) (iblk m c 7 t) (iblk m c 8 t) (iblk m c 3 t) (iblk m c 4 t) r e) := by
  unfold out_E_o9 fin_E
  frame_out
  simp only [read_unread_whole]
  rw [pay43_apply]
  exact congrArg (fun a : EReal => alpha * p.s1 (ix2 r e) + a) (next_part p.s0 (iblk m c 5 t) (iblk m c 7 t) (iblk m c 8 t) (iblk m c 3 t) (iblk m c 4 t) p.s2 r e)

theorem E_o15 (c : Dev nD) (t : Fin cfg0.N) (h : at_E (grid0.coords t)) (p : St Ideal) (e : Fin 1024) :
    out_E_o15 m c t h p (ix2 0 e) = ∑ s : Fin 8, p.s3 (ix2 s e) := by
  unfold out_E_o15 fin_E
  frame_out
  rw [pay1_apply, read_unread_whole]

theorem E_o16 (c : Dev nD) (t : Fin cfg0.N) (h : at_E (grid0.coords t)) (p : St Ideal) (e : Fin 1024) :
    out_E_o16 m c t h p (ix2 0 e) = ∑ s : Fin 8, p.s4 (ix2 s e) := by
  unfold out_E_o16 fin_E
  frame_out
  rw [pay2_apply, read_unread_whole]

end Cert.FfnXIdeal.Run

end
-- ==== Proof.FfnXHost.lean ====
/- What the host prepares for the feed-forward layer's gradient call: the layer's own values, and its padded weights. -/
module

public import proofs.«01_k».proof.Defs
public import proofs.«01_k».proof.Proof.Gen.FfnXIdeal.Frame
public import proofs.«01_k».proof.Proof.FfnXMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnXIdeal.Blocks

open Cert.FfnXIdeal Cert.FfnXIdeal.Gen Cert.FfnMath Cert.FfnXMath Idealize.ShloMosaic Idealize.ShloMosaic.TcCoe Idealize.SL.Sem

variable (m : (ℓ : Loc nD τ sig) → Buf (Elt Ideal) ℓ)

/-- The cotangent, the layer's input, its three weights, and the norm's weight. -/
abbrev argY (c : Dev nD) : S8192x1024.Idx → EReal := m ((c : Thread nD τ).loc main_arg0)
abbrev argX (c : Dev nD) : S8192x1024.Idx → EReal := m ((c : Thread nD τ).loc main_arg1)
abbrev argG (c : Dev nD) : S1024x2816.Idx → EReal := m ((c : Thread nD τ).loc main_arg2)
abbrev argU (c : Dev nD) : S1024x2816.Idx → EReal := m ((c : Thread nD τ).loc main_arg3)
abbrev argD (c : Dev nD) : S2816x1024.Idx → EReal := m ((c : Thread nD τ).loc main_arg4)
abbrev argS (c : Dev nD) : S1024.Idx → EReal := m ((c : Thread nD τ).loc main_arg5)

/-- Their rows and columns. -/
abbrev y_ (c : Dev nD) (R : Fin 8192) : Fin 1024 → EReal := fun k => argY m c (ix2 R k)
abbrev x_ (c : Dev nD) (R : Fin 8192) : Fin 1024 → EReal := fun k => argX m c (ix2 R k)
abbrev g_ (c : Dev nD) : Fin 1024 → Fin 2816 → EReal := fun k n => argG m c (ix2 k n)
abbrev u_ (c : Dev nD) : Fin 1024 → Fin 2816 → EReal := fun k n => argU m c (ix2 k n)
abbrev d_ (c : Dev nD) : Fin 2816 → Fin 1024 → EReal := fun n k => argD m c (ix2 n k)
abbrev s_ (c : Dev nD) : Fin 1024 → EReal := fun k => argS m c (ix1 k)

theorem pad_zero : (FloatOps.sitofp FTy.bf16 0#32 : Ideal .bf16) = 0 := by
  simp [FloatOps.sitofp]

theorem V_pre (c : Dev nD) (R : Fin 8192) (e : Fin 1024) :
    V m c main_v9 (ix2 R e) = pre (x_ m c R) (g_ m c) (u_ m c) (d_ m c) e := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  simp only [StableHlo.TRef.toBuf, StableHlo.TRef.ofBuf, cast_cast, cast_eq]
  pointwise [pre, FfnXMath.prod, act, Ideal.logistic]

theorem V_g (c : Dev nD) (p : Fin 4) (q : Fin 768) (k : Fin 1024) :
    V m c main_v14 (ix3 p q k) = padded (fun n => argG m c (ix2 k n)) (pos p q) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  simp only [StableHlo.TRef.toBuf, StableHlo.TRef.ofBuf, cast_cast, cast_eq]
  pointwise []
  split
  · rename_i h
    exact (padded_of_lt (fun n => argG m c (ix2 k n)) p q h.2).symm
  · rename_i h
    exact pad_zero.trans (padded_of_not (fun n => argG m c (ix2 k n)) p q (by omega)).symm

theorem V_u (c : Dev nD) (p : Fin 4) (q : Fin 768) (k : Fin 1024) :
    V m c main_v19 (ix3 p q k) = padded (fun n => argU m c (ix2 k n)) (pos p q) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  simp only [StableHlo.TRef.toBuf, StableHlo.TRef.ofBuf, cast_cast, cast_eq]
  pointwise []
  split
  · rename_i h
    exact (padded_of_lt (fun n => argU m c (ix2 k n)) p q h.2).symm
  · rename_i h
    exact pad_zero.trans (padded_of_not (fun n => argU m c (ix2 k n)) p q (by omega)).symm

theorem V_d (c : Dev nD) (p : Fin 4) (q : Fin 768) (k : Fin 1024) :
    V m c main_v23 (ix3 p q k) = padded (fun n => argD m c (ix2 n k)) (pos p q) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  simp only [StableHlo.TRef.toBuf, StableHlo.TRef.ofBuf, cast_cast, cast_eq]
  pointwise []
  split
  · rename_i h
    exact (padded_of_lt (fun n => argD m c (ix2 n k)) p q h.2).symm
  · rename_i h
    exact pad_zero.trans (padded_of_not (fun n => argD m c (ix2 n k)) p q (by omega)).symm

theorem V_s (c : Dev nD) (k : Fin 1024) : V m c main_v24 (ix2 0 k) = argS m c (ix1 k) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  pointwise []

/-- A place of the padded products, read as group and column. -/
theorem padded_pos (f : Fin 2816 → EReal) (l : Fin 3072) (h : l.val % 384 < 352) :
    padded f l = f ⟨l.val / 384 * 352 + l.val % 384, by omega⟩ := by
  unfold padded
  exact dif_pos h
theorem padded_gap (f : Fin 2816 → EReal) (l : Fin 3072) (h : ¬l.val % 384 < 352) : padded f l = 0 := by
  unfold padded
  exact dif_neg h

theorem V_a (c : Dev nD) (R : Fin 8192) (l : Fin 3072) :
    V m c main_v28 (ix2 R l) = padded (FfnXMath.prod (x_ m c R) (g_ m c)) l := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  simp only [StableHlo.TRef.toBuf, StableHlo.TRef.ofBuf, cast_cast, cast_eq]
  pointwise []
  split
  · rename_i h
    exact (padded_pos (FfnXMath.prod (x_ m c R) (g_ m c)) l h.2).symm
  · rename_i h
    exact pad_zero.trans (padded_gap (FfnXMath.prod (x_ m c R) (g_ m c)) l (by omega)).symm

theorem V_b (c : Dev nD) (R : Fin 8192) (l : Fin 3072) :
    V m c main_v32 (ix2 R l) = padded (FfnXMath.prod (x_ m c R) (u_ m c)) l := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  simp only [StableHlo.TRef.toBuf, StableHlo.TRef.ofBuf, cast_cast, cast_eq]
  pointwise []
  split
  · rename_i h
    exact (padded_pos (FfnXMath.prod (x_ m c R) (u_ m c)) l h.2).symm
  · rename_i h
    exact pad_zero.trans (padded_gap (FfnXMath.prod (x_ m c R) (u_ m c)) l (by omega)).symm

/-! ## Blocks: the row block is `t / 4`, the pair of column groups `t % 4` -/

theorem idx : ∀ t : Fin cfg0.N, win0_0.index t = ![t.val / 4, 0] ∧ win0_1.index t = ![t.val / 4, 0] ∧
    win0_2.index t = ![t.val / 4, 0] ∧ win0_3.index t = ![t.val % 4, 0, 0] ∧ win0_4.index t = ![t.val % 4, 0, 0] ∧
    win0_5.index t = ![t.val % 4, 0, 0] ∧ win0_6.index t = ![0, 0] ∧ win0_7.index t = ![t.val / 4, t.val % 4] ∧
    win0_8.index t = ![t.val / 4, t.val % 4] ∧ win0_9.index t = ![t.val / 4, 0] ∧ win0_10.index t = ![t.val / 4, 0] ∧
    win0_11.index t = ![t.val / 4, 0] ∧ win0_12.index t = ![t.val / 4, t.val % 4] ∧ win0_13.index t = ![t.val / 4, t.val % 4] ∧
    win0_14.index t = ![t.val / 4, t.val % 4] ∧ win0_15.index t = ![0, 0] ∧ win0_16.index t = ![0, 0] :=
  (by decide +kernel : ∀ t : Fin grid0.N, _)

theorem under (t : Fin cfg0.N) : t.val < 64 := lt_of_lt_of_eq t.isLt (show cfg0.N = 64 from N_0)

abbrev row (t : Fin cfg0.N) (r : Fin 512) : Fin 8192 := ⟨t.val / 4 * 512 + r.val, by have := under t; omega⟩
abbrev par (t : Fin cfg0.N) : Fin 4 := ⟨t.val % 4, by omega⟩

theorem blk_y (c : Dev nD) (t : Fin cfg0.N) (r : Fin 512) (k : Fin 1024) : iblk m c 0 t (ix2 r k) = argY m c (ix2 (row t r) k) := by
  refine Eq.trans ?_ (congrFun (V_main_arg0 m c) _)
  blk_ext [iblk, idx t]

theorem rd_1 (W : S8192x1024.Idx → EReal) (t : Fin cfg0.N) (r : Fin 512) (k : Fin 1024) :
    ((cfg0.win 1).blk t).view.read (Elt Ideal) W (ix2 r k) = W (ix2 (row t r) k) := by
  blk_ext [idx t]

theorem blk_pre (c : Dev nD) (t : Fin cfg0.N) (r : Fin 512) (k : Fin 1024) :
    iblk m c 1 t (ix2 r k) = pre (x_ m c (row t r)) (g_ m c) (u_ m c) (d_ m c) k := by
  unfold iblk
  exact (rd_1 (V m c main_v9) t r k).trans (V_pre m c (row t r) k)

theorem blk_x (c : Dev nD) (t : Fin cfg0.N) (r : Fin 512) (k : Fin 1024) : iblk m c 2 t (ix2 r k) = argX m c (ix2 (row t r) k) := by
  refine Eq.trans ?_ (congrFun (V_main_arg1 m c) _)
  blk_ext [iblk, idx t]

theorem rd_3 (W : S4x768x1024.Idx → EReal) (t : Fin cfg0.N) (q : Fin 768) (k : Fin 1024) :
    ((cfg0.win 3).blk t).view.read (Elt Ideal) W (ix3 0 q k) = W (ix3 (par t) q k) := by
  blk_ext [idx t]

theorem blk_g (c : Dev nD) (t : Fin cfg0.N) (q : Fin 768) (k : Fin 1024) :
    iblk m c 3 t (ix3 0 q k) = padded (fun n => argG m c (ix2 k n)) (pos (par t) q) := by
  unfold iblk
  exact (rd_3 (V m c main_v14) t q k).trans (V_g m c (par t) q k)

theorem rd_4 (W : S4x768x1024.Idx → EReal) (t : Fin cfg0.N) (q : Fin 768) (k : Fin 1024) :
    ((cfg0.win 4).blk t).view.read (Elt Ideal) W (ix3 0 q k) = W (ix3 (par t) q k) := by
  blk_ext [idx t]

theorem blk_u (c : Dev nD) (t : Fin cfg0.N) (q : Fin 768) (k : Fin 1024) :
    iblk m c 4 t (ix3 0 q k) = padded (fun n => argU m c (ix2 k n)) (pos (par t) q) := by
  unfold iblk
  exact (rd_4 (V m c main_v19) t q k).trans (V_u m c (par t) q k)

theorem rd_5 (W : S4x768x1024.Idx → EReal) (t : Fin cfg0.N) (q : Fin 768) (k : Fin 1024) :
    ((cfg0.win 5).blk t).view.read (Elt Ideal) W (ix3 0 q k) = W (ix3 (par t) q k) := by
  blk_ext [idx t]

theorem blk_d (c : Dev nD) (t : Fin cfg0.N) (q : Fin 768) (k : Fin 1024) :
    iblk m c 5 t (ix3 0 q k) = padded (fun n => argD m c (ix2 n k)) (pos (par t) q) := by
  unfold iblk
  exact (rd_5 (V m c main_v23) t q k).trans (V_d m c (par t) q k)

theorem rd_6 (W : S1x1024.Idx → EReal) (t : Fin cfg0.N) (k : Fin 1024) :
    ((cfg0.win 6).blk t).view.read (Elt Ideal) W (ix2 0 k) = W (ix2 0 k) := by
  blk_ext [idx t]

theorem blk_s (c : Dev nD) (t : Fin cfg0.N) (k : Fin 1024) : iblk m c 6 t (ix2 0 k) = argS m c (ix1 k) := by
  unfold iblk
  exact (rd_6 (V m c main_v24) t k).trans (V_s m c k)

theorem rd_7 (W : S8192x3072.Idx → EReal) (t : Fin cfg0.N) (r : Fin 512) (q : Fin 768) :
    ((cfg0.win 7).blk t).view.read (Elt Ideal) W (ix2 r q) = W (ix2 (row t r) (pos (par t) q)) := by
  blk_ext [idx t]

theorem blk_a (c : Dev nD) (t : Fin cfg0.N) (r : Fin 512) (q : Fin 768) :
    iblk m c 7 t (ix2 r q) = padded (FfnXMath.prod (x_ m c (row t r)) (g_ m c)) (pos (par t) q) := by
  unfold iblk
  exact (rd_7 (V m c main_v28) t r q).trans (V_a m c (row t r) (pos (par t) q))

theorem rd_8 (W : S8192x3072.Idx → EReal) (t : Fin cfg0.N) (r : Fin 512) (q : Fin 768) :
    ((cfg0.win 8).blk t).view.read (Elt Ideal) W (ix2 r q) = W (ix2 (row t r) (pos (par t) q)) := by
  blk_ext [idx t]

theorem blk_b (c : Dev nD) (t : Fin cfg0.N) (r : Fin 512) (q : Fin 768) :
    iblk m c 8 t (ix2 r q) = padded (FfnXMath.prod (x_ m c (row t r)) (u_ m c)) (pos (par t) q) := by
  unfold iblk
  exact (rd_8 (V m c main_v32) t r q).trans (V_b m c (row t r) (pos (par t) q))

end Cert.FfnXIdeal.Blocks

end
-- ==== Proof.FfnXRow.lean ====
/- The fields of the state after a point of the feed-forward layer's gradient kernel, and their values row by row. -/
module

public import proofs.«01_k».proof.Proof.FfnXState
public import proofs.«01_k».proof.Proof.FfnXPoint
public import proofs.«01_k».proof.Proof.FfnXHost

@[expose] public section

set_option maxRecDepth 16384

noncomputable section

namespace Cert.FfnXIdeal.Run

open Cert.FfnXIdeal Cert.FfnXIdeal.Gen Cert.FfnXIdeal.Blocks Cert.FfnMath Cert.LnMath Cert.FfnXMath Idealize.ShloMosaic Idealize.ShloMosaic.TcCoe Idealize.SL.Sem

variable (m : (ℓ : Loc nD τ sig) → Buf (Elt Ideal) ℓ)

/-! ## The fields, by kind of point -/

theorem got_A_o10 (c : Dev nD) (t : Fin cfg0.N) (h : t.val = 0) :
    (st m c t.val t.isLt).o10 = out_A_o10 m c t (is_A t h) := (congrArg St.o10 (st_at_A m c t h)).trans (by dsimp only [st_A])
theorem got_A_o11 (c : Dev nD) (t : Fin cfg0.N) (h : t.val = 0) :
    (st m c t.val t.isLt).o11 = out_A_o11 m c t (is_A t h) := (congrArg St.o11 (st_at_A m c t h)).trans (by dsimp only [st_A])
theorem got_A_o12 (c : Dev nD) (t : Fin cfg0.N) (h : t.val = 0) :
    (st m c t.val t.isLt).o12 = out_A_o12 m c t (is_A t h) := (congrArg St.o12 (st_at_A m c t h)).trans (by dsimp only [st_A])
theorem got_A_o13 (c : Dev nD) (t : Fin cfg0.N) (h : t.val = 0) :
    (st m c t.val t.isLt).o13 = out_A_o13 m c t (is_A t h) := (congrArg St.o13 (st_at_A m c t h)).trans (by dsimp only [st_A])
theorem got_A_o14 (c : Dev nD) (t : Fin cfg0.N) (h : t.val = 0) :
    (st m c t.val t.isLt).o14 = out_A_o14 m c t (is_A t h) := (congrArg St.o14 (st_at_A m c t h)).trans (by dsimp only [st_A])
theorem got_A_s0 (c : Dev nD) (t : Fin cfg0.N) (h : t.val = 0) :
    (st m c t.val t.isLt).s0 = out_A_s0 m c t (is_A t h) := (congrArg St.s0 (st_at_A m c t h)).trans (by dsimp only [st_A])
theorem got_A_s1 (c : Dev nD) (t : Fin cfg0.N) (h : t.val = 0) :
    (st m c t.val t.isLt).s1 = out_A_s1 m c t (is_A t h) := (congrArg St.s1 (st_at_A m c t h)).trans (by dsimp only [st_A])
theorem got_A_s2 (c : Dev nD) (t : Fin cfg0.N) (h : t.val = 0) :
    (st m c t.val t.isLt).s2 = out_A_s2 m c t (is_A t h) := (congrArg St.s2 (st_at_A m c t h)).trans (by dsimp only [st_A])
theorem got_A_s3 (c : Dev nD) (t : Fin cfg0.N) (h : t.val = 0) :
    (st m c t.val t.isLt).s3 = out_A_s3 m c t (is_A t h) := (congrArg St.s3 (st_at_A m c t h)).trans (by dsimp only [st_A])
theorem got_A_s4 (c : Dev nD) (t : Fin cfg0.N) (h : t.val = 0) :
    (st m c t.val t.isLt).s4 = out_A_s4 m c t (is_A t h) := (congrArg St.s4 (st_at_A m c t h)).trans (by dsimp only [st_A])
theorem got_D_o10 (c : Dev nD) (t : Fin cfg0.N) (h : t.val % 4 = 0 ∧ t.val ≠ 0) :
    (st m c t.val t.isLt).o10 = out_D_o10 m c t (is_D t h) (prev m c t) := (congrArg St.o10 (st_at_D m c t h)).trans (by dsimp only [st_D])
theorem got_D_o11 (c : Dev nD) (t : Fin cfg0.N) (h : t.val % 4 = 0 ∧ t.val ≠ 0) :
    (st m c t.val t.isLt).o11 = out_D_o11 m c t (is_D t h) (prev m c t) := (congrArg St.o11 (st_at_D m c t h)).trans (by dsimp only [st_D])
theorem got_D_o12 (c : Dev nD) (t : Fin cfg0.N) (h : t.val % 4 = 0 ∧ t.val ≠ 0) :
    (st m c t.val t.isLt).o12 = out_D_o12 m c t (is_D t h) (prev m c t) := (congrArg St.o12 (st_at_D m c t h)).trans (by dsimp only [st_D])
theorem got_D_o13 (c : Dev nD) (t : Fin cfg0.N) (h : t.val % 4 = 0 ∧ t.val ≠ 0) :
    (st m c t.val t.isLt).o13 = out_D_o13 m c t (is_D t h) (prev m c t) := (congrArg St.o13 (st_at_D m c t h)).trans (by dsimp only [st_D])
theorem got_D_o14 (c : Dev nD) (t : Fin cfg0.N) (h : t.val % 4 = 0 ∧ t.val ≠ 0) :
    (st m c t.val t.isLt).o14 = out_D_o14 m c t (is_D t h) (prev m c t) := (congrArg St.o14 (st_at_D m c t h)).trans (by dsimp only [st_D])
theorem got_D_s0 (c : Dev nD) (t : Fin cfg0.N) (h : t.val % 4 = 0 ∧ t.val ≠ 0) :
    (st m c t.val t.isLt).s0 = out_D_s0 m c t (is_D t h) (prev m c t) := (congrArg St.s0 (st_at_D m c t h)).trans (by dsimp only [st_D])
theorem got_D_s1 (c : Dev nD) (t : Fin cfg0.N) (h : t.val % 4 = 0 ∧ t.val ≠ 0) :
    (st m c t.val t.isLt).s1 = out_D_s1 m c t (is_D t h) (prev m c t) := (congrArg St.s1 (st_at_D m c t h)).trans (by dsimp only [st_D])
theorem got_D_s2 (c : Dev nD) (t : Fin cfg0.N) (h : t.val % 4 = 0 ∧ t.val ≠ 0) :
    (st m c t.val t.isLt).s2 = out_D_s2 m c t (is_D t h) (prev m c t) := (congrArg St.s2 (st_at_D m c t h)).trans (by dsimp only [st_D])
theorem got_D_s3 (c : Dev nD) (t : Fin cfg0.N) (h : t.val % 4 = 0 ∧ t.val ≠ 0) :
    (st m c t.val t.isLt).s3 = out_D_s3 m c t (is_D t h) (prev m c t) := (congrArg St.s3 (st_at_D m c t h)).trans (by dsimp only [st_D])
theorem got_D_s4 (c : Dev nD) (t : Fin cfg0.N) (h : t.val % 4 = 0 ∧ t.val ≠ 0) :
    (st m c t.val t.isLt).s4 = out_D_s4 m c t (is_D t h) (prev m c t) := (congrArg St.s4 (st_at_D m c t h)).trans (by dsimp only [st_D])
theorem got_B_o12 (c : Dev nD) (t : Fin cfg0.N) (h : t.val % 4 ≠ 0 ∧ t.val % 4 ≠ 3) :
    (st m c t.val t.isLt).o12 = out_B_o12 m c t (is_B t h) (prev m c t) := (congrArg St.o12 (st_at_B m c t h)).trans (by dsimp only [st_B])
theorem got_B_o13 (c : Dev nD) (t : Fin cfg0.N) (h : t.val % 4 ≠ 0 ∧ t.val % 4 ≠ 3) :
    (st m c t.val t.isLt).o13 = out_B_o13 m c t (is_B t h) (prev m c t) := (congrArg St.o13 (st_at_B m c t h)).trans (by dsimp only [st_B])
theorem got_B_o14 (c : Dev nD) (t : Fin cfg0.N) (h : t.val % 4 ≠ 0 ∧ t.val % 4 ≠ 3) :
    (st m c t.val t.isLt).o14 = out_B_o14 m c t (is_B t h) (prev m c t) := (congrArg St.o14 (st_at_B m c t h)).trans (by dsimp only [st_B])
theorem got_B_s2 (c : Dev nD) (t : Fin cfg0.N) (h : t.val % 4 ≠ 0 ∧ t.val % 4 ≠ 3) :
    (st m c t.val t.isLt).s2 = out_B_s2 m c t (is_B t h) (prev m c t) := (congrArg St.s2 (st_at_B m c t h)).trans (by dsimp only [st_B])
theorem got_B_o10 (c : Dev nD) (t : Fin cfg0.N) (h : t.val % 4 ≠ 0 ∧ t.val % 4 ≠ 3) :
    (st m c t.val t.isLt).o10 = (prev m c t).o10 := (congrArg St.o10 (st_at_B m c t h)).trans (by dsimp only [st_B])
theorem got_B_o11 (c : Dev nD) (t : Fin cfg0.N) (h : t.val % 4 ≠ 0 ∧ t.val % 4 ≠ 3) :
    (st m c t.val t.isLt).o11 = (prev m c t).o11 := (congrArg St.o11 (st_at_B m c t h)).trans (by dsimp only [st_B])
theorem got_B_s0 (c : Dev nD) (t : Fin cfg0.N) (h : t.val % 4 ≠ 0 ∧ t.val % 4 ≠ 3) :
    (st m c t.val t.isLt).s0 = (prev m c t).s0 := (congrArg St.s0 (st_at_B m c t h)).trans (by dsimp only [st_B])
theorem got_B_s1 (c : Dev nD) (t : Fin cfg0.N) (h : t.val % 4 ≠ 0 ∧ t.val % 4 ≠ 3) :
    (st m c t.val t.isLt).s1 = (prev m c t).s1 := (congrArg St.s1 (st_at_B m c t h)).trans (by dsimp only [st_B])
theorem got_B_s3 (c : Dev nD) (t : Fin cfg0.N) (h : t.val % 4 ≠ 0 ∧ t.val % 4 ≠ 3) :
    (st m c t.val t.isLt).s3 = (prev m c t).s3 := (congrArg St.s3 (st_at_B m c t h)).trans (by dsimp only [st_B])
theorem got_B_s4 (c : Dev nD) (t : Fin cfg0.N) (h : t.val % 4 ≠ 0 ∧ t.val % 4 ≠ 3) :
    (st m c t.val t.isLt).s4 = (prev m c t).s4 := (congrArg St.s4 (st_at_B m c t h)).trans (by dsimp only [st_B])
theorem got_C_o9 (c : Dev nD) (t : Fin cfg0.N) (h : t.val % 4 = 3 ∧ t.val ≠ 63) :
    (st m c t.val t.isLt).o9 = out_C_o9 m c t (is_C t h) (prev m c t) := (congrArg St.o9 (st_at_C m c t h)).trans (by dsimp only [st_C])
theorem got_C_o12 (c : Dev nD) (t : Fin cfg0.N) (h : t.val % 4 = 3 ∧ t.val ≠ 63) :
    (st m c t.val t.isLt).o12 = out_C_o12 m c t (is_C t h) (prev m c t) := (congrArg St.o12 (st_at_C m c t h)).trans (by dsimp only [st_C])
theorem got_C_o13 (c : Dev nD) (t : Fin cfg0.N) (h : t.val % 4 = 3 ∧ t.val ≠ 63) :
    (st m c t.val t.isLt).o13 = out_C_o13 m c t (is_C t h) (prev m c t) := (congrArg St.o13 (st_at_C m c t h)).trans (by dsimp only [st_C])
theorem got_C_o14 (c : Dev nD) (t : Fin cfg0.N) (h : t.val % 4 = 3 ∧ t.val ≠ 63) :
    (st m c t.val t.isLt).o14 = out_C_o14 m c t (is_C t h) (prev m c t) := (congrArg St.o14 (st_at_C m c t h)).trans (by dsimp only [st_C])
theorem got_C_s2 (c : Dev nD) (t : Fin cfg0.N) (h : t.val % 4 = 3 ∧ t.val ≠ 63) :
    (st m c t.val t.isLt).s2 = out_C_s2 m c t (is_C t h) (prev m c t) := (congrArg St.s2 (st_at_C m c t h)).trans (by dsimp only [st_C])
theorem got_C_o10 (c : Dev nD) (t : Fin cfg0.N) (h : t.val % 4 = 3 ∧ t.val ≠ 63) :
    (st m c t.val t.isLt).o10 = (prev m c t).o10 := (congrArg St.o10 (st_at_C m c t h)).trans (by dsimp only [st_C])
theorem got_C_o11 (c : Dev nD) (t : Fin cfg0.N) (h : t.val % 4 = 3 ∧ t.val ≠ 63) :
    (st m c t.val t.isLt).o11 = (prev m c t).o11 := (congrArg St.o11 (st_at_C m c t h)).trans (by dsimp only [st_C])
theorem got_C_s0 (c : Dev nD) (t : Fin cfg0.N) (h : t.val % 4 = 3 ∧ t.val ≠ 63) :
    (st m c t.val t.isLt).s0 = (prev m c t).s0 := (congrArg St.s0 (st_at_C m c t h)).trans (by dsimp only [st_C])
theorem got_C_s1 (c : Dev nD) (t : Fin cfg0.N) (h : t.val % 4 = 3 ∧ t.val ≠ 63) :
    (st m c t.val t.isLt).s1 = (prev m c t).s1 := (congrArg St.s1 (st_at_C m c t h)).trans (by dsimp only [st_C])
theorem got_C_s3 (c : Dev nD) (t : Fin cfg0.N) (h : t.val % 4 = 3 ∧ t.val ≠ 63) :
    (st m c t.val t.isLt).s3 = (prev m c t).s3 := (congrArg St.s3 (st_at_C m c t h)).trans (by dsimp only [st_C])
theorem got_C_s4 (c : Dev nD) (t : Fin cfg0.N) (h : t.val % 4 = 3 ∧ t.val ≠ 63) :
    (st m c t.val t.isLt).s4 = (prev m c t).s4 := (congrArg St.s4 (st_at_C m c t h)).trans (by dsimp only [st_C])
theorem got_E_o9 (c : Dev nD) (t : Fin cfg0.N) (h : t.val = 63) :
    (st m c t.val t.isLt).o9 = out_E_o9 m c t (is_E t h) (prev m c t) := (congrArg St.o9 (st_at_E m c t h)).trans (by dsimp only [st_E])
theorem got_E_o12 (c : Dev nD) (t : Fin cfg0.N) (h : t.val = 63) :
    (st m c t.val t.isLt).o12 = out_E_o12 m c t (is_E t h) (prev m c t) := (congrArg St.o12 (st_at_E m c t h)).trans (by dsimp only [st_E])
theorem got_E_o13 (c : Dev nD) (t : Fin cfg0.N) (h : t.val = 63) :
    (st m c t.val t.isLt).o13 = out_E_o13 m c t (is_E t h) (prev m c t) := (congrArg St.o13 (st_at_E m c t h)).trans (by dsimp only [st_E])
theorem got_E_o14 (c : Dev nD) (t : Fin cfg0.N) (h : t.val = 63) :
    (st m c t.val t.isLt).o14 = out_E_o14 m c t (is_E t h) (prev m c t) := (congrArg St.o14 (st_at_E m c t h)).trans (by dsimp only [st_E])
theorem got_E_o15 (c : Dev nD) (t : Fin cfg0.N) (h : t.val = 63) :
    (st m c t.val t.isLt).o15 = out_E_o15 m c t (is_E t h) (prev m c t) := (congrArg St.o15 (st_at_E m c t h)).trans (by dsimp only [st_E])
theorem got_E_o16 (c : Dev nD) (t : Fin cfg0.N) (h : t.val = 63) :
    (st m c t.val t.isLt).o16 = out_E_o16 m c t (is_E t h) (prev m c t) := (congrArg St.o16 (st_at_E m c t h)).trans (by dsimp only [st_E])
theorem got_E_s2 (c : Dev nD) (t : Fin cfg0.N) (h : t.val = 63) :
    (st m c t.val t.isLt).s2 = out_E_s2 m c t (is_E t h) (prev m c t) := (congrArg St.s2 (st_at_E m c t h)).trans (by dsimp only [st_E])
theorem got_E_o10 (c : Dev nD) (t : Fin cfg0.N) (h : t.val = 63) :
    (st m c t.val t.isLt).o10 = (prev m c t).o10 := (congrArg St.o10 (st_at_E m c t h)).trans (by dsimp only [st_E])
theorem got_E_o11 (c : Dev nD) (t : Fin cfg0.N) (h : t.val = 63) :
    (st m c t.val t.isLt).o11 = (prev m c t).o11 := (congrArg St.o11 (st_at_E m c t h)).trans (by dsimp only [st_E])
theorem got_E_s0 (c : Dev nD) (t : Fin cfg0.N) (h : t.val = 63) :
    (st m c t.val t.isLt).s0 = (prev m c t).s0 := (congrArg St.s0 (st_at_E m c t h)).trans (by dsimp only [st_E])
theorem got_E_s1 (c : Dev nD) (t : Fin cfg0.N) (h : t.val = 63) :
    (st m c t.val t.isLt).s1 = (prev m c t).s1 := (congrArg St.s1 (st_at_E m c t h)).trans (by dsimp only [st_E])
theorem got_E_s3 (c : Dev nD) (t : Fin cfg0.N) (h : t.val = 63) :
    (st m c t.val t.isLt).s3 = (prev m c t).s3 := (congrArg St.s3 (st_at_E m c t h)).trans (by dsimp only [st_E])
theorem got_E_s4 (c : Dev nD) (t : Fin cfg0.N) (h : t.val = 63) :
    (st m c t.val t.isLt).s4 = (prev m c t).s4 := (congrArg St.s4 (st_at_E m c t h)).trans (by dsimp only [st_E])

theorem kinds (t : Fin cfg0.N) : t.val = 0 ∨ (t.val % 4 = 0 ∧ t.val ≠ 0) ∨ (t.val % 4 ≠ 0 ∧ t.val % 4 ≠ 3) ∨ (t.val % 4 = 3 ∧ t.val ≠ 63) ∨ t.val = 63 := by
  omega

/-! ## One row of the input: its gradients -/

/-- The gradient of the row before the norm. -/
def dRow (c : Dev nD) (R : Fin 8192) (e : Fin 1024) : EReal :=
  closed (fun j => y_ m c R j * s_ m c j) (fun j => pre (x_ m c R) (g_ m c) (u_ m c) (d_ m c) j) e
def gateRow (c : Dev nD) (R : Fin 8192) (n : Fin 2816) : EReal :=
  gate (FfnXMath.prod (x_ m c R) (g_ m c) n) (FfnXMath.prod (x_ m c R) (u_ m c) n) (hid (dRow m c R) (d_ m c) n)
def upRow (c : Dev nD) (R : Fin 8192) (n : Fin 2816) : EReal :=
  up (FfnXMath.prod (x_ m c R) (g_ m c) n) (hid (dRow m c R) (d_ m c) n)
def actRow (c : Dev nD) (R : Fin 8192) (n : Fin 2816) : EReal :=
  act (FfnXMath.prod (x_ m c R) (g_ m c) n) (FfnXMath.prod (x_ m c R) (u_ m c) n)

/-- What block `p` of the hidden columns adds to the gradient of the input. -/
def partRow (c : Dev nD) (R : Fin 8192) (e : Fin 1024) (p : Fin 4) : EReal :=
  ∑ q : Fin 768, padded (fun n => gateRow m c R n * g_ m c e n) (pos p q) + ∑ q : Fin 768, padded (fun n => upRow m c R n * u_ m c e n) (pos p q)

/-- What a row adds to the gradients of the norm's weight and bias. -/
def rowG (c : Dev nD) (e : Fin 1024) (R : Fin 8192) : EReal :=
  y_ m c R e * xhat (fun k => pre (x_ m c R) (g_ m c) (u_ m c) (d_ m c) k) e
def rowB (c : Dev nD) (e : Fin 1024) (R : Fin 8192) : EReal := y_ m c R e

theorem cot_val (c : Dev nD) (t : Fin cfg0.N) (r : Fin 512) :
    cotOf (iblk m c 0 t) (iblk m c 6 t) r = fun j => y_ m c (row t r) j * s_ m c j :=
  funext fun j => congrArg₂ (fun a b : EReal => a * b) (blk_y m c t r j) (blk_s m c t j)

theorem pre_val (c : Dev nD) (t : Fin cfg0.N) (r : Fin 512) :
    rowOf (iblk m c 1 t) r = fun j => pre (x_ m c (row t r)) (g_ m c) (u_ m c) (d_ m c) j :=
  funext fun j => blk_pre m c t r j

theorem closed_val (c : Dev nD) (t : Fin cfg0.N) (r : Fin 512) (e : Fin 1024) :
    closed (cotOf (iblk m c 0 t) (iblk m c 6 t) r) (rowOf (iblk m c 1 t) r) e = dRow m c (row t r) e := by
  rw [cot_val, pre_val]
  rfl

theorem df_val (c : Dev nD) (t : Fin cfg0.N) (r : Fin 512) (e : Fin 1024) : df m c t (ix2 r e) = half * dRow m c (row t r) e :=
  (pay8_apply _ r e).trans (congrArg (fun a : EReal => half * a) ((pay6_apply _ _ _ r e).trans (closed_val m c t r e)))

theorem partG_val (c : Dev nD) (t : Fin cfg0.N) (s : Fin 8) (e : Fin 1024) :
    partG (iblk m c 0 t) (iblk m c 1 t) s e = ∑ q : Fin 64, rowG m c e (row t (sub8 q s)) :=
  Finset.sum_congr rfl fun q _ => congrArg₂ (fun (a : EReal) (b : Fin 1024 → EReal) => a * xhat b e) (blk_y m c t (sub8 q s) e) (pre_val m c t (sub8 q s))

theorem partB_val (c : Dev nD) (t : Fin cfg0.N) (s : Fin 8) (e : Fin 1024) :
    partB (iblk m c 0 t) s e = ∑ q : Fin 64, rowB m c e (row t (sub8 q s)) :=
  Finset.sum_congr rfl fun q _ => blk_y m c t (sub8 q s) e

theorem row_prev (t : Fin cfg0.N) (h : t.val % 4 ≠ 0) (r : Fin 512) :
    row ⟨t.val - 1, Nat.lt_of_le_of_lt (Nat.sub_le _ _) t.isLt⟩ r = row t r :=
  Fin.ext (by show (t.val - 1) / 4 * 512 + r.val = t.val / 4 * 512 + r.val; omega)

/-- What a row block's first point leaves, its other points keep. -/
def Kept (c : Dev nD) (R : Fin 8192) (r : Fin 512) (e : Fin 1024) (s : St Ideal) : Prop :=
  s.s0 (ix2 r e) = half * dRow m c R e ∧ s.s1 (ix2 r e) = dRow m c R e ∧ s.o10 (ix2 r e) = argX m c (ix2 R e)
    ∧ s.o11 (ix2 r e) = half * dRow m c R e

theorem kept (c : Dev nD) (r : Fin 512) (e : Fin 1024) : ∀ (n : ℕ) (t : Fin cfg0.N) (_ : t.val = n),
    Kept m c (row t r) r e (st m c t.val t.isLt) := by
  intro n
  induction n with
  | zero =>
    intro t h
    exact ⟨(congrFun (got_A_s0 m c t h) _).trans ((A_s0 m c t _ r e).trans (df_val m c t r e)),
      (congrFun (got_A_s1 m c t h) _).trans ((A_s1 m c t _ r e).trans (closed_val m c t r e)),
      (congrFun (got_A_o10 m c t h) _).trans ((A_o10 m c t _ r e).trans (blk_x m c t r e)),
      (congrFun (got_A_o11 m c t h) _).trans ((A_o11 m c t _ r e).trans (df_val m c t r e))⟩
  | succ n ih =>
    intro t h
    have hp : t.val % 4 ≠ 0 → Kept m c (row t r) r e (prev m c t) := fun h4 => by
      rw [← row_prev t h4 r]
      exact ih ⟨t.val - 1, Nat.lt_of_le_of_lt (Nat.sub_le _ _) t.isLt⟩ (by show t.val - 1 = n; omega)
    rcases kinds t with h0 | h0 | h0 | h0 | h0
    · omega
    · exact ⟨(congrFun (got_D_s0 m c t h0) _).trans ((D_s0 m c t _ _ r e).trans (df_val m c t r e)),
        (congrFun (got_D_s1 m c t h0) _).trans ((D_s1 m c t _ _ r e).trans (closed_val m c t r e)),
        (congrFun (got_D_o10 m c t h0) _).trans ((D_o10 m c t _ _ r e).trans (blk_x m c t r e)),
        (congrFun (got_D_o11 m c t h0) _).trans ((D_o11 m c t _ _ r e).trans (df_val m c t r e))⟩
    · obtain ⟨p0, p1, p2, p3⟩ := hp h0.1
      exact ⟨(congrFun (got_B_s0 m c t h0) _).trans p0, (congrFun (got_B_s1 m c t h0) _).trans p1,
        (congrFun (got_B_o10 m c t h0) _).trans p2, (congrFun (got_B_o11 m c t h0) _).trans p3⟩
    · obtain ⟨p0, p1, p2, p3⟩ := hp (by omega)
      exact ⟨(congrFun (got_C_s0 m c t h0) _).trans p0, (congrFun (got_C_s1 m c t h0) _).trans p1,
        (congrFun (got_C_o10 m c t h0) _).trans p2, (congrFun (got_C_o11 m c t h0) _).trans p3⟩
    · obtain ⟨p0, p1, p2, p3⟩ := hp (by omega)
      exact ⟨(congrFun (got_E_s0 m c t h0) _).trans p0, (congrFun (got_E_s1 m c t h0) _).trans p1,
        (congrFun (got_E_o10 m c t h0) _).trans p2, (congrFun (got_E_o11 m c t h0) _).trans p3⟩

theorem kept_prev (c : Dev nD) (t : Fin cfg0.N) (h : t.val % 4 ≠ 0) (r : Fin 512) (e : Fin 1024) : Kept m c (row t r) r e (prev m c t) := by
  rw [← row_prev t h r]
  exact kept m c r e _ ⟨t.val - 1, Nat.lt_of_le_of_lt (Nat.sub_le _ _) t.isLt⟩ rfl

/-! ## One block of hidden columns -/

section

variable (c : Dev nD) (t : Fin cfg0.N) (S : Vec Ideal S512x1024 .bf16) (r : Fin 512)
  (hS : ∀ k, S (ix2 r k) = half * dRow m c (row t r) k)

include hS

theorem hid_val (q : Fin 768) : hidOf S (iblk m c 5 t) r q = padded (hid (dRow m c (row t r)) (d_ m c)) (pos (par t) q) :=
  (Finset.sum_congr rfl fun k _ => congrArg₂ (fun a b : EReal => a * b) (hS k) (blk_d m c t q k)).trans
    (sum_mul_padded (fun k => half * dRow m c (row t r) k) (fun k n => argD m c (ix2 n k)) (pos (par t) q))

theorem gate_val (q : Fin 768) :
    gateOf S (iblk m c 5 t) (iblk m c 7 t) (iblk m c 8 t) r q = padded (gateRow m c (row t r)) (pos (par t) q) := by
  unfold gateOf
  rw [hid_val m c t S r hS q, blk_a, blk_b]
  exact gate_padded _ _ _ _

theorem up_val (q : Fin 768) : upOf S (iblk m c 5 t) (iblk m c 7 t) r q = padded (upRow m c (row t r)) (pos (par t) q) := by
  unfold upOf
  rw [hid_val m c t S r hS q, blk_a]
  exact up_padded _ _ _

theorem part_val (e : Fin 1024) : part S (iblk m c 5 t) (iblk m c 7 t) (iblk m c 8 t) (iblk m c 3 t) (iblk m c 4 t) r e
    = partRow m c (row t r) e (par t) :=
  congrArg₂ (fun a b : EReal => a + b)
    (Finset.sum_congr rfl fun q _ => (congrArg₂ (fun a b : EReal => a * b) (gate_val m c t S r hS q) (blk_g m c t q e)).trans
      (mul_padded (gateRow m c (row t r)) (g_ m c e) (pos (par t) q)))
    (Finset.sum_congr rfl fun q _ => (congrArg₂ (fun a b : EReal => a * b) (up_val m c t S r hS q) (blk_u m c t q e)).trans
      (mul_padded (upRow m c (row t r)) (u_ m c e) (pos (par t) q)))

end

theorem act_val (c : Dev nD) (t : Fin cfg0.N) (r : Fin 512) (q : Fin 768) :
    actOf (iblk m c 7 t) (iblk m c 8 t) r q = padded (actRow m c (row t r)) (pos (par t) q) := by
  unfold actOf
  rw [blk_a, blk_b]
  exact act_padded' _ _ _

theorem o12_val (c : Dev nD) (t : Fin cfg0.N) (r : Fin 512) (q : Fin 768) :
    (st m c t.val t.isLt).o12 (ix2 r q) = padded (gateRow m c (row t r)) (pos (par t) q) := by
  rcases kinds t with h | h | h | h | h
  · exact (congrFun (got_A_o12 m c t h) _).trans ((A_o12 m c t _ r q).trans (gate_val m c t (df m c t) r (fun k => df_val m c t r k) q))
  · exact (congrFun (got_D_o12 m c t h) _).trans ((D_o12 m c t _ _ r q).trans (gate_val m c t (df m c t) r (fun k => df_val m c t r k) q))
  · exact (congrFun (got_B_o12 m c t h) _).trans ((B_o12 m c t _ _ r q).trans (gate_val m c t (prev m c t).s0 r (fun k => (kept_prev m c t h.1 r k).1) q))
  · exact (congrFun (got_C_o12 m c t h) _).trans ((C_o12 m c t _ _ r q).trans (gate_val m c t (prev m c t).s0 r (fun k => (kept_prev m c t (by omega) r k).1) q))
  · exact (congrFun (got_E_o12 m c t h) _).trans ((E_o12 m c t _ _ r q).trans (gate_val m c t (prev m c t).s0 r (fun k => (kept_prev m c t (by omega) r k).1) q))

theorem o13_val (c : Dev nD) (t : Fin cfg0.N) (r : Fin 512) (q : Fin 768) :
    (st m c t.val t.isLt).o13 (ix2 r q) = padded (upRow m c (row t r)) (pos (par t) q) := by
  rcases kinds t with h | h | h | h | h
  · exact (congrFun (got_A_o13 m c t h) _).trans ((A_o13 m c t _ r q).trans (up_val m c t (df m c t) r (fun k => df_val m c t r k) q))
  · exact (congrFun (got_D_o13 m c t h) _).trans ((D_o13 m c t _ _ r q).trans (up_val m c t (df m c t) r (fun k => df_val m c t r k) q))
  · exact (congrFun (got_B_o13 m c t h) _).trans ((B_o13 m c t _ _ r q).trans (up_val m c t (prev m c t).s0 r (fun k => (kept_prev m c t h.1 r k).1) q))
  · exact (congrFun (got_C_o13 m c t h) _).trans ((C_o13 m c t _ _ r q).trans (up_val m c t (prev m c t).s0 r (fun k => (kept_prev m c t (by omega) r k).1) q))
  · exact (congrFun (got_E_o13 m c t h) _).trans ((E_o13 m c t _ _ r q).trans (up_val m c t (prev m c t).s0 r (fun k => (kept_prev m c t (by omega) r k).1) q))

theorem o14_val (c : Dev nD) (t : Fin cfg0.N) (r : Fin 512) (q : Fin 768) :
    (st m c t.val t.isLt).o14 (ix2 r q) = padded (actRow m c (row t r)) (pos (par t) q) := by
  rcases kinds t with h | h | h | h | h
  · exact (congrFun (got_A_o14 m c t h) _).trans ((A_o14 m c t _ r q).trans (act_val m c t r q))
  · exact (congrFun (got_D_o14 m c t h) _).trans ((D_o14 m c t _ _ r q).trans (act_val m c t r q))
  · exact (congrFun (got_B_o14 m c t h) _).trans ((B_o14 m c t _ _ r q).trans (act_val m c t r q))
  · exact (congrFun (got_C_o14 m c t h) _).trans ((C_o14 m c t _ _ r q).trans (act_val m c t r q))
  · exact (congrFun (got_E_o14 m c t h) _).trans ((E_o14 m c t _ _ r q).trans (act_val m c t r q))

/-! ## The sum over the blocks of hidden columns -/

/-- What point `t` adds. -/
def term (c : Dev nD) (t : Fin cfg0.N) (y : S512x1024.Idx) : EReal := partRow m c (row t (y 0)) (y 1) (par t)

theorem s2_A (c : Dev nD) (t : Fin cfg0.N) (h4 : t.val % 4 = 0) (y : S512x1024.Idx) :
    (st m c t.val t.isLt).s2 y = 0 + term m c t y := by
  obtain ⟨r, e, rfl⟩ : ∃ (r : Fin 512) (e : Fin 1024), y = ix2 r e := ⟨y 0, y 1, by funext a; fin_cases a <;> rfl⟩
  refine Eq.trans ?_ (zero_add (M := EReal) _).symm
  rcases kinds t with h | h | h | h | h
  · exact (congrFun (got_A_s2 m c t h) _).trans ((A_s2 m c t _ r e).trans (part_val m c t (df m c t) r (fun k => df_val m c t r k) e))
  · exact (congrFun (got_D_s2 m c t h) _).trans ((D_s2 m c t _ _ r e).trans (part_val m c t (df m c t) r (fun k => df_val m c t r k) e))
  all_goals omega

theorem s2_B (c : Dev nD) (t : Fin cfg0.N) (h4 : ¬t.val % 4 = 0) (y : S512x1024.Idx) :
    (st m c t.val t.isLt).s2 y = (prev m c t).s2 y + term m c t y := by
  obtain ⟨r, e, rfl⟩ : ∃ (r : Fin 512) (e : Fin 1024), y = ix2 r e := ⟨y 0, y 1, by funext a; fin_cases a <;> rfl⟩
  have hv := congrArg (fun a : EReal => (prev m c t).s2 (ix2 r e) + a)
    (part_val m c t (prev m c t).s0 r (fun k => (kept_prev m c t h4 r k).1) e)
  rcases kinds t with h | h | h | h | h
  · omega
  · omega
  · exact (congrFun (got_B_s2 m c t h) _).trans ((B_s2 m c t _ _ r e).trans hv)
  · exact (congrFun (got_C_s2 m c t h) _).trans ((C_s2 m c t _ _ r e).trans hv)
  · exact (congrFun (got_E_s2 m c t h) _).trans ((E_s2 m c t _ _ r e).trans hv)

theorem s2_last (c : Dev nD) (t : Fin cfg0.N) (h3 : t.val % 4 = 3) (r : Fin 512) (e : Fin 1024) :
    (st m c t.val t.isLt).s2 (ix2 r e)
      = ∑ n, gateRow m c (row t r) n * g_ m c e n + ∑ n, upRow m c (row t r) n * u_ m c e n := by
  rw [Pipeline.eq_sum_fin_of_reset_step_apply_of_flush (fun n h => (st m c n h).s2) 4 (fun _ => 0)
      (fun t => term m c t) (fun t h j => s2_A m c t h j) (fun t h j => s2_B m c t h j) t h3 _, zero_add,
    ← sum_two (fun n => gateRow m c (row t r) n * g_ m c e n) (fun n => upRow m c (row t r) n * u_ m c e n)]
  refine Finset.sum_congr rfl fun s _ => ?_
  have hs : (4 * (t.val / 4) + s.val) / 4 = t.val / 4 := by omega
  have hm : (4 * (t.val / 4) + s.val) % 4 = s.val := by omega
  show partRow m c (row _ r) e (par _) = _
  simp only [row, par, hs, hm]
  rfl

theorem o9_val (c : Dev nD) (t : Fin cfg0.N) (h3 : t.val % 4 = 3) (r : Fin 512) (e : Fin 1024) :
    (st m c t.val t.isLt).o9 (ix2 r e) = back (dRow m c (row t r)) (gateRow m c (row t r)) (upRow m c (row t r)) (g_ m c) (u_ m c) e := by
  have hp := (kept_prev m c t (by omega) r e).2.1
  have hv := s2_last m c t h3 r e
  rcases kinds t with h | h | h | h | h
  · omega
  · omega
  · omega
  · exact (congrFun (got_C_o9 m c t h) _).trans ((C_o9 m c t _ _ r e).trans (congrArg₂ (fun a b : EReal => alpha * a + b) hp
      (((congrFun (got_C_s2 m c t h) _).trans (C_s2 m c t _ _ r e)).symm.trans hv)))
  · exact (congrFun (got_E_o9 m c t h) _).trans ((E_o9 m c t _ _ r e).trans (congrArg₂ (fun a b : EReal => alpha * a + b) hp
      (((congrFun (got_E_s2 m c t h) _).trans (E_s2 m c t _ _ r e)).symm.trans hv)))

/-! ## The sums over the rows -/

/-- A sum whose terms vanish off the multiples of four. -/
theorem sum_fourths (G : Fin 64 → EReal) (H : Fin 16 → EReal) (h : ∀ k : Fin 64, G k = if k.val % 4 = 0 then H ⟨k.val / 4, by omega⟩ else 0) :
    ∑ k, G k = ∑ j, H j := by
  have h1 : ∑ j : Fin 16, ∑ i : Fin 4, (if i.val = 0 then H j else 0) = ∑ k, G k :=
    Fin.sum_mul_add_congr (S := 16) (n := 4) fun j i hl => by
      have hj : (⟨(j.val * 4 + i.val) / 4, by omega⟩ : Fin 16) = j := Fin.ext (by show (j.val * 4 + i.val) / 4 = j.val; omega)
      have hi : ((j.val * 4 + i.val) % 4 = 0) = (i.val = 0) := by simp only [eq_iff_iff]; omega
      rw [h]
      simp only [hj, hi]
  rw [← h1]
  refine Finset.sum_congr rfl fun j _ => ?_
  simp [Fin.sum_univ_four]

/-- What point `t` adds: at a row block's first point its rows, elsewhere nothing. -/
def term_s3 (c : Dev nD) (t : Fin cfg0.N) (y : S8x1024.Idx) : EReal :=
  if t.val % 4 = 0 then ∑ q : Fin 64, rowG m c (y 1) (row t (sub8 q (y 0))) else 0

theorem term_s3_on (c : Dev nD) (t : Fin cfg0.N) (h : t.val % 4 = 0) (s : Fin 8) (e : Fin 1024) :
    partG (iblk m c 0 t) (iblk m c 1 t) s e = term_s3 m c t (ix2 s e) :=
  (partG_val m c t s e).trans (if_pos h).symm

theorem s3_A (c : Dev nD) (t : Fin cfg0.N) (h : t.val % 64 = 0) (y : S8x1024.Idx) :
    (st m c t.val t.isLt).s3 y = 0 + term_s3 m c t y := by
  obtain ⟨s, e, rfl⟩ : ∃ (s : Fin 8) (e : Fin 1024), y = ix2 s e := ⟨y 0, y 1, by funext a; fin_cases a <;> rfl⟩
  have h0 : t.val = 0 := by have := under t; omega
  refine Eq.trans ?_ (zero_add (M := EReal) _).symm
  exact (congrFun (got_A_s3 m c t h0) _).trans ((A_s3 m c t _ s e).trans (term_s3_on m c t (by omega) s e))

theorem s3_B (c : Dev nD) (t : Fin cfg0.N) (hn : ¬t.val % 64 = 0) (y : S8x1024.Idx) :
    (st m c t.val t.isLt).s3 y = (prev m c t).s3 y + term_s3 m c t y := by
  obtain ⟨s, e, rfl⟩ : ∃ (s : Fin 8) (e : Fin 1024), y = ix2 s e := ⟨y 0, y 1, by funext a; fin_cases a <;> rfl⟩
  have off : t.val % 4 ≠ 0 → (prev m c t).s3 (ix2 s e) = (prev m c t).s3 (ix2 s e) + term_s3 m c t (ix2 s e) := fun h4 => by
    rw [term_s3, if_neg h4]
    exact (add_zero (M := EReal) _).symm
  rcases kinds t with h | h | h | h | h
  · omega
  · exact (congrFun (got_D_s3 m c t h) _).trans ((D_s3 m c t _ _ s e).trans
      (congrArg (fun a : EReal => (prev m c t).s3 (ix2 s e) + a) (term_s3_on m c t h.1 s e)))
  · exact (congrFun (got_B_s3 m c t h) _).trans (off h.1)
  · exact (congrFun (got_C_s3 m c t h) _).trans (off (by omega))
  · exact (congrFun (got_E_s3 m c t h) _).trans (off (by omega))

theorem s3_last (c : Dev nD) (t : Fin cfg0.N) (h : t.val = 63) (s : Fin 8) (e : Fin 1024) :
    (st m c t.val t.isLt).s3 (ix2 s e) = ∑ j : Fin 16, ∑ q : Fin 64, rowG m c e ⟨j.val * 512 + (sub8 q s).val, by omega⟩ := by
  rw [Pipeline.eq_sum_fin_of_reset_step_apply_of_flush (fun n h => (st m c n h).s3) 64 (fun _ => 0)
      (fun t => term_s3 m c t) (fun t h j => s3_A m c t h j) (fun t h j => s3_B m c t h j) t (by omega) _, zero_add]
  refine sum_fourths _ (fun j : Fin 16 => ∑ q : Fin 64, rowG m c e ⟨j.val * 512 + (sub8 q s).val, by omega⟩) fun k => ?_
  have hk : 64 * (t.val / 64) + k.val = k.val := by omega
  show (if (64 * (t.val / 64) + k.val) % 4 = 0 then ∑ q : Fin 64, rowG m c e (row _ (sub8 q s)) else 0) = _
  simp only [row, hk]

/-- What point `t` adds: at a row block's first point its rows, elsewhere nothing. -/
def term_s4 (c : Dev nD) (t : Fin cfg0.N) (y : S8x1024.Idx) : EReal :=
  if t.val % 4 = 0 then ∑ q : Fin 64, rowB m c (y 1) (row t (sub8 q (y 0))) else 0

theorem term_s4_on (c : Dev nD) (t : Fin cfg0.N) (h : t.val % 4 = 0) (s : Fin 8) (e : Fin 1024) :
    partB (iblk m c 0 t) s e = term_s4 m c t (ix2 s e) :=
  (partB_val m c t s e).trans (if_pos h).symm

theorem s4_A (c : Dev nD) (t : Fin cfg0.N) (h : t.val % 64 = 0) (y : S8x1024.Idx) :
    (st m c t.val t.isLt).s4 y = 0 + term_s4 m c t y := by
  obtain ⟨s, e, rfl⟩ : ∃ (s : Fin 8) (e : Fin 1024), y = ix2 s e := ⟨y 0, y 1, by funext a; fin_cases a <;> rfl⟩
  have h0 : t.val = 0 := by have := under t; omega
  refine Eq.trans ?_ (zero_add (M := EReal) _).symm
  exact (congrFun (got_A_s4 m c t h0) _).trans ((A_s4 m c t _ s e).trans (term_s4_on m c t (by omega) s e))

theorem s4_B (c : Dev nD) (t : Fin cfg0.N) (hn : ¬t.val % 64 = 0) (y : S8x1024.Idx) :
    (st m c t.val t.isLt).s4 y = (prev m c t).s4 y + term_s4 m c t y := by
  obtain ⟨s, e, rfl⟩ : ∃ (s : Fin 8) (e : Fin 1024), y = ix2 s e := ⟨y 0, y 1, by funext a; fin_cases a <;> rfl⟩
  have off : t.val % 4 ≠ 0 → (prev m c t).s4 (ix2 s e) = (prev m c t).s4 (ix2 s e) + term_s4 m c t (ix2 s e) := fun h4 => by
    rw [term_s4, if_neg h4]
    exact (add_zero (M := EReal) _).symm
  rcases kinds t with h | h | h | h | h
  · omega
  · exact (congrFun (got_D_s4 m c t h) _).trans ((D_s4 m c t _ _ s e).trans
      (congrArg (fun a : EReal => (prev m c t).s4 (ix2 s e) + a) (term_s4_on m c t h.1 s e)))
  · exact (congrFun (got_B_s4 m c t h) _).trans (off h.1)
  · exact (congrFun (got_C_s4 m c t h) _).trans (off (by omega))
  · exact (congrFun (got_E_s4 m c t h) _).trans (off (by omega))

theorem s4_last (c : Dev nD) (t : Fin cfg0.N) (h : t.val = 63) (s : Fin 8) (e : Fin 1024) :
    (st m c t.val t.isLt).s4 (ix2 s e) = ∑ j : Fin 16, ∑ q : Fin 64, rowB m c e ⟨j.val * 512 + (sub8 q s).val, by omega⟩ := by
  rw [Pipeline.eq_sum_fin_of_reset_step_apply_of_flush (fun n h => (st m c n h).s4) 64 (fun _ => 0)
      (fun t => term_s4 m c t) (fun t h j => s4_A m c t h j) (fun t h j => s4_B m c t h j) t (by omega) _, zero_add]
  refine sum_fourths _ (fun j : Fin 16 => ∑ q : Fin 64, rowB m c e ⟨j.val * 512 + (sub8 q s).val, by omega⟩) fun k => ?_
  have hk : 64 * (t.val / 64) + k.val = k.val := by omega
  show (if (64 * (t.val / 64) + k.val) % 4 = 0 then ∑ q : Fin 64, rowB m c e (row _ (sub8 q s)) else 0) = _
  simp only [row, hk]

end Cert.FfnXIdeal.Run

end
-- ==== Proof.FfnXArray.lean ====
/- The result arrays of the feed-forward layer's gradient call. -/
module

public import proofs.«01_k».proof.Proof.FfnXRow

@[expose] public section

set_option maxRecDepth 16384

noncomputable section

namespace Cert.FfnXIdeal.Run

open Cert.FfnXIdeal Cert.FfnXIdeal.Gen Cert.FfnXIdeal.Blocks Cert.FfnMath Cert.LnMath Cert.FfnXMath Idealize.ShloMosaic Idealize.ShloMosaic.TcCoe Idealize.SL.Sem

variable (m : (ℓ : Loc nD τ sig) → Buf (Elt Ideal) ℓ)

/-- The gradient of the input; the input; half the gradient of the row before the norm; the gradients of the two hidden products
and the hidden rows, padded; the gradients of the norm's weight and bias. -/
def outX (c : Dev nD) (i : S8192x1024.Idx) : EReal :=
  back (dRow m c (i 0)) (gateRow m c (i 0)) (upRow m c (i 0)) (g_ m c) (u_ m c) (i 1)
def outI (c : Dev nD) (i : S8192x1024.Idx) : EReal := argX m c i
def outD (c : Dev nD) (i : S8192x1024.Idx) : EReal := half * dRow m c (i 0) (i 1)
def outA (c : Dev nD) (i : S8192x3072.Idx) : EReal := padded (gateRow m c (i 0)) (i 1)
def outU (c : Dev nD) (i : S8192x3072.Idx) : EReal := padded (upRow m c (i 0)) (i 1)
def outH (c : Dev nD) (i : S8192x3072.Idx) : EReal := padded (actRow m c (i 0)) (i 1)
def outG (c : Dev nD) (i : S1x1024.Idx) : EReal := ∑ R, rowG m c (i 1) R
def outB (c : Dev nD) (i : S1x1024.Idx) : EReal := ∑ R, rowB m c (i 1) R

theorem final9 (c : Dev nD) : (dats m 0 c).arrAt 9 cfg0.N = outX m c := by
  refine (dats m 0 c).arrAt_eq_of_covers 9 _ (by decide +kernel) fun t hf y => ?_
  blk_simp
  rw [after_9]
  obtain ⟨r, e, rfl⟩ : ∃ (r : Fin 512) (e : Fin 1024), y = ix2 r e := ⟨y 0, y 1, by funext a; fin_cases a <;> rfl⟩
  have hi : ((cfg0.win 9).blk t).view.emb (ix2 r e) = ix2 (row t r) e := by
    blk_ext [idx t]
  rw [hi]
  exact o9_val m c t ((flush0_9 t).mp hf) r e

theorem final10 (c : Dev nD) : (dats m 0 c).arrAt 10 cfg0.N = outI m c := by
  refine (dats m 0 c).arrAt_eq_of_covers 10 _ (by decide +kernel) fun t hf y => ?_
  blk_simp
  rw [after_10]
  obtain ⟨r, e, rfl⟩ : ∃ (r : Fin 512) (e : Fin 1024), y = ix2 r e := ⟨y 0, y 1, by funext a; fin_cases a <;> rfl⟩
  have hi : ((cfg0.win 10).blk t).view.emb (ix2 r e) = ix2 (row t r) e := by
    blk_ext [idx t]
  rw [hi]
  exact (kept m c r e _ t rfl).2.2.1

theorem final11 (c : Dev nD) : (dats m 0 c).arrAt 11 cfg0.N = outD m c := by
  refine (dats m 0 c).arrAt_eq_of_covers 11 _ (by decide +kernel) fun t hf y => ?_
  blk_simp
  rw [after_11]
  obtain ⟨r, e, rfl⟩ : ∃ (r : Fin 512) (e : Fin 1024), y = ix2 r e := ⟨y 0, y 1, by funext a; fin_cases a <;> rfl⟩
  have hi : ((cfg0.win 11).blk t).view.emb (ix2 r e) = ix2 (row t r) e := by
    blk_ext [idx t]
  rw [hi]
  exact (kept m c r e _ t rfl).2.2.2

theorem final12 (c : Dev nD) : (dats m 0 c).arrAt 12 cfg0.N = outA m c := by
  refine (dats m 0 c).arrAt_eq_of_covers 12 _ (by decide +kernel) fun t hf y => ?_
  blk_simp
  rw [after_12]
  obtain ⟨r, q, rfl⟩ : ∃ (r : Fin 512) (q : Fin 768), y = ix2 r q := ⟨y 0, y 1, by funext a; fin_cases a <;> rfl⟩
  have hi : ((cfg0.win 12).blk t).view.emb (ix2 r q) = ix2 (row t r) (pos (par t) q) := by
    blk_ext [idx t]
  rw [hi]
  exact o12_val m c t r q

theorem final13 (c : Dev nD) : (dats m 0 c).arrAt 13 cfg0.N = outU m c := by
  refine (dats m 0 c).arrAt_eq_of_covers 13 _ (by decide +kernel) fun t hf y => ?_
  blk_simp
  rw [after_13]
  obtain ⟨r, q, rfl⟩ : ∃ (r : Fin 512) (q : Fin 768), y = ix2 r q := ⟨y 0, y 1, by funext a; fin_cases a <;> rfl⟩
  have hi : ((cfg0.win 13).blk t).view.emb (ix2 r q) = ix2 (row t r) (pos (par t) q) := by
    blk_ext [idx t]
  rw [hi]
  exact o13_val m c t r q

theorem final14 (c : Dev nD) : (dats m 0 c).arrAt 14 cfg0.N = outH m c := by
  refine (dats m 0 c).arrAt_eq_of_covers 14 _ (by decide +kernel) fun t hf y => ?_
  blk_simp
  rw [after_14]
  obtain ⟨r, q, rfl⟩ : ∃ (r : Fin 512) (q : Fin 768), y = ix2 r q := ⟨y 0, y 1, by funext a; fin_cases a <;> rfl⟩
  have hi : ((cfg0.win 14).blk t).view.emb (ix2 r q) = ix2 (row t r) (pos (par t) q) := by
    blk_ext [idx t]
  rw [hi]
  exact o14_val m c t r q

theorem only_last (t : Fin cfg0.N) (h : t.val % 64 = 63) : t.val = 63 := by
  have := under t
  omega

theorem last_s3 (c : Dev nD) (t : Fin cfg0.N) (hl : t.val = 63) (e : Fin 1024) :
    (st m c t.val t.isLt).o15 (ix2 0 e) = ∑ R, rowG m c e R := by
  refine (congrFun (got_E_o15 m c t hl) _).trans ((E_o15 m c t _ _ e).trans ?_)
  refine Eq.trans ?_ (FfnXMath.sum_rows (rowG m c e))
  exact Finset.sum_congr rfl fun s _ => (congrFun (got_E_s3 m c t hl) _).symm.trans (s3_last m c t hl s e)

theorem last_s4 (c : Dev nD) (t : Fin cfg0.N) (hl : t.val = 63) (e : Fin 1024) :
    (st m c t.val t.isLt).o16 (ix2 0 e) = ∑ R, rowB m c e R := by
  refine (congrFun (got_E_o16 m c t hl) _).trans ((E_o16 m c t _ _ e).trans ?_)
  refine Eq.trans ?_ (FfnXMath.sum_rows (rowB m c e))
  exact Finset.sum_congr rfl fun s _ => (congrFun (got_E_s4 m c t hl) _).symm.trans (s4_last m c t hl s e)

theorem final15 (c : Dev nD) : (dats m 0 c).arrAt 15 cfg0.N = outG m c := by
  refine (dats m 0 c).arrAt_eq_of_covers 15 _ (by decide +kernel) fun t hf y => ?_
  blk_simp
  rw [after_15]
  obtain ⟨e, rfl⟩ : ∃ e : Fin 1024, y = ix2 0 e := ⟨y 1, by funext a; fin_cases a; exacts [Subsingleton.elim (α := Fin 1) _ _, rfl]⟩
  have hi : ((cfg0.win 15).blk t).view.emb (ix2 0 e) = ix2 0 e := by
    blk_ext [idx t]
  rw [hi]
  have hl := only_last t ((flush0_15 t).mp hf)
  exact last_s3 m c t hl e

theorem final16 (c : Dev nD) : (dats m 0 c).arrAt 16 cfg0.N = outB m c := by
  refine (dats m 0 c).arrAt_eq_of_covers 16 _ (by decide +kernel) fun t hf y => ?_
  blk_simp
  rw [after_16]
  obtain ⟨e, rfl⟩ : ∃ e : Fin 1024, y = ix2 0 e := ⟨y 1, by funext a; fin_cases a; exacts [Subsingleton.elim (α := Fin 1) _ _, rfl]⟩
  have hi : ((cfg0.win 16).blk t).view.emb (ix2 0 e) = ix2 0 e := by
    blk_ext [idx t]
  rw [hi]
  have hl := only_last t ((flush0_16 t).mp hf)
  exact last_s4 m c t hl e

end Cert.FfnXIdeal.Run

end
-- ==== Proof.FfnXRef.lean ====
/- The reference's gradient of the feed-forward layer, entry by entry. -/
module

public import proofs.«01_k».proof.Proof.FfnXMath
public import proofs.«01_k».proof.Proof.Gen.FfnXRefIdeal.Run
public import Idealize.ShloMosaic.Lib.Pointwise

@[expose] public section

set_option maxRecDepth 16384

noncomputable section

namespace Cert.FfnXRefIdeal.Entries

open Cert.FfnXRefIdeal Cert.FfnXRefIdeal.Value Cert.FfnMath Cert.LnMath Cert.FfnXMath Idealize.ShloMosaic Idealize.ShloMosaic.TcCoe
open Cert.FfnXRefIdeal.Gen Idealize.ShloMosaic.StableHlo Idealize.SL.Sem

/-- One entry of each step, over whole arrays. -/
def prodOf (x : S8192x1024.Idx → EReal) (W : S1024x2816.Idx → EReal) (R : Fin 8192) (n : Fin 2816) : EReal :=
  FfnXMath.prod (fun k => x (ix2 R k)) (fun k n => W (ix2 k n)) n
def actOf (a b : S8192x2816.Idx → EReal) (R : Fin 8192) (n : Fin 2816) : EReal := act (a (ix2 R n)) (b (ix2 R n))
def preOf (x : S8192x1024.Idx → EReal) (a b : S8192x2816.Idx → EReal) (D : S2816x1024.Idx → EReal) (R : Fin 8192) (e : Fin 1024) : EReal :=
  alpha * x (ix2 R e) + half * ∑ n, act (a (ix2 R n)) (b (ix2 R n)) * D (ix2 n e)
def chainOf (y u : S8192x1024.Idx → EReal) (g : S1024.Idx → EReal) (R : Fin 8192) (e : Fin 1024) : EReal :=
  chain (fun j => y (ix2 R j) * g (ix1 j)) (fun j => u (ix2 R j)) e
def halfOf (d : S8192x1024.Idx → EReal) (R : Fin 8192) (e : Fin 1024) : EReal := half * d (ix2 R e)
def hidOf (d : S8192x1024.Idx → EReal) (D : S2816x1024.Idx → EReal) (R : Fin 8192) (n : Fin 2816) : EReal :=
  hid (fun k => d (ix2 R k)) (fun n k => D (ix2 n k)) n
def upOf (a t : S8192x2816.Idx → EReal) (R : Fin 8192) (n : Fin 2816) : EReal := up (a (ix2 R n)) (t (ix2 R n))
def gateOf (a b t : S8192x2816.Idx → EReal) (R : Fin 8192) (n : Fin 2816) : EReal :=
  gateChain (a (ix2 R n)) (b (ix2 R n)) (t (ix2 R n))
def backOf (d : S8192x1024.Idx → EReal) (p q : S8192x2816.Idx → EReal) (A U : S1024x2816.Idx → EReal) (R : Fin 8192) (e : Fin 1024) : EReal :=
  back (fun k => d (ix2 R k)) (fun n => p (ix2 R n)) (fun n => q (ix2 R n)) (fun k n => A (ix2 k n)) (fun k n => U (ix2 k n)) e
def padOf (a : S8192x2816.Idx → EReal) (R : Fin 8192) (l : Fin 3072) : EReal := padded (fun n => a (ix2 R n)) l
def sumG (y u : S8192x1024.Idx → EReal) (e : Fin 1024) : EReal := ∑ R : Fin 8192, y (ix2 R e) * xhat (fun j => u (ix2 R j)) e
def sumB (y : S8192x1024.Idx → EReal) (e : Fin 1024) : EReal := ∑ R : Fin 8192, y (ix2 R e)

variable (V0 : Valuation τ sig (Elt Ideal))

theorem r3 (R : Fin 8192) (n : Fin 2816) :
    res_main_v3 V0 (ix2 R n) = prodOf (V0 (Proc.devRef .tc main_arg1)) (V0 (Proc.devRef .tc main_arg2)) R n := by
  unfold res_main_v3 res_main_v0
  generalize V0 (Proc.devRef .tc main_arg1) = x
  generalize V0 (Proc.devRef .tc main_arg2) = w
  pointwise [prodOf, FfnXMath.prod]

theorem r6 (R : Fin 8192) (n : Fin 2816) :
    res_main_v6 V0 (ix2 R n) = prodOf (V0 (Proc.devRef .tc main_arg1)) (V0 (Proc.devRef .tc main_arg3)) R n := by
  unfold res_main_v6 res_main_v0
  generalize V0 (Proc.devRef .tc main_arg1) = x
  generalize V0 (Proc.devRef .tc main_arg3) = w
  pointwise [prodOf, FfnXMath.prod]

theorem r14 (R : Fin 8192) (e : Fin 1024) : res_main_v14 V0 (ix2 R e)
    = preOf (V0 (Proc.devRef .tc main_arg1)) (res_main_v3 V0) (res_main_v6 V0) (V0 (Proc.devRef .tc main_arg4)) R e := by
  unfold res_main_v14 res_main_v4_0 res_main_v4_2
  generalize res_main_v3 V0 = a
  generalize res_main_v6 V0 = b
  generalize V0 (Proc.devRef .tc main_arg1) = x
  generalize V0 (Proc.devRef .tc main_arg4) = w
  pointwise [preOf, act, Ideal.logistic]

theorem r77 (R : Fin 8192) (e : Fin 1024) : res_main_v77 V0 (ix2 R e)
    = chainOf (V0 (Proc.devRef .tc main_arg0)) (res_main_v14 V0) (V0 (Proc.devRef .tc main_arg5)) R e := by
  unfold res_main_v77 res_main_v67 res_main_v58 res_main_v52 res_main_v44 res_main_v38 res_main_v32 res_main_v31 res_main_v29 res_main_v20 res_main_v18
  generalize res_main_v14 V0 = u
  generalize V0 (Proc.devRef .tc main_arg0) = y
  generalize V0 (Proc.devRef .tc main_arg5) = g
  pointwise [chainOf, chain, dvar, rstd, var, mean]
  simp only [Finset.univ_unique, Finset.sum_singleton]

theorem r79 (R : Fin 8192) (e : Fin 1024) : res_main_v79 V0 (ix2 R e) = halfOf (res_main_v77 V0) R e := by
  unfold res_main_v79
  generalize res_main_v77 V0 = d
  pointwise [halfOf]

theorem r80 (R : Fin 8192) (n : Fin 2816) :
    res_main_v80 V0 (ix2 R n) = hidOf (res_main_v77 V0) (V0 (Proc.devRef .tc main_arg4)) R n := by
  unfold res_main_v80 res_main_v79
  generalize res_main_v77 V0 = d
  generalize V0 (Proc.devRef .tc main_arg4) = w
  pointwise [hidOf, hid]

theorem r83 (R : Fin 8192) (n : Fin 2816) : res_main_v83 V0 (ix2 R n) = upOf (res_main_v3 V0) (res_main_v80 V0) R n := by
  unfold res_main_v83 res_main_v4_0 res_main_v4_2
  generalize res_main_v3 V0 = a
  generalize res_main_v80 V0 = t
  refine Eq.trans ?_ (mul_comm (G := EReal) _ _)
  pointwise [Ideal.logistic]

theorem r87 (R : Fin 8192) (n : Fin 2816) :
    res_main_v87 V0 (ix2 R n) = gateOf (res_main_v3 V0) (res_main_v6 V0) (res_main_v80 V0) R n := by
  unfold res_main_v87 res_main_v84 res_main_v4_2
  generalize res_main_v3 V0 = a
  generalize res_main_v6 V0 = b
  generalize res_main_v80 V0 = t
  pointwise [gateOf, gateChain, Ideal.logistic]

theorem pad_zero32 : (FloatOps.sitofp FTy.f32 0#32 : Ideal .f32) = 0 := by
  simp [FloatOps.sitofp]

theorem pad_pos (f : Fin 2816 → EReal) (l : Fin 3072) (h : l.val % 384 < 352) :
    padded f l = f ⟨l.val / 384 * 352 + l.val % 384, by omega⟩ := by
  unfold padded
  exact dif_pos h
theorem pad_gap (f : Fin 2816 → EReal) (l : Fin 3072) (h : ¬l.val % 384 < 352) : padded f l = 0 := by
  unfold padded
  exact dif_neg h

theorem pad_entry (a : FVec Ideal S8192x2816 .f32) (R : Fin 8192) (l : Fin 3072) :
    truncf (F := Ideal) .bf16 (shapeCast S8192x3072 (pad S8192x8x384 ![0, 0, 0] ![0, 0, 32] ![0, 0, 0] (shapeCast S8192x8x352 a shapeCasts_S8192x2816_S8192x8x352) (sitofp .f32 (constantI S_ 32 0#32)) pads_S8192x8x352_S8192x8x384_000_000_0320 h_S_) shapeCasts_S8192x8x384_S8192x3072) bitsLt_bf16_f32 (ix2 R l)
      = padOf a R l := by
  unfold padOf
  pointwise []
  split
  · rename_i h
    exact (pad_pos (fun n => a (ix2 R n)) l h.2).symm
  · rename_i h
    exact pad_zero32.trans (pad_gap (fun n => a (ix2 R n)) l (fun h' => h ⟨by omega, h'⟩)).symm

theorem back_entry (d : FVec Ideal S8192x1024 .f32) (p q : FVec Ideal S8192x2816 .f32) (A U : FVec Ideal S1024x2816 .f32)
    (R : Fin 8192) (e : Fin 1024) :
    addf (addf (mulf (broadcastInDim S8192x1024 ![] bcast_S_S8192x1024 (constant (F := Ideal) S_ .f32 0x3F9837F0#32)) d) (Host.dotGeneral dot_S8192x2816_S1024x2816_S8192x1024_1_1_0_0_n_n none q U)) (Host.dotGeneral dot_S8192x2816_S1024x2816_S8192x1024_1_1_0_0_n_n none p A) (ix2 R e)
      = backOf d p q A U R e := by
  unfold backOf back
  rw [add_comm (∑ n, _), ← add_assoc]
  pointwise []

theorem act_entry (a b : FVec Ideal S8192x2816 .f32) (R : Fin 8192) (n : Fin 2816) :
    mulf (mulf a (Host.divf (broadcastInDim S8192x2816 ![] bcast_S_S8192x2816 (constant (F := Ideal) S_ .f32 0x3F800000#32)) (addf (broadcastInDim S8192x2816 ![] bcast_S_S8192x2816 (constant (F := Ideal) S_ .f32 0x3F800000#32)) (Host.exp (Host.negf a))))) b (ix2 R n)
      = actOf a b R n := by
  pointwise [actOf, act, Ideal.logistic]

theorem r90 (R : Fin 8192) (n : Fin 2816) :
    res_main_v90 V0 (ix2 R n) = prodOf (V0 (Proc.devRef .tc main_arg1)) (V0 (Proc.devRef .tc main_arg2)) R n := by
  unfold res_main_v90
  generalize V0 (Proc.devRef .tc main_arg1) = x
  generalize V0 (Proc.devRef .tc main_arg2) = w
  pointwise [prodOf, FfnXMath.prod]

theorem prod_entry (x : FVec Ideal S8192x1024 .f32) (w : FVec Ideal S1024x2816 .f32) (R : Fin 8192) (n : Fin 2816) :
    Host.dotGeneral (F := Ideal) (φ₁ := .f32) (φ₂ := .f32) dot_S8192x1024_S1024x2816_S8192x2816_1_0_0_1_n_n none x w (ix2 R n) = prodOf x w R n := by
  pointwise [prodOf, FfnXMath.prod]

theorem r108 (e : Fin 1024) : (broadcastInDim S1x1024 ![1] bcast_S1024_S1x1024_1 (Host.reduceAdd (shapeCast S1x1024 (Host.reduceAdd (mulf (res_main_v37 V0) (res_main_v44 V0)) (constant S_ .f32 0x00000000#32) reducesTo_S8192x1024_S1024_d0 h_S_) shapeCasts_S1024_S1x1024) (constant S_ .f32 0x00000000#32) reducesTo_S1x1024_S1024_d0 h_S_)) (ix2 0 e)
    = sumG (V0 (Proc.devRef .tc main_arg0)) (res_main_v14 V0) e := by
  unfold res_main_v37 res_main_v44 res_main_v32 res_main_v31 res_main_v29 res_main_v20 res_main_v18
  generalize res_main_v14 V0 = u
  generalize V0 (Proc.devRef .tc main_arg0) = y
  pointwise [sumG, xhat, rstd, var, mean]
  simp only [Finset.univ_unique, Finset.sum_singleton]
  exact Finset.sum_congr rfl fun r _ => mul_comm (G := EReal) _ _

theorem sumB_entry (y : FVec Ideal S8192x1024 .f32) (e : Fin 1024) : (broadcastInDim S1x1024 ![1] bcast_S1024_S1x1024_1 (Host.reduceAdd (shapeCast S1x1024 (Host.reduceAdd y (constant S_ .f32 0x00000000#32) reducesTo_S8192x1024_S1024_d0 h_S_) shapeCasts_S1024_S1x1024) (constant S_ .f32 0x00000000#32) reducesTo_S1x1024_S1024_d0 h_S_)) (ix2 0 e)
    = sumB y e := by
  pointwise [sumB]
  simp only [Finset.univ_unique, Finset.sum_singleton]

end Cert.FfnXRefIdeal.Entries

end
-- ==== Proof.FfnXMatch.lean ====
/- The reference's gradient of the feed-forward layer is the kernel's, row by row, on real arguments. -/
module

public import proofs.«01_k».proof.Proof.FfnXArray
public import proofs.«01_k».proof.Proof.FfnXRef

@[expose] public section

set_option maxRecDepth 16384

noncomputable section

namespace Cert.FfnXRefIdeal.Entries

open Cert.FfnXIdeal.Blocks Cert.FfnXIdeal.Run Cert.FfnXRefIdeal.Value Cert.FfnMath Cert.LnMath Cert.FfnXMath
open Idealize.ShloMosaic Idealize.ShloMosaic.TcCoe Idealize.ShloMosaic.StableHlo Idealize.SL.Sem

variable (m : (ℓ : Loc Cert.FfnXIdeal.nD Cert.FfnXIdeal.τ Cert.FfnXIdeal.sig) → Buf (Elt Ideal) ℓ) (c : Dev Cert.FfnXIdeal.nD)
variable (V0 : Valuation Cert.FfnXRefIdeal.τ Cert.FfnXRefIdeal.sig (Elt Ideal))

/-- The two programs hold the same arguments. -/
structure Agree : Prop where
  h0 : V0 (Proc.devRef .tc Cert.FfnXRefIdeal.main_arg0) = argY m c
  h1 : V0 (Proc.devRef .tc Cert.FfnXRefIdeal.main_arg1) = argX m c
  h2 : V0 (Proc.devRef .tc Cert.FfnXRefIdeal.main_arg2) = argG m c
  h3 : V0 (Proc.devRef .tc Cert.FfnXRefIdeal.main_arg3) = argU m c
  h4 : V0 (Proc.devRef .tc Cert.FfnXRefIdeal.main_arg4) = argD m c
  h5 : V0 (Proc.devRef .tc Cert.FfnXRefIdeal.main_arg5) = argS m c

/-- The arguments are real. -/
structure Reals : Prop where
  y : ∀ R k, IsReal (y_ m c R k)
  x : ∀ R k, IsReal (x_ m c R k)
  g : ∀ k n, IsReal (g_ m c k n)
  u : ∀ k n, IsReal (u_ m c k n)
  d : ∀ n k, IsReal (d_ m c n k)
  s : ∀ k, IsReal (s_ m c k)

section

variable {m c} (K : Reals m c)
include K

theorem Reals.cot (R : Fin 8192) (j : Fin 1024) : IsReal (y_ m c R j * s_ m c j) := (K.y R j).mul (K.s j)
theorem Reals.before (R : Fin 8192) (j : Fin 1024) : IsReal (pre (x_ m c R) (g_ m c) (u_ m c) (d_ m c) j) :=
  IsReal.pre (K.x R) K.g K.u K.d j
theorem Reals.row (R : Fin 8192) (e : Fin 1024) : IsReal (dRow m c R e) := IsReal.closed (K.cot R) (K.before R) e
theorem Reals.hidden (R : Fin 8192) (n : Fin 2816) : IsReal (hid (dRow m c R) (d_ m c) n) := IsReal.hid (K.row R) K.d n

end

section

variable {m c V0} (H : Agree m c V0)
include H

theorem val3 (R : Fin 8192) (n : Fin 2816) : res_main_v3 V0 (ix2 R n) = FfnXMath.prod (x_ m c R) (g_ m c) n := by
  rw [r3, H.h1, H.h2]
  rfl

theorem val6 (R : Fin 8192) (n : Fin 2816) : res_main_v6 V0 (ix2 R n) = FfnXMath.prod (x_ m c R) (u_ m c) n := by
  rw [r6, H.h1, H.h3]
  rfl

theorem val90 (R : Fin 8192) (n : Fin 2816) : res_main_v90 V0 (ix2 R n) = FfnXMath.prod (x_ m c R) (g_ m c) n := by
  rw [r90, H.h1, H.h2]
  rfl

theorem val14 (R : Fin 8192) (e : Fin 1024) : res_main_v14 V0 (ix2 R e) = pre (x_ m c R) (g_ m c) (u_ m c) (d_ m c) e := by
  rw [r14, H.h1, H.h4]
  refine congrArg (fun a : EReal => alpha * argX m c (ix2 R e) + half * a) (Finset.sum_congr rfl fun n _ => ?_)
  rw [val3 H, val6 H]

variable (K : Reals m c)
include K

theorem val77 (R : Fin 8192) (e : Fin 1024) : res_main_v77 V0 (ix2 R e) = dRow m c R e := by
  rw [r77, H.h0, H.h5]
  refine (congrArg (fun u => chain (fun j => y_ m c R j * s_ m c j) u e) (funext fun j => val14 H R j)).trans ?_
  exact (closed_eq_chain_of_real _ _ (fun j => (K.cot R j).toReal) (fun j => (K.before R j).toReal) e).symm

theorem val79 (R : Fin 8192) (e : Fin 1024) : res_main_v79 V0 (ix2 R e) = half * dRow m c R e :=
  (r79 V0 R e).trans (congrArg (fun a : EReal => half * a) (val77 H K R e))

theorem val80 (R : Fin 8192) (n : Fin 2816) : res_main_v80 V0 (ix2 R n) = hid (dRow m c R) (d_ m c) n := by
  rw [r80, H.h4]
  exact congrArg (fun d => hid d (d_ m c) n) (funext fun k => val77 H K R k)

theorem val83 (R : Fin 8192) (n : Fin 2816) : res_main_v83 V0 (ix2 R n) = upRow m c R n := by
  rw [r83]
  exact congrArg₂ up (val3 H R n) (val80 H K R n)

theorem val87 (R : Fin 8192) (n : Fin 2816) : res_main_v87 V0 (ix2 R n) = gateRow m c R n := by
  rw [r87, gateOf, val3 H, val6 H, val80 H K]
  exact (gate_eq (IsReal.prod (K.x R) K.g n) (IsReal.prod (K.x R) K.u n) (K.hidden R n)).symm

theorem val89 (R : Fin 8192) (e : Fin 1024) :
    backOf (res_main_v77 V0) (res_main_v87 V0) (res_main_v83 V0) (V0 (Proc.devRef .tc Cert.FfnXRefIdeal.main_arg2))
      (V0 (Proc.devRef .tc Cert.FfnXRefIdeal.main_arg3)) R e
      = back (dRow m c R) (gateRow m c R) (upRow m c R) (g_ m c) (u_ m c) e := by
  rw [backOf, H.h2, H.h3, funext fun k => val77 H K R k, funext fun n => val87 H K R n, funext fun n => val83 H K R n]

theorem val99 (R : Fin 8192) (l : Fin 3072) : padOf (res_main_v87 V0) R l = padded (gateRow m c R) l := by
  rw [padOf, funext fun n => val87 H K R n]

theorem val103 (R : Fin 8192) (l : Fin 3072) : padOf (res_main_v83 V0) R l = padded (upRow m c R) l := by
  rw [padOf, funext fun n => val83 H K R n]

omit K

theorem val108 (e : Fin 1024) : sumG (V0 (Proc.devRef .tc Cert.FfnXRefIdeal.main_arg0)) (res_main_v14 V0) e = ∑ R, rowG m c e R := by
  rw [sumG, H.h0]
  refine Finset.sum_congr rfl fun R _ => ?_
  rw [funext fun j => val14 H R j]
  rfl

end

end Cert.FfnXRefIdeal.Entries

end
-- ==== Proof.FfnXClaim.lean ====
/- The feed-forward layer's gradient call equals the reference's gradient, on finite arguments. -/
module

public import proofs.«01_k».proof.Proof.FfnXFrame
public import proofs.«01_k».proof.Proof.FfnXMatch
public import proofs.«01_k».proof.Proof.Gen.Pre_finite_ffn
public import Idealize.ShloMosaic.Lib.Pointwise
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.FfnMath Cert.LnMath Cert.FfnXMath Cert.FfnXIdeal.Blocks Cert.FfnXIdeal.Run
open Cert.FfnXRefIdeal.Entries Idealize.ShloMosaic.StableHlo

theorem quiescent_FfnXRef : Cert.quiescent_FfnXRefIdeal := fun m ρ _ =>
  (θ_run Cert.FfnXRefIdeal.defs _ _).mono
    (fun r h => ⟨fun c => (h c).2.2.2.2.2.2.2.2, sem_eq_zero_of_no_sems (by decide) r.2⟩)
    (Cert.FfnXRefIdeal.Value.run (F := Ideal) m ρ)

theorem quiescent_FfnXRef_pre : Cert.quiescent_FfnXRefIdeal_pre_finite_ffn := fun m ρ _ =>
  quiescent_FfnXRef m ρ trivial

theorem reals_of_finite (m : (ℓ : Loc Cert.FfnXIdeal.nD Cert.FfnXIdeal.τ Cert.FfnXIdeal.sig) → Buf (Elt Ideal) ℓ)
    (h : Cert.Pre_FfnXIdeal_finite_ffn m) (c : Dev Cert.FfnXIdeal.nD) : Reals m c := by
  obtain ⟨h0, h1, h2, h3, h4, h5⟩ := h c
  exact ⟨fun R k => IsReal.of_toReal (real_of_finite _ (congrFun h0 (ix2 R k))),
    fun R k => IsReal.of_toReal (real_of_finite _ (congrFun h1 (ix2 R k))),
    fun k n => IsReal.of_toReal (real_of_finite _ (congrFun h2 (ix2 k n))),
    fun k n => IsReal.of_toReal (real_of_finite _ (congrFun h3 (ix2 k n))),
    fun n k => IsReal.of_toReal (real_of_finite _ (congrFun h4 (ix2 n k))),
    fun k => IsReal.of_toReal (real_of_finite _ (congrFun h5 (ix1 k)))⟩

section

variable (m : (ℓ : Loc Cert.FfnXIdeal.nD Cert.FfnXIdeal.τ Cert.FfnXIdeal.sig) → Buf (Elt Ideal) ℓ)
  (r : PUnit × MemSt Cert.FfnXIdeal.nD Cert.FfnXIdeal.τ Cert.FfnXIdeal.sig (Elt Ideal))
  (h : Pipeline.FramePost Cert.FfnXIdeal.cfgs (dats m) 0 (Cert.FfnXIdeal.Gen.V m) r) (c : Dev Cert.FfnXIdeal.nD)

include h

theorem ends_9 : r.2.mem ((c.tc : Thread Cert.FfnXIdeal.nD Cert.FfnXIdeal.τ).loc Cert.FfnXIdeal.main_v33_0) = outX m c :=
  ((h c).1 9).trans (final9 m c)
theorem ends_10 : r.2.mem ((c.tc : Thread Cert.FfnXIdeal.nD Cert.FfnXIdeal.τ).loc Cert.FfnXIdeal.main_v33_1) = outI m c :=
  ((h c).1 10).trans (final10 m c)
theorem ends_11 : r.2.mem ((c.tc : Thread Cert.FfnXIdeal.nD Cert.FfnXIdeal.τ).loc Cert.FfnXIdeal.main_v33_2) = outD m c :=
  ((h c).1 11).trans (final11 m c)
theorem ends_12 : r.2.mem ((c.tc : Thread Cert.FfnXIdeal.nD Cert.FfnXIdeal.τ).loc Cert.FfnXIdeal.main_v33_3) = outA m c :=
  ((h c).1 12).trans (final12 m c)
theorem ends_13 : r.2.mem ((c.tc : Thread Cert.FfnXIdeal.nD Cert.FfnXIdeal.τ).loc Cert.FfnXIdeal.main_v33_4) = outU m c :=
  ((h c).1 13).trans (final13 m c)
theorem ends_14 : r.2.mem ((c.tc : Thread Cert.FfnXIdeal.nD Cert.FfnXIdeal.τ).loc Cert.FfnXIdeal.main_v33_5) = outH m c :=
  ((h c).1 14).trans (final14 m c)
theorem ends_15 : r.2.mem ((c.tc : Thread Cert.FfnXIdeal.nD Cert.FfnXIdeal.τ).loc Cert.FfnXIdeal.main_v33_6) = outG m c :=
  ((h c).1 15).trans (final15 m c)
theorem ends_16 : r.2.mem ((c.tc : Thread Cert.FfnXIdeal.nD Cert.FfnXIdeal.τ).loc Cert.FfnXIdeal.main_v33_7) = outB m c :=
  ((h c).1 16).trans (final16 m c)

end

set_option maxHeartbeats 2000000 in
theorem algebraic_FfnX : Cert.algebraic_FfnXIdeal_FfnXRefIdeal_pre_finite_ffn := by
  intro m ρ m' ρ' hpre hagree
  refine ⟨outX m, outI m, outD m, outA m, outU m, outH m, outG m, outB m, ?_, ?_⟩
  · refine (θ_run _ _ _).mono (fun r h c => ?_) (θ_run_and (run (F := Ideal) m ρ) (frame (F := Ideal) m ρ))
    exact ⟨ends_9 m r h.1 c, ends_10 m r h.1 c, ends_11 m r h.1 c, ends_12 m r h.1 c, ends_13 m r h.1 c, ends_14 m r h.1 c, ends_15 m r h.1 c, ends_16 m r h.1 c,
      h.2.1 c⟩
  · refine (θ_run _ _ _).mono (fun r h c => ?_) (Cert.FfnXRefIdeal.Value.run (F := Ideal) m' ρ')
    have H : Agree m c (launchContents m' c) := by
      obtain ⟨a0, a1, a2, a3, a4, a5, a6⟩ := hagree c
      exact ⟨a0, a1, a2, a3, a4, a5⟩
    have K := reals_of_finite m hpre c
    obtain ⟨h0, h1, h2, h3, h4, h5, h6, h7, hk⟩ := h c
    refine ⟨h0.trans ?_, h1.trans ?_, h2.trans ?_, h3.trans ?_, h4.trans ?_, h5.trans ?_, h6.trans ?_, h7.trans ?_, hk⟩ <;>
      clear h h0 h1 h2 h3 h4 h5 h6 h7 hk hpre hagree
    · funext i
      obtain ⟨R, e, rfl⟩ : ∃ (R : Fin 8192) (e : Fin 1024), i = ix2 R e := ⟨i 0, i 1, by funext a; fin_cases a <;> rfl⟩
      exact (back_entry _ _ _ _ _ R e).trans (val89 H K R e)
    · exact H.h1
    · funext i
      obtain ⟨R, e, rfl⟩ : ∃ (R : Fin 8192) (e : Fin 1024), i = ix2 R e := ⟨i 0, i 1, by funext a; fin_cases a <;> rfl⟩
      exact val79 H K R e
    · funext i
      obtain ⟨R, l, rfl⟩ : ∃ (R : Fin 8192) (l : Fin 3072), i = ix2 R l := ⟨i 0, i 1, by funext a; fin_cases a <;> rfl⟩
      exact (pad_entry _ R l).trans (val99 H K R l)
    · funext i
      obtain ⟨R, l, rfl⟩ : ∃ (R : Fin 8192) (l : Fin 3072), i = ix2 R l := ⟨i 0, i 1, by funext a; fin_cases a <;> rfl⟩
      exact (pad_entry _ R l).trans (val103 H K R l)
    · funext i
      obtain ⟨R, l, rfl⟩ : ∃ (R : Fin 8192) (l : Fin 3072), i = ix2 R l := ⟨i 0, i 1, by funext a; fin_cases a <;> rfl⟩
      refine (pad_entry _ R l).trans (congrArg (fun f => padded f l) (funext fun n => ?_))
      refine (act_entry _ _ R n).trans (congrArg₂ act (val90 H R n) ((prod_entry _ _ R n).trans ?_))
      rw [H.h1, H.h3]
      rfl
    · funext i
      obtain ⟨e, rfl⟩ : ∃ e : Fin 1024, i = ix2 0 e := ⟨i 1, by funext a; fin_cases a; exacts [Subsingleton.elim (α := Fin 1) _ _, rfl]⟩
      exact (r108 _ e).trans (val108 H e)
    · funext i
      obtain ⟨e, rfl⟩ : ∃ e : Fin 1024, i = ix2 0 e := ⟨i 1, by funext a; fin_cases a; exacts [Subsingleton.elim (α := Fin 1) _ _, rfl]⟩
      refine (sumB_entry _ e).trans ?_
      rw [H.h0]
      rfl

end Cert.Proof

end
-- ==== Proof.QueryWBlock.lean ====
/- The weight gradient of a square projection: what the scratch and the output block hold after a point, and the whole result. -/
module

public import proofs.«01_k».proof.Defs
public import proofs.«01_k».proof.Proof.Gen.QueryWIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.QueryWIdeal.Blocks

open Cert.QueryWIdeal Cert.QueryWIdeal.Gen Idealize.ShloMosaic Idealize.ShloMosaic.TcCoe Idealize.SL.Sem

variable (m : (ℓ : Loc nD τ sig) → Buf (Elt Ideal) ℓ)

/-- The product's input and its output's cotangent. -/
abbrev argX (c : Dev nD) : S8192x1024.Idx → EReal := m ((c : Thread nD τ).loc main_arg0)
abbrev argD (c : Dev nD) : S8192x1024.Idx → EReal := m ((c : Thread nD τ).loc main_arg1)

/-- Every window's block at every point: the block of summed rows is `t`. -/
theorem idx : ∀ t : Fin cfg0.N, win0_0.index t = ![t.val, 0] ∧ win0_1.index t = ![t.val, 0] ∧ win0_2.index t = ![0, 0] :=
  (by decide +kernel : ∀ t : Fin grid0.N, _)

theorem lt_16 (t : Fin cfg0.N) : t.val < 16 := lt_of_lt_of_eq t.isLt (show cfg0.N = 16 from N_0)

abbrev row (t : Fin cfg0.N) (k : Fin 512) : Fin 8192 := ⟨t.val * 512 + k.val, by have := lt_16 t; omega⟩

theorem blk_x (c : Dev nD) (t : Fin cfg0.N) (k : Fin 512) (r : Fin 1024) :
    iblk m c 0 t (ix2 k r) = argX m c (ix2 (row t k) r) := by
  show _ = V m c main_arg0 _
  blk_ext [iblk, V, idx t]

theorem blk_d (c : Dev nD) (t : Fin cfg0.N) (k : Fin 512) (e : Fin 1024) :
    iblk m c 1 t (ix2 k e) = argD m c (ix2 (row t k) e) := by
  show _ = V m c main_arg1 _
  blk_ext [iblk, V, idx t]

/-- The share of a product that the rows of one point contribute. -/
def partOf (X : Vec Ideal S512x1024 .f32) (D : Vec Ideal S512x1024 .f32) (y : S1024x1024.Idx) : EReal :=
  ∑ k : Fin 512, X (ix2 k (y 0)) * D (ix2 k (y 1))

theorem pay2_apply (X : Vec Ideal S512x1024 .f32) (D : Vec Ideal S512x1024 .f32) (y : S1024x1024.Idx) :
    k0_pay2 X D y = 0 + partOf X D y := by
  pointwise [k0_pay2, k0_pay1]
  simp only [partOf]

theorem pay3_apply (X : Vec Ideal S512x1024 .f32) (D : Vec Ideal S512x1024 .f32) (A : Vec Ideal S1024x1024 .f32)
    (y : S1024x1024.Idx) : k0_pay3 X D A y = A y + partOf X D y := by
  pointwise [k0_pay3, k0_pay1]
  simp only [partOf]

theorem sc_A (c : Dev nD) (t : Fin cfg0.N) (h : t.val % 16 = 0) (y : S1024x1024.Idx) :
    (outsAt0 m c t.val t.isLt).2 y = 0 + partOf (iblk m c 0 t) (iblk m c 1 t) y := by
  have ht := lt_16 t
  rw [outsAt0_A m c t h (by omega) (by omega)]
  frame_out
  exact pay2_apply _ _ y

theorem sc_B (c : Dev nD) (t : Fin cfg0.N) (h : ¬t.val % 16 = 0) (y : S1024x1024.Idx) :
    (outsAt0 m c t.val t.isLt).2 y = (outsAt0 m c (t.val - 1) (by omega)).2 y + partOf (iblk m c 0 t) (iblk m c 1 t) y := by
  have ht := lt_16 t
  rcases Classical.em (t.val % 16 = 15) with h7 | h7
  · rw [outsAt0_C m c t h (by omega) h7]
    frame_out
    rw [pay3_apply, read_unread_whole]
  · rw [outsAt0_B m c t h (by omega) h7]
    frame_out
    rw [pay3_apply, read_unread_whole]

theorem out_C (c : Dev nD) (t : Fin cfg0.N) (h : t.val % 16 = 15) (y : S1024x1024.Idx) :
    (outsAt0 m c t.val t.isLt).1 y = (outsAt0 m c t.val t.isLt).2 y := by
  rw [outsAt0_C m c t (by omega) (by omega) h]
  frame_out
  pointwise [k0_pay4]

/-- The gradient of the weight, entry by entry. -/
def gradW (X : S8192x1024.Idx → EReal) (D : S8192x1024.Idx → EReal) : S1024x1024.Idx → EReal := fun i =>
  ∑ k : Fin 8192, X (ix2 k (i 0)) * D (ix2 k (i 1))

theorem final2 (c : Dev nD) : (dats m 0 c).arrAt 2 cfg0.N = gradW (argX m c) (argD m c) := by
  refine (dats m 0 c).arrAt_eq_of_covers 2 _ (by decide +kernel) fun t hf y => ?_
  blk_simp
  rw [after0_2]
  obtain ⟨r, e, rfl⟩ : ∃ (r : Fin 1024) (e : Fin 1024), y = ix2 r e := ⟨y 0, y 1, by funext a; fin_cases a <;> rfl⟩
  have hi : ((cfg0.win 2).blk t).view.emb (ix2 r e) = ix2 r e := by
    blk_ext [idx t]
  rw [hi, out_C m c t ((flush0_2 t).mp hf),
    Pipeline.eq_sum_fin_of_reset_step_apply_of_flush (fun n h => (outsAt0 m c n h).2) 16 (fun _ => 0)
      (fun t => partOf (iblk m c 0 t) (iblk m c 1 t)) (fun t h j => sc_A m c t h j) (fun t h j => sc_B m c t h j) t
      ((flush0_2 t).mp hf) _, zero_add]
  show _ = ∑ k : Fin 8192, argX m c (ix2 k r) * argD m c (ix2 k e)
  refine Fin.sum_mul_add_congr (S := 16) (n := 512) (fun s k hl => ?_)
  refine (congrArg₂ (fun a b : EReal => a * b) (blk_x m c _ k r) (blk_d m c _ k e)).trans ?_
  have ht := lt_16 t
  have hs : 16 * (t.val / 16) + s.val = s.val := by omega
  simp only [row, hs]

end Cert.QueryWIdeal.Blocks

end
-- ==== Proof.QueryWClaim.lean ====
/- The weight gradient of a square projection equals the reference's. -/
module

public import proofs.«01_k».proof.Proof.QueryWBlock
public import proofs.«01_k».proof.Proof.Gen.QueryW.Frame
public import proofs.«01_k».proof.Proof.Gen.QueryWRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.QueryWIdeal.Blocks

theorem quiescent_QueryWRef : Cert.quiescent_QueryWRefIdeal := fun m ρ _ =>
  (θ_run Cert.QueryWRefIdeal.defs _ _).mono (fun r h => ⟨fun c => (h c).2, sem_eq_zero_of_no_sems (by decide) r.2⟩)
    (Cert.QueryWRefIdeal.Value.run (F := Ideal) m ρ)

theorem algebraic_QueryW : Cert.algebraic_QueryWIdeal_QueryWRefIdeal := by
  intro m ρ m' ρ' _ hagree
  refine ⟨_, (θ_run Cert.QueryWIdeal.defs _ _).mono (fun _ h c => ⟨((h c).1).trans (final2 m c), (h c).2⟩)
    (Cert.QueryWIdeal.Value.run_blocks (F := Ideal) m ρ), ?_⟩
  refine (θ_run Cert.QueryWRefIdeal.defs _ _).mono (fun _ h c => ⟨?_, (h c).2⟩) (Cert.QueryWRefIdeal.Value.run (F := Ideal) m' ρ')
  rw [(h c).1]
  simp only [hagree c]
  funext i
  obtain ⟨r, e, rfl⟩ : ∃ (r : Fin 1024) (e : Fin 1024), i = ix2 r e := ⟨i 0, i 1, by funext a; fin_cases a <;> rfl⟩
  pointwise [gradW]
  exact Finset.sum_congr rfl fun _ _ => mul_comm _ _

end Cert.Proof

end
-- ==== Proof.OutWBlock.lean ====
/- The gradient of half of the mixer's output weight: what the scratch and the output block hold after a point, and the whole result. -/
module

public import proofs.«01_k».proof.Defs
public import proofs.«01_k».proof.Proof.Gen.OutWIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.OutWIdeal.Blocks

open Cert.OutWIdeal Cert.OutWIdeal.Gen Idealize.ShloMosaic Idealize.ShloMosaic.TcCoe Idealize.SL.Sem

variable (m : (ℓ : Loc nD τ sig) → Buf (Elt Ideal) ℓ)

/-- The product's input and its output's cotangent. -/
abbrev argX (c : Dev nD) : S8192x512.Idx → EReal := m ((c : Thread nD τ).loc main_arg0)
abbrev argD (c : Dev nD) : S8192x1024.Idx → EReal := m ((c : Thread nD τ).loc main_arg1)

/-- Every window's block at every point: the block of summed rows is `t`. -/
theorem idx : ∀ t : Fin cfg0.N, win0_0.index t = ![t.val, 0] ∧ win0_1.index t = ![t.val, 0] ∧ win0_2.index t = ![0, 0] :=
  (by decide +kernel : ∀ t : Fin grid0.N, _)

theorem lt_16 (t : Fin cfg0.N) : t.val < 16 := lt_of_lt_of_eq t.isLt (show cfg0.N = 16 from N_0)

abbrev row (t : Fin cfg0.N) (k : Fin 512) : Fin 8192 := ⟨t.val * 512 + k.val, by have := lt_16 t; omega⟩

theorem blk_x (c : Dev nD) (t : Fin cfg0.N) (k : Fin 512) (r : Fin 512) :
    iblk m c 0 t (ix2 k r) = argX m c (ix2 (row t k) r) := by
  show _ = V m c main_arg0 _
  blk_ext [iblk, V, idx t]

theorem blk_d (c : Dev nD) (t : Fin cfg0.N) (k : Fin 512) (e : Fin 1024) :
    iblk m c 1 t (ix2 k e) = argD m c (ix2 (row t k) e) := by
  show _ = V m c main_arg1 _
  blk_ext [iblk, V, idx t]

/-- The share of a product that the rows of one point contribute. -/
def partOf (X : Vec Ideal S512x512 .f32) (D : Vec Ideal S512x1024 .f32) (y : S512x1024.Idx) : EReal :=
  ∑ k : Fin 512, X (ix2 k (y 0)) * D (ix2 k (y 1))

theorem pay2_apply (X : Vec Ideal S512x512 .f32) (D : Vec Ideal S512x1024 .f32) (y : S512x1024.Idx) :
    k0_pay2 X D y = 0 + partOf X D y := by
  pointwise [k0_pay2, k0_pay1]
  simp only [partOf]

theorem pay3_apply (X : Vec Ideal S512x512 .f32) (D : Vec Ideal S512x1024 .f32) (A : Vec Ideal S512x1024 .f32)
    (y : S512x1024.Idx) : k0_pay3 X D A y = A y + partOf X D y := by
  pointwise [k0_pay3, k0_pay1]
  simp only [partOf]

theorem sc_A (c : Dev nD) (t : Fin cfg0.N) (h : t.val % 16 = 0) (y : S512x1024.Idx) :
    (outsAt0 m c t.val t.isLt).2 y = 0 + partOf (iblk m c 0 t) (iblk m c 1 t) y := by
  have ht := lt_16 t
  rw [outsAt0_A m c t h (by omega) (by omega)]
  frame_out
  exact pay2_apply _ _ y

theorem sc_B (c : Dev nD) (t : Fin cfg0.N) (h : ¬t.val % 16 = 0) (y : S512x1024.Idx) :
    (outsAt0 m c t.val t.isLt).2 y = (outsAt0 m c (t.val - 1) (by omega)).2 y + partOf (iblk m c 0 t) (iblk m c 1 t) y := by
  have ht := lt_16 t
  rcases Classical.em (t.val % 16 = 15) with h7 | h7
  · rw [outsAt0_C m c t h (by omega) h7]
    frame_out
    rw [pay3_apply, read_unread_whole]
  · rw [outsAt0_B m c t h (by omega) h7]
    frame_out
    rw [pay3_apply, read_unread_whole]

theorem out_C (c : Dev nD) (t : Fin cfg0.N) (h : t.val % 16 = 15) (y : S512x1024.Idx) :
    (outsAt0 m c t.val t.isLt).1 y = (outsAt0 m c t.val t.isLt).2 y := by
  rw [outsAt0_C m c t (by omega) (by omega) h]
  frame_out
  pointwise [k0_pay4]

/-- The gradient of the weight, entry by entry. -/
def gradW (X : S8192x512.Idx → EReal) (D : S8192x1024.Idx → EReal) : S512x1024.Idx → EReal := fun i =>
  ∑ k : Fin 8192, X (ix2 k (i 0)) * D (ix2 k (i 1))

theorem final2 (c : Dev nD) : (dats m 0 c).arrAt 2 cfg0.N = gradW (argX m c) (argD m c) := by
  refine (dats m 0 c).arrAt_eq_of_covers 2 _ (by decide +kernel) fun t hf y => ?_
  blk_simp
  rw [after0_2]
  obtain ⟨r, e, rfl⟩ : ∃ (r : Fin 512) (e : Fin 1024), y = ix2 r e := ⟨y 0, y 1, by funext a; fin_cases a <;> rfl⟩
  have hi : ((cfg0.win 2).blk t).view.emb (ix2 r e) = ix2 r e := by
    blk_ext [idx t]
  rw [hi, out_C m c t ((flush0_2 t).mp hf),
    Pipeline.eq_sum_fin_of_reset_step_apply_of_flush (fun n h => (outsAt0 m c n h).2) 16 (fun _ => 0)
      (fun t => partOf (iblk m c 0 t) (iblk m c 1 t)) (fun t h j => sc_A m c t h j) (fun t h j => sc_B m c t h j) t
      ((flush0_2 t).mp hf) _, zero_add]
  show _ = ∑ k : Fin 8192, argX m c (ix2 k r) * argD m c (ix2 k e)
  refine Fin.sum_mul_add_congr (S := 16) (n := 512) (fun s k hl => ?_)
  refine (congrArg₂ (fun a b : EReal => a * b) (blk_x m c _ k r) (blk_d m c _ k e)).trans ?_
  have ht := lt_16 t
  have hs : 16 * (t.val / 16) + s.val = s.val := by omega
  simp only [row, hs]

end Cert.OutWIdeal.Blocks

end
-- ==== Proof.OutWClaim.lean ====
/- The gradient of half of the mixer's output weight equals the reference's. -/
module

public import proofs.«01_k».proof.Proof.OutWBlock
public import proofs.«01_k».proof.Proof.Gen.OutW.Frame
public import proofs.«01_k».proof.Proof.Gen.OutWRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.OutWIdeal.Blocks

theorem quiescent_OutWRef : Cert.quiescent_OutWRefIdeal := fun m ρ _ =>
  (θ_run Cert.OutWRefIdeal.defs _ _).mono (fun r h => ⟨fun c => (h c).2, sem_eq_zero_of_no_sems (by decide) r.2⟩)
    (Cert.OutWRefIdeal.Value.run (F := Ideal) m ρ)

theorem algebraic_OutW : Cert.algebraic_OutWIdeal_OutWRefIdeal := by
  intro m ρ m' ρ' _ hagree
  refine ⟨_, (θ_run Cert.OutWIdeal.defs _ _).mono (fun _ h c => ⟨((h c).1).trans (final2 m c), (h c).2⟩)
    (Cert.OutWIdeal.Value.run_blocks (F := Ideal) m ρ), ?_⟩
  refine (θ_run Cert.OutWRefIdeal.defs _ _).mono (fun _ h c => ⟨?_, (h c).2⟩) (Cert.OutWRefIdeal.Value.run (F := Ideal) m' ρ')
  rw [(h c).1]
  simp only [hagree c]
  funext i
  obtain ⟨r, e, rfl⟩ : ∃ (r : Fin 512) (e : Fin 1024), i = ix2 r e := ⟨i 0, i 1, by funext a; fin_cases a <;> rfl⟩
  pointwise [gradW]
  exact Finset.sum_congr rfl fun _ _ => mul_comm _ _

end Cert.Proof

end
-- ==== Proof.GatesWBlock.lean ====
/- The gates' weight gradient: what the scratch and the output block hold after a point, and the whole result. -/
module

public import proofs.«01_k».proof.Defs
public import proofs.«01_k».proof.Proof.Gen.GatesWIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GatesWIdeal.Blocks

open Cert.GatesWIdeal Cert.GatesWIdeal.Gen Idealize.ShloMosaic Idealize.ShloMosaic.TcCoe Idealize.SL.Sem

variable (m : (ℓ : Loc nD τ sig) → Buf (Elt Ideal) ℓ)

/-- The product's input and its output's cotangent. -/
abbrev argX (c : Dev nD) : S8192x1024.Idx → EReal := m ((c : Thread nD τ).loc main_arg0)
abbrev argD (c : Dev nD) : S8192x128.Idx → EReal := m ((c : Thread nD τ).loc main_arg1)

/-- Every window's block at every point: the block of summed rows is `t`. -/
theorem idx : ∀ t : Fin cfg0.N, win0_0.index t = ![t.val, 0] ∧ win0_1.index t = ![t.val, 0] ∧ win0_2.index t = ![0, 0] :=
  (by decide +kernel : ∀ t : Fin grid0.N, _)

theorem lt_16 (t : Fin cfg0.N) : t.val < 16 := lt_of_lt_of_eq t.isLt (show cfg0.N = 16 from N_0)

abbrev row (t : Fin cfg0.N) (k : Fin 512) : Fin 8192 := ⟨t.val * 512 + k.val, by have := lt_16 t; omega⟩

theorem blk_x (c : Dev nD) (t : Fin cfg0.N) (k : Fin 512) (r : Fin 1024) :
    iblk m c 0 t (ix2 k r) = argX m c (ix2 (row t k) r) := by
  show _ = V m c main_arg0 _
  blk_ext [iblk, V, idx t]

theorem blk_d (c : Dev nD) (t : Fin cfg0.N) (k : Fin 512) (e : Fin 128) :
    iblk m c 1 t (ix2 k e) = argD m c (ix2 (row t k) e) := by
  show _ = V m c main_arg1 _
  blk_ext [iblk, V, idx t]

/-- The share of a product that the rows of one point contribute. -/
def partOf (X : Vec Ideal S512x1024 .f32) (D : Vec Ideal S512x128 .f32) (y : S1024x128.Idx) : EReal :=
  ∑ k : Fin 512, X (ix2 k (y 0)) * D (ix2 k (y 1))

theorem pay2_apply (X : Vec Ideal S512x1024 .f32) (D : Vec Ideal S512x128 .f32) (y : S1024x128.Idx) :
    k0_pay2 X D y = 0 + partOf X D y := by
  pointwise [k0_pay2, k0_pay1]
  simp only [partOf]

theorem pay3_apply (X : Vec Ideal S512x1024 .f32) (D : Vec Ideal S512x128 .f32) (A : Vec Ideal S1024x128 .f32)
    (y : S1024x128.Idx) : k0_pay3 X D A y = A y + partOf X D y := by
  pointwise [k0_pay3, k0_pay1]
  simp only [partOf]

theorem sc_A (c : Dev nD) (t : Fin cfg0.N) (h : t.val % 16 = 0) (y : S1024x128.Idx) :
    (outsAt0 m c t.val t.isLt).2 y = 0 + partOf (iblk m c 0 t) (iblk m c 1 t) y := by
  have ht := lt_16 t
  rw [outsAt0_A m c t h (by omega) (by omega)]
  frame_out
  exact pay2_apply _ _ y

theorem sc_B (c : Dev nD) (t : Fin cfg0.N) (h : ¬t.val % 16 = 0) (y : S1024x128.Idx) :
    (outsAt0 m c t.val t.isLt).2 y = (outsAt0 m c (t.val - 1) (by omega)).2 y + partOf (iblk m c 0 t) (iblk m c 1 t) y := by
  have ht := lt_16 t
  rcases Classical.em (t.val % 16 = 15) with h7 | h7
  · rw [outsAt0_C m c t h (by omega) h7]
    frame_out
    rw [pay3_apply, read_unread_whole]
  · rw [outsAt0_B m c t h (by omega) h7]
    frame_out
    rw [pay3_apply, read_unread_whole]

theorem out_C (c : Dev nD) (t : Fin cfg0.N) (h : t.val % 16 = 15) (y : S1024x128.Idx) :
    (outsAt0 m c t.val t.isLt).1 y = (outsAt0 m c t.val t.isLt).2 y := by
  rw [outsAt0_C m c t (by omega) (by omega) h]
  frame_out
  pointwise [k0_pay4]

/-- The gradient of the weight, entry by entry. -/
def gradW (X : S8192x1024.Idx → EReal) (D : S8192x128.Idx → EReal) : S1024x128.Idx → EReal := fun i =>
  ∑ k : Fin 8192, X (ix2 k (i 0)) * D (ix2 k (i 1))

theorem final2 (c : Dev nD) : (dats m 0 c).arrAt 2 cfg0.N = gradW (argX m c) (argD m c) := by
  refine (dats m 0 c).arrAt_eq_of_covers 2 _ (by decide +kernel) fun t hf y => ?_
  blk_simp
  rw [after0_2]
  obtain ⟨r, e, rfl⟩ : ∃ (r : Fin 1024) (e : Fin 128), y = ix2 r e := ⟨y 0, y 1, by funext a; fin_cases a <;> rfl⟩
  have hi : ((cfg0.win 2).blk t).view.emb (ix2 r e) = ix2 r e := by
    blk_ext [idx t]
  rw [hi, out_C m c t ((flush0_2 t).mp hf),
    Pipeline.eq_sum_fin_of_reset_step_apply_of_flush (fun n h => (outsAt0 m c n h).2) 16 (fun _ => 0)
      (fun t => partOf (iblk m c 0 t) (iblk m c 1 t)) (fun t h j => sc_A m c t h j) (fun t h j => sc_B m c t h j) t
      ((flush0_2 t).mp hf) _, zero_add]
  show _ = ∑ k : Fin 8192, argX m c (ix2 k r) * argD m c (ix2 k e)
  refine Fin.sum_mul_add_congr (S := 16) (n := 512) (fun s k hl => ?_)
  refine (congrArg₂ (fun a b : EReal => a * b) (blk_x m c _ k r) (blk_d m c _ k e)).trans ?_
  have ht := lt_16 t
  have hs : 16 * (t.val / 16) + s.val = s.val := by omega
  simp only [row, hs]

end Cert.GatesWIdeal.Blocks

end
-- ==== Proof.GatesWClaim.lean ====
/- The gates' weight gradient equals the reference's. -/
module

public import proofs.«01_k».proof.Proof.GatesWBlock
public import proofs.«01_k».proof.Proof.Gen.GatesW.Frame
public import proofs.«01_k».proof.Proof.Gen.GatesWRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.GatesWIdeal.Blocks

theorem quiescent_GatesWRef : Cert.quiescent_GatesWRefIdeal := fun m ρ _ =>
  (θ_run Cert.GatesWRefIdeal.defs _ _).mono (fun r h => ⟨fun c => (h c).2, sem_eq_zero_of_no_sems (by decide) r.2⟩)
    (Cert.GatesWRefIdeal.Value.run (F := Ideal) m ρ)

theorem algebraic_GatesW : Cert.algebraic_GatesWIdeal_GatesWRefIdeal := by
  intro m ρ m' ρ' _ hagree
  refine ⟨_, (θ_run Cert.GatesWIdeal.defs _ _).mono (fun _ h c => ⟨((h c).1).trans (final2 m c), (h c).2⟩)
    (Cert.GatesWIdeal.Value.run_blocks (F := Ideal) m ρ), ?_⟩
  refine (θ_run Cert.GatesWRefIdeal.defs _ _).mono (fun _ h c => ⟨?_, (h c).2⟩) (Cert.GatesWRefIdeal.Value.run (F := Ideal) m' ρ')
  rw [(h c).1]
  simp only [hagree c]
  funext i
  obtain ⟨r, e, rfl⟩ : ∃ (r : Fin 1024) (e : Fin 128), i = ix2 r e := ⟨i 0, i 1, by funext a; fin_cases a <;> rfl⟩
  pointwise [gradW]
  exact Finset.sum_congr rfl fun _ _ => mul_comm _ _

end Cert.Proof

end
-- ==== Proof.MemWBlock.lean ====
/- The weight gradient of the memory's keys and values: what the output block holds after a point, and the whole result. -/
module

public import proofs.«01_k».proof.Defs
public import proofs.«01_k».proof.Proof.Gen.MemWIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MemWIdeal.Blocks

open Cert.MemWIdeal Cert.MemWIdeal.Gen Idealize.ShloMosaic Idealize.ShloMosaic.TcCoe Idealize.SL.Sem

variable (m : (ℓ : Loc nD τ sig) → Buf (Elt Ideal) ℓ)

/-- The memory and the cotangent of its keys and values. -/
abbrev argX (c : Dev nD) : S256x1024.Idx → EReal := m ((c : Thread nD τ).loc main_arg0)
abbrev argD (c : Dev nD) : S256x2048.Idx → EReal := m ((c : Thread nD τ).loc main_arg1)

/-- Every window's block at every point: the column block is `t`. -/
theorem idx : ∀ t : Fin cfg0.N, win0_0.index t = ![0, 0] ∧ win0_1.index t = ![0, t.val] ∧ win0_2.index t = ![t.val, 0, 0] :=
  (by decide +kernel : ∀ t : Fin grid0.N, _)

theorem lt_8 (t : Fin cfg0.N) : t.val < 8 := lt_of_lt_of_eq t.isLt (show cfg0.N = 8 from N_0)

abbrev blkOf (t : Fin cfg0.N) : Fin 8 := ⟨t.val, lt_8 t⟩
abbrev col (n : Fin 8) (e : Fin 256) : Fin 2048 := ⟨n.val * 256 + e.val, by omega⟩

theorem blk_x (c : Dev nD) (t : Fin cfg0.N) (k : Fin 256) (r : Fin 1024) :
    iblk m c 0 t (ix2 k r) = argX m c (ix2 k r) := by
  show _ = V m c main_arg0 _
  blk_ext [iblk, V, idx t]

theorem blk_d (c : Dev nD) (t : Fin cfg0.N) (k : Fin 256) (e : Fin 256) :
    iblk m c 1 t (ix2 k e) = argD m c (ix2 k (col (blkOf t) e)) := by
  show _ = V m c main_arg1 _
  blk_ext [iblk, V, idx t]

theorem pay1_apply (X : Vec Ideal S256x1024 .f32) (D : Vec Ideal S256x256 .f32) (r : Fin 1024) (e : Fin 256) :
    k0_pay1 X D (ix3 0 r e) = ∑ k : Fin 256, X (ix2 k r) * D (ix2 k e) := by
  pointwise [k0_pay1]

theorem out (c : Dev nD) (t : Fin cfg0.N) : outsAt0 m c t = k0_pay1 (iblk m c 0 t) (iblk m c 1 t) := by
  unfold outsAt0
  frame_out

/-- The gradient of the weight, in blocks of 256 columns, entry by entry. -/
def gradW (X : S256x1024.Idx → EReal) (D : S256x2048.Idx → EReal) : S8x1024x256.Idx → EReal := fun i =>
  ∑ k : Fin 256, X (ix2 k (i 1)) * D (ix2 k (col (i 0) (i 2)))

theorem final2 (c : Dev nD) : (dats m 0 c).arrAt 2 cfg0.N = gradW (argX m c) (argD m c) := by
  refine (dats m 0 c).arrAt_eq_of_covers 2 _ (by decide +kernel) fun t hf y => ?_
  blk_simp
  rw [after0_2]
  obtain ⟨r, e, rfl⟩ : ∃ (r : Fin 1024) (e : Fin 256), y = ix3 0 r e :=
    ⟨y 1, y 2, by funext a; fin_cases a <;> first | rfl | exact Subsingleton.elim (α := Fin 1) _ _⟩
  have hi : ((cfg0.win 2).blk t).view.emb (ix3 0 r e) = ix3 (blkOf t) r e := by
    blk_ext [idx t]
  rw [hi, out, pay1_apply]
  simp only [blk_x, blk_d]
  rfl

end Cert.MemWIdeal.Blocks

end
-- ==== Proof.MemWClaim.lean ====
/- The weight gradient of the memory's keys and values equals the reference's. -/
module

public import proofs.«01_k».proof.Proof.MemWBlock
public import proofs.«01_k».proof.Proof.Gen.MemW.Frame
public import proofs.«01_k».proof.Proof.Gen.MemWRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.MemWIdeal.Blocks

theorem quiescent_MemWRef : Cert.quiescent_MemWRefIdeal := fun m ρ _ =>
  (θ_run Cert.MemWRefIdeal.defs _ _).mono (fun r h => ⟨fun c => (h c).2, sem_eq_zero_of_no_sems (by decide) r.2⟩)
    (Cert.MemWRefIdeal.Value.run (F := Ideal) m ρ)

theorem algebraic_MemW : Cert.algebraic_MemWIdeal_MemWRefIdeal := by
  intro m ρ m' ρ' _ hagree
  refine ⟨_, (θ_run Cert.MemWIdeal.defs _ _).mono (fun _ h c => ⟨((h c).1).trans (final2 m c), (h c).2⟩)
    (Cert.MemWIdeal.Value.run_blocks (F := Ideal) m ρ), ?_⟩
  refine (θ_run Cert.MemWRefIdeal.defs _ _).mono (fun _ h c => ⟨?_, (h c).2⟩) (Cert.MemWRefIdeal.Value.run (F := Ideal) m' ρ')
  rw [(h c).1]
  simp only [hagree c]
  funext i
  obtain ⟨n, r, e, rfl⟩ : ∃ (n : Fin 8) (r : Fin 1024) (e : Fin 256), i = ix3 n r e := ⟨i 0, i 1, i 2, by funext a; fin_cases a <;> rfl⟩
  pointwise [gradW]
  exact Finset.sum_congr rfl fun _ _ => mul_comm _ _

end Cert.Proof

end
-- ==== Proof.QueryXBlock.lean ====
/- The query projection's input gradient: what the output block holds after a point, and the whole result. -/
module

public import proofs.«01_k».proof.Defs
public import proofs.«01_k».proof.Proof.Gen.QueryXIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.QueryXIdeal.Blocks

open Cert.QueryXIdeal Cert.QueryXIdeal.Gen Idealize.ShloMosaic Idealize.ShloMosaic.TcCoe Idealize.SL.Sem

variable (m : (ℓ : Loc nD τ sig) → Buf (Elt Ideal) ℓ)

/-- The cotangent of the product, the weight, and the gradient that is added. -/
abbrev argD (c : Dev nD) : S8192x1024.Idx → EReal := m ((c : Thread nD τ).loc main_arg0)
abbrev argW (c : Dev nD) : S1024x1024.Idx → EReal := m ((c : Thread nD τ).loc main_arg1)
abbrev argU (c : Dev nD) : S8192x1024.Idx → EReal := m ((c : Thread nD τ).loc main_arg2)

/-- Every window's block at every point: the row block is `t`. -/
theorem idx : ∀ t : Fin cfg0.N, win0_0.index t = ![t.val, 0] ∧ win0_1.index t = ![0, 0] ∧
    win0_2.index t = ![t.val, 0] ∧ win0_3.index t = ![t.val, 0] :=
  (by decide +kernel : ∀ t : Fin grid0.N, _)

theorem lt_8 (t : Fin cfg0.N) : t.val < 8 := lt_of_lt_of_eq t.isLt (show cfg0.N = 8 from N_0)

abbrev row (t : Fin cfg0.N) (r : Fin 1024) : Fin 8192 := ⟨t.val * 1024 + r.val, by have := lt_8 t; omega⟩

theorem V_w (c : Dev nD) : V m c main_v0 = argW m c := by
  unfold V
  after_results
  rfl

theorem blk_d (c : Dev nD) (t : Fin cfg0.N) (r : Fin 1024) (k : Fin 1024) :
    iblk m c 0 t (ix2 r k) = argD m c (ix2 (row t r) k) := by
  show _ = V m c main_arg0 _
  blk_ext [iblk, V, idx t]

theorem blk_w (c : Dev nD) (t : Fin cfg0.N) (r : Fin 1024) (k : Fin 1024) :
    iblk m c 1 t (ix2 r k) = argW m c (ix2 r k) := by
  rw [← V_w]
  blk_ext [iblk, idx t]

theorem blk_u (c : Dev nD) (t : Fin cfg0.N) (r : Fin 1024) (k : Fin 1024) :
    iblk m c 2 t (ix2 r k) = argU m c (ix2 (row t r) k) := by
  show _ = V m c main_arg2 _
  blk_ext [iblk, V, idx t]

theorem pay1_apply (D : Vec Ideal S1024x1024 .f32) (W : Vec Ideal S1024x1024 .bf16) (U : Vec Ideal S1024x1024 .f32)
    (r e : Fin 1024) : k0_pay1 D W U (ix2 r e) = (∑ k : Fin 1024, D (ix2 r k) * W (ix2 e k)) + Ideal.ofBits .f32 0x3F9837F0#32 * U (ix2 r e) := by
  pointwise [k0_pay1]

theorem out (c : Dev nD) (t : Fin cfg0.N) : outsAt0 m c t = k0_pay1 (iblk m c 0 t) (iblk m c 1 t) (iblk m c 2 t) := by
  unfold outsAt0
  frame_out

/-- The gradient of the product's input with the other branch's, entry by entry. -/
def gradX (D : S8192x1024.Idx → EReal) (W : S1024x1024.Idx → EReal) (U : S8192x1024.Idx → EReal) : S8192x1024.Idx → EReal := fun i =>
  (∑ k : Fin 1024, D (ix2 (i 0) k) * W (ix2 (i 1) k)) + Ideal.ofBits .f32 0x3F9837F0#32 * U i

theorem final3 (c : Dev nD) : (dats m 0 c).arrAt 3 cfg0.N = gradX (argD m c) (argW m c) (argU m c) := by
  refine (dats m 0 c).arrAt_eq_of_covers 3 _ (by decide +kernel) fun t hf y => ?_
  blk_simp
  rw [after0_3]
  obtain ⟨r, e, rfl⟩ : ∃ (r : Fin 1024) (e : Fin 1024), y = ix2 r e := ⟨y 0, y 1, by funext a; fin_cases a <;> rfl⟩
  have hi : ((cfg0.win 3).blk t).view.emb (ix2 r e) = ix2 (row t r) e := by
    blk_ext [idx t]
  rw [hi, out, pay1_apply, blk_u]
  simp only [blk_d, blk_w]
  rfl

end Cert.QueryXIdeal.Blocks

end
-- ==== Proof.QueryXClaim.lean ====
/- The query projection's input gradient equals the reference's. -/
module

public import proofs.«01_k».proof.Proof.QueryXBlock
public import proofs.«01_k».proof.Proof.Gen.QueryX.Frame
public import proofs.«01_k».proof.Proof.Gen.QueryXRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.QueryXIdeal.Blocks

theorem quiescent_QueryXRef : Cert.quiescent_QueryXRefIdeal := fun m ρ _ =>
  (θ_run Cert.QueryXRefIdeal.defs _ _).mono (fun r h => ⟨fun c => (h c).2, sem_eq_zero_of_no_sems (by decide) r.2⟩)
    (Cert.QueryXRefIdeal.Value.run (F := Ideal) m ρ)

theorem algebraic_QueryX : Cert.algebraic_QueryXIdeal_QueryXRefIdeal := by
  intro m ρ m' ρ' _ hagree
  refine ⟨_, (θ_run Cert.QueryXIdeal.defs _ _).mono (fun _ h c => ⟨((h c).1).trans (final3 m c), (h c).2⟩)
    (Cert.QueryXIdeal.Value.run_blocks (F := Ideal) m ρ), ?_⟩
  refine (θ_run Cert.QueryXRefIdeal.defs _ _).mono (fun _ h c => ⟨?_, (h c).2⟩) (Cert.QueryXRefIdeal.Value.run (F := Ideal) m' ρ')
  rw [(h c).1]
  simp only [hagree c]
  funext i
  obtain ⟨r, e, rfl⟩ : ∃ (r : Fin 8192) (e : Fin 1024), i = ix2 r e := ⟨i 0, i 1, by funext a; fin_cases a <;> rfl⟩
  pointwise [gradX]

end Cert.Proof

end
-- ==== Proof.GatesXBlock.lean ====
/- The gates' input gradient: what the output block holds after a point, and the whole result. -/
module

public import proofs.«01_k».proof.Defs
public import proofs.«01_k».proof.Proof.Gen.GatesXIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GatesXIdeal.Blocks

open Cert.GatesXIdeal Cert.GatesXIdeal.Gen Idealize.ShloMosaic Idealize.ShloMosaic.TcCoe Idealize.SL.Sem

variable (m : (ℓ : Loc nD τ sig) → Buf (Elt Ideal) ℓ)

/-- The cotangent of the product, the weight, and the gradient that is added. -/
abbrev argD (c : Dev nD) : S8192x128.Idx → EReal := m ((c : Thread nD τ).loc main_arg0)
abbrev argW (c : Dev nD) : S1024x128.Idx → EReal := m ((c : Thread nD τ).loc main_arg1)
abbrev argU (c : Dev nD) : S8192x1024.Idx → EReal := m ((c : Thread nD τ).loc main_arg2)

/-- Every window's block at every point: the row block is `t`. -/
theorem idx : ∀ t : Fin cfg0.N, win0_0.index t = ![t.val, 0] ∧ win0_1.index t = ![0, 0] ∧
    win0_2.index t = ![t.val, 0] ∧ win0_3.index t = ![t.val, 0] :=
  (by decide +kernel : ∀ t : Fin grid0.N, _)

theorem lt_8 (t : Fin cfg0.N) : t.val < 8 := lt_of_lt_of_eq t.isLt (show cfg0.N = 8 from N_0)

abbrev row (t : Fin cfg0.N) (r : Fin 1024) : Fin 8192 := ⟨t.val * 1024 + r.val, by have := lt_8 t; omega⟩

theorem V_w (c : Dev nD) : V m c main_v0 = argW m c := by
  unfold V
  after_results
  rfl

theorem blk_d (c : Dev nD) (t : Fin cfg0.N) (r : Fin 1024) (k : Fin 128) :
    iblk m c 0 t (ix2 r k) = argD m c (ix2 (row t r) k) := by
  show _ = V m c main_arg0 _
  blk_ext [iblk, V, idx t]

theorem blk_w (c : Dev nD) (t : Fin cfg0.N) (r : Fin 1024) (k : Fin 128) :
    iblk m c 1 t (ix2 r k) = argW m c (ix2 r k) := by
  rw [← V_w]
  blk_ext [iblk, idx t]

theorem blk_u (c : Dev nD) (t : Fin cfg0.N) (r : Fin 1024) (k : Fin 1024) :
    iblk m c 2 t (ix2 r k) = argU m c (ix2 (row t r) k) := by
  show _ = V m c main_arg2 _
  blk_ext [iblk, V, idx t]

theorem pay1_apply (D : Vec Ideal S1024x128 .f32) (W : Vec Ideal S1024x128 .bf16) (U : Vec Ideal S1024x1024 .f32)
    (r e : Fin 1024) : k0_pay1 D W U (ix2 r e) = (∑ k : Fin 128, D (ix2 r k) * W (ix2 e k)) + U (ix2 r e) := by
  pointwise [k0_pay1]

theorem out (c : Dev nD) (t : Fin cfg0.N) : outsAt0 m c t = k0_pay1 (iblk m c 0 t) (iblk m c 1 t) (iblk m c 2 t) := by
  unfold outsAt0
  frame_out

/-- The gradient of the product's input with the other branch's, entry by entry. -/
def gradX (D : S8192x128.Idx → EReal) (W : S1024x128.Idx → EReal) (U : S8192x1024.Idx → EReal) : S8192x1024.Idx → EReal := fun i =>
  (∑ k : Fin 128, D (ix2 (i 0) k) * W (ix2 (i 1) k)) + U i

theorem final3 (c : Dev nD) : (dats m 0 c).arrAt 3 cfg0.N = gradX (argD m c) (argW m c) (argU m c) := by
  refine (dats m 0 c).arrAt_eq_of_covers 3 _ (by decide +kernel) fun t hf y => ?_
  blk_simp
  rw [after0_3]
  obtain ⟨r, e, rfl⟩ : ∃ (r : Fin 1024) (e : Fin 1024), y = ix2 r e := ⟨y 0, y 1, by funext a; fin_cases a <;> rfl⟩
  have hi : ((cfg0.win 3).blk t).view.emb (ix2 r e) = ix2 (row t r) e := by
    blk_ext [idx t]
  rw [hi, out, pay1_apply, blk_u]
  simp only [blk_d, blk_w]
  rfl

end Cert.GatesXIdeal.Blocks

end
-- ==== Proof.GatesXClaim.lean ====
/- The gates' input gradient equals the reference's. -/
module

public import proofs.«01_k».proof.Proof.GatesXBlock
public import proofs.«01_k».proof.Proof.Gen.GatesX.Frame
public import proofs.«01_k».proof.Proof.Gen.GatesXRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.GatesXIdeal.Blocks

theorem quiescent_GatesXRef : Cert.quiescent_GatesXRefIdeal := fun m ρ _ =>
  (θ_run Cert.GatesXRefIdeal.defs _ _).mono (fun r h => ⟨fun c => (h c).2, sem_eq_zero_of_no_sems (by decide) r.2⟩)
    (Cert.GatesXRefIdeal.Value.run (F := Ideal) m ρ)

theorem algebraic_GatesX : Cert.algebraic_GatesXIdeal_GatesXRefIdeal := by
  intro m ρ m' ρ' _ hagree
  refine ⟨_, (θ_run Cert.GatesXIdeal.defs _ _).mono (fun _ h c => ⟨((h c).1).trans (final3 m c), (h c).2⟩)
    (Cert.GatesXIdeal.Value.run_blocks (F := Ideal) m ρ), ?_⟩
  refine (θ_run Cert.GatesXRefIdeal.defs _ _).mono (fun _ h c => ⟨?_, (h c).2⟩) (Cert.GatesXRefIdeal.Value.run (F := Ideal) m' ρ')
  rw [(h c).1]
  simp only [hagree c]
  funext i
  obtain ⟨r, e, rfl⟩ : ∃ (r : Fin 8192) (e : Fin 1024), i = ix2 r e := ⟨i 0, i 1, by funext a; fin_cases a <;> rfl⟩
  pointwise [gradX]
  exact add_comm _ _

end Cert.Proof

end
-- ==== Proof.QueryBlock.lean ====
/- The query projection: what the output block holds after a point, and the whole result. -/
module

public import proofs.«01_k».proof.Defs
public import proofs.«01_k».proof.Proof.Gen.QueryIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.QueryIdeal.Blocks

open Cert.QueryIdeal Cert.QueryIdeal.Gen Idealize.ShloMosaic Idealize.ShloMosaic.TcCoe Idealize.SL.Sem

variable (m : (ℓ : Loc nD τ sig) → Buf (Elt Ideal) ℓ)

/-- The rows and the weight. -/
abbrev argX (c : Dev nD) : S8192x1024.Idx → EReal := m ((c : Thread nD τ).loc main_arg0)
abbrev argW (c : Dev nD) : S1024x1024.Idx → EReal := m ((c : Thread nD τ).loc main_arg1)

/-- Every window's block at every point: the row block is `t`. -/
theorem idx : ∀ t : Fin cfg0.N, win0_0.index t = ![t.val, 0] ∧ win0_1.index t = ![0, 0] ∧ win0_2.index t = ![t.val, 0] :=
  (by decide +kernel : ∀ t : Fin grid0.N, _)

theorem lt_8 (t : Fin cfg0.N) : t.val < 8 := lt_of_lt_of_eq t.isLt (show cfg0.N = 8 from N_0)

abbrev row (t : Fin cfg0.N) (r : Fin 1024) : Fin 8192 := ⟨t.val * 1024 + r.val, by have := lt_8 t; omega⟩

theorem V_w (c : Dev nD) : V m c main_v0 = argW m c := by
  unfold V
  after_results
  rfl

theorem blk_x (c : Dev nD) (t : Fin cfg0.N) (r k : Fin 1024) :
    iblk m c 0 t (ix2 r k) = argX m c (ix2 (row t r) k) := by
  show _ = V m c main_arg0 _
  blk_ext [iblk, V, idx t]

theorem blk_w (c : Dev nD) (t : Fin cfg0.N) (k : Fin 1024) (e : Fin 1024) :
    iblk m c 1 t (ix2 k e) = argW m c (ix2 k e) := by
  rw [← V_w]
  blk_ext [iblk, idx t]

theorem pay1_apply (X : Vec Ideal S1024x1024 .f32) (W : Vec Ideal S1024x1024 .bf16) (r : Fin 1024) (e : Fin 1024) :
    k0_pay1 X W (ix2 r e) = ∑ k : Fin 1024, X (ix2 r k) * W (ix2 k e) := by
  pointwise [k0_pay1]

theorem out (c : Dev nD) (t : Fin cfg0.N) : outsAt0 m c t = k0_pay1 (iblk m c 0 t) (iblk m c 1 t) := by
  unfold outsAt0
  frame_out

/-- The product, entry by entry. -/
def prod (X : S8192x1024.Idx → EReal) (W : S1024x1024.Idx → EReal) : S8192x1024.Idx → EReal := fun i =>
  ∑ k : Fin 1024, X (ix2 (i 0) k) * W (ix2 k (i 1))

theorem final2 (c : Dev nD) : (dats m 0 c).arrAt 2 cfg0.N = prod (argX m c) (argW m c) := by
  refine (dats m 0 c).arrAt_eq_of_covers 2 _ (by decide +kernel) fun t hf y => ?_
  blk_simp
  rw [after0_2]
  obtain ⟨r, e, rfl⟩ : ∃ (r : Fin 1024) (e : Fin 1024), y = ix2 r e := ⟨y 0, y 1, by funext a; fin_cases a <;> rfl⟩
  have hi : ((cfg0.win 2).blk t).view.emb (ix2 r e) = ix2 (row t r) e := by
    blk_ext [idx t]
  rw [hi, out, pay1_apply]
  simp only [blk_x, blk_w]
  rfl

end Cert.QueryIdeal.Blocks

end
-- ==== Proof.QueryClaim.lean ====
/- The query projection equals the reference's. -/
module

public import proofs.«01_k».proof.Proof.QueryBlock
public import proofs.«01_k».proof.Proof.Gen.Query.Frame
public import proofs.«01_k».proof.Proof.Gen.QueryRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.QueryIdeal.Blocks

theorem quiescent_QueryRef : Cert.quiescent_QueryRefIdeal := fun m ρ _ =>
  (θ_run Cert.QueryRefIdeal.defs _ _).mono (fun r h => ⟨fun c => (h c).2, sem_eq_zero_of_no_sems (by decide) r.2⟩)
    (Cert.QueryRefIdeal.Value.run (F := Ideal) m ρ)

theorem algebraic_Query : Cert.algebraic_QueryIdeal_QueryRefIdeal := by
  intro m ρ m' ρ' _ hagree
  refine ⟨_, (θ_run Cert.QueryIdeal.defs _ _).mono (fun _ h c => ⟨((h c).1).trans (final2 m c), (h c).2⟩)
    (Cert.QueryIdeal.Value.run_blocks (F := Ideal) m ρ), ?_⟩
  refine (θ_run Cert.QueryRefIdeal.defs _ _).mono (fun _ h c => ⟨?_, (h c).2⟩) (Cert.QueryRefIdeal.Value.run (F := Ideal) m' ρ')
  rw [(h c).1]
  simp only [hagree c]
  funext i
  obtain ⟨r, e, rfl⟩ : ∃ (r : Fin 8192) (e : Fin 1024), i = ix2 r e := ⟨i 0, i 1, by funext a; fin_cases a <;> rfl⟩
  pointwise [prod]

end Cert.Proof

end
-- ==== Proof.GatesBlock.lean ====
/- The gates before their bias: what the output block holds after a point, and the whole result. -/
module

public import proofs.«01_k».proof.Defs
public import proofs.«01_k».proof.Proof.Gen.GatesIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GatesIdeal.Blocks

open Cert.GatesIdeal Cert.GatesIdeal.Gen Idealize.ShloMosaic Idealize.ShloMosaic.TcCoe Idealize.SL.Sem

variable (m : (ℓ : Loc nD τ sig) → Buf (Elt Ideal) ℓ)

/-- The rows and the weight. -/
abbrev argX (c : Dev nD) : S8192x1024.Idx → EReal := m ((c : Thread nD τ).loc main_arg0)
abbrev argW (c : Dev nD) : S1024x128.Idx → EReal := m ((c : Thread nD τ).loc main_arg1)

/-- Every window's block at every point: the row block is `t`. -/
theorem idx : ∀ t : Fin cfg0.N, win0_0.index t = ![t.val, 0] ∧ win0_1.index t = ![0, 0] ∧ win0_2.index t = ![t.val, 0] :=
  (by decide +kernel : ∀ t : Fin grid0.N, _)

theorem lt_8 (t : Fin cfg0.N) : t.val < 8 := lt_of_lt_of_eq t.isLt (show cfg0.N = 8 from N_0)

abbrev row (t : Fin cfg0.N) (r : Fin 1024) : Fin 8192 := ⟨t.val * 1024 + r.val, by have := lt_8 t; omega⟩

theorem V_w (c : Dev nD) : V m c main_v0 = argW m c := by
  unfold V
  after_results
  rfl

theorem blk_x (c : Dev nD) (t : Fin cfg0.N) (r k : Fin 1024) :
    iblk m c 0 t (ix2 r k) = argX m c (ix2 (row t r) k) := by
  show _ = V m c main_arg0 _
  blk_ext [iblk, V, idx t]

theorem blk_w (c : Dev nD) (t : Fin cfg0.N) (k : Fin 1024) (e : Fin 128) :
    iblk m c 1 t (ix2 k e) = argW m c (ix2 k e) := by
  rw [← V_w]
  blk_ext [iblk, idx t]

theorem pay1_apply (X : Vec Ideal S1024x1024 .f32) (W : Vec Ideal S1024x128 .bf16) (r : Fin 1024) (e : Fin 128) :
    k0_pay1 X W (ix2 r e) = ∑ k : Fin 1024, X (ix2 r k) * W (ix2 k e) := by
  pointwise [k0_pay1]

theorem out (c : Dev nD) (t : Fin cfg0.N) : outsAt0 m c t = k0_pay1 (iblk m c 0 t) (iblk m c 1 t) := by
  unfold outsAt0
  frame_out

/-- The product, entry by entry. -/
def prod (X : S8192x1024.Idx → EReal) (W : S1024x128.Idx → EReal) : S8192x128.Idx → EReal := fun i =>
  ∑ k : Fin 1024, X (ix2 (i 0) k) * W (ix2 k (i 1))

theorem final2 (c : Dev nD) : (dats m 0 c).arrAt 2 cfg0.N = prod (argX m c) (argW m c) := by
  refine (dats m 0 c).arrAt_eq_of_covers 2 _ (by decide +kernel) fun t hf y => ?_
  blk_simp
  rw [after0_2]
  obtain ⟨r, e, rfl⟩ : ∃ (r : Fin 1024) (e : Fin 128), y = ix2 r e := ⟨y 0, y 1, by funext a; fin_cases a <;> rfl⟩
  have hi : ((cfg0.win 2).blk t).view.emb (ix2 r e) = ix2 (row t r) e := by
    blk_ext [idx t]
  rw [hi, out, pay1_apply]
  simp only [blk_x, blk_w]
  rfl

end Cert.GatesIdeal.Blocks

end
-- ==== Proof.GatesClaim.lean ====
/- The gates before their bias equals the reference's. -/
module

public import proofs.«01_k».proof.Proof.GatesBlock
public import proofs.«01_k».proof.Proof.Gen.Gates.Frame
public import proofs.«01_k».proof.Proof.Gen.GatesRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.GatesIdeal.Blocks

theorem quiescent_GatesRef : Cert.quiescent_GatesRefIdeal := fun m ρ _ =>
  (θ_run Cert.GatesRefIdeal.defs _ _).mono (fun r h => ⟨fun c => (h c).2, sem_eq_zero_of_no_sems (by decide) r.2⟩)
    (Cert.GatesRefIdeal.Value.run (F := Ideal) m ρ)

theorem algebraic_Gates : Cert.algebraic_GatesIdeal_GatesRefIdeal := by
  intro m ρ m' ρ' _ hagree
  refine ⟨_, (θ_run Cert.GatesIdeal.defs _ _).mono (fun _ h c => ⟨((h c).1).trans (final2 m c), (h c).2⟩)
    (Cert.GatesIdeal.Value.run_blocks (F := Ideal) m ρ), ?_⟩
  refine (θ_run Cert.GatesRefIdeal.defs _ _).mono (fun _ h c => ⟨?_, (h c).2⟩) (Cert.GatesRefIdeal.Value.run (F := Ideal) m' ρ')
  rw [(h c).1]
  simp only [hagree c]
  funext i
  obtain ⟨r, e, rfl⟩ : ∃ (r : Fin 8192) (e : Fin 128), i = ix2 r e := ⟨i 0, i 1, by funext a; fin_cases a <;> rfl⟩
  pointwise [prod]

end Cert.Proof

end
-- ==== Proof.AttnOutBlock.lean ====
/- The attention's output projection with residual and norm: what the output blocks hold after a point, and the two results. -/
module

public import proofs.«01_k».proof.Defs
public import proofs.«01_k».proof.Proof.Gen.AttnOutIdeal.Value
public import proofs.«01_k».proof.Proof.FfnMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AttnOutIdeal.Blocks

open Cert.AttnOutIdeal Cert.AttnOutIdeal.Gen Cert.FfnMath Idealize.ShloMosaic Idealize.ShloMosaic.TcCoe Idealize.SL.Sem

variable (m : (ℓ : Loc nD τ sig) → Buf (Elt Ideal) ℓ)

/-- The rows that enter the product, the weight, the residual branch, and the norm's weight and bias. -/
abbrev argO (c : Dev nD) : S8192x1024.Idx → EReal := m ((c : Thread nD τ).loc main_arg0)
abbrev argW (c : Dev nD) : S1024x1024.Idx → EReal := m ((c : Thread nD τ).loc main_arg1)
abbrev argX (c : Dev nD) : S8192x1024.Idx → EReal := m ((c : Thread nD τ).loc main_arg2)
abbrev argG (c : Dev nD) : S1024.Idx → EReal := m ((c : Thread nD τ).loc main_arg3)
abbrev argB (c : Dev nD) : S1024.Idx → EReal := m ((c : Thread nD τ).loc main_arg4)

/-- Every window's block at every point: the row block is `t`. -/
theorem idx : ∀ t : Fin cfg0.N, win0_0.index t = ![t.val, 0] ∧ win0_1.index t = ![0, 0] ∧ win0_2.index t = ![t.val, 0] ∧
    win0_3.index t = ![0, 0] ∧ win0_4.index t = ![0, 0] ∧ win0_5.index t = ![t.val, 0] ∧ win0_6.index t = ![t.val, 0] :=
  (by decide +kernel : ∀ t : Fin grid0.N, _)

theorem lt_8 (t : Fin cfg0.N) : t.val < 8 := lt_of_lt_of_eq t.isLt (show cfg0.N = 8 from N_0)

abbrev row (t : Fin cfg0.N) (r : Fin 1024) : Fin 8192 := ⟨t.val * 1024 + r.val, by have := lt_8 t; omega⟩

theorem V_w (c : Dev nD) : V m c main_v0 = argW m c := by
  unfold V
  after_results
  rfl

theorem V_g (c : Dev nD) (k : Fin 1024) : V m c main_v1 (ix2 0 k) = argG m c (ix1 k) := by
  unfold V
  after_results
  pointwise []

theorem V_b (c : Dev nD) (k : Fin 1024) : V m c main_v2 (ix2 0 k) = argB m c (ix1 k) := by
  unfold V
  after_results
  pointwise []

theorem blk_o (c : Dev nD) (t : Fin cfg0.N) (r k : Fin 1024) : iblk m c 0 t (ix2 r k) = argO m c (ix2 (row t r) k) := by
  show _ = V m c main_arg0 _
  blk_ext [iblk, V, idx t]

theorem blk_x (c : Dev nD) (t : Fin cfg0.N) (r k : Fin 1024) : iblk m c 2 t (ix2 r k) = argX m c (ix2 (row t r) k) := by
  show _ = V m c main_arg2 _
  blk_ext [iblk, V, idx t]

theorem blk_w (c : Dev nD) (t : Fin cfg0.N) (k e : Fin 1024) : iblk m c 1 t (ix2 k e) = argW m c (ix2 k e) := by
  rw [← V_w]
  blk_ext [iblk, idx t]

theorem blk_g (c : Dev nD) (t : Fin cfg0.N) (k : Fin 1024) : iblk m c 3 t (ix2 0 k) = argG m c (ix1 k) := by
  refine Eq.trans ?_ (V_g m c k)
  blk_ext [iblk, idx t]

theorem blk_b (c : Dev nD) (t : Fin cfg0.N) (k : Fin 1024) : iblk m c 4 t (ix2 0 k) = argB m c (ix1 k) := by
  refine Eq.trans ?_ (V_b m c k)
  blk_ext [iblk, idx t]

/-- A block's row before the norm. -/
def pre (O : Vec Ideal S1024x1024 .f32) (W : Vec Ideal S1024x1024 .bf16) (X : Vec Ideal S1024x1024 .f32) (r e : Fin 1024) : EReal :=
  alpha * X (ix2 r e) + ∑ k : Fin 1024, O (ix2 r k) * W (ix2 k e)

theorem pay1_apply (O : Vec Ideal S1024x1024 .f32) (W : Vec Ideal S1024x1024 .bf16) (X : Vec Ideal S1024x1024 .f32)
    (r e : Fin 1024) : k0_pay1 X O W (ix2 r e) = pre O W X r e := by
  pointwise [k0_pay1, pre]

theorem pay2_apply (O : Vec Ideal S1024x1024 .f32) (W : Vec Ideal S1024x1024 .bf16) (X : Vec Ideal S1024x1024 .f32)
    (G B : Vec Ideal S1x1024 .f32) (r e : Fin 1024) :
    k0_pay2 X O W G B (ix2 r e) = norm (fun j => pre O W X r j) (fun j => G (ix2 0 j)) (fun j => B (ix2 0 j)) e := by
  pointwise [k0_pay2, pay1_apply, FfnMath.norm, FfnMath.var, FfnMath.mean]

theorem out_u (c : Dev nD) (t : Fin cfg0.N) (r e : Fin 1024) :
    out0_5 (iblk m c 0 t) (iblk m c 1 t) (iblk m c 2 t) (iblk m c 3 t) (iblk m c 4 t) (ix2 r e)
      = pre (iblk m c 0 t) (iblk m c 1 t) (iblk m c 2 t) r e := by
  unfold out0_5
  frame_out
  exact pay1_apply _ _ _ r e

theorem out_y (c : Dev nD) (t : Fin cfg0.N) (r e : Fin 1024) :
    out0_6 (iblk m c 0 t) (iblk m c 1 t) (iblk m c 2 t) (iblk m c 3 t) (iblk m c 4 t) (ix2 r e)
      = norm (fun j => pre (iblk m c 0 t) (iblk m c 1 t) (iblk m c 2 t) r j) (fun j => iblk m c 3 t (ix2 0 j))
          (fun j => iblk m c 4 t (ix2 0 j)) e := by
  unfold out0_6
  frame_out
  exact pay2_apply _ _ _ _ _ r e

/-- The layer before its norm, and the layer, entry by entry. -/
def layer (O : S8192x1024.Idx → EReal) (W : S1024x1024.Idx → EReal) (X : S8192x1024.Idx → EReal) : S8192x1024.Idx → EReal :=
  fun i => alpha * X i + ∑ k : Fin 1024, O (ix2 (i 0) k) * W (ix2 k (i 1))
def normed (O : S8192x1024.Idx → EReal) (W : S1024x1024.Idx → EReal) (X : S8192x1024.Idx → EReal) (G B : S1024.Idx → EReal) :
    S8192x1024.Idx → EReal :=
  fun i => norm (fun j => layer O W X (ix2 (i 0) j)) (fun j => G (ix1 j)) (fun j => B (ix1 j)) (i 1)

theorem pre_eq (c : Dev nD) (t : Fin cfg0.N) (r e : Fin 1024) :
    pre (iblk m c 0 t) (iblk m c 1 t) (iblk m c 2 t) r e = layer (argO m c) (argW m c) (argX m c) (ix2 (row t r) e) := by
  simp only [pre, layer]
  rw [blk_x]
  simp only [blk_o, blk_w]
  rfl

theorem final5 (c : Dev nD) : (dats m 0 c).arrAt 5 cfg0.N = layer (argO m c) (argW m c) (argX m c) := by
  refine (dats m 0 c).arrAt_eq_of_covers 5 _ (by decide +kernel) fun t hf y => ?_
  blk_simp
  rw [after0_5]
  obtain ⟨r, e, rfl⟩ : ∃ (r : Fin 1024) (e : Fin 1024), y = ix2 r e := ⟨y 0, y 1, by funext a; fin_cases a <;> rfl⟩
  have hi : ((cfg0.win 5).blk t).view.emb (ix2 r e) = ix2 (row t r) e := by
    blk_ext [idx t]
  rw [hi, out_u]
  exact pre_eq m c t r e

theorem final6 (c : Dev nD) : (dats m 0 c).arrAt 6 cfg0.N = normed (argO m c) (argW m c) (argX m c) (argG m c) (argB m c) := by
  refine (dats m 0 c).arrAt_eq_of_covers 6 _ (by decide +kernel) fun t hf y => ?_
  blk_simp
  rw [after0_6]
  obtain ⟨r, e, rfl⟩ : ∃ (r : Fin 1024) (e : Fin 1024), y = ix2 r e := ⟨y 0, y 1, by funext a; fin_cases a <;> rfl⟩
  have hi : ((cfg0.win 6).blk t).view.emb (ix2 r e) = ix2 (row t r) e := by
    blk_ext [idx t]
  rw [hi, out_y]
  show _ = norm (fun j => layer (argO m c) (argW m c) (argX m c) (ix2 (row t r) j)) (fun j => argG m c (ix1 j)) (fun j => argB m c (ix1 j)) e
  rw [← funext fun j => pre_eq m c t r j, ← funext fun j => blk_g m c t j, ← funext fun j => blk_b m c t j]

end Cert.AttnOutIdeal.Blocks

end
-- ==== Proof.AttnOutClaim.lean ====
/- The attention's output projection with residual, before and after the norm, equals the reference's. -/
module

public import proofs.«01_k».proof.Proof.AttnOutBlock
public import proofs.«01_k».proof.Proof.Gen.AttnOut.Frame
public import proofs.«01_k».proof.Proof.Gen.AttnOutRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.FfnMath Cert.AttnOutIdeal.Blocks

theorem quiescent_AttnOutRef : Cert.quiescent_AttnOutRefIdeal := fun m ρ _ =>
  (θ_run Cert.AttnOutRefIdeal.defs _ _).mono (fun r h => ⟨fun c => (h c).2.2, sem_eq_zero_of_no_sems (by decide) r.2⟩)
    (Cert.AttnOutRefIdeal.Value.run (F := Ideal) m ρ)

theorem algebraic_AttnOut : Cert.algebraic_AttnOutIdeal_AttnOutRefIdeal := by
  intro m ρ m' ρ' _ hagree
  refine ⟨fun c => layer (argO m c) (argW m c) (argX m c), fun c => normed (argO m c) (argW m c) (argX m c) (argG m c) (argB m c), ?_, ?_⟩
  · refine (θ_run _ _ _).mono (fun r h c => ?_) (Cert.AttnOutIdeal.Value.run_blocks (F := Ideal) m ρ)
    obtain ⟨hu, hy, hk⟩ := h c
    exact ⟨hu.trans (final5 m c), hy.trans (final6 m c), hk⟩
  · refine (θ_run _ _ _).mono (fun r h c => ?_) (Cert.AttnOutRefIdeal.Value.run (F := Ideal) m' ρ')
    obtain ⟨hu, hy, hk⟩ := h c
    refine ⟨hu.trans ?_, hy.trans ?_, hk⟩ <;> clear h hu hy hk
    · simp only [hagree c]
      funext i
      obtain ⟨r, e, rfl⟩ : ∃ (r : Fin 8192) (e : Fin 1024), i = ix2 r e := ⟨i 0, i 1, by funext a; fin_cases a <;> rfl⟩
      pointwise [layer]
    · simp only [hagree c]
      funext i
      obtain ⟨r, e, rfl⟩ : ∃ (r : Fin 8192) (e : Fin 1024), i = ix2 r e := ⟨i 0, i 1, by funext a; fin_cases a <;> rfl⟩
      pointwise [normed, FfnMath.norm, FfnMath.var, FfnMath.mean, layer]

end Cert.Proof

end
-- ==== Proof.MixerOutBlock.lean ====
/- The mixer's output projection with residual and norm: what the output blocks hold after a point, and the two results. -/
module

public import proofs.«01_k».proof.Defs
public import proofs.«01_k».proof.Proof.Gen.MixerOutIdeal.Value
public import proofs.«01_k».proof.Proof.FfnMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MixerOutIdeal.Blocks

open Cert.MixerOutIdeal Cert.MixerOutIdeal.Gen Cert.FfnMath Idealize.ShloMosaic Idealize.ShloMosaic.TcCoe Idealize.SL.Sem

variable (m : (ℓ : Loc nD τ sig) → Buf (Elt Ideal) ℓ)

/-- The two halves of the rows that enter the product, the weight, the residual branch, and the norm's weight and bias. -/
abbrev argA (c : Dev nD) : S8192x512.Idx → EReal := m ((c : Thread nD τ).loc main_arg0)
abbrev argM (c : Dev nD) : S8192x512.Idx → EReal := m ((c : Thread nD τ).loc main_arg1)
abbrev argW (c : Dev nD) : S1024x1024.Idx → EReal := m ((c : Thread nD τ).loc main_arg2)
abbrev argX (c : Dev nD) : S8192x1024.Idx → EReal := m ((c : Thread nD τ).loc main_arg3)
abbrev argG (c : Dev nD) : S1024.Idx → EReal := m ((c : Thread nD τ).loc main_arg4)
abbrev argB (c : Dev nD) : S1024.Idx → EReal := m ((c : Thread nD τ).loc main_arg5)

/-- Every window's block at every point: the row block is `t`. -/
theorem idx : ∀ t : Fin cfg0.N, win0_0.index t = ![t.val, 0] ∧ win0_1.index t = ![t.val, 0] ∧ win0_2.index t = ![0, 0] ∧
    win0_3.index t = ![t.val, 0] ∧ win0_4.index t = ![0, 0] ∧ win0_5.index t = ![0, 0] ∧ win0_6.index t = ![t.val, 0] ∧
    win0_7.index t = ![t.val, 0] :=
  (by decide +kernel : ∀ t : Fin grid0.N, _)

theorem lt_8 (t : Fin cfg0.N) : t.val < 8 := lt_of_lt_of_eq t.isLt (show cfg0.N = 8 from N_0)

abbrev row (t : Fin cfg0.N) (r : Fin 1024) : Fin 8192 := ⟨t.val * 1024 + r.val, by have := lt_8 t; omega⟩

theorem V_w (c : Dev nD) : V m c main_v0 = argW m c := by
  unfold V
  after_results
  rfl

theorem V_g (c : Dev nD) (k : Fin 1024) : V m c main_v1 (ix2 0 k) = argG m c (ix1 k) := by
  unfold V
  after_results
  pointwise []

theorem V_b (c : Dev nD) (k : Fin 1024) : V m c main_v2 (ix2 0 k) = argB m c (ix1 k) := by
  unfold V
  after_results
  pointwise []

theorem blk_a (c : Dev nD) (t : Fin cfg0.N) (r : Fin 1024) (k : Fin 512) :
    iblk m c 0 t (ix2 r k) = argA m c (ix2 (row t r) k) := by
  show _ = V m c main_arg0 _
  blk_ext [iblk, V, idx t]

theorem blk_m (c : Dev nD) (t : Fin cfg0.N) (r : Fin 1024) (k : Fin 512) :
    iblk m c 1 t (ix2 r k) = argM m c (ix2 (row t r) k) := by
  show _ = V m c main_arg1 _
  blk_ext [iblk, V, idx t]

theorem blk_x (c : Dev nD) (t : Fin cfg0.N) (r k : Fin 1024) : iblk m c 3 t (ix2 r k) = argX m c (ix2 (row t r) k) := by
  show _ = V m c main_arg3 _
  blk_ext [iblk, V, idx t]

theorem blk_w (c : Dev nD) (t : Fin cfg0.N) (k e : Fin 1024) : iblk m c 2 t (ix2 k e) = argW m c (ix2 k e) := by
  rw [← V_w]
  blk_ext [iblk, idx t]

theorem blk_g (c : Dev nD) (t : Fin cfg0.N) (k : Fin 1024) : iblk m c 4 t (ix2 0 k) = argG m c (ix1 k) := by
  refine Eq.trans ?_ (V_g m c k)
  blk_ext [iblk, idx t]

theorem blk_b (c : Dev nD) (t : Fin cfg0.N) (k : Fin 1024) : iblk m c 5 t (ix2 0 k) = argB m c (ix1 k) := by
  refine Eq.trans ?_ (V_b m c k)
  blk_ext [iblk, idx t]

/-- The rows of the weight that the two halves meet. -/
abbrev top (k : Fin 512) : Fin 1024 := ⟨k.val, by omega⟩
abbrev bot (k : Fin 512) : Fin 1024 := ⟨512 + k.val, by omega⟩

theorem ld_top (W : Vec Ideal S1024x1024 .bf16) (k : Fin 512) (e : Fin 1024) : View.ld W r0_2 (ix2 k e) = W (ix2 (top k) e) := by
  refine congrArg W (funext fun a => Fin.ext ?_)
  fin_cases a
  · show 0 + 1 * k.val = k.val
    omega
  · show 0 + 1 * e.val = e.val
    omega

theorem ld_bot (W : Vec Ideal S1024x1024 .bf16) (k : Fin 512) (e : Fin 1024) : View.ld W r0_3 (ix2 k e) = W (ix2 (bot k) e) := by
  refine congrArg W (funext fun a => Fin.ext ?_)
  fin_cases a
  · show 512 + 1 * k.val = 512 + k.val
    omega
  · show 0 + 1 * e.val = e.val
    omega

/-- A block's row before the norm. -/
def pre (A M : Vec Ideal S1024x512 .f32) (W : Vec Ideal S1024x1024 .bf16) (X : Vec Ideal S1024x1024 .f32) (r e : Fin 1024) : EReal :=
  alpha * X (ix2 r e) + (∑ k : Fin 512, A (ix2 r k) * W (ix2 (top k) e)) + ∑ k : Fin 512, M (ix2 r k) * W (ix2 (bot k) e)

theorem pay2_apply (A M : Vec Ideal S1024x512 .f32) (W : Vec Ideal S1024x1024 .bf16) (X : Vec Ideal S1024x1024 .f32)
    (r e : Fin 1024) : k0_pay2 X A (View.ld W r0_2) M (View.ld W r0_3) (ix2 r e) = pre A M W X r e := by
  pointwise [k0_pay2, pre, ld_top, ld_bot]

theorem pay1_apply (A M : Vec Ideal S1024x512 .f32) (W : Vec Ideal S1024x1024 .bf16) (X : Vec Ideal S1024x1024 .f32)
    (G B : Vec Ideal S1x1024 .f32) (r e : Fin 1024) :
    k0_pay1 (k0_pay3 G) (k0_pay4 B) (k0_pay5 X A (View.ld W r0_2) M (View.ld W r0_3))
        (k0_pay6 X A (View.ld W r0_2) M (View.ld W r0_3)) (ix2 r e)
      = norm (fun j => pre A M W X r j) (fun j => G (ix2 0 j)) (fun j => B (ix2 0 j)) e := by
  pointwise [k0_pay1, k0_pay3, k0_pay4, k0_pay5, k0_pay6, pay2_apply, FfnMath.norm, FfnMath.var, FfnMath.mean]

theorem out_u (c : Dev nD) (t : Fin cfg0.N) (r e : Fin 1024) :
    out0_6 (iblk m c 0 t) (iblk m c 1 t) (iblk m c 2 t) (iblk m c 3 t) (iblk m c 4 t) (iblk m c 5 t) (ix2 r e)
      = pre (iblk m c 0 t) (iblk m c 1 t) (iblk m c 2 t) (iblk m c 3 t) r e := by
  unfold out0_6
  frame_out
  exact pay2_apply _ _ _ _ r e

theorem out_y (c : Dev nD) (t : Fin cfg0.N) (r e : Fin 1024) :
    out0_7 (iblk m c 0 t) (iblk m c 1 t) (iblk m c 2 t) (iblk m c 3 t) (iblk m c 4 t) (iblk m c 5 t) (ix2 r e)
      = norm (fun j => pre (iblk m c 0 t) (iblk m c 1 t) (iblk m c 2 t) (iblk m c 3 t) r j) (fun j => iblk m c 4 t (ix2 0 j))
          (fun j => iblk m c 5 t (ix2 0 j)) e := by
  unfold out0_7
  frame_out
  exact pay1_apply _ _ _ _ _ _ r e

/-- The layer before its norm, and the layer, entry by entry. -/
def layer (A M : S8192x512.Idx → EReal) (W : S1024x1024.Idx → EReal) (X : S8192x1024.Idx → EReal) : S8192x1024.Idx → EReal :=
  fun i => alpha * X i + ((∑ k : Fin 512, A (ix2 (i 0) k) * W (ix2 (top k) (i 1)))
    + ∑ k : Fin 512, M (ix2 (i 0) k) * W (ix2 (bot k) (i 1)))
def normed (A M : S8192x512.Idx → EReal) (W : S1024x1024.Idx → EReal) (X : S8192x1024.Idx → EReal) (G B : S1024.Idx → EReal) :
    S8192x1024.Idx → EReal :=
  fun i => norm (fun j => layer A M W X (ix2 (i 0) j)) (fun j => G (ix1 j)) (fun j => B (ix1 j)) (i 1)

theorem pre_eq (c : Dev nD) (t : Fin cfg0.N) (r e : Fin 1024) :
    pre (iblk m c 0 t) (iblk m c 1 t) (iblk m c 2 t) (iblk m c 3 t) r e
      = layer (argA m c) (argM m c) (argW m c) (argX m c) (ix2 (row t r) e) := by
  simp only [pre, layer]
  rw [blk_x, add_assoc]
  simp only [blk_a, blk_m, blk_w]
  rfl

theorem final6 (c : Dev nD) : (dats m 0 c).arrAt 6 cfg0.N = layer (argA m c) (argM m c) (argW m c) (argX m c) := by
  refine (dats m 0 c).arrAt_eq_of_covers 6 _ (by decide +kernel) fun t hf y => ?_
  blk_simp
  rw [after0_6]
  obtain ⟨r, e, rfl⟩ : ∃ (r : Fin 1024) (e : Fin 1024), y = ix2 r e := ⟨y 0, y 1, by funext a; fin_cases a <;> rfl⟩
  have hi : ((cfg0.win 6).blk t).view.emb (ix2 r e) = ix2 (row t r) e := by
    blk_ext [idx t]
  rw [hi, out_u]
  exact pre_eq m c t r e

theorem final7 (c : Dev nD) : (dats m 0 c).arrAt 7 cfg0.N = normed (argA m c) (argM m c) (argW m c) (argX m c) (argG m c) (argB m c) := by
  refine (dats m 0 c).arrAt_eq_of_covers 7 _ (by decide +kernel) fun t hf y => ?_
  blk_simp
  rw [after0_7]
  obtain ⟨r, e, rfl⟩ : ∃ (r : Fin 1024) (e : Fin 1024), y = ix2 r e := ⟨y 0, y 1, by funext a; fin_cases a <;> rfl⟩
  have hi : ((cfg0.win 7).blk t).view.emb (ix2 r e) = ix2 (row t r) e := by
    blk_ext [idx t]
  rw [hi, out_y]
  show _ = norm (fun j => layer (argA m c) (argM m c) (argW m c) (argX m c) (ix2 (row t r) j)) (fun j => argG m c (ix1 j)) (fun j => argB m c (ix1 j)) e
  rw [← funext fun j => pre_eq m c t r j, ← funext fun j => blk_g m c t j, ← funext fun j => blk_b m c t j]

end Cert.MixerOutIdeal.Blocks

end
-- ==== Proof.MixerOutClaim.lean ====
/- The mixer's output projection with residual, before and after the norm, equals the reference's. -/
module

public import proofs.«01_k».proof.Proof.MixerOutBlock
public import proofs.«01_k».proof.Proof.Gen.MixerOut.Frame
public import proofs.«01_k».proof.Proof.Gen.MixerOutRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.FfnMath Cert.MixerOutIdeal.Blocks

theorem quiescent_MixerOutRef : Cert.quiescent_MixerOutRefIdeal := fun m ρ _ =>
  (θ_run Cert.MixerOutRefIdeal.defs _ _).mono (fun r h => ⟨fun c => (h c).2.2, sem_eq_zero_of_no_sems (by decide) r.2⟩)
    (Cert.MixerOutRefIdeal.Value.run (F := Ideal) m ρ)

theorem algebraic_MixerOut : Cert.algebraic_MixerOutIdeal_MixerOutRefIdeal := by
  intro m ρ m' ρ' _ hagree
  refine ⟨fun c => layer (argA m c) (argM m c) (argW m c) (argX m c), fun c => normed (argA m c) (argM m c) (argW m c) (argX m c) (argG m c) (argB m c), ?_, ?_⟩
  · refine (θ_run _ _ _).mono (fun r h c => ?_) (Cert.MixerOutIdeal.Value.run_blocks (F := Ideal) m ρ)
    obtain ⟨hu, hy, hk⟩ := h c
    exact ⟨hu.trans (final6 m c), hy.trans (final7 m c), hk⟩
  · refine (θ_run _ _ _).mono (fun r h c => ?_) (Cert.MixerOutRefIdeal.Value.run (F := Ideal) m' ρ')
    obtain ⟨hu, hy, hk⟩ := h c
    refine ⟨hu.trans ?_, hy.trans ?_, hk⟩ <;> clear h hu hy hk
    · simp only [hagree c]
      funext i
      obtain ⟨r, e, rfl⟩ : ∃ (r : Fin 8192) (e : Fin 1024), i = ix2 r e := ⟨i 0, i 1, by funext a; fin_cases a <;> rfl⟩
      pointwise [layer]
      simp only [hagree c]
    · unfold Cert.MixerOutRefIdeal.Value.res_main_v28
      simp only [hagree c]
      funext i
      obtain ⟨r, e, rfl⟩ : ∃ (r : Fin 8192) (e : Fin 1024), i = ix2 r e := ⟨i 0, i 1, by funext a; fin_cases a <;> rfl⟩
      pointwise [normed, FfnMath.norm, FfnMath.var, FfnMath.mean, layer]
      simp only [hagree c]

end Cert.Proof

end
-- ==== Proof.MemKvBlock.lean ====
/- The keys and values of the memory: what the scratch and the output block hold after a point, and the whole result. -/
module

public import proofs.«01_k».proof.Defs
public import proofs.«01_k».proof.Proof.Gen.MemKvIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MemKvIdeal.Blocks

open Cert.MemKvIdeal Cert.MemKvIdeal.Gen Idealize.ShloMosaic Idealize.ShloMosaic.TcCoe Idealize.SL.Sem

variable (m : (ℓ : Loc nD τ sig) → Buf (Elt Ideal) ℓ)

/-- The memory and the weight. -/
abbrev argX (c : Dev nD) : S256x1024.Idx → EReal := m ((c : Thread nD τ).loc main_arg0)
abbrev argW (c : Dev nD) : S1024x2048.Idx → EReal := m ((c : Thread nD τ).loc main_arg1)

/-- Every window's block at every point: the column block is `t`. -/
theorem idx : ∀ t : Fin cfg0.N, win0_0.index t = ![0, 0] ∧ win0_1.index t = ![t.val, 0, 0] ∧ win0_2.index t = ![0, t.val] :=
  (by decide +kernel : ∀ t : Fin grid0.N, _)

theorem lt_8 (t : Fin cfg0.N) : t.val < 8 := lt_of_lt_of_eq t.isLt (show cfg0.N = 8 from N_0)

abbrev blkOf (t : Fin cfg0.N) : Fin 8 := ⟨t.val, lt_8 t⟩
abbrev col (n : Fin 8) (e : Fin 256) : Fin 2048 := ⟨n.val * 256 + e.val, by omega⟩

theorem V_w (c : Dev nD) (n : Fin 8) (k : Fin 1024) (e : Fin 256) : V m c main_v2 (ix3 n k e) = argW m c (ix2 k (col n e)) := by
  unfold V
  after_results
  pointwise []

theorem blk_x (c : Dev nD) (t : Fin cfg0.N) (r : Fin 256) (k : Fin 1024) : iblk m c 0 t (ix2 r k) = argX m c (ix2 r k) := by
  show _ = V m c main_arg0 _
  blk_ext [iblk, V, idx t]

theorem blk_w (c : Dev nD) (t : Fin cfg0.N) (k : Fin 1024) (e : Fin 256) :
    iblk m c 1 t (ix3 0 k e) = argW m c (ix2 k (col (blkOf t) e)) := by
  rw [← V_w]
  blk_ext [iblk, idx t]

theorem pay1_apply (X : Vec Ideal S256x1024 .f32) (y : S256x1024.Idx) : k0_pay1 X y = X y := by
  pointwise [k0_pay1]

theorem pay2_apply (X : Vec Ideal S256x1024 .bf16) (W : Vec Ideal S1x1024x256 .bf16) (r : Fin 256) (e : Fin 256) :
    k0_pay2 X W (ix2 r e) = ∑ k : Fin 1024, X (ix2 r k) * W (ix3 0 k e) := by
  pointwise [k0_pay2]

/-- The scratch is the memory after the first point, and every later point leaves it. -/
theorem sc_A (c : Dev nD) (t : Fin cfg0.N) (h : t.val % 8 = 0) (y : S256x1024.Idx) :
    (outsAt0 m c t.val t.isLt).2 y = iblk m c 0 t y := by
  rw [outsAt0_A m c t h]
  frame_out
  exact pay1_apply _ y

theorem sc_B (c : Dev nD) (t : Fin cfg0.N) (h : ¬t.val % 8 = 0) :
    (outsAt0 m c t.val t.isLt).2 = (outsAt0 m c (t.val - 1) (by omega)).2 := by
  rw [outsAt0_B m c t h]
  rfl

theorem sc (c : Dev nD) : ∀ (n : ℕ) (h : n < cfg0.N) (r : Fin 256) (k : Fin 1024), (outsAt0 m c n h).2 (ix2 r k) = argX m c (ix2 r k) := by
  intro n
  induction n with
  | zero => exact fun h r k => (sc_A m c ⟨0, h⟩ rfl _).trans (blk_x m c _ r k)
  | succ n ih =>
    intro h r k
    have h8 := lt_8 ⟨n + 1, h⟩
    exact (congrFun (sc_B m c ⟨n + 1, h⟩ (by simp only at h8 ⊢; omega)) _).trans (ih (by omega) r k)

theorem out_eq (c : Dev nD) (t : Fin cfg0.N) (r e : Fin 256) :
    (outsAt0 m c t.val t.isLt).1 (ix2 r e) = ∑ k : Fin 1024, argX m c (ix2 r k) * iblk m c 1 t (ix3 0 k e) := by
  by_cases h : t.val % 8 = 0
  · rw [outsAt0_A m c t h]
    frame_out
    rw [pay2_apply]
    simp only [pay1_apply, blk_x]
  · have hs := sc m c (t.val - 1) (by omega)
    rw [outsAt0_B m c t h]
    frame_out
    rw [pay2_apply]
    simp only [hs, read_unread_whole]

/-- The product, entry by entry. -/
def prod (X : S256x1024.Idx → EReal) (W : S1024x2048.Idx → EReal) : S256x2048.Idx → EReal := fun i =>
  ∑ k : Fin 1024, X (ix2 (i 0) k) * W (ix2 k (i 1))

theorem final2 (c : Dev nD) : (dats m 0 c).arrAt 2 cfg0.N = prod (argX m c) (argW m c) := by
  refine (dats m 0 c).arrAt_eq_of_covers 2 _ (by decide +kernel) fun t hf y => ?_
  blk_simp
  rw [after0_2]
  obtain ⟨r, e, rfl⟩ : ∃ (r : Fin 256) (e : Fin 256), y = ix2 r e := ⟨y 0, y 1, by funext a; fin_cases a <;> rfl⟩
  have hi : ((cfg0.win 2).blk t).view.emb (ix2 r e) = ix2 r (col (blkOf t) e) := by
    blk_ext [idx t]
  rw [hi, out_eq]
  simp only [blk_w]
  rfl

end Cert.MemKvIdeal.Blocks

end
-- ==== Proof.MemKvClaim.lean ====
/- The keys and values of the memory equals the reference's. -/
module

public import proofs.«01_k».proof.Proof.MemKvBlock
public import proofs.«01_k».proof.Proof.Gen.MemKv.Frame
public import proofs.«01_k».proof.Proof.Gen.MemKvRefIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.MemKvIdeal.Blocks

theorem quiescent_MemKvRef : Cert.quiescent_MemKvRefIdeal := fun m ρ _ =>
  (θ_run Cert.MemKvRefIdeal.defs _ _).mono (fun r h => ⟨fun c => (h c).2, sem_eq_zero_of_no_sems (by decide) r.2⟩)
    (Cert.MemKvRefIdeal.Value.run (F := Ideal) m ρ)

theorem algebraic_MemKv : Cert.algebraic_MemKvIdeal_MemKvRefIdeal := by
  intro m ρ m' ρ' _ hagree
  refine ⟨_, (θ_run Cert.MemKvIdeal.defs _ _).mono (fun _ h c => ⟨((h c).1).trans (final2 m c), (h c).2⟩)
    (Cert.MemKvIdeal.Value.run_blocks (F := Ideal) m ρ), ?_⟩
  refine (θ_run Cert.MemKvRefIdeal.defs _ _).mono (fun _ h c => ⟨?_, (h c).2⟩) (Cert.MemKvRefIdeal.Value.run (F := Ideal) m' ρ')
  rw [(h c).1]
  simp only [hagree c]
  funext i
  obtain ⟨r, e, rfl⟩ : ∃ (r : Fin 256) (e : Fin 2048), i = ix2 r e := ⟨i 0, i 1, by funext a; fin_cases a <;> rfl⟩
  pointwise [prod]

end Cert.Proof

end
-- ==== Proof.AttnBlock.lean ====
/- The cross-attention's output: what a head of a grid point computes, what the output block holds after the point, and the
   whole result. -/
module

public import proofs.«01_k».proof.Defs
public import proofs.«01_k».proof.Proof.Gen.AttnIdeal.Value
public import proofs.«01_k».proof.Proof.Rows
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AttnIdeal.Blocks

open Cert.AttnIdeal Cert.AttnIdeal.Gen Cert.Attn Idealize.ShloMosaic Idealize.ShloMosaic.TcCoe Idealize.SL.Sem

variable (m : (ℓ : Loc nD τ sig) → Buf (Elt Ideal) ℓ)

/-- The query rows, and the keys and values. -/
abbrev argQ (c : Dev nD) : S8192x1024.Idx → EReal := m ((c : Thread nD τ).loc main_arg0)
abbrev argKv (c : Dev nD) : S256x2048.Idx → EReal := m ((c : Thread nD τ).loc main_arg1)

/-- Every window's block at every point. -/
theorem idx : ∀ t : Fin cfg0.N, win0_0.index t = ![t.val, 0] ∧ win0_1.index t = ![0, 0] ∧ win0_2.index t = ![0, 1] ∧
    win0_3.index t = ![t.val, 0] :=
  (by decide +kernel : ∀ t : Fin grid0.N, _)

theorem lt_16 (t : Fin cfg0.N) : t.val < 16 := lt_of_lt_of_eq t.isLt (show cfg0.N = 16 from N_0)

/-- Row `r` of tile `t`. -/
abbrev row (t : Fin cfg0.N) (r : Fin 512) : Fin 8192 := ⟨t.val * 512 + r.val, by have := lt_16 t; omega⟩

theorem blk_q (c : Dev nD) (t : Fin cfg0.N) (r : Fin 512) (j : Fin 1024) :
    rc (iblk m c 0 t) r j = rc (argQ m c) (row t r) j := by
  show iblk m c 0 t (ix2 r j) = V m c main_arg0 (ix2 (row t r) j)
  blk_ext [iblk, V, idx t]

theorem blk_k (c : Dev nD) (t : Fin cfg0.N) (r : Fin 256) (j : Fin 1024) :
    rc (iblk m c 1 t) r j = rc (argKv m c) r (kcol j) := by
  show iblk m c 1 t (ix2 r j) = V m c main_arg1 (ix2 r (kcol j))
  blk_ext [iblk, V, idx t]
  rfl

theorem blk_v (c : Dev nD) (t : Fin cfg0.N) (r : Fin 256) (j : Fin 1024) :
    rc (iblk m c 2 t) r j = rc (argKv m c) r (vcol j) := by
  show iblk m c 2 t (ix2 r j) = V m c main_arg1 (ix2 r (vcol j))
  blk_ext [iblk, V, idx t]
  rfl

/-! ## One head of a tile -/

/-- The output of one head over 512 rows. -/
def tO (q : Vec Ideal S512x256 .f32) (k v : Vec Ideal S256x256 .f32) : FVec Ideal S512x256 .f32 := k0_pay9 v (k0_pay3 q k)

theorem logits_apply (q : Vec Ideal S512x256 .f32) (k : Vec Ideal S256x256 .f32) (r : Fin 512) (l : Fin 256) :
    k0_pay3 q k (ix2 r l) = logit (fun e => q (ix2 r e)) (fun m e => k (ix2 m e)) l := by
  pointwise [k0_pay3, logit, scale]

/-- One row and one head of the output: the value rows weighted. -/
def att (q : Fin 256 → EReal) (k v : Fin 256 → Fin 256 → EReal) (e : Fin 256) : EReal :=
  ∑ l : Fin 256, prob (logit q k) l * v l e

theorem weigh_apply (x : FVec Ideal S512x256 .f32) (v : Vec Ideal S256x256 .f32) (r : Fin 512) (e : Fin 256) :
    k0_pay9 v x (ix2 r e) = ∑ l : Fin 256, prob (fun m => x (ix2 r m)) l * v (ix2 l e) := by
  pointwise [k0_pay9, prob, tot, wexp, low]

theorem tO_apply (q : Vec Ideal S512x256 .f32) (k v : Vec Ideal S256x256 .f32) (r : Fin 512) (e : Fin 256) :
    tO q k v (ix2 r e) = att (fun e => q (ix2 r e)) (fun m e => k (ix2 m e)) (fun m e => v (ix2 m e)) e := by
  rw [tO, weigh_apply, att]
  simp only [logits_apply]

/-! ## A head's columns of a block -/

theorem ld_rows (X : S512x1024.Idx → EReal) (h : Fin 4) (o : ℕ) (ho : o = 256 * h.val)
    (inb : ∀ a, (![0, o] : Fin 2 → ℕ) a + S512x256.size a ≤ S512x1024.size a) (r : Fin 512) (e : Fin 256) :
    View.ld (Val := Elt Ideal) (e' := .f32) X (Rect.unit (s := S512x1024) ![0, o] S512x256.size inb) (ix2 r e) = X (ix2 r (col h e)) := by
  subst ho
  refine congrArg X (funext fun a => Fin.ext ?_)
  fin_cases a
  · show 0 + 1 * r.val = r.val
    omega
  · show 256 * h.val + 1 * e.val = 256 * h.val + e.val
    omega

theorem ld_mem (X : S256x1024.Idx → EReal) (h : Fin 4) (o : ℕ) (ho : o = 256 * h.val)
    (inb : ∀ a, (![0, o] : Fin 2 → ℕ) a + S256x256.size a ≤ S256x1024.size a) (r : Fin 256) (e : Fin 256) :
    View.ld (Val := Elt Ideal) (e' := .f32) X (Rect.unit (s := S256x1024) ![0, o] S256x256.size inb) (ix2 r e) = X (ix2 r (col h e)) := by
  subst ho
  refine congrArg X (funext fun a => Fin.ext ?_)
  fin_cases a
  · show 0 + 1 * r.val = r.val
    omega
  · show 256 * h.val + 1 * e.val = 256 * h.val + e.val
    omega

/-- The output of one row of four heads. -/
def attW (q : Fin 1024 → EReal) (k v : Fin 256 → Fin 1024 → EReal) (j : Fin 1024) : EReal :=
  att (fun e => q (col (hd j) e)) (fun m e => k m (col (hd j) e)) (fun m e => v m (col (hd j) e)) (ln j)

/-- The output of a block of 512 rows. -/
def blockO (Q : Vec Ideal S512x1024 .f32) (K V : Vec Ideal S256x1024 .f32) : S512x1024.Idx → EReal := fun y =>
  attW (rc Q (y 0)) (rc K) (rc V) (y 1)

theorem piece (Q : Vec Ideal S512x1024 .f32) (K V : Vec Ideal S256x1024 .f32) (h : Fin 4) (o : ℕ) (ho : o = 256 * h.val)
    (iq : ∀ a, (![0, o] : Fin 2 → ℕ) a + S512x256.size a ≤ S512x1024.size a)
    (ik : ∀ a, (![0, o] : Fin 2 → ℕ) a + S256x256.size a ≤ S256x1024.size a) (x : S512x256.Idx) :
    tO (View.ld Q (Rect.unit ![0, o] S512x256.size iq)) (View.ld K (Rect.unit ![0, o] S256x256.size ik))
        (View.ld V (Rect.unit ![0, o] S256x256.size ik)) x
      = blockO Q K V ((Rect.unit (s := S512x1024) ![0, o] S512x256.size iq).emb x) := by
  obtain ⟨r, e, rfl⟩ : ∃ (r : Fin 512) (e : Fin 256), x = ix2 r e := ⟨x 0, x 1, by funext a; fin_cases a <;> rfl⟩
  have he : (Rect.unit (s := S512x1024) ![0, o] S512x256.size iq).emb (ix2 r e) = ix2 r (col h e) := by
    subst ho
    refine funext fun a => Fin.ext ?_
    fin_cases a
    · show 0 + 1 * r.val = r.val
      omega
    · show 256 * h.val + 1 * e.val = 256 * h.val + e.val
      omega
  rw [tO_apply, he]
  show _ = attW (rc Q r) (rc K) (rc V) (col h e)
  simp only [attW, hd_col, ln_col, rc]
  congr 1 <;> funext a <;>
    first
    | exact ld_rows _ h o ho _ _ _
    | (funext b; exact ld_mem _ h o ho _ _ _)

/-- After any point the output's block is the output of the point's rows. -/
theorem out_eq (Q : Vec Ideal S512x1024 .f32) (K V : Vec Ideal S256x1024 .f32) (y : S512x1024.Idx) : out0_3 Q K V y = blockO Q K V y := by
  unfold out0_3
  refine View.canon_apply_of_pieces (Val := Elt Ideal) (e := .f32) (blockO Q K V) _ (View.PiecesOf.mem ?_) y (cover0_3 _ _ _ _ y)
  exact ⟨piece Q K V 3 768 rfl _ _, piece Q K V 2 512 rfl _ _, piece Q K V 1 256 rfl _ _, piece Q K V 0 0 rfl _ _, trivial⟩

/-- The output of the whole array. -/
def outO (Q : S8192x1024.Idx → EReal) (KV : S256x2048.Idx → EReal) : S8192x1024.Idx → EReal := fun i =>
  attW (rc Q (i 0)) (fun k j => rc KV k (kcol j)) (fun k j => rc KV k (vcol j)) (i 1)

theorem final3 (c : Dev nD) : (dats m 0 c).arrAt 3 cfg0.N = outO (argQ m c) (argKv m c) := by
  refine (dats m 0 c).arrAt_eq_of_covers 3 _ (by decide +kernel) fun t hf y => ?_
  blk_simp
  rw [after0_3]
  obtain ⟨r, j, rfl⟩ : ∃ (r : Fin 512) (j : Fin 1024), y = ix2 r j := ⟨y 0, y 1, by funext a; fin_cases a <;> rfl⟩
  have hi : ((cfg0.win 3).blk t).view.emb (ix2 r j) = ix2 (row t r) j := by
    blk_ext [idx t]
  rw [hi, out_eq]
  show attW (rc (iblk m c 0 t) r) (rc (iblk m c 1 t)) (rc (iblk m c 2 t)) j
    = attW (rc (argQ m c) (row t r)) (fun k j => rc (argKv m c) k (kcol j)) (fun k j => rc (argKv m c) k (vcol j)) j
  rw [funext fun j => blk_q m c t r j, funext fun k => funext fun j => blk_k m c t k j, funext fun k => funext fun j => blk_v m c t k j]

end Cert.AttnIdeal.Blocks

end
-- ==== Proof.AttnClaim.lean ====
/- The cross-attention's output equals the reference's. -/
module

public import proofs.«01_k».proof.Proof.AttnBlock
public import proofs.«01_k».proof.Proof.Gen.Attn.Frame
public import proofs.«01_k».proof.Proof.Gen.AttnRefIdeal.Run
public import Idealize.ShloMosaic.Adequacy
public import Idealize.ShloMosaic.Init
public import Idealize.ShloMosaic.Lib.Quiescent

@[expose] public section

set_option maxRecDepth 16384

noncomputable section

/-! ## The reference, stage by stage -/

namespace Cert.AttnRefIdeal.Stages

open Cert.AttnRefIdeal Cert.AttnRefIdeal.Gen Cert.Attn Idealize.ShloMosaic Idealize.ShloMosaic.TcCoe Idealize.SL.Sem

/-- The arrays the stages pass on, at their head shapes. -/
abbrev Rows3 := FVec Ideal S8192x4x256 .f32
abbrev Mem3 := FVec Ideal S256x4x256 .f32
abbrev Sc3 := FVec Ideal S4x8192x256 .f32

def hq (Q : FVec Ideal S8192x1024 .f32) : Rows3 := shapeCast _ Q shapeCasts_S8192x1024_S8192x4x256
def hk (KV : FVec Ideal S256x2048 .f32) : Mem3 :=
  shapeCast _ (extractStridedSlice S256x1x4x256 ![0, 0, 0, 0] (shapeCast _ KV shapeCasts_S256x2048_S256x2x4x256) slices_S256x2x4x256_S256x1x4x256_0_0_0_0) shapeCasts_S256x1x4x256_S256x4x256
def hv (KV : FVec Ideal S256x2048 .f32) : Mem3 :=
  shapeCast _ (extractStridedSlice S256x1x4x256 ![0, 1, 0, 0] (shapeCast _ KV shapeCasts_S256x2048_S256x2x4x256) slices_S256x2x4x256_S256x1x4x256_0_1_0_0) shapeCasts_S256x1x4x256_S256x4x256
def lg (q : Rows3) (k : Mem3) : Sc3 :=
  mulf (Host.dotGeneral dot_S8192x4x256_S256x4x256_S4x8192x256_2_2_0_0_1_1 none q k) (broadcastInDim S4x8192x256 ![] bcast_S_S4x8192x256 (constant S_ .f32 0x3D800000#32))
def col1 (x : FVec Ideal S4x8192 .f32) : FVec Ideal S4x8192x1 .f32 := broadcastInDim S4x8192x1 ![0, 1] bcast_S4x8192_S4x8192x1_0_1 x
def wide (x : FVec Ideal S4x8192x1 .f32) : Sc3 := broadcastInDim S4x8192x256 ![0, 1, 2] bcast_S4x8192x1_S4x8192x256_0_1_2 x
def wx (l : Sc3) : Sc3 :=
  Host.exp (subf l (wide (col1 (Host.reduce FloatOps.maximumf l (constant S_ .f32 0xFF800000#32) reducesTo_S4x8192x256_S4x8192_d2 h_S_))))
def pr (w : Sc3) : Sc3 :=
  Host.divf w (wide (col1 (Host.reduceAdd w (constant S_ .f32 0x00000000#32) reducesTo_S4x8192x256_S4x8192_d2 h_S_)))
def oo (v : Mem3) (p : Sc3) : FVec Ideal S8192x1024 .f32 :=
  shapeCast _ (transpose S8192x4x256 [2, 0, 1] (Host.dotGeneral dot_S256x4x256_S4x8192x256_S4x256x8192_0_2_2_1_1_0 none v p) transposes_S4x256x8192_S8192x4x256_2_0_1) shapeCasts_S8192x4x256_S8192x1024

theorem hq_apply (Q : FVec Ideal S8192x1024 .f32) (r : Fin 8192) (h : Fin 4) (e : Fin 256) : hq Q (ix3 r h e) = Q (ix2 r (col h e)) := by
  pointwise [hq]
  exact congrArg (fun j => Q (ix2 r j)) (Fin.ext (by simp only [col]; omega))

theorem hk_apply (KV : FVec Ideal S256x2048 .f32) (r : Fin 256) (h : Fin 4) (e : Fin 256) : hk KV (ix3 r h e) = KV (ix2 r (kcol (col h e))) := by
  pointwise [hk]
  exact congrArg (fun j => KV (ix2 r j)) (Fin.ext (by simp only [kcol, col]; omega))

theorem hv_apply (KV : FVec Ideal S256x2048 .f32) (r : Fin 256) (h : Fin 4) (e : Fin 256) : hv KV (ix3 r h e) = KV (ix2 r (vcol (col h e))) := by
  pointwise [hv]
  exact congrArg (fun j => KV (ix2 r j)) (Fin.ext (by simp only [vcol, col]; omega))

theorem lg_apply (q : Rows3) (k : Mem3) (h : Fin 4) (r : Fin 8192) (m : Fin 256) :
    lg q k (ix3 h r m) = logit (fun e => q (ix3 r h e)) (fun m e => k (ix3 m h e)) m := by
  pointwise [lg]
  rfl

theorem wx_apply (l : Sc3) (h : Fin 4) (r : Fin 8192) (m : Fin 256) : wx l (ix3 h r m) = wexp (fun m => l (ix3 h r m)) m := by
  pointwise [wx, wide, col1]
  rfl

theorem pr_apply (w : Sc3) (h : Fin 4) (r : Fin 8192) (m : Fin 256) :
    pr w (ix3 h r m) = Ideal.div (w (ix3 h r m)) (∑ m : Fin 256, w (ix3 h r m)) := by
  pointwise [pr, wide, col1]

theorem oo_apply (v : Mem3) (p : Sc3) (r : Fin 8192) (j : Fin 1024) :
    oo v p (ix2 r j) = ∑ l : Fin 256, v (ix3 l (hd j) (ln j)) * p (ix3 (hd j) r l) := by
  pointwise [oo]
  rfl

/-- The reference's result is the output of the whole array. -/
theorem oo_eq (Q : FVec Ideal S8192x1024 .f32) (KV : FVec Ideal S256x2048 .f32) :
    oo (hv KV) (pr (wx (lg (hq Q) (hk KV)))) = Cert.AttnIdeal.Blocks.outO Q KV := by
  funext i
  obtain ⟨r, j, rfl⟩ : ∃ (r : Fin 8192) (j : Fin 1024), i = ix2 r j := ⟨i 0, i 1, by funext a; fin_cases a <;> rfl⟩
  rw [oo_apply]
  simp only [pr_apply, wx_apply, lg_apply, hq_apply, hk_apply, hv_apply]
  exact Finset.sum_congr rfl fun _ _ => mul_comm _ _

end Cert.AttnRefIdeal.Stages

namespace Cert.Proof

open Idealize.ShloMosaic Idealize.ShloMosaic.TcCoe Idealize.SL.Sem Cert.AttnIdeal.Blocks

theorem quiescent_AttnRef : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

theorem algebraic_Attn : Cert.algebraic_AttnIdeal_AttnRefIdeal := by
  intro m ρ m' ρ' _ hagree
  refine ⟨_, (θ_run Cert.AttnIdeal.defs _ _).mono (fun _ h c => ⟨((h c).1).trans (final3 m c), (h c).2⟩)
    (Cert.AttnIdeal.Value.run_blocks (F := Ideal) m ρ), ?_⟩
  refine (θ_run Cert.AttnRefIdeal.defs _ _).mono (fun _ h c => ⟨?_, (h c).2⟩) (Cert.AttnRefIdeal.Value.run (F := Ideal) m' ρ')
  rw [(h c).1]
  simp only [hagree c]
  exact Cert.AttnRefIdeal.Stages.oo_eq (argQ m c) (argKv m c)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Array
public import proofs.«01_k».proof.Proof.Reference
public import proofs.«01_k».proof.Proof.GateGradClaim
public import proofs.«01_k».proof.Proof.DownGradClaim
public import proofs.«01_k».proof.Proof.FfnClaim
public import proofs.«01_k».proof.Proof.ProjWClaim
public import proofs.«01_k».proof.Proof.ProjXClaim
public import proofs.«01_k».proof.Proof.LnGradClaim
public import proofs.«01_k».proof.Proof.FfnXClaim
public import proofs.«01_k».proof.Proof.QueryWClaim
public import proofs.«01_k».proof.Proof.OutWClaim
public import proofs.«01_k».proof.Proof.GatesWClaim
public import proofs.«01_k».proof.Proof.MemWClaim
public import proofs.«01_k».proof.Proof.QueryXClaim
public import proofs.«01_k».proof.Proof.GatesXClaim
public import proofs.«01_k».proof.Proof.QueryClaim
public import proofs.«01_k».proof.Proof.GatesClaim
public import proofs.«01_k».proof.Proof.AttnOutClaim
public import proofs.«01_k».proof.Proof.MixerOutClaim
public import proofs.«01_k».proof.Proof.MemKvClaim
public import proofs.«01_k».proof.Proof.AttnClaim
public import Idealize.ShloMosaic.Adequacy
public import Idealize.ShloMosaic.Init

@[expose] public section

noncomputable section

namespace Cert.Proof

open Idealize.ShloMosaic Idealize.ShloMosaic.TcCoe Idealize.SL.Sem

theorem frame_kernel : Cert.quiescent_Kernel := fun m ρ _ => Cert.Kernel.Gen.frame m ρ

theorem frame_kernelIdeal : Cert.quiescent_KernelIdeal := fun m ρ _ => Cert.KernelIdeal.Gen.frame m ρ

theorem frame_referenceIdeal : Cert.quiescent_ReferenceIdeal := by
  intro m ρ _
  exact (θ_run Cert.ReferenceIdeal.defs _ _).mono (fun r h => ⟨fun c => (h c).2.2, sem_eq_zero_of_no_sems (by decide) r.2⟩)
    (Cert.ReferenceIdeal.Value.run (F := Ideal) m ρ)

/-- The kernel's two results are the reference's at equal arguments. -/
theorem algebraic : Cert.algebraic_KernelIdeal_ReferenceIdeal := by
  intro m ρ m' ρ' hpre hagree
  refine ⟨fun c => Cert.Attn.gradQ (Cert.KernelIdeal.Attn.argQ m c) (Cert.KernelIdeal.Attn.argG m c) (Cert.KernelIdeal.Attn.argKv m c),
    fun c => Cert.Attn.gradKv (Cert.KernelIdeal.Attn.argQ m c) (Cert.KernelIdeal.Attn.argG m c) (Cert.KernelIdeal.Attn.argKv m c), ?_, ?_⟩
  · refine (θ_run _ _ _).mono (fun r h c => ?_) (Cert.KernelIdeal.Value.run_blocks m ρ)
    obtain ⟨h4, h5, h0, h1, h2⟩ := h c
    exact ⟨h4.trans (Cert.KernelIdeal.Attn.final4 m c), h5.trans (Cert.KernelIdeal.Attn.final5 m c), h0, h1, h2⟩
  · refine (θ_run _ _ _).mono (fun r h c => ?_) (Cert.ReferenceIdeal.Value.run m' ρ')
    obtain ⟨h4, h5, h0, h1, h2⟩ := h c
    obtain ⟨e0, e1, e2⟩ := hagree c
    refine ⟨h4.trans ?_, h5.trans ?_, h0, h1, h2⟩
    · rw [Cert.ReferenceIdeal.Attn.v58_eq, Cert.ReferenceIdeal.Attn.oq_eq, e0, e1, e2]
    · rw [Cert.ReferenceIdeal.Attn.v57_eq, Cert.ReferenceIdeal.Attn.okv_eq, e0, e1, e2]

theorem claim : Cert.Claim := ⟨Cert.Kernel.Gen.facts, Cert.KernelIdeal.Gen.facts, Cert.ReferenceIdeal.Gen.facts,
  Cert.GateGrad.Gen.facts, Cert.GateGradIdeal.Gen.facts, Cert.GateGradRefIdeal.Gen.facts, Cert.DownGrad.Gen.facts, Cert.DownGradIdeal.Gen.facts, Cert.DownGradRefIdeal.Gen.facts, Cert.Ffn.Gen.facts, Cert.FfnIdeal.Gen.facts, Cert.FfnRefIdeal.Gen.facts, Cert.ProjW.Gen.facts, Cert.ProjWIdeal.Gen.facts, Cert.ProjWRefIdeal.Gen.facts, Cert.ProjX.Gen.facts, Cert.ProjXIdeal.Gen.facts, Cert.ProjXRefIdeal.Gen.facts, Cert.LnGrad.Gen.facts, Cert.LnGradIdeal.Gen.facts, Cert.LnGradRefIdeal.Gen.facts, Cert.FfnX.Gen.facts, Cert.FfnXIdeal.Gen.facts, Cert.FfnXRefIdeal.Gen.facts, Cert.QueryW.Gen.facts, Cert.QueryWIdeal.Gen.facts, Cert.QueryWRefIdeal.Gen.facts, Cert.OutW.Gen.facts, Cert.OutWIdeal.Gen.facts, Cert.OutWRefIdeal.Gen.facts, Cert.GatesW.Gen.facts, Cert.GatesWIdeal.Gen.facts, Cert.GatesWRefIdeal.Gen.facts, Cert.MemW.Gen.facts, Cert.MemWIdeal.Gen.facts, Cert.MemWRefIdeal.Gen.facts, Cert.QueryX.Gen.facts, Cert.QueryXIdeal.Gen.facts, Cert.QueryXRefIdeal.Gen.facts, Cert.GatesX.Gen.facts, Cert.GatesXIdeal.Gen.facts, Cert.GatesXRefIdeal.Gen.facts, Cert.Query.Gen.facts, Cert.QueryIdeal.Gen.facts, Cert.QueryRefIdeal.Gen.facts, Cert.Gates.Gen.facts, Cert.GatesIdeal.Gen.facts, Cert.GatesRefIdeal.Gen.facts, Cert.AttnOut.Gen.facts, Cert.AttnOutIdeal.Gen.facts, Cert.AttnOutRefIdeal.Gen.facts, Cert.MixerOut.Gen.facts, Cert.MixerOutIdeal.Gen.facts, Cert.MixerOutRefIdeal.Gen.facts, Cert.MemKv.Gen.facts, Cert.MemKvIdeal.Gen.facts, Cert.MemKvRefIdeal.Gen.facts, Cert.Attn.Gen.facts, Cert.AttnIdeal.Gen.facts, Cert.AttnRefIdeal.Gen.facts, Cert.Pre_finite_ln.Gen.facts, Cert.Pre_finite_ffn.Gen.facts,
  frame_kernel, frame_kernelIdeal, frame_referenceIdeal,
  fun m ρ _ => Cert.GateGrad.Gen.frame m ρ, fun m ρ _ => Cert.GateGradIdeal.Gen.frame m ρ, quiescent_GateGradRef,
  fun m ρ _ => Cert.DownGrad.Gen.frame m ρ, fun m ρ _ => Cert.DownGradIdeal.Gen.frame m ρ, quiescent_DownGradRef,
  fun m ρ _ => Cert.Ffn.Gen.frame m ρ, fun m ρ _ => Cert.FfnIdeal.Gen.frame m ρ, quiescent_FfnRef,
  fun m ρ _ => Cert.ProjW.Gen.frame m ρ, fun m ρ _ => Cert.ProjWIdeal.Gen.frame m ρ, quiescent_ProjWRef,
  fun m ρ _ => Cert.ProjX.Gen.frame m ρ, fun m ρ _ => Cert.ProjXIdeal.Gen.frame m ρ, quiescent_ProjXRef,
  fun m ρ _ => Cert.LnGrad.Gen.frame m ρ, fun m ρ _ => Cert.LnGradIdeal.Gen.frame m ρ, fun m ρ _ => Cert.LnGradIdeal.Gen.frame m ρ, quiescent_LnGradRef, quiescent_LnGradRef_pre,
  Cert.FfnXIdeal.Run.frame_bits, fun m ρ _ => Cert.FfnXIdeal.Run.frame m ρ, fun m ρ _ => Cert.FfnXIdeal.Run.frame m ρ, quiescent_FfnXRef, quiescent_FfnXRef_pre,
  fun m ρ _ => Cert.QueryW.Gen.frame m ρ, fun m ρ _ => Cert.QueryWIdeal.Gen.frame m ρ, quiescent_QueryWRef,
  fun m ρ _ => Cert.OutW.Gen.frame m ρ, fun m ρ _ => Cert.OutWIdeal.Gen.frame m ρ, quiescent_OutWRef,
  fun m ρ _ => Cert.GatesW.Gen.frame m ρ, fun m ρ _ => Cert.GatesWIdeal.Gen.frame m ρ, quiescent_GatesWRef,
  fun m ρ _ => Cert.MemW.Gen.frame m ρ, fun m ρ _ => Cert.MemWIdeal.Gen.frame m ρ, quiescent_MemWRef,
  fun m ρ _ => Cert.QueryX.Gen.frame m ρ, fun m ρ _ => Cert.QueryXIdeal.Gen.frame m ρ, quiescent_QueryXRef,
  fun m ρ _ => Cert.GatesX.Gen.frame m ρ, fun m ρ _ => Cert.GatesXIdeal.Gen.frame m ρ, quiescent_GatesXRef,
  fun m ρ _ => Cert.Query.Gen.frame m ρ, fun m ρ _ => Cert.QueryIdeal.Gen.frame m ρ, quiescent_QueryRef,
  fun m ρ _ => Cert.Gates.Gen.frame m ρ, fun m ρ _ => Cert.GatesIdeal.Gen.frame m ρ, quiescent_GatesRef,
  fun m ρ _ => Cert.AttnOut.Gen.frame m ρ, fun m ρ _ => Cert.AttnOutIdeal.Gen.frame m ρ, quiescent_AttnOutRef,
  fun m ρ _ => Cert.MixerOut.Gen.frame m ρ, fun m ρ _ => Cert.MixerOutIdeal.Gen.frame m ρ, quiescent_MixerOutRef,
  fun m ρ _ => Cert.MemKv.Gen.frame m ρ, fun m ρ _ => Cert.MemKvIdeal.Gen.frame m ρ, quiescent_MemKvRef,
  fun m ρ _ => Cert.Attn.Gen.frame m ρ, fun m ρ _ => Cert.AttnIdeal.Gen.frame m ρ, quiescent_AttnRef,
  trivial, algebraic,
  trivial, algebraic_GateGrad,
  trivial, algebraic_DownGrad,
  trivial, algebraic_Ffn,
  trivial, algebraic_ProjW,
  trivial, algebraic_ProjX,
  trivial, algebraic_LnGrad,
  trivial, algebraic_FfnX,
  trivial, algebraic_QueryW,
  trivial, algebraic_OutW,
  trivial, algebraic_GatesW,
  trivial, algebraic_MemW,
  trivial, algebraic_QueryX,
  trivial, algebraic_GatesX,
  trivial, algebraic_Query,
  trivial, algebraic_Gates,
  trivial, algebraic_AttnOut,
  trivial, algebraic_MixerOut,
  trivial, algebraic_MemKv,
  trivial, algebraic_Attn⟩

end Cert.Proof

end
